-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpKernelIdeal_finite_up [hPre_finite_up : Cert.Pre_finite_up.Facts] (m : (ℓ : Loc Cert.UpKernelIdeal.nD Cert.UpKernelIdeal.τ Cert.UpKernelIdeal.sig) → Buf (Elt Ideal) ℓ) : Prop :=
  ∀ c : Dev Cert.UpKernelIdeal.nD,
    (Cert.Pre_finite_up.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_finite_up [hPre_finite_up : Cert.Pre_finite_up.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_finite_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2))) = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownKernelIdeal_finite_down [hPre_finite_down : Cert.Pre_finite_down.Facts] (m : (ℓ : Loc Cert.DownKernelIdeal.nD Cert.DownKernelIdeal.τ Cert.DownKernelIdeal.sig) → Buf (Elt Ideal) ℓ) : Prop :=
  ∀ c : Dev Cert.DownKernelIdeal.nD,
    (Cert.Pre_finite_down.fn (F := Ideal) (m ((c.tc : Thread Cert.DownKernelIdeal.nD Cert.DownKernelIdeal.τ).loc Cert.DownKernelIdeal.main_arg0)) (m ((c.tc : Thread Cert.DownKernelIdeal.nD Cert.DownKernelIdeal.τ).loc Cert.DownKernelIdeal.main_arg1)) (m ((c.tc : Thread Cert.DownKernelIdeal.nD Cert.DownKernelIdeal.τ).loc Cert.DownKernelIdeal.main_arg2)) (m ((c.tc : Thread Cert.DownKernelIdeal.nD Cert.DownKernelIdeal.τ).loc Cert.DownKernelIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_finite_down [hPre_finite_down : Cert.Pre_finite_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_finite_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_WeightKernel (m : (ℓ : Loc Cert.WeightKernel.nD Cert.WeightKernel.τ Cert.WeightKernel.sig) → Buf (Elt Bits) ℓ) : Prop :=
  True

def Pre_WeightKernelIdeal (m : (ℓ : Loc Cert.WeightKernelIdeal.nD Cert.WeightKernelIdeal.τ Cert.WeightKernelIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GateWeightKernel (m : (ℓ : Loc Cert.GateWeightKernel.nD Cert.GateWeightKernel.τ Cert.GateWeightKernel.sig) → Buf (Elt Bits) ℓ) : Prop :=
  True

def Pre_GateWeightKernelIdeal (m : (ℓ : Loc Cert.GateWeightKernelIdeal.nD Cert.GateWeightKernelIdeal.τ Cert.GateWeightKernelIdeal.sig) → Buf (Elt Ideal) ℓ) : Prop :=
  True

def Pre_GateWeightReferenceIdeal (m : (ℓ : Loc Cert.GateWeightReferenceIdeal.nD Cert.GateWeightReferenceIdeal.τ Cert.GateWeightReferenceIdeal.sig) → Buf (Elt Ideal) ℓ) : Prop :=
  True

def Pre_UpWeightKernel (m : (ℓ : Loc Cert.UpWeightKernel.nD Cert.UpWeightKernel.τ Cert.UpWeightKernel.sig) → Buf (Elt Bits) ℓ) : Prop :=
  True

def Pre_UpWeightKernelIdeal (m : (ℓ : Loc Cert.UpWeightKernelIdeal.nD Cert.UpWeightKernelIdeal.τ Cert.UpWeightKernelIdeal.sig) → Buf (Elt Ideal) ℓ) : Prop :=
  True

def Pre_UpWeightReferenceIdeal (m : (ℓ : Loc Cert.UpWeightReferenceIdeal.nD Cert.UpWeightReferenceIdeal.τ Cert.UpWeightReferenceIdeal.sig) → Buf (Elt Ideal) ℓ) : Prop :=
  True

def Pre_InWeightKernel (m : (ℓ : Loc Cert.InWeightKernel.nD Cert.InWeightKernel.τ Cert.InWeightKernel.sig) → Buf (Elt Bits) ℓ) : Prop :=
  True

def Pre_InWeightKernelIdeal (m : (ℓ : Loc Cert.InWeightKernelIdeal.nD Cert.InWeightKernelIdeal.τ Cert.InWeightKernelIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_OutWeightKernel (m : (ℓ : Loc Cert.OutWeightKernel.nD Cert.OutWeightKernel.τ Cert.OutWeightKernel.sig) → Buf (Elt Bits) ℓ) : Prop :=
  True

def Pre_OutWeightKernelIdeal (m : (ℓ : Loc Cert.OutWeightKernelIdeal.nD Cert.OutWeightKernelIdeal.τ Cert.OutWeightKernelIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_LatentKernel (m : (ℓ : Loc Cert.LatentKernel.nD Cert.LatentKernel.τ Cert.LatentKernel.sig) → Buf (Elt Bits) ℓ) : Prop :=
  True

def Pre_LatentKernelIdeal (m : (ℓ : Loc Cert.LatentKernelIdeal.nD Cert.LatentKernelIdeal.τ Cert.LatentKernelIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_LatentWeightKernel (m : (ℓ : Loc Cert.LatentWeightKernel.nD Cert.LatentWeightKernel.τ Cert.LatentWeightKernel.sig) → Buf (Elt Bits) ℓ) : Prop :=
  True

def Pre_LatentWeightKernelIdeal (m : (ℓ : Loc Cert.LatentWeightKernelIdeal.nD Cert.LatentWeightKernelIdeal.τ Cert.LatentWeightKernelIdeal.sig) → Buf (Elt Ideal) ℓ) : Prop :=
  True

def Pre_LatentWeightReferenceIdeal (m : (ℓ : Loc Cert.LatentWeightReferenceIdeal.nD Cert.LatentWeightReferenceIdeal.τ Cert.LatentWeightReferenceIdeal.sig) → Buf (Elt Ideal) ℓ) : Prop :=
  True

def Pre_NopeWeightKernel (m : (ℓ : Loc Cert.NopeWeightKernel.nD Cert.NopeWeightKernel.τ Cert.NopeWeightKernel.sig) → Buf (Elt Bits) ℓ) : Prop :=
  True

def Pre_NopeWeightKernelIdeal (m : (ℓ : Loc Cert.NopeWeightKernelIdeal.nD Cert.NopeWeightKernelIdeal.τ Cert.NopeWeightKernelIdeal.sig) → Buf (Elt Ideal) ℓ) : Prop :=
  True

def Pre_NopeWeightReferenceIdeal (m : (ℓ : Loc Cert.NopeWeightReferenceIdeal.nD Cert.NopeWeightReferenceIdeal.τ Cert.NopeWeightReferenceIdeal.sig) → Buf (Elt Ideal) ℓ) : Prop :=
  True

def Pre_RopeWeightKernel (m : (ℓ : Loc Cert.RopeWeightKernel.nD Cert.RopeWeightKernel.τ Cert.RopeWeightKernel.sig) → Buf (Elt Bits) ℓ) : Prop :=
  True

def Pre_RopeWeightKernelIdeal (m : (ℓ : Loc Cert.RopeWeightKernelIdeal.nD Cert.RopeWeightKernelIdeal.τ Cert.RopeWeightKernelIdeal.sig) → Buf (Elt Ideal) ℓ) : Prop :=
  True

def Pre_RopeWeightReferenceIdeal (m : (ℓ : Loc Cert.RopeWeightReferenceIdeal.nD Cert.RopeWeightReferenceIdeal.τ Cert.RopeWeightReferenceIdeal.sig) → Buf (Elt Ideal) ℓ) : Prop :=
  True

def Pre_KvWeightKernel (m : (ℓ : Loc Cert.KvWeightKernel.nD Cert.KvWeightKernel.τ Cert.KvWeightKernel.sig) → Buf (Elt Bits) ℓ) : Prop :=
  True

def Pre_KvWeightKernelIdeal (m : (ℓ : Loc Cert.KvWeightKernelIdeal.nD Cert.KvWeightKernelIdeal.τ Cert.KvWeightKernelIdeal.sig) → Buf (Elt Ideal) ℓ) : Prop :=
  True

def Pre_KvWeightReferenceIdeal (m : (ℓ : Loc Cert.KvWeightReferenceIdeal.nD Cert.KvWeightReferenceIdeal.τ Cert.KvWeightReferenceIdeal.sig) → Buf (Elt Ideal) ℓ) : Prop :=
  True

def Pre_OutNormKernel (m : (ℓ : Loc Cert.OutNormKernel.nD Cert.OutNormKernel.τ Cert.OutNormKernel.sig) → Buf (Elt Bits) ℓ) : Prop :=
  True

def Pre_OutNormKernelIdeal (m : (ℓ : Loc Cert.OutNormKernelIdeal.nD Cert.OutNormKernelIdeal.τ Cert.OutNormKernelIdeal.sig) → Buf (Elt Ideal) ℓ) : Prop :=
  True

def Pre_OutNormReferenceIdeal (m : (ℓ : Loc Cert.OutNormReferenceIdeal.nD Cert.OutNormReferenceIdeal.τ Cert.OutNormReferenceIdeal.sig) → Buf (Elt Ideal) ℓ) : Prop :=
  True

def Pre_OutBackKernel (m : (ℓ : Loc Cert.OutBackKernel.nD Cert.OutBackKernel.τ Cert.OutBackKernel.sig) → Buf (Elt Bits) ℓ) : Prop :=
  True

def Pre_OutBackKernelIdeal (m : (ℓ : Loc Cert.OutBackKernelIdeal.nD Cert.OutBackKernelIdeal.τ Cert.OutBackKernelIdeal.sig) → Buf (Elt Ideal) ℓ) : Prop :=
  True

def Pre_OutBackKernelIdeal_finite_out [hPre_finite_out : Cert.Pre_finite_out.Facts] (m : (ℓ : Loc Cert.OutBackKernelIdeal.nD Cert.OutBackKernelIdeal.τ Cert.OutBackKernelIdeal.sig) → Buf (Elt Ideal) ℓ) : Prop :=
  ∀ c : Dev Cert.OutBackKernelIdeal.nD,
    (Cert.Pre_finite_out.fn (F := Ideal) (m ((c.tc : Thread Cert.OutBackKernelIdeal.nD Cert.OutBackKernelIdeal.τ).loc Cert.OutBackKernelIdeal.main_arg0)) (m ((c.tc : Thread Cert.OutBackKernelIdeal.nD Cert.OutBackKernelIdeal.τ).loc Cert.OutBackKernelIdeal.main_arg1)) (m ((c.tc : Thread Cert.OutBackKernelIdeal.nD Cert.OutBackKernelIdeal.τ).loc Cert.OutBackKernelIdeal.main_arg2)) (m ((c.tc : Thread Cert.OutBackKernelIdeal.nD Cert.OutBackKernelIdeal.τ).loc Cert.OutBackKernelIdeal.main_arg3)) (m ((c.tc : Thread Cert.OutBackKernelIdeal.nD Cert.OutBackKernelIdeal.τ).loc Cert.OutBackKernelIdeal.main_arg4)) (m ((c.tc : Thread Cert.OutBackKernelIdeal.nD Cert.OutBackKernelIdeal.τ).loc Cert.OutBackKernelIdeal.main_arg5))) = (fun _ => 1#1)

def Pre_OutBackReferenceIdeal (m : (ℓ : Loc Cert.OutBackReferenceIdeal.nD Cert.OutBackReferenceIdeal.τ Cert.OutBackReferenceIdeal.sig) → Buf (Elt Ideal) ℓ) : Prop :=
  True

def Pre_OutBackReferenceIdeal_finite_out [hPre_finite_out : Cert.Pre_finite_out.Facts] (m : (ℓ : Loc Cert.OutBackReferenceIdeal.nD Cert.OutBackReferenceIdeal.τ Cert.OutBackReferenceIdeal.sig) → Buf (Elt Ideal) ℓ) : Prop :=
  ∀ c : Dev Cert.OutBackReferenceIdeal.nD,
    (Cert.Pre_finite_out.fn (F := Ideal) (m ((c.tc : Thread Cert.OutBackReferenceIdeal.nD Cert.OutBackReferenceIdeal.τ).loc Cert.OutBackReferenceIdeal.main_arg0)) (m ((c.tc : Thread Cert.OutBackReferenceIdeal.nD Cert.OutBackReferenceIdeal.τ).loc Cert.OutBackReferenceIdeal.main_arg1)) (m ((c.tc : Thread Cert.OutBackReferenceIdeal.nD Cert.OutBackReferenceIdeal.τ).loc Cert.OutBackReferenceIdeal.main_arg2)) (m ((c.tc : Thread Cert.OutBackReferenceIdeal.nD Cert.OutBackReferenceIdeal.τ).loc Cert.OutBackReferenceIdeal.main_arg3)) (m ((c.tc : Thread Cert.OutBackReferenceIdeal.nD Cert.OutBackReferenceIdeal.τ).loc Cert.OutBackReferenceIdeal.main_arg4)) (m ((c.tc : Thread Cert.OutBackReferenceIdeal.nD Cert.OutBackReferenceIdeal.τ).loc Cert.OutBackReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpKernelIdeal_pre_finite_up [hUpKernelIdeal : Cert.UpKernelIdeal.Facts] [hPre_finite_up : Cert.Pre_finite_up.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal_finite_up m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_UpReferenceIdeal_pre_finite_up [hUpReferenceIdeal : Cert.UpReferenceIdeal.Facts] [hPre_finite_up : Cert.Pre_finite_up.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_finite_up m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownKernelIdeal_pre_finite_down [hDownKernelIdeal : Cert.DownKernelIdeal.Facts] [hPre_finite_down : Cert.Pre_finite_down.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal_finite_down m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_finite_down [hDownReferenceIdeal : Cert.DownReferenceIdeal.Facts] [hPre_finite_down : Cert.Pre_finite_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_finite_down m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_WeightKernel [hWeightKernel : Cert.WeightKernel.Facts] : Prop :=
  ∀ (m : (ℓ : Loc Cert.WeightKernel.nD Cert.WeightKernel.τ Cert.WeightKernel.sig) → Buf (Elt Bits) ℓ) (g : Dev Cert.WeightKernel.nD → PrngReg), Pre_WeightKernel m →
    θ_run (Cert.WeightKernel.defs (F := Bits)) (onTc (τ := Cert.WeightKernel.τ) (Cert.WeightKernel.main (F := Bits))) ⟨m, fun _ => 0, g⟩ (fun r => (∀ c : Dev Cert.WeightKernel.nD,
      r.2.mem ((c.tc : Thread Cert.WeightKernel.nD Cert.WeightKernel.τ).loc Cert.WeightKernel.main_arg0) = m ((c.tc : Thread Cert.WeightKernel.nD Cert.WeightKernel.τ).loc Cert.WeightKernel.main_arg0)
      ∧ r.2.mem ((c.tc : Thread Cert.WeightKernel.nD Cert.WeightKernel.τ).loc Cert.WeightKernel.main_arg1) = m ((c.tc : Thread Cert.WeightKernel.nD Cert.WeightKernel.τ).loc Cert.WeightKernel.main_arg1))
      ∧ r.2.sem = fun _ => 0)

def quiescent_WeightKernelIdeal [hWeightKernelIdeal : Cert.WeightKernelIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg), Pre_WeightKernelIdeal m →
    θ_run (Cert.WeightKernelIdeal.defs (F := Ideal)) (onTc (τ := Cert.WeightKernelIdeal.τ) (Cert.WeightKernelIdeal.main (F := Ideal))) ⟨m, fun _ => 0, g⟩ (fun r => (∀ c : Dev Cert.WeightKernelIdeal.nD,
      r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
      ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5)
      ∧ r.2.mem ((c.tc : Thread Cert.NormKernel.nD Cert.NormKernel.τ).loc Cert.NormKernel.main_arg6) = m ((c.tc : Thread Cert.NormKernel.nD Cert.NormKernel.τ).loc Cert.NormKernel.main_arg6))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_GateWeightKernel [hGateWeightKernel : Cert.GateWeightKernel.Facts] : Prop :=
  ∀ (m : (ℓ : Loc Cert.GateWeightKernel.nD Cert.GateWeightKernel.τ Cert.GateWeightKernel.sig) → Buf (Elt Bits) ℓ) (g : Dev Cert.GateWeightKernel.nD → PrngReg), Pre_GateWeightKernel m →
    θ_run (Cert.GateWeightKernel.defs (F := Bits)) (onTc (τ := Cert.GateWeightKernel.τ) (Cert.GateWeightKernel.main (F := Bits))) ⟨m, fun _ => 0, g⟩ (fun r => (∀ c : Dev Cert.GateWeightKernel.nD,
      r.2.mem ((c.tc : Thread Cert.GateWeightKernel.nD Cert.GateWeightKernel.τ).loc Cert.GateWeightKernel.main_arg0) = m ((c.tc : Thread Cert.GateWeightKernel.nD Cert.GateWeightKernel.τ).loc Cert.GateWeightKernel.main_arg0)
      ∧ r.2.mem ((c.tc : Thread Cert.GateWeightKernel.nD Cert.GateWeightKernel.τ).loc Cert.GateWeightKernel.main_arg1) = m ((c.tc : Thread Cert.GateWeightKernel.nD Cert.GateWeightKernel.τ).loc Cert.GateWeightKernel.main_arg1))
      ∧ r.2.sem = fun _ => 0)

def quiescent_GateWeightKernelIdeal [hGateWeightKernelIdeal : Cert.GateWeightKernelIdeal.Facts] : Prop :=
  ∀ (m : (ℓ : Loc Cert.GateWeightKernelIdeal.nD Cert.GateWeightKernelIdeal.τ Cert.GateWeightKernelIdeal.sig) → Buf (Elt Ideal) ℓ) (g : Dev Cert.GateWeightKernelIdeal.nD → PrngReg), Pre_GateWeightKernelIdeal m →
    θ_run (Cert.GateWeightKernelIdeal.defs (F := Ideal)) (onTc (τ := Cert.GateWeightKernelIdeal.τ) (Cert.GateWeightKernelIdeal.main (F := Ideal))) ⟨m, fun _ => 0, g⟩ (fun r => (∀ c : Dev Cert.GateWeightKernelIdeal.nD,
      r.2.mem ((c.tc : Thread Cert.GateWeightKernelIdeal.nD Cert.GateWeightKernelIdeal.τ).loc Cert.GateWeightKernelIdeal.main_arg0) = m ((c.tc : Thread Cert.GateWeightKernelIdeal.nD Cert.GateWeightKernelIdeal.τ).loc Cert.GateWeightKernelIdeal.main_arg0)
      ∧ r.2.mem ((c.tc : Thread Cert.GateWeightKernelIdeal.nD Cert.GateWeightKernelIdeal.τ).loc Cert.GateWeightKernelIdeal.main_arg1) = m ((c.tc : Thread Cert.GateWeightKernelIdeal.nD Cert.GateWeightKernelIdeal.τ).loc Cert.GateWeightKernelIdeal.main_arg1))
      ∧ r.2.sem = fun _ => 0)

def quiescent_GateWeightReferenceIdeal [hGateWeightReferenceIdeal : Cert.GateWeightReferenceIdeal.Facts] : Prop :=
  ∀ (m : (ℓ : Loc Cert.GateWeightReferenceIdeal.nD Cert.GateWeightReferenceIdeal.τ Cert.GateWeightReferenceIdeal.sig) → Buf (Elt Ideal) ℓ) (g : Dev Cert.GateWeightReferenceIdeal.nD → PrngReg), Pre_GateWeightReferenceIdeal m →
    θ_run (Cert.GateWeightReferenceIdeal.defs (F := Ideal)) (onTc (τ := Cert.GateWeightReferenceIdeal.τ) (Cert.GateWeightReferenceIdeal.main (F := Ideal))) ⟨m, fun _ => 0, g⟩ (fun r => (∀ c : Dev Cert.GateWeightReferenceIdeal.nD,
      r.2.mem ((c.tc : Thread Cert.GateWeightReferenceIdeal.nD Cert.GateWeightReferenceIdeal.τ).loc Cert.GateWeightReferenceIdeal.main_arg0) = m ((c.tc : Thread Cert.GateWeightReferenceIdeal.nD Cert.GateWeightReferenceIdeal.τ).loc Cert.GateWeightReferenceIdeal.main_arg0)
      ∧ r.2.mem ((c.tc : Thread Cert.GateWeightReferenceIdeal.nD Cert.GateWeightReferenceIdeal.τ).loc Cert.GateWeightReferenceIdeal.main_arg1) = m ((c.tc : Thread Cert.GateWeightReferenceIdeal.nD Cert.GateWeightReferenceIdeal.τ).loc Cert.GateWeightReferenceIdeal.main_arg1))
      ∧ r.2.sem = fun _ => 0)

def quiescent_UpWeightKernel [hUpWeightKernel : Cert.UpWeightKernel.Facts] : Prop :=
  ∀ (m : (ℓ : Loc Cert.UpWeightKernel.nD Cert.UpWeightKernel.τ Cert.UpWeightKernel.sig) → Buf (Elt Bits) ℓ) (g : Dev Cert.UpWeightKernel.nD → PrngReg), Pre_UpWeightKernel m →
    θ_run (Cert.UpWeightKernel.defs (F := Bits)) (onTc (τ := Cert.UpWeightKernel.τ) (Cert.UpWeightKernel.main (F := Bits))) ⟨m, fun _ => 0, g⟩ (fun r => (∀ c : Dev Cert.UpWeightKernel.nD,
      r.2.mem ((c.tc : Thread Cert.UpWeightKernel.nD Cert.UpWeightKernel.τ).loc Cert.UpWeightKernel.main_arg0) = m ((c.tc : Thread Cert.UpWeightKernel.nD Cert.UpWeightKernel.τ).loc Cert.UpWeightKernel.main_arg0)
      ∧ r.2.mem ((c.tc : Thread Cert.UpWeightKernel.nD Cert.UpWeightKernel.τ).loc Cert.UpWeightKernel.main_arg1) = m ((c.tc : Thread Cert.UpWeightKernel.nD Cert.UpWeightKernel.τ).loc Cert.UpWeightKernel.main_arg1))
      ∧ r.2.sem = fun _ => 0)

def quiescent_UpWeightKernelIdeal [hUpWeightKernelIdeal : Cert.UpWeightKernelIdeal.Facts] : Prop :=
  ∀ (m : (ℓ : Loc Cert.UpWeightKernelIdeal.nD Cert.UpWeightKernelIdeal.τ Cert.UpWeightKernelIdeal.sig) → Buf (Elt Ideal) ℓ) (g : Dev Cert.UpWeightKernelIdeal.nD → PrngReg), Pre_UpWeightKernelIdeal m →
    θ_run (Cert.UpWeightKernelIdeal.defs (F := Ideal)) (onTc (τ := Cert.UpWeightKernelIdeal.τ) (Cert.UpWeightKernelIdeal.main (F := Ideal))) ⟨m, fun _ => 0, g⟩ (fun r => (∀ c : Dev Cert.UpWeightKernelIdeal.nD,
      r.2.mem ((c.tc : Thread Cert.UpWeightKernelIdeal.nD Cert.UpWeightKernelIdeal.τ).loc Cert.UpWeightKernelIdeal.main_arg0) = m ((c.tc : Thread Cert.UpWeightKernelIdeal.nD Cert.UpWeightKernelIdeal.τ).loc Cert.UpWeightKernelIdeal.main_arg0)
      ∧ r.2.mem ((c.tc : Thread Cert.UpWeightKernelIdeal.nD Cert.UpWeightKernelIdeal.τ).loc Cert.UpWeightKernelIdeal.main_arg1) = m ((c.tc : Thread Cert.UpWeightKernelIdeal.nD Cert.UpWeightKernelIdeal.τ).loc Cert.UpWeightKernelIdeal.main_arg1))
      ∧ r.2.sem = fun _ => 0)

def quiescent_UpWeightReferenceIdeal [hUpWeightReferenceIdeal : Cert.UpWeightReferenceIdeal.Facts] : Prop :=
  ∀ (m : (ℓ : Loc Cert.UpWeightReferenceIdeal.nD Cert.UpWeightReferenceIdeal.τ Cert.UpWeightReferenceIdeal.sig) → Buf (Elt Ideal) ℓ) (g : Dev Cert.UpWeightReferenceIdeal.nD → PrngReg), Pre_UpWeightReferenceIdeal m →
    θ_run (Cert.UpWeightReferenceIdeal.defs (F := Ideal)) (onTc (τ := Cert.UpWeightReferenceIdeal.τ) (Cert.UpWeightReferenceIdeal.main (F := Ideal))) ⟨m, fun _ => 0, g⟩ (fun r => (∀ c : Dev Cert.UpWeightReferenceIdeal.nD,
      r.2.mem ((c.tc : Thread Cert.UpWeightReferenceIdeal.nD Cert.UpWeightReferenceIdeal.τ).loc Cert.UpWeightReferenceIdeal.main_arg0) = m ((c.tc : Thread Cert.UpWeightReferenceIdeal.nD Cert.UpWeightReferenceIdeal.τ).loc Cert.UpWeightReferenceIdeal.main_arg0)
      ∧ r.2.mem ((c.tc : Thread Cert.UpWeightReferenceIdeal.nD Cert.UpWeightReferenceIdeal.τ).loc Cert.UpWeightReferenceIdeal.main_arg1) = m ((c.tc : Thread Cert.UpWeightReferenceIdeal.nD Cert.UpWeightReferenceIdeal.τ).loc Cert.UpWeightReferenceIdeal.main_arg1))
      ∧ r.2.sem = fun _ => 0)

def quiescent_InWeightKernel [hInWeightKernel : Cert.InWeightKernel.Facts] : Prop :=
  ∀ (m : (ℓ : Loc Cert.InWeightKernel.nD Cert.InWeightKernel.τ Cert.InWeightKernel.sig) → Buf (Elt Bits) ℓ) (g : Dev Cert.InWeightKernel.nD → PrngReg), Pre_InWeightKernel m →
    θ_run (Cert.InWeightKernel.defs (F := Bits)) (onTc (τ := Cert.InWeightKernel.τ) (Cert.InWeightKernel.main (F := Bits))) ⟨m, fun _ => 0, g⟩ (fun r => (∀ c : Dev Cert.InWeightKernel.nD,
      r.2.mem ((c.tc : Thread Cert.InWeightKernel.nD Cert.InWeightKernel.τ).loc Cert.InWeightKernel.main_arg0) = m ((c.tc : Thread Cert.InWeightKernel.nD Cert.InWeightKernel.τ).loc Cert.InWeightKernel.main_arg0)
      ∧ r.2.mem ((c.tc : Thread Cert.InWeightKernel.nD Cert.InWeightKernel.τ).loc Cert.InWeightKernel.main_arg1) = m ((c.tc : Thread Cert.InWeightKernel.nD Cert.InWeightKernel.τ).loc Cert.InWeightKernel.main_arg1))
      ∧ r.2.sem = fun _ => 0)

def quiescent_InWeightKernelIdeal [hInWeightKernelIdeal : Cert.InWeightKernelIdeal.Facts] : Prop :=
  ∀ (m : (ℓ : Loc Cert.InWeightKernelIdeal.nD Cert.InWeightKernelIdeal.τ Cert.InWeightKernelIdeal.sig) → Buf (Elt Ideal) ℓ) (g : Dev Cert.InWeightKernelIdeal.nD → PrngReg), Pre_InWeightKernelIdeal m →
    θ_run (Cert.InWeightKernelIdeal.defs (F := Ideal)) (onTc (τ := Cert.InWeightKernelIdeal.τ) (Cert.InWeightKernelIdeal.main (F := Ideal))) ⟨m, fun _ => 0, g⟩ (fun r => (∀ c : Dev Cert.InWeightKernelIdeal.nD,
      r.2.mem ((c.tc : Thread Cert.InWeightKernelIdeal.nD Cert.InWeightKernelIdeal.τ).loc Cert.InWeightKernelIdeal.main_arg0) = m ((c.tc : Thread Cert.InWeightKernelIdeal.nD Cert.InWeightKernelIdeal.τ).loc Cert.InWeightKernelIdeal.main_arg0)
      ∧ r.2.mem ((c.tc : Thread Cert.InWeightKernelIdeal.nD Cert.InWeightKernelIdeal.τ).loc Cert.InWeightKernelIdeal.main_arg1) = m ((c.tc : Thread Cert.InWeightKernelIdeal.nD Cert.InWeightKernelIdeal.τ).loc Cert.InWeightKernelIdeal.main_arg1))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1))
      ∧ r.2.sem = fun _ => 0)

def quiescent_OutWeightKernel [hOutWeightKernel : Cert.OutWeightKernel.Facts] : Prop :=
  ∀ (m : (ℓ : Loc Cert.OutWeightKernel.nD Cert.OutWeightKernel.τ Cert.OutWeightKernel.sig) → Buf (Elt Bits) ℓ) (g : Dev Cert.OutWeightKernel.nD → PrngReg), Pre_OutWeightKernel m →
    θ_run (Cert.OutWeightKernel.defs (F := Bits)) (onTc (τ := Cert.OutWeightKernel.τ) (Cert.OutWeightKernel.main (F := Bits))) ⟨m, fun _ => 0, g⟩ (fun r => (∀ c : Dev Cert.OutWeightKernel.nD,
      r.2.mem ((c.tc : Thread Cert.OutWeightKernel.nD Cert.OutWeightKernel.τ).loc Cert.OutWeightKernel.main_arg0) = m ((c.tc : Thread Cert.OutWeightKernel.nD Cert.OutWeightKernel.τ).loc Cert.OutWeightKernel.main_arg0)
      ∧ r.2.mem ((c.tc : Thread Cert.OutWeightKernel.nD Cert.OutWeightKernel.τ).loc Cert.OutWeightKernel.main_arg1) = m ((c.tc : Thread Cert.OutWeightKernel.nD Cert.OutWeightKernel.τ).loc Cert.OutWeightKernel.main_arg1))
      ∧ r.2.sem = fun _ => 0)

def quiescent_OutWeightKernelIdeal [hOutWeightKernelIdeal : Cert.OutWeightKernelIdeal.Facts] : Prop :=
  ∀ (m : (ℓ : Loc Cert.OutWeightKernelIdeal.nD Cert.OutWeightKernelIdeal.τ Cert.OutWeightKernelIdeal.sig) → Buf (Elt Ideal) ℓ) (g : Dev Cert.OutWeightKernelIdeal.nD → PrngReg), Pre_OutWeightKernelIdeal m →
    θ_run (Cert.OutWeightKernelIdeal.defs (F := Ideal)) (onTc (τ := Cert.OutWeightKernelIdeal.τ) (Cert.OutWeightKernelIdeal.main (F := Ideal))) ⟨m, fun _ => 0, g⟩ (fun r => (∀ c : Dev Cert.OutWeightKernelIdeal.nD,
      r.2.mem ((c.tc : Thread Cert.OutWeightKernelIdeal.nD Cert.OutWeightKernelIdeal.τ).loc Cert.OutWeightKernelIdeal.main_arg0) = m ((c.tc : Thread Cert.OutWeightKernelIdeal.nD Cert.OutWeightKernelIdeal.τ).loc Cert.OutWeightKernelIdeal.main_arg0)
      ∧ r.2.mem ((c.tc : Thread Cert.OutWeightKernelIdeal.nD Cert.OutWeightKernelIdeal.τ).loc Cert.OutWeightKernelIdeal.main_arg1) = m ((c.tc : Thread Cert.OutWeightKernelIdeal.nD Cert.OutWeightKernelIdeal.τ).loc Cert.OutWeightKernelIdeal.main_arg1))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LatentKernel [hLatentKernel : Cert.LatentKernel.Facts] : Prop :=
  ∀ (m : (ℓ : Loc Cert.LatentKernel.nD Cert.LatentKernel.τ Cert.LatentKernel.sig) → Buf (Elt Bits) ℓ) (g : Dev Cert.LatentKernel.nD → PrngReg), Pre_LatentKernel m →
    θ_run (Cert.LatentKernel.defs (F := Bits)) (onTc (τ := Cert.LatentKernel.τ) (Cert.LatentKernel.main (F := Bits))) ⟨m, fun _ => 0, g⟩ (fun r => (∀ c : Dev Cert.LatentKernel.nD,
      r.2.mem ((c.tc : Thread Cert.LatentKernel.nD Cert.LatentKernel.τ).loc Cert.LatentKernel.main_arg0) = m ((c.tc : Thread Cert.LatentKernel.nD Cert.LatentKernel.τ).loc Cert.LatentKernel.main_arg0)
      ∧ r.2.mem ((c.tc : Thread Cert.LatentKernel.nD Cert.LatentKernel.τ).loc Cert.LatentKernel.main_arg1) = m ((c.tc : Thread Cert.LatentKernel.nD Cert.LatentKernel.τ).loc Cert.LatentKernel.main_arg1))
      ∧ r.2.sem = fun _ => 0)

def quiescent_LatentKernelIdeal [hLatentKernelIdeal : Cert.LatentKernelIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg), Pre_LatentKernelIdeal m →
    θ_run (Cert.LatentKernelIdeal.defs (F := Ideal)) (onTc (τ := Cert.LatentKernelIdeal.τ) (Cert.LatentKernelIdeal.main (F := Ideal))) ⟨m, fun _ => 0, g⟩ (fun r => (∀ c : Dev Cert.LatentKernelIdeal.nD,
      r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
      ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1))
      ∧ r.2.sem = fun _ => 0)

def quiescent_LatentWeightKernel [hLatentWeightKernel : Cert.LatentWeightKernel.Facts] : Prop :=
  ∀ (m : (ℓ : Loc Cert.LatentWeightKernel.nD Cert.LatentWeightKernel.τ Cert.LatentWeightKernel.sig) → Buf (Elt Bits) ℓ) (g : Dev Cert.LatentWeightKernel.nD → PrngReg), Pre_LatentWeightKernel m →
    θ_run (Cert.LatentWeightKernel.defs (F := Bits)) (onTc (τ := Cert.LatentWeightKernel.τ) (Cert.LatentWeightKernel.main (F := Bits))) ⟨m, fun _ => 0, g⟩ (fun r => (∀ c : Dev Cert.LatentWeightKernel.nD,
      r.2.mem ((c.tc : Thread Cert.LatentWeightKernel.nD Cert.LatentWeightKernel.τ).loc Cert.LatentWeightKernel.main_arg0) = m ((c.tc : Thread Cert.LatentWeightKernel.nD Cert.LatentWeightKernel.τ).loc Cert.LatentWeightKernel.main_arg0)
      ∧ r.2.mem ((c.tc : Thread Cert.LatentWeightKernel.nD Cert.LatentWeightKernel.τ).loc Cert.LatentWeightKernel.main_arg1) = m ((c.tc : Thread Cert.LatentWeightKernel.nD Cert.LatentWeightKernel.τ).loc Cert.LatentWeightKernel.main_arg1))
      ∧ r.2.sem = fun _ => 0)

def quiescent_LatentWeightKernelIdeal [hLatentWeightKernelIdeal : Cert.LatentWeightKernelIdeal.Facts] : Prop :=
  ∀ (m : (ℓ : Loc Cert.LatentWeightKernelIdeal.nD Cert.LatentWeightKernelIdeal.τ Cert.LatentWeightKernelIdeal.sig) → Buf (Elt Ideal) ℓ) (g : Dev Cert.LatentWeightKernelIdeal.nD → PrngReg), Pre_LatentWeightKernelIdeal m →
    θ_run (Cert.LatentWeightKernelIdeal.defs (F := Ideal)) (onTc (τ := Cert.LatentWeightKernelIdeal.τ) (Cert.LatentWeightKernelIdeal.main (F := Ideal))) ⟨m, fun _ => 0, g⟩ (fun r => (∀ c : Dev Cert.LatentWeightKernelIdeal.nD,
      r.2.mem ((c.tc : Thread Cert.LatentWeightKernelIdeal.nD Cert.LatentWeightKernelIdeal.τ).loc Cert.LatentWeightKernelIdeal.main_arg0) = m ((c.tc : Thread Cert.LatentWeightKernelIdeal.nD Cert.LatentWeightKernelIdeal.τ).loc Cert.LatentWeightKernelIdeal.main_arg0)
      ∧ r.2.mem ((c.tc : Thread Cert.LatentWeightKernelIdeal.nD Cert.LatentWeightKernelIdeal.τ).loc Cert.LatentWeightKernelIdeal.main_arg1) = m ((c.tc : Thread Cert.LatentWeightKernelIdeal.nD Cert.LatentWeightKernelIdeal.τ).loc Cert.LatentWeightKernelIdeal.main_arg1))
      ∧ r.2.sem = fun _ => 0)

def quiescent_LatentWeightReferenceIdeal [hLatentWeightReferenceIdeal : Cert.LatentWeightReferenceIdeal.Facts] : Prop :=
  ∀ (m : (ℓ : Loc Cert.LatentWeightReferenceIdeal.nD Cert.LatentWeightReferenceIdeal.τ Cert.LatentWeightReferenceIdeal.sig) → Buf (Elt Ideal) ℓ) (g : Dev Cert.LatentWeightReferenceIdeal.nD → PrngReg), Pre_LatentWeightReferenceIdeal m →
    θ_run (Cert.LatentWeightReferenceIdeal.defs (F := Ideal)) (onTc (τ := Cert.LatentWeightReferenceIdeal.τ) (Cert.LatentWeightReferenceIdeal.main (F := Ideal))) ⟨m, fun _ => 0, g⟩ (fun r => (∀ c : Dev Cert.LatentWeightReferenceIdeal.nD,
      r.2.mem ((c.tc : Thread Cert.LatentWeightReferenceIdeal.nD Cert.LatentWeightReferenceIdeal.τ).loc Cert.LatentWeightReferenceIdeal.main_arg0) = m ((c.tc : Thread Cert.LatentWeightReferenceIdeal.nD Cert.LatentWeightReferenceIdeal.τ).loc Cert.LatentWeightReferenceIdeal.main_arg0)
      ∧ r.2.mem ((c.tc : Thread Cert.LatentWeightReferenceIdeal.nD Cert.LatentWeightReferenceIdeal.τ).loc Cert.LatentWeightReferenceIdeal.main_arg1) = m ((c.tc : Thread Cert.LatentWeightReferenceIdeal.nD Cert.LatentWeightReferenceIdeal.τ).loc Cert.LatentWeightReferenceIdeal.main_arg1))
      ∧ r.2.sem = fun _ => 0)

def quiescent_NopeWeightKernel [hNopeWeightKernel : Cert.NopeWeightKernel.Facts] : Prop :=
  ∀ (m : (ℓ : Loc Cert.NopeWeightKernel.nD Cert.NopeWeightKernel.τ Cert.NopeWeightKernel.sig) → Buf (Elt Bits) ℓ) (g : Dev Cert.NopeWeightKernel.nD → PrngReg), Pre_NopeWeightKernel m →
    θ_run (Cert.NopeWeightKernel.defs (F := Bits)) (onTc (τ := Cert.NopeWeightKernel.τ) (Cert.NopeWeightKernel.main (F := Bits))) ⟨m, fun _ => 0, g⟩ (fun r => (∀ c : Dev Cert.NopeWeightKernel.nD,
      r.2.mem ((c.tc : Thread Cert.NopeWeightKernel.nD Cert.NopeWeightKernel.τ).loc Cert.NopeWeightKernel.main_arg0) = m ((c.tc : Thread Cert.NopeWeightKernel.nD Cert.NopeWeightKernel.τ).loc Cert.NopeWeightKernel.main_arg0)
      ∧ r.2.mem ((c.tc : Thread Cert.NopeWeightKernel.nD Cert.NopeWeightKernel.τ).loc Cert.NopeWeightKernel.main_arg1) = m ((c.tc : Thread Cert.NopeWeightKernel.nD Cert.NopeWeightKernel.τ).loc Cert.NopeWeightKernel.main_arg1))
      ∧ r.2.sem = fun _ => 0)

def quiescent_NopeWeightKernelIdeal [hNopeWeightKernelIdeal : Cert.NopeWeightKernelIdeal.Facts] : Prop :=
  ∀ (m : (ℓ : Loc Cert.NopeWeightKernelIdeal.nD Cert.NopeWeightKernelIdeal.τ Cert.NopeWeightKernelIdeal.sig) → Buf (Elt Ideal) ℓ) (g : Dev Cert.NopeWeightKernelIdeal.nD → PrngReg), Pre_NopeWeightKernelIdeal m →
    θ_run (Cert.NopeWeightKernelIdeal.defs (F := Ideal)) (onTc (τ := Cert.NopeWeightKernelIdeal.τ) (Cert.NopeWeightKernelIdeal.main (F := Ideal))) ⟨m, fun _ => 0, g⟩ (fun r => (∀ c : Dev Cert.NopeWeightKernelIdeal.nD,
      r.2.mem ((c.tc : Thread Cert.NopeWeightKernelIdeal.nD Cert.NopeWeightKernelIdeal.τ).loc Cert.NopeWeightKernelIdeal.main_arg0) = m ((c.tc : Thread Cert.NopeWeightKernelIdeal.nD Cert.NopeWeightKernelIdeal.τ).loc Cert.NopeWeightKernelIdeal.main_arg0)
      ∧ r.2.mem ((c.tc : Thread Cert.NopeWeightKernelIdeal.nD Cert.NopeWeightKernelIdeal.τ).loc Cert.NopeWeightKernelIdeal.main_arg1) = m ((c.tc : Thread Cert.NopeWeightKernelIdeal.nD Cert.NopeWeightKernelIdeal.τ).loc Cert.NopeWeightKernelIdeal.main_arg1))
      ∧ r.2.sem = fun _ => 0)

def quiescent_NopeWeightReferenceIdeal [hNopeWeightReferenceIdeal : Cert.NopeWeightReferenceIdeal.Facts] : Prop :=
  ∀ (m : (ℓ : Loc Cert.NopeWeightReferenceIdeal.nD Cert.NopeWeightReferenceIdeal.τ Cert.NopeWeightReferenceIdeal.sig) → Buf (Elt Ideal) ℓ) (g : Dev Cert.NopeWeightReferenceIdeal.nD → PrngReg), Pre_NopeWeightReferenceIdeal m →
    θ_run (Cert.NopeWeightReferenceIdeal.defs (F := Ideal)) (onTc (τ := Cert.NopeWeightReferenceIdeal.τ) (Cert.NopeWeightReferenceIdeal.main (F := Ideal))) ⟨m, fun _ => 0, g⟩ (fun r => (∀ c : Dev Cert.NopeWeightReferenceIdeal.nD,
      r.2.mem ((c.tc : Thread Cert.NopeWeightReferenceIdeal.nD Cert.NopeWeightReferenceIdeal.τ).loc Cert.NopeWeightReferenceIdeal.main_arg0) = m ((c.tc : Thread Cert.NopeWeightReferenceIdeal.nD Cert.NopeWeightReferenceIdeal.τ).loc Cert.NopeWeightReferenceIdeal.main_arg0)
      ∧ r.2.mem ((c.tc : Thread Cert.NopeWeightReferenceIdeal.nD Cert.NopeWeightReferenceIdeal.τ).loc Cert.NopeWeightReferenceIdeal.main_arg1) = m ((c.tc : Thread Cert.NopeWeightReferenceIdeal.nD Cert.NopeWeightReferenceIdeal.τ).loc Cert.NopeWeightReferenceIdeal.main_arg1))
      ∧ r.2.sem = fun _ => 0)

def quiescent_RopeWeightKernel [hRopeWeightKernel : Cert.RopeWeightKernel.Facts] : Prop :=
  ∀ (m : (ℓ : Loc Cert.RopeWeightKernel.nD Cert.RopeWeightKernel.τ Cert.RopeWeightKernel.sig) → Buf (Elt Bits) ℓ) (g : Dev Cert.RopeWeightKernel.nD → PrngReg), Pre_RopeWeightKernel m →
    θ_run (Cert.RopeWeightKernel.defs (F := Bits)) (onTc (τ := Cert.RopeWeightKernel.τ) (Cert.RopeWeightKernel.main (F := Bits))) ⟨m, fun _ => 0, g⟩ (fun r => (∀ c : Dev Cert.RopeWeightKernel.nD,
      r.2.mem ((c.tc : Thread Cert.RopeWeightKernel.nD Cert.RopeWeightKernel.τ).loc Cert.RopeWeightKernel.main_arg0) = m ((c.tc : Thread Cert.RopeWeightKernel.nD Cert.RopeWeightKernel.τ).loc Cert.RopeWeightKernel.main_arg0)
      ∧ r.2.mem ((c.tc : Thread Cert.RopeWeightKernel.nD Cert.RopeWeightKernel.τ).loc Cert.RopeWeightKernel.main_arg1) = m ((c.tc : Thread Cert.RopeWeightKernel.nD Cert.RopeWeightKernel.τ).loc Cert.RopeWeightKernel.main_arg1))
      ∧ r.2.sem = fun _ => 0)

def quiescent_RopeWeightKernelIdeal [hRopeWeightKernelIdeal : Cert.RopeWeightKernelIdeal.Facts] : Prop :=
  ∀ (m : (ℓ : Loc Cert.RopeWeightKernelIdeal.nD Cert.RopeWeightKernelIdeal.τ Cert.RopeWeightKernelIdeal.sig) → Buf (Elt Ideal) ℓ) (g : Dev Cert.RopeWeightKernelIdeal.nD → PrngReg), Pre_RopeWeightKernelIdeal m →
    θ_run (Cert.RopeWeightKernelIdeal.defs (F := Ideal)) (onTc (τ := Cert.RopeWeightKernelIdeal.τ) (Cert.RopeWeightKernelIdeal.main (F := Ideal))) ⟨m, fun _ => 0, g⟩ (fun r => (∀ c : Dev Cert.RopeWeightKernelIdeal.nD,
      r.2.mem ((c.tc : Thread Cert.RopeWeightKernelIdeal.nD Cert.RopeWeightKernelIdeal.τ).loc Cert.RopeWeightKernelIdeal.main_arg0) = m ((c.tc : Thread Cert.RopeWeightKernelIdeal.nD Cert.RopeWeightKernelIdeal.τ).loc Cert.RopeWeightKernelIdeal.main_arg0)
      ∧ r.2.mem ((c.tc : Thread Cert.RopeWeightKernelIdeal.nD Cert.RopeWeightKernelIdeal.τ).loc Cert.RopeWeightKernelIdeal.main_arg1) = m ((c.tc : Thread Cert.RopeWeightKernelIdeal.nD Cert.RopeWeightKernelIdeal.τ).loc Cert.RopeWeightKernelIdeal.main_arg1))
      ∧ r.2.sem = fun _ => 0)

def quiescent_RopeWeightReferenceIdeal [hRopeWeightReferenceIdeal : Cert.RopeWeightReferenceIdeal.Facts] : Prop :=
  ∀ (m : (ℓ : Loc Cert.RopeWeightReferenceIdeal.nD Cert.RopeWeightReferenceIdeal.τ Cert.RopeWeightReferenceIdeal.sig) → Buf (Elt Ideal) ℓ) (g : Dev Cert.RopeWeightReferenceIdeal.nD → PrngReg), Pre_RopeWeightReferenceIdeal m →
    θ_run (Cert.RopeWeightReferenceIdeal.defs (F := Ideal)) (onTc (τ := Cert.RopeWeightReferenceIdeal.τ) (Cert.RopeWeightReferenceIdeal.main (F := Ideal))) ⟨m, fun _ => 0, g⟩ (fun r => (∀ c : Dev Cert.RopeWeightReferenceIdeal.nD,
      r.2.mem ((c.tc : Thread Cert.RopeWeightReferenceIdeal.nD Cert.RopeWeightReferenceIdeal.τ).loc Cert.RopeWeightReferenceIdeal.main_arg0) = m ((c.tc : Thread Cert.RopeWeightReferenceIdeal.nD Cert.RopeWeightReferenceIdeal.τ).loc Cert.RopeWeightReferenceIdeal.main_arg0)
      ∧ r.2.mem ((c.tc : Thread Cert.RopeWeightReferenceIdeal.nD Cert.RopeWeightReferenceIdeal.τ).loc Cert.RopeWeightReferenceIdeal.main_arg1) = m ((c.tc : Thread Cert.RopeWeightReferenceIdeal.nD Cert.RopeWeightReferenceIdeal.τ).loc Cert.RopeWeightReferenceIdeal.main_arg1))
      ∧ r.2.sem = fun _ => 0)

def quiescent_KvWeightKernel [hKvWeightKernel : Cert.KvWeightKernel.Facts] : Prop :=
  ∀ (m : (ℓ : Loc Cert.KvWeightKernel.nD Cert.KvWeightKernel.τ Cert.KvWeightKernel.sig) → Buf (Elt Bits) ℓ) (g : Dev Cert.KvWeightKernel.nD → PrngReg), Pre_KvWeightKernel m →
    θ_run (Cert.KvWeightKernel.defs (F := Bits)) (onTc (τ := Cert.KvWeightKernel.τ) (Cert.KvWeightKernel.main (F := Bits))) ⟨m, fun _ => 0, g⟩ (fun r => (∀ c : Dev Cert.KvWeightKernel.nD,
      r.2.mem ((c.tc : Thread Cert.KvWeightKernel.nD Cert.KvWeightKernel.τ).loc Cert.KvWeightKernel.main_arg0) = m ((c.tc : Thread Cert.KvWeightKernel.nD Cert.KvWeightKernel.τ).loc Cert.KvWeightKernel.main_arg0)
      ∧ r.2.mem ((c.tc : Thread Cert.KvWeightKernel.nD Cert.KvWeightKernel.τ).loc Cert.KvWeightKernel.main_arg1) = m ((c.tc : Thread Cert.KvWeightKernel.nD Cert.KvWeightKernel.τ).loc Cert.KvWeightKernel.main_arg1))
      ∧ r.2.sem = fun _ => 0)

def quiescent_KvWeightKernelIdeal [hKvWeightKernelIdeal : Cert.KvWeightKernelIdeal.Facts] : Prop :=
  ∀ (m : (ℓ : Loc Cert.KvWeightKernelIdeal.nD Cert.KvWeightKernelIdeal.τ Cert.KvWeightKernelIdeal.sig) → Buf (Elt Ideal) ℓ) (g : Dev Cert.KvWeightKernelIdeal.nD → PrngReg), Pre_KvWeightKernelIdeal m →
    θ_run (Cert.KvWeightKernelIdeal.defs (F := Ideal)) (onTc (τ := Cert.KvWeightKernelIdeal.τ) (Cert.KvWeightKernelIdeal.main (F := Ideal))) ⟨m, fun _ => 0, g⟩ (fun r => (∀ c : Dev Cert.KvWeightKernelIdeal.nD,
      r.2.mem ((c.tc : Thread Cert.KvWeightKernelIdeal.nD Cert.KvWeightKernelIdeal.τ).loc Cert.KvWeightKernelIdeal.main_arg0) = m ((c.tc : Thread Cert.KvWeightKernelIdeal.nD Cert.KvWeightKernelIdeal.τ).loc Cert.KvWeightKernelIdeal.main_arg0)
      ∧ r.2.mem ((c.tc : Thread Cert.KvWeightKernelIdeal.nD Cert.KvWeightKernelIdeal.τ).loc Cert.KvWeightKernelIdeal.main_arg1) = m ((c.tc : Thread Cert.KvWeightKernelIdeal.nD Cert.KvWeightKernelIdeal.τ).loc Cert.KvWeightKernelIdeal.main_arg1))
      ∧ r.2.sem = fun _ => 0)

def quiescent_KvWeightReferenceIdeal [hKvWeightReferenceIdeal : Cert.KvWeightReferenceIdeal.Facts] : Prop :=
  ∀ (m : (ℓ : Loc Cert.KvWeightReferenceIdeal.nD Cert.KvWeightReferenceIdeal.τ Cert.KvWeightReferenceIdeal.sig) → Buf (Elt Ideal) ℓ) (g : Dev Cert.KvWeightReferenceIdeal.nD → PrngReg), Pre_KvWeightReferenceIdeal m →
    θ_run (Cert.KvWeightReferenceIdeal.defs (F := Ideal)) (onTc (τ := Cert.KvWeightReferenceIdeal.τ) (Cert.KvWeightReferenceIdeal.main (F := Ideal))) ⟨m, fun _ => 0, g⟩ (fun r => (∀ c : Dev Cert.KvWeightReferenceIdeal.nD,
      r.2.mem ((c.tc : Thread Cert.KvWeightReferenceIdeal.nD Cert.KvWeightReferenceIdeal.τ).loc Cert.KvWeightReferenceIdeal.main_arg0) = m ((c.tc : Thread Cert.KvWeightReferenceIdeal.nD Cert.KvWeightReferenceIdeal.τ).loc Cert.KvWeightReferenceIdeal.main_arg0)
      ∧ r.2.mem ((c.tc : Thread Cert.KvWeightReferenceIdeal.nD Cert.KvWeightReferenceIdeal.τ).loc Cert.KvWeightReferenceIdeal.main_arg1) = m ((c.tc : Thread Cert.KvWeightReferenceIdeal.nD Cert.KvWeightReferenceIdeal.τ).loc Cert.KvWeightReferenceIdeal.main_arg1))
      ∧ r.2.sem = fun _ => 0)

def quiescent_OutNormKernel [hOutNormKernel : Cert.OutNormKernel.Facts] : Prop :=
  ∀ (m : (ℓ : Loc Cert.OutNormKernel.nD Cert.OutNormKernel.τ Cert.OutNormKernel.sig) → Buf (Elt Bits) ℓ) (g : Dev Cert.OutNormKernel.nD → PrngReg), Pre_OutNormKernel m →
    θ_run (Cert.OutNormKernel.defs (F := Bits)) (onTc (τ := Cert.OutNormKernel.τ) (Cert.OutNormKernel.main (F := Bits))) ⟨m, fun _ => 0, g⟩ (fun r => (∀ c : Dev Cert.OutNormKernel.nD,
      r.2.mem ((c.tc : Thread Cert.OutNormKernel.nD Cert.OutNormKernel.τ).loc Cert.OutNormKernel.main_arg0) = m ((c.tc : Thread Cert.OutNormKernel.nD Cert.OutNormKernel.τ).loc Cert.OutNormKernel.main_arg0)
      ∧ r.2.mem ((c.tc : Thread Cert.OutNormKernel.nD Cert.OutNormKernel.τ).loc Cert.OutNormKernel.main_arg1) = m ((c.tc : Thread Cert.OutNormKernel.nD Cert.OutNormKernel.τ).loc Cert.OutNormKernel.main_arg1)
      ∧ r.2.mem ((c.tc : Thread Cert.OutNormKernel.nD Cert.OutNormKernel.τ).loc Cert.OutNormKernel.main_arg2) = m ((c.tc : Thread Cert.OutNormKernel.nD Cert.OutNormKernel.τ).loc Cert.OutNormKernel.main_arg2)
      ∧ r.2.mem ((c.tc : Thread Cert.OutNormKernel.nD Cert.OutNormKernel.τ).loc Cert.OutNormKernel.main_arg3) = m ((c.tc : Thread Cert.OutNormKernel.nD Cert.OutNormKernel.τ).loc Cert.OutNormKernel.main_arg3)
      ∧ r.2.mem ((c.tc : Thread Cert.OutNormKernel.nD Cert.OutNormKernel.τ).loc Cert.OutNormKernel.main_arg4) = m ((c.tc : Thread Cert.OutNormKernel.nD Cert.OutNormKernel.τ).loc Cert.OutNormKernel.main_arg4)
      ∧ r.2.mem ((c.tc : Thread Cert.OutNormKernel.nD Cert.OutNormKernel.τ).loc Cert.OutNormKernel.main_arg5) = m ((c.tc : Thread Cert.OutNormKernel.nD Cert.OutNormKernel.τ).loc Cert.OutNormKernel.main_arg5)
      ∧ r.2.mem ((c.tc : Thread Cert.OutNormKernel.nD Cert.OutNormKernel.τ).loc Cert.OutNormKernel.main_arg6) = m ((c.tc : Thread Cert.OutNormKernel.nD Cert.OutNormKernel.τ).loc Cert.OutNormKernel.main_arg6))
      ∧ r.2.sem = fun _ => 0)

def quiescent_OutNormKernelIdeal [hOutNormKernelIdeal : Cert.OutNormKernelIdeal.Facts] : Prop :=
  ∀ (m : (ℓ : Loc Cert.OutNormKernelIdeal.nD Cert.OutNormKernelIdeal.τ Cert.OutNormKernelIdeal.sig) → Buf (Elt Ideal) ℓ) (g : Dev Cert.OutNormKernelIdeal.nD → PrngReg), Pre_OutNormKernelIdeal m →
    θ_run (Cert.OutNormKernelIdeal.defs (F := Ideal)) (onTc (τ := Cert.OutNormKernelIdeal.τ) (Cert.OutNormKernelIdeal.main (F := Ideal))) ⟨m, fun _ => 0, g⟩ (fun r => (∀ c : Dev Cert.OutNormKernelIdeal.nD,
      r.2.mem ((c.tc : Thread Cert.OutNormKernelIdeal.nD Cert.OutNormKernelIdeal.τ).loc Cert.OutNormKernelIdeal.main_arg0) = m ((c.tc : Thread Cert.OutNormKernelIdeal.nD Cert.OutNormKernelIdeal.τ).loc Cert.OutNormKernelIdeal.main_arg0)
      ∧ r.2.mem ((c.tc : Thread Cert.OutNormKernelIdeal.nD Cert.OutNormKernelIdeal.τ).loc Cert.OutNormKernelIdeal.main_arg1) = m ((c.tc : Thread Cert.OutNormKernelIdeal.nD Cert.OutNormKernelIdeal.τ).loc Cert.OutNormKernelIdeal.main_arg1)
      ∧ r.2.mem ((c.tc : Thread Cert.OutNormKernelIdeal.nD Cert.OutNormKernelIdeal.τ).loc Cert.OutNormKernelIdeal.main_arg2) = m ((c.tc : Thread Cert.OutNormKernelIdeal.nD Cert.OutNormKernelIdeal.τ).loc Cert.OutNormKernelIdeal.main_arg2)
      ∧ r.2.mem ((c.tc : Thread Cert.OutNormKernelIdeal.nD Cert.OutNormKernelIdeal.τ).loc Cert.OutNormKernelIdeal.main_arg3) = m ((c.tc : Thread Cert.OutNormKernelIdeal.nD Cert.OutNormKernelIdeal.τ).loc Cert.OutNormKernelIdeal.main_arg3)
      ∧ r.2.mem ((c.tc : Thread Cert.OutNormKernelIdeal.nD Cert.OutNormKernelIdeal.τ).loc Cert.OutNormKernelIdeal.main_arg4) = m ((c.tc : Thread Cert.OutNormKernelIdeal.nD Cert.OutNormKernelIdeal.τ).loc Cert.OutNormKernelIdeal.main_arg4)
      ∧ r.2.mem ((c.tc : Thread Cert.OutNormKernelIdeal.nD Cert.OutNormKernelIdeal.τ).loc Cert.OutNormKernelIdeal.main_arg5) = m ((c.tc : Thread Cert.OutNormKernelIdeal.nD Cert.OutNormKernelIdeal.τ).loc Cert.OutNormKernelIdeal.main_arg5)
      ∧ r.2.mem ((c.tc : Thread Cert.OutNormKernelIdeal.nD Cert.OutNormKernelIdeal.τ).loc Cert.OutNormKernelIdeal.main_arg6) = m ((c.tc : Thread Cert.OutNormKernelIdeal.nD Cert.OutNormKernelIdeal.τ).loc Cert.OutNormKernelIdeal.main_arg6))
      ∧ r.2.sem = fun _ => 0)

def quiescent_OutNormReferenceIdeal [hOutNormReferenceIdeal : Cert.OutNormReferenceIdeal.Facts] : Prop :=
  ∀ (m : (ℓ : Loc Cert.OutNormReferenceIdeal.nD Cert.OutNormReferenceIdeal.τ Cert.OutNormReferenceIdeal.sig) → Buf (Elt Ideal) ℓ) (g : Dev Cert.OutNormReferenceIdeal.nD → PrngReg), Pre_OutNormReferenceIdeal m →
    θ_run (Cert.OutNormReferenceIdeal.defs (F := Ideal)) (onTc (τ := Cert.OutNormReferenceIdeal.τ) (Cert.OutNormReferenceIdeal.main (F := Ideal))) ⟨m, fun _ => 0, g⟩ (fun r => (∀ c : Dev Cert.OutNormReferenceIdeal.nD,
      r.2.mem ((c.tc : Thread Cert.OutNormReferenceIdeal.nD Cert.OutNormReferenceIdeal.τ).loc Cert.OutNormReferenceIdeal.main_arg0) = m ((c.tc : Thread Cert.OutNormReferenceIdeal.nD Cert.OutNormReferenceIdeal.τ).loc Cert.OutNormReferenceIdeal.main_arg0)
      ∧ r.2.mem ((c.tc : Thread Cert.OutNormReferenceIdeal.nD Cert.OutNormReferenceIdeal.τ).loc Cert.OutNormReferenceIdeal.main_arg1) = m ((c.tc : Thread Cert.OutNormReferenceIdeal.nD Cert.OutNormReferenceIdeal.τ).loc Cert.OutNormReferenceIdeal.main_arg1)
      ∧ r.2.mem ((c.tc : Thread Cert.OutNormReferenceIdeal.nD Cert.OutNormReferenceIdeal.τ).loc Cert.OutNormReferenceIdeal.main_arg2) = m ((c.tc : Thread Cert.OutNormReferenceIdeal.nD Cert.OutNormReferenceIdeal.τ).loc Cert.OutNormReferenceIdeal.main_arg2)
      ∧ r.2.mem ((c.tc : Thread Cert.OutNormReferenceIdeal.nD Cert.OutNormReferenceIdeal.τ).loc Cert.OutNormReferenceIdeal.main_arg3) = m ((c.tc : Thread Cert.OutNormReferenceIdeal.nD Cert.OutNormReferenceIdeal.τ).loc Cert.OutNormReferenceIdeal.main_arg3)
      ∧ r.2.mem ((c.tc : Thread Cert.OutNormReferenceIdeal.nD Cert.OutNormReferenceIdeal.τ).loc Cert.OutNormReferenceIdeal.main_arg4) = m ((c.tc : Thread Cert.OutNormReferenceIdeal.nD Cert.OutNormReferenceIdeal.τ).loc Cert.OutNormReferenceIdeal.main_arg4)
      ∧ r.2.mem ((c.tc : Thread Cert.OutNormReferenceIdeal.nD Cert.OutNormReferenceIdeal.τ).loc Cert.OutNormReferenceIdeal.main_arg5) = m ((c.tc : Thread Cert.OutNormReferenceIdeal.nD Cert.OutNormReferenceIdeal.τ).loc Cert.OutNormReferenceIdeal.main_arg5)
      ∧ r.2.mem ((c.tc : Thread Cert.OutNormReferenceIdeal.nD Cert.OutNormReferenceIdeal.τ).loc Cert.OutNormReferenceIdeal.main_arg6) = m ((c.tc : Thread Cert.OutNormReferenceIdeal.nD Cert.OutNormReferenceIdeal.τ).loc Cert.OutNormReferenceIdeal.main_arg6))
      ∧ r.2.sem = fun _ => 0)

def quiescent_OutBackKernel [hOutBackKernel : Cert.OutBackKernel.Facts] : Prop :=
  ∀ (m : (ℓ : Loc Cert.OutBackKernel.nD Cert.OutBackKernel.τ Cert.OutBackKernel.sig) → Buf (Elt Bits) ℓ) (g : Dev Cert.OutBackKernel.nD → PrngReg), Pre_OutBackKernel m →
    θ_run (Cert.OutBackKernel.defs (F := Bits)) (onTc (τ := Cert.OutBackKernel.τ) (Cert.OutBackKernel.main (F := Bits))) ⟨m, fun _ => 0, g⟩ (fun r => (∀ c : Dev Cert.OutBackKernel.nD,
      r.2.mem ((c.tc : Thread Cert.OutBackKernel.nD Cert.OutBackKernel.τ).loc Cert.OutBackKernel.main_arg0) = m ((c.tc : Thread Cert.OutBackKernel.nD Cert.OutBackKernel.τ).loc Cert.OutBackKernel.main_arg0)
      ∧ r.2.mem ((c.tc : Thread Cert.OutBackKernel.nD Cert.OutBackKernel.τ).loc Cert.OutBackKernel.main_arg1) = m ((c.tc : Thread Cert.OutBackKernel.nD Cert.OutBackKernel.τ).loc Cert.OutBackKernel.main_arg1)
      ∧ r.2.mem ((c.tc : Thread Cert.OutBackKernel.nD Cert.OutBackKernel.τ).loc Cert.OutBackKernel.main_arg2) = m ((c.tc : Thread Cert.OutBackKernel.nD Cert.OutBackKernel.τ).loc Cert.OutBackKernel.main_arg2)
      ∧ r.2.mem ((c.tc : Thread Cert.OutBackKernel.nD Cert.OutBackKernel.τ).loc Cert.OutBackKernel.main_arg3) = m ((c.tc : Thread Cert.OutBackKernel.nD Cert.OutBackKernel.τ).loc Cert.OutBackKernel.main_arg3)
      ∧ r.2.mem ((c.tc : Thread Cert.OutBackKernel.nD Cert.OutBackKernel.τ).loc Cert.OutBackKernel.main_arg4) = m ((c.tc : Thread Cert.OutBackKernel.nD Cert.OutBackKernel.τ).loc Cert.OutBackKernel.main_arg4)
      ∧ r.2.mem ((c.tc : Thread Cert.OutBackKernel.nD Cert.OutBackKernel.τ).loc Cert.OutBackKernel.main_arg5) = m ((c.tc : Thread Cert.OutBackKernel.nD Cert.OutBackKernel.τ).loc Cert.OutBackKernel.main_arg5))
      ∧ r.2.sem = fun _ => 0)

def quiescent_OutBackKernelIdeal [hOutBackKernelIdeal : Cert.OutBackKernelIdeal.Facts] : Prop :=
  ∀ (m : (ℓ : Loc Cert.OutBackKernelIdeal.nD Cert.OutBackKernelIdeal.τ Cert.OutBackKernelIdeal.sig) → Buf (Elt Ideal) ℓ) (g : Dev Cert.OutBackKernelIdeal.nD → PrngReg), Pre_OutBackKernelIdeal m →
    θ_run (Cert.OutBackKernelIdeal.defs (F := Ideal)) (onTc (τ := Cert.OutBackKernelIdeal.τ) (Cert.OutBackKernelIdeal.main (F := Ideal))) ⟨m, fun _ => 0, g⟩ (fun r => (∀ c : Dev Cert.OutBackKernelIdeal.nD,
      r.2.mem ((c.tc : Thread Cert.OutBackKernelIdeal.nD Cert.OutBackKernelIdeal.τ).loc Cert.OutBackKernelIdeal.main_arg0) = m ((c.tc : Thread Cert.OutBackKernelIdeal.nD Cert.OutBackKernelIdeal.τ).loc Cert.OutBackKernelIdeal.main_arg0)
      ∧ r.2.mem ((c.tc : Thread Cert.OutBackKernelIdeal.nD Cert.OutBackKernelIdeal.τ).loc Cert.OutBackKernelIdeal.main_arg1) = m ((c.tc : Thread Cert.OutBackKernelIdeal.nD Cert.OutBackKernelIdeal.τ).loc Cert.OutBackKernelIdeal.main_arg1)
      ∧ r.2.mem ((c.tc : Thread Cert.OutBackKernelIdeal.nD Cert.OutBackKernelIdeal.τ).loc Cert.OutBackKernelIdeal.main_arg2) = m ((c.tc : Thread Cert.OutBackKernelIdeal.nD Cert.OutBackKernelIdeal.τ).loc Cert.OutBackKernelIdeal.main_arg2)
      ∧ r.2.mem ((c.tc : Thread Cert.OutBackKernelIdeal.nD Cert.OutBackKernelIdeal.τ).loc Cert.OutBackKernelIdeal.main_arg3) = m ((c.tc : Thread Cert.OutBackKernelIdeal.nD Cert.OutBackKernelIdeal.τ).loc Cert.OutBackKernelIdeal.main_arg3)
      ∧ r.2.mem ((c.tc : Thread Cert.OutBackKernelIdeal.nD Cert.OutBackKernelIdeal.τ).loc Cert.OutBackKernelIdeal.main_arg4) = m ((c.tc : Thread Cert.OutBackKernelIdeal.nD Cert.OutBackKernelIdeal.τ).loc Cert.OutBackKernelIdeal.main_arg4)
      ∧ r.2.mem ((c.tc : Thread Cert.OutBackKernelIdeal.nD Cert.OutBackKernelIdeal.τ).loc Cert.OutBackKernelIdeal.main_arg5) = m ((c.tc : Thread Cert.OutBackKernelIdeal.nD Cert.OutBackKernelIdeal.τ).loc Cert.OutBackKernelIdeal.main_arg5))
      ∧ r.2.sem = fun _ => 0)

def quiescent_OutBackKernelIdeal_pre_finite_out [hOutBackKernelIdeal : Cert.OutBackKernelIdeal.Facts] [hPre_finite_out : Cert.Pre_finite_out.Facts] : Prop :=
  ∀ (m : (ℓ : Loc Cert.OutBackKernelIdeal.nD Cert.OutBackKernelIdeal.τ Cert.OutBackKernelIdeal.sig) → Buf (Elt Ideal) ℓ) (g : Dev Cert.OutBackKernelIdeal.nD → PrngReg), Pre_OutBackKernelIdeal_finite_out m →
    θ_run (Cert.OutBackKernelIdeal.defs (F := Ideal)) (onTc (τ := Cert.OutBackKernelIdeal.τ) (Cert.OutBackKernelIdeal.main (F := Ideal))) ⟨m, fun _ => 0, g⟩ (fun r => (∀ c : Dev Cert.OutBackKernelIdeal.nD,
      r.2.mem ((c.tc : Thread Cert.OutBackKernelIdeal.nD Cert.OutBackKernelIdeal.τ).loc Cert.OutBackKernelIdeal.main_arg0) = m ((c.tc : Thread Cert.OutBackKernelIdeal.nD Cert.OutBackKernelIdeal.τ).loc Cert.OutBackKernelIdeal.main_arg0)
      ∧ r.2.mem ((c.tc : Thread Cert.OutBackKernelIdeal.nD Cert.OutBackKernelIdeal.τ).loc Cert.OutBackKernelIdeal.main_arg1) = m ((c.tc : Thread Cert.OutBackKernelIdeal.nD Cert.OutBackKernelIdeal.τ).loc Cert.OutBackKernelIdeal.main_arg1)
      ∧ r.2.mem ((c.tc : Thread Cert.OutBackKernelIdeal.nD Cert.OutBackKernelIdeal.τ).loc Cert.OutBackKernelIdeal.main_arg2) = m ((c.tc : Thread Cert.OutBackKernelIdeal.nD Cert.OutBackKernelIdeal.τ).loc Cert.OutBackKernelIdeal.main_arg2)
      ∧ r.2.mem ((c.tc : Thread Cert.OutBackKernelIdeal.nD Cert.OutBackKernelIdeal.τ).loc Cert.OutBackKernelIdeal.main_arg3) = m ((c.tc : Thread Cert.OutBackKernelIdeal.nD Cert.OutBackKernelIdeal.τ).loc Cert.OutBackKernelIdeal.main_arg3)
      ∧ r.2.mem ((c.tc : Thread Cert.OutBackKernelIdeal.nD Cert.OutBackKernelIdeal.τ).loc Cert.OutBackKernelIdeal.main_arg4) = m ((c.tc : Thread Cert.OutBackKernelIdeal.nD Cert.OutBackKernelIdeal.τ).loc Cert.OutBackKernelIdeal.main_arg4)
      ∧ r.2.mem ((c.tc : Thread Cert.OutBackKernelIdeal.nD Cert.OutBackKernelIdeal.τ).loc Cert.OutBackKernelIdeal.main_arg5) = m ((c.tc : Thread Cert.OutBackKernelIdeal.nD Cert.OutBackKernelIdeal.τ).loc Cert.OutBackKernelIdeal.main_arg5))
      ∧ r.2.sem = fun _ => 0)

def quiescent_OutBackReferenceIdeal [hOutBackReferenceIdeal : Cert.OutBackReferenceIdeal.Facts] : Prop :=
  ∀ (m : (ℓ : Loc Cert.OutBackReferenceIdeal.nD Cert.OutBackReferenceIdeal.τ Cert.OutBackReferenceIdeal.sig) → Buf (Elt Ideal) ℓ) (g : Dev Cert.OutBackReferenceIdeal.nD → PrngReg), Pre_OutBackReferenceIdeal m →
    θ_run (Cert.OutBackReferenceIdeal.defs (F := Ideal)) (onTc (τ := Cert.OutBackReferenceIdeal.τ) (Cert.OutBackReferenceIdeal.main (F := Ideal))) ⟨m, fun _ => 0, g⟩ (fun r => (∀ c : Dev Cert.OutBackReferenceIdeal.nD,
      r.2.mem ((c.tc : Thread Cert.OutBackReferenceIdeal.nD Cert.OutBackReferenceIdeal.τ).loc Cert.OutBackReferenceIdeal.main_arg0) = m ((c.tc : Thread Cert.OutBackReferenceIdeal.nD Cert.OutBackReferenceIdeal.τ).loc Cert.OutBackReferenceIdeal.main_arg0)
      ∧ r.2.mem ((c.tc : Thread Cert.OutBackReferenceIdeal.nD Cert.OutBackReferenceIdeal.τ).loc Cert.OutBackReferenceIdeal.main_arg1) = m ((c.tc : Thread Cert.OutBackReferenceIdeal.nD Cert.OutBackReferenceIdeal.τ).loc Cert.OutBackReferenceIdeal.main_arg1)
      ∧ r.2.mem ((c.tc : Thread Cert.OutBackReferenceIdeal.nD Cert.OutBackReferenceIdeal.τ).loc Cert.OutBackReferenceIdeal.main_arg2) = m ((c.tc : Thread Cert.OutBackReferenceIdeal.nD Cert.OutBackReferenceIdeal.τ).loc Cert.OutBackReferenceIdeal.main_arg2)
      ∧ r.2.mem ((c.tc : Thread Cert.OutBackReferenceIdeal.nD Cert.OutBackReferenceIdeal.τ).loc Cert.OutBackReferenceIdeal.main_arg3) = m ((c.tc : Thread Cert.OutBackReferenceIdeal.nD Cert.OutBackReferenceIdeal.τ).loc Cert.OutBackReferenceIdeal.main_arg3)
      ∧ r.2.mem ((c.tc : Thread Cert.OutBackReferenceIdeal.nD Cert.OutBackReferenceIdeal.τ).loc Cert.OutBackReferenceIdeal.main_arg4) = m ((c.tc : Thread Cert.OutBackReferenceIdeal.nD Cert.OutBackReferenceIdeal.τ).loc Cert.OutBackReferenceIdeal.main_arg4)
      ∧ r.2.mem ((c.tc : Thread Cert.OutBackReferenceIdeal.nD Cert.OutBackReferenceIdeal.τ).loc Cert.OutBackReferenceIdeal.main_arg5) = m ((c.tc : Thread Cert.OutBackReferenceIdeal.nD Cert.OutBackReferenceIdeal.τ).loc Cert.OutBackReferenceIdeal.main_arg5))
      ∧ r.2.sem = fun _ => 0)

def quiescent_OutBackReferenceIdeal_pre_finite_out [hOutBackReferenceIdeal : Cert.OutBackReferenceIdeal.Facts] [hPre_finite_out : Cert.Pre_finite_out.Facts] : Prop :=
  ∀ (m : (ℓ : Loc Cert.OutBackReferenceIdeal.nD Cert.OutBackReferenceIdeal.τ Cert.OutBackReferenceIdeal.sig) → Buf (Elt Ideal) ℓ) (g : Dev Cert.OutBackReferenceIdeal.nD → PrngReg), Pre_OutBackReferenceIdeal_finite_out m →
    θ_run (Cert.OutBackReferenceIdeal.defs (F := Ideal)) (onTc (τ := Cert.OutBackReferenceIdeal.τ) (Cert.OutBackReferenceIdeal.main (F := Ideal))) ⟨m, fun _ => 0, g⟩ (fun r => (∀ c : Dev Cert.OutBackReferenceIdeal.nD,
      r.2.mem ((c.tc : Thread Cert.OutBackReferenceIdeal.nD Cert.OutBackReferenceIdeal.τ).loc Cert.OutBackReferenceIdeal.main_arg0) = m ((c.tc : Thread Cert.OutBackReferenceIdeal.nD Cert.OutBackReferenceIdeal.τ).loc Cert.OutBackReferenceIdeal.main_arg0)
      ∧ r.2.mem ((c.tc : Thread Cert.OutBackReferenceIdeal.nD Cert.OutBackReferenceIdeal.τ).loc Cert.OutBackReferenceIdeal.main_arg1) = m ((c.tc : Thread Cert.OutBackReferenceIdeal.nD Cert.OutBackReferenceIdeal.τ).loc Cert.OutBackReferenceIdeal.main_arg1)
      ∧ r.2.mem ((c.tc : Thread Cert.OutBackReferenceIdeal.nD Cert.OutBackReferenceIdeal.τ).loc Cert.OutBackReferenceIdeal.main_arg2) = m ((c.tc : Thread Cert.OutBackReferenceIdeal.nD Cert.OutBackReferenceIdeal.τ).loc Cert.OutBackReferenceIdeal.main_arg2)
      ∧ r.2.mem ((c.tc : Thread Cert.OutBackReferenceIdeal.nD Cert.OutBackReferenceIdeal.τ).loc Cert.OutBackReferenceIdeal.main_arg3) = m ((c.tc : Thread Cert.OutBackReferenceIdeal.nD Cert.OutBackReferenceIdeal.τ).loc Cert.OutBackReferenceIdeal.main_arg3)
      ∧ r.2.mem ((c.tc : Thread Cert.OutBackReferenceIdeal.nD Cert.OutBackReferenceIdeal.τ).loc Cert.OutBackReferenceIdeal.main_arg4) = m ((c.tc : Thread Cert.OutBackReferenceIdeal.nD Cert.OutBackReferenceIdeal.τ).loc Cert.OutBackReferenceIdeal.main_arg4)
      ∧ r.2.mem ((c.tc : Thread Cert.OutBackReferenceIdeal.nD Cert.OutBackReferenceIdeal.τ).loc Cert.OutBackReferenceIdeal.main_arg5) = m ((c.tc : Thread Cert.OutBackReferenceIdeal.nD Cert.OutBackReferenceIdeal.τ).loc Cert.OutBackReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpKernel_UpKernelIdeal : Prop :=
  True

def algebraic_UpKernelIdeal_UpReferenceIdeal_pre_finite_up [hUpKernelIdeal : Cert.UpKernelIdeal.Facts] [hUpReferenceIdeal : Cert.UpReferenceIdeal.Facts] [hPre_finite_up : Cert.Pre_finite_up.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal_finite_up m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v0_0)) (v1 : (c : Dev Cert.UpKernelIdeal.nD) → Buf (Elt Ideal) ((c.tc : Thread Cert.UpKernelIdeal.nD Cert.UpKernelIdeal.τ).loc Cert.UpKernelIdeal.main_v0_1)) (v2 : (c : Dev Cert.UpKernelIdeal.nD) → Buf (Elt Ideal) ((c.tc : Thread Cert.UpKernelIdeal.nD Cert.UpKernelIdeal.τ).loc Cert.UpKernelIdeal.main_v0_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0_0) = v0 c
          ∧ r.2.mem ((c.tc : Thread Cert.UpKernelIdeal.nD Cert.UpKernelIdeal.τ).loc Cert.UpKernelIdeal.main_v0_1) = v1 c
          ∧ r.2.mem ((c.tc : Thread Cert.UpKernelIdeal.nD Cert.UpKernelIdeal.τ).loc Cert.UpKernelIdeal.main_v0_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v14) = v0 c
          ∧ r.2.mem ((c.tc : Thread Cert.UpReferenceIdeal.nD Cert.UpReferenceIdeal.τ).loc Cert.UpReferenceIdeal.main_v15) = v1 c
          ∧ r.2.mem ((c.tc : Thread Cert.UpReferenceIdeal.nD Cert.UpReferenceIdeal.τ).loc Cert.UpReferenceIdeal.main_v16) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_DownKernel_DownKernelIdeal : Prop :=
  True

def algebraic_DownKernelIdeal_DownReferenceIdeal_pre_finite_down [hDownKernelIdeal : Cert.DownKernelIdeal.Facts] [hDownReferenceIdeal : Cert.DownReferenceIdeal.Facts] [hPre_finite_down : Cert.Pre_finite_down.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal_finite_down m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v10_0)) (v1 : (c : Dev Cert.DownKernelIdeal.nD) → Buf (Elt Ideal) ((c.tc : Thread Cert.DownKernelIdeal.nD Cert.DownKernelIdeal.τ).loc Cert.DownKernelIdeal.main_v10_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v10_0) = v0 c
          ∧ r.2.mem ((c.tc : Thread Cert.DownKernelIdeal.nD Cert.DownKernelIdeal.τ).loc Cert.DownKernelIdeal.main_v10_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v11) = v0 c
          ∧ r.2.mem ((c.tc : Thread Cert.DownReferenceIdeal.nD Cert.DownReferenceIdeal.τ).loc Cert.DownReferenceIdeal.main_v12) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_WeightKernel_WeightKernelIdeal : Prop :=
  True

def algebraic_WeightKernelIdeal_WeightReferenceIdeal [hWeightKernelIdeal : Cert.WeightKernelIdeal.Facts] [hWeightReferenceIdeal : Cert.WeightReferenceIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightKernelIdeal m →
    (∀ c : Dev Cert.WeightKernelIdeal.nD,
      m' ((c.tc : Thread Cert.WeightReferenceIdeal.nD Cert.WeightReferenceIdeal.τ).loc Cert.WeightReferenceIdeal.main_arg0) = m ((c.tc : Thread Cert.WeightKernelIdeal.nD Cert.WeightKernelIdeal.τ).loc Cert.WeightKernelIdeal.main_arg0)
      ∧ m' ((c.tc : Thread Cert.WeightReferenceIdeal.nD Cert.WeightReferenceIdeal.τ).loc Cert.WeightReferenceIdeal.main_arg1) = m ((c.tc : Thread Cert.WeightKernelIdeal.nD Cert.WeightKernelIdeal.τ).loc Cert.WeightKernelIdeal.main_arg1)) →
    ∃ (v0 : (c : Dev Cert.WeightKernelIdeal.nD) → Buf (Elt Ideal) ((c.tc : Thread Cert.WeightKernelIdeal.nD Cert.WeightKernelIdeal.τ).loc Cert.WeightKernelIdeal.main_v0)),
      θ_run (Cert.WeightKernelIdeal.defs (F := Ideal)) (onTc (τ := Cert.WeightKernelIdeal.τ) (Cert.WeightKernelIdeal.main (F := Ideal))) ⟨m, fun _ => 0, g⟩ (fun r => ∀ c : Dev Cert.WeightKernelIdeal.nD,
          r.2.mem ((c.tc : Thread Cert.WeightKernelIdeal.nD Cert.WeightKernelIdeal.τ).loc Cert.WeightKernelIdeal.main_v0) = v0 c
          ∧ r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
          ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v6) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)
      ∧ m' ((c.tc : Thread Cert.NormReferenceIdeal.nD Cert.NormReferenceIdeal.τ).loc Cert.NormReferenceIdeal.main_arg6) = m ((c.tc : Thread Cert.NormKernelIdeal.nD Cert.NormKernelIdeal.τ).loc Cert.NormKernelIdeal.main_arg6)) →
    ∃ (v0 : (c : Dev Cert.NormKernelIdeal.nD) → Buf (Elt Ideal) ((c.tc : Thread Cert.NormKernelIdeal.nD Cert.NormKernelIdeal.τ).loc Cert.NormKernelIdeal.main_v0_0)) (v1 : (c : Dev Cert.NormKernelIdeal.nD) → Buf (Elt Ideal) ((c.tc : Thread Cert.NormKernelIdeal.nD Cert.NormKernelIdeal.τ).loc Cert.NormKernelIdeal.main_v0_1)) (v2 : (c : Dev Cert.NormKernelIdeal.nD) → Buf (Elt Ideal) ((c.tc : Thread Cert.NormKernelIdeal.nD Cert.NormKernelIdeal.τ).loc Cert.NormKernelIdeal.main_v0_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0_0) = v0 c
          ∧ r.2.mem ((c.tc : Thread Cert.NormKernelIdeal.nD Cert.NormKernelIdeal.τ).loc Cert.NormKernelIdeal.main_v0_1) = v1 c
          ∧ r.2.mem ((c.tc : Thread Cert.NormKernelIdeal.nD Cert.NormKernelIdeal.τ).loc Cert.NormKernelIdeal.main_v0_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
          ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v45) = v0 c
          ∧ r.2.mem ((c.tc : Thread Cert.NormReferenceIdeal.nD Cert.NormReferenceIdeal.τ).loc Cert.NormReferenceIdeal.main_v46) = v1 c
          ∧ r.2.mem ((c.tc : Thread Cert.NormReferenceIdeal.nD Cert.NormReferenceIdeal.τ).loc Cert.NormReferenceIdeal.main_v28) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6))

def preserves_GateWeightKernel_GateWeightKernelIdeal : Prop :=
  True

def algebraic_GateWeightKernelIdeal_GateWeightReferenceIdeal [hGateWeightKernelIdeal : Cert.GateWeightKernelIdeal.Facts] [hGateWeightReferenceIdeal : Cert.GateWeightReferenceIdeal.Facts] : Prop :=
  ∀ (m : (ℓ : Loc Cert.GateWeightKernelIdeal.nD Cert.GateWeightKernelIdeal.τ Cert.GateWeightKernelIdeal.sig) → Buf (Elt Ideal) ℓ) (g : Dev Cert.GateWeightKernelIdeal.nD → PrngReg)
    (m' : (ℓ : Loc Cert.GateWeightReferenceIdeal.nD Cert.GateWeightReferenceIdeal.τ Cert.GateWeightReferenceIdeal.sig) → Buf (Elt Ideal) ℓ) (g' : Dev Cert.GateWeightReferenceIdeal.nD → PrngReg), Pre_GateWeightKernelIdeal m →
    (∀ c : Dev Cert.GateWeightKernelIdeal.nD,
      m' ((c.tc : Thread Cert.GateWeightReferenceIdeal.nD Cert.GateWeightReferenceIdeal.τ).loc Cert.GateWeightReferenceIdeal.main_arg0) = m ((c.tc : Thread Cert.GateWeightKernelIdeal.nD Cert.GateWeightKernelIdeal.τ).loc Cert.GateWeightKernelIdeal.main_arg0)
      ∧ m' ((c.tc : Thread Cert.GateWeightReferenceIdeal.nD Cert.GateWeightReferenceIdeal.τ).loc Cert.GateWeightReferenceIdeal.main_arg1) = m ((c.tc : Thread Cert.GateWeightKernelIdeal.nD Cert.GateWeightKernelIdeal.τ).loc Cert.GateWeightKernelIdeal.main_arg1)) →
    ∃ (v0 : (c : Dev Cert.GateWeightKernelIdeal.nD) → Buf (Elt Ideal) ((c.tc : Thread Cert.GateWeightKernelIdeal.nD Cert.GateWeightKernelIdeal.τ).loc Cert.GateWeightKernelIdeal.main_v0)),
      θ_run (Cert.GateWeightKernelIdeal.defs (F := Ideal)) (onTc (τ := Cert.GateWeightKernelIdeal.τ) (Cert.GateWeightKernelIdeal.main (F := Ideal))) ⟨m, fun _ => 0, g⟩ (fun r => ∀ c : Dev Cert.GateWeightKernelIdeal.nD,
          r.2.mem ((c.tc : Thread Cert.GateWeightKernelIdeal.nD Cert.GateWeightKernelIdeal.τ).loc Cert.GateWeightKernelIdeal.main_v0) = v0 c
          ∧ r.2.mem ((c.tc : Thread Cert.GateWeightKernelIdeal.nD Cert.GateWeightKernelIdeal.τ).loc Cert.GateWeightKernelIdeal.main_arg0) = m ((c.tc : Thread Cert.GateWeightKernelIdeal.nD Cert.GateWeightKernelIdeal.τ).loc Cert.GateWeightKernelIdeal.main_arg0)
          ∧ r.2.mem ((c.tc : Thread Cert.GateWeightKernelIdeal.nD Cert.GateWeightKernelIdeal.τ).loc Cert.GateWeightKernelIdeal.main_arg1) = m ((c.tc : Thread Cert.GateWeightKernelIdeal.nD Cert.GateWeightKernelIdeal.τ).loc Cert.GateWeightKernelIdeal.main_arg1))
      ∧ θ_run (Cert.GateWeightReferenceIdeal.defs (F := Ideal)) (onTc (τ := Cert.GateWeightReferenceIdeal.τ) (Cert.GateWeightReferenceIdeal.main (F := Ideal))) ⟨m', fun _ => 0, g'⟩ (fun r => ∀ c : Dev Cert.GateWeightReferenceIdeal.nD,
          r.2.mem ((c.tc : Thread Cert.GateWeightReferenceIdeal.nD Cert.GateWeightReferenceIdeal.τ).loc Cert.GateWeightReferenceIdeal.main_v8) = v0 c
          ∧ r.2.mem ((c.tc : Thread Cert.GateWeightReferenceIdeal.nD Cert.GateWeightReferenceIdeal.τ).loc Cert.GateWeightReferenceIdeal.main_arg0) = m' ((c.tc : Thread Cert.GateWeightReferenceIdeal.nD Cert.GateWeightReferenceIdeal.τ).loc Cert.GateWeightReferenceIdeal.main_arg0)
          ∧ r.2.mem ((c.tc : Thread Cert.GateWeightReferenceIdeal.nD Cert.GateWeightReferenceIdeal.τ).loc Cert.GateWeightReferenceIdeal.main_arg1) = m' ((c.tc : Thread Cert.GateWeightReferenceIdeal.nD Cert.GateWeightReferenceIdeal.τ).loc Cert.GateWeightReferenceIdeal.main_arg1))

def preserves_UpWeightKernel_UpWeightKernelIdeal : Prop :=
  True

def algebraic_UpWeightKernelIdeal_UpWeightReferenceIdeal [hUpWeightKernelIdeal : Cert.UpWeightKernelIdeal.Facts] [hUpWeightReferenceIdeal : Cert.UpWeightReferenceIdeal.Facts] : Prop :=
  ∀ (m : (ℓ : Loc Cert.UpWeightKernelIdeal.nD Cert.UpWeightKernelIdeal.τ Cert.UpWeightKernelIdeal.sig) → Buf (Elt Ideal) ℓ) (g : Dev Cert.UpWeightKernelIdeal.nD → PrngReg)
    (m' : (ℓ : Loc Cert.UpWeightReferenceIdeal.nD Cert.UpWeightReferenceIdeal.τ Cert.UpWeightReferenceIdeal.sig) → Buf (Elt Ideal) ℓ) (g' : Dev Cert.UpWeightReferenceIdeal.nD → PrngReg), Pre_UpWeightKernelIdeal m →
    (∀ c : Dev Cert.UpWeightKernelIdeal.nD,
      m' ((c.tc : Thread Cert.UpWeightReferenceIdeal.nD Cert.UpWeightReferenceIdeal.τ).loc Cert.UpWeightReferenceIdeal.main_arg0) = m ((c.tc : Thread Cert.UpWeightKernelIdeal.nD Cert.UpWeightKernelIdeal.τ).loc Cert.UpWeightKernelIdeal.main_arg0)
      ∧ m' ((c.tc : Thread Cert.UpWeightReferenceIdeal.nD Cert.UpWeightReferenceIdeal.τ).loc Cert.UpWeightReferenceIdeal.main_arg1) = m ((c.tc : Thread Cert.UpWeightKernelIdeal.nD Cert.UpWeightKernelIdeal.τ).loc Cert.UpWeightKernelIdeal.main_arg1)) →
    ∃ (v0 : (c : Dev Cert.UpWeightKernelIdeal.nD) → Buf (Elt Ideal) ((c.tc : Thread Cert.UpWeightKernelIdeal.nD Cert.UpWeightKernelIdeal.τ).loc Cert.UpWeightKernelIdeal.main_v0)),
      θ_run (Cert.UpWeightKernelIdeal.defs (F := Ideal)) (onTc (τ := Cert.UpWeightKernelIdeal.τ) (Cert.UpWeightKernelIdeal.main (F := Ideal))) ⟨m, fun _ => 0, g⟩ (fun r => ∀ c : Dev Cert.UpWeightKernelIdeal.nD,
          r.2.mem ((c.tc : Thread Cert.UpWeightKernelIdeal.nD Cert.UpWeightKernelIdeal.τ).loc Cert.UpWeightKernelIdeal.main_v0) = v0 c
          ∧ r.2.mem ((c.tc : Thread Cert.UpWeightKernelIdeal.nD Cert.UpWeightKernelIdeal.τ).loc Cert.UpWeightKernelIdeal.main_arg0) = m ((c.tc : Thread Cert.UpWeightKernelIdeal.nD Cert.UpWeightKernelIdeal.τ).loc Cert.UpWeightKernelIdeal.main_arg0)
          ∧ r.2.mem ((c.tc : Thread Cert.UpWeightKernelIdeal.nD Cert.UpWeightKernelIdeal.τ).loc Cert.UpWeightKernelIdeal.main_arg1) = m ((c.tc : Thread Cert.UpWeightKernelIdeal.nD Cert.UpWeightKernelIdeal.τ).loc Cert.UpWeightKernelIdeal.main_arg1))
      ∧ θ_run (Cert.UpWeightReferenceIdeal.defs (F := Ideal)) (onTc (τ := Cert.UpWeightReferenceIdeal.τ) (Cert.UpWeightReferenceIdeal.main (F := Ideal))) ⟨m', fun _ => 0, g'⟩ (fun r => ∀ c : Dev Cert.UpWeightReferenceIdeal.nD,
          r.2.mem ((c.tc : Thread Cert.UpWeightReferenceIdeal.nD Cert.UpWeightReferenceIdeal.τ).loc Cert.UpWeightReferenceIdeal.main_v8) = v0 c
          ∧ r.2.mem ((c.tc : Thread Cert.UpWeightReferenceIdeal.nD Cert.UpWeightReferenceIdeal.τ).loc Cert.UpWeightReferenceIdeal.main_arg0) = m' ((c.tc : Thread Cert.UpWeightReferenceIdeal.nD Cert.UpWeightReferenceIdeal.τ).loc Cert.UpWeightReferenceIdeal.main_arg0)
          ∧ r.2.mem ((c.tc : Thread Cert.UpWeightReferenceIdeal.nD Cert.UpWeightReferenceIdeal.τ).loc Cert.UpWeightReferenceIdeal.main_arg1) = m' ((c.tc : Thread Cert.UpWeightReferenceIdeal.nD Cert.UpWeightReferenceIdeal.τ).loc Cert.UpWeightReferenceIdeal.main_arg1))

def preserves_InWeightKernel_InWeightKernelIdeal : Prop :=
  True

def algebraic_InWeightKernelIdeal_InWeightReferenceIdeal [hInWeightKernelIdeal : Cert.InWeightKernelIdeal.Facts] [hInWeightReferenceIdeal : Cert.InWeightReferenceIdeal.Facts] : Prop :=
  ∀ (m : (ℓ : Loc Cert.InWeightKernelIdeal.nD Cert.InWeightKernelIdeal.τ Cert.InWeightKernelIdeal.sig) → Buf (Elt Ideal) ℓ) (g : Dev Cert.InWeightKernelIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightKernelIdeal m →
    (∀ c : Dev Cert.InWeightKernelIdeal.nD,
      m' ((c.tc : Thread Cert.InWeightReferenceIdeal.nD Cert.InWeightReferenceIdeal.τ).loc Cert.InWeightReferenceIdeal.main_arg0) = m ((c.tc : Thread Cert.InWeightKernelIdeal.nD Cert.InWeightKernelIdeal.τ).loc Cert.InWeightKernelIdeal.main_arg0)
      ∧ m' ((c.tc : Thread Cert.InWeightReferenceIdeal.nD Cert.InWeightReferenceIdeal.τ).loc Cert.InWeightReferenceIdeal.main_arg1) = m ((c.tc : Thread Cert.InWeightKernelIdeal.nD Cert.InWeightKernelIdeal.τ).loc Cert.InWeightKernelIdeal.main_arg1)) →
    ∃ (v0 : (c : Dev Cert.InWeightKernelIdeal.nD) → Buf (Elt Ideal) ((c.tc : Thread Cert.InWeightKernelIdeal.nD Cert.InWeightKernelIdeal.τ).loc Cert.InWeightKernelIdeal.main_v0)),
      θ_run (Cert.InWeightKernelIdeal.defs (F := Ideal)) (onTc (τ := Cert.InWeightKernelIdeal.τ) (Cert.InWeightKernelIdeal.main (F := Ideal))) ⟨m, fun _ => 0, g⟩ (fun r => ∀ c : Dev Cert.InWeightKernelIdeal.nD,
          r.2.mem ((c.tc : Thread Cert.InWeightKernelIdeal.nD Cert.InWeightKernelIdeal.τ).loc Cert.InWeightKernelIdeal.main_v0) = v0 c
          ∧ r.2.mem ((c.tc : Thread Cert.InWeightKernelIdeal.nD Cert.InWeightKernelIdeal.τ).loc Cert.InWeightKernelIdeal.main_arg0) = m ((c.tc : Thread Cert.InWeightKernelIdeal.nD Cert.InWeightKernelIdeal.τ).loc Cert.InWeightKernelIdeal.main_arg0)
          ∧ r.2.mem ((c.tc : Thread Cert.InWeightKernelIdeal.nD Cert.InWeightKernelIdeal.τ).loc Cert.InWeightKernelIdeal.main_arg1) = m ((c.tc : Thread Cert.InWeightKernelIdeal.nD Cert.InWeightKernelIdeal.τ).loc Cert.InWeightKernelIdeal.main_arg1))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v8) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1))

def preserves_OutWeightKernel_OutWeightKernelIdeal : Prop :=
  True

def algebraic_OutWeightKernelIdeal_OutWeightReferenceIdeal [hOutWeightKernelIdeal : Cert.OutWeightKernelIdeal.Facts] [hOutWeightReferenceIdeal : Cert.OutWeightReferenceIdeal.Facts] : Prop :=
  ∀ (m : (ℓ : Loc Cert.OutWeightKernelIdeal.nD Cert.OutWeightKernelIdeal.τ Cert.OutWeightKernelIdeal.sig) → Buf (Elt Ideal) ℓ) (g : Dev Cert.OutWeightKernelIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightKernelIdeal m →
    (∀ c : Dev Cert.OutWeightKernelIdeal.nD,
      m' ((c.tc : Thread Cert.OutWeightReferenceIdeal.nD Cert.OutWeightReferenceIdeal.τ).loc Cert.OutWeightReferenceIdeal.main_arg0) = m ((c.tc : Thread Cert.OutWeightKernelIdeal.nD Cert.OutWeightKernelIdeal.τ).loc Cert.OutWeightKernelIdeal.main_arg0)
      ∧ m' ((c.tc : Thread Cert.OutWeightReferenceIdeal.nD Cert.OutWeightReferenceIdeal.τ).loc Cert.OutWeightReferenceIdeal.main_arg1) = m ((c.tc : Thread Cert.OutWeightKernelIdeal.nD Cert.OutWeightKernelIdeal.τ).loc Cert.OutWeightKernelIdeal.main_arg1)) →
    ∃ (v0 : (c : Dev Cert.OutWeightKernelIdeal.nD) → Buf (Elt Ideal) ((c.tc : Thread Cert.OutWeightKernelIdeal.nD Cert.OutWeightKernelIdeal.τ).loc Cert.OutWeightKernelIdeal.main_v0)),
      θ_run (Cert.OutWeightKernelIdeal.defs (F := Ideal)) (onTc (τ := Cert.OutWeightKernelIdeal.τ) (Cert.OutWeightKernelIdeal.main (F := Ideal))) ⟨m, fun _ => 0, g⟩ (fun r => ∀ c : Dev Cert.OutWeightKernelIdeal.nD,
          r.2.mem ((c.tc : Thread Cert.OutWeightKernelIdeal.nD Cert.OutWeightKernelIdeal.τ).loc Cert.OutWeightKernelIdeal.main_v0) = v0 c
          ∧ r.2.mem ((c.tc : Thread Cert.OutWeightKernelIdeal.nD Cert.OutWeightKernelIdeal.τ).loc Cert.OutWeightKernelIdeal.main_arg0) = m ((c.tc : Thread Cert.OutWeightKernelIdeal.nD Cert.OutWeightKernelIdeal.τ).loc Cert.OutWeightKernelIdeal.main_arg0)
          ∧ r.2.mem ((c.tc : Thread Cert.OutWeightKernelIdeal.nD Cert.OutWeightKernelIdeal.τ).loc Cert.OutWeightKernelIdeal.main_arg1) = m ((c.tc : Thread Cert.OutWeightKernelIdeal.nD Cert.OutWeightKernelIdeal.τ).loc Cert.OutWeightKernelIdeal.main_arg1))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v6) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v0)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v4) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)) (v3 : (c : Dev Cert.LossKernelIdeal.nD) → Buf (Elt Ideal) ((c.tc : Thread Cert.LossKernelIdeal.nD Cert.LossKernelIdeal.τ).loc Cert.LossKernelIdeal.main_v0_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_v0_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v53) = v1 c
          ∧ r.2.mem ((c.tc : Thread Cert.LossReferenceIdeal.nD Cert.LossReferenceIdeal.τ).loc Cert.LossReferenceIdeal.main_v36) = v2 c
          ∧ r.2.mem ((c.tc : Thread Cert.LossReferenceIdeal.nD Cert.LossReferenceIdeal.τ).loc Cert.LossReferenceIdeal.main_v54) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_LatentKernel_LatentKernelIdeal : Prop :=
  True

def algebraic_LatentKernelIdeal_LatentReferenceIdeal [hLatentKernelIdeal : Cert.LatentKernelIdeal.Facts] [hLatentReferenceIdeal : Cert.LatentReferenceIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentKernelIdeal m →
    (∀ c : Dev Cert.LatentKernelIdeal.nD,
      m' ((c.tc : Thread Cert.LatentReferenceIdeal.nD Cert.LatentReferenceIdeal.τ).loc Cert.LatentReferenceIdeal.main_arg0) = m ((c.tc : Thread Cert.LatentKernelIdeal.nD Cert.LatentKernelIdeal.τ).loc Cert.LatentKernelIdeal.main_arg0)
      ∧ m' ((c.tc : Thread Cert.LatentReferenceIdeal.nD Cert.LatentReferenceIdeal.τ).loc Cert.LatentReferenceIdeal.main_arg1) = m ((c.tc : Thread Cert.LatentKernelIdeal.nD Cert.LatentKernelIdeal.τ).loc Cert.LatentKernelIdeal.main_arg1)) →
    ∃ (v0 : (c : Dev Cert.LatentKernelIdeal.nD) → Buf (Elt Ideal) ((c.tc : Thread Cert.LatentKernelIdeal.nD Cert.LatentKernelIdeal.τ).loc Cert.LatentKernelIdeal.main_v0)),
      θ_run (Cert.LatentKernelIdeal.defs (F := Ideal)) (onTc (τ := Cert.LatentKernelIdeal.τ) (Cert.LatentKernelIdeal.main (F := Ideal))) ⟨m, fun _ => 0, g⟩ (fun r => ∀ c : Dev Cert.LatentKernelIdeal.nD,
          r.2.mem ((c.tc : Thread Cert.LatentKernelIdeal.nD Cert.LatentKernelIdeal.τ).loc Cert.LatentKernelIdeal.main_v0) = v0 c
          ∧ r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
          ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v3) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1))

def preserves_LatentWeightKernel_LatentWeightKernelIdeal : Prop :=
  True

def algebraic_LatentWeightKernelIdeal_LatentWeightReferenceIdeal [hLatentWeightKernelIdeal : Cert.LatentWeightKernelIdeal.Facts] [hLatentWeightReferenceIdeal : Cert.LatentWeightReferenceIdeal.Facts] : Prop :=
  ∀ (m : (ℓ : Loc Cert.LatentWeightKernelIdeal.nD Cert.LatentWeightKernelIdeal.τ Cert.LatentWeightKernelIdeal.sig) → Buf (Elt Ideal) ℓ) (g : Dev Cert.LatentWeightKernelIdeal.nD → PrngReg)
    (m' : (ℓ : Loc Cert.LatentWeightReferenceIdeal.nD Cert.LatentWeightReferenceIdeal.τ Cert.LatentWeightReferenceIdeal.sig) → Buf (Elt Ideal) ℓ) (g' : Dev Cert.LatentWeightReferenceIdeal.nD → PrngReg), Pre_LatentWeightKernelIdeal m →
    (∀ c : Dev Cert.LatentWeightKernelIdeal.nD,
      m' ((c.tc : Thread Cert.LatentWeightReferenceIdeal.nD Cert.LatentWeightReferenceIdeal.τ).loc Cert.LatentWeightReferenceIdeal.main_arg0) = m ((c.tc : Thread Cert.LatentWeightKernelIdeal.nD Cert.LatentWeightKernelIdeal.τ).loc Cert.LatentWeightKernelIdeal.main_arg0)
      ∧ m' ((c.tc : Thread Cert.LatentWeightReferenceIdeal.nD Cert.LatentWeightReferenceIdeal.τ).loc Cert.LatentWeightReferenceIdeal.main_arg1) = m ((c.tc : Thread Cert.LatentWeightKernelIdeal.nD Cert.LatentWeightKernelIdeal.τ).loc Cert.LatentWeightKernelIdeal.main_arg1)) →
    ∃ (v0 : (c : Dev Cert.LatentWeightKernelIdeal.nD) → Buf (Elt Ideal) ((c.tc : Thread Cert.LatentWeightKernelIdeal.nD Cert.LatentWeightKernelIdeal.τ).loc Cert.LatentWeightKernelIdeal.main_v0)),
      θ_run (Cert.LatentWeightKernelIdeal.defs (F := Ideal)) (onTc (τ := Cert.LatentWeightKernelIdeal.τ) (Cert.LatentWeightKernelIdeal.main (F := Ideal))) ⟨m, fun _ => 0, g⟩ (fun r => ∀ c : Dev Cert.LatentWeightKernelIdeal.nD,
          r.2.mem ((c.tc : Thread Cert.LatentWeightKernelIdeal.nD Cert.LatentWeightKernelIdeal.τ).loc Cert.LatentWeightKernelIdeal.main_v0) = v0 c
          ∧ r.2.mem ((c.tc : Thread Cert.LatentWeightKernelIdeal.nD Cert.LatentWeightKernelIdeal.τ).loc Cert.LatentWeightKernelIdeal.main_arg0) = m ((c.tc : Thread Cert.LatentWeightKernelIdeal.nD Cert.LatentWeightKernelIdeal.τ).loc Cert.LatentWeightKernelIdeal.main_arg0)
          ∧ r.2.mem ((c.tc : Thread Cert.LatentWeightKernelIdeal.nD Cert.LatentWeightKernelIdeal.τ).loc Cert.LatentWeightKernelIdeal.main_arg1) = m ((c.tc : Thread Cert.LatentWeightKernelIdeal.nD Cert.LatentWeightKernelIdeal.τ).loc Cert.LatentWeightKernelIdeal.main_arg1))
      ∧ θ_run (Cert.LatentWeightReferenceIdeal.defs (F := Ideal)) (onTc (τ := Cert.LatentWeightReferenceIdeal.τ) (Cert.LatentWeightReferenceIdeal.main (F := Ideal))) ⟨m', fun _ => 0, g'⟩ (fun r => ∀ c : Dev Cert.LatentWeightReferenceIdeal.nD,
          r.2.mem ((c.tc : Thread Cert.LatentWeightReferenceIdeal.nD Cert.LatentWeightReferenceIdeal.τ).loc Cert.LatentWeightReferenceIdeal.main_v7) = v0 c
          ∧ r.2.mem ((c.tc : Thread Cert.LatentWeightReferenceIdeal.nD Cert.LatentWeightReferenceIdeal.τ).loc Cert.LatentWeightReferenceIdeal.main_arg0) = m' ((c.tc : Thread Cert.LatentWeightReferenceIdeal.nD Cert.LatentWeightReferenceIdeal.τ).loc Cert.LatentWeightReferenceIdeal.main_arg0)
          ∧ r.2.mem ((c.tc : Thread Cert.LatentWeightReferenceIdeal.nD Cert.LatentWeightReferenceIdeal.τ).loc Cert.LatentWeightReferenceIdeal.main_arg1) = m' ((c.tc : Thread Cert.LatentWeightReferenceIdeal.nD Cert.LatentWeightReferenceIdeal.τ).loc Cert.LatentWeightReferenceIdeal.main_arg1))

def preserves_NopeWeightKernel_NopeWeightKernelIdeal : Prop :=
  True

def algebraic_NopeWeightKernelIdeal_NopeWeightReferenceIdeal [hNopeWeightKernelIdeal : Cert.NopeWeightKernelIdeal.Facts] [hNopeWeightReferenceIdeal : Cert.NopeWeightReferenceIdeal.Facts] : Prop :=
  ∀ (m : (ℓ : Loc Cert.NopeWeightKernelIdeal.nD Cert.NopeWeightKernelIdeal.τ Cert.NopeWeightKernelIdeal.sig) → Buf (Elt Ideal) ℓ) (g : Dev Cert.NopeWeightKernelIdeal.nD → PrngReg)
    (m' : (ℓ : Loc Cert.NopeWeightReferenceIdeal.nD Cert.NopeWeightReferenceIdeal.τ Cert.NopeWeightReferenceIdeal.sig) → Buf (Elt Ideal) ℓ) (g' : Dev Cert.NopeWeightReferenceIdeal.nD → PrngReg), Pre_NopeWeightKernelIdeal m →
    (∀ c : Dev Cert.NopeWeightKernelIdeal.nD,
      m' ((c.tc : Thread Cert.NopeWeightReferenceIdeal.nD Cert.NopeWeightReferenceIdeal.τ).loc Cert.NopeWeightReferenceIdeal.main_arg0) = m ((c.tc : Thread Cert.NopeWeightKernelIdeal.nD Cert.NopeWeightKernelIdeal.τ).loc Cert.NopeWeightKernelIdeal.main_arg0)
      ∧ m' ((c.tc : Thread Cert.NopeWeightReferenceIdeal.nD Cert.NopeWeightReferenceIdeal.τ).loc Cert.NopeWeightReferenceIdeal.main_arg1) = m ((c.tc : Thread Cert.NopeWeightKernelIdeal.nD Cert.NopeWeightKernelIdeal.τ).loc Cert.NopeWeightKernelIdeal.main_arg1)) →
    ∃ (v0 : (c : Dev Cert.NopeWeightKernelIdeal.nD) → Buf (Elt Ideal) ((c.tc : Thread Cert.NopeWeightKernelIdeal.nD Cert.NopeWeightKernelIdeal.τ).loc Cert.NopeWeightKernelIdeal.main_v0)),
      θ_run (Cert.NopeWeightKernelIdeal.defs (F := Ideal)) (onTc (τ := Cert.NopeWeightKernelIdeal.τ) (Cert.NopeWeightKernelIdeal.main (F := Ideal))) ⟨m, fun _ => 0, g⟩ (fun r => ∀ c : Dev Cert.NopeWeightKernelIdeal.nD,
          r.2.mem ((c.tc : Thread Cert.NopeWeightKernelIdeal.nD Cert.NopeWeightKernelIdeal.τ).loc Cert.NopeWeightKernelIdeal.main_v0) = v0 c
          ∧ r.2.mem ((c.tc : Thread Cert.NopeWeightKernelIdeal.nD Cert.NopeWeightKernelIdeal.τ).loc Cert.NopeWeightKernelIdeal.main_arg0) = m ((c.tc : Thread Cert.NopeWeightKernelIdeal.nD Cert.NopeWeightKernelIdeal.τ).loc Cert.NopeWeightKernelIdeal.main_arg0)
          ∧ r.2.mem ((c.tc : Thread Cert.NopeWeightKernelIdeal.nD Cert.NopeWeightKernelIdeal.τ).loc Cert.NopeWeightKernelIdeal.main_arg1) = m ((c.tc : Thread Cert.NopeWeightKernelIdeal.nD Cert.NopeWeightKernelIdeal.τ).loc Cert.NopeWeightKernelIdeal.main_arg1))
      ∧ θ_run (Cert.NopeWeightReferenceIdeal.defs (F := Ideal)) (onTc (τ := Cert.NopeWeightReferenceIdeal.τ) (Cert.NopeWeightReferenceIdeal.main (F := Ideal))) ⟨m', fun _ => 0, g'⟩ (fun r => ∀ c : Dev Cert.NopeWeightReferenceIdeal.nD,
          r.2.mem ((c.tc : Thread Cert.NopeWeightReferenceIdeal.nD Cert.NopeWeightReferenceIdeal.τ).loc Cert.NopeWeightReferenceIdeal.main_v8) = v0 c
          ∧ r.2.mem ((c.tc : Thread Cert.NopeWeightReferenceIdeal.nD Cert.NopeWeightReferenceIdeal.τ).loc Cert.NopeWeightReferenceIdeal.main_arg0) = m' ((c.tc : Thread Cert.NopeWeightReferenceIdeal.nD Cert.NopeWeightReferenceIdeal.τ).loc Cert.NopeWeightReferenceIdeal.main_arg0)
          ∧ r.2.mem ((c.tc : Thread Cert.NopeWeightReferenceIdeal.nD Cert.NopeWeightReferenceIdeal.τ).loc Cert.NopeWeightReferenceIdeal.main_arg1) = m' ((c.tc : Thread Cert.NopeWeightReferenceIdeal.nD Cert.NopeWeightReferenceIdeal.τ).loc Cert.NopeWeightReferenceIdeal.main_arg1))

def preserves_RopeWeightKernel_RopeWeightKernelIdeal : Prop :=
  True

def algebraic_RopeWeightKernelIdeal_RopeWeightReferenceIdeal [hRopeWeightKernelIdeal : Cert.RopeWeightKernelIdeal.Facts] [hRopeWeightReferenceIdeal : Cert.RopeWeightReferenceIdeal.Facts] : Prop :=
  ∀ (m : (ℓ : Loc Cert.RopeWeightKernelIdeal.nD Cert.RopeWeightKernelIdeal.τ Cert.RopeWeightKernelIdeal.sig) → Buf (Elt Ideal) ℓ) (g : Dev Cert.RopeWeightKernelIdeal.nD → PrngReg)
    (m' : (ℓ : Loc Cert.RopeWeightReferenceIdeal.nD Cert.RopeWeightReferenceIdeal.τ Cert.RopeWeightReferenceIdeal.sig) → Buf (Elt Ideal) ℓ) (g' : Dev Cert.RopeWeightReferenceIdeal.nD → PrngReg), Pre_RopeWeightKernelIdeal m →
    (∀ c : Dev Cert.RopeWeightKernelIdeal.nD,
      m' ((c.tc : Thread Cert.RopeWeightReferenceIdeal.nD Cert.RopeWeightReferenceIdeal.τ).loc Cert.RopeWeightReferenceIdeal.main_arg0) = m ((c.tc : Thread Cert.RopeWeightKernelIdeal.nD Cert.RopeWeightKernelIdeal.τ).loc Cert.RopeWeightKernelIdeal.main_arg0)
      ∧ m' ((c.tc : Thread Cert.RopeWeightReferenceIdeal.nD Cert.RopeWeightReferenceIdeal.τ).loc Cert.RopeWeightReferenceIdeal.main_arg1) = m ((c.tc : Thread Cert.RopeWeightKernelIdeal.nD Cert.RopeWeightKernelIdeal.τ).loc Cert.RopeWeightKernelIdeal.main_arg1)) →
    ∃ (v0 : (c : Dev Cert.RopeWeightKernelIdeal.nD) → Buf (Elt Ideal) ((c.tc : Thread Cert.RopeWeightKernelIdeal.nD Cert.RopeWeightKernelIdeal.τ).loc Cert.RopeWeightKernelIdeal.main_v0)),
      θ_run (Cert.RopeWeightKernelIdeal.defs (F := Ideal)) (onTc (τ := Cert.RopeWeightKernelIdeal.τ) (Cert.RopeWeightKernelIdeal.main (F := Ideal))) ⟨m, fun _ => 0, g⟩ (fun r => ∀ c : Dev Cert.RopeWeightKernelIdeal.nD,
          r.2.mem ((c.tc : Thread Cert.RopeWeightKernelIdeal.nD Cert.RopeWeightKernelIdeal.τ).loc Cert.RopeWeightKernelIdeal.main_v0) = v0 c
          ∧ r.2.mem ((c.tc : Thread Cert.RopeWeightKernelIdeal.nD Cert.RopeWeightKernelIdeal.τ).loc Cert.RopeWeightKernelIdeal.main_arg0) = m ((c.tc : Thread Cert.RopeWeightKernelIdeal.nD Cert.RopeWeightKernelIdeal.τ).loc Cert.RopeWeightKernelIdeal.main_arg0)
          ∧ r.2.mem ((c.tc : Thread Cert.RopeWeightKernelIdeal.nD Cert.RopeWeightKernelIdeal.τ).loc Cert.RopeWeightKernelIdeal.main_arg1) = m ((c.tc : Thread Cert.RopeWeightKernelIdeal.nD Cert.RopeWeightKernelIdeal.τ).loc Cert.RopeWeightKernelIdeal.main_arg1))
      ∧ θ_run (Cert.RopeWeightReferenceIdeal.defs (F := Ideal)) (onTc (τ := Cert.RopeWeightReferenceIdeal.τ) (Cert.RopeWeightReferenceIdeal.main (F := Ideal))) ⟨m', fun _ => 0, g'⟩ (fun r => ∀ c : Dev Cert.RopeWeightReferenceIdeal.nD,
          r.2.mem ((c.tc : Thread Cert.RopeWeightReferenceIdeal.nD Cert.RopeWeightReferenceIdeal.τ).loc Cert.RopeWeightReferenceIdeal.main_v8) = v0 c
          ∧ r.2.mem ((c.tc : Thread Cert.RopeWeightReferenceIdeal.nD Cert.RopeWeightReferenceIdeal.τ).loc Cert.RopeWeightReferenceIdeal.main_arg0) = m' ((c.tc : Thread Cert.RopeWeightReferenceIdeal.nD Cert.RopeWeightReferenceIdeal.τ).loc Cert.RopeWeightReferenceIdeal.main_arg0)
          ∧ r.2.mem ((c.tc : Thread Cert.RopeWeightReferenceIdeal.nD Cert.RopeWeightReferenceIdeal.τ).loc Cert.RopeWeightReferenceIdeal.main_arg1) = m' ((c.tc : Thread Cert.RopeWeightReferenceIdeal.nD Cert.RopeWeightReferenceIdeal.τ).loc Cert.RopeWeightReferenceIdeal.main_arg1))

def preserves_KvWeightKernel_KvWeightKernelIdeal : Prop :=
  True

def algebraic_KvWeightKernelIdeal_KvWeightReferenceIdeal [hKvWeightKernelIdeal : Cert.KvWeightKernelIdeal.Facts] [hKvWeightReferenceIdeal : Cert.KvWeightReferenceIdeal.Facts] : Prop :=
  ∀ (m : (ℓ : Loc Cert.KvWeightKernelIdeal.nD Cert.KvWeightKernelIdeal.τ Cert.KvWeightKernelIdeal.sig) → Buf (Elt Ideal) ℓ) (g : Dev Cert.KvWeightKernelIdeal.nD → PrngReg)
    (m' : (ℓ : Loc Cert.KvWeightReferenceIdeal.nD Cert.KvWeightReferenceIdeal.τ Cert.KvWeightReferenceIdeal.sig) → Buf (Elt Ideal) ℓ) (g' : Dev Cert.KvWeightReferenceIdeal.nD → PrngReg), Pre_KvWeightKernelIdeal m →
    (∀ c : Dev Cert.KvWeightKernelIdeal.nD,
      m' ((c.tc : Thread Cert.KvWeightReferenceIdeal.nD Cert.KvWeightReferenceIdeal.τ).loc Cert.KvWeightReferenceIdeal.main_arg0) = m ((c.tc : Thread Cert.KvWeightKernelIdeal.nD Cert.KvWeightKernelIdeal.τ).loc Cert.KvWeightKernelIdeal.main_arg0)
      ∧ m' ((c.tc : Thread Cert.KvWeightReferenceIdeal.nD Cert.KvWeightReferenceIdeal.τ).loc Cert.KvWeightReferenceIdeal.main_arg1) = m ((c.tc : Thread Cert.KvWeightKernelIdeal.nD Cert.KvWeightKernelIdeal.τ).loc Cert.KvWeightKernelIdeal.main_arg1)) →
    ∃ (v0 : (c : Dev Cert.KvWeightKernelIdeal.nD) → Buf (Elt Ideal) ((c.tc : Thread Cert.KvWeightKernelIdeal.nD Cert.KvWeightKernelIdeal.τ).loc Cert.KvWeightKernelIdeal.main_v0)),
      θ_run (Cert.KvWeightKernelIdeal.defs (F := Ideal)) (onTc (τ := Cert.KvWeightKernelIdeal.τ) (Cert.KvWeightKernelIdeal.main (F := Ideal))) ⟨m, fun _ => 0, g⟩ (fun r => ∀ c : Dev Cert.KvWeightKernelIdeal.nD,
          r.2.mem ((c.tc : Thread Cert.KvWeightKernelIdeal.nD Cert.KvWeightKernelIdeal.τ).loc Cert.KvWeightKernelIdeal.main_v0) = v0 c
          ∧ r.2.mem ((c.tc : Thread Cert.KvWeightKernelIdeal.nD Cert.KvWeightKernelIdeal.τ).loc Cert.KvWeightKernelIdeal.main_arg0) = m ((c.tc : Thread Cert.KvWeightKernelIdeal.nD Cert.KvWeightKernelIdeal.τ).loc Cert.KvWeightKernelIdeal.main_arg0)
          ∧ r.2.mem ((c.tc : Thread Cert.KvWeightKernelIdeal.nD Cert.KvWeightKernelIdeal.τ).loc Cert.KvWeightKernelIdeal.main_arg1) = m ((c.tc : Thread Cert.KvWeightKernelIdeal.nD Cert.KvWeightKernelIdeal.τ).loc Cert.KvWeightKernelIdeal.main_arg1))
      ∧ θ_run (Cert.KvWeightReferenceIdeal.defs (F := Ideal)) (onTc (τ := Cert.KvWeightReferenceIdeal.τ) (Cert.KvWeightReferenceIdeal.main (F := Ideal))) ⟨m', fun _ => 0, g'⟩ (fun r => ∀ c : Dev Cert.KvWeightReferenceIdeal.nD,
          r.2.mem ((c.tc : Thread Cert.KvWeightReferenceIdeal.nD Cert.KvWeightReferenceIdeal.τ).loc Cert.KvWeightReferenceIdeal.main_v8) = v0 c
          ∧ r.2.mem ((c.tc : Thread Cert.KvWeightReferenceIdeal.nD Cert.KvWeightReferenceIdeal.τ).loc Cert.KvWeightReferenceIdeal.main_arg0) = m' ((c.tc : Thread Cert.KvWeightReferenceIdeal.nD Cert.KvWeightReferenceIdeal.τ).loc Cert.KvWeightReferenceIdeal.main_arg0)
          ∧ r.2.mem ((c.tc : Thread Cert.KvWeightReferenceIdeal.nD Cert.KvWeightReferenceIdeal.τ).loc Cert.KvWeightReferenceIdeal.main_arg1) = m' ((c.tc : Thread Cert.KvWeightReferenceIdeal.nD Cert.KvWeightReferenceIdeal.τ).loc Cert.KvWeightReferenceIdeal.main_arg1))

def preserves_OutNormKernel_OutNormKernelIdeal : Prop :=
  True

def algebraic_OutNormKernelIdeal_OutNormReferenceIdeal [hOutNormKernelIdeal : Cert.OutNormKernelIdeal.Facts] [hOutNormReferenceIdeal : Cert.OutNormReferenceIdeal.Facts] : Prop :=
  ∀ (m : (ℓ : Loc Cert.OutNormKernelIdeal.nD Cert.OutNormKernelIdeal.τ Cert.OutNormKernelIdeal.sig) → Buf (Elt Ideal) ℓ) (g : Dev Cert.OutNormKernelIdeal.nD → PrngReg)
    (m' : (ℓ : Loc Cert.OutNormReferenceIdeal.nD Cert.OutNormReferenceIdeal.τ Cert.OutNormReferenceIdeal.sig) → Buf (Elt Ideal) ℓ) (g' : Dev Cert.OutNormReferenceIdeal.nD → PrngReg), Pre_OutNormKernelIdeal m →
    (∀ c : Dev Cert.OutNormKernelIdeal.nD,
      m' ((c.tc : Thread Cert.OutNormReferenceIdeal.nD Cert.OutNormReferenceIdeal.τ).loc Cert.OutNormReferenceIdeal.main_arg0) = m ((c.tc : Thread Cert.OutNormKernelIdeal.nD Cert.OutNormKernelIdeal.τ).loc Cert.OutNormKernelIdeal.main_arg0)
      ∧ m' ((c.tc : Thread Cert.OutNormReferenceIdeal.nD Cert.OutNormReferenceIdeal.τ).loc Cert.OutNormReferenceIdeal.main_arg1) = m ((c.tc : Thread Cert.OutNormKernelIdeal.nD Cert.OutNormKernelIdeal.τ).loc Cert.OutNormKernelIdeal.main_arg1)
      ∧ m' ((c.tc : Thread Cert.OutNormReferenceIdeal.nD Cert.OutNormReferenceIdeal.τ).loc Cert.OutNormReferenceIdeal.main_arg2) = m ((c.tc : Thread Cert.OutNormKernelIdeal.nD Cert.OutNormKernelIdeal.τ).loc Cert.OutNormKernelIdeal.main_arg2)
      ∧ m' ((c.tc : Thread Cert.OutNormReferenceIdeal.nD Cert.OutNormReferenceIdeal.τ).loc Cert.OutNormReferenceIdeal.main_arg3) = m ((c.tc : Thread Cert.OutNormKernelIdeal.nD Cert.OutNormKernelIdeal.τ).loc Cert.OutNormKernelIdeal.main_arg3)
      ∧ m' ((c.tc : Thread Cert.OutNormReferenceIdeal.nD Cert.OutNormReferenceIdeal.τ).loc Cert.OutNormReferenceIdeal.main_arg4) = m ((c.tc : Thread Cert.OutNormKernelIdeal.nD Cert.OutNormKernelIdeal.τ).loc Cert.OutNormKernelIdeal.main_arg4)
      ∧ m' ((c.tc : Thread Cert.OutNormReferenceIdeal.nD Cert.OutNormReferenceIdeal.τ).loc Cert.OutNormReferenceIdeal.main_arg5) = m ((c.tc : Thread Cert.OutNormKernelIdeal.nD Cert.OutNormKernelIdeal.τ).loc Cert.OutNormKernelIdeal.main_arg5)
      ∧ m' ((c.tc : Thread Cert.OutNormReferenceIdeal.nD Cert.OutNormReferenceIdeal.τ).loc Cert.OutNormReferenceIdeal.main_arg6) = m ((c.tc : Thread Cert.OutNormKernelIdeal.nD Cert.OutNormKernelIdeal.τ).loc Cert.OutNormKernelIdeal.main_arg6)) →
    ∃ (v0 : (c : Dev Cert.OutNormKernelIdeal.nD) → Buf (Elt Ideal) ((c.tc : Thread Cert.OutNormKernelIdeal.nD Cert.OutNormKernelIdeal.τ).loc Cert.OutNormKernelIdeal.main_v0_0)) (v1 : (c : Dev Cert.OutNormKernelIdeal.nD) → Buf (Elt Ideal) ((c.tc : Thread Cert.OutNormKernelIdeal.nD Cert.OutNormKernelIdeal.τ).loc Cert.OutNormKernelIdeal.main_v0_1)) (v2 : (c : Dev Cert.OutNormKernelIdeal.nD) → Buf (Elt Ideal) ((c.tc : Thread Cert.OutNormKernelIdeal.nD Cert.OutNormKernelIdeal.τ).loc Cert.OutNormKernelIdeal.main_v0_2)),
      θ_run (Cert.OutNormKernelIdeal.defs (F := Ideal)) (onTc (τ := Cert.OutNormKernelIdeal.τ) (Cert.OutNormKernelIdeal.main (F := Ideal))) ⟨m, fun _ => 0, g⟩ (fun r => ∀ c : Dev Cert.OutNormKernelIdeal.nD,
          r.2.mem ((c.tc : Thread Cert.OutNormKernelIdeal.nD Cert.OutNormKernelIdeal.τ).loc Cert.OutNormKernelIdeal.main_v0_0) = v0 c
          ∧ r.2.mem ((c.tc : Thread Cert.OutNormKernelIdeal.nD Cert.OutNormKernelIdeal.τ).loc Cert.OutNormKernelIdeal.main_v0_1) = v1 c
          ∧ r.2.mem ((c.tc : Thread Cert.OutNormKernelIdeal.nD Cert.OutNormKernelIdeal.τ).loc Cert.OutNormKernelIdeal.main_v0_2) = v2 c
          ∧ r.2.mem ((c.tc : Thread Cert.OutNormKernelIdeal.nD Cert.OutNormKernelIdeal.τ).loc Cert.OutNormKernelIdeal.main_arg0) = m ((c.tc : Thread Cert.OutNormKernelIdeal.nD Cert.OutNormKernelIdeal.τ).loc Cert.OutNormKernelIdeal.main_arg0)
          ∧ r.2.mem ((c.tc : Thread Cert.OutNormKernelIdeal.nD Cert.OutNormKernelIdeal.τ).loc Cert.OutNormKernelIdeal.main_arg1) = m ((c.tc : Thread Cert.OutNormKernelIdeal.nD Cert.OutNormKernelIdeal.τ).loc Cert.OutNormKernelIdeal.main_arg1)
          ∧ r.2.mem ((c.tc : Thread Cert.OutNormKernelIdeal.nD Cert.OutNormKernelIdeal.τ).loc Cert.OutNormKernelIdeal.main_arg2) = m ((c.tc : Thread Cert.OutNormKernelIdeal.nD Cert.OutNormKernelIdeal.τ).loc Cert.OutNormKernelIdeal.main_arg2)
          ∧ r.2.mem ((c.tc : Thread Cert.OutNormKernelIdeal.nD Cert.OutNormKernelIdeal.τ).loc Cert.OutNormKernelIdeal.main_arg3) = m ((c.tc : Thread Cert.OutNormKernelIdeal.nD Cert.OutNormKernelIdeal.τ).loc Cert.OutNormKernelIdeal.main_arg3)
          ∧ r.2.mem ((c.tc : Thread Cert.OutNormKernelIdeal.nD Cert.OutNormKernelIdeal.τ).loc Cert.OutNormKernelIdeal.main_arg4) = m ((c.tc : Thread Cert.OutNormKernelIdeal.nD Cert.OutNormKernelIdeal.τ).loc Cert.OutNormKernelIdeal.main_arg4)
          ∧ r.2.mem ((c.tc : Thread Cert.OutNormKernelIdeal.nD Cert.OutNormKernelIdeal.τ).loc Cert.OutNormKernelIdeal.main_arg5) = m ((c.tc : Thread Cert.OutNormKernelIdeal.nD Cert.OutNormKernelIdeal.τ).loc Cert.OutNormKernelIdeal.main_arg5)
          ∧ r.2.mem ((c.tc : Thread Cert.OutNormKernelIdeal.nD Cert.OutNormKernelIdeal.τ).loc Cert.OutNormKernelIdeal.main_arg6) = m ((c.tc : Thread Cert.OutNormKernelIdeal.nD Cert.OutNormKernelIdeal.τ).loc Cert.OutNormKernelIdeal.main_arg6))
      ∧ θ_run (Cert.OutNormReferenceIdeal.defs (F := Ideal)) (onTc (τ := Cert.OutNormReferenceIdeal.τ) (Cert.OutNormReferenceIdeal.main (F := Ideal))) ⟨m', fun _ => 0, g'⟩ (fun r => ∀ c : Dev Cert.OutNormReferenceIdeal.nD,
          r.2.mem ((c.tc : Thread Cert.OutNormReferenceIdeal.nD Cert.OutNormReferenceIdeal.τ).loc Cert.OutNormReferenceIdeal.main_v28) = v0 c
          ∧ r.2.mem ((c.tc : Thread Cert.OutNormReferenceIdeal.nD Cert.OutNormReferenceIdeal.τ).loc Cert.OutNormReferenceIdeal.main_v27) = v1 c
          ∧ r.2.mem ((c.tc : Thread Cert.OutNormReferenceIdeal.nD Cert.OutNormReferenceIdeal.τ).loc Cert.OutNormReferenceIdeal.main_v41) = v2 c
          ∧ r.2.mem ((c.tc : Thread Cert.OutNormReferenceIdeal.nD Cert.OutNormReferenceIdeal.τ).loc Cert.OutNormReferenceIdeal.main_arg0) = m' ((c.tc : Thread Cert.OutNormReferenceIdeal.nD Cert.OutNormReferenceIdeal.τ).loc Cert.OutNormReferenceIdeal.main_arg0)
          ∧ r.2.mem ((c.tc : Thread Cert.OutNormReferenceIdeal.nD Cert.OutNormReferenceIdeal.τ).loc Cert.OutNormReferenceIdeal.main_arg1) = m' ((c.tc : Thread Cert.OutNormReferenceIdeal.nD Cert.OutNormReferenceIdeal.τ).loc Cert.OutNormReferenceIdeal.main_arg1)
          ∧ r.2.mem ((c.tc : Thread Cert.OutNormReferenceIdeal.nD Cert.OutNormReferenceIdeal.τ).loc Cert.OutNormReferenceIdeal.main_arg2) = m' ((c.tc : Thread Cert.OutNormReferenceIdeal.nD Cert.OutNormReferenceIdeal.τ).loc Cert.OutNormReferenceIdeal.main_arg2)
          ∧ r.2.mem ((c.tc : Thread Cert.OutNormReferenceIdeal.nD Cert.OutNormReferenceIdeal.τ).loc Cert.OutNormReferenceIdeal.main_arg3) = m' ((c.tc : Thread Cert.OutNormReferenceIdeal.nD Cert.OutNormReferenceIdeal.τ).loc Cert.OutNormReferenceIdeal.main_arg3)
          ∧ r.2.mem ((c.tc : Thread Cert.OutNormReferenceIdeal.nD Cert.OutNormReferenceIdeal.τ).loc Cert.OutNormReferenceIdeal.main_arg4) = m' ((c.tc : Thread Cert.OutNormReferenceIdeal.nD Cert.OutNormReferenceIdeal.τ).loc Cert.OutNormReferenceIdeal.main_arg4)
          ∧ r.2.mem ((c.tc : Thread Cert.OutNormReferenceIdeal.nD Cert.OutNormReferenceIdeal.τ).loc Cert.OutNormReferenceIdeal.main_arg5) = m' ((c.tc : Thread Cert.OutNormReferenceIdeal.nD Cert.OutNormReferenceIdeal.τ).loc Cert.OutNormReferenceIdeal.main_arg5)
          ∧ r.2.mem ((c.tc : Thread Cert.OutNormReferenceIdeal.nD Cert.OutNormReferenceIdeal.τ).loc Cert.OutNormReferenceIdeal.main_arg6) = m' ((c.tc : Thread Cert.OutNormReferenceIdeal.nD Cert.OutNormReferenceIdeal.τ).loc Cert.OutNormReferenceIdeal.main_arg6))

def preserves_OutBackKernel_OutBackKernelIdeal : Prop :=
  True

def algebraic_OutBackKernelIdeal_OutBackReferenceIdeal_pre_finite_out [hOutBackKernelIdeal : Cert.OutBackKernelIdeal.Facts] [hOutBackReferenceIdeal : Cert.OutBackReferenceIdeal.Facts] [hPre_finite_out : Cert.Pre_finite_out.Facts] : Prop :=
  ∀ (m : (ℓ : Loc Cert.OutBackKernelIdeal.nD Cert.OutBackKernelIdeal.τ Cert.OutBackKernelIdeal.sig) → Buf (Elt Ideal) ℓ) (g : Dev Cert.OutBackKernelIdeal.nD → PrngReg)
    (m' : (ℓ : Loc Cert.OutBackReferenceIdeal.nD Cert.OutBackReferenceIdeal.τ Cert.OutBackReferenceIdeal.sig) → Buf (Elt Ideal) ℓ) (g' : Dev Cert.OutBackReferenceIdeal.nD → PrngReg), Pre_OutBackKernelIdeal_finite_out m →
    (∀ c : Dev Cert.OutBackKernelIdeal.nD,
      m' ((c.tc : Thread Cert.OutBackReferenceIdeal.nD Cert.OutBackReferenceIdeal.τ).loc Cert.OutBackReferenceIdeal.main_arg0) = m ((c.tc : Thread Cert.OutBackKernelIdeal.nD Cert.OutBackKernelIdeal.τ).loc Cert.OutBackKernelIdeal.main_arg0)
      ∧ m' ((c.tc : Thread Cert.OutBackReferenceIdeal.nD Cert.OutBackReferenceIdeal.τ).loc Cert.OutBackReferenceIdeal.main_arg1) = m ((c.tc : Thread Cert.OutBackKernelIdeal.nD Cert.OutBackKernelIdeal.τ).loc Cert.OutBackKernelIdeal.main_arg1)
      ∧ m' ((c.tc : Thread Cert.OutBackReferenceIdeal.nD Cert.OutBackReferenceIdeal.τ).loc Cert.OutBackReferenceIdeal.main_arg2) = m ((c.tc : Thread Cert.OutBackKernelIdeal.nD Cert.OutBackKernelIdeal.τ).loc Cert.OutBackKernelIdeal.main_arg2)
      ∧ m' ((c.tc : Thread Cert.OutBackReferenceIdeal.nD Cert.OutBackReferenceIdeal.τ).loc Cert.OutBackReferenceIdeal.main_arg3) = m ((c.tc : Thread Cert.OutBackKernelIdeal.nD Cert.OutBackKernelIdeal.τ).loc Cert.OutBackKernelIdeal.main_arg3)
      ∧ m' ((c.tc : Thread Cert.OutBackReferenceIdeal.nD Cert.OutBackReferenceIdeal.τ).loc Cert.OutBackReferenceIdeal.main_arg4) = m ((c.tc : Thread Cert.OutBackKernelIdeal.nD Cert.OutBackKernelIdeal.τ).loc Cert.OutBackKernelIdeal.main_arg4)
      ∧ m' ((c.tc : Thread Cert.OutBackReferenceIdeal.nD Cert.OutBackReferenceIdeal.τ).loc Cert.OutBackReferenceIdeal.main_arg5) = m ((c.tc : Thread Cert.OutBackKernelIdeal.nD Cert.OutBackKernelIdeal.τ).loc Cert.OutBackKernelIdeal.main_arg5)) →
    ∃ (v0 : (c : Dev Cert.OutBackKernelIdeal.nD) → Buf (Elt Ideal) ((c.tc : Thread Cert.OutBackKernelIdeal.nD Cert.OutBackKernelIdeal.τ).loc Cert.OutBackKernelIdeal.main_v0_0)) (v1 : (c : Dev Cert.OutBackKernelIdeal.nD) → Buf (Elt Ideal) ((c.tc : Thread Cert.OutBackKernelIdeal.nD Cert.OutBackKernelIdeal.τ).loc Cert.OutBackKernelIdeal.main_v0_1)) (v2 : (c : Dev Cert.OutBackKernelIdeal.nD) → Buf (Elt Ideal) ((c.tc : Thread Cert.OutBackKernelIdeal.nD Cert.OutBackKernelIdeal.τ).loc Cert.OutBackKernelIdeal.main_v0_2)) (v3 : (c : Dev Cert.OutBackKernelIdeal.nD) → Buf (Elt Ideal) ((c.tc : Thread Cert.OutBackKernelIdeal.nD Cert.OutBackKernelIdeal.τ).loc Cert.OutBackKernelIdeal.main_v0_3)) (v4 : (c : Dev Cert.OutBackKernelIdeal.nD) → Buf (Elt Ideal) ((c.tc : Thread Cert.OutBackKernelIdeal.nD Cert.OutBackKernelIdeal.τ).loc Cert.OutBackKernelIdeal.main_v0_4)) (v5 : (c : Dev Cert.OutBackKernelIdeal.nD) → Buf (Elt Ideal) ((c.tc : Thread Cert.OutBackKernelIdeal.nD Cert.OutBackKernelIdeal.τ).loc Cert.OutBackKernelIdeal.main_v0_5)),
      θ_run (Cert.OutBackKernelIdeal.defs (F := Ideal)) (onTc (τ := Cert.OutBackKernelIdeal.τ) (Cert.OutBackKernelIdeal.main (F := Ideal))) ⟨m, fun _ => 0, g⟩ (fun r => ∀ c : Dev Cert.OutBackKernelIdeal.nD,
          r.2.mem ((c.tc : Thread Cert.OutBackKernelIdeal.nD Cert.OutBackKernelIdeal.τ).loc Cert.OutBackKernelIdeal.main_v0_0) = v0 c
          ∧ r.2.mem ((c.tc : Thread Cert.OutBackKernelIdeal.nD Cert.OutBackKernelIdeal.τ).loc Cert.OutBackKernelIdeal.main_v0_1) = v1 c
          ∧ r.2.mem ((c.tc : Thread Cert.OutBackKernelIdeal.nD Cert.OutBackKernelIdeal.τ).loc Cert.OutBackKernelIdeal.main_v0_2) = v2 c
          ∧ r.2.mem ((c.tc : Thread Cert.OutBackKernelIdeal.nD Cert.OutBackKernelIdeal.τ).loc Cert.OutBackKernelIdeal.main_v0_3) = v3 c
          ∧ r.2.mem ((c.tc : Thread Cert.OutBackKernelIdeal.nD Cert.OutBackKernelIdeal.τ).loc Cert.OutBackKernelIdeal.main_v0_4) = v4 c
          ∧ r.2.mem ((c.tc : Thread Cert.OutBackKernelIdeal.nD Cert.OutBackKernelIdeal.τ).loc Cert.OutBackKernelIdeal.main_v0_5) = v5 c
          ∧ r.2.mem ((c.tc : Thread Cert.OutBackKernelIdeal.nD Cert.OutBackKernelIdeal.τ).loc Cert.OutBackKernelIdeal.main_arg0) = m ((c.tc : Thread Cert.OutBackKernelIdeal.nD Cert.OutBackKernelIdeal.τ).loc Cert.OutBackKernelIdeal.main_arg0)
          ∧ r.2.mem ((c.tc : Thread Cert.OutBackKernelIdeal.nD Cert.OutBackKernelIdeal.τ).loc Cert.OutBackKernelIdeal.main_arg1) = m ((c.tc : Thread Cert.OutBackKernelIdeal.nD Cert.OutBackKernelIdeal.τ).loc Cert.OutBackKernelIdeal.main_arg1)
          ∧ r.2.mem ((c.tc : Thread Cert.OutBackKernelIdeal.nD Cert.OutBackKernelIdeal.τ).loc Cert.OutBackKernelIdeal.main_arg2) = m ((c.tc : Thread Cert.OutBackKernelIdeal.nD Cert.OutBackKernelIdeal.τ).loc Cert.OutBackKernelIdeal.main_arg2)
          ∧ r.2.mem ((c.tc : Thread Cert.OutBackKernelIdeal.nD Cert.OutBackKernelIdeal.τ).loc Cert.OutBackKernelIdeal.main_arg3) = m ((c.tc : Thread Cert.OutBackKernelIdeal.nD Cert.OutBackKernelIdeal.τ).loc Cert.OutBackKernelIdeal.main_arg3)
          ∧ r.2.mem ((c.tc : Thread Cert.OutBackKernelIdeal.nD Cert.OutBackKernelIdeal.τ).loc Cert.OutBackKernelIdeal.main_arg4) = m ((c.tc : Thread Cert.OutBackKernelIdeal.nD Cert.OutBackKernelIdeal.τ).loc Cert.OutBackKernelIdeal.main_arg4)
          ∧ r.2.mem ((c.tc : Thread Cert.OutBackKernelIdeal.nD Cert.OutBackKernelIdeal.τ).loc Cert.OutBackKernelIdeal.main_arg5) = m ((c.tc : Thread Cert.OutBackKernelIdeal.nD Cert.OutBackKernelIdeal.τ).loc Cert.OutBackKernelIdeal.main_arg5))
      ∧ θ_run (Cert.OutBackReferenceIdeal.defs (F := Ideal)) (onTc (τ := Cert.OutBackReferenceIdeal.τ) (Cert.OutBackReferenceIdeal.main (F := Ideal))) ⟨m', fun _ => 0, g'⟩ (fun r => ∀ c : Dev Cert.OutBackReferenceIdeal.nD,
          r.2.mem ((c.tc : Thread Cert.OutBackReferenceIdeal.nD Cert.OutBackReferenceIdeal.τ).loc Cert.OutBackReferenceIdeal.main_v75) = v0 c
          ∧ r.2.mem ((c.tc : Thread Cert.OutBackReferenceIdeal.nD Cert.OutBackReferenceIdeal.τ).loc Cert.OutBackReferenceIdeal.main_v76) = v1 c
          ∧ r.2.mem ((c.tc : Thread Cert.OutBackReferenceIdeal.nD Cert.OutBackReferenceIdeal.τ).loc Cert.OutBackReferenceIdeal.main_v79) = v2 c
          ∧ r.2.mem ((c.tc : Thread Cert.OutBackReferenceIdeal.nD Cert.OutBackReferenceIdeal.τ).loc Cert.OutBackReferenceIdeal.main_v82) = v3 c
          ∧ r.2.mem ((c.tc : Thread Cert.OutBackReferenceIdeal.nD Cert.OutBackReferenceIdeal.τ).loc Cert.OutBackReferenceIdeal.main_v58) = v4 c
          ∧ r.2.mem ((c.tc : Thread Cert.OutBackReferenceIdeal.nD Cert.OutBackReferenceIdeal.τ).loc Cert.OutBackReferenceIdeal.main_v39) = v5 c
          ∧ r.2.mem ((c.tc : Thread Cert.OutBackReferenceIdeal.nD Cert.OutBackReferenceIdeal.τ).loc Cert.OutBackReferenceIdeal.main_arg0) = m' ((c.tc : Thread Cert.OutBackReferenceIdeal.nD Cert.OutBackReferenceIdeal.τ).loc Cert.OutBackReferenceIdeal.main_arg0)
          ∧ r.2.mem ((c.tc : Thread Cert.OutBackReferenceIdeal.nD Cert.OutBackReferenceIdeal.τ).loc Cert.OutBackReferenceIdeal.main_arg1) = m' ((c.tc : Thread Cert.OutBackReferenceIdeal.nD Cert.OutBackReferenceIdeal.τ).loc Cert.OutBackReferenceIdeal.main_arg1)
          ∧ r.2.mem ((c.tc : Thread Cert.OutBackReferenceIdeal.nD Cert.OutBackReferenceIdeal.τ).loc Cert.OutBackReferenceIdeal.main_arg2) = m' ((c.tc : Thread Cert.OutBackReferenceIdeal.nD Cert.OutBackReferenceIdeal.τ).loc Cert.OutBackReferenceIdeal.main_arg2)
          ∧ r.2.mem ((c.tc : Thread Cert.OutBackReferenceIdeal.nD Cert.OutBackReferenceIdeal.τ).loc Cert.OutBackReferenceIdeal.main_arg3) = m' ((c.tc : Thread Cert.OutBackReferenceIdeal.nD Cert.OutBackReferenceIdeal.τ).loc Cert.OutBackReferenceIdeal.main_arg3)
          ∧ r.2.mem ((c.tc : Thread Cert.OutBackReferenceIdeal.nD Cert.OutBackReferenceIdeal.τ).loc Cert.OutBackReferenceIdeal.main_arg4) = m' ((c.tc : Thread Cert.OutBackReferenceIdeal.nD Cert.OutBackReferenceIdeal.τ).loc Cert.OutBackReferenceIdeal.main_arg4)
          ∧ r.2.mem ((c.tc : Thread Cert.OutBackReferenceIdeal.nD Cert.OutBackReferenceIdeal.τ).loc Cert.OutBackReferenceIdeal.main_arg5) = m' ((c.tc : Thread Cert.OutBackReferenceIdeal.nD Cert.OutBackReferenceIdeal.τ).loc Cert.OutBackReferenceIdeal.main_arg5))

def Claim : Prop :=
  ∃ (hKernel : Cert.Kernel.Facts) (hKernelIdeal : Cert.KernelIdeal.Facts) (hReferenceIdeal : Cert.ReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hWeightKernel : Cert.WeightKernel.Facts) (hWeightKernelIdeal : Cert.WeightKernelIdeal.Facts) (hWeightReferenceIdeal : Cert.WeightReferenceIdeal.Facts) (hNormKernel : Cert.NormKernel.Facts) (hNormKernelIdeal : Cert.NormKernelIdeal.Facts) (hNormReferenceIdeal : Cert.NormReferenceIdeal.Facts) (hGateWeightKernel : Cert.GateWeightKernel.Facts) (hGateWeightKernelIdeal : Cert.GateWeightKernelIdeal.Facts) (hGateWeightReferenceIdeal : Cert.GateWeightReferenceIdeal.Facts) (hUpWeightKernel : Cert.UpWeightKernel.Facts) (hUpWeightKernelIdeal : Cert.UpWeightKernelIdeal.Facts) (hUpWeightReferenceIdeal : Cert.UpWeightReferenceIdeal.Facts) (hInWeightKernel : Cert.InWeightKernel.Facts) (hInWeightKernelIdeal : Cert.InWeightKernelIdeal.Facts) (hInWeightReferenceIdeal : Cert.InWeightReferenceIdeal.Facts) (hOutWeightKernel : Cert.OutWeightKernel.Facts) (hOutWeightKernelIdeal : Cert.OutWeightKernelIdeal.Facts) (hOutWeightReferenceIdeal : Cert.OutWeightReferenceIdeal.Facts) (hInKernel : Cert.InKernel.Facts) (hInKernelIdeal : Cert.InKernelIdeal.Facts) (hInReferenceIdeal : Cert.InReferenceIdeal.Facts) (hLossKernel : Cert.LossKernel.Facts) (hLossKernelIdeal : Cert.LossKernelIdeal.Facts) (hLossReferenceIdeal : Cert.LossReferenceIdeal.Facts) (hLatentKernel : Cert.LatentKernel.Facts) (hLatentKernelIdeal : Cert.LatentKernelIdeal.Facts) (hLatentReferenceIdeal : Cert.LatentReferenceIdeal.Facts) (hLatentWeightKernel : Cert.LatentWeightKernel.Facts) (hLatentWeightKernelIdeal : Cert.LatentWeightKernelIdeal.Facts) (hLatentWeightReferenceIdeal : Cert.LatentWeightReferenceIdeal.Facts) (hNopeWeightKernel : Cert.NopeWeightKernel.Facts) (hNopeWeightKernelIdeal : Cert.NopeWeightKernelIdeal.Facts) (hNopeWeightReferenceIdeal : Cert.NopeWeightReferenceIdeal.Facts) (hRopeWeightKernel : Cert.RopeWeightKernel.Facts) (hRopeWeightKernelIdeal : Cert.RopeWeightKernelIdeal.Facts) (hRopeWeightReferenceIdeal : Cert.RopeWeightReferenceIdeal.Facts) (hKvWeightKernel : Cert.KvWeightKernel.Facts) (hKvWeightKernelIdeal : Cert.KvWeightKernelIdeal.Facts) (hKvWeightReferenceIdeal : Cert.KvWeightReferenceIdeal.Facts) (hOutNormKernel : Cert.OutNormKernel.Facts) (hOutNormKernelIdeal : Cert.OutNormKernelIdeal.Facts) (hOutNormReferenceIdeal : Cert.OutNormReferenceIdeal.Facts) (hOutBackKernel : Cert.OutBackKernel.Facts) (hOutBackKernelIdeal : Cert.OutBackKernelIdeal.Facts) (hOutBackReferenceIdeal : Cert.OutBackReferenceIdeal.Facts) (hPre_finite : Cert.Pre_finite.Facts) (hPre_finite_up : Cert.Pre_finite_up.Facts) (hPre_finite_down : Cert.Pre_finite_down.Facts) (hPre_finite_out : Cert.Pre_finite_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpKernel (hUpKernel := hUpKernel)
    ∧ quiescent_UpKernelIdeal (hUpKernelIdeal := hUpKernelIdeal)
    ∧ quiescent_UpKernelIdeal_pre_finite_up (hUpKernelIdeal := hUpKernelIdeal) (hPre_finite_up := hPre_finite_up)
    ∧ quiescent_UpReferenceIdeal (hUpReferenceIdeal := hUpReferenceIdeal)
    ∧ quiescent_UpReferenceIdeal_pre_finite_up (hUpReferenceIdeal := hUpReferenceIdeal) (hPre_finite_up := hPre_finite_up)
    ∧ quiescent_DownKernel (hDownKernel := hDownKernel)
    ∧ quiescent_DownKernelIdeal (hDownKernelIdeal := hDownKernelIdeal)
    ∧ quiescent_DownKernelIdeal_pre_finite_down (hDownKernelIdeal := hDownKernelIdeal) (hPre_finite_down := hPre_finite_down)
    ∧ quiescent_DownReferenceIdeal (hDownReferenceIdeal := hDownReferenceIdeal)
    ∧ quiescent_DownReferenceIdeal_pre_finite_down (hDownReferenceIdeal := hDownReferenceIdeal) (hPre_finite_down := hPre_finite_down)
    ∧ quiescent_WeightKernel (hWeightKernel := hWeightKernel)
    ∧ quiescent_WeightKernelIdeal (hWeightKernelIdeal := hWeightKernelIdeal)
    ∧ quiescent_WeightReferenceIdeal (hWeightReferenceIdeal := hWeightReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GateWeightKernel (hGateWeightKernel := hGateWeightKernel)
    ∧ quiescent_GateWeightKernelIdeal (hGateWeightKernelIdeal := hGateWeightKernelIdeal)
    ∧ quiescent_GateWeightReferenceIdeal (hGateWeightReferenceIdeal := hGateWeightReferenceIdeal)
    ∧ quiescent_UpWeightKernel (hUpWeightKernel := hUpWeightKernel)
    ∧ quiescent_UpWeightKernelIdeal (hUpWeightKernelIdeal := hUpWeightKernelIdeal)
    ∧ quiescent_UpWeightReferenceIdeal (hUpWeightReferenceIdeal := hUpWeightReferenceIdeal)
    ∧ quiescent_InWeightKernel (hInWeightKernel := hInWeightKernel)
    ∧ quiescent_InWeightKernelIdeal (hInWeightKernelIdeal := hInWeightKernelIdeal)
    ∧ quiescent_InWeightReferenceIdeal (hInWeightReferenceIdeal := hInWeightReferenceIdeal)
    ∧ quiescent_OutWeightKernel (hOutWeightKernel := hOutWeightKernel)
    ∧ quiescent_OutWeightKernelIdeal (hOutWeightKernelIdeal := hOutWeightKernelIdeal)
    ∧ quiescent_OutWeightReferenceIdeal (hOutWeightReferenceIdeal := hOutWeightReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_LatentKernel (hLatentKernel := hLatentKernel)
    ∧ quiescent_LatentKernelIdeal (hLatentKernelIdeal := hLatentKernelIdeal)
    ∧ quiescent_LatentReferenceIdeal (hLatentReferenceIdeal := hLatentReferenceIdeal)
    ∧ quiescent_LatentWeightKernel (hLatentWeightKernel := hLatentWeightKernel)
    ∧ quiescent_LatentWeightKernelIdeal (hLatentWeightKernelIdeal := hLatentWeightKernelIdeal)
    ∧ quiescent_LatentWeightReferenceIdeal (hLatentWeightReferenceIdeal := hLatentWeightReferenceIdeal)
    ∧ quiescent_NopeWeightKernel (hNopeWeightKernel := hNopeWeightKernel)
    ∧ quiescent_NopeWeightKernelIdeal (hNopeWeightKernelIdeal := hNopeWeightKernelIdeal)
    ∧ quiescent_NopeWeightReferenceIdeal (hNopeWeightReferenceIdeal := hNopeWeightReferenceIdeal)
    ∧ quiescent_RopeWeightKernel (hRopeWeightKernel := hRopeWeightKernel)
    ∧ quiescent_RopeWeightKernelIdeal (hRopeWeightKernelIdeal := hRopeWeightKernelIdeal)
    ∧ quiescent_RopeWeightReferenceIdeal (hRopeWeightReferenceIdeal := hRopeWeightReferenceIdeal)
    ∧ quiescent_KvWeightKernel (hKvWeightKernel := hKvWeightKernel)
    ∧ quiescent_KvWeightKernelIdeal (hKvWeightKernelIdeal := hKvWeightKernelIdeal)
    ∧ quiescent_KvWeightReferenceIdeal (hKvWeightReferenceIdeal := hKvWeightReferenceIdeal)
    ∧ quiescent_OutNormKernel (hOutNormKernel := hOutNormKernel)
    ∧ quiescent_OutNormKernelIdeal (hOutNormKernelIdeal := hOutNormKernelIdeal)
    ∧ quiescent_OutNormReferenceIdeal (hOutNormReferenceIdeal := hOutNormReferenceIdeal)
    ∧ quiescent_OutBackKernel (hOutBackKernel := hOutBackKernel)
    ∧ quiescent_OutBackKernelIdeal (hOutBackKernelIdeal := hOutBackKernelIdeal)
    ∧ quiescent_OutBackKernelIdeal_pre_finite_out (hOutBackKernelIdeal := hOutBackKernelIdeal) (hPre_finite_out := hPre_finite_out)
    ∧ quiescent_OutBackReferenceIdeal (hOutBackReferenceIdeal := hOutBackReferenceIdeal)
    ∧ quiescent_OutBackReferenceIdeal_pre_finite_out (hOutBackReferenceIdeal := hOutBackReferenceIdeal) (hPre_finite_out := hPre_finite_out)
    ∧ preserves_Kernel_KernelIdeal
    ∧ algebraic_KernelIdeal_ReferenceIdeal_pre_finite (hKernelIdeal := hKernelIdeal) (hReferenceIdeal := hReferenceIdeal) (hPre_finite := hPre_finite)
    ∧ preserves_UpKernel_UpKernelIdeal
    ∧ algebraic_UpKernelIdeal_UpReferenceIdeal_pre_finite_up (hUpKernelIdeal := hUpKernelIdeal) (hUpReferenceIdeal := hUpReferenceIdeal) (hPre_finite_up := hPre_finite_up)
    ∧ preserves_DownKernel_DownKernelIdeal
    ∧ algebraic_DownKernelIdeal_DownReferenceIdeal_pre_finite_down (hDownKernelIdeal := hDownKernelIdeal) (hDownReferenceIdeal := hDownReferenceIdeal) (hPre_finite_down := hPre_finite_down)
    ∧ preserves_WeightKernel_WeightKernelIdeal
    ∧ algebraic_WeightKernelIdeal_WeightReferenceIdeal (hWeightKernelIdeal := hWeightKernelIdeal) (hWeightReferenceIdeal := hWeightReferenceIdeal)
    ∧ preserves_NormKernel_NormKernelIdeal
    ∧ algebraic_NormKernelIdeal_NormReferenceIdeal (hNormKernelIdeal := hNormKernelIdeal) (hNormReferenceIdeal := hNormReferenceIdeal)
    ∧ preserves_GateWeightKernel_GateWeightKernelIdeal
    ∧ algebraic_GateWeightKernelIdeal_GateWeightReferenceIdeal (hGateWeightKernelIdeal := hGateWeightKernelIdeal) (hGateWeightReferenceIdeal := hGateWeightReferenceIdeal)
    ∧ preserves_UpWeightKernel_UpWeightKernelIdeal
    ∧ algebraic_UpWeightKernelIdeal_UpWeightReferenceIdeal (hUpWeightKernelIdeal := hUpWeightKernelIdeal) (hUpWeightReferenceIdeal := hUpWeightReferenceIdeal)
    ∧ preserves_InWeightKernel_InWeightKernelIdeal
    ∧ algebraic_InWeightKernelIdeal_InWeightReferenceIdeal (hInWeightKernelIdeal := hInWeightKernelIdeal) (hInWeightReferenceIdeal := hInWeightReferenceIdeal)
    ∧ preserves_OutWeightKernel_OutWeightKernelIdeal
    ∧ algebraic_OutWeightKernelIdeal_OutWeightReferenceIdeal (hOutWeightKernelIdeal := hOutWeightKernelIdeal) (hOutWeightReferenceIdeal := hOutWeightReferenceIdeal)
    ∧ preserves_InKernel_InKernelIdeal
    ∧ algebraic_InKernelIdeal_InReferenceIdeal (hInKernelIdeal := hInKernelIdeal) (hInReferenceIdeal := hInReferenceIdeal)
    ∧ preserves_LossKernel_LossKernelIdeal
    ∧ algebraic_LossKernelIdeal_LossReferenceIdeal (hLossKernelIdeal := hLossKernelIdeal) (hLossReferenceIdeal := hLossReferenceIdeal)
    ∧ preserves_LatentKernel_LatentKernelIdeal
    ∧ algebraic_LatentKernelIdeal_LatentReferenceIdeal (hLatentKernelIdeal := hLatentKernelIdeal) (hLatentReferenceIdeal := hLatentReferenceIdeal)
    ∧ preserves_LatentWeightKernel_LatentWeightKernelIdeal
    ∧ algebraic_LatentWeightKernelIdeal_LatentWeightReferenceIdeal (hLatentWeightKernelIdeal := hLatentWeightKernelIdeal) (hLatentWeightReferenceIdeal := hLatentWeightReferenceIdeal)
    ∧ preserves_NopeWeightKernel_NopeWeightKernelIdeal
    ∧ algebraic_NopeWeightKernelIdeal_NopeWeightReferenceIdeal (hNopeWeightKernelIdeal := hNopeWeightKernelIdeal) (hNopeWeightReferenceIdeal := hNopeWeightReferenceIdeal)
    ∧ preserves_RopeWeightKernel_RopeWeightKernelIdeal
    ∧ algebraic_RopeWeightKernelIdeal_RopeWeightReferenceIdeal (hRopeWeightKernelIdeal := hRopeWeightKernelIdeal) (hRopeWeightReferenceIdeal := hRopeWeightReferenceIdeal)
    ∧ preserves_KvWeightKernel_KvWeightKernelIdeal
    ∧ algebraic_KvWeightKernelIdeal_KvWeightReferenceIdeal (hKvWeightKernelIdeal := hKvWeightKernelIdeal) (hKvWeightReferenceIdeal := hKvWeightReferenceIdeal)
    ∧ preserves_OutNormKernel_OutNormKernelIdeal
    ∧ algebraic_OutNormKernelIdeal_OutNormReferenceIdeal (hOutNormKernelIdeal := hOutNormKernelIdeal) (hOutNormReferenceIdeal := hOutNormReferenceIdeal)
    ∧ preserves_OutBackKernel_OutBackKernelIdeal
    ∧ algebraic_OutBackKernelIdeal_OutBackReferenceIdeal_pre_finite_out (hOutBackKernelIdeal := hOutBackKernelIdeal) (hOutBackReferenceIdeal := hOutBackReferenceIdeal) (hPre_finite_out := hPre_finite_out)
-- ==== Pre_finite.lean ====
abbrev S8192x768 : Shape := ⟨2, ![8192, 768]⟩
abbrev S8192x1024 : Shape := ⟨2, ![8192, 1024]⟩
abbrev S8192x128 : Shape := ⟨2, ![8192, 128]⟩
abbrev S8192x512 : Shape := ⟨2, ![8192, 512]⟩
abbrev S_ : Shape := ⟨0, ![]⟩

class Facts : Prop where
  bitsLt_bf16_f32 : FTy.bits .bf16 < FTy.bits .f32
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x128 : S_.BroadcastsInDim S8192x128 (![] : Fin 0 → Fin S8192x128.rank)
  reducesTo_S8192x128_S_d0_1 : S8192x128.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v16 : IVec S_ 1) (main_v17 : FVec F S8192x512 .f32) : IVec S_ 1 :=
  let main_v18 : FVec F S8192x512 .f32 := Host.absf main_v17
  let main_cst_4 : FVec F S_ .f32 := constant S_ .f32 0x7F800000#32
  let main_v19 : FVec F S8192x512 .f32 := broadcastInDim S8192x512 ![] bcast_S_S8192x512 main_cst_4
  let main_v20 : IVec S8192x512 1 := cmpf .olt main_v18 main_v19
  let main_c_5 : IVec S_ 1 := constantI S_ 1 1#1
  let main_v21 : IVec S_ 1 := (fun x v => Host.reduce IntOp.andi x v reducesTo_S8192x512_S_d0_1 h_S_) main_v20 main_c_5
  let main_v22 : IVec S_ 1 := andi main_v16 main_v21
  main_v22

def fn {F : FTy → Type} [FloatOps F] (main_arg0 : FVec F S8192x768 .bf16) (main_arg1 : FVec F S8192x1024 .bf16) (main_arg2 : FVec F S8192x128 .bf16) (main_arg3 : FVec F S8192x512 .bf16) : IVec S_ 1 :=
  let main_v0 : FVec F S8192x768 .f32 := (extf .f32 · bitsLt_bf16_f32) main_arg0
  let main_v1 : FVec F S8192x768 .f32 := Host.absf main_v0
  let main_cst : FVec F S_ .f32 := constant S_ .f32 0x7F800000#32
  let main_v2 : FVec F S8192x768 .f32 := broadcastInDim S8192x768 ![] bcast_S_S8192x768 main_cst
  let main_v3 : IVec S8192x768 1 := cmpf .olt main_v1 main_v2
  let main_c : IVec S_ 1 := constantI S_ 1 1#1
  let main_v4 : IVec S_ 1 := (fun x v => Host.reduce IntOp.andi x v reducesTo_S8192x768_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x128 .f32 := (extf .f32 · bitsLt_bf16_f32) main_arg2
  let main_v12 : FVec F S8192x128 .f32 := Host.absf main_v11
  let main_cst_2 : FVec F S_ .f32 := constant S_ .f32 0x7F800000#32
  let main_v13 : FVec F S8192x128 .f32 := broadcastInDim S8192x128 ![] bcast_S_S8192x128 main_cst_2
  let main_v14 : IVec S8192x128 1 := cmpf .olt main_v12 main_v13
  let main_c_3 : IVec S_ 1 := constantI S_ 1 1#1
  let main_v15 : IVec S_ 1 := (fun x v => Host.reduce IntOp.andi x v reducesTo_S8192x128_S_d0_1 h_S_) main_v14 main_c_3
  let main_v16 : IVec S_ 1 := andi main_v10 main_v15
  let main_v17 : FVec F S8192x512 .f32 := (extf .f32 · bitsLt_bf16_f32) main_arg3
  fn_part1 (F := F) main_v16 main_v17
-- ==== Pre_finite_down.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v16 : IVec S_ 1) (main_v17 : FVec F S8192x2816 .f32) : IVec S_ 1 :=
  let main_v18 : FVec F S8192x2816 .f32 := Host.absf main_v17
  let main_cst_4 : FVec F S_ .f32 := constant S_ .f32 0x7F800000#32
  let main_v19 : FVec F S8192x2816 .f32 := broadcastInDim S8192x2816 ![] bcast_S_S8192x2816 main_cst_4
  let main_v20 : IVec S8192x2816 1 := cmpf .olt main_v18 main_v19
  let main_c_5 : IVec S_ 1 := constantI S_ 1 1#1
  let main_v21 : IVec S_ 1 := (fun x v => Host.reduce IntOp.andi x v reducesTo_S8192x2816_S_d0_1 h_S_) main_v20 main_c_5
  let main_v22 : IVec S_ 1 := andi main_v16 main_v21
  main_v22

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := (extf .f32 · bitsLt_bf16_f32) main_arg2
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  let main_c_3 : IVec S_ 1 := constantI S_ 1 1#1
  let main_v15 : IVec S_ 1 := (fun x v => Host.reduce IntOp.andi x v reducesTo_S8192x2816_S_d0_1 h_S_) main_v14 main_c_3
  let main_v16 : IVec S_ 1 := andi main_v10 main_v15
  let main_v17 : FVec F S8192x2816 .f32 := (extf .f32 · bitsLt_bf16_f32) main_arg3
  fn_part1 (F := F) main_v16 main_v17
-- ==== Pre_finite_out.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x512 : S_.BroadcastsInDim S8192x512 (![] : Fin 0 → Fin S8192x512.rank)
  reducesTo_S8192x512_S_d0_1 : S8192x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_v15 : IVec S_ 1) (main_v16 : FVec F S8192x512 .f32) (main_cst_4 : FVec F S_ .f32) : IVec S_ 1 :=
  let main_v17 : FVec F S8192x512 .f32 := broadcastInDim S8192x512 ![] bcast_S_S8192x512 main_cst_4
  let main_v18 : IVec S8192x512 1 := cmpf .olt main_v16 main_v17
  let main_c_5 : IVec S_ 1 := constantI S_ 1 1#1
  let main_v19 : IVec S_ 1 := (fun x v => Host.reduce IntOp.andi x v reducesTo_S8192x512_S_d0_1 h_S_) main_v18 main_c_5
  let main_v20 : IVec S_ 1 := andi main_v15 main_v19
  let main_v21 : FVec F S1x512 .f32 := Host.absf main_arg4
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_c_7 : IVec S_ 1 := constantI S_ 1 1#1
  let main_v24 : IVec S_ 1 := (fun x v => Host.reduce IntOp.andi x v reducesTo_S1x512_S_d0_1 h_S_) main_v23 main_c_7
  let main_v25 : IVec S_ 1 := andi main_v20 main_v24
  let main_v26 : FVec F S1x512 .f32 := Host.absf main_arg5
  let main_cst_8 : FVec F S_ .f32 := constant S_ .f32 0x7F800000#32
  let main_v27 : FVec F S1x512 .f32 := broadcastInDim S1x512 ![] bcast_S_S1x512 main_cst_8
  let main_v28 : IVec S1x512 1 := cmpf .olt main_v26 main_v27
  let main_c_9 : IVec S_ 1 := constantI S_ 1 1#1
  let main_v29 : IVec S_ 1 := (fun x v => Host.reduce IntOp.andi x v reducesTo_S1x512_S_d0_1 h_S_) main_v28 main_c_9
  let main_v30 : IVec S_ 1 := andi main_v25 main_v29
  main_v30

def fn {F : FTy → Type} [FloatOps F] (main_arg0 : FVec F S8192x1024 .bf16) (main_arg1 : FVec F S1024x1024 .bf16) (main_arg2 : FVec F S8192x512 .f32) (main_arg3 : FVec F S8192x512 .f32) (main_arg4 : FVec F S1x512 .f32) (main_arg5 : FVec F S1x512 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S8192x512 .f32 := Host.absf main_arg2
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_c_3 : IVec S_ 1 := constantI S_ 1 1#1
  let main_v14 : IVec S_ 1 := (fun x v => Host.reduce IntOp.andi x v reducesTo_S8192x512_S_d0_1 h_S_) main_v13 main_c_3
  let main_v15 : IVec S_ 1 := andi main_v10 main_v14
  let main_v16 : FVec F S8192x512 .f32 := Host.absf main_arg3
  let main_cst_4 : FVec F S_ .f32 := constant S_ .f32 0x7F800000#32
  fn_part1 (F := F) main_arg4 main_arg5 main_v15 main_v16 main_cst_4
-- ==== Pre_finite_up.lean ====
abbrev S8192x1024 : Shape := ⟨2, ![8192, 1024]⟩
abbrev S2816x1024 : Shape := ⟨2, ![2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S8192x1024 .bf16) (main_arg1 : FVec F S2816x1024 .bf16) (main_arg2 : FVec F S2816x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2816x1024 .f32 := (extf .f32 · bitsLt_bf16_f32) main_arg2
  let main_v12 : FVec F S2816x1024 .f32 := Host.absf main_v11
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  let main_c_3 : IVec S_ 1 := constantI S_ 1 1#1
  let main_v15 : IVec S_ 1 := (fun x v => Host.reduce IntOp.andi x v reducesTo_S2816x1024_S_d0_1 h_S_) main_v14 main_c_3
  let main_v16 : IVec S_ 1 := andi main_v10 main_v15
  main_v16
-- ==== Kernel.lean ====
abbrev S8192x768 : Shape := ⟨2, ![8192, 768]⟩
abbrev S8192x1024 : Shape := ⟨2, ![8192, 1024]⟩
abbrev S8192x128 : Shape := ⟨2, ![8192, 128]⟩
abbrev S8192x512 : Shape := ⟨2, ![8192, 512]⟩
abbrev S8192x256 : Shape := ⟨2, ![8192, 256]⟩
abbrev S4x2048x8x64 : Shape := ⟨4, ![4, 2048, 8, 64]⟩
abbrev S4x8x2048x64 : Shape := ⟨4, ![4, 8, 2048, 64]⟩
abbrev S4x2048x2x2x4x16 : Shape := ⟨6, ![4, 2048, 2, 2, 4, 16]⟩
abbrev S4x2x4x2048x2x16 : Shape := ⟨6, ![4, 2, 4, 2048, 2, 16]⟩
abbrev S4x8x2048x2x16 : Shape := ⟨5, ![4, 8, 2048, 2, 16]⟩
abbrev S4x2048x2x4x16 : Shape := ⟨5, ![4, 2048, 2, 4, 16]⟩
abbrev S4x4x2048x2x16 : Shape := ⟨5, ![4, 4, 2048, 2, 16]⟩
abbrev S4x2048x4x2x2x64 : Shape := ⟨6, ![4, 2048, 4, 2, 2, 64]⟩
abbrev S2x4x4x2x2048x64 : Shape := ⟨6, ![2, 4, 4, 2, 2048, 64]⟩
abbrev S2x4x8x2048x64 : Shape := ⟨5, ![2, 4, 8, 2048, 64]⟩
abbrev S1x4x8x2048x64 : Shape := ⟨5, ![1, 4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S32x1x2048 : Shape := ⟨3, ![32, 1, 2048]⟩
abbrev S2048x128 : Shape := ⟨2, ![2048, 128]⟩
abbrev S2048x256 : Shape := ⟨2, ![2048, 256]⟩
abbrev S2x1x2048 : Shape := ⟨3, ![2, 1, 2048]⟩
abbrev S256x256 : Shape := ⟨2, ![256, 256]⟩
abbrev S1x128 : Shape := ⟨2, ![1, 128]⟩
abbrev S256x128 : Shape := ⟨2, ![256, 128]⟩
abbrev S1x1x256 : Shape := ⟨3, ![1, 1, 256]⟩
abbrev S1x256 : Shape := ⟨2, ![1, 256]⟩
abbrev S512x256 : Shape := ⟨2, ![512, 256]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 68
  | .vmem => 24
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S8192x128, .bf16⟩
  | .hbm, ⟨3, _⟩ => ⟨S8192x512, .bf16⟩
  | .hbm, ⟨4, _⟩ => ⟨S8192x512, .bf16⟩
  | .hbm, ⟨5, _⟩ => ⟨S8192x512, .f32⟩
  | .hbm, ⟨6, _⟩ => ⟨S8192x256, .bf16⟩
  | .hbm, ⟨7, _⟩ => ⟨S8192x256, .f32⟩
  | .hbm, ⟨8, _⟩ => ⟨S8192x1024, .f32⟩
  | .hbm, ⟨9, _⟩ => ⟨S8192x128, .f32⟩
  | .hbm, ⟨10, _⟩ => ⟨S4x2048x8x64, .f32⟩
  | .hbm, ⟨11, _⟩ => ⟨S4x8x2048x64, .f32⟩
  | .hbm, ⟨12, _⟩ => ⟨S4x2048x2x2x4x16, .f32⟩
  | .hbm, ⟨13, _⟩ => ⟨S4x2x4x2048x2x16, .f32⟩
  | .hbm, ⟨14, _⟩ => ⟨S4x8x2048x2x16, .f32⟩
  | .hbm, ⟨15, _⟩ => ⟨S4x2048x2x4x16, .f32⟩
  | .hbm, ⟨16, _⟩ => ⟨S4x4x2048x2x16, .f32⟩
  | .hbm, ⟨17, _⟩ => ⟨S4x2048x4x2x2x64, .f32⟩
  | .hbm, ⟨18, _⟩ => ⟨S2x4x4x2x2048x64, .f32⟩
  | .hbm, ⟨19, _⟩ => ⟨S2x4x8x2048x64, .f32⟩
  | .hbm, ⟨20, _⟩ => ⟨S1x4x8x2048x64, .f32⟩
  | .hbm, ⟨21, _⟩ => ⟨S4x8x2048x64, .f32⟩
  | .hbm, ⟨22, _⟩ => ⟨S4x8x2048x2x16, .f32⟩
  | .hbm, ⟨23, _⟩ => ⟨S1x4x8x2048x64, .f32⟩
  | .hbm, ⟨24, _⟩ => ⟨S4x8x2048x64, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .f32⟩
  | .hbm, ⟨28, _⟩ => ⟨S_, .f32⟩
  | .hbm, ⟨29, _⟩ => ⟨S4x8x2048x2048, .f32⟩
  | .hbm, ⟨30, _⟩ => ⟨S4x8x2048x2048, .f32⟩
  | .hbm, ⟨31, _⟩ => ⟨S2048, .i32⟩
  | .hbm, ⟨32, _⟩ => ⟨S1x2048, .i32⟩
  | .hbm, ⟨33, _⟩ => ⟨S2048x1, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S_, .f32⟩
  | .hbm, ⟨38, _⟩ => ⟨S_, .f32⟩
  | .hbm, ⟨39, _⟩ => ⟨S4x8x2048x2048, .i1⟩
  | .hbm, ⟨40, _⟩ => ⟨S4x8x2048x2048, .f32⟩
  | .hbm, ⟨41, _⟩ => ⟨S4x8x2048x2048, .f32⟩
  | .hbm, ⟨42, _⟩ => ⟨S_, .f32⟩
  | .hbm, ⟨43, _⟩ => ⟨S4x8x2048, .f32⟩
  | .hbm, ⟨44, _⟩ => ⟨S4x8x2048x1, .f32⟩
  | .hbm, ⟨45, _⟩ => ⟨S4x8x2048x2048, .f32⟩
  | .hbm, ⟨46, _⟩ => ⟨S4x8x2048x2048, .f32⟩
  | .hbm, ⟨47, _⟩ => ⟨S4x8x2048x2048, .f32⟩
  | .hbm, ⟨48, _⟩ => ⟨S_, .f32⟩
  | .hbm, ⟨49, _⟩ => ⟨S4x8x2048, .f32⟩
  | .hbm, ⟨50, _⟩ => ⟨S4x8x2048x1, .f32⟩
  | .hbm, ⟨51, _⟩ => ⟨S4x8x2048x1, .f32⟩
  | .hbm, ⟨52, _⟩ => ⟨S4x8x2048x1, .f32⟩
  | .hbm, ⟨53, _⟩ => ⟨S32x1x2048, .f32⟩
  | .hbm, ⟨54, _⟩ => ⟨S4x8x2048x2048, .f32⟩
  | .hbm, ⟨55, _⟩ => ⟨S4x8x2048x2048, .f32⟩
  | .hbm, ⟨56, _⟩ => ⟨S4x8x2048x64, .f32⟩
  | .hbm, ⟨57, _⟩ => ⟨S8192x512, .f32⟩
  | .hbm, ⟨58, _⟩ => ⟨S4x2048x8x64, .f32⟩
  | .hbm, ⟨59, _⟩ => ⟨S4x8x2048x64, .f32⟩
  | .hbm, ⟨60, _⟩ => ⟨S4x8x2048x64, .f32⟩
  | .hbm, ⟨61, _⟩ => ⟨S_, .f32⟩
  | .hbm, ⟨62, _⟩ => ⟨S4x8x2048, .f32⟩
  | .hbm, ⟨63, _⟩ => ⟨S32x1x2048, .f32⟩
  | .hbm, ⟨64, _⟩ => ⟨S8192x512, .bf16⟩
  | .hbm, ⟨65, _⟩ => ⟨S8192x1024, .bf16⟩
  | .hbm, ⟨66, _⟩ => ⟨S8192x256, .f32⟩
  | .hbm, ⟨67, _⟩ => ⟨S8192x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2x1x2048, .f32⟩
  | .local _ .vmem, ⟨11, _⟩ => ⟨S2x1x2048, .f32⟩
  | .local _ .vmem, ⟨12, _⟩ => ⟨S2x1x2048, .f32⟩
  | .local _ .vmem, ⟨13, _⟩ => ⟨S2x1x2048, .f32⟩
  | .local _ .vmem, ⟨14, _⟩ => ⟨S2048x128, .bf16⟩
  | .local _ .vmem, ⟨15, _⟩ => ⟨S2048x128, .bf16⟩
  | .local _ .vmem, ⟨16, _⟩ => ⟨S2048x256, .bf16⟩
  | .local _ .vmem, ⟨17, _⟩ => ⟨S2048x256, .bf16⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x256, .f32⟩
  | .local _ .vmem, ⟨23, _⟩ => ⟨S2048x256, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_v52_0 : Ref sig .tc := ⟨.hbm, 64, rfl⟩
abbrev main_v52_1 : Ref sig .tc := ⟨.hbm, 65, rfl⟩
abbrev main_v52_2 : Ref sig .tc := ⟨.hbm, 66, rfl⟩
abbrev main_v52_3 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  ![arg0.toNat, v17.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x768 : Shape := ⟨2, ![8192, 768]⟩
abbrev S8192x1024 : Shape := ⟨2, ![8192, 1024]⟩
abbrev S8192x128 : Shape := ⟨2, ![8192, 128]⟩
abbrev S8192x512 : Shape := ⟨2, ![8192, 512]⟩
abbrev S8192x256 : Shape := ⟨2, ![8192, 256]⟩
abbrev S4x2048x8x64 : Shape := ⟨4, ![4, 2048, 8, 64]⟩
abbrev S4x8x2048x64 : Shape := ⟨4, ![4, 8, 2048, 64]⟩
abbrev S4x2048x2x2x4x16 : Shape := ⟨6, ![4, 2048, 2, 2, 4, 16]⟩
abbrev S4x2x4x2048x2x16 : Shape := ⟨6, ![4, 2, 4, 2048, 2, 16]⟩
abbrev S4x8x2048x2x16 : Shape := ⟨5, ![4, 8, 2048, 2, 16]⟩
abbrev S4x2048x2x4x16 : Shape := ⟨5, ![4, 2048, 2, 4, 16]⟩
abbrev S4x4x2048x2x16 : Shape := ⟨5, ![4, 4, 2048, 2, 16]⟩
abbrev S4x2048x4x2x2x64 : Shape := ⟨6, ![4, 2048, 4, 2, 2, 64]⟩
abbrev S2x4x4x2x2048x64 : Shape := ⟨6, ![2, 4, 4, 2, 2048, 64]⟩
abbrev S2x4x8x2048x64 : Shape := ⟨5, ![2, 4, 8, 2048, 64]⟩
abbrev S1x4x8x2048x64 : Shape := ⟨5, ![1, 4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩

abbrev nBuf : Space → Nat
  | .hbm => 137
  | .vmem => 0
  | .smem => 0
  | _ => 0

abbrev hbmTy0_0 (i : Nat) : BufTy := match i % 128 with
  | 0 => ⟨S8192x768, .bf16⟩
  | 1 => ⟨S8192x1024, .bf16⟩
  | 2 => ⟨S8192x128, .bf16⟩
  | 3 => ⟨S8192x512, .bf16⟩
  | 4 => ⟨S8192x512, .bf16⟩
  | 5 => ⟨S8192x512, .f32⟩
  | 6 => ⟨S8192x256, .bf16⟩
  | 7 => ⟨S8192x256, .f32⟩
  | 8 => ⟨S8192x1024, .f32⟩
  | 9 => ⟨S8192x128, .f32⟩
  | 10 => ⟨S4x2048x8x64, .f32⟩
  | 11 => ⟨S4x8x2048x64, .f32⟩
  | 12 => ⟨S4x2048x2x2x4x16, .f32⟩
  | 13 => ⟨S4x2x4x2048x2x16, .f32⟩
  | 14 => ⟨S4x8x2048x2x16, .f32⟩
  | 15 => ⟨S4x2048x2x4x16, .f32⟩
  | 16 => ⟨S4x4x2048x2x16, .f32⟩
  | 17 => ⟨S4x2048x4x2x2x64, .f32⟩
  | 18 => ⟨S2x4x4x2x2048x64, .f32⟩
  | 19 => ⟨S2x4x8x2048x64, .f32⟩
  | 20 => ⟨S1x4x8x2048x64, .f32⟩
  | 21 => ⟨S4x8x2048x64, .f32⟩
  | 22 => ⟨S4x8x2048x2x16, .f32⟩
  | 23 => ⟨S1x4x8x2048x64, .f32⟩
  | 24 => ⟨S4x8x2048x64, .f32⟩
  | 25 => ⟨S4x8x2048x2048, .f32⟩
  | 26 => ⟨S4x8x2048x2048, .f32⟩
  | 27 => ⟨S4x8x2048x2048, .f32⟩
  | 28 => ⟨S_, .f32⟩
  | 29 => ⟨S4x8x2048x2048, .f32⟩
  | 30 => ⟨S4x8x2048x2048, .f32⟩
  | 31 => ⟨S2048, .i32⟩
  | 32 => ⟨S1x2048, .i32⟩
  | 33 => ⟨S2048x1, .i32⟩
  | 34 => ⟨S2048x2048, .i32⟩
  | 35 => ⟨S2048x2048, .i32⟩
  | 36 => ⟨S2048x2048, .i1⟩
  | 37 => ⟨S_, .f32⟩
  | 38 => ⟨S_, .f32⟩
  | 39 => ⟨S4x8x2048x2048, .i1⟩
  | 40 => ⟨S4x8x2048x2048, .f32⟩
  | 41 => ⟨S4x8x2048x2048, .f32⟩
  | 42 => ⟨S_, .f32⟩
  | 43 => ⟨S4x8x2048x2048, .f32⟩
  | 44 => ⟨S_, .f32⟩
  | 45 => ⟨S4x8x2048, .f32⟩
  | 46 => ⟨S4x8x2048x1, .f32⟩
  | 47 => ⟨S4x8x2048x2048, .f32⟩
  | 48 => ⟨S4x8x2048x2048, .i1⟩
  | 49 => ⟨S4x8x2048x2048, .f32⟩
  | 50 => ⟨S_, .f32⟩
  | 51 => ⟨S4x8x2048, .f32⟩
  | 52 => ⟨S_, .f32⟩
  | 53 => ⟨S4x8x2048, .f32⟩
  | 54 => ⟨S4x8x2048, .f32⟩
  | 55 => ⟨S_, .f32⟩
  | 56 => ⟨S4x8x2048, .f32⟩
  | 57 => ⟨S4x8x2048, .i1⟩
  | 58 => ⟨S_, .f32⟩
  | 59 => ⟨S4x8x2048, .f32⟩
  | 60 => ⟨S4x8x2048, .i1⟩
  | 61 => ⟨S_, .f32⟩
  | 62 => ⟨S4x8x2048, .f32⟩
  | 63 => ⟨S_, .f32⟩
  | 64 => ⟨S4x8x2048, .f32⟩
  | 65 => ⟨S_, .f32⟩
  | 66 => ⟨S4x8x2048, .f32⟩
  | 67 => ⟨S4x8x2048, .f32⟩
  | 68 => ⟨S4x8x2048, .f32⟩
  | 69 => ⟨S4x8x2048x1, .f32⟩
  | 70 => ⟨S4x8x2048x2048, .f32⟩
  | 71 => ⟨S4x8x2048x2048, .f32⟩
  | 72 => ⟨S4x8x2048x2048, .f32⟩
  | 73 => ⟨S_, .f32⟩
  | 74 => ⟨S4x8x2048, .f32⟩
  | 75 => ⟨S4x8x2048x1, .f32⟩
  | 76 => ⟨S4x8x2048x2048, .f32⟩
  | 77 => ⟨S4x8x2048x2048, .f32⟩
  | 78 => ⟨S4x8x2048x1, .f32⟩
  | 79 => ⟨S_, .f32⟩
  | 80 => ⟨S4x8x2048x1, .f32⟩
  | 81 => ⟨S4x8x2048x1, .f32⟩
  | 82 => ⟨S4x8x2048x64, .f32⟩
  | 83 => ⟨S4x2048x8x64, .f32⟩
  | 84 => ⟨S8192x512, .f32⟩
  | 85 => ⟨S8192x512, .f32⟩
  | 86 => ⟨S4x2048x8x64, .f32⟩
  | 87 => ⟨S4x8x2048x64, .f32⟩
  | 88 => ⟨S4x8x64x2048, .f32⟩
  | 89 => ⟨S4x8x2048x64, .f32⟩
  | 90 => ⟨S4x8x2048x2048, .f32⟩
  | 91 => ⟨S4x8x2048x2048, .f32⟩
  | 92 => ⟨S4x8x2048x2048, .f32⟩
  | 93 => ⟨S4x8x2048x2048, .f32⟩
  | 94 => ⟨S_, .f32⟩
  | 95 => ⟨S4x8x2048, .f32⟩
  | 96 => ⟨S4x8x2048x1, .f32⟩
  | 97 => ⟨S4x8x2048x1, .f32⟩
  | 98 => ⟨S4x8x2048x2048, .f32⟩
  | 99 => ⟨S4x8x2048x2048, .f32⟩
  | 100 => ⟨S_, .f32⟩
  | 101 => ⟨S4x8x2048, .f32⟩
  | 102 => ⟨S4x8x2048x2048, .f32⟩
  | 103 => ⟨S4x8x2048x2048, .f32⟩
  | 104 => ⟨S4x8x2048x2048, .f32⟩
  | 105 => ⟨S_, .f32⟩
  | 106 => ⟨S4x8x2048x2048, .f32⟩
  | 107 => ⟨S4x8x2048x2048, .f32⟩
  | 108 => ⟨S_, .f32⟩
  | 109 => ⟨S4x8x2048x2048, .f32⟩
  | 110 => ⟨S4x8x2048x2048, .f32⟩
  | 111 => ⟨S4x8x2048x2x16, .f32⟩
  | 112 => ⟨S4x8x2048x2x16, .f32⟩
  | 113 => ⟨S4x8x2048x64, .f32⟩
  | 114 => ⟨S4x8x2048x64, .f32⟩
  | 115 => ⟨S1x4x8x2048x64, .f32⟩
  | 116 => ⟨S_, .f32⟩
  | 117 => ⟨S2x4x8x2048x64, .f32⟩
  | 118 => ⟨S4x4x2048x2x16, .f32⟩
  | 119 => ⟨S4x4x2048x2x16, .f32⟩
  | 120 => ⟨S4x4x2048x2x16, .f32⟩
  | 121 => ⟨S1x4x8x2048x64, .f32⟩
  | 122 => ⟨S_, .f32⟩
  | 123 => ⟨S2x4x8x2048x64, .f32⟩
  | 124 => ⟨S2x4x8x2048x64, .f32⟩
  | 125 => ⟨S2x4x4x2x2048x64, .f32⟩
  | 126 => ⟨S4x2048x4x2x2x64, .f32⟩
  | 127 => ⟨S8192x1024, .f32⟩
  | _ => ⟨S8192x768, .bf16⟩

abbrev hbmTy0_1 (i : Nat) : BufTy := match i % 128 with
  | 0 => ⟨S4x2048x2x4x16, .f32⟩
  | 1 => ⟨S8192x128, .f32⟩
  | 2 => ⟨S4x2x4x2048x2x16, .f32⟩
  | 3 => ⟨S4x2048x2x2x4x16, .f32⟩
  | 4 => ⟨S8192x256, .f32⟩
  | 5 => ⟨S4x2048x8x64, .f32⟩
  | 6 => ⟨S8192x512, .f32⟩
  | 7 => ⟨S8192x512, .bf16⟩
  | 8 => ⟨S8192x1024, .bf16⟩
  | _ => ⟨S8192x768, .bf16⟩

abbrev hbmTy (i : Nat) : BufTy := match i / 128 with
  | 0 => hbmTy0_0 i
  | 1 => hbmTy0_1 i
  | _ => ⟨S8192x768, .bf16⟩

abbrev bufTy : (tb : Table) → Fin (tcTables nBuf tb) → BufTy
  | .hbm, ⟨i, _⟩ => hbmTy i
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_call0_v0 : Ref sig .tc := ⟨.hbm, 38, rfl⟩
abbrev main_v32_1 : Ref sig .tc := ⟨.hbm, 39, rfl⟩
abbrev main_call0_v2 : Ref sig .tc := ⟨.hbm, 40, rfl⟩
abbrev main_v32_0 : Ref sig .tc := ⟨.hbm, 41, rfl⟩
abbrev main_call0_cst : Ref sig .tc := ⟨.hbm, 42, rfl⟩
abbrev main_v32_2 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_12 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_call1_cst : Ref sig .tc := ⟨.hbm, 105, rfl⟩
abbrev main_call1_v0 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩

abbrev nD : Nat := 1
abbrev τ : Topo := Topo.v7x

variable {F : FTy → Type} [FloatOps F]
-- ==== UpKernel.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S2816x1024, .f32⟩
  | .hbm, ⟨9, _⟩ => ⟨S1024x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .bf16⟩
  | .hbm, ⟨34, _⟩ => ⟨S8192x2816, .bf16⟩
  | .hbm, ⟨35, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== DownKernel.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 32
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | .hbm, ⟨29, _⟩ => ⟨S8192x2816, .bf16⟩
  | .hbm, ⟨30, _⟩ => ⟨S8192x2816, .bf16⟩
  | .hbm, ⟨31, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== WeightKernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== NormKernel.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S2816x1024, .f32⟩
  | .hbm, ⟨27, _⟩ => ⟨S1024x2816, .f32⟩
  | .hbm, ⟨28, _⟩ => ⟨S8192x2816, .f32⟩
  | .hbm, ⟨29, _⟩ => ⟨S2816x1024, .f32⟩
  | .hbm, ⟨30, _⟩ => ⟨S1024x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== GateWeightKernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWeightReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpWeightKernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWeightReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InWeightKernel.lean ====
abbrev S8192x1536 : Shape := ⟨2, ![8192, 1536]⟩
abbrev S8192x1024 : Shape := ⟨2, ![8192, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightReferenceIdeal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S_, .f32⟩
  | .hbm, ⟨3, _⟩ => ⟨S1536x1024, .f32⟩
  | .hbm, ⟨4, _⟩ => ⟨S8192x1024, .f32⟩
  | .hbm, ⟨5, _⟩ => ⟨S1024x1536, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S1536x1024, .f32⟩
  | .hbm, ⟨11, _⟩ => ⟨S1536x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutWeightKernel.lean ====
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InKernel.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8192x1024 : Shape := ⟨2, ![8192, 1024]⟩
abbrev S1536x1024 : Shape := ⟨2, ![1536, 1024]⟩
abbrev S1024x1536 : Shape := ⟨2, ![1024, 1536]⟩
abbrev S8192x1536 : Shape := ⟨2, ![8192, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1024, .f32⟩
  | .hbm, ⟨3, _⟩ => ⟨S1536x1024, .f32⟩
  | .hbm, ⟨4, _⟩ => ⟨S1024x1536, .f32⟩
  | .hbm, ⟨5, _⟩ => ⟨S8192x1536, .f32⟩
  | .hbm, ⟨6, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== LossKernel.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | .hbm, ⟨75, _⟩ => ⟨S1x1, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== LatentKernel.lean ====
abbrev S8192x1024 : Shape := ⟨2, ![8192, 1024]⟩
abbrev S640x1024 : Shape := ⟨2, ![640, 1024]⟩
abbrev S8192x640 : Shape := ⟨2, ![8192, 640]⟩
abbrev S1024x1024 : Shape := ⟨2, ![1024, 1024]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S640x1024, .bf16⟩
  | .hbm, ⟨2, _⟩ => ⟨S8192x640, .f32⟩
  | .local _ .vmem, ⟨0, _⟩ => ⟨S1024x1024, .bf16⟩
  | .local _ .vmem, ⟨1, _⟩ => ⟨S1024x1024, .bf16⟩
  | .local _ .vmem, ⟨2, _⟩ => ⟨S640x1024, .bf16⟩
  | .local _ .vmem, ⟨3, _⟩ => ⟨S1024x640, .f32⟩
  | .local _ .vmem, ⟨4, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S640x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentReferenceIdeal.lean ====
abbrev S8192x1024 : Shape := ⟨2, ![8192, 1024]⟩
abbrev S640x1024 : Shape := ⟨2, ![640, 1024]⟩
abbrev S1024x640 : Shape := ⟨2, ![1024, 640]⟩
abbrev S8192x640 : Shape := ⟨2, ![8192, 640]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S640x1024, .bf16⟩
  | .hbm, ⟨2, _⟩ => ⟨S8192x1024, .f32⟩
  | .hbm, ⟨3, _⟩ => ⟨S640x1024, .f32⟩
  | .hbm, ⟨4, _⟩ => ⟨S1024x640, .f32⟩
  | .hbm, ⟨5, _⟩ => ⟨S8192x640, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LatentWeightKernel.lean ====
abbrev S8192x640 : Shape := ⟨2, ![8192, 640]⟩
abbrev S8192x1024 : Shape := ⟨2, ![8192, 1024]⟩
abbrev S640x1024 : Shape := ⟨2, ![640, 1024]⟩
abbrev S1024x640 : Shape := ⟨2, ![1024, 640]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x640, .bf16⟩
  | .hbm, ⟨1, _⟩ => ⟨S8192x1024, .bf16⟩
  | .hbm, ⟨2, _⟩ => ⟨S640x1024, .f32⟩
  | .local _ .vmem, ⟨0, _⟩ => ⟨S1024x640, .bf16⟩
  | .local _ .vmem, ⟨1, _⟩ => ⟨S1024x640, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .f32⟩
  | .local _ .vmem, ⟨5, _⟩ => ⟨S640x1024, .f32⟩
  | _, _ => ⟨S8192x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S640x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LatentWeightReferenceIdeal.lean ====
abbrev S8192x640 : Shape := ⟨2, ![8192, 640]⟩
abbrev S8192x1024 : Shape := ⟨2, ![8192, 1024]⟩
abbrev S_ : Shape := ⟨0, ![]⟩
abbrev S640x1024 : Shape := ⟨2, ![640, 1024]⟩
abbrev S1024x640 : Shape := ⟨2, ![1024, 640]⟩

abbrev nBuf : Space → Nat
  | .hbm => 11
  | .vmem => 0
  | .smem => 0
  | _ => 0

abbrev bufTy : (tb : Table) → Fin (tcTables nBuf tb) → BufTy
  | .hbm, ⟨0, _⟩ => ⟨S8192x640, .bf16⟩
  | .hbm, ⟨1, _⟩ => ⟨S8192x1024, .bf16⟩
  | .hbm, ⟨2, _⟩ => ⟨S_, .f32⟩
  | .hbm, ⟨3, _⟩ => ⟨S640x1024, .f32⟩
  | .hbm, ⟨4, _⟩ => ⟨S8192x1024, .f32⟩
  | .hbm, ⟨5, _⟩ => ⟨S1024x640, .f32⟩
  | .hbm, ⟨6, _⟩ => ⟨S8192x640, .f32⟩
  | .hbm, ⟨7, _⟩ => ⟨S8192x640, .f32⟩
  | .hbm, ⟨8, _⟩ => ⟨S640x1024, .f32⟩
  | .hbm, ⟨9, _⟩ => ⟨S1024x640, .f32⟩
  | .hbm, ⟨10, _⟩ => ⟨S640x1024, .f32⟩
  | _, _ => ⟨S8192x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== NopeWeightKernel.lean ====
abbrev S8192x512 : Shape := ⟨2, ![8192, 512]⟩
abbrev S8192x256 : Shape := ⟨2, ![8192, 256]⟩
abbrev S512x256 : Shape := ⟨2, ![512, 256]⟩
abbrev S1024x512 : Shape := ⟨2, ![1024, 512]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S512x256, .bf16⟩
  | .local _ .vmem, ⟨5, _⟩ => ⟨S512x256, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== NopeWeightReferenceIdeal.lean ====
abbrev S8192x512 : Shape := ⟨2, ![8192, 512]⟩
abbrev S8192x256 : Shape := ⟨2, ![8192, 256]⟩
abbrev S_ : Shape := ⟨0, ![]⟩
abbrev S512x256 : Shape := ⟨2, ![512, 256]⟩
abbrev S256x512 : Shape := ⟨2, ![256, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S_, .f32⟩
  | .hbm, ⟨3, _⟩ => ⟨S512x256, .f32⟩
  | .hbm, ⟨4, _⟩ => ⟨S8192x256, .f32⟩
  | .hbm, ⟨5, _⟩ => ⟨S256x512, .f32⟩
  | .hbm, ⟨6, _⟩ => ⟨S8192x512, .f32⟩
  | .hbm, ⟨7, _⟩ => ⟨S8192x512, .f32⟩
  | .hbm, ⟨8, _⟩ => ⟨S512x256, .f32⟩
  | .hbm, ⟨9, _⟩ => ⟨S256x512, .f32⟩
  | .hbm, ⟨10, _⟩ => ⟨S512x256, .f32⟩
  | .hbm, ⟨11, _⟩ => ⟨S512x256, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== RopeWeightKernel.lean ====
abbrev S8192x256 : Shape := ⟨2, ![8192, 256]⟩
abbrev S256x256 : Shape := ⟨2, ![256, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S256x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S256x256, .bf16⟩
  | .local _ .vmem, ⟨5, _⟩ => ⟨S256x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RopeWeightReferenceIdeal.lean ====
abbrev S8192x256 : Shape := ⟨2, ![8192, 256]⟩
abbrev S_ : Shape := ⟨0, ![]⟩
abbrev S256x256 : Shape := ⟨2, ![256, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S_, .f32⟩
  | .hbm, ⟨3, _⟩ => ⟨S256x256, .f32⟩
  | .hbm, ⟨4, _⟩ => ⟨S8192x256, .f32⟩
  | .hbm, ⟨5, _⟩ => ⟨S256x256, .f32⟩
  | .hbm, ⟨6, _⟩ => ⟨S8192x256, .f32⟩
  | .hbm, ⟨7, _⟩ => ⟨S8192x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvWeightKernel.lean ====
abbrev S8192x1024 : Shape := ⟨2, ![8192, 1024]⟩
abbrev S8192x128 : Shape := ⟨2, ![8192, 128]⟩
abbrev S1024x128 : Shape := ⟨2, ![1024, 128]⟩
abbrev S1024x512 : Shape := ⟨2, ![1024, 512]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .bf16⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWeightReferenceIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S8192x1024, .f32⟩
  | .hbm, ⟨7, _⟩ => ⟨S8192x1024, .f32⟩
  | .hbm, ⟨8, _⟩ => ⟨S1024x128, .f32⟩
  | .hbm, ⟨9, _⟩ => ⟨S128x1024, .f32⟩
  | .hbm, ⟨10, _⟩ => ⟨S1024x128, .f32⟩
  | .hbm, ⟨11, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutNormKernel.lean ====
abbrev S1024x1024 : Shape := ⟨2, ![1024, 1024]⟩
abbrev S8192x512 : Shape := ⟨2, ![8192, 512]⟩
abbrev S8192x1024 : Shape := ⟨2, ![8192, 1024]⟩
abbrev S1x512 : Shape := ⟨2, ![1, 512]⟩
abbrev S1x1024 : Shape := ⟨2, ![1, 1024]⟩
abbrev S512x512 : Shape := ⟨2, ![512, 512]⟩
abbrev S512x1024 : Shape := ⟨2, ![512, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S1024x1024, .bf16⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .local _ .vmem, ⟨0, _⟩ => ⟨S1024x1024, .bf16⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x1024, .f32⟩
  | .local _ .vmem, ⟨6, _⟩ => ⟨S512x1024, .f32⟩
  | .local _ .vmem, ⟨7, _⟩ => ⟨S1x512, .f32⟩
  | .local _ .vmem, ⟨8, _⟩ => ⟨S1x512, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutNormReferenceIdeal.lean ====
abbrev S1024x1024 : Shape := ⟨2, ![1024, 1024]⟩
abbrev S8192x512 : Shape := ⟨2, ![8192, 512]⟩
abbrev S8192x1024 : Shape := ⟨2, ![8192, 1024]⟩
abbrev S1x512 : Shape := ⟨2, ![1, 512]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== OutBackKernel.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S8192x8 : Shape := ⟨2, ![8192, 8]⟩
abbrev S512x1024 : Shape := ⟨2, ![512, 1024]⟩
abbrev S512x512 : Shape := ⟨2, ![512, 512]⟩
abbrev S512x8 : Shape := ⟨2, ![512, 8]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S512 : Shape := ⟨1, ![512]⟩
abbrev S256x8 : Shape := ⟨2, ![256, 8]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S8192x512, .bf16⟩
  | .hbm, ⟨7, _⟩ => ⟨S8192x512, .bf16⟩
  | .hbm, ⟨8, _⟩ => ⟨S8192x8, .f32⟩
  | .hbm, ⟨9, _⟩ => ⟨S8192x8, .f32⟩
  | .hbm, ⟨10, _⟩ => ⟨S1x512, .f32⟩
  | .hbm, ⟨11, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x8, .f32⟩
  | .local _ .vmem, ⟨14, _⟩ => ⟨S512x8, .f32⟩
  | .local _ .vmem, ⟨15, _⟩ => ⟨S512x8, .f32⟩
  | .local _ .vmem, ⟨16, _⟩ => ⟨S512x8, .f32⟩
  | .local _ .vmem, ⟨17, _⟩ => ⟨S1x512, .f32⟩
  | .local _ .vmem, ⟨18, _⟩ => ⟨S1x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutBackReferenceIdeal.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩
abbrev S8192x8x64 : Shape := ⟨3, ![8192, 8, 64]⟩
abbrev S8192x8 : Shape := ⟨2, ![8192, 8]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x1024, .f32⟩
  | .hbm, ⟨45, _⟩ => ⟨S1024x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x512, .f32⟩
  | .hbm, ⟨62, _⟩ => ⟨S8192x512, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x512, .f32⟩
  | .hbm, ⟨85, _⟩ => ⟨S8192x512, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .bf16⟩
  | .hbm, ⟨98, _⟩ => ⟨S8192x512, .bf16⟩
  | .hbm, ⟨99, _⟩ => ⟨S8192x512, .f32⟩
  | .hbm, ⟨100, _⟩ => ⟨S8192x8x64, .f32⟩
  | .hbm, ⟨101, _⟩ => ⟨S_, .f32⟩
  | .hbm, ⟨102, _⟩ => ⟨S8192x8, .f32⟩
  | .hbm, ⟨103, _⟩ => ⟨S8192x512, .f32⟩
  | .hbm, ⟨104, _⟩ => ⟨S8192x8x64, .f32⟩
  | .hbm, ⟨105, _⟩ => ⟨S_, .f32⟩
  | .hbm, ⟨106, _⟩ => ⟨S8192x8, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_16 : Ref sig .tc := ⟨.hbm, 105, rfl⟩
abbrev main_v82 : Ref sig .tc := ⟨.hbm, 106, rfl⟩

abbrev nD : Nat := 1
abbrev τ : Topo := Topo.v7x

variable {F : FTy → Type} [FloatOps F]
-- ==== Proof.Attn.Vocab.lean ====
/-
  One name for every value of the kernel's body at one grid point, whatever its 28 spans are called in the printed text.
  A grid point is one batch row and one pair of heads. The body walks eight key blocks of 256 keys; for each block and each
  of the two heads it meets the block's own queries (`Span.diag`, where the causal mask is needed) and the later queries
  in spans of 512 or 256 (`Span.off`). A `Un` is one such meeting. The lists below hold what the body stores, last first.
-/
module

public import proofs.«01_k».proof.Proof.Gen.KernelIdeal.Value
public import Idealize.ShloMosaic.Lib.MatmulPlain

@[expose] public section

noncomputable section

namespace Cert.KernelIdeal.Attn

open Cert.KernelIdeal Cert.KernelIdeal.Gen Idealize.ShloMosaic

/-- A rank-two shape. -/
abbrev S2 (a b : Nat) : Shape := ⟨2, ![a, b]⟩
/-- A rank-three shape. -/
abbrev S3 (a b c : Nat) : Shape := ⟨3, ![a, b, c]⟩

theorem inb2 {s t a b c d : Nat} (h : a + b ≤ s) (h' : c + d ≤ t) :
    ∀ x : Fin 2, (![a, c] : Fin 2 → Nat) x + (![b, d] : Fin 2 → Nat) x ≤ (S2 s t).size x :=
  Fin.forall_fin_two.mpr ⟨h, h'⟩

theorem inb3 {a b n : Nat} (h : a + 1 ≤ 2) (h' : b + n ≤ 2048) :
    ∀ x : Fin 3, (![a, 0, b] : Fin 3 → Nat) x + (![1, 1, n] : Fin 3 → Nat) x ≤ (S3 2 1 2048).size x := by
  intro x
  match x with
  | ⟨0, _⟩ => exact h
  | ⟨1, _⟩ => exact Nat.le_refl 1
  | ⟨2, _⟩ => exact h'

/-- Rows `r0` to `r0 + n` and columns `c0` to `c0 + w` of an array. -/
abbrev box {s t : Nat} (r0 n c0 w : Nat) (h : r0 + n ≤ s) (h' : c0 + w ≤ t) : Rect (S2 s t) :=
  Rect.unit (s := S2 s t) ![r0, c0] ![n, w] (inb2 h h')

/-- Entries `q0` to `q0 + n` of head `h`'s row. -/
abbrev rowBox (h q0 n : Nat) (hh : h + 1 ≤ 2) (hq : q0 + n ≤ 2048) : Rect (S3 2 1 2048) :=
  Rect.unit (s := S3 2 1 2048) ![h, 0, q0] ![1, 1, n] (inb3 hh hq)

theorem cast_ok (n : Nat) : (S3 1 1 n).ShapeCasts (S2 1 n) := by
  simp [Shape.ShapeCasts, Shape.numel, Fin.prod_univ_succ]

theorem bcast_ok (m n : Nat) : (S2 1 n).Broadcasts (S2 m n) := by
  refine ⟨Nat.le_refl _, Fin.forall_fin_two.mpr ⟨Or.inl rfl, Or.inr fun _ => rfl⟩⟩

/-- Contraction of both operands' first axes. -/
def tn (K M N : Nat) : DotDims (S2 K M) (S2 K N) (S2 M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {F : FTy → Type} [FloatOps F] [Named F]

/-- What the body reads at one grid point: each memref through a box, the three accumulated buffers through a box over
    the stores made so far, and the pair number `p`. -/
structure In (F : FTy → Type) where
  p : Nat
  q : (r : LoadRect (S2 2048 256)) → Vec F r.shape .bf16
  kv : (r : LoadRect (S2 2048 256)) → Vec F r.shape .bf16
  pe : (r : LoadRect (S2 2048 128)) → Vec F r.shape .bf16
  dout : (r : LoadRect (S2 2048 128)) → Vec F r.shape .bf16
  lse : (r : LoadRect (S3 2 1 2048)) → Vec F r.shape .f32
  dl : (r : LoadRect (S3 2 1 2048)) → Vec F r.shape .f32
  acc : List (View.Piece (Elt F) (S2 2048 256) .f32) → (r : LoadRect (S2 2048 256)) → Vec F r.shape .f32
  okv : List (View.Piece (Elt F) (S2 2048 256) .bf16) → (r : LoadRect (S2 2048 256)) → Vec F r.shape .bf16
  ope0 : List (View.Piece (Elt F) (S2 2048 128) .f32) → (r : LoadRect (S2 2048 128)) → Vec F r.shape .f32
  ope : List (View.Piece (Elt F) (S2 2048 128) .f32) → (r : LoadRect (S2 2048 128)) → Vec F r.shape .f32

/-- The queries that a key block of rows `r0` meets at once. -/
inductive Span where
  | diag
  | off (q0 n : Nat) (h : q0 + n ≤ 2048)

/-- A span's first query. -/
def Span.q0 (r0 : Nat) : Span → Nat
  | .diag => r0
  | .off q0 _ _ => q0
/-- A span's number of queries. -/
def Span.n : Span → Nat
  | .diag => 256
  | .off _ n _ => n

/-- One head of the pair and one block of 256 keys. -/
structure Bl where
  h : Nat
  hh : h + 1 ≤ 2
  r0 : Nat
  hr : r0 + 256 ≤ 2048

theorem Span.le (b : Bl) : ∀ sp : Span, sp.q0 b.r0 + sp.n ≤ 2048
  | .diag => b.hr
  | .off _ _ h => h

/-- The lane numbers 0 to 127. -/
def lanes : IVec (S2 1 128) 32 := iota .tc (S2 1 128) 32 [1] iota_S1x128_d1_w32

/-- Which lanes are head `h`'s. -/
def headM (h : Nat) : IVec (S2 1 128) 1 :=
  cmpi .eq (shrui lanes (broadcast (S2 1 128) 6#32)) (broadcast (S2 1 128) (BitVec.ofNat 32 h))

/-- Which lanes are head `h`'s rotary ones, in pair `p`. -/
def ropeM (p h : Nat) : IVec (S2 1 128) 1 :=
  cmpi .eq (andi (shrui lanes (broadcast (S2 1 128) 4#32)) (broadcast (S2 1 128) 3#32))
    (broadcast (S2 1 128) (Scalar.andi (Scalar.addi (Scalar.muli 2#32 (BitVec.ofNat 32 p)) (BitVec.ofNat 32 h)) 3#32))

/-- A lane mask on every row of a block. -/
def rowsM (m : IVec (S2 1 128) 1) : IVec (S2 256 128) 1 :=
  broadcastTo (S2 256 128) (shapeCast (S2 1 128) m shapeCasts_S1x128_S1x128) (bcast_ok 256 128)

/-- A block with its lanes off the mask zeroed. -/
def keep (m : IVec (S2 1 128) 1) (x : FVec F (S2 256 128) .bf16) : FVec F (S2 256 128) .bf16 :=
  select (rowsM m) x (broadcast (S2 256 128) (Scalar.ofBits .bf16 0x0000#16))

/-- The block's keys of one head: its own lanes, then its rotary ones. -/
def kt (I : In F) (b : Bl) : FVec F (S2 256 256) .bf16 :=
  concatenate (S2 256 256) 1
    [⟨S2 256 128, keep (headM b.h) (I.kv (box b.r0 256 0 128 b.hr (by omega)).toLoadRect)⟩,
     ⟨S2 256 128, keep (ropeM I.p b.h) (I.pe (box b.r0 256 0 128 b.hr (by omega)).toLoadRect)⟩]
    concatenates_S256x128_S256x128_S256x256_d1

/-- The block's values of one head. -/
def vt (I : In F) (b : Bl) : FVec F (S2 256 128) .bf16 :=
  keep (headM b.h) (I.kv (box b.r0 256 128 128 b.hr (by omega)).toLoadRect)

/-- The queries of a span. -/
def qq (I : In F) (q0 n : Nat) (h : q0 + n ≤ 2048) : FVec F (S2 n 256) .bf16 := I.q (box q0 n 0 256 h (by omega)).toLoadRect
/-- The output's gradient at the queries of a span. -/
def dd (I : In F) (q0 n : Nat) (h : q0 + n ≤ 2048) : FVec F (S2 n 128) .bf16 := I.dout (box q0 n 0 128 h (by omega)).toLoadRect

/-- A row over the queries, on every key of the block. -/
def rows (n : Nat) (x : FVec F (S3 1 1 n) .f32) : FVec F (S2 256 n) .f32 :=
  broadcastTo (S2 256 n) (shapeCast (S2 1 n) x (cast_ok n)) (bcast_ok 256 n)

/-- The scale `1 / √96` on every key and query. -/
def scale (n : Nat) : FVec F (S2 256 n) .f32 := broadcast (S2 256 n) (Scalar.ofBits .f32 0x3DD105EC#32)

/-- Scaled logits less the log of the softmax's sum, before the causal mask. -/
def raw (I : In F) (b : Bl) (q0 n : Nat) (h : q0 + n ≤ 2048) : FVec F (S2 256 n) .f32 :=
  subf (mulf (matmul (DotDims.transposedRhs 256 256 n) none (kt I b) (qq I q0 n h) (constant (S2 256 n) .f32 0x00000000#32)) (scale n))
    (rows n (I.lse (rowBox b.h q0 n b.hh h).toLoadRect))

/-- The causal mask of a block's own queries. -/
def causal : IVec (S2 256 256) 1 :=
  cmpi .sge (iota .tc (S2 256 256) 32 [1] iota_S256x256_d1_w32) (iota .tc (S2 256 256) 32 [0] iota_S256x256_d0_w32)

/-- … and after it. -/
def st (I : In F) (b : Bl) : (sp : Span) → FVec F (S2 256 sp.n) .f32
  | .diag => select causal (raw I b b.r0 256 b.hr) (broadcast (S2 256 256) (Named.named κ "mask" 0xF149F2CA#32))
  | .off q0 n h => raw I b q0 n h

/-- The probabilities. -/
def pt (I : In F) (b : Bl) (sp : Span) : FVec F (S2 256 sp.n) .f32 := exp (st I b sp)

/-- Their gradient. -/
def dpt (I : In F) (b : Bl) (sp : Span) : FVec F (S2 256 sp.n) .f32 :=
  matmul (DotDims.transposedRhs 256 128 sp.n) none (vt I b) (dd I (sp.q0 b.r0) sp.n (sp.le b)) (constant (S2 256 sp.n) .f32 0x00000000#32)

/-- The gradient of the unscaled logits. -/
def dsb (I : In F) (b : Bl) (sp : Span) : FVec F (S2 256 sp.n) .bf16 :=
  truncf .bf16 (mulf (mulf (pt I b sp) (subf (dpt I b sp) (rows sp.n (I.dl (rowBox b.h (sp.q0 b.r0) sp.n b.hh (sp.le b)).toLoadRect)))) (scale sp.n))
    bitsLt_bf16_f32

/-- A span's share of the queries' gradient. -/
def dqOf (I : In F) (b : Bl) (sp : Span) : FVec F (S2 sp.n 256) .f32 :=
  matmul (tn 256 sp.n 256) none (dsb I b sp) (kt I b) (constant (S2 sp.n 256) .f32 0x00000000#32)
/-- A span's share of the values' gradient. -/
def dvOf (I : In F) (b : Bl) (sp : Span) : FVec F (S2 256 128) .f32 :=
  matmul (DotDims.plain 256 sp.n 128) none (truncf .bf16 (pt I b sp) bitsLt_bf16_f32) (dd I (sp.q0 b.r0) sp.n (sp.le b))
    (constant (S2 256 128) .f32 0x00000000#32)
/-- A span's share of the keys' gradient. -/
def dkOf (I : In F) (b : Bl) (sp : Span) : FVec F (S2 256 256) .f32 :=
  matmul (DotDims.plain 256 sp.n 256) none (dsb I b sp) (qq I (sp.q0 b.r0) sp.n (sp.le b)) (constant (S2 256 256) .f32 0x00000000#32)

/-- The later spans of the key block of rows `r0`. -/
def spansFrom (fuel q : Nat) : List Span :=
  match fuel with
  | 0 => []
  | fuel + 1 =>
    if h : q + 512 ≤ 2048 then .off q 512 h :: spansFrom fuel (q + 512)
    else if h : q + 256 ≤ 2048 then .off q 256 h :: spansFrom fuel (q + 256) else []

/-- The values' gradient of a block: its own queries' share, then the later spans' added on. -/
def dv (I : In F) (b : Bl) : FVec F (S2 256 128) .f32 :=
  (spansFrom 4 (b.r0 + 256)).foldl (fun a sp => addf a (dvOf I b sp)) (dvOf I b .diag)
/-- The keys' gradient of a block likewise. -/
def dk (I : In F) (b : Bl) : FVec F (S2 256 256) .f32 :=
  (spansFrom 4 (b.r0 + 256)).foldl (fun a sp => addf a (dkOf I b sp)) (dkOf I b .diag)

/-- The blocks of both heads, last first. -/
def blocks : List Bl :=
  [⟨1, by omega, 1792, by omega⟩, ⟨0, by omega, 1792, by omega⟩, ⟨1, by omega, 1536, by omega⟩, ⟨0, by omega, 1536, by omega⟩,
   ⟨1, by omega, 1280, by omega⟩, ⟨0, by omega, 1280, by omega⟩, ⟨1, by omega, 1024, by omega⟩, ⟨0, by omega, 1024, by omega⟩,
   ⟨1, by omega, 768, by omega⟩, ⟨0, by omega, 768, by omega⟩, ⟨1, by omega, 512, by omega⟩, ⟨0, by omega, 512, by omega⟩,
   ⟨1, by omega, 256, by omega⟩, ⟨0, by omega, 256, by omega⟩, ⟨1, by omega, 0, by omega⟩, ⟨0, by omega, 0, by omega⟩]

/-- Every meeting of a block and a span, last first. -/
def units : List (Bl × Span) :=
  blocks.flatMap fun b => ((.diag :: spansFrom 4 (b.r0 + 256)).reverse).map fun sp => (b, sp)

/-- The stores into the queries' gradient: zeros, then each meeting's share added to its rows. -/
def dqL (I : In F) : List (Bl × Span) → List (View.Piece (Elt F) (S2 2048 256) .f32)
  | [] => [⟨box 0 2048 0 256 (by omega) (by omega),
      shapeCast (S2 2048 256) (broadcast (S2 2048 256) (Scalar.ofBits .f32 0x00000000#32) : FVec F (S2 2048 256) .f32) rfl⟩]
  | (b, sp) :: us =>
    ⟨box (sp.q0 b.r0) sp.n 0 256 (sp.le b) (by omega),
      shapeCast (S2 sp.n 256) (addf (I.acc (dqL I us) (box (sp.q0 b.r0) sp.n 0 256 (sp.le b) (by omega)).toLoadRect) (dqOf I b sp)) rfl⟩
      :: dqL I us

/-- The store of one block's keys' gradient, in the head's lanes. -/
def kPiece (I : In F) (b : Bl) (L : List (View.Piece (Elt F) (S2 2048 256) .bf16)) : View.Piece (Elt F) (S2 2048 256) .bf16 :=
  ⟨box b.r0 256 0 128 b.hr (by omega),
    select (rowsM (headM b.h))
      (truncf .bf16 (extractStridedSlice (S2 256 128) ![0, 0] (dk I b) slices_S256x256_o0_0_S256x128) bitsLt_bf16_f32)
      (shapeCast (S2 256 128) (I.okv L (box b.r0 256 0 128 b.hr (by omega)).toLoadRect) rfl)⟩
/-- The store of one block's values' gradient, in the head's lanes. -/
def vPiece (I : In F) (b : Bl) (L : List (View.Piece (Elt F) (S2 2048 256) .bf16)) : View.Piece (Elt F) (S2 2048 256) .bf16 :=
  ⟨box b.r0 256 128 128 b.hr (by omega),
    select (rowsM (headM b.h)) (truncf .bf16 (dv I b) bitsLt_bf16_f32)
      (shapeCast (S2 256 128) (I.okv L (box b.r0 256 128 128 b.hr (by omega)).toLoadRect) rfl)⟩

/-- The stores into the keys' and values' gradient. -/
def dkvL (I : In F) : List Bl → List (View.Piece (Elt F) (S2 2048 256) .bf16)
  | [] => [⟨box 0 2048 0 256 (by omega) (by omega), (broadcast (S2 2048 256) (Scalar.ofBits .bf16 0x0000#16) : FVec F (S2 2048 256) .bf16)⟩]
  | b :: bs => vPiece I b (kPiece I b (dkvL I bs) :: dkvL I bs) :: kPiece I b (dkvL I bs) :: dkvL I bs

/-- A block's rotary keys' gradient, in the head's rotary lanes. -/
def dpe (I : In F) (b : Bl) : FVec F (S2 256 128) .f32 :=
  select (rowsM (ropeM I.p b.h)) (extractStridedSlice (S2 256 128) ![0, 128] (dk I b) slices_S256x256_o0_128_S256x128)
    (broadcast (S2 256 128) (Scalar.ofBits .f32 0x00000000#32))

/-- The store that adds it on. The first head of a block reads what was there before this grid point's sums. -/
def pPiece (I : In F) (b : Bl) (L : List (View.Piece (Elt F) (S2 2048 128) .f32)) : View.Piece (Elt F) (S2 2048 128) .f32 :=
  ⟨box b.r0 256 0 128 b.hr (by omega),
    addf (shapeCast (S2 256 128) ((if b.h = 0 then I.ope0 L else I.ope L) (box b.r0 256 0 128 b.hr (by omega)).toLoadRect) rfl) (dpe I b)⟩

/-- The stores into the rotary keys' gradient, over `base`. -/
def dpeL (I : In F) (base : List (View.Piece (Elt F) (S2 2048 128) .f32)) : List Bl → List (View.Piece (Elt F) (S2 2048 128) .f32)
  | [] => base
  | b :: bs => pPiece I b (dpeL I base bs) :: dpeL I base bs

end Cert.KernelIdeal.Attn

end
-- ==== Proof.Attn.Match.lean ====
/-
  The stores that the body's run found, at the points of each of its three cases, are the lists of `Vocab`.
-/
module

public import proofs.«01_k».proof.Proof.Attn.Vocab

@[expose] public section

set_option maxRecDepth 65536
set_option maxHeartbeats 1000000

noncomputable section

namespace Cert.KernelIdeal.Attn

open Cert.KernelIdeal Cert.KernelIdeal.Gen Idealize.ShloMosaic

variable {F : FTy → Type} [FloatOps F] [Named F]

variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x256 .bf16) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2x1x2048 .f32) (harg7 : arg7.IsWhole)
  (arg8 : Memref sig .tc .vmem S2x1x2048 .f32) (harg8 : arg8.IsWhole)
  (arg9 : Memref sig .tc .vmem S2048x128 .bf16) (harg9 : arg9.IsWhole)
  (arg10 : Memref sig .tc .vmem S2048x256 .bf16) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S2048x256 .f32) (harg13 : arg13.IsWhole)
  (arg14 : Memref sig .tc .vmem S2048x256 .bf16) (harg14 : arg14.IsWhole)
  (x0 : Vec F S2048x128 .bf16) (x1 : Vec F S2048x128 .bf16) (x2 : Vec F S2048x256 .bf16) (x3 : Vec F S2048x128 .bf16) (x4 : Vec F S2048x128 .bf16) (x5 : Vec F S2x1x2048 .f32) (x6 : Vec F S2x1x2048 .f32) (xo9 xo10 : Vec F S2048x128 .f32)

/-- The queries' two halves side by side. -/
def qStores : List (View.Piece (Elt F) (S2 2048 256) .bf16) :=
  [⟨box 0 2048 128 128 (by omega) (by omega), shapeCast (S2 2048 128) (View.readAt (Elt F) arg3.view (box 0 2048 0 128 (by omega) (by omega)).toLoadRect (harg3.unread x1)) rfl⟩,
   ⟨box 0 2048 0 128 (by omega) (by omega), shapeCast (S2 2048 128) (View.readAt (Elt F) arg2.view (box 0 2048 0 128 (by omega) (by omega)).toLoadRect (harg2.unread x0)) rfl⟩]

/-- What the body reads, through its memrefs; `first` reads the rotary keys' gradient before this point's sums. -/
def memIn (first : List (View.Piece (Elt F) (S2 2048 128) .f32) → (r : LoadRect (S2 2048 128)) → Vec F r.shape .f32) : In F where
  p := (i 1).val
  q r := arg14.view.readCov (qStores arg2 harg2 arg3 harg3 x0 x1) r
  kv r := View.readAt (Elt F) arg4.view r (harg4.unread x2)
  pe r := View.readAt (Elt F) arg5.view r (harg5.unread x3)
  dout r := View.readAt (Elt F) arg6.view r (harg6.unread x4)
  lse r := View.readAt (Elt F) arg7.view r (harg7.unread x5)
  dl r := View.readAt (Elt F) arg8.view r (harg8.unread x6)
  acc L r := arg13.view.readCov L r
  okv L r := arg10.view.readCov L r
  ope0 L r := first L r
  ope L r := arg12.view.readCov L r

/-- Zeros over the whole of a rotary gradient's block. -/
def zeroPiece : View.Piece (Elt F) (S2 2048 128) .f32 :=
  ⟨box 0 2048 0 128 (by omega) (by omega), (broadcast (S2 2048 128) (Scalar.ofBits .f32 0x00000000#32) : FVec F (S2 2048 128) .f32)⟩

/-- The nope half of the queries' gradient, as stored. -/
def outQ (I : In F) : FVec F (S2 2048 128) .bf16 :=
  truncf .bf16 (I.acc (dqL I units) (box 0 2048 0 128 (by omega) (by omega)).toLoadRect : FVec F (S2 2048 128) .f32) bitsLt_bf16_f32

/-- The rotary half of the queries' gradient added to what was there. -/
def outQpe (I : In F) (old : Vec F (S2 2048 128) .f32) : FVec F (S2 2048 128) .f32 :=
  addf (shapeCast (S2 2048 128) old rfl) (I.acc (dqL I units) (box 0 2048 128 128 (by omega) (by omega)).toLoadRect)

theorem pieces7_A (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1
    = [⟨box 0 2048 0 128 (by omega) (by omega), outQ (memIn i arg2 harg2 arg3 harg3 arg4 harg4 arg5 harg5 arg6 harg6 arg7 harg7 arg8 harg8 arg10 arg12 arg13 arg14 x0 x1 x2 x3 x4 x5 x6 (fun L r => arg12.view.readCov L r))⟩] := by sl_kernel_rfl

theorem pieces8_A (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1
    = dkvL (memIn i arg2 harg2 arg3 harg3 arg4 harg4 arg5 harg5 arg6 harg6 arg7 harg7 arg8 harg8 arg10 arg12 arg13 arg14 x0 x1 x2 x3 x4 x5 x6 (fun L r => arg12.view.readCov L r)) blocks := by sl_kernel_rfl

theorem pieces9_A (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1
    = ⟨box 0 2048 0 128 (by omega) (by omega), outQpe (memIn i arg2 harg2 arg3 harg3 arg4 harg4 arg5 harg5 arg6 harg6 arg7 harg7 arg8 harg8 arg10 arg12 arg13 arg14 x0 x1 x2 x3 x4 x5 x6 (fun L r => arg12.view.readCov L r)) (arg11.view.readCov [zeroPiece] (box 0 2048 0 128 (by omega) (by omega)).toLoadRect)⟩ :: [zeroPiece] := by sl_kernel_rfl

theorem pieces10_A (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1
    = dpeL (memIn i arg2 harg2 arg3 harg3 arg4 harg4 arg5 harg5 arg6 harg6 arg7 harg7 arg8 harg8 arg10 arg12 arg13 arg14 x0 x1 x2 x3 x4 x5 x6 (fun L r => arg12.view.readCov L r)) [zeroPiece] blocks := by sl_kernel_rfl

theorem pieces7_B (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10).1
    = [⟨box 0 2048 0 128 (by omega) (by omega), outQ (memIn i arg2 harg2 arg3 harg3 arg4 harg4 arg5 harg5 arg6 harg6 arg7 harg7 arg8 harg8 arg10 arg12 arg13 arg14 x0 x1 x2 x3 x4 x5 x6 (fun _ r => View.readAt (Elt F) arg12.view r (harg12.unread xo10)))⟩] := by sl_kernel_rfl

theorem pieces8_B (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10).2.1
    = dkvL (memIn i arg2 harg2 arg3 harg3 arg4 harg4 arg5 harg5 arg6 harg6 arg7 harg7 arg8 harg8 arg10 arg12 arg13 arg14 x0 x1 x2 x3 x4 x5 x6 (fun _ r => View.readAt (Elt F) arg12.view r (harg12.unread xo10))) blocks := by sl_kernel_rfl

theorem pieces9_B (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10).2.2.1
    = ⟨box 0 2048 0 128 (by omega) (by omega), outQpe (memIn i arg2 harg2 arg3 harg3 arg4 harg4 arg5 harg5 arg6 harg6 arg7 harg7 arg8 harg8 arg10 arg12 arg13 arg14 x0 x1 x2 x3 x4 x5 x6 (fun _ r => View.readAt (Elt F) arg12.view r (harg12.unread xo10))) (View.readAt (Elt F) arg11.view (box 0 2048 0 128 (by omega) (by omega)).toLoadRect (harg11.unread xo9))⟩ :: [] := by sl_kernel_rfl

theorem pieces10_B (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10).2.2.2.1
    = dpeL (memIn i arg2 harg2 arg3 harg3 arg4 harg4 arg5 harg5 arg6 harg6 arg7 harg7 arg8 harg8 arg10 arg12 arg13 arg14 x0 x1 x2 x3 x4 x5 x6 (fun _ r => View.readAt (Elt F) arg12.view r (harg12.unread xo10))) [] blocks := by sl_kernel_rfl

theorem pieces7_C (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10).1
    = [⟨box 0 2048 0 128 (by omega) (by omega), outQ (memIn i arg2 harg2 arg3 harg3 arg4 harg4 arg5 harg5 arg6 harg6 arg7 harg7 arg8 harg8 arg10 arg12 arg13 arg14 x0 x1 x2 x3 x4 x5 x6 (fun _ r => View.readAt (Elt F) arg12.view r (harg12.unread xo10)))⟩] := by sl_kernel_rfl

theorem pieces8_C (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10).2.1
    = dkvL (memIn i arg2 harg2 arg3 harg3 arg4 harg4 arg5 harg5 arg6 harg6 arg7 harg7 arg8 harg8 arg10 arg12 arg13 arg14 x0 x1 x2 x3 x4 x5 x6 (fun _ r => View.readAt (Elt F) arg12.view r (harg12.unread xo10))) blocks := by sl_kernel_rfl

theorem pieces9_C (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10).2.2.1
    = ⟨box 0 2048 0 128 (by omega) (by omega), outQpe (memIn i arg2 harg2 arg3 harg3 arg4 harg4 arg5 harg5 arg6 harg6 arg7 harg7 arg8 harg8 arg10 arg12 arg13 arg14 x0 x1 x2 x3 x4 x5 x6 (fun _ r => View.readAt (Elt F) arg12.view r (harg12.unread xo10))) (arg11.view.readCov [zeroPiece] (box 0 2048 0 128 (by omega) (by omega)).toLoadRect)⟩ :: [zeroPiece] := by sl_kernel_rfl

theorem pieces10_C (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10).2.2.2.1
    = dpeL (memIn i arg2 harg2 arg3 harg3 arg4 harg4 arg5 harg5 arg6 harg6 arg7 harg7 arg8 harg8 arg10 arg12 arg13 arg14 x0 x1 x2 x3 x4 x5 x6 (fun _ r => View.readAt (Elt F) arg12.view r (harg12.unread xo10))) [] blocks := by sl_kernel_rfl

end Cert.KernelIdeal.Attn

end
-- ==== Proof.Attn.Read.lean ====
/-
  Arrays read at natural numbers. An array of rank two is a function of two naturals, zero outside its extents, so that
  rows and columns of a block and of the whole are related by addition alone and every sum is over a range.
-/
module

public import proofs.«01_k».proof.Proof.Attn.Vocab
public import Idealize.ShloMosaic.Lib.ValueIdx
public import Idealize.ShloMosaic.Lib.ValueLayout

@[expose] public section

noncomputable section

namespace Cert.KernelIdeal.Attn

open Cert.KernelIdeal Cert.KernelIdeal.Gen Idealize.ShloMosaic Idealize.ShloMosaic.ValueIdx
open scoped BigOperators

/-- A matrix at two naturals, zero outside. -/
def at2 {a b : ℕ} (X : (S2 a b).Idx → EReal) (i j : ℕ) : EReal := if h : i < a ∧ j < b then X (ix2 ⟨i, h.1⟩ ⟨j, h.2⟩) else 0

/-- A stack of rows at two naturals, zero outside. -/
def at3 {a b : ℕ} (X : (S3 a 1 b).Idx → EReal) (i j : ℕ) : EReal :=
  if h : i < a ∧ j < b then X (ix3 ⟨i, h.1⟩ (0 : Fin 1) ⟨j, h.2⟩) else 0

theorem at2_pos {a b : ℕ} (X : (S2 a b).Idx → EReal) {i j : ℕ} (hi : i < a) (hj : j < b) : at2 X i j = X (ix2 ⟨i, hi⟩ ⟨j, hj⟩) :=
  dif_pos ⟨hi, hj⟩

theorem at3_pos {a b : ℕ} (X : (S3 a 1 b).Idx → EReal) {i j : ℕ} (hi : i < a) (hj : j < b) :
    at3 X i j = X (ix3 ⟨i, hi⟩ (0 : Fin 1) ⟨j, hj⟩) := dif_pos ⟨hi, hj⟩

theorem ix2_at2 {a b : ℕ} (X : (S2 a b).Idx → EReal) (i : Fin a) (j : Fin b) : X (ix2 i j) = at2 X i.val j.val :=
  (at2_pos X i.isLt j.isLt).symm

theorem idx_at2 {a b : ℕ} (X : (S2 a b).Idx → EReal) (x : (S2 a b).Idx) : X x = at2 X (x 0).val (x 1).val := by
  rw [at2_pos X (x 0).isLt (x 1).isLt]; exact congrArg X (eq_ix2 x)

/-- An entry of a block is the whole array's entry at the place where the block's window puts it. -/
theorem at2_to {a b a' b' : ℕ} {X : (S2 a b).Idx → EReal} {V : (S2 a' b').Idx → EReal} {i j r s : ℕ} (hi : i < a) (hj : j < b)
    (p : (S2 a' b').Idx) (h : X (ix2 ⟨i, hi⟩ ⟨j, hj⟩) = V p) (h0 : (p 0).val = r) (h1 : (p 1).val = s) : at2 X i j = at2 V r s := by
  rw [at2_pos _ hi hj, h, idx_at2 V, h0, h1]

theorem ext_at2 {a b : ℕ} {X Y : (S2 a b).Idx → EReal} (h : ∀ i j, i < a → j < b → at2 X i j = at2 Y i j) : X = Y :=
  funext fun x => by rw [idx_at2 X x, idx_at2 Y x]; exact h _ _ (x 0).isLt (x 1).isLt

/-- A read through a box. -/
theorem at2_box {s t : ℕ} (X : (S2 s t).Idx → EReal) (r0 n c0 w : ℕ) (h : r0 + n ≤ s) (h' : c0 + w ≤ t) {i j : ℕ} (hi : i < n) (hj : j < w) :
    at2 (a := n) (b := w) (fun x => X ((box r0 n c0 w h h').toLoadRect.idx x)) i j = at2 X (r0 + i) (c0 + j) := by
  rw [at2_pos _ hi hj, at2_pos X (by omega : r0 + i < s) (by omega : c0 + j < t)]
  refine congrArg X (funext fun a => Fin.ext ?_)
  match a with
  | ⟨0, _⟩ => exact congrArg (r0 + ·) (Nat.one_mul i)
  | ⟨1, _⟩ => exact congrArg (c0 + ·) (Nat.one_mul j)

/-- A read of one head's row through a box. -/
theorem at3_rowBox (X : (S3 2 1 2048).Idx → EReal) (h q0 n : ℕ) (hh : h + 1 ≤ 2) (hq : q0 + n ≤ 2048) {j : ℕ} (hj : j < n) :
    at3 (a := 1) (b := n) (fun x => X ((rowBox h q0 n hh hq).toLoadRect.idx x)) 0 j = at3 X h (q0 + j) := by
  rw [at3_pos _ (Nat.one_pos) hj, at3_pos X (by omega : h < 2) (by omega : q0 + j < 2048)]
  refine congrArg X (funext fun a => Fin.ext ?_)
  match a with
  | ⟨0, _⟩ => exact Nat.add_zero h
  | ⟨1, _⟩ => rfl
  | ⟨2, _⟩ => exact congrArg (q0 + ·) (Nat.one_mul j)

/-- What a list of stores leaves, the last one a box's. -/
theorem canon_box {s t : ℕ} {e : EltTy} (r0 n c0 w : ℕ) (h : r0 + n ≤ s) (h' : c0 + w ≤ t) (X : (S2 n w).Idx → Elt Ideal e)
    (L : List (View.Piece (Elt Ideal) (S2 s t) e)) {i j : ℕ} (hi : i < s) (hj : j < t) :
    View.canon (⟨box r0 n c0 w h h', X⟩ :: L) (ix2 ⟨i, hi⟩ ⟨j, hj⟩)
      = if hc : r0 ≤ i ∧ i < r0 + n ∧ c0 ≤ j ∧ j < c0 + w then X (ix2 ⟨i - r0, by omega⟩ ⟨j - c0, by omega⟩)
        else View.canon L (ix2 ⟨i, hi⟩ ⟨j, hj⟩) := by
  by_cases hc : r0 ≤ i ∧ i < r0 + n ∧ c0 ≤ j ∧ j < c0 + w
  · rw [dif_pos hc]
    rw [show (ix2 ⟨i, hi⟩ ⟨j, hj⟩ : (S2 s t).Idx) = (box r0 n c0 w h h').emb (ix2 ⟨i - r0, by omega⟩ ⟨j - c0, by omega⟩) from by
      funext a; apply Fin.ext
      match a with
      | ⟨0, _⟩ => show i = r0 + 1 * (i - r0); omega
      | ⟨1, _⟩ => show j = c0 + 1 * (j - c0); omega]
    exact View.canon_cons_emb _ _ _ _
  · rw [dif_neg hc]
    refine View.canon_cons_of_not_mem _ _ fun hm => hc ?_
    have hm := (LoadRect.mem_set _).mp hm
    obtain ⟨x, hx, ex⟩ := hm 0
    obtain ⟨y, hy, ey⟩ := hm 1
    have ex : i = r0 + 1 * x := ex
    have ey : j = c0 + 1 * y := ey
    have hx : x < n := hx
    have hy : y < w := hy
    omega

theorem at2_canon_f32 {s t : ℕ} (r0 n c0 w : ℕ) (h : r0 + n ≤ s) (h' : c0 + w ≤ t) (X : (S2 n w).Idx → EReal)
    (L : List (View.Piece (Elt Ideal) (S2 s t) .f32)) {i j : ℕ} (hi : i < s) (hj : j < t) :
    at2 (a := s) (b := t) (View.canon (Val := Elt Ideal) (e := .f32) (⟨box r0 n c0 w h h', X⟩ :: L)) i j
      = if r0 ≤ i ∧ i < r0 + n ∧ c0 ≤ j ∧ j < c0 + w then at2 X (i - r0) (j - c0)
        else at2 (a := s) (b := t) (View.canon (Val := Elt Ideal) (e := .f32) L) i j := by
  rw [at2_pos _ hi hj]
  refine (canon_box (e := .f32) r0 n c0 w h h' X L hi hj).trans ?_
  by_cases hc : r0 ≤ i ∧ i < r0 + n ∧ c0 ≤ j ∧ j < c0 + w
  · rw [dif_pos hc, if_pos hc, at2_pos X (by omega : i - r0 < n) (by omega : j - c0 < w)]
  · rw [dif_neg hc, if_neg hc, at2_pos _ hi hj]

theorem at2_canon_bf16 {s t : ℕ} (r0 n c0 w : ℕ) (h : r0 + n ≤ s) (h' : c0 + w ≤ t) (X : (S2 n w).Idx → EReal)
    (L : List (View.Piece (Elt Ideal) (S2 s t) .bf16)) {i j : ℕ} (hi : i < s) (hj : j < t) :
    at2 (a := s) (b := t) (View.canon (Val := Elt Ideal) (e := .bf16) (⟨box r0 n c0 w h h', X⟩ :: L)) i j
      = if r0 ≤ i ∧ i < r0 + n ∧ c0 ≤ j ∧ j < c0 + w then at2 X (i - r0) (j - c0)
        else at2 (a := s) (b := t) (View.canon (Val := Elt Ideal) (e := .bf16) L) i j := by
  rw [at2_pos _ hi hj]
  refine (canon_box (e := .bf16) r0 n c0 w h h' X L hi hj).trans ?_
  by_cases hc : r0 ≤ i ∧ i < r0 + n ∧ c0 ≤ j ∧ j < c0 + w
  · rw [dif_pos hc, if_pos hc, at2_pos X (by omega : i - r0 < n) (by omega : j - c0 < w)]
  · rw [dif_neg hc, if_neg hc, at2_pos _ hi hj]

/-- `[K, M] × [K, N]` with both first axes contracted. -/
theorem matmul_tn_apply {M K N : ℕ} {φ₁ φ₂ : FTy} (prec : Option ContractPrecision)
    (lhs : FVec Ideal (S2 K M) φ₁) (rhs : FVec Ideal (S2 K N) φ₂) (acc : FVec Ideal (S2 M N) .f32) (r : Fin M) (c : Fin N) :
    FloatOps.matmul (tn K M N) prec lhs rhs acc (ix2 r c) = acc (ix2 r c) + ∑ k : Fin K, lhs (ix2 k r) * rhs (ix2 k c) := by
  have hr : (tn K M N).contr.rank = 1 := rfl
  have hs : (tn K M N).contr.size ⟨0, by rw [hr]; exact Nat.one_pos⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  have el : (tn K M N).lhsIdx (ix2 r c) ((contrEquiv1 _ K hr hs).symm k) = ix2 k r := by
    funext a; apply Fin.ext
    match a with
    | ⟨0, _⟩ => exact hk
    | ⟨1, _⟩ => rfl
  have er : (tn K M N).rhsIdx (ix2 r c) ((contrEquiv1 _ K hr hs).symm k) = ix2 k c := by
    funext a; apply Fin.ext
    match a with
    | ⟨0, _⟩ => exact hk
    | ⟨1, _⟩ => rfl
  rw [el, er]

/-- The bit pattern of zero is zero. -/
theorem ofBits_zero : (Ideal.ofBits .f32 0x00000000#32 : EReal) = 0 := by simp [Ideal.ofBits, Ideal.ieee]
theorem ofBits_zero16 : (Ideal.ofBits .bf16 0x0000#16 : EReal) = 0 := by simp [Ideal.ofBits, Ideal.ieee]

theorem at2_plain {M K N : ℕ} {φ₁ φ₂ : FTy} (lhs : FVec Ideal (S2 M K) φ₁) (rhs : FVec Ideal (S2 K N) φ₂) {i j : ℕ} (hi : i < M) (hj : j < N) :
    at2 (a := M) (b := N) (matmul (F := Ideal) (DotDims.plain M K N) none lhs rhs (constant (S2 M N) .f32 0x00000000#32)) i j
      = ∑ k ∈ Finset.range K, at2 (a := M) (b := K) lhs i k * at2 (a := K) (b := N) rhs k j := by
  rw [at2_pos _ hi hj, Finset.sum_range]
  refine (Ideal.matmul_plain_apply none lhs rhs _ _ _).trans ?_
  rw [constant_apply, ofBits_zero, zero_add]
  exact Finset.sum_congr rfl fun k _ => by rw [ix2_at2 lhs, ix2_at2 rhs]

theorem at2_nt {M K N : ℕ} {φ₁ φ₂ : FTy} (lhs : FVec Ideal (S2 M K) φ₁) (rhs : FVec Ideal (S2 N K) φ₂) {i j : ℕ} (hi : i < M) (hj : j < N) :
    at2 (a := M) (b := N) (matmul (F := Ideal) (DotDims.transposedRhs M K N) none lhs rhs (constant (S2 M N) .f32 0x00000000#32)) i j
      = ∑ k ∈ Finset.range K, at2 (a := M) (b := K) lhs i k * at2 (a := N) (b := K) rhs j k := by
  rw [at2_pos _ hi hj, Finset.sum_range]
  refine (Ideal.matmul_transposedRhs_apply none lhs rhs _ _ _).trans ?_
  rw [constant_apply, ofBits_zero, zero_add]
  exact Finset.sum_congr rfl fun k _ => by rw [ix2_at2 lhs, ix2_at2 rhs]

theorem at2_tn {M K N : ℕ} {φ₁ φ₂ : FTy} (lhs : FVec Ideal (S2 K M) φ₁) (rhs : FVec Ideal (S2 K N) φ₂) {i j : ℕ} (hi : i < M) (hj : j < N) :
    at2 (a := M) (b := N) (matmul (F := Ideal) (tn K M N) none lhs rhs (constant (S2 M N) .f32 0x00000000#32)) i j
      = ∑ k ∈ Finset.range K, at2 (a := K) (b := M) lhs k i * at2 (a := K) (b := N) rhs k j := by
  rw [at2_pos _ hi hj, Finset.sum_range]
  refine (matmul_tn_apply none lhs rhs _ _ _).trans ?_
  rw [constant_apply, ofBits_zero, zero_add]
  exact Finset.sum_congr rfl fun k _ => by rw [ix2_at2 lhs, ix2_at2 rhs]

/-- Two blocks of 128 columns side by side. -/
theorem at2_concat {e : FTy} (x y : FVec Ideal (S2 256 128) e) {i j : ℕ} (hi : i < 256) (hj : j < 256) :
    at2 (a := 256) (b := 256) (concatenate (S2 256 256) 1 [⟨S2 256 128, x⟩, ⟨S2 256 128, y⟩] concatenates_S256x128_S256x128_S256x256_d1) i j
      = if j < 128 then at2 (a := 256) (b := 128) x i j else at2 (a := 256) (b := 128) y i (j - 128) := by
  rw [at2_pos _ hi hj]
  by_cases hc : j < 128
  · rw [if_pos hc, at2_pos _ hi hc]
    refine concatenate_pair_apply_left (t := S2 256 256) (s₁ := S2 256 128) (s₂ := S2 256 128) 1 x y _ _ rfl _ fun b => ?_
    match b with
    | ⟨0, _⟩ => rfl
    | ⟨1, _⟩ => rfl
  · rw [if_neg hc, at2_pos _ hi (by omega : j - 128 < 128)]
    refine concatenate_pair_apply_right (t := S2 256 256) (s₁ := S2 256 128) (s₂ := S2 256 128) 1 x y _ _ rfl rfl _ (fun b hb => ?_) ?_
    · match b with
      | ⟨0, _⟩ => rfl
      | ⟨1, _⟩ => exact absurd rfl hb
    · show j - 128 + 128 = j
      omega

/-- A row on every row of a block. -/
theorem at2_rows (n : ℕ) (x : FVec Ideal (S3 1 1 n) .f32) {i j : ℕ} (hi : i < 256) (hj : j < n) :
    at2 (a := 256) (b := n) (rows n x) i j = at3 (a := 1) (b := n) x 0 j := by
  rw [at2_pos _ hi hj, at3_pos _ Nat.one_pos hj]
  unfold rows
  rw [broadcastTo_1b_ab_apply]
  exact shapeCast_1ab_ab_apply x _ _ _

end Cert.KernelIdeal.Attn

end
-- ==== Proof.Attn.Point.lean ====
/-
  The body's values at one grid point, in the reals extended by the two infinities: keys of one head `KT`, logits,
  probabilities `P`, the gradient `DS` of the unscaled logits, as functions of naturals; and each span's product read
  as a sum of these.
-/
module

public import proofs.«01_k».proof.Proof.Attn.Match
public import proofs.«01_k».proof.Proof.Attn.Read

@[expose] public section

noncomputable section

namespace Cert.KernelIdeal.Attn

open Cert.KernelIdeal Cert.KernelIdeal.Gen Idealize.ShloMosaic Idealize.ShloMosaic.ValueIdx
open scoped BigOperators

/-- The arrays of one grid point: the pair's number, the queries (own lanes, then rotary), keys and values, rotary keys, the
    output's gradient, the two rows of log-sum-exponentials and of the softmax's correction. -/
structure Tile where
  p : ℕ
  q : FVec Ideal (S2 2048 256) .bf16
  kv : FVec Ideal (S2 2048 256) .bf16
  pe : FVec Ideal (S2 2048 128) .bf16
  dout : FVec Ideal (S2 2048 128) .bf16
  lse : FVec Ideal (S3 2 1 2048) .f32
  dl : FVec Ideal (S3 2 1 2048) .f32

/-- What the body reads of a tile. -/
def valIn (T : Tile) (first : List (View.Piece (Elt Ideal) (S2 2048 128) .f32) → (r : LoadRect (S2 2048 128)) → Vec Ideal r.shape .f32) : In Ideal where
  p := T.p
  q r := fun x => T.q (r.idx x)
  kv r := fun x => T.kv (r.idx x)
  pe r := fun x => T.pe (r.idx x)
  dout r := fun x => T.dout (r.idx x)
  lse r := fun x => T.lse (r.idx x)
  dl r := fun x => T.dl (r.idx x)
  acc L r := fun x => View.canon L (r.idx x)
  okv L r := fun x => View.canon L (r.idx x)
  ope0 L r := first L r
  ope L r := fun x => View.canon L (r.idx x)

namespace Tile

variable (T : Tile)

/-- The factor on the logits. -/
def SC : EReal := Ideal.ofBits .f32 0x3DD105EC#32
/-- Keys of head `h`, zero in the other head's lanes. -/
def KT (h k c : ℕ) : EReal :=
  if c < 128 then (if c / 64 = h then at2 T.kv k c else 0)
  else if (c - 128) / 16 % 4 = (2 * T.p + h) % 4 then at2 T.pe k (c - 128) else 0
/-- Values of head `h`, zero in the other head's lanes. -/
def VT (h k c : ℕ) : EReal := if c / 64 = h then at2 T.kv k (128 + c) else 0
/-- Queries. -/
def Q (q c : ℕ) : EReal := at2 T.q q c
/-- The output's gradient. -/
def DO (q c : ℕ) : EReal := at2 T.dout q c
/-- Scaled logits less the logarithm of their exponentials' sum. -/
def R (h k q : ℕ) : EReal := (∑ c ∈ Finset.range 256, T.KT h k c * T.Q q c) * SC - at3 T.lse h q
/-- Probabilities: zero where the key comes after the query. -/
def P (h k q : ℕ) : EReal := if k ≤ q then Ideal.exp (T.R h k q) else 0
/-- Their gradient. -/
def DP (h k q : ℕ) : EReal := ∑ c ∈ Finset.range 128, T.VT h k c * T.DO q c
/-- The gradient of the unscaled logits. -/
def DS (h k q : ℕ) : EReal := T.P h k q * (T.DP h k q - at3 T.dl h q) * SC

theorem P_of_lt {h k q : ℕ} (hq : q < k) : T.P h k q = 0 := if_neg (by omega)
theorem DS_of_lt {h k q : ℕ} (hq : q < k) : T.DS h k q = 0 := by unfold DS; rw [T.P_of_lt hq, zero_mul, zero_mul]

end Tile

theorem headM_apply : ∀ (h : Fin 2) (j : Fin 128), headM h.val (ix2 (0 : Fin 1) j) = if j.val / 64 = h.val then 1#1 else 0#1 := by
  decide +kernel

theorem ropeM_apply : ∀ (p : Fin 4) (h : Fin 2) (j : Fin 128),
    ropeM p.val h.val (ix2 (0 : Fin 1) j) = if j.val / 16 % 4 = (2 * p.val + h.val) % 4 then 1#1 else 0#1 := by
  decide +kernel

theorem rowsM_apply (m : IVec (S2 1 128) 1) (i : Fin 256) (j : Fin 128) : rowsM m (ix2 i j) = m (ix2 (0 : Fin 1) j) := by
  unfold rowsM
  rw [broadcastTo_1b_ab_apply, shapeCast_self]

/-- A selection by lanes. -/
theorem at2_select (m : IVec (S2 1 128) 1) (c : ℕ → Prop) [DecidablePred c] (hm : ∀ j : Fin 128, m (ix2 (0 : Fin 1) j) = if c j.val then 1#1 else 0#1)
    {e : FTy} (x y : FVec Ideal (S2 256 128) e) {i j : ℕ} (hi : i < 256) (hj : j < 128) :
    at2 (a := 256) (b := 128) (select (rowsM m) x y) i j
      = if c j then at2 (a := 256) (b := 128) x i j else at2 (a := 256) (b := 128) y i j := by
  rw [at2_pos _ hi hj, select_apply, rowsM_apply, hm]
  by_cases hc : c j
  · rw [if_pos hc, if_pos hc, select_one, at2_pos _ hi hj]
  · rw [if_neg hc, if_neg hc, select_zero, at2_pos _ hi hj]

theorem at2_keep (m : IVec (S2 1 128) 1) (c : ℕ → Prop) [DecidablePred c] (hm : ∀ j : Fin 128, m (ix2 (0 : Fin 1) j) = if c j.val then 1#1 else 0#1)
    (x : FVec Ideal (S2 256 128) .bf16) {i j : ℕ} (hi : i < 256) (hj : j < 128) :
    at2 (a := 256) (b := 128) (keep (F := Ideal) m x) i j = if c j then at2 (a := 256) (b := 128) x i j else 0 := by
  unfold keep
  rw [at2_select m c hm _ _ hi hj]
  refine if_congr Iff.rfl rfl ?_
  rw [at2_pos _ hi hj]
  exact ofBits_zero16

section

variable (T : Tile) (hp : T.p < 4)
  (first : List (View.Piece (Elt Ideal) (S2 2048 128) .f32) → (r : LoadRect (S2 2048 128)) → Vec Ideal r.shape .f32)
  (b : Bl)

include hp in
theorem at2_kt {i c : ℕ} (hi : i < 256) (hc : c < 256) :
    at2 (a := 256) (b := 256) (kt (valIn T first) b) i c = T.KT b.h (b.r0 + i) c := by
  have hh := b.hh
  have hr := b.hr
  unfold kt Tile.KT
  rw [at2_concat _ _ hi hc]
  by_cases h : c < 128
  · rw [if_pos h, if_pos h, at2_keep _ (fun j => j / 64 = b.h) (fun j => headM_apply ⟨b.h, hh⟩ j) _ hi h]
    refine if_congr Iff.rfl ?_ rfl
    refine (at2_box T.kv b.r0 256 0 128 hr (by omega) hi h).trans ?_
    rw [Nat.zero_add]
  · rw [if_neg h, if_neg h]
    refine (at2_keep _ (fun j => j / 16 % 4 = (2 * T.p + b.h) % 4) (fun j => ropeM_apply ⟨T.p, hp⟩ ⟨b.h, hh⟩ j) _ hi (by omega : c - 128 < 128)).trans ?_
    refine if_congr Iff.rfl ?_ rfl
    refine (at2_box T.pe b.r0 256 0 128 hr (by omega) hi (by omega)).trans ?_
    rw [Nat.zero_add]

theorem at2_vt {i c : ℕ} (hi : i < 256) (hc : c < 128) :
    at2 (a := 256) (b := 128) (vt (valIn T first) b) i c = T.VT b.h (b.r0 + i) c := by
  unfold vt Tile.VT
  rw [at2_keep _ (fun j => j / 64 = b.h) (fun j => headM_apply ⟨b.h, b.hh⟩ j) _ hi hc]
  refine if_congr Iff.rfl ?_ rfl
  exact at2_box T.kv b.r0 256 128 128 b.hr (by omega) hi hc

theorem at2_qq (q0 n : ℕ) (h : q0 + n ≤ 2048) {j c : ℕ} (hj : j < n) (hc : c < 256) :
    at2 (a := n) (b := 256) (qq (valIn T first) q0 n h) j c = T.Q (q0 + j) c := by
  refine (at2_box T.q q0 n 0 256 h (by omega) hj hc).trans ?_
  rw [Nat.zero_add]; rfl

theorem at2_dd (q0 n : ℕ) (h : q0 + n ≤ 2048) {j c : ℕ} (hj : j < n) (hc : c < 128) :
    at2 (a := n) (b := 128) (dd (valIn T first) q0 n h) j c = T.DO (q0 + j) c := by
  refine (at2_box T.dout q0 n 0 128 h (by omega) hj hc).trans ?_
  rw [Nat.zero_add]; rfl

include hp in
theorem at2_raw (q0 n : ℕ) (h : q0 + n ≤ 2048) {i j : ℕ} (hi : i < 256) (hj : j < n) :
    at2 (a := 256) (b := n) (raw (valIn T first) b q0 n h) i j = T.R b.h (b.r0 + i) (q0 + j) := by
  have e1 := at2_nt (M := 256) (K := 256) (N := n) (kt (valIn T first) b) (qq (valIn T first) q0 n h) hi hj
  have e2 := at2_rows n ((valIn T first).lse (rowBox b.h q0 n b.hh h).toLoadRect) hi hj
  rw [at2_pos _ hi hj] at e1 e2
  rw [at2_pos _ hi hj]
  unfold raw Tile.R
  rw [subf_apply, mulf_apply, e1, e2]
  refine congrArg₂ (· - ·) (congrArg (· * Tile.SC) (Finset.sum_congr rfl fun c hc => ?_)) (at3_rowBox T.lse b.h q0 n b.hh h hj)
  have hc := Finset.mem_range.mp hc
  rw [at2_kt T hp first b hi hc, at2_qq T first q0 n h hj hc]

theorem causal_apply : ∀ i j : Fin 256, causal (ix2 i j) = if i.val ≤ j.val then 1#1 else 0#1 := by
  intro i j
  have hi := i.isLt
  have hj := j.isLt
  show IntOp.cmpi .sge (iota .tc (S2 256 256) 32 [1] iota_S256x256_d1_w32 (ix2 i j)) (iota .tc (S2 256 256) 32 [0] iota_S256x256_d0_w32 (ix2 i j)) = _
  rw [iota_single_apply, iota_single_apply]
  show BitVec.ofBool ((BitVec.ofNat 32 i.val).sle (BitVec.ofNat 32 j.val)) = _
  have ti : (BitVec.ofNat 32 i.val).toInt = i.val := by
    rw [BitVec.toInt_ofNat', Int.bmod_eq_of_le] <;> omega
  have tj : (BitVec.ofNat 32 j.val).toInt = j.val := by
    rw [BitVec.toInt_ofNat', Int.bmod_eq_of_le] <;> omega
  rw [BitVec.sle, ti, tj]
  by_cases h : i.val ≤ j.val
  · rw [if_pos h]; simp [h]
  · rw [if_neg h]; simp [h]

include hp in
/-- The probabilities of one span, whose later queries all come after the block's keys. -/
theorem at2_pt (sp : Span) (hsp : sp = .diag ∨ b.r0 + 256 ≤ sp.q0 b.r0) {i j : ℕ} (hi : i < 256) (hj : j < sp.n) :
    at2 (a := 256) (b := sp.n) (pt (valIn T first) b sp) i j = T.P b.h (b.r0 + i) (sp.q0 b.r0 + j) := by
  cases sp with
  | diag =>
    have e := at2_raw T hp first b b.r0 256 b.hr hi hj
    have hj' : j < 256 := hj
    rw [at2_pos _ hi hj'] at e
    rw [at2_pos _ hi hj]
    show Ideal.exp (Scalar.select (causal (ix2 ⟨i, hi⟩ ⟨j, hj⟩)) (raw (valIn T first) b b.r0 256 b.hr (ix2 ⟨i, hi⟩ ⟨j, hj⟩)) (Named.named κ "mask" 0xF149F2CA#32 : Ideal .f32)) = _
    rw [causal_apply, e]
    unfold Tile.P
    by_cases h : i ≤ j
    · rw [if_pos h, if_pos (show b.r0 + i ≤ Span.diag.q0 b.r0 + j from Nat.add_le_add_left h _), select_one]; rfl
    · rw [if_neg h, if_neg (show ¬ b.r0 + i ≤ Span.diag.q0 b.r0 + j from fun hc => h (Nat.le_of_add_le_add_left hc)), select_zero]
      rw [show (Named.named κ "mask" 0xF149F2CA#32 : Ideal .f32) = ⊥ from IdealRules.named_const.ideal_named_scalar _ _ _ _ rfl]
      exact Ideal.exp_bot
  | off q0 n h =>
    have hq : b.r0 + 256 ≤ q0 := by
      rcases hsp with h | h
      · cases h
      · exact h
    have e := at2_raw T hp first b q0 n h hi hj
    have hj' : j < n := hj
    rw [at2_pos _ hi hj'] at e
    rw [at2_pos _ hi hj]
    unfold Tile.P
    rw [if_pos (show b.r0 + i ≤ (Span.off q0 n h).q0 b.r0 + j from by show b.r0 + i ≤ q0 + j; omega)]
    exact congrArg Ideal.exp e

include hp in
theorem at2_dsb (sp : Span) (hsp : sp = .diag ∨ b.r0 + 256 ≤ sp.q0 b.r0) {i j : ℕ} (hi : i < 256) (hj : j < sp.n) :
    at2 (a := 256) (b := sp.n) (dsb (valIn T first) b sp) i j = T.DS b.h (b.r0 + i) (sp.q0 b.r0 + j) := by
  have e0 := at2_pt T hp first b sp hsp hi hj
  have e1 := at2_nt (M := 256) (K := 128) (N := sp.n) (vt (valIn T first) b) (dd (valIn T first) (sp.q0 b.r0) sp.n (sp.le b)) hi hj
  have e2 := at2_rows sp.n ((valIn T first).dl (rowBox b.h (sp.q0 b.r0) sp.n b.hh (sp.le b)).toLoadRect) hi hj
  have e3 := at3_rowBox T.dl b.h (sp.q0 b.r0) sp.n b.hh (sp.le b) hj
  rw [at2_pos _ hi hj] at e0 e1 e2
  rw [at2_pos _ hi hj]
  unfold dsb Tile.DS
  rw [truncf_apply, mulf_apply, mulf_apply, subf_apply, e0]
  refine congrArg₂ (· * ·) (congrArg (T.P b.h (b.r0 + i) (sp.q0 b.r0 + j) * ·) (congrArg₂ (· - ·) ?_ (e2.trans e3))) rfl
  refine e1.trans (Finset.sum_congr rfl fun c hc => ?_)
  have hc := Finset.mem_range.mp hc
  rw [at2_vt T first b hi hc, at2_dd T first _ _ _ hj hc]

include hp in
theorem at2_dqOf (sp : Span) (hsp : sp = .diag ∨ b.r0 + 256 ≤ sp.q0 b.r0) {j c : ℕ} (hj : j < sp.n) (hc : c < 256) :
    at2 (a := sp.n) (b := 256) (dqOf (valIn T first) b sp) j c
      = ∑ i ∈ Finset.range 256, T.DS b.h (b.r0 + i) (sp.q0 b.r0 + j) * T.KT b.h (b.r0 + i) c := by
  refine (at2_tn (M := sp.n) (K := 256) (N := 256) _ _ hj hc).trans (Finset.sum_congr rfl fun i hi => ?_)
  have hi := Finset.mem_range.mp hi
  rw [at2_dsb T hp first b sp hsp hi hj, at2_kt T hp first b hi hc]

include hp in
theorem at2_dvOf (sp : Span) (hsp : sp = .diag ∨ b.r0 + 256 ≤ sp.q0 b.r0) {i c : ℕ} (hi : i < 256) (hc : c < 128) :
    at2 (a := 256) (b := 128) (dvOf (valIn T first) b sp) i c
      = ∑ j ∈ Finset.range sp.n, T.P b.h (b.r0 + i) (sp.q0 b.r0 + j) * T.DO (sp.q0 b.r0 + j) c := by
  refine (at2_plain (M := 256) (K := sp.n) (N := 128) _ _ hi hc).trans (Finset.sum_congr rfl fun j hj => ?_)
  have hj := Finset.mem_range.mp hj
  rw [at2_dd T first _ _ _ hj hc, ← at2_pt T hp first b sp hsp hi hj]
  rfl

include hp in
theorem at2_dkOf (sp : Span) (hsp : sp = .diag ∨ b.r0 + 256 ≤ sp.q0 b.r0) {i c : ℕ} (hi : i < 256) (hc : c < 256) :
    at2 (a := 256) (b := 256) (dkOf (valIn T first) b sp) i c
      = ∑ j ∈ Finset.range sp.n, T.DS b.h (b.r0 + i) (sp.q0 b.r0 + j) * T.Q (sp.q0 b.r0 + j) c := by
  refine (at2_plain (M := 256) (K := sp.n) (N := 256) _ _ hi hc).trans (Finset.sum_congr rfl fun j hj => ?_)
  have hj := Finset.mem_range.mp hj
  rw [at2_qq T first _ _ _ hj hc, at2_dsb T hp first b sp hsp hi hj]

end

end Cert.KernelIdeal.Attn

end
-- ==== Proof.Attn.Sums.lean ====
/-
  What the stores of one grid point leave, as plain sums over the keys or the queries: the spans of a key block tile the
  queries from the block's first row on, earlier queries contribute zero, and the blocks tile the keys.
-/
module

public import proofs.«01_k».proof.Proof.Attn.Point

@[expose] public section

noncomputable section

namespace Cert.KernelIdeal.Attn

open Cert.KernelIdeal Cert.KernelIdeal.Gen Idealize.ShloMosaic Idealize.ShloMosaic.ValueIdx
open scoped BigOperators

/-! ## Spans and blocks -/

theorem mem_spansFrom : ∀ (fuel a : ℕ) (sp : Span), sp ∈ spansFrom fuel a → ∃ q0 n h, sp = .off q0 n h ∧ a ≤ q0
  | 0, a, sp, hm => by cases hm
  | fuel + 1, a, sp, hm => by
    unfold spansFrom at hm
    split at hm
    · rcases List.mem_cons.mp hm with rfl | hm
      · exact ⟨_, _, _, rfl, le_refl _⟩
      · obtain ⟨q0, n, h, e, hq⟩ := mem_spansFrom fuel _ sp hm
        exact ⟨q0, n, h, e, by omega⟩
    · split at hm
      · rcases List.mem_cons.mp hm with rfl | hm
        · exact ⟨_, _, _, rfl, le_refl _⟩
        · obtain ⟨q0, n, h, e, hq⟩ := mem_spansFrom fuel _ sp hm
          exact ⟨q0, n, h, e, by omega⟩
      · cases hm

/-- A span of a block's list is its own rows or comes after them. -/
theorem span_ok (b : Bl) (sp : Span) (hm : sp ∈ Span.diag :: spansFrom 4 (b.r0 + 256)) : sp = .diag ∨ b.r0 + 256 ≤ sp.q0 b.r0 := by
  rcases List.mem_cons.mp hm with h | h
  · exact Or.inl h
  · obtain ⟨q0, n, h, e, hq⟩ := mem_spansFrom _ _ _ h
    subst e
    exact Or.inr hq

/-- Exactly one later span holds a later query. -/
theorem sum_spans_ite (r0 q : ℕ) (x : EReal) (hq : q < 2048) : ∀ (fuel a : ℕ), a ≤ 2048 → 256 ∣ a → 2048 ≤ a + 512 * fuel →
    ((spansFrom fuel a).map fun sp => if sp.q0 r0 ≤ q ∧ q < sp.q0 r0 + sp.n then x else 0).sum = if a ≤ q then x else 0
  | 0, a, h1, _, h3 => by rw [if_neg (by omega)]; rfl
  | fuel + 1, a, h1, h2, h3 => by
    unfold spansFrom
    split
    · rename_i h
      rw [List.map_cons, List.sum_cons, sum_spans_ite r0 q x hq fuel (a + 512) h (by omega) (by omega)]
      show (if a ≤ q ∧ q < a + 512 then x else 0) + _ = _
      by_cases c1 : a ≤ q
      · by_cases c2 : a + 512 ≤ q
        · rw [if_neg (by omega), if_pos c2, if_pos c1, zero_add]
        · rw [if_pos (by omega), if_neg c2, if_pos c1, add_zero]
      · rw [if_neg (by omega), if_neg (by omega), if_neg c1, zero_add]
    · split
      · rename_i h
        rw [List.map_cons, List.sum_cons, sum_spans_ite r0 q x hq fuel (a + 256) h (by omega) (by omega)]
        show (if a ≤ q ∧ q < a + 256 then x else 0) + _ = _
        by_cases c1 : a ≤ q
        · rw [if_pos (by omega), if_neg (by omega), if_pos c1, add_zero]
        · rw [if_neg (by omega), if_neg (by omega), if_neg c1, zero_add]
      · rw [if_neg (by omega)]; rfl

/-- The later spans tile the later queries. -/
theorem sum_spans_range (r0 : ℕ) (f : ℕ → EReal) : ∀ (fuel a : ℕ), a ≤ 2048 → 256 ∣ a → 2048 ≤ a + 512 * fuel →
    ((spansFrom fuel a).map fun sp => ∑ j ∈ Finset.range sp.n, f (sp.q0 r0 + j)).sum = ∑ q ∈ Finset.Ico a 2048, f q
  | 0, a, h1, _, h3 => by rw [show a = 2048 by omega, Finset.Ico_self]; rfl
  | fuel + 1, a, h1, h2, h3 => by
    unfold spansFrom
    split
    · rename_i h
      rw [List.map_cons, List.sum_cons, sum_spans_range r0 f fuel (a + 512) h (by omega) (by omega),
        ← Finset.sum_Ico_consecutive f (by omega : a ≤ a + 512) h, Finset.sum_Ico_eq_sum_range f a (a + 512)]
      rw [Nat.add_sub_cancel_left]; rfl
    · split
      · rename_i h
        rw [List.map_cons, List.sum_cons, sum_spans_range r0 f fuel (a + 256) h (by omega) (by omega),
          ← Finset.sum_Ico_consecutive f (by omega : a ≤ a + 256) h, Finset.sum_Ico_eq_sum_range f a (a + 256)]
        rw [Nat.add_sub_cancel_left]; rfl
      · rw [show a = 2048 by omega, Finset.Ico_self]; rfl

/-- A sum over a block's rows on, and over all queries, where the earlier terms are zero. -/
theorem sum_from (f : ℕ → EReal) (r0 : ℕ) (hr : r0 ≤ 2048) (hf : ∀ q, q < r0 → f q = 0) :
    ∑ q ∈ Finset.Ico r0 2048, f q = ∑ q ∈ Finset.range 2048, f q := by
  rw [Finset.range_eq_Ico, ← Finset.sum_Ico_consecutive f (Nat.zero_le r0) hr,
    Finset.sum_eq_zero (s := Finset.Ico 0 r0) fun q hq => hf q (Finset.mem_Ico.mp hq).2, zero_add]

theorem sum_chunks (f : ℕ → EReal) : ∀ n : ℕ, ∑ k ∈ Finset.range (256 * n), f k = ∑ m ∈ Finset.range n, ∑ i ∈ Finset.range 256, f (256 * m + i)
  | 0 => rfl
  | n + 1 => by
    rw [show 256 * (n + 1) = 256 * n + 256 by omega, Finset.sum_range_add, sum_chunks f n, Finset.sum_range_succ _ n]

theorem sum_keys (f : ℕ → EReal) : ∑ k ∈ Finset.range 2048, f k = ∑ m ∈ Finset.range 8, ∑ i ∈ Finset.range 256, f (256 * m + i) := sum_chunks f 8

theorem sum_blocks (f : ℕ → ℕ → EReal) :
    (blocks.map fun b => f b.h b.r0).sum = ∑ h ∈ Finset.range 2, ∑ m ∈ Finset.range 8, f h (256 * m) := by
  simp only [blocks, List.map_cons, List.map_nil, List.sum_cons, List.sum_nil, Finset.sum_range_succ, Finset.sum_range_zero]
  norm_num only
  abel

theorem sum_flatMap {α β : Type} (l : List α) (g : α → List β) (f : β → EReal) :
    ((l.flatMap g).map f).sum = (l.map fun a => ((g a).map f).sum).sum := by
  induction l with
  | nil => rfl
  | cons a l ih => rw [List.flatMap_cons, List.map_append, List.sum_append, ih, List.map_cons, List.sum_cons]

theorem blocks_dvd : ∀ b ∈ blocks, 256 ∣ b.r0 := by decide
theorem blocks_onto : ∀ (h : Fin 2) (m : Fin 8), ∃ b ∈ blocks, b.h = h.val ∧ b.r0 = 256 * m.val := by decide

section

variable (T : Tile) (hp : T.p < 4)
  (first : List (View.Piece (Elt Ideal) (S2 2048 128) .f32) → (r : LoadRect (S2 2048 128)) → Vec Ideal r.shape .f32)

/-! ## The queries' gradient -/

/-- One meeting's share at a query. -/
def unitD (q c : ℕ) (u : Bl × Span) : EReal :=
  if u.2.q0 u.1.r0 ≤ q ∧ q < u.2.q0 u.1.r0 + u.2.n then ∑ i ∈ Finset.range 256, T.DS u.1.h (u.1.r0 + i) q * T.KT u.1.h (u.1.r0 + i) c else 0

include hp in
theorem at2_dqL {q c : ℕ} (hq : q < 2048) (hc : c < 256) : ∀ us : List (Bl × Span), (∀ u ∈ us, u.2 = .diag ∨ u.1.r0 + 256 ≤ u.2.q0 u.1.r0) →
    at2 (a := 2048) (b := 256) (View.canon (Val := Elt Ideal) (e := .f32) (dqL (valIn T first) us)) q c = (us.map (unitD T q c)).sum
  | [], _ => by
    unfold dqL
    rw [at2_canon_f32 _ _ _ _ _ _ _ _ hq hc, if_pos (by omega), shapeCast_self, at2_pos _ (by omega) (by omega)]
    exact ofBits_zero
  | (b, sp) :: us, hu => by
    have ih := at2_dqL hq hc us fun u h => hu u (List.mem_cons_of_mem _ h)
    have hg := hu (b, sp) List.mem_cons_self
    rw [List.map_cons, List.sum_cons]
    unfold dqL
    have eu : unitD T q c (b, sp) = if sp.q0 b.r0 ≤ q ∧ q < sp.q0 b.r0 + sp.n
      then ∑ i ∈ Finset.range 256, T.DS b.h (b.r0 + i) q * T.KT b.h (b.r0 + i) c else 0 := rfl
    rw [at2_canon_f32 _ _ _ _ _ _ _ _ hq hc, eu]
    by_cases h : sp.q0 b.r0 ≤ q ∧ q < sp.q0 b.r0 + sp.n
    · have hj : q - sp.q0 b.r0 < sp.n := by omega
      rw [if_pos (by omega), if_pos h, Nat.sub_zero]
      refine (congrArg (fun Z => at2 (a := sp.n) (b := 256) Z _ _) (shapeCast_self (s := S2 sp.n 256) _ _)).trans ?_
      have e := at2_dqOf T hp first b sp hg hj hc
      have e2 := (at2_box (View.canon (Val := Elt Ideal) (e := .f32) (dqL (valIn T first) us)) (sp.q0 b.r0) sp.n 0 256 (sp.le b) (by omega) hj hc).trans
        (by rw [Nat.add_sub_cancel' h.1, Nat.zero_add, ih])
      rw [Nat.add_sub_cancel' h.1] at e
      rw [at2_pos _ hj hc] at e e2
      rw [at2_pos _ hj hc, addf_apply, e, add_comm]
      exact congrArg (_ + ·) e2
    · rw [if_neg (by omega), if_neg h, zero_add]
      exact ih

/-- A query's gradient in column `c`: own lanes, then the rotary ones. -/
def Tile.DQ (q c : ℕ) : EReal := ∑ h ∈ Finset.range 2, ∑ k ∈ Finset.range 2048, T.DS h k q * T.KT h k c

include hp in
theorem at2_dqL_units {q c : ℕ} (hq : q < 2048) (hc : c < 256) :
    at2 (a := 2048) (b := 256) (View.canon (Val := Elt Ideal) (e := .f32) (dqL (valIn T first) units)) q c = T.DQ q c := by
  rw [at2_dqL T hp first hq hc units fun u hm => by
    obtain ⟨b, _, h1⟩ := List.mem_flatMap.mp hm
    obtain ⟨sp, h2, rfl⟩ := List.mem_map.mp h1
    exact span_ok b sp (List.mem_reverse.mp h2)]
  unfold units
  rw [sum_flatMap]
  have key : ∀ b ∈ blocks, ((((Span.diag :: spansFrom 4 (b.r0 + 256)).reverse).map fun sp => (b, sp)).map (unitD T q c)).sum
      = (fun h r0 => ∑ i ∈ Finset.range 256, T.DS h (r0 + i) q * T.KT h (r0 + i) c) b.h b.r0 := by
    intro b hb
    have hd := blocks_dvd b hb
    have hr := b.hr
    have ef : (unitD T q c ∘ fun sp => (b, sp)) = fun sp => if sp.q0 b.r0 ≤ q ∧ q < sp.q0 b.r0 + sp.n
      then ∑ i ∈ Finset.range 256, T.DS b.h (b.r0 + i) q * T.KT b.h (b.r0 + i) c else 0 := rfl
    rw [List.map_map, List.map_reverse, List.sum_reverse, List.map_cons, List.sum_cons, ef,
      sum_spans_ite b.r0 q (∑ i ∈ Finset.range 256, T.DS b.h (b.r0 + i) q * T.KT b.h (b.r0 + i) c) hq 4 (b.r0 + 256) hr (by omega) (by omega)]
    show (if b.r0 ≤ q ∧ q < b.r0 + 256 then ∑ i ∈ Finset.range 256, T.DS b.h (b.r0 + i) q * T.KT b.h (b.r0 + i) c else 0) + _ = _
    by_cases c1 : b.r0 ≤ q
    · by_cases c2 : b.r0 + 256 ≤ q
      · rw [if_neg (by omega), if_pos c2, zero_add]
      · rw [if_pos (by omega), if_neg c2, add_zero]
    · rw [if_neg (by omega), if_neg (by omega), zero_add]
      exact (Finset.sum_eq_zero fun i _ => by rw [T.DS_of_lt (by omega), zero_mul]).symm
  rw [List.map_congr_left key, sum_blocks fun h r0 => ∑ i ∈ Finset.range 256, T.DS h (r0 + i) q * T.KT h (r0 + i) c]
  unfold Tile.DQ
  exact Finset.sum_congr rfl fun h _ => (sum_keys fun k => T.DS h k q * T.KT h k c).symm

/-! ## The keys' and values' gradient -/

theorem at2_foldl {m n : ℕ} (g : Span → FVec Ideal (S2 m n) .f32) {i j : ℕ} (hi : i < m) (hj : j < n) : ∀ (l : List Span) (x : FVec Ideal (S2 m n) .f32),
    at2 (a := m) (b := n) (l.foldl (fun a sp => addf a (g sp)) x) i j = at2 (a := m) (b := n) x i j + (l.map fun sp => at2 (a := m) (b := n) (g sp) i j).sum
  | [], x => by rw [List.foldl_nil, List.map_nil, List.sum_nil, add_zero]
  | sp :: l, x => by
    rw [List.foldl_cons, at2_foldl g hi hj l, List.map_cons, List.sum_cons, ← add_assoc]
    refine congrArg (· + _) ?_
    rw [at2_pos _ hi hj, at2_pos _ hi hj, at2_pos _ hi hj, addf_apply]

/-- The values' gradient of head `h`. -/
def Tile.DV (h k c : ℕ) : EReal := ∑ q ∈ Finset.range 2048, T.P h k q * T.DO q c
/-- The keys' gradient of head `h`, all 256 lanes. -/
def Tile.DK (h k c : ℕ) : EReal := ∑ q ∈ Finset.range 2048, T.DS h k q * T.Q q c

theorem sum_block_spans (b : Bl) (hd : 256 ∣ b.r0) (f : ℕ → EReal) (hf : ∀ q, q < b.r0 → f q = 0) :
    ∑ j ∈ Finset.range 256, f (b.r0 + j) + ((spansFrom 4 (b.r0 + 256)).map fun sp => ∑ j ∈ Finset.range sp.n, f (sp.q0 b.r0 + j)).sum
      = ∑ q ∈ Finset.range 2048, f q := by
  have hr := b.hr
  rw [sum_spans_range b.r0 f 4 (b.r0 + 256) hr (by omega) (by omega), ← sum_from f b.r0 (by omega) hf,
    ← Finset.sum_Ico_consecutive f (by omega : b.r0 ≤ b.r0 + 256) hr, Finset.sum_Ico_eq_sum_range f b.r0 (b.r0 + 256), Nat.add_sub_cancel_left]

include hp in
theorem at2_dv (b : Bl) (hd : 256 ∣ b.r0) {i c : ℕ} (hi : i < 256) (hc : c < 128) :
    at2 (a := 256) (b := 128) (dv (valIn T first) b) i c = T.DV b.h (b.r0 + i) c := by
  unfold dv
  rw [at2_foldl _ hi hc, at2_dvOf T hp first b .diag (Or.inl rfl) hi hc]
  rw [List.map_congr_left fun sp hm => at2_dvOf T hp first b sp (span_ok b sp (List.mem_cons_of_mem _ hm)) hi hc]
  exact sum_block_spans b hd (fun q => T.P b.h (b.r0 + i) q * T.DO q c) fun q hq => by
    show T.P b.h (b.r0 + i) q * T.DO q c = 0
    rw [T.P_of_lt (by omega), zero_mul]

include hp in
theorem at2_dk (b : Bl) (hd : 256 ∣ b.r0) {i c : ℕ} (hi : i < 256) (hc : c < 256) :
    at2 (a := 256) (b := 256) (dk (valIn T first) b) i c = T.DK b.h (b.r0 + i) c := by
  unfold dk
  rw [at2_foldl _ hi hc, at2_dkOf T hp first b .diag (Or.inl rfl) hi hc]
  rw [List.map_congr_left fun sp hm => at2_dkOf T hp first b sp (span_ok b sp (List.mem_cons_of_mem _ hm)) hi hc]
  exact sum_block_spans b hd (fun q => T.DS b.h (b.r0 + i) q * T.Q q c) fun q hq => by
    show T.DS b.h (b.r0 + i) q * T.Q q c = 0
    rw [T.DS_of_lt (by omega), zero_mul]

/-- The first or last 128 columns of a block of 256. -/
theorem at2_slice {e : FTy} (o : ℕ) (x : FVec Ideal (S2 256 256) e) (h : (S2 256 256).Slices ![0, o] (S2 256 128)) {i j : ℕ} (hi : i < 256) (hj : j < 128)
    (ho : o + j < 256) :
    at2 (a := 256) (b := 128) (extractStridedSlice (S2 256 128) ![0, o] x h) i j = at2 (a := 256) (b := 256) x i (o + j) := by
  rw [at2_pos _ hi hj, at2_pos _ hi ho]
  exact slice2_axis1_apply o x h _ _ _ rfl

/-- One entry of the keys' and values' gradient, from the head its lane belongs to. -/
def Tile.DKV (k c : ℕ) : EReal := if c < 128 then T.DK (c / 64) k c else T.DV ((c - 128) / 64) k (c - 128)

include hp in
theorem at2_dkvL {k c : ℕ} (hk : k < 2048) (hc : c < 256) : ∀ bs : List Bl, (∀ b ∈ bs, 256 ∣ b.r0) →
    at2 (a := 2048) (b := 256) (View.canon (Val := Elt Ideal) (e := .bf16) (dkvL (valIn T first) bs)) k c
      = if ∃ b ∈ bs, b.r0 ≤ k ∧ k < b.r0 + 256 ∧ c % 128 / 64 = b.h then T.DKV k c else 0
  | [], _ => by
    unfold dkvL
    rw [at2_canon_bf16 _ _ _ _ _ _ _ _ hk hc, if_pos (by omega), at2_pos _ (by omega) (by omega), if_neg (by simp)]
    exact ofBits_zero16
  | b :: bs, hbs => by
    have ih := at2_dkvL hk hc bs fun b h => hbs b (List.mem_cons_of_mem _ h)
    have hd := hbs b List.mem_cons_self
    have hr := b.hr
    have hx : (∃ b' ∈ b :: bs, b'.r0 ≤ k ∧ k < b'.r0 + 256 ∧ c % 128 / 64 = b'.h)
        ↔ (b.r0 ≤ k ∧ k < b.r0 + 256 ∧ c % 128 / 64 = b.h) ∨ ∃ b' ∈ bs, b'.r0 ≤ k ∧ k < b'.r0 + 256 ∧ c % 128 / 64 = b'.h := by
      simp only [List.mem_cons, exists_eq_or_imp]
    rw [if_congr hx rfl rfl]
    unfold dkvL vPiece
    rw [at2_canon_bf16 _ _ _ _ _ _ _ _ hk hc]
    unfold kPiece
    by_cases hrow : b.r0 ≤ k ∧ k < b.r0 + 256
    · have hi : k - b.r0 < 256 := by omega
      by_cases hcol : c < 128
      · rw [if_neg (by omega), at2_canon_bf16 _ _ _ _ _ _ _ _ hk hc, if_pos (by omega), Nat.sub_zero]
        refine (at2_select _ (fun j => j / 64 = b.h) (fun j => headM_apply ⟨b.h, b.hh⟩ j) _ _ hi hcol).trans ?_
        rw [Nat.mod_eq_of_lt hcol]
        by_cases hl : c / 64 = b.h
        · rw [if_pos hl, if_pos (Or.inl ⟨hrow.1, hrow.2, hl⟩)]
          refine (at2_slice 0 (dk (valIn T first) b) slices_S256x256_o0_0_S256x128 hi hcol (by omega)).trans ?_
          rw [Nat.zero_add, at2_dk T hp first b hd hi (by omega), Nat.add_sub_cancel' hrow.1]
          unfold Tile.DKV
          rw [if_pos hcol, hl]
        · rw [if_neg hl]
          refine (congrArg (fun Z => at2 (a := 256) (b := 128) Z _ _) (shapeCast_self (s := S2 256 128) _ _)).trans ?_
          refine (at2_box (View.canon (Val := Elt Ideal) (e := .bf16) (dkvL (valIn T first) bs)) b.r0 256 0 128 b.hr (by omega) hi hcol).trans ?_
          rw [Nat.add_sub_cancel' hrow.1, Nat.zero_add, ih, Nat.mod_eq_of_lt hcol]
          exact if_congr ⟨Or.inr, fun h => h.resolve_left fun h => hl h.2.2⟩ rfl rfl
      · have hj : c - 128 < 128 := by omega
        have hm : c % 128 = c - 128 := by omega
        rw [if_pos (by omega)]
        refine (at2_select _ (fun j => j / 64 = b.h) (fun j => headM_apply ⟨b.h, b.hh⟩ j) _ _ hi hj).trans ?_
        rw [hm]
        by_cases hl : (c - 128) / 64 = b.h
        · rw [if_pos hl, if_pos (Or.inl ⟨hrow.1, hrow.2, hl⟩)]
          refine (at2_dv T hp first b hd hi hj).trans ?_
          rw [Nat.add_sub_cancel' hrow.1]
          unfold Tile.DKV
          rw [if_neg hcol, hl]
        · rw [if_neg hl]
          refine (congrArg (fun Z => at2 (a := 256) (b := 128) Z _ _) (shapeCast_self (s := S2 256 128) _ _)).trans ?_
          refine (at2_box (View.canon (Val := Elt Ideal) (e := .bf16) (_ :: dkvL (valIn T first) bs)) b.r0 256 128 128 b.hr (by omega) hi hj).trans ?_
          rw [Nat.add_sub_cancel' hrow.1, Nat.add_sub_cancel' (by omega : 128 ≤ c), at2_canon_bf16 _ _ _ _ _ _ _ _ hk hc, if_neg (by omega), ih, hm]
          exact if_congr ⟨Or.inr, fun h => h.resolve_left fun h => hl h.2.2⟩ rfl rfl
    · rw [if_neg (by omega), at2_canon_bf16 _ _ _ _ _ _ _ _ hk hc, if_neg (by omega), ih]
      exact if_congr ⟨Or.inr, fun h => h.resolve_left fun h => hrow ⟨h.1, h.2.1⟩⟩ rfl rfl

include hp in
theorem at2_dkvL_blocks {k c : ℕ} (hk : k < 2048) (hc : c < 256) :
    at2 (a := 2048) (b := 256) (View.canon (Val := Elt Ideal) (e := .bf16) (dkvL (valIn T first) blocks)) k c = T.DKV k c := by
  rw [at2_dkvL T hp first hk hc blocks blocks_dvd, if_pos]
  obtain ⟨b, hb, hh, hr⟩ := blocks_onto ⟨c % 128 / 64, by omega⟩ ⟨k / 256, by omega⟩
  simp only at hh hr
  exact ⟨b, hb, by omega, by omega, hh.symm⟩

/-! ## The rotary keys' gradient -/

/-- Head `h`'s share of the rotary keys' gradient. -/
def Tile.DPE (h k c : ℕ) : EReal := if c / 16 % 4 = (2 * T.p + h) % 4 then T.DK h k (128 + c) else 0

include hp in
theorem at2_dpe (b : Bl) (hd : 256 ∣ b.r0) {i c : ℕ} (hi : i < 256) (hc : c < 128) :
    at2 (a := 256) (b := 128) (dpe (valIn T first) b) i c = T.DPE b.h (b.r0 + i) c := by
  unfold dpe Tile.DPE
  refine (at2_select _ (fun j => j / 16 % 4 = (2 * T.p + b.h) % 4) (fun j => ropeM_apply ⟨T.p, hp⟩ ⟨b.h, b.hh⟩ j) _ _ hi hc).trans ?_
  refine if_congr Iff.rfl ?_ ?_
  · exact (at2_slice 128 (dk (valIn T first) b) slices_S256x256_o0_128_S256x128 hi hc (by omega)).trans (at2_dk T hp first b hd hi (by omega))
  · rw [at2_pos _ hi hc]
    exact ofBits_zero

/-- The second head's block comes after the first head's, and the first head's before any other of its rows. -/
def Ordered : List Bl → Prop
  | [] => True
  | b :: bs => (b.h = 0 → ∀ b' ∈ bs, b'.r0 + 256 ≤ b.r0 ∨ b.r0 + 256 ≤ b'.r0) ∧ (b.h ≠ 0 → ∃ b' ∈ bs, b'.r0 = b.r0) ∧ Ordered bs

theorem blocks_ordered : Ordered blocks := by
  simp [blocks, Ordered]

include hp in
theorem at2_dpeL (base : List (View.Piece (Elt Ideal) (S2 2048 128) .f32)) (O : ℕ → ℕ → EReal) {c : ℕ} (hc : c < 128)
    (hO : ∀ (b : Bl) (bs : List Bl), (∀ b' ∈ bs, b'.r0 + 256 ≤ b.r0 ∨ b.r0 + 256 ≤ b'.r0) → ∀ i, i < 256 →
      at2 (a := 256) (b := 128) (first (dpeL (valIn T first) base bs) (box b.r0 256 0 128 b.hr (by omega)).toLoadRect) i c = O (b.r0 + i) c)
    {k : ℕ} (hk : k < 2048) : ∀ bs : List Bl, (∀ b ∈ bs, 256 ∣ b.r0) → Ordered bs → (∃ b ∈ bs, b.r0 ≤ k ∧ k < b.r0 + 256) →
    at2 (a := 2048) (b := 128) (View.canon (Val := Elt Ideal) (e := .f32) (dpeL (valIn T first) base bs)) k c
      = O k c + (bs.map fun b => if b.r0 ≤ k ∧ k < b.r0 + 256 then T.DPE b.h k c else 0).sum
  | [], _, _, h => by obtain ⟨_, h, _⟩ := h; cases h
  | b :: bs, hbs, ho, hx => by
    have hd := hbs b List.mem_cons_self
    have hr := b.hr
    have ih := at2_dpeL base O hc hO hk bs (fun b h => hbs b (List.mem_cons_of_mem _ h)) ho.2.2
    unfold dpeL pPiece
    rw [at2_canon_f32 _ _ _ _ _ _ _ _ hk hc, List.map_cons, List.sum_cons]
    by_cases hrow : b.r0 ≤ k ∧ k < b.r0 + 256
    · have hi : k - b.r0 < 256 := by omega
      rw [if_pos (by omega), if_pos hrow, Nat.sub_zero]
      have e := at2_dpe T hp first b hd hi hc
      rw [Nat.add_sub_cancel' hrow.1, at2_pos _ hi hc] at e
      have es := fun X : (S2 256 128).Idx → EReal => shapeCast_self (s := S2 256 128) X rfl
      rw [at2_pos _ hi hc, addf_apply, e]
      refine (congrArg (· + _) (congrFun (es _) _)).trans ?_
      by_cases h0 : b.h = 0
      · have e0 := hO b bs (ho.1 h0) (k - b.r0) hi
        rw [Nat.add_sub_cancel' hrow.1, at2_pos _ hi hc] at e0
        rw [if_pos h0]
        have hz : (bs.map fun b => if b.r0 ≤ k ∧ k < b.r0 + 256 then T.DPE b.h k c else 0).sum = 0 := by
          rw [List.map_congr_left (g := fun _ => (0 : EReal)) fun b' hb' => if_neg (by have := ho.1 h0 b' hb'; omega)]
          simp
        rw [hz, add_zero]
        exact congrArg (· + _) e0
      · obtain ⟨b', hb', er⟩ := ho.2.1 h0
        have ih := ih ⟨b', hb', by omega, by omega⟩
        rw [if_neg h0, add_comm (T.DPE _ _ _), ← add_assoc, ← ih]
        refine congrArg (· + _) ?_
        have e2 := (at2_box (View.canon (Val := Elt Ideal) (e := .f32) (dpeL (valIn T first) base bs)) b.r0 256 0 128 b.hr (by omega) hi hc).trans
          (by rw [Nat.add_sub_cancel' hrow.1, Nat.zero_add])
        rw [at2_pos _ hi hc] at e2
        exact e2
    · rw [if_neg (by omega), if_neg hrow, zero_add]
      refine ih ?_
      obtain ⟨b', hb', h⟩ := hx
      rcases List.mem_cons.mp hb' with rfl | hb'
      · exact absurd h hrow
      · exact ⟨b', hb', h⟩

include hp in
theorem at2_dpeL_blocks (base : List (View.Piece (Elt Ideal) (S2 2048 128) .f32)) (O : ℕ → ℕ → EReal) {c : ℕ} (hc : c < 128)
    (hO : ∀ (b : Bl) (bs : List Bl), (∀ b' ∈ bs, b'.r0 + 256 ≤ b.r0 ∨ b.r0 + 256 ≤ b'.r0) → ∀ i, i < 256 →
      at2 (a := 256) (b := 128) (first (dpeL (valIn T first) base bs) (box b.r0 256 0 128 b.hr (by omega)).toLoadRect) i c = O (b.r0 + i) c)
    {k : ℕ} (hk : k < 2048) :
    at2 (a := 2048) (b := 128) (View.canon (Val := Elt Ideal) (e := .f32) (dpeL (valIn T first) base blocks)) k c
      = O k c + ∑ h ∈ Finset.range 2, T.DPE h k c := by
  obtain ⟨b, hb, hh, hr⟩ := blocks_onto 0 ⟨k / 256, by omega⟩
  simp only at hh hr
  rw [at2_dpeL T hp first base O hc hO hk blocks blocks_dvd blocks_ordered ⟨b, hb, by omega, by omega⟩,
    sum_blocks fun h r0 => if r0 ≤ k ∧ k < r0 + 256 then T.DPE h k c else 0]
  refine congrArg (O k c + ·) (Finset.sum_congr rfl fun h _ => ?_)
  rw [Finset.sum_eq_single (k / 256)]
  · exact if_pos (by omega)
  · exact fun m _ hm => if_neg (by omega)
  · exact fun hm => absurd (Finset.mem_range.mpr (by omega)) hm

end

end Cert.KernelIdeal.Attn

end
-- ==== Proof.Attn.Tiles.lean ====
/-
  What the body leaves in its four output blocks at one grid point, in each of its three cases: the sums of `Sums`, for the
  rotary gradients added to what the block held (zero where the case clears it).
-/
module

public import proofs.«01_k».proof.Proof.Attn.Sums

@[expose] public section

noncomputable section

namespace Cert.KernelIdeal.Attn

open Cert.KernelIdeal Cert.KernelIdeal.Gen Idealize.ShloMosaic Idealize.ShloMosaic.ValueIdx
open scoped BigOperators

variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x256 .bf16) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2x1x2048 .f32) (harg7 : arg7.IsWhole)
  (arg8 : Memref sig .tc .vmem S2x1x2048 .f32) (harg8 : arg8.IsWhole)
  (arg9 : Memref sig .tc .vmem S2048x128 .bf16) (harg9 : arg9.IsWhole)
  (arg10 : Memref sig .tc .vmem S2048x256 .bf16) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S2048x256 .f32) (harg13 : arg13.IsWhole)
  (arg14 : Memref sig .tc .vmem S2048x256 .bf16) (harg14 : arg14.IsWhole)
  (x0 : Vec Ideal S2048x128 .bf16) (x1 : Vec Ideal S2048x128 .bf16) (x2 : Vec Ideal S2048x256 .bf16) (x3 : Vec Ideal S2048x128 .bf16) (x4 : Vec Ideal S2048x128 .bf16) (x5 : Vec Ideal S2x1x2048 .f32) (x6 : Vec Ideal S2x1x2048 .f32) (xo9 xo10 : Vec Ideal S2048x128 .f32)

/-- The tile of one grid point, from its input blocks. -/
def tileOf : Tile where
  p := (i 1).val
  q := View.canon (Val := Elt Ideal) (e := .bf16) [⟨box 0 2048 128 128 (by omega) (by omega), x1⟩, ⟨box 0 2048 0 128 (by omega) (by omega), x0⟩]
  kv := x2
  pe := x3
  dout := x4
  lse := x5
  dl := x6

theorem tileOf_p : (tileOf i x0 x1 x2 x3 x4 x5 x6).p < 4 := (i 1).isLt

/-- A read of the whole of a block. -/
theorem read_all {a b : ℕ} {e : EltTy} (X : (S2 a b).Idx → Elt Ideal e) :
    (fun x => X ((box 0 a 0 b (by omega) (by omega)).toLoadRect.idx x)) = X := by
  funext x
  refine congrArg X (funext fun d => Fin.ext ?_)
  match d with
  | ⟨0, _⟩ => exact (Nat.zero_add _).trans (Nat.one_mul _)
  | ⟨1, _⟩ => exact (Nat.zero_add _).trans (Nat.one_mul _)

theorem readAt_unread {s : Shape} {e : EltTy} (v : Memref sig .tc .vmem s e) (hv : v.IsWhole) (X : Vec Ideal s e) (r : LoadRect s) :
    View.readAt (Elt Ideal) v.view r (hv.unread X) = fun x => X (r.idx x) := by
  funext x
  show v.view.read (Elt Ideal) (hv.unread X) (r.idx x) = _
  rw [hv.read_unread]

theorem memIn_eq (first : List (View.Piece (Elt Ideal) (S2 2048 128) .f32) → (r : LoadRect (S2 2048 128)) → Vec Ideal r.shape .f32) :
    memIn (F := Ideal) i arg2 harg2 arg3 harg3 arg4 harg4 arg5 harg5 arg6 harg6 arg7 harg7 arg8 harg8 arg10 arg12 arg13 arg14 x0 x1 x2 x3 x4 x5 x6 first = valIn (tileOf i x0 x1 x2 x3 x4 x5 x6) first := by
  have hq : qStores (F := Ideal) arg2 harg2 arg3 harg3 x0 x1
      = [⟨box 0 2048 128 128 (by omega) (by omega), x1⟩, ⟨box 0 2048 0 128 (by omega) (by omega), x0⟩] := by
    unfold qStores
    rw [readAt_unread, readAt_unread]
    exact congrArg₂ (fun A B => [(⟨box 0 2048 128 128 (by omega) (by omega), A⟩ : View.Piece (Elt Ideal) (S2 2048 256) .bf16), ⟨box 0 2048 0 128 (by omega) (by omega), B⟩])
      ((shapeCast_self (s := S2 2048 128) _ _).trans (read_all x1)) ((shapeCast_self (s := S2 2048 128) _ _).trans (read_all x0))
  unfold memIn valIn tileOf
  simp only [View.readCov_eq_canon', readAt_unread, hq]

theorem canon_dpeL_off (I : In Ideal) (base : List (View.Piece (Elt Ideal) (S2 2048 128) .f32)) {k j : ℕ} (hk : k < 2048) (hj : j < 128) :
    ∀ bs : List Bl, (∀ b ∈ bs, ¬(b.r0 ≤ k ∧ k < b.r0 + 256)) →
    at2 (a := 2048) (b := 128) (View.canon (Val := Elt Ideal) (e := .f32) (dpeL I base bs)) k j = at2 (a := 2048) (b := 128) (View.canon (Val := Elt Ideal) (e := .f32) base) k j
  | [], _ => rfl
  | b :: bs, h => by
    unfold dpeL pPiece
    have := h b List.mem_cons_self
    rw [at2_canon_f32 _ _ _ _ _ _ _ _ hk hj, if_neg (by omega)]
    exact canon_dpeL_off I base hk hj bs fun b hb => h b (List.mem_cons_of_mem _ hb)

theorem at2_zeroPiece {k j : ℕ} (hk : k < 2048) (hj : j < 128) :
    at2 (a := 2048) (b := 128) (View.canon (Val := Elt Ideal) (e := .f32) [zeroPiece (F := Ideal)]) k j = 0 := by
  unfold zeroPiece
  rw [at2_canon_f32 _ _ _ _ _ _ _ _ hk hj, if_pos (by omega), at2_pos _ (by omega) (by omega)]
  exact ofBits_zero

theorem at2_outQ (T : Tile) (hp : T.p < 4) (first : List (View.Piece (Elt Ideal) (S2 2048 128) .f32) → (r : LoadRect (S2 2048 128)) → Vec Ideal r.shape .f32)
    {k j : ℕ} (hk : k < 2048) (hj : j < 128) : at2 (a := 2048) (b := 128) (outQ (valIn T first)) k j = T.DQ k j := by
  have e := (at2_box (View.canon (Val := Elt Ideal) (e := .f32) (dqL (valIn T first) units)) 0 2048 0 128 (by omega) (by omega) hk hj).trans
    (by rw [Nat.zero_add, Nat.zero_add])
  have e := e.trans (at2_dqL_units T hp first hk (by omega))
  unfold outQ
  rw [at2_pos _ hk hj] at e
  rw [at2_pos _ hk hj, truncf_apply]
  exact e

theorem at2_outQpe (T : Tile) (hp : T.p < 4) (first : List (View.Piece (Elt Ideal) (S2 2048 128) .f32) → (r : LoadRect (S2 2048 128)) → Vec Ideal r.shape .f32)
    (old : Vec Ideal (S2 2048 128) .f32) {k j : ℕ} (hk : k < 2048) (hj : j < 128) :
    at2 (a := 2048) (b := 128) (outQpe (valIn T first) old) k j = at2 (a := 2048) (b := 128) old k j + T.DQ k (128 + j) := by
  have e := (at2_box (View.canon (Val := Elt Ideal) (e := .f32) (dqL (valIn T first) units)) 0 2048 128 128 (by omega) (by omega) hk hj).trans
    (by rw [Nat.zero_add])
  have e := e.trans (at2_dqL_units T hp first hk (by omega))
  unfold outQpe
  rw [at2_pos _ hk hj] at e
  rw [at2_pos _ hk hj, addf_apply, shapeCast_self, at2_pos _ hk hj]
  exact congrArg (_ + ·) e

theorem out7_A (hc0 : cond0_0 i) (hc1 : cond0_1 i) {k j : ℕ} (hk : k < 2048) (hj : j < 128) :
    at2 (a := 2048) (b := 128) (out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6) k j = (tileOf i x0 x1 x2 x3 x4 x5 x6).DQ k j := by
  unfold out0_A_7
  rw [View.read_writes_junk_eq_canon, pieces7_A, memIn_eq]
  rw [at2_canon_bf16 _ _ _ _ _ _ _ _ hk hj, if_pos (by omega), Nat.sub_zero, Nat.sub_zero]
  exact at2_outQ _ (tileOf_p i x0 x1 x2 x3 x4 x5 x6) _ hk hj

theorem out8_A (hc0 : cond0_0 i) (hc1 : cond0_1 i) {k j : ℕ} (hk : k < 2048) (hj : j < 256) :
    at2 (a := 2048) (b := 256) (out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6) k j = (tileOf i x0 x1 x2 x3 x4 x5 x6).DKV k j := by
  unfold out0_A_8
  rw [View.read_writes_junk_eq_canon, pieces8_A, memIn_eq]
  exact at2_dkvL_blocks _ (tileOf_p i x0 x1 x2 x3 x4 x5 x6) _ hk hj

theorem out9_A (hc0 : cond0_0 i) (hc1 : cond0_1 i) {k j : ℕ} (hk : k < 2048) (hj : j < 128) :
    at2 (a := 2048) (b := 128) (out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6) k j = (tileOf i x0 x1 x2 x3 x4 x5 x6).DQ k (128 + j) := by
  unfold out0_A_9
  rw [View.read_writes_junk_eq_canon, pieces9_A, memIn_eq]
  rw [at2_canon_f32 _ _ _ _ _ _ _ _ hk hj, if_pos (by omega), Nat.sub_zero, Nat.sub_zero, at2_outQpe _ (tileOf_p i x0 x1 x2 x3 x4 x5 x6) _ _ hk hj]
  rw [View.readCov_eq_canon']
  refine (congrArg (fun Z => at2 (a := 2048) (b := 128) Z k j + _) (read_all (View.canon (Val := Elt Ideal) (e := .f32) [zeroPiece (F := Ideal)]))).trans ?_
  beta_reduce
  rw [at2_zeroPiece hk hj, zero_add]

theorem out10_A (hc0 : cond0_0 i) (hc1 : cond0_1 i) {k j : ℕ} (hk : k < 2048) (hj : j < 128) :
    at2 (a := 2048) (b := 128) (out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6) k j = ∑ h ∈ Finset.range 2, (tileOf i x0 x1 x2 x3 x4 x5 x6).DPE h k j := by
  unfold out0_A_10
  rw [View.read_writes_junk_eq_canon, pieces10_A, memIn_eq]
  refine (at2_dpeL_blocks _ (tileOf_p i x0 x1 x2 x3 x4 x5 x6) _ _ (fun _ _ => 0) hj (fun b bs hb n hn => ?_) hk).trans (zero_add _)
  rw [View.readCov_eq_canon']
  refine (at2_box (View.canon (Val := Elt Ideal) (e := .f32) _) b.r0 256 0 128 b.hr (by omega) hn hj).trans ?_
  have := b.hr
  rw [Nat.zero_add, canon_dpeL_off _ _ (by omega) hj bs fun b' hb' => by have := hb b' hb'; omega]
  exact at2_zeroPiece (by omega) hj

theorem out7_B (hc0 : ¬cond0_0 i) (hc1 : ¬cond0_1 i) {k j : ℕ} (hk : k < 2048) (hj : j < 128) :
    at2 (a := 2048) (b := 128) (out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10) k j = (tileOf i x0 x1 x2 x3 x4 x5 x6).DQ k j := by
  unfold out0_B_7
  rw [View.read_writes_junk_eq_canon, pieces7_B, memIn_eq]
  rw [at2_canon_bf16 _ _ _ _ _ _ _ _ hk hj, if_pos (by omega), Nat.sub_zero, Nat.sub_zero]
  exact at2_outQ _ (tileOf_p i x0 x1 x2 x3 x4 x5 x6) _ hk hj

theorem out8_B (hc0 : ¬cond0_0 i) (hc1 : ¬cond0_1 i) {k j : ℕ} (hk : k < 2048) (hj : j < 256) :
    at2 (a := 2048) (b := 256) (out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10) k j = (tileOf i x0 x1 x2 x3 x4 x5 x6).DKV k j := by
  unfold out0_B_8
  rw [View.read_writes_junk_eq_canon, pieces8_B, memIn_eq]
  exact at2_dkvL_blocks _ (tileOf_p i x0 x1 x2 x3 x4 x5 x6) _ hk hj

theorem out9_B (hc0 : ¬cond0_0 i) (hc1 : ¬cond0_1 i) {k j : ℕ} (hk : k < 2048) (hj : j < 128) :
    at2 (a := 2048) (b := 128) (out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10) k j = at2 (a := 2048) (b := 128) xo9 k j + (tileOf i x0 x1 x2 x3 x4 x5 x6).DQ k (128 + j) := by
  unfold out0_B_9
  rw [View.read_writes_junk_eq_canon, pieces9_B, memIn_eq]
  rw [at2_canon_f32 _ _ _ _ _ _ _ _ hk hj, if_pos (by omega), Nat.sub_zero, Nat.sub_zero, at2_outQpe _ (tileOf_p i x0 x1 x2 x3 x4 x5 x6) _ _ hk hj]
  rw [readAt_unread]
  exact congrArg (fun Z => at2 (a := 2048) (b := 128) Z k j + _) (read_all xo9)

theorem out10_B (hc0 : ¬cond0_0 i) (hc1 : ¬cond0_1 i) {k j : ℕ} (hk : k < 2048) (hj : j < 128) :
    at2 (a := 2048) (b := 128) (out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10) k j = at2 (a := 2048) (b := 128) xo10 k j + ∑ h ∈ Finset.range 2, (tileOf i x0 x1 x2 x3 x4 x5 x6).DPE h k j := by
  unfold out0_B_10
  rw [View.read_writes_junk_eq_canon, pieces10_B, memIn_eq]
  refine at2_dpeL_blocks _ (tileOf_p i x0 x1 x2 x3 x4 x5 x6) _ _ (fun k j => at2 (a := 2048) (b := 128) xo10 k j) hj (fun b bs hb n hn => ?_) hk
  rw [readAt_unread]
  refine (at2_box xo10 b.r0 256 0 128 b.hr (by omega) hn hj).trans ?_
  rw [Nat.zero_add]

theorem out7_C (hc0 : ¬cond0_0 i) (hc1 : cond0_1 i) {k j : ℕ} (hk : k < 2048) (hj : j < 128) :
    at2 (a := 2048) (b := 128) (out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10) k j = (tileOf i x0 x1 x2 x3 x4 x5 x6).DQ k j := by
  unfold out0_C_7
  rw [View.read_writes_junk_eq_canon, pieces7_C, memIn_eq]
  rw [at2_canon_bf16 _ _ _ _ _ _ _ _ hk hj, if_pos (by omega), Nat.sub_zero, Nat.sub_zero]
  exact at2_outQ _ (tileOf_p i x0 x1 x2 x3 x4 x5 x6) _ hk hj

theorem out8_C (hc0 : ¬cond0_0 i) (hc1 : cond0_1 i) {k j : ℕ} (hk : k < 2048) (hj : j < 256) :
    at2 (a := 2048) (b := 256) (out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10) k j = (tileOf i x0 x1 x2 x3 x4 x5 x6).DKV k j := by
  unfold out0_C_8
  rw [View.read_writes_junk_eq_canon, pieces8_C, memIn_eq]
  exact at2_dkvL_blocks _ (tileOf_p i x0 x1 x2 x3 x4 x5 x6) _ hk hj

theorem out9_C (hc0 : ¬cond0_0 i) (hc1 : cond0_1 i) {k j : ℕ} (hk : k < 2048) (hj : j < 128) :
    at2 (a := 2048) (b := 128) (out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10) k j = (tileOf i x0 x1 x2 x3 x4 x5 x6).DQ k (128 + j) := by
  unfold out0_C_9
  rw [View.read_writes_junk_eq_canon, pieces9_C, memIn_eq]
  rw [at2_canon_f32 _ _ _ _ _ _ _ _ hk hj, if_pos (by omega), Nat.sub_zero, Nat.sub_zero, at2_outQpe _ (tileOf_p i x0 x1 x2 x3 x4 x5 x6) _ _ hk hj]
  rw [View.readCov_eq_canon']
  refine (congrArg (fun Z => at2 (a := 2048) (b := 128) Z k j + _) (read_all (View.canon (Val := Elt Ideal) (e := .f32) [zeroPiece (F := Ideal)]))).trans ?_
  beta_reduce
  rw [at2_zeroPiece hk hj, zero_add]

theorem out10_C (hc0 : ¬cond0_0 i) (hc1 : cond0_1 i) {k j : ℕ} (hk : k < 2048) (hj : j < 128) :
    at2 (a := 2048) (b := 128) (out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10) k j = at2 (a := 2048) (b := 128) xo10 k j + ∑ h ∈ Finset.range 2, (tileOf i x0 x1 x2 x3 x4 x5 x6).DPE h k j := by
  unfold out0_C_10
  rw [View.read_writes_junk_eq_canon, pieces10_C, memIn_eq]
  refine at2_dpeL_blocks _ (tileOf_p i x0 x1 x2 x3 x4 x5 x6) _ _ (fun k j => at2 (a := 2048) (b := 128) xo10 k j) hj (fun b bs hb n hn => ?_) hk
  rw [readAt_unread]
  refine (at2_box xo10 b.r0 256 0 128 b.hr (by omega) hn hj).trans ?_
  rw [Nat.zero_add]

end Cert.KernelIdeal.Attn

end
-- ==== Proof.Attn.Heads.lean ====
/-
  The gradients head by head: the sums of one grid point written with the whole arrays, a batch entry `b` and one of the eight
  heads `g`, so that the arrays' own layout is all that is left of the tiling.
-/
module

public import proofs.«01_k».proof.Proof.Attn.Sums

@[expose] public section

noncomputable section

namespace Cert.KernelIdeal.Attn

open Cert.KernelIdeal Cert.KernelIdeal.Gen Idealize.ShloMosaic Idealize.ShloMosaic.ValueIdx
open scoped BigOperators

/-- The seven arrays by row and column: queries, keys and values, rotary keys, the output's gradient, and by head and query the
    logarithms of the exponentials' sums and the softmax's corrections. -/
structure Arrs where
  q : ℕ → ℕ → EReal
  kv : ℕ → ℕ → EReal
  pe : ℕ → ℕ → EReal
  dout : ℕ → ℕ → EReal
  lse : ℕ → ℕ → EReal
  dl : ℕ → ℕ → EReal

namespace Arrs

variable (A : Arrs)

/-- Own key, value, query and output gradient of head `g`, and the rotary query and key by half and lane. -/
def kk (b g k d : ℕ) : EReal := A.kv (2048 * b + k) (256 * (g / 2) + 64 * (g % 2) + d)
def vv (b g k d : ℕ) : EReal := A.kv (2048 * b + k) (256 * (g / 2) + 128 + 64 * (g % 2) + d)
def qq (b g q d : ℕ) : EReal := A.q (2048 * b + q) (64 * g + d)
def oo (b g q d : ℕ) : EReal := A.dout (2048 * b + q) (64 * g + d)
def qe (b g q i d : ℕ) : EReal := A.q (2048 * b + q) (512 + 128 * (g / 4) + 64 * i + 16 * (g % 4) + d)
def ke (b g k i d : ℕ) : EReal := A.pe (2048 * b + k) (64 * i + 16 * (g % 4) + d)
/-- Scaled logits. -/
def X (b g k q : ℕ) : EReal :=
  (∑ d ∈ Finset.range 64, A.kk b g k d * A.qq b g q d + ∑ i ∈ Finset.range 2, ∑ d ∈ Finset.range 16, A.ke b g k i d * A.qe b g q i d) * Tile.SC
/-- Probabilities, their gradient, and the unscaled logits' gradient. -/
def P (b g k q : ℕ) : EReal := if k ≤ q then Ideal.exp (A.X b g k q - A.lse (8 * b + g) q) else 0
def DP (b g k q : ℕ) : EReal := ∑ d ∈ Finset.range 64, A.vv b g k d * A.oo b g q d
def DS (b g k q : ℕ) : EReal := A.P b g k q * (A.DP b g k q - A.dl (8 * b + g) q) * Tile.SC

/-- The gradients: of the own queries, of keys and values, of the rotary queries, of the rotary keys. -/
def GQ (b g q d : ℕ) : EReal := ∑ k ∈ Finset.range 2048, A.DS b g k q * A.kk b g k d
def GK (b g k d : ℕ) : EReal := ∑ q ∈ Finset.range 2048, A.DS b g k q * A.qq b g q d
def GV (b g k d : ℕ) : EReal := ∑ q ∈ Finset.range 2048, A.P b g k q * A.oo b g q d
def GE (b g q i d : ℕ) : EReal := ∑ k ∈ Finset.range 2048, A.DS b g k q * A.ke b g k i d
def GP (b g k i d : ℕ) : EReal := ∑ q ∈ Finset.range 2048, A.DS b g k q * A.qe b g q i d

end Arrs

theorem sum_pieces (f : ℕ → EReal) (m : ℕ) : ∀ n : ℕ,
    ∑ k ∈ Finset.range (m * n), f k = ∑ j ∈ Finset.range n, ∑ d ∈ Finset.range m, f (m * j + d)
  | 0 => rfl
  | n + 1 => by rw [Nat.mul_succ, Finset.sum_range_add, sum_pieces f m n, Finset.sum_range_succ _ n]

theorem sum_if_all (f : ℕ → EReal) (n : ℕ) (P : ℕ → Prop) [DecidablePred P] (p : Prop) [Decidable p] (h : ∀ d < n, (P d ↔ p)) :
    ∑ d ∈ Finset.range n, (if P d then f d else 0) = if p then ∑ d ∈ Finset.range n, f d else 0 := by
  by_cases hp : p
  · rw [if_pos hp]
    exact Finset.sum_congr rfl fun d hd => if_pos ((h d (Finset.mem_range.mp hd)).mpr hp)
  · rw [if_neg hp]
    exact Finset.sum_eq_zero fun d hd => if_neg fun hP => hp ((h d (Finset.mem_range.mp hd)).mp hP)

/-- A head's own lanes among the 128 of a pair. -/
theorem sum_lanes (f : ℕ → EReal) {h : ℕ} (hh : h < 2) :
    ∑ c ∈ Finset.range 128, (if c / 64 = h then f c else 0) = ∑ d ∈ Finset.range 64, f (64 * h + d) := by
  rw [show (128 : ℕ) = 64 * 2 from rfl, sum_pieces]
  rw [Finset.sum_congr rfl fun j _ => sum_if_all (fun d => f (64 * j + d)) 64 (fun d => (64 * j + d) / 64 = h) (j = h) fun d hd => by omega]
  obtain rfl | rfl : h = 0 ∨ h = 1 := by omega
  all_goals simp [Finset.sum_range_succ]

/-- A head's rotary lanes among the 128 of four heads: sixteen of each half. -/
theorem sum_rope (f : ℕ → EReal) {r : ℕ} (hr : r < 4) :
    ∑ c ∈ Finset.range 128, (if c / 16 % 4 = r then f c else 0) = ∑ i ∈ Finset.range 2, ∑ d ∈ Finset.range 16, f (64 * i + 16 * r + d) := by
  rw [show (128 : ℕ) = 16 * 8 from rfl, sum_pieces]
  rw [Finset.sum_congr rfl fun j _ => sum_if_all (fun d => f (16 * j + d)) 16 (fun d => (16 * j + d) / 16 % 4 = r) (j % 4 = r) fun d hd => by omega]
  have e : ∀ g : ℕ → EReal, ∑ j ∈ Finset.range 8, (if j % 4 = r then g j else 0) = g r + g (4 + r) := by
    intro g
    obtain rfl | rfl | rfl | rfl : r = 0 ∨ r = 1 ∨ r = 2 ∨ r = 3 := by omega
    all_goals simp [Finset.sum_range_succ]
  rw [e fun j => ∑ d ∈ Finset.range 16, f (16 * j + d), Finset.sum_range_succ _ 1, Finset.sum_range_one]
  congr 1
  · exact Finset.sum_congr rfl fun d _ => congrArg f (by omega)
  · exact Finset.sum_congr rfl fun d _ => congrArg f (by omega)

/-- `T` is the tile of batch entry `b` and pair `p` of the arrays `A`. -/
structure Fits (A : Arrs) (b p : ℕ) (T : Tile) : Prop where
  hp : p < 4
  tp : T.p = p
  q1 : ∀ i < 2048, ∀ c < 128, at2 T.q i c = A.q (2048 * b + i) (128 * p + c)
  q2 : ∀ i < 2048, ∀ c < 128, at2 T.q i (128 + c) = A.q (2048 * b + i) (512 + 128 * (p / 2) + c)
  kv : ∀ i < 2048, ∀ c < 256, at2 T.kv i c = A.kv (2048 * b + i) (256 * p + c)
  pe : ∀ i < 2048, ∀ c < 128, at2 T.pe i c = A.pe (2048 * b + i) c
  dout : ∀ i < 2048, ∀ c < 128, at2 T.dout i c = A.dout (2048 * b + i) (128 * p + c)
  lse : ∀ h < 2, ∀ i < 2048, at3 T.lse h i = A.lse (8 * b + (2 * p + h)) i
  dl : ∀ h < 2, ∀ i < 2048, at3 T.dl h i = A.dl (8 * b + (2 * p + h)) i

namespace Fits

variable {A : Arrs} {b p : ℕ} {T : Tile} (F : Fits A b p T)
include F

theorem kv_kk {h k d : ℕ} (hh : h < 2) (hk : k < 2048) (hd : d < 64) : at2 T.kv k (64 * h + d) = A.kk b (2 * p + h) k d := by
  rw [F.kv k hk _ (by omega)]
  exact congrArg (A.kv _) (by omega)

theorem kv_vv {h k d : ℕ} (hh : h < 2) (hk : k < 2048) (hd : d < 64) : at2 T.kv k (128 + (64 * h + d)) = A.vv b (2 * p + h) k d := by
  rw [F.kv k hk _ (by omega)]
  exact congrArg (A.kv _) (by omega)

theorem q_qq {h q d : ℕ} (hh : h < 2) (hq : q < 2048) (hd : d < 64) : T.Q q (64 * h + d) = A.qq b (2 * p + h) q d := by
  refine (F.q1 q hq _ (by omega)).trans ?_
  exact congrArg (A.q _) (by omega)

theorem do_oo {h q d : ℕ} (hh : h < 2) (hq : q < 2048) (hd : d < 64) : T.DO q (64 * h + d) = A.oo b (2 * p + h) q d := by
  refine (F.dout q hq _ (by omega)).trans ?_
  exact congrArg (A.dout _) (by omega)

theorem q_qe {h q i d : ℕ} (hh : h < 2) (hq : q < 2048) (hi : i < 2) (hd : d < 16) :
    T.Q q (128 + (64 * i + 16 * ((2 * p + h) % 4) + d)) = A.qe b (2 * p + h) q i d := by
  have := F.hp
  refine (F.q2 q hq _ (by omega)).trans ?_
  exact congrArg (A.q _) (by omega)

theorem pe_ke {h k i d : ℕ} (hk : k < 2048) (hi : i < 2) (hd : d < 16) :
    at2 T.pe k (64 * i + 16 * ((2 * p + h) % 4) + d) = A.ke b (2 * p + h) k i d := F.pe k hk _ (by omega)

theorem R_eq {h k q : ℕ} (hh : h < 2) (hk : k < 2048) (hq : q < 2048) :
    T.R h k q = A.X b (2 * p + h) k q - A.lse (8 * b + (2 * p + h)) q := by
  unfold Tile.R Arrs.X
  rw [F.lse h hh q hq, show (256 : ℕ) = 128 + 128 from rfl, Finset.sum_range_add]
  have e1 : ∑ c ∈ Finset.range 128, T.KT h k c * T.Q q c = ∑ d ∈ Finset.range 64, A.kk b (2 * p + h) k d * A.qq b (2 * p + h) q d := by
    rw [Finset.sum_congr rfl fun c hc => (by
      unfold Tile.KT
      rw [if_pos (Finset.mem_range.mp hc), ite_mul, zero_mul] :
        T.KT h k c * T.Q q c = if c / 64 = h then at2 T.kv k c * T.Q q c else 0), sum_lanes _ hh]
    refine Finset.sum_congr rfl fun d hd => ?_
    have := Finset.mem_range.mp hd
    rw [F.kv_kk hh hk this, F.q_qq hh hq this]
  have e2 : ∑ c ∈ Finset.range 128, T.KT h k (128 + c) * T.Q q (128 + c)
      = ∑ i ∈ Finset.range 2, ∑ d ∈ Finset.range 16, A.ke b (2 * p + h) k i d * A.qe b (2 * p + h) q i d := by
    rw [Finset.sum_congr rfl fun c hc => (by
      unfold Tile.KT
      rw [if_neg (by omega), Nat.add_sub_cancel_left, F.tp, ite_mul, zero_mul] :
        T.KT h k (128 + c) * T.Q q (128 + c) = if c / 16 % 4 = (2 * p + h) % 4 then at2 T.pe k c * T.Q q (128 + c) else 0),
      sum_rope _ (Nat.mod_lt _ (by omega))]
    refine Finset.sum_congr rfl fun i hi => Finset.sum_congr rfl fun d hd => ?_
    have hi := Finset.mem_range.mp hi
    have hd := Finset.mem_range.mp hd
    rw [F.pe_ke hk hi hd, F.q_qe hh hq hi hd]
  rw [e1, e2]

theorem P_eq {h k q : ℕ} (hh : h < 2) (hk : k < 2048) (hq : q < 2048) : T.P h k q = A.P b (2 * p + h) k q := by
  unfold Tile.P Arrs.P
  rw [F.R_eq hh hk hq]

theorem DP_eq {h k q : ℕ} (hh : h < 2) (hk : k < 2048) (hq : q < 2048) : T.DP h k q = A.DP b (2 * p + h) k q := by
  unfold Tile.DP Arrs.DP
  rw [Finset.sum_congr rfl fun c _ => (by
    unfold Tile.VT
    rw [ite_mul, zero_mul] : T.VT h k c * T.DO q c = if c / 64 = h then at2 T.kv k (128 + c) * T.DO q c else 0), sum_lanes _ hh]
  refine Finset.sum_congr rfl fun d hd => ?_
  have := Finset.mem_range.mp hd
  rw [F.kv_vv hh hk this, F.do_oo hh hq this]

theorem DS_eq {h k q : ℕ} (hh : h < 2) (hk : k < 2048) (hq : q < 2048) : T.DS h k q = A.DS b (2 * p + h) k q := by
  unfold Tile.DS Arrs.DS
  rw [F.P_eq hh hk hq, F.DP_eq hh hk hq, F.dl h hh q hq]

theorem DQ_own {h q d : ℕ} (hh : h < 2) (hq : q < 2048) (hd : d < 64) : T.DQ q (64 * h + d) = A.GQ b (2 * p + h) q d := by
  unfold Tile.DQ Arrs.GQ
  have e : ∀ h' < 2, ∑ k ∈ Finset.range 2048, T.DS h' k q * T.KT h' k (64 * h + d)
      = if h' = h then ∑ k ∈ Finset.range 2048, A.DS b (2 * p + h) k q * A.kk b (2 * p + h) k d else 0 := by
    intro h' hh'
    unfold Tile.KT
    by_cases e : h' = h
    · subst e
      rw [if_pos rfl]
      refine Finset.sum_congr rfl fun k hk => ?_
      have hk := Finset.mem_range.mp hk
      rw [if_pos (by omega), if_pos (by omega), F.DS_eq hh hk hq, F.kv_kk hh hk hd]
    · rw [if_neg e]
      refine Finset.sum_eq_zero fun k hk => ?_
      rw [if_pos (by omega), if_neg (by omega), mul_zero]
  rw [Finset.sum_range_succ, Finset.sum_range_one, e 0 (by omega), e 1 (by omega)]
  obtain rfl | rfl : h = 0 ∨ h = 1 := by omega
  · rw [if_pos rfl, if_neg (by omega), add_zero]
  · rw [if_neg (by omega), if_pos rfl, zero_add]

theorem DQ_rope {q i r d : ℕ} (hq : q < 2048) (hi : i < 2) (hr : r < 4) (hd : d < 16) :
    T.DQ q (128 + (64 * i + 16 * r + d)) = if 2 * p / 4 * 4 + r < 2 * p then 0 else if 2 * p + 2 ≤ 2 * p / 4 * 4 + r then 0
      else A.GE b (2 * p / 4 * 4 + r) q i d := by
  unfold Tile.DQ Arrs.GE
  have hp := F.hp
  have e : ∀ h' < 2, ∑ k ∈ Finset.range 2048, T.DS h' k q * T.KT h' k (128 + (64 * i + 16 * r + d))
      = if (2 * p + h') % 4 = r then ∑ k ∈ Finset.range 2048, A.DS b (2 * p + h') k q * A.ke b (2 * p + h') k i d else 0 := by
    intro h' hh'
    unfold Tile.KT
    by_cases e : (2 * p + h') % 4 = r
    · rw [if_pos e]
      subst e
      refine Finset.sum_congr rfl fun k hk => ?_
      have hk := Finset.mem_range.mp hk
      rw [if_neg (by omega), Nat.add_sub_cancel_left, F.tp, if_pos (by omega), F.DS_eq hh' hk hq, F.pe_ke hk hi hd]
    · rw [if_neg e]
      refine Finset.sum_eq_zero fun k hk => ?_
      rw [if_neg (by omega), Nat.add_sub_cancel_left, F.tp, if_neg (by omega), mul_zero]
  rw [Finset.sum_range_succ, Finset.sum_range_one, e 0 (by omega), e 1 (by omega)]
  by_cases h0 : 2 * p % 4 = r
  · rw [if_pos (by omega), if_neg (by omega), add_zero, if_neg (by omega), if_neg (by omega), show 2 * p / 4 * 4 + r = 2 * p + 0 by omega]
  · by_cases h1 : (2 * p + 1) % 4 = r
    · rw [if_neg (by omega), if_pos (by omega), zero_add, if_neg (by omega), if_neg (by omega), show 2 * p / 4 * 4 + r = 2 * p + 1 by omega]
    · rw [if_neg (by omega), if_neg (by omega), add_zero]
      split_ifs
      · rfl
      · rfl
      · omega

theorem DKV_key {h k d : ℕ} (hh : h < 2) (hk : k < 2048) (hd : d < 64) : T.DKV k (64 * h + d) = A.GK b (2 * p + h) k d := by
  unfold Tile.DKV Tile.DK Arrs.GK
  rw [if_pos (by omega), show (64 * h + d) / 64 = h by omega]
  refine Finset.sum_congr rfl fun q hq => ?_
  have hq := Finset.mem_range.mp hq
  rw [F.DS_eq hh hk hq, F.q_qq hh hq hd]

theorem DKV_value {h k d : ℕ} (hh : h < 2) (hk : k < 2048) (hd : d < 64) : T.DKV k (128 + (64 * h + d)) = A.GV b (2 * p + h) k d := by
  unfold Tile.DKV Tile.DV Arrs.GV
  rw [if_neg (by omega), Nat.add_sub_cancel_left, show (64 * h + d) / 64 = h by omega]
  refine Finset.sum_congr rfl fun q hq => ?_
  have hq := Finset.mem_range.mp hq
  rw [F.P_eq hh hk hq, F.do_oo hh hq hd]

theorem DPE_eq {h k i r d : ℕ} (hh : h < 2) (hk : k < 2048) (hi : i < 2) (hr : r < 4) (hd : d < 16) :
    T.DPE h k (64 * i + 16 * r + d) = if (2 * p + h) % 4 = r then A.GP b (2 * p + h) k i d else 0 := by
  unfold Tile.DPE Tile.DK Arrs.GP
  rw [F.tp]
  by_cases e : (2 * p + h) % 4 = r
  · rw [if_pos e, if_pos (by omega)]
    subst e
    refine Finset.sum_congr rfl fun q hq => ?_
    have hq := Finset.mem_range.mp hq
    rw [F.DS_eq hh hk hq, F.q_qe hh hq hi hd]
  · rw [if_neg e, if_neg (by omega)]

end Fits

end Cert.KernelIdeal.Attn

end
-- ==== Proof.Attn.Arrays.lean ====
/-
  From the grid's sixteen points to the four result arrays: the point `4 b + p` works on batch entry `b` and pair `p`; the rotary
  queries' block gathers two points, the rotary keys' four.
-/
module

public import proofs.«01_k».proof.Proof.Attn.Tiles
public import proofs.«01_k».proof.Proof.Attn.Heads
public import proofs.«01_k».proof.Proof.Gen.KernelIdeal.Value
public import Idealize.ShloMosaic.Lib.Pipeline.ValueKit.Tiles

@[expose] public section

noncomputable section

namespace Cert.KernelIdeal.Attn

open Cert.KernelIdeal Cert.KernelIdeal.Gen Idealize.ShloMosaic Idealize.ShloMosaic.TcCoe Idealize.ShloMosaic.ValueIdx
open scoped BigOperators

theorem coords_facts : ∀ t : Fin cfg0.N, (grid0.coords t 1).val = t.val % 4 :=
  (by decide +kernel : ∀ t : Fin grid0.N, _)

theorem idx_facts : ∀ t : Fin cfg0.N,
    (win0_0.index t (0 : Fin 2) = t.val / 4 ∧ win0_0.index t (1 : Fin 2) = t.val % 4)
    ∧ (win0_1.index t (0 : Fin 2) = t.val / 4 ∧ win0_1.index t (1 : Fin 2) = 4 + t.val % 4 / 2)
    ∧ (win0_2.index t (0 : Fin 2) = t.val / 4 ∧ win0_2.index t (1 : Fin 2) = t.val % 4)
    ∧ (win0_3.index t (0 : Fin 2) = t.val / 4 ∧ win0_3.index t (1 : Fin 2) = 0)
    ∧ (win0_4.index t (0 : Fin 2) = t.val / 4 ∧ win0_4.index t (1 : Fin 2) = t.val % 4)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

variable (t : Fin cfg0.N)

theorem lt_grid : t.val < 16 := t.isLt

theorem blk0_at (X : S8192x768.Idx → EReal) {i j : ℕ} (hi : i < 2048) (hj : j < 128) :
    at2 (a := 2048) (b := 128) (((cfg0.win 0).blk t).view.read (Elt Ideal) X) i j = at2 (a := 8192) (b := 768) X (2048 * (t.val / 4) + i) (128 * (t.val % 4) + j) := by
  obtain ⟨⟨e0, e1⟩, _⟩ := idx_facts t
  have := lt_grid t
  rw [at2_pos _ hi hj]
  refine Eq.trans ?_ (at2_pos (a := 8192) (b := 768) X (by omega) (by omega)).symm
  refine congrArg X (funext fun d => Fin.ext ?_)
  match d with
  | ⟨0, _⟩ => show win0_0.index t (0 : Fin 2) * 2048 + 1 * i = 2048 * (t.val / 4) + i; omega
  | ⟨1, _⟩ => show win0_0.index t (1 : Fin 2) * 128 + 1 * j = 128 * (t.val % 4) + j; omega

theorem blk1_at (X : S8192x768.Idx → EReal) {i j : ℕ} (hi : i < 2048) (hj : j < 128) :
    at2 (a := 2048) (b := 128) (((cfg0.win 1).blk t).view.read (Elt Ideal) X) i j = at2 (a := 8192) (b := 768) X (2048 * (t.val / 4) + i) (512 + 128 * (t.val % 4 / 2) + j) := by
  obtain ⟨_, ⟨e0, e1⟩, _⟩ := idx_facts t
  have := lt_grid t
  rw [at2_pos _ hi hj]
  refine Eq.trans ?_ (at2_pos (a := 8192) (b := 768) X (by omega) (by omega)).symm
  refine congrArg X (funext fun d => Fin.ext ?_)
  match d with
  | ⟨0, _⟩ => show win0_1.index t (0 : Fin 2) * 2048 + 1 * i = 2048 * (t.val / 4) + i; omega
  | ⟨1, _⟩ => show win0_1.index t (1 : Fin 2) * 128 + 1 * j = 512 + 128 * (t.val % 4 / 2) + j; omega

theorem blk2_at (X : S8192x1024.Idx → EReal) {i j : ℕ} (hi : i < 2048) (hj : j < 256) :
    at2 (a := 2048) (b := 256) (((cfg0.win 2).blk t).view.read (Elt Ideal) X) i j = at2 (a := 8192) (b := 1024) X (2048 * (t.val / 4) + i) (256 * (t.val % 4) + j) := by
  obtain ⟨_, _, ⟨e0, e1⟩, _⟩ := idx_facts t
  have := lt_grid t
  rw [at2_pos _ hi hj]
  refine Eq.trans ?_ (at2_pos (a := 8192) (b := 1024) X (by omega) (by omega)).symm
  refine congrArg X (funext fun d => Fin.ext ?_)
  match d with
  | ⟨0, _⟩ => show win0_2.index t (0 : Fin 2) * 2048 + 1 * i = 2048 * (t.val / 4) + i; omega
  | ⟨1, _⟩ => show win0_2.index t (1 : Fin 2) * 256 + 1 * j = 256 * (t.val % 4) + j; omega

theorem blk3_at (X : S8192x128.Idx → EReal) {i j : ℕ} (hi : i < 2048) (hj : j < 128) :
    at2 (a := 2048) (b := 128) (((cfg0.win 3).blk t).view.read (Elt Ideal) X) i j = at2 (a := 8192) (b := 128) X (2048 * (t.val / 4) + i) (0 + j) := by
  obtain ⟨_, _, _, ⟨e0, e1⟩, _⟩ := idx_facts t
  have := lt_grid t
  rw [at2_pos _ hi hj]
  refine Eq.trans ?_ (at2_pos (a := 8192) (b := 128) X (by omega) (by omega)).symm
  refine congrArg X (funext fun d => Fin.ext ?_)
  match d with
  | ⟨0, _⟩ => show win0_3.index t (0 : Fin 2) * 2048 + 1 * i = 2048 * (t.val / 4) + i; omega
  | ⟨1, _⟩ => show win0_3.index t (1 : Fin 2) * 128 + 1 * j = 0 + j; omega

theorem blk4_at (X : S8192x512.Idx → EReal) {i j : ℕ} (hi : i < 2048) (hj : j < 128) :
    at2 (a := 2048) (b := 128) (((cfg0.win 4).blk t).view.read (Elt Ideal) X) i j = at2 (a := 8192) (b := 512) X (2048 * (t.val / 4) + i) (128 * (t.val % 4) + j) := by
  obtain ⟨_, _, _, _, ⟨e0, e1⟩, _⟩ := idx_facts t
  have := lt_grid t
  rw [at2_pos _ hi hj]
  refine Eq.trans ?_ (at2_pos (a := 8192) (b := 512) X (by omega) (by omega)).symm
  refine congrArg X (funext fun d => Fin.ext ?_)
  match d with
  | ⟨0, _⟩ => show win0_4.index t (0 : Fin 2) * 2048 + 1 * i = 2048 * (t.val / 4) + i; omega
  | ⟨1, _⟩ => show win0_4.index t (1 : Fin 2) * 128 + 1 * j = 128 * (t.val % 4) + j; omega

theorem blk5_at (X : S32x1x2048.Idx → EReal) {h i : ℕ} (hh : h < 2) (hi : i < 2048) :
    at3 (a := 2) (b := 2048) (((cfg0.win 5).blk t).view.read (Elt Ideal) X) h i = at3 (a := 32) (b := 2048) X (2 * t.val + h) i := by
  obtain ⟨_, _, _, _, _, ⟨e0, e1, e2⟩, _⟩ := idx_facts t
  have := lt_grid t
  rw [at3_pos _ hh hi]
  refine Eq.trans ?_ (at3_pos (a := 32) (b := 2048) X (by omega) (by omega)).symm
  refine congrArg X (funext fun d => Fin.ext ?_)
  match d with
  | ⟨0, _⟩ => show win0_5.index t (0 : Fin 3) * 2 + 1 * h = 2 * t.val + h; omega
  | ⟨1, _⟩ => show win0_5.index t (1 : Fin 3) * 1 + 1 * 0 = 0; omega
  | ⟨2, _⟩ => show win0_5.index t (2 : Fin 3) * 2048 + 1 * i = i; omega

theorem blk6_at (X : S32x1x2048.Idx → EReal) {h i : ℕ} (hh : h < 2) (hi : i < 2048) :
    at3 (a := 2) (b := 2048) (((cfg0.win 6).blk t).view.read (Elt Ideal) X) h i = at3 (a := 32) (b := 2048) X (2 * t.val + h) i := by
  obtain ⟨_, _, _, _, _, _, ⟨e0, e1, e2⟩⟩ := idx_facts t
  have := lt_grid t
  rw [at3_pos _ hh hi]
  refine Eq.trans ?_ (at3_pos (a := 32) (b := 2048) X (by omega) (by omega)).symm
  refine congrArg X (funext fun d => Fin.ext ?_)
  match d with
  | ⟨0, _⟩ => show win0_6.index t (0 : Fin 3) * 2 + 1 * h = 2 * t.val + h; omega
  | ⟨1, _⟩ => show win0_6.index t (1 : Fin 3) * 1 + 1 * 0 = 0; omega
  | ⟨2, _⟩ => show win0_6.index t (2 : Fin 3) * 2048 + 1 * i = i; omega

/-- Seven arrays as the region finds them. -/
def arrsOf (X0 : S8192x768.Idx → EReal) (X1 : S8192x1024.Idx → EReal) (X2 : S8192x128.Idx → EReal) (X3 : S8192x512.Idx → EReal)
    (X4 X5 : S32x1x2048.Idx → EReal) : Arrs where
  q := at2 (a := 8192) (b := 768) X0
  kv := at2 (a := 8192) (b := 1024) X1
  pe := at2 (a := 8192) (b := 128) X2
  dout := at2 (a := 8192) (b := 512) X3
  lse := at3 (a := 32) (b := 2048) X4
  dl := at3 (a := 32) (b := 2048) X5

/-- Point `t` works on batch entry `t / 4` and pair `t % 4`. -/
theorem fits_of (X0 : S8192x768.Idx → EReal) (X1 : S8192x1024.Idx → EReal) (X2 : S8192x128.Idx → EReal) (X3 : S8192x512.Idx → EReal)
    (X4 X5 : S32x1x2048.Idx → EReal) :
    Fits (arrsOf X0 X1 X2 X3 X4 X5) (t.val / 4) (t.val % 4)
      (tileOf (grid0.coords t) (((cfg0.win 0).blk t).view.read (Elt Ideal) X0) (((cfg0.win 1).blk t).view.read (Elt Ideal) X0)
        (((cfg0.win 2).blk t).view.read (Elt Ideal) X1) (((cfg0.win 3).blk t).view.read (Elt Ideal) X2) (((cfg0.win 4).blk t).view.read (Elt Ideal) X3)
        (((cfg0.win 5).blk t).view.read (Elt Ideal) X4) (((cfg0.win 6).blk t).view.read (Elt Ideal) X5)) where
  hp := Nat.mod_lt _ (by omega)
  tp := coords_facts t
  q1 i hi j hj := by
    refine Eq.trans ?_ (blk0_at t X0 hi hj)
    unfold tileOf
    dsimp only
    rw [at2_canon_bf16 _ _ _ _ _ _ _ _ hi (by omega), if_neg (by omega), at2_canon_bf16 _ _ _ _ _ _ _ _ hi (by omega), if_pos (by omega),
      Nat.sub_zero, Nat.sub_zero]
  q2 i hi j hj := by
    refine Eq.trans ?_ (blk1_at t X0 hi hj)
    unfold tileOf
    dsimp only
    rw [at2_canon_bf16 _ _ _ _ _ _ _ _ hi (by omega), if_pos (by omega), Nat.sub_zero, Nat.add_sub_cancel_left]
  kv i hi j hj := blk2_at t X1 hi hj
  pe i hi j hj := (blk3_at t X2 hi hj).trans (by rw [Nat.zero_add]; rfl)
  dout i hi j hj := blk4_at t X3 hi hj
  lse h hh i hi := (blk5_at t X4 hh hi).trans (congrArg (fun n => at3 (a := 32) (b := 2048) X4 n i) (by omega))
  dl h hh i hi := (blk6_at t X5 hh hi).trans (congrArg (fun n => at3 (a := 32) (b := 2048) X5 n i) (by omega))

variable (m : (ℓ : Loc nD τ sig) → Buf (Elt Ideal) ℓ) (c : Dev nD)

/-- The arrays of the launch. -/
def arrs : Arrs := arrsOf (V m c main_arg0) (V m c main_arg1) (V m c main_arg2) (V m c main_arg3) (V m c main_v42) (V m c main_v51)

/-- The tile of point `t`. -/
def tileAt : Tile :=
  tileOf (grid0.coords t) (iblk m c 0 t) (iblk m c 1 t) (iblk m c 2 t) (iblk m c 3 t) (iblk m c 4 t) (iblk m c 5 t) (iblk m c 6 t)

theorem fits : Fits (arrs m c) (t.val / 4) (t.val % 4) (tileAt t m c) := by
  unfold arrs tileAt iblk
  exact fits_of t _ _ _ _ _ _

theorem after7 {i j : ℕ} (hi : i < 2048) (hj : j < 128) :
    at2 (a := 2048) (b := 128) (outsAt0 m c t.val t.isLt).1 i j = (tileAt t m c).DQ i j := by
  unfold tileAt
  by_cases h0 : t.val % 4 = 0
  · have h1 : t.val % 2 = 0 := by omega
    rw [outsAt0_A m c t h0 h1]
    dsimp only
    rw [out7_A (hk := hi) (hj := hj)]
  · by_cases h1 : t.val % 2 = 0
    · rw [outsAt0_C m c t h0 h1]
      dsimp only
      rw [out7_C (hk := hi) (hj := hj)]
    · rw [outsAt0_B m c t h0 h1]
      dsimp only
      rw [out7_B (hk := hi) (hj := hj)]

theorem after8 {i j : ℕ} (hi : i < 2048) (hj : j < 256) :
    at2 (a := 2048) (b := 256) (outsAt0 m c t.val t.isLt).2.1 i j = (tileAt t m c).DKV i j := by
  unfold tileAt
  by_cases h0 : t.val % 4 = 0
  · have h1 : t.val % 2 = 0 := by omega
    rw [outsAt0_A m c t h0 h1]
    dsimp only
    rw [out8_A (hk := hi) (hj := hj)]
  · by_cases h1 : t.val % 2 = 0
    · rw [outsAt0_C m c t h0 h1]
      dsimp only
      rw [out8_C (hk := hi) (hj := hj)]
    · rw [outsAt0_B m c t h0 h1]
      dsimp only
      rw [out8_B (hk := hi) (hj := hj)]

theorem after9_first (h1 : t.val % 2 = 0) {i j : ℕ} (hi : i < 2048) (hj : j < 128) :
    at2 (a := 2048) (b := 128) (outsAt0 m c t.val t.isLt).2.2.1 i j = (tileAt t m c).DQ i (128 + j) := by
  unfold tileAt
  by_cases h0 : t.val % 4 = 0
  · rw [outsAt0_A m c t h0 h1]
    dsimp only
    rw [out9_A (hk := hi) (hj := hj)]
  · rw [outsAt0_C m c t h0 h1]
    dsimp only
    rw [out9_C (hk := hi) (hj := hj)]

theorem after9_next (h1 : ¬t.val % 2 = 0) {i j : ℕ} (hi : i < 2048) (hj : j < 128) :
    at2 (a := 2048) (b := 128) (outsAt0 m c t.val t.isLt).2.2.1 i j
      = at2 (a := 2048) (b := 128) (outsAt0 m c (t.val - 1) (Nat.lt_of_le_of_lt (Nat.sub_le _ _) t.isLt)).2.2.1 i j + (tileAt t m c).DQ i (128 + j) := by
  unfold tileAt
  have h0 : ¬t.val % 4 = 0 := by omega
  rw [outsAt0_B m c t h0 h1]
  dsimp only
  rw [out9_B (hk := hi) (hj := hj)]

theorem after10_first (h0 : t.val % 4 = 0) {i j : ℕ} (hi : i < 2048) (hj : j < 128) :
    at2 (a := 2048) (b := 128) (outsAt0 m c t.val t.isLt).2.2.2 i j = ∑ h ∈ Finset.range 2, (tileAt t m c).DPE h i j := by
  unfold tileAt
  have h1 : t.val % 2 = 0 := by omega
  rw [outsAt0_A m c t h0 h1]
  dsimp only
  rw [out10_A (hk := hi) (hj := hj)]

theorem after10_next (h0 : ¬t.val % 4 = 0) {i j : ℕ} (hi : i < 2048) (hj : j < 128) :
    at2 (a := 2048) (b := 128) (outsAt0 m c t.val t.isLt).2.2.2 i j
      = at2 (a := 2048) (b := 128) (outsAt0 m c (t.val - 1) (Nat.lt_of_le_of_lt (Nat.sub_le _ _) t.isLt)).2.2.2 i j
        + ∑ h ∈ Finset.range 2, (tileAt t m c).DPE h i j := by
  unfold tileAt
  by_cases h1 : t.val % 2 = 0
  · rw [outsAt0_C m c t h0 h1]
    dsimp only
    rw [out10_C (hk := hi) (hj := hj)]
  · rw [outsAt0_B m c t h0 h1]
    dsimp only
    rw [out10_B (hk := hi) (hj := hj)]

end Cert.KernelIdeal.Attn

end
-- ==== Proof.Attn.Layout.lean ====
/-
  The reference's operands head by head: the split, transposed and joined arrays of the plain program, read at an index, are the
  flat arguments at a row and a column.
-/
module

public import proofs.«01_k».proof.Proof.Attn.Arrays
public import proofs.«01_k».proof.Proof.Gen.ReferenceIdeal.Read
public import Idealize.ShloMosaic.Lib.ValueIdxRank6
public import Idealize.ShloMosaic.Lib.TwoAxisContraction
public import Idealize.ShloMosaic.Lib.KernelVsHost

@[expose] public section

set_option maxRecDepth 16384

noncomputable section

namespace Cert.ReferenceIdeal.Plain

open Cert.ReferenceIdeal Cert.ReferenceIdeal.Gen Cert.ReferenceIdeal.Read Idealize.ShloMosaic Idealize.ShloMosaic.ValueIdx
open Cert.KernelIdeal.Attn (at2 at2_pos at3 at3_pos Arrs arrsOf)
open scoped BigOperators

/-- A matrix at an index is the matrix at the index's two naturals. -/
theorem at2_idx {a b : ℕ} (X : (⟨2, ![a, b]⟩ : Shape).Idx → EReal) (i : (⟨2, ![a, b]⟩ : Shape).Idx) : X i = at2 X (i 0).val (i 1).val := by
  rw [at2_pos X (i 0).isLt (i 1).isLt]
  exact congrArg X (eq_ix2 i)

theorem at2_eq {a b : ℕ} (X : (⟨2, ![a, b]⟩ : Shape).Idx → EReal) (i : (⟨2, ![a, b]⟩ : Shape).Idx) {r c : ℕ} (hr : (i 0).val = r) (hc : (i 1).val = c) :
    X i = at2 X r c := by
  rw [at2_idx X i, hr, hc]

variable (x0 : (⟨S8192x768, .bf16⟩ : BufTy).Contents (Elt Ideal)) (x1 : (⟨S8192x1024, .bf16⟩ : BufTy).Contents (Elt Ideal))
  (x2 : (⟨S8192x128, .bf16⟩ : BufTy).Contents (Elt Ideal)) (x3 : (⟨S8192x512, .bf16⟩ : BufTy).Contents (Elt Ideal))
  (X4 X5 : (⟨3, ![32, 1, 2048]⟩ : Shape).Idx → EReal)

/-- The arguments and two more arrays by row and column. -/
abbrev arr : Arrs := arrsOf x0 x1 x2 x3 X4 X5

/-- Own queries by head. -/
theorem own_query (i : S4x8x2048x64.Idx) :
    val_main_v7 (F := Ideal) x0 i = (arr x0 x1 x2 x3 X4 X5).qq (i 0).val (i 1).val (i 2).val (i 3).val := by
  have h0 : (i 0).val < 4 := (i 0).isLt
  have h1 : (i 1).val < 8 := (i 1).isLt
  have h2 : (i 2).val < 2048 := (i 2).isLt
  have h3 : (i 3).val < 64 := (i 3).isLt
  rw [val_main_v7_apply, val_main_v6_apply, val_main_v1_apply, val_main_v0_apply]
  refine at2_eq x0 _ ?_ ?_
  · show ((((i 0).val * 2048 + (i 2).val) * 8 + (i 1).val) * 64 + (i 3).val) / 512 = _; omega
  · show ((((i 0).val * 2048 + (i 2).val) * 8 + (i 1).val) * 64 + (i 3).val) % 512 = _; omega

/-- The output's gradient by head. -/
theorem out_grad (i : S4x8x2048x64.Idx) :
    val_main_v66 (F := Ideal) x3 i = (arr x0 x1 x2 x3 X4 X5).oo (i 0).val (i 1).val (i 2).val (i 3).val := by
  have h0 : (i 0).val < 4 := (i 0).isLt
  have h1 : (i 1).val < 8 := (i 1).isLt
  have h2 : (i 2).val < 2048 := (i 2).isLt
  have h3 : (i 3).val < 64 := (i 3).isLt
  rw [val_main_v66_apply, val_main_v65_apply, val_main_v64_apply]
  refine at2_eq x3 _ ?_ ?_
  · show ((((i 0).val * 2048 + (i 2).val) * 8 + (i 1).val) * 64 + (i 3).val) / 512 = _; omega
  · show ((((i 0).val * 2048 + (i 2).val) * 8 + (i 1).val) * 64 + (i 3).val) % 512 = _; omega

theorem split_rope (j : S4x2048x2x2x4x16.Idx) :
    val_main_v8 (F := Ideal) x0 j
      = at2 (a := 8192) (b := 768) x0 (2048 * (j 0).val + (j 1).val) (512 + 128 * (j 2).val + 64 * (j 3).val + 16 * (j 4).val + (j 5).val) := by
  have h0 : (j 0).val < 4 := (j 0).isLt
  have h1 : (j 1).val < 2048 := (j 1).isLt
  have h2 : (j 2).val < 2 := (j 2).isLt
  have h3 : (j 3).val < 2 := (j 3).isLt
  have h4 : (j 4).val < 4 := (j 4).isLt
  have h5 : (j 5).val < 16 := (j 5).isLt
  unfold val_main_v8
  refine (shapeCast_apply _ shapeCasts_S8192x256_S4x2048x2x2x4x16 j
    (ix2 (⟨2048 * (j 0).val + (j 1).val, by omega⟩ : Fin 8192) (⟨128 * (j 2).val + 64 * (j 3).val + 16 * (j 4).val + (j 5).val, by omega⟩ : Fin 256)) ?_).trans ?_
  · rw [Shape.rowMajor_val_two, Shape.rowMajor_val_six]
    show (2048 * (j 0).val + (j 1).val) * 256 + (128 * (j 2).val + 64 * (j 3).val + 16 * (j 4).val + (j 5).val)
      = (((((j 0).val * 2048 + (j 1).val) * 2 + (j 2).val) * 2 + (j 3).val) * 4 + (j 4).val) * 16 + (j 5).val
    omega
  · rw [val_main_v3_apply, val_main_v2_apply]
    refine at2_eq x0 _ ?_ ?_
    · rfl
    · show 512 + (128 * (j 2).val + 64 * (j 3).val + 16 * (j 4).val + (j 5).val) = _; omega

/-- Rotary queries by head, half and lane. -/
theorem rope_query (i : S4x8x2048x2x16.Idx) :
    val_main_v10 (F := Ideal) x0 i = (arr x0 x1 x2 x3 X4 X5).qe (i 0).val (i 1).val (i 2).val (i 3).val (i 4).val := by
  have h0 : (i 0).val < 4 := (i 0).isLt
  have h1 : (i 1).val < 8 := (i 1).isLt
  have h2 : (i 2).val < 2048 := (i 2).isLt
  have h3 : (i 3).val < 2 := (i 3).isLt
  have h4 : (i 4).val < 16 := (i 4).isLt
  unfold val_main_v10
  refine (shapeCast_apply _ shapeCasts_S4x2x4x2048x2x16_S4x8x2048x2x16 i
    (ix6 (⟨(i 0).val, h0⟩ : Fin 4) (⟨(i 1).val / 4, by omega⟩ : Fin 2) (⟨(i 1).val % 4, by omega⟩ : Fin 4) (⟨(i 2).val, h2⟩ : Fin 2048)
      (⟨(i 3).val, h3⟩ : Fin 2) (⟨(i 4).val, h4⟩ : Fin 16)) ?_).trans ?_
  · rw [Shape.rowMajor_val_six, Shape.rowMajor_val_five]
    show (((((i 0).val * 2 + (i 1).val / 4) * 4 + (i 1).val % 4) * 2048 + (i 2).val) * 2 + (i 3).val) * 16 + (i 4).val
      = ((((i 0).val * 8 + (i 1).val) * 2048 + (i 2).val) * 2 + (i 3).val) * 16 + (i 4).val
    omega
  · rw [val_main_v9_apply, split_rope]
    rfl

/-- Rotary keys by shared head, half and lane. -/
theorem rope_key4 (i : S4x4x2048x2x16.Idx) :
    val_main_v12 (F := Ideal) x2 i
      = at2 (a := 8192) (b := 128) x2 (2048 * (i 0).val + (i 2).val) (64 * (i 3).val + 16 * (i 1).val + (i 4).val) := by
  have h0 : (i 0).val < 4 := (i 0).isLt
  have h1 : (i 1).val < 4 := (i 1).isLt
  have h2 : (i 2).val < 2048 := (i 2).isLt
  have h3 : (i 3).val < 2 := (i 3).isLt
  have h4 : (i 4).val < 16 := (i 4).isLt
  rw [val_main_v12_apply, val_main_v11_apply, val_main_v5_apply]
  refine at2_eq x2 _ ?_ ?_
  · show (((((i 0).val * 2048 + (i 2).val) * 2 + (i 3).val) * 4 + (i 1).val) * 16 + (i 4).val) / 128 = _; omega
  · show (((((i 0).val * 2048 + (i 2).val) * 2 + (i 3).val) * 4 + (i 1).val) * 16 + (i 4).val) % 128 = _; omega

/-- Rotary keys by head. -/
theorem rope_key (i : S4x8x2048x2x16.Idx) :
    val_main_v18 (F := Ideal) x2 i = (arr x0 x1 x2 x3 X4 X5).ke (i 0).val (i 1).val (i 2).val (i 3).val (i 4).val := by
  have h0 : (i 0).val < 4 := (i 0).isLt
  have h1 : (i 1).val < 8 := (i 1).isLt
  have h2 : (i 2).val < 2048 := (i 2).isLt
  have h3 : (i 3).val < 2 := (i 3).isLt
  have h4 : (i 4).val < 16 := (i 4).isLt
  unfold val_main_v18
  by_cases hg : (i 1).val < 4
  · refine (concatenate_pair_apply_left (s₁ := S4x4x2048x2x16) (s₂ := S4x4x2048x2x16) (1 : Fin 5) (val_main_v12 (F := Ideal) x2) (val_main_v12 (F := Ideal) x2) concatenates_S4x4x2048x2x16_S4x4x2048x2x16_S4x8x2048x2x16_d1 i rfl
      (ix5 (⟨(i 0).val, h0⟩ : Fin 4) (⟨(i 1).val, hg⟩ : Fin 4) (⟨(i 2).val, h2⟩ : Fin 2048) (⟨(i 3).val, h3⟩ : Fin 2) (⟨(i 4).val, h4⟩ : Fin 16)) fun b =>
        match b with
        | ⟨0, _⟩ => rfl
        | ⟨1, _⟩ => rfl
        | ⟨2, _⟩ => rfl
        | ⟨3, _⟩ => rfl
        | ⟨4, _⟩ => rfl).trans ?_
    rw [rope_key4]
    show at2 x2 (2048 * (i 0).val + (i 2).val) (64 * (i 3).val + 16 * (i 1).val + (i 4).val)
      = at2 x2 (2048 * (i 0).val + (i 2).val) (64 * (i 3).val + 16 * ((i 1).val % 4) + (i 4).val)
    congr 1; omega
  · refine (concatenate_pair_apply_right (s₁ := S4x4x2048x2x16) (s₂ := S4x4x2048x2x16) (1 : Fin 5) (val_main_v12 (F := Ideal) x2) (val_main_v12 (F := Ideal) x2) concatenates_S4x4x2048x2x16_S4x4x2048x2x16_S4x8x2048x2x16_d1 i rfl rfl
      (ix5 (⟨(i 0).val, h0⟩ : Fin 4) (⟨(i 1).val - 4, by omega⟩ : Fin 4) (⟨(i 2).val, h2⟩ : Fin 2048) (⟨(i 3).val, h3⟩ : Fin 2) (⟨(i 4).val, h4⟩ : Fin 16)) ?_ ?_).trans ?_
    · intro b hb
      match b with
      | ⟨0, _⟩ => rfl
      | ⟨1, _⟩ => exact absurd rfl hb
      | ⟨2, _⟩ => rfl
      | ⟨3, _⟩ => rfl
      | ⟨4, _⟩ => rfl
    · show (i 1).val - 4 + 4 = (i 1).val; omega
    rw [rope_key4]
    show at2 x2 (2048 * (i 0).val + (i 2).val) (64 * (i 3).val + 16 * ((i 1).val - 4) + (i 4).val)
      = at2 x2 (2048 * (i 0).val + (i 2).val) (64 * (i 3).val + 16 * ((i 1).val % 4) + (i 4).val)
    congr 1; omega

theorem split_kv (j : S4x2048x4x2x2x64.Idx) :
    val_main_v13 (F := Ideal) x1 j
      = at2 (a := 8192) (b := 1024) x1 (2048 * (j 0).val + (j 1).val) (256 * (j 2).val + 128 * (j 3).val + 64 * (j 4).val + (j 5).val) := by
  have h0 : (j 0).val < 4 := (j 0).isLt
  have h1 : (j 1).val < 2048 := (j 1).isLt
  have h2 : (j 2).val < 4 := (j 2).isLt
  have h3 : (j 3).val < 2 := (j 3).isLt
  have h4 : (j 4).val < 2 := (j 4).isLt
  have h5 : (j 5).val < 64 := (j 5).isLt
  unfold val_main_v13
  refine (shapeCast_apply _ shapeCasts_S8192x1024_S4x2048x4x2x2x64 j
    (ix2 (⟨2048 * (j 0).val + (j 1).val, by omega⟩ : Fin 8192) (⟨256 * (j 2).val + 128 * (j 3).val + 64 * (j 4).val + (j 5).val, by omega⟩ : Fin 1024)) ?_).trans ?_
  · rw [Shape.rowMajor_val_two, Shape.rowMajor_val_six]
    show (2048 * (j 0).val + (j 1).val) * 1024 + (256 * (j 2).val + 128 * (j 3).val + 64 * (j 4).val + (j 5).val)
      = (((((j 0).val * 2048 + (j 1).val) * 4 + (j 2).val) * 2 + (j 3).val) * 2 + (j 4).val) * 64 + (j 5).val
    omega
  · exact (val_main_v4_apply x1 _).trans (at2_eq x1 _ rfl rfl)

/-- Keys (0) and values (1) by head. -/
theorem heads_kv (i : S2x4x8x2048x64.Idx) :
    val_main_v15 (F := Ideal) x1 i
      = at2 (a := 8192) (b := 1024) x1 (2048 * (i 1).val + (i 3).val) (256 * ((i 2).val / 2) + 128 * (i 0).val + 64 * ((i 2).val % 2) + (i 4).val) := by
  have h0 : (i 0).val < 2 := (i 0).isLt
  have h1 : (i 1).val < 4 := (i 1).isLt
  have h2 : (i 2).val < 8 := (i 2).isLt
  have h3 : (i 3).val < 2048 := (i 3).isLt
  have h4 : (i 4).val < 64 := (i 4).isLt
  unfold val_main_v15
  refine (shapeCast_apply _ shapeCasts_S2x4x4x2x2048x64_S2x4x8x2048x64 i
    (ix6 (⟨(i 0).val, h0⟩ : Fin 2) (⟨(i 1).val, h1⟩ : Fin 4) (⟨(i 2).val / 2, by omega⟩ : Fin 4) (⟨(i 2).val % 2, by omega⟩ : Fin 2)
      (⟨(i 3).val, h3⟩ : Fin 2048) (⟨(i 4).val, h4⟩ : Fin 64)) ?_).trans ?_
  · rw [Shape.rowMajor_val_six, Shape.rowMajor_val_five]
    show (((((i 0).val * 4 + (i 1).val) * 4 + (i 2).val / 2) * 2 + (i 2).val % 2) * 2048 + (i 3).val) * 64 + (i 4).val
      = ((((i 0).val * 4 + (i 1).val) * 8 + (i 2).val) * 2048 + (i 3).val) * 64 + (i 4).val
    omega
  · rw [val_main_v14_apply, split_kv]

/-- Own keys by head. -/
theorem own_key (i : S4x8x2048x64.Idx) :
    val_main_v17 (F := Ideal) x1 i = (arr x0 x1 x2 x3 X4 X5).kk (i 0).val (i 1).val (i 2).val (i 3).val := by
  have h0 : (i 0).val < 4 := (i 0).isLt
  have h1 : (i 1).val < 8 := (i 1).isLt
  have h2 : (i 2).val < 2048 := (i 2).isLt
  have h3 : (i 3).val < 64 := (i 3).isLt
  rw [val_main_v17_apply, val_main_v16_apply, heads_kv]
  have e0 : ((((i 0).val * 8 + (i 1).val) * 2048 + (i 2).val) * 64 + (i 3).val) / 1048576 % 4 = (i 0).val := by omega
  have e1 : ((((i 0).val * 8 + (i 1).val) * 2048 + (i 2).val) * 64 + (i 3).val) / 131072 % 8 = (i 1).val := by omega
  have e2 : ((((i 0).val * 8 + (i 1).val) * 2048 + (i 2).val) * 64 + (i 3).val) / 64 % 2048 = (i 2).val := by omega
  have e3 : ((((i 0).val * 8 + (i 1).val) * 2048 + (i 2).val) * 64 + (i 3).val) % 64 = (i 3).val := by omega
  show at2 x1 (2048 * (((((i 0).val * 8 + (i 1).val) * 2048 + (i 2).val) * 64 + (i 3).val) / 1048576 % 4) + (((((i 0).val * 8 + (i 1).val) * 2048 + (i 2).val) * 64 + (i 3).val) / 64 % 2048))
    (256 * ((((((i 0).val * 8 + (i 1).val) * 2048 + (i 2).val) * 64 + (i 3).val) / 131072 % 8) / 2) + 128 * 0 + 64 * ((((((i 0).val * 8 + (i 1).val) * 2048 + (i 2).val) * 64 + (i 3).val) / 131072 % 8) % 2)
      + (((((i 0).val * 8 + (i 1).val) * 2048 + (i 2).val) * 64 + (i 3).val) % 64))
    = at2 x1 (2048 * (i 0).val + (i 2).val) (256 * ((i 1).val / 2) + 64 * ((i 1).val % 2) + (i 3).val)
  rw [e0, e1, e2, e3]
  rfl

/-- Values by head. -/
theorem own_value (i : S4x8x2048x64.Idx) :
    val_main_v20 (F := Ideal) x1 i = (arr x0 x1 x2 x3 X4 X5).vv (i 0).val (i 1).val (i 2).val (i 3).val := by
  have h0 : (i 0).val < 4 := (i 0).isLt
  have h1 : (i 1).val < 8 := (i 1).isLt
  have h2 : (i 2).val < 2048 := (i 2).isLt
  have h3 : (i 3).val < 64 := (i 3).isLt
  rw [val_main_v20_apply, val_main_v19_apply, heads_kv]
  have e0 : ((((i 0).val * 8 + (i 1).val) * 2048 + (i 2).val) * 64 + (i 3).val) / 1048576 % 4 = (i 0).val := by omega
  have e1 : ((((i 0).val * 8 + (i 1).val) * 2048 + (i 2).val) * 64 + (i 3).val) / 131072 % 8 = (i 1).val := by omega
  have e2 : ((((i 0).val * 8 + (i 1).val) * 2048 + (i 2).val) * 64 + (i 3).val) / 64 % 2048 = (i 2).val := by omega
  have e3 : ((((i 0).val * 8 + (i 1).val) * 2048 + (i 2).val) * 64 + (i 3).val) % 64 = (i 3).val := by omega
  show at2 x1 (2048 * (((((i 0).val * 8 + (i 1).val) * 2048 + (i 2).val) * 64 + (i 3).val) / 1048576 % 4) + (((((i 0).val * 8 + (i 1).val) * 2048 + (i 2).val) * 64 + (i 3).val) / 64 % 2048))
    (256 * ((((((i 0).val * 8 + (i 1).val) * 2048 + (i 2).val) * 64 + (i 3).val) / 131072 % 8) / 2) + 128 * (1 + 0) + 64 * ((((((i 0).val * 8 + (i 1).val) * 2048 + (i 2).val) * 64 + (i 3).val) / 131072 % 8) % 2)
      + (((((i 0).val * 8 + (i 1).val) * 2048 + (i 2).val) * 64 + (i 3).val) % 64))
    = at2 x1 (2048 * (i 0).val + (i 2).val) (256 * ((i 1).val / 2) + 128 + 64 * ((i 1).val % 2) + (i 3).val)
  rw [e0, e1, e2, e3]

end Cert.ReferenceIdeal.Plain

end
-- ==== Proof.Attn.Row.lean ====
/-
  One row of the causal softmax over the reals: a query `q`, logits `x` and the probabilities' gradients `u` over the keys. The
  kernel takes the logarithm of the exponentials' sum and one subtraction; the derivative of the plain softmax divides and
  subtracts a quotient's gradient. Where every entry is a real number the two agree.
-/
module

public import Idealize.ShloMosaic.PureOps.Ideal.Laws
public import Mathlib.Tactic.FieldSimp
public import Mathlib.Tactic.Ring

@[expose] public section

noncomputable section

namespace Cert.Row

open Idealize.ShloMosaic
open scoped BigOperators

/-- Neither infinity. -/
def IsReal (x : EReal) : Prop := ((x.toReal : ℝ) : EReal) = x

theorem isReal_coe (r : ℝ) : IsReal (r : EReal) := rfl

theorem IsReal.mul {x y : EReal} (hx : IsReal x) (hy : IsReal y) : IsReal (x * y) := by
  rw [← hx, ← hy, ← EReal.coe_mul]; exact isReal_coe _

theorem IsReal.add {x y : EReal} (hx : IsReal x) (hy : IsReal y) : IsReal (x + y) := by
  rw [← hx, ← hy, ← EReal.coe_add]; exact isReal_coe _

theorem isReal_zero : IsReal 0 := isReal_coe 0

theorem IsReal.sum {f : ℕ → EReal} {n : ℕ} (h : ∀ k < n, IsReal (f k)) : IsReal (∑ k ∈ Finset.range n, f k) := by
  induction n with
  | zero => exact isReal_zero
  | succ n ih =>
    rw [Finset.sum_range_succ]
    exact (ih fun k hk => h k (by omega)).add (h n (by omega))

theorem coe_sum (f : ℕ → ℝ) (n : ℕ) : ∑ k ∈ Finset.range n, (f k : EReal) = ((∑ k ∈ Finset.range n, f k : ℝ) : EReal) := by
  induction n with
  | zero => rfl
  | succ n ih => rw [Finset.sum_range_succ, Finset.sum_range_succ, ih, EReal.coe_add]

/-- The largest of finitely many entries, none of them the upper infinity and one of them not the lower, is a real number. -/
theorem isReal_fold_max {n : ℕ} (f : Fin n → EReal) (hT : ∀ k, f k < ⊤) (q : Fin n) (hq : ⊥ < f q) :
    IsReal ((Finset.univ : Finset (Fin n)).fold max ⊥ f) := by
  refine EReal.coe_toReal (ne_of_lt ?_) (ne_of_gt ?_)
  · exact (Finset.fold_max_lt _).mpr ⟨bot_lt_top, fun k _ => hT k⟩
  · exact (Finset.lt_fold_max _).mpr (Or.inr ⟨q, Finset.mem_univ q, hq⟩)

variable (q : ℕ) (x u : ℕ → ℝ) (m : ℝ) (N : ℕ)

/-- The shifted exponential, zero at later keys, and the sum over all keys. -/
def ex (k : ℕ) : ℝ := if k ≤ q then Real.exp (x k - m) else 0
def tot : ℝ := ∑ k ∈ Finset.range N, ex q x m k
/-- The probability and the softmax's correction. -/
def pr (k : ℕ) : ℝ := ex q x m k / tot q x m N
def corr : ℝ := ∑ k ∈ Finset.range N, pr q x m N k * u k

theorem ex_nonneg (k : ℕ) : 0 ≤ ex q x m k := by
  unfold ex; split_ifs
  · exact (Real.exp_pos _).le
  · exact le_rfl

theorem tot_pos (h : q < N) : 0 < tot q x m N := by
  refine lt_of_lt_of_le (?_ : 0 < ex q x m q) (Finset.single_le_sum (fun k _ => ex_nonneg q x m k) (Finset.mem_range.mpr h))
  unfold ex
  rw [if_pos le_rfl]
  exact Real.exp_pos _

theorem exp_shift (k : ℕ) : Ideal.exp ((if k ≤ q then (x k : EReal) else ⊥) - (m : EReal)) = (ex q x m k : EReal) := by
  unfold ex
  split_ifs
  · rw [← EReal.coe_sub]; rfl
  · rw [EReal.bot_sub]; rfl

theorem div_real {a b : ℝ} (hb : b ≠ 0) : Ideal.div (a : EReal) (b : EReal) = ((a / b : ℝ) : EReal) := by
  rw [Ideal.div_coe hb, ← EReal.coe_mul, mul_one_div]

theorem prob_plain (h : q < N) (k : ℕ) : Ideal.div (ex q x m k : EReal) (tot q x m N : EReal) = (pr q x m N k : EReal) :=
  div_real (tot_pos q x m N h).ne'

theorem log_tot (h : q < N) : (m : EReal) + Ideal.log (tot q x m N : EReal) = ((m + Real.log (tot q x m N) : ℝ) : EReal) := by
  rw [Ideal.log_coe, if_neg (not_le.mpr (tot_pos q x m N h)), ← EReal.coe_add]

theorem prob_log (h : q < N) (k : ℕ) :
    (if k ≤ q then Ideal.exp ((x k : EReal) - ((m + Real.log (tot q x m N) : ℝ) : EReal)) else 0) = (pr q x m N k : EReal) := by
  unfold pr ex
  split_ifs
  · rw [← EReal.coe_sub, Ideal.exp_coe]
    congr 1
    rw [show x k - (m + Real.log (tot q x m N)) = (x k - m) - Real.log (tot q x m N) by ring, Real.exp_sub, Real.exp_log (tot_pos q x m N h)]
  · rw [zero_div]; rfl

/-- The logits' gradient, unscaled: the derivative of the quotient against the difference from the correction. -/
theorem grad_plain (h : q < N) (k : ℕ) :
    (u k / tot q x m N + -(∑ j ∈ Finset.range N, u j * (1 / (tot q x m N * tot q x m N)) * ex q x m j)) * ex q x m k
      = pr q x m N k * (u k - corr q x u m N) := by
  have hl := (tot_pos q x m N h).ne'
  have e : ∑ j ∈ Finset.range N, u j * (1 / (tot q x m N * tot q x m N)) * ex q x m j = corr q x u m N / tot q x m N := by
    unfold corr
    rw [Finset.sum_div]
    refine Finset.sum_congr rfl fun j _ => ?_
    unfold pr
    field_simp
  rw [e]
  unfold pr
  field_simp
  ring

/-- The same in extended reals, with the sums as the plain program spells them. -/
theorem grad_ereal (h : q < N) (k : ℕ) :
    (if k ≤ q then
        (Ideal.div (u k : EReal) (tot q x m N : EReal)
          + -(∑ j ∈ Finset.range N, (u j : EReal) * Ideal.div 1 ((tot q x m N : EReal) * (tot q x m N : EReal)) * (ex q x m j : EReal))) * (ex q x m k : EReal)
      else 0) = (pr q x m N k : EReal) * ((u k : EReal) - (corr q x u m N : EReal)) := by
  have hl := (tot_pos q x m N h).ne'
  have one : Ideal.div 1 ((tot q x m N : EReal) * (tot q x m N : EReal)) = ((1 / (tot q x m N * tot q x m N) : ℝ) : EReal) := by
    rw [← EReal.coe_mul, ← EReal.coe_one, div_real (mul_ne_zero hl hl)]
  rw [one, div_real hl]
  simp only [← EReal.coe_mul]
  rw [coe_sum, ← EReal.coe_neg, ← EReal.coe_add, ← EReal.coe_mul, ← EReal.coe_sub, ← EReal.coe_mul, grad_plain q x u m N h k]
  by_cases hk : k ≤ q
  · rw [if_pos hk]
  · rw [if_neg hk]
    unfold pr ex
    rw [if_neg hk, zero_div, zero_mul]; rfl

end Cert.Row

end
-- ==== Proof.Attn.Softmax.lean ====
/-
  The plain program's softmax and its derivative, index by index, for arguments without infinities: the logits, the largest one of
  a row, the exponentials and their sum, the probabilities, and the logits' gradient.
-/
module

public import proofs.«01_k».proof.Proof.Attn.Layout
public import proofs.«01_k».proof.Proof.Attn.Row
public import Idealize.ShloMosaic.Lib.IdealHost

@[expose] public section

set_option maxRecDepth 16384

noncomputable section

namespace Cert.ReferenceIdeal.Plain

open Cert.ReferenceIdeal Cert.ReferenceIdeal.Gen Cert.ReferenceIdeal.Read Idealize.ShloMosaic Idealize.ShloMosaic.ValueIdx
open Cert.KernelIdeal.Attn (at2 at2_pos at3 at3_pos Arrs arrsOf)
open Cert.Row
open scoped BigOperators

/-- The literals. -/
theorem neg_inf : Ideal.ofBits .f32 0xFF800000#32 = (⊥ : EReal) := by simp [Ideal.ofBits, Ideal.ieee]

theorem scale_real : IsReal Cert.KernelIdeal.Attn.Tile.SC := by
  have : Cert.KernelIdeal.Attn.Tile.SC = (((13698540 : ℝ) / 134217728 : ℝ) : EReal) := by
    unfold Cert.KernelIdeal.Attn.Tile.SC
    simp [Ideal.ofBits, Ideal.ieee, -EReal.coe_mul]; norm_num
  rw [this]; exact isReal_coe _

variable (x0 : (⟨S8192x768, .bf16⟩ : BufTy).Contents (Elt Ideal)) (x1 : (⟨S8192x1024, .bf16⟩ : BufTy).Contents (Elt Ideal))
  (x2 : (⟨S8192x128, .bf16⟩ : BufTy).Contents (Elt Ideal)) (x3 : (⟨S8192x512, .bf16⟩ : BufTy).Contents (Elt Ideal))
  (X4 X5 : (⟨3, ![32, 1, 2048]⟩ : Shape).Idx → EReal)

/-- The rotary product's shapes, with lanes and then halves contracted. -/
abbrev roped : DotDims S4x8x2048x2x16 S4x8x2048x2x16 S4x8x2048x2048 := dot_S4x8x2048x2x16_S4x8x2048x2x16_S4x8x2048x2048_43_43_2_2_01_01

abbrev ropedAt (d : Fin 16) (a : Fin 2) : roped.contr.Idx := (contrEquiv2 roped 16 2 rfl rfl rfl).symm (d, a)

theorem roped_l0 (i : S4x8x2048x2048.Idx) (d : Fin 16) (a : Fin 2) : (roped.lhsIdx i (ropedAt d a) 0).val = (i 0).val := by
  unfold DotDims.lhsIdx; rw [dif_pos (show (0 : Fin _) ∈ roped.lhsBatch by decide)]; rfl
theorem roped_l1 (i : S4x8x2048x2048.Idx) (d : Fin 16) (a : Fin 2) : (roped.lhsIdx i (ropedAt d a) 1).val = (i 1).val := by
  unfold DotDims.lhsIdx; rw [dif_pos (show (1 : Fin _) ∈ roped.lhsBatch by decide)]; rfl
theorem roped_l2 (i : S4x8x2048x2048.Idx) (d : Fin 16) (a : Fin 2) : (roped.lhsIdx i (ropedAt d a) 2).val = (i 2).val := by
  unfold DotDims.lhsIdx; rw [dif_neg (show ¬ ((2 : Fin _) ∈ roped.lhsBatch) by decide), dif_pos (show (2 : Fin _) ∈ roped.lhsNonContracting by decide)]; rfl
theorem roped_l3 (i : S4x8x2048x2048.Idx) (d : Fin 16) (a : Fin 2) : (roped.lhsIdx i (ropedAt d a) 3).val = a.val := by
  unfold DotDims.lhsIdx; rw [dif_neg (show ¬ ((3 : Fin _) ∈ roped.lhsBatch) by decide), dif_neg (show ¬ ((3 : Fin _) ∈ roped.lhsNonContracting) by decide)]
  exact contrEquiv2_symm_val1 roped 16 2 rfl rfl rfl (d, a)
theorem roped_l4 (i : S4x8x2048x2048.Idx) (d : Fin 16) (a : Fin 2) : (roped.lhsIdx i (ropedAt d a) 4).val = d.val := by
  unfold DotDims.lhsIdx; rw [dif_neg (show ¬ ((4 : Fin _) ∈ roped.lhsBatch) by decide), dif_neg (show ¬ ((4 : Fin _) ∈ roped.lhsNonContracting) by decide)]
  exact contrEquiv2_symm_val0 roped 16 2 rfl rfl rfl (d, a)
theorem roped_r0 (i : S4x8x2048x2048.Idx) (d : Fin 16) (a : Fin 2) : (roped.rhsIdx i (ropedAt d a) 0).val = (i 0).val := by
  unfold DotDims.rhsIdx; rw [dif_pos (show (0 : Fin _) ∈ roped.rhsBatch by decide)]; rfl
theorem roped_r1 (i : S4x8x2048x2048.Idx) (d : Fin 16) (a : Fin 2) : (roped.rhsIdx i (ropedAt d a) 1).val = (i 1).val := by
  unfold DotDims.rhsIdx; rw [dif_pos (show (1 : Fin _) ∈ roped.rhsBatch by decide)]; rfl
theorem roped_r2 (i : S4x8x2048x2048.Idx) (d : Fin 16) (a : Fin 2) : (roped.rhsIdx i (ropedAt d a) 2).val = (i 3).val := by
  unfold DotDims.rhsIdx; rw [dif_neg (show ¬ ((2 : Fin _) ∈ roped.rhsBatch) by decide), dif_pos (show (2 : Fin _) ∈ roped.rhsNonContracting by decide)]; rfl
theorem roped_r3 (i : S4x8x2048x2048.Idx) (d : Fin 16) (a : Fin 2) : (roped.rhsIdx i (ropedAt d a) 3).val = a.val := by
  unfold DotDims.rhsIdx; rw [dif_neg (show ¬ ((3 : Fin _) ∈ roped.rhsBatch) by decide), dif_neg (show ¬ ((3 : Fin _) ∈ roped.rhsNonContracting) by decide)]
  exact contrEquiv2_symm_val1 roped 16 2 rfl rfl rfl (d, a)
theorem roped_r4 (i : S4x8x2048x2048.Idx) (d : Fin 16) (a : Fin 2) : (roped.rhsIdx i (ropedAt d a) 4).val = d.val := by
  unfold DotDims.rhsIdx; rw [dif_neg (show ¬ ((4 : Fin _) ∈ roped.rhsBatch) by decide), dif_neg (show ¬ ((4 : Fin _) ∈ roped.rhsNonContracting) by decide)]
  exact contrEquiv2_symm_val0 roped 16 2 rfl rfl rfl (d, a)

/-- The scaled logits, before the mask. -/
theorem scaled (i : S4x8x2048x2048.Idx) :
    val_main_v25 (F := Ideal) x0 x1 x2 i = (arr x0 x1 x2 x3 X4 X5).X (i 0).val (i 1).val (i 3).val (i 2).val := by
  rw [val_main_v25_apply, val_main_v24_apply, val_main_cst_apply, val_main_v23_apply, val_main_v21_apply]
  have e22 : val_main_v22 (F := Ideal) x0 x2 i
      = ∑ a : Fin 2, ∑ d : Fin 16, (arr x0 x1 x2 x3 X4 X5).ke (i 0).val (i 1).val (i 3).val a.val d.val
          * (arr x0 x1 x2 x3 X4 X5).qe (i 0).val (i 1).val (i 2).val a.val d.val := by
    unfold val_main_v22
    simp only [Host.dotGeneral]
    rw [Ideal.dotGeneral_apply, sum_contr2 dot_S4x8x2048x2x16_S4x8x2048x2x16_S4x8x2048x2048_43_43_2_2_01_01 16 2 rfl rfl rfl, Finset.sum_comm]
    refine Finset.sum_congr rfl fun a _ => Finset.sum_congr rfl fun d _ => ?_
    rw [rope_query x0 x1 x2 x3 X4 X5, rope_key x0 x1 x2 x3 X4 X5, mul_comm, roped_l0, roped_l1, roped_l2, roped_l3, roped_l4, roped_r0, roped_r1,
      roped_r2, roped_r3, roped_r4]
  rw [e22]
  show (∑ k : Fin 64, _ + _) * Ideal.ofBits .f32 0x3DD105EC#32 = _
  unfold Arrs.X
  rw [Finset.sum_range, Finset.sum_range]
  congr 2
  · refine Finset.sum_congr rfl fun d _ => ?_
    rw [own_query x0 x1 x2 x3 X4 X5, own_key x0 x1 x2 x3 X4 X5, mul_comm]

/-- The causal mask: a key is seen from a query that is not before it. -/
theorem mask (i : S4x8x2048x2048.Idx) : val_main_v32_1 (F := Ideal) i = if (i 3).val ≤ (i 2).val then 1#1 else 0#1 := by
  have h2 : (i 2).val < 2048 := (i 2).isLt
  have h3 : (i 3).val < 2048 := (i 3).isLt
  rw [val_main_v32_1_apply, val_main_v31_apply, val_main_v29_apply, val_main_v30_apply, val_main_v27_apply, val_main_v28_apply, val_main_v26_apply,
    val_main_v26_apply]
  show BitVec.ofBool ((BitVec.ofNat 32 (i 3).val).sle (BitVec.ofNat 32 (i 2).val)) = _
  have ti : (BitVec.ofNat 32 (i 3).val).toInt = (i 3).val := by
    rw [BitVec.toInt_ofNat', Int.bmod_eq_of_le] <;> omega
  have tj : (BitVec.ofNat 32 (i 2).val).toInt = (i 2).val := by
    rw [BitVec.toInt_ofNat', Int.bmod_eq_of_le] <;> omega
  rw [BitVec.sle, ti, tj]
  by_cases h : (i 3).val ≤ (i 2).val
  · rw [if_pos h]; simp [h]
  · rw [if_neg h]; simp [h]

/-- The masked logits. -/
theorem logit (i : S4x8x2048x2048.Idx) :
    val_main_v32_0 (F := Ideal) x0 x1 x2 i
      = if (i 3).val ≤ (i 2).val then (arr x0 x1 x2 x3 X4 X5).X (i 0).val (i 1).val (i 3).val (i 2).val else ⊥ := by
  rw [val_main_v32_0_apply, mask, scaled x0 x1 x2 x3 X4 X5]
  have hb : val_main_call0_v2 (F := Ideal) i = (⊥ : EReal) := by
    rw [val_main_call0_v2_apply]
    exact neg_inf
  rw [hb]
  by_cases h : (i 3).val ≤ (i 2).val
  · rw [if_pos h, if_pos h]; rfl
  · rw [if_neg h, if_neg h]; rfl

end Cert.ReferenceIdeal.Plain

end
-- ==== Proof.Attn.Grad.lean ====
/-
  The plain program's probabilities and the gradient of its logits, for arguments without infinities.  Per batch, head and query the
  row of keys is a softmax of real numbers, `Row` says what its derivative is.
-/
module

public import proofs.«01_k».proof.Proof.Attn.Softmax

@[expose] public section

set_option maxRecDepth 16384

noncomputable section

namespace Cert.ReferenceIdeal.Plain

open Cert.ReferenceIdeal Cert.ReferenceIdeal.Gen Cert.ReferenceIdeal.Read Idealize.ShloMosaic Idealize.ShloMosaic.ValueIdx
open Cert.KernelIdeal.Attn (at2 at2_pos at3 at3_pos Arrs arrsOf)
open Cert.Row
open scoped BigOperators

theorem at2_real {a b : ℕ} (X : (Cert.KernelIdeal.Attn.S2 a b).Idx → EReal) (h : ∀ i, IsReal (X i)) (r c : ℕ) : IsReal (at2 X r c) := by
  unfold Cert.KernelIdeal.Attn.at2
  split
  · exact h _
  · exact isReal_zero

variable (x0 : (⟨S8192x768, .bf16⟩ : BufTy).Contents (Elt Ideal)) (x1 : (⟨S8192x1024, .bf16⟩ : BufTy).Contents (Elt Ideal))
  (x2 : (⟨S8192x128, .bf16⟩ : BufTy).Contents (Elt Ideal)) (x3 : (⟨S8192x512, .bf16⟩ : BufTy).Contents (Elt Ideal))
  (X4 X5 : (⟨3, ![32, 1, 2048]⟩ : Shape).Idx → EReal)

theorem select_one {α : Type} (a b : α) : Scalar.select 1#1 a b = a := by simp [Scalar.select]

/-- Every argument is a real number. -/
structure Real4 : Prop where
  r0 : ∀ i, IsReal (x0 i : EReal)
  r1 : ∀ i, IsReal (x1 i : EReal)
  r2 : ∀ i, IsReal (x2 i : EReal)
  r3 : ∀ i, IsReal (x3 i : EReal)

/-- A row's logits, its probabilities' gradients and its largest logit, as real numbers. -/
def xr (b g q k : ℕ) : ℝ := ((arr x0 x1 x2 x3 X4 X5).X b g k q).toReal
def ur (b g q k : ℕ) : ℝ := ((arr x0 x1 x2 x3 X4 X5).DP b g k q).toReal
def mx (b g q : ℕ) : ℝ :=
  if h : b < 4 ∧ g < 8 ∧ q < 2048 then
    (val_main_v33 (F := Ideal) x0 x1 x2 (ix3 ⟨b, h.1⟩ ⟨g, h.2.1⟩ ⟨q, h.2.2⟩ : S4x8x2048.Idx) : EReal).toReal
  else 0

/-- The row's exponentials, their sum, the probabilities and the correction. -/
def EX (b g q k : ℕ) : ℝ := ex q (xr x0 x1 x2 x3 X4 X5 b g q) (mx x0 x1 x2 b g q) k
def TT (b g q : ℕ) : ℝ := tot q (xr x0 x1 x2 x3 X4 X5 b g q) (mx x0 x1 x2 b g q) 2048
def PR (b g q k : ℕ) : ℝ := pr q (xr x0 x1 x2 x3 X4 X5 b g q) (mx x0 x1 x2 b g q) 2048 k
def CO (b g q : ℕ) : ℝ := corr q (xr x0 x1 x2 x3 X4 X5 b g q) (ur x0 x1 x2 x3 X4 X5 b g q) (mx x0 x1 x2 b g q) 2048

variable {x0 x1 x2 x3} (R : Real4 x0 x1 x2 x3)
include R

theorem x_coe (b g q k : ℕ) : (arr x0 x1 x2 x3 X4 X5).X b g k q = ((xr x0 x1 x2 x3 X4 X5 b g q k : ℝ) : EReal) := by
  refine Eq.symm (?_ : IsReal _)
  unfold Arrs.X
  exact ((IsReal.sum fun d _ => (at2_real _ R.r1 _ _).mul (at2_real _ R.r0 _ _)).add
    (IsReal.sum fun i _ => IsReal.sum fun d _ => (at2_real _ R.r2 _ _).mul (at2_real _ R.r0 _ _))).mul scale_real

theorem dp_coe (b g q k : ℕ) : (arr x0 x1 x2 x3 X4 X5).DP b g k q = ((ur x0 x1 x2 x3 X4 X5 b g q k : ℝ) : EReal) := by
  refine Eq.symm (?_ : IsReal _)
  unfold Arrs.DP
  exact IsReal.sum fun d _ => (at2_real _ R.r1 _ _).mul (at2_real _ R.r3 _ _)

theorem logit_coe (i : S4x8x2048x2048.Idx) :
    val_main_v32_0 (F := Ideal) x0 x1 x2 i
      = if (i 3).val ≤ (i 2).val then ((xr x0 x1 x2 x3 X4 X5 (i 0).val (i 1).val (i 2).val (i 3).val : ℝ) : EReal) else ⊥ := by
  rw [logit x0 x1 x2 x3 X4 X5, x_coe X4 X5 R]

theorem row_max (j : S4x8x2048.Idx) : IsReal (val_main_v33 (F := Ideal) x0 x1 x2 j : EReal) := by
  have key : val_main_v33 (F := Ideal) x0 x1 x2 j = (Finset.univ : Finset (Fin 2048)).fold (max : EReal → EReal → EReal) ⊥
      (fun k => val_main_v32_0 (F := Ideal) x0 x1 x2 (idx_main_v54 j k)) := by
    unfold val_main_v33
    generalize hy : val_main_v32_0 (F := Ideal) x0 x1 x2 = y
    refine (Host.reduce_eq_fold_single (max : EReal → EReal → EReal) y _ reducesTo_S4x8x2048x2048_S4x8x2048_d3 (by decide) h_S_ j).trans ?_
    have hi : (val_main_cst_1 (F := Ideal) (Shape.Idx.first h_S_) : EReal) = ⊥ := neg_inf
    rw [hi]
    refine congrArg (fun f => (Finset.univ : Finset (Fin 2048)).fold (max : EReal → EReal → EReal) ⊥ f) (funext fun k => ?_)
    exact congrArg y (funext fun a => Fin.ext (by match a with | ⟨0, _⟩ => rfl | ⟨1, _⟩ => rfl | ⟨2, _⟩ => rfl | ⟨3, _⟩ => rfl))
  rw [key]
  refine isReal_fold_max _ (fun k => ?_) ⟨(j 2).val, (j 2).isLt⟩ ?_
  · rw [logit_coe (fun _ => 0) (fun _ => 0) R]
    split
    · exact EReal.coe_lt_top _
    · exact bot_lt_top
  · rw [logit_coe (fun _ => 0) (fun _ => 0) R]
    show ⊥ < if (j 2).val ≤ (j 2).val then _ else _
    rw [if_pos le_rfl]
    exact EReal.bot_lt_coe _

theorem top33 (j : S4x8x2048.Idx) :
    val_main_v33 (F := Ideal) x0 x1 x2 j = ((mx x0 x1 x2 (j 0).val (j 1).val (j 2).val : ℝ) : EReal) := by
  have e : mx x0 x1 x2 (j 0).val (j 1).val (j 2).val = (val_main_v33 (F := Ideal) x0 x1 x2 j : EReal).toReal := by
    unfold mx
    rw [dif_pos ⟨(j 0).isLt, (j 1).isLt, (j 2).isLt⟩]
    exact congrArg (fun t => (val_main_v33 (F := Ideal) x0 x1 x2 t : EReal).toReal)
      (funext fun a => Fin.ext (by match a with | ⟨0, _⟩ => rfl | ⟨1, _⟩ => rfl | ⟨2, _⟩ => rfl))
  rw [e]
  exact (row_max R j).symm

theorem top40 (j : S4x8x2048.Idx) :
    val_main_v40 (F := Ideal) x0 x1 x2 j = ((mx x0 x1 x2 (j 0).val (j 1).val (j 2).val : ℝ) : EReal) := by
  rw [val_main_v40_apply, top33 R, val_main_v39_apply]
  show max (Ideal.ofBits .f32 0xFF800000#32) _ = _
  rw [neg_inf]
  exact max_eq_right bot_le

theorem exps (i : S4x8x2048x2048.Idx) :
    val_main_v53 (F := Ideal) x0 x1 x2 i = ((EX x0 x1 x2 x3 X4 X5 (i 0).val (i 1).val (i 2).val (i 3).val : ℝ) : EReal) := by
  rw [val_main_v53_apply, val_main_v52_apply, val_main_v51_apply, val_main_v50_apply, top40 R, logit_coe X4 X5 R]
  exact exp_shift _ _ _ _

theorem total (j : S4x8x2048.Idx) :
    val_main_v54 (F := Ideal) x0 x1 x2 j = ((TT x0 x1 x2 x3 X4 X5 (j 0).val (j 1).val (j 2).val : ℝ) : EReal) := by
  rw [val_main_v54_apply, val_main_cst_9_apply]
  rw [show (FloatOps.ofBits (F := Ideal) .f32 0x00000000#32 : EReal) = 0 from Ideal.ofBits_zero_f32, zero_add]
  unfold TT tot
  rw [← coe_sum, Finset.sum_range]
  exact Finset.sum_congr rfl fun k _ => exps X4 X5 R _

theorem total55 (i : S4x8x2048x1.Idx) :
    val_main_v55 (F := Ideal) x0 x1 x2 i = ((TT x0 x1 x2 x3 X4 X5 (i 0).val (i 1).val (i 2).val : ℝ) : EReal) := by
  rw [val_main_v55_apply, total X4 X5 R]

theorem probs (i : S4x8x2048x2048.Idx) :
    val_main_v57 (F := Ideal) x0 x1 x2 i = ((PR x0 x1 x2 x3 X4 X5 (i 0).val (i 1).val (i 2).val (i 3).val : ℝ) : EReal) := by
  rw [val_main_v57_apply, val_main_v56_apply, total55 X4 X5 R, exps X4 X5 R]
  exact prob_plain _ _ _ _ (i 2).isLt _

theorem prob_grad (i : S4x8x2048x2048.Idx) :
    val_main_v69 (F := Ideal) x1 x3 i = ((ur x0 x1 x2 x3 X4 X5 (i 0).val (i 1).val (i 2).val (i 3).val : ℝ) : EReal) := by
  rw [val_main_v69_apply, ← dp_coe X4 X5 R]
  unfold Arrs.DP
  rw [Finset.sum_range]
  refine Finset.sum_congr rfl fun d _ => ?_
  rw [out_grad x0 x1 x2 x3 X4 X5, own_value x0 x1 x2 x3 X4 X5, mul_comm]

theorem inv_sq (i : S4x8x2048x1.Idx) :
    val_main_v60 (F := Ideal) x0 x1 x2 i
      = Ideal.div 1 (((TT x0 x1 x2 x3 X4 X5 (i 0).val (i 1).val (i 2).val : ℝ) : EReal) * ((TT x0 x1 x2 x3 X4 X5 (i 0).val (i 1).val (i 2).val : ℝ) : EReal)) := by
  rw [val_main_v60_apply, val_main_v59_apply, val_main_cst_10_apply, val_main_v58_apply, total55 X4 X5 R]
  rw [show (FloatOps.ofBits (F := Ideal) .f32 0x3F800000#32 : EReal) = 1 from Ideal.ofBits_one_f32]
  rfl

theorem row_sum (j : S4x8x2048.Idx) :
    val_main_v73 (F := Ideal) x0 x1 x2 x3 j
      = ∑ k ∈ Finset.range 2048, ((ur x0 x1 x2 x3 X4 X5 (j 0).val (j 1).val (j 2).val k : ℝ) : EReal)
          * Ideal.div 1 (((TT x0 x1 x2 x3 X4 X5 (j 0).val (j 1).val (j 2).val : ℝ) : EReal) * ((TT x0 x1 x2 x3 X4 X5 (j 0).val (j 1).val (j 2).val : ℝ) : EReal))
          * ((EX x0 x1 x2 x3 X4 X5 (j 0).val (j 1).val (j 2).val k : ℝ) : EReal) := by
  rw [val_main_v73_apply, val_main_cst_11_apply]
  rw [show (FloatOps.ofBits (F := Ideal) .f32 0x00000000#32 : EReal) = 0 from Ideal.ofBits_zero_f32, zero_add, Finset.sum_range]
  refine Finset.sum_congr rfl fun k _ => ?_
  rw [val_main_v72_apply, val_main_v71_apply, val_main_v70_apply, inv_sq X4 X5 R, prob_grad X4 X5 R, exps X4 X5 R]
  rfl

omit R in
theorem idx74 (i : S4x8x2048x2048.Idx) : idx_main_v74 (idx_main_v78 (idx_main_v79 i) 0) = idx_main_v79 i := by
  have h0 : (i 0).val < 4 := (i 0).isLt
  have h1 : (i 1).val < 8 := (i 1).isLt
  have h2 : (i 2).val < 2048 := (i 2).isLt
  refine funext fun a => Fin.ext ?_
  match a with
  | ⟨0, _⟩ => show ((((i 0).val * 8 + (i 1).val) * 2048 + (i 2).val) * 1 + 0) / 16384 = (i 0).val; omega
  | ⟨1, _⟩ => show ((((i 0).val * 8 + (i 1).val) * 2048 + (i 2).val) * 1 + 0) / 2048 % 8 = (i 1).val; omega
  | ⟨2, _⟩ => show ((((i 0).val * 8 + (i 1).val) * 2048 + (i 2).val) * 1 + 0) % 2048 = (i 2).val; omega

theorem logit_grad (i : S4x8x2048x2048.Idx) :
    val_main_v84 (F := Ideal) x0 x1 x2 x3 i
      = ((PR x0 x1 x2 x3 X4 X5 (i 0).val (i 1).val (i 2).val (i 3).val : ℝ) : EReal)
          * (((ur x0 x1 x2 x3 X4 X5 (i 0).val (i 1).val (i 2).val (i 3).val : ℝ) : EReal)
              - ((CO x0 x1 x2 x3 X4 X5 (i 0).val (i 1).val (i 2).val : ℝ) : EReal))
          * Cert.KernelIdeal.Attn.Tile.SC := by
  rw [val_main_v84_apply, val_main_v83_apply, val_main_cst_13_apply, val_main_v82_apply, mask, val_main_v81_apply, val_main_v80_apply,
    val_main_v77_apply, val_main_v76_apply, val_main_v79_apply, val_main_v78_apply, val_main_cst_12_apply]
  rw [show (FloatOps.ofBits (F := Ideal) .f32 0x00000000#32 : EReal) = 0 from Ideal.ofBits_zero_f32, zero_add, Fin.sum_univ_one]
  rw [val_main_v75_apply, val_main_v74_apply, idx74, row_sum X4 X5 R, total55 X4 X5 R, prob_grad X4 X5 R, exps X4 X5 R, val_main_call1_v0_apply]
  refine congrArg (· * Cert.KernelIdeal.Attn.Tile.SC) ?_
  refine Eq.trans ?_ (grad_ereal (i 2).val (xr x0 x1 x2 x3 X4 X5 (i 0).val (i 1).val (i 2).val) (ur x0 x1 x2 x3 X4 X5 (i 0).val (i 1).val (i 2).val)
    (mx x0 x1 x2 (i 0).val (i 1).val (i 2).val) 2048 (i 2).isLt (i 3).val)
  have hz : (val_main_call1_cst (F := Ideal) (idx_main_call1_v0 i) : EReal) = 0 := Ideal.ofBits_zero_f32
  rw [hz]
  by_cases h : (i 3).val ≤ (i 2).val
  · rw [if_pos h, if_pos h]
    rw [select_one]
    rfl
  · rw [if_neg h, if_neg h]; rfl

end Cert.ReferenceIdeal.Plain

end
-- ==== Proof.Attn.Stats.lean ====
/-
  What the host code hands to the backward pass: the logarithms of the softmax's sums and the corrections, as arrays of the arguments.
-/
module

public import proofs.«01_k».proof.Proof.Gen.KernelIdeal.Value
public import proofs.«01_k».proof.Proof.Gen.ReferenceIdeal.Read
public import Idealize.ShloMosaic.Lib.StableHlo.RunRead

@[expose] public section

set_option maxRecDepth 16384

noncomputable section

namespace Cert.KernelIdeal.Stats

open Cert.KernelIdeal Cert.KernelIdeal.Gen Idealize.ShloMosaic Idealize.ShloMosaic.TcCoe

variable {F : FTy → Type} [FloatOps F] [Named F]

section
variable (x0 : (⟨S8192x768, .bf16⟩ : BufTy).Contents (Elt F)) (x1 : (⟨S8192x1024, .bf16⟩ : BufTy).Contents (Elt F))
  (x2 : (⟨S8192x128, .bf16⟩ : BufTy).Contents (Elt F)) (x3 : (⟨S8192x512, .bf16⟩ : BufTy).Contents (Elt F))

/-- The largest logit of each row. -/
def top : (⟨S4x8x2048x1, .f32⟩ : BufTy).Contents (Elt F) :=
  broadcastInDim S4x8x2048x1 ![0, 1, 2] bcast_S4x8x2048_S4x8x2048x1_0_1_2 (Cert.ReferenceIdeal.Read.val_main_v33 (F := F) x0 x1 x2)

/-- The exponentials. -/
def exps : (⟨S4x8x2048x2048, .f32⟩ : BufTy).Contents (Elt F) :=
  Host.exp (subf (Cert.ReferenceIdeal.Read.val_main_v32_0 (F := F) x0 x1 x2)
    (broadcastInDim S4x8x2048x2048 ![0, 1, 2, 3] bcast_S4x8x2048x1_S4x8x2048x2048_0_1_2_3 (top x0 x1 x2)))

/-- Their sums. -/
def total : (⟨S4x8x2048x1, .f32⟩ : BufTy).Contents (Elt F) :=
  broadcastInDim S4x8x2048x1 ![0, 1, 2] bcast_S4x8x2048_S4x8x2048x1_0_1_2
    (Host.reduceAdd (exps x0 x1 x2) (constant S_ .f32 0x00000000#32) reducesTo_S4x8x2048x2048_S4x8x2048_d3 h_S_)

/-- The sums' logarithms, with the largest logit back in. -/
def logTotal : (⟨S32x1x2048, .f32⟩ : BufTy).Contents (Elt F) :=
  shapeCast S32x1x2048 (addf (top x0 x1 x2) (Host.log (total x0 x1 x2))) shapeCasts_S4x8x2048x1_S32x1x2048

/-- The probabilities. -/
def probs : (⟨S4x8x2048x2048, .f32⟩ : BufTy).Contents (Elt F) :=
  Host.divf (exps x0 x1 x2) (broadcastInDim S4x8x2048x2048 ![0, 1, 2, 3] bcast_S4x8x2048x1_S4x8x2048x2048_0_1_2_3 (total x0 x1 x2))

/-- The attention's output. -/
def out : (⟨S4x8x2048x64, .f32⟩ : BufTy).Contents (Elt F) :=
  Host.dotGeneral dot_S4x8x2048x2048_S4x8x2048x64_S4x8x2048x64_3_2_2_3_01_01 none (probs x0 x1 x2)
    (Cert.ReferenceIdeal.Read.val_main_v20 (F := F) x1)

/-- Each row's product of the output and its gradient. -/
def corrs : (⟨S4x8x2048, .f32⟩ : BufTy).Contents (Elt F) :=
  Host.reduceAdd (mulf (Cert.ReferenceIdeal.Read.val_main_v66 (F := F) x3) (out x0 x1 x2)) (constant S_ .f32 0x00000000#32)
    reducesTo_S4x8x2048x64_S4x8x2048_d3 h_S_

def corrRows : (⟨S32x1x2048, .f32⟩ : BufTy).Contents (Elt F) :=
  shapeCast S32x1x2048 (corrs x0 x1 x2 x3) shapeCasts_S4x8x2048_S32x1x2048
end

variable (m : (ℓ : Loc nD τ sig) → Buf (Elt F) ℓ) (c : Dev nD)

theorem read_logTotal : V m c main_v42
    = logTotal (F := F) (m ((c : Thread nD τ).loc main_arg0)) (m ((c : Thread nD τ).loc main_arg1)) (m ((c : Thread nD τ).loc main_arg2)) := by
  unfold V
  after_reads_simp
  rfl

theorem read_corrRows : V m c main_v51
    = corrRows (F := F) (m ((c : Thread nD τ).loc main_arg0)) (m ((c : Thread nD τ).loc main_arg1)) (m ((c : Thread nD τ).loc main_arg2))
        (m ((c : Thread nD τ).loc main_arg3)) := by
  unfold V
  after_reads_simp
  rfl

end Cert.KernelIdeal.Stats

end
-- ==== Proof.Attn.Saved.lean ====
/-
  The host code's rows, read at an index: the logarithm of the softmax's sum and the softmax's correction.
-/
module

public import proofs.«01_k».proof.Proof.Attn.Grad
public import proofs.«01_k».proof.Proof.Attn.Stats

@[expose] public section

set_option maxRecDepth 16384

noncomputable section

namespace Cert.ReferenceIdeal.Plain

open Cert.ReferenceIdeal Cert.ReferenceIdeal.Gen Cert.ReferenceIdeal.Read Idealize.ShloMosaic Idealize.ShloMosaic.ValueIdx
open Cert.KernelIdeal.Attn (at2 at2_pos at3 at3_pos Arrs arrsOf)
open Cert.Row
open scoped BigOperators

/-- Products of the output with its gradient, summed over lanes, are the probabilities' products with their gradients. -/
theorem corr_swap (p : ℕ → ℝ) (v : ℕ → ℕ → ℝ) (o : ℕ → ℝ) (n N : ℕ) :
    ∑ d ∈ Finset.range n, o d * ∑ k ∈ Finset.range N, p k * v k d
      = ∑ k ∈ Finset.range N, p k * ∑ d ∈ Finset.range n, v k d * o d := by
  simp only [Finset.mul_sum]
  rw [Finset.sum_comm]
  exact Finset.sum_congr rfl fun k _ => Finset.sum_congr rfl fun d _ => by ring

theorem add_log (A B : (⟨S4x8x2048x1, .f32⟩ : BufTy).Contents (Elt Ideal)) (i : S4x8x2048x1.Idx) :
    (addf (F := Ideal) (φ := .f32) A (Host.log (F := Ideal) (φ := .f32) B) i : EReal) = A i + Ideal.log (B i) := rfl

variable {x0 : (⟨S8192x768, .bf16⟩ : BufTy).Contents (Elt Ideal)} {x1 : (⟨S8192x1024, .bf16⟩ : BufTy).Contents (Elt Ideal)}
  {x2 : (⟨S8192x128, .bf16⟩ : BufTy).Contents (Elt Ideal)} {x3 : (⟨S8192x512, .bf16⟩ : BufTy).Contents (Elt Ideal)}
  (X4 X5 : (⟨3, ![32, 1, 2048]⟩ : Shape).Idx → EReal)
variable (R : Real4 x0 x1 x2 x3)
include R

theorem saved_top (i : S4x8x2048x1.Idx) :
    Cert.KernelIdeal.Stats.top (F := Ideal) x0 x1 x2 i = ((mx x0 x1 x2 (i 0).val (i 1).val (i 2).val : ℝ) : EReal) := by
  unfold Cert.KernelIdeal.Stats.top
  refine Eq.trans ?_ (top33 R (ix3 (i 0) (i 1) (i 2)))
  generalize val_main_v33 (F := Ideal) x0 x1 x2 = y
  exact broadcastInDim_apply _ _ y i (ix3 (i 0) (i 1) (i 2)) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (2048 : Nat) = 1 then 0 else (i 2).val; rw [if_neg (by decide)])

theorem saved_exps : Cert.KernelIdeal.Stats.exps (F := Ideal) x0 x1 x2 = val_main_v53 (F := Ideal) x0 x1 x2 := by
  refine funext fun i => ?_
  rw [val_main_v53_apply, val_main_v52_apply, val_main_v51_apply, val_main_v50_apply, top40 R]
  unfold Cert.KernelIdeal.Stats.exps
  refine Eq.trans (b := Ideal.exp (val_main_v32_0 (F := Ideal) x0 x1 x2 i
    - (broadcastInDim S4x8x2048x2048 ![0, 1, 2, 3] Cert.KernelIdeal.Facts₀.bcast_S4x8x2048x1_S4x8x2048x2048_0_1_2_3
        (Cert.KernelIdeal.Stats.top (F := Ideal) x0 x1 x2) i : EReal))) rfl ?_
  have e : (broadcastInDim S4x8x2048x2048 ![0, 1, 2, 3] Cert.KernelIdeal.Facts₀.bcast_S4x8x2048x1_S4x8x2048x2048_0_1_2_3
        (Cert.KernelIdeal.Stats.top (F := Ideal) x0 x1 x2) i : EReal) = ((mx x0 x1 x2 (i 0).val (i 1).val (i 2).val : ℝ) : EReal) := by
    refine Eq.trans ?_ (saved_top R (idx_main_v56 i))
    generalize Cert.KernelIdeal.Stats.top (F := Ideal) x0 x1 x2 = y
    exact broadcastInDim_apply _ _ y i (idx_main_v56 i) (fun a => match a with
      | ⟨0, _⟩ => by show (i 0).val = if (4 : Nat) = 1 then 0 else (i 0).val; rw [if_neg (by decide)]
      | ⟨1, _⟩ => by show (i 1).val = if (8 : Nat) = 1 then 0 else (i 1).val; rw [if_neg (by decide)]
      | ⟨2, _⟩ => by show (i 2).val = if (2048 : Nat) = 1 then 0 else (i 2).val; rw [if_neg (by decide)]
      | ⟨3, _⟩ => by show 0 = if (1 : Nat) = 1 then 0 else (i 3).val; rw [if_pos rfl])
  rw [e]
  rfl

theorem saved_total (i : S4x8x2048x1.Idx) :
    Cert.KernelIdeal.Stats.total (F := Ideal) x0 x1 x2 i = ((TT x0 x1 x2 x3 X4 X5 (i 0).val (i 1).val (i 2).val : ℝ) : EReal) := by
  unfold Cert.KernelIdeal.Stats.total
  rw [saved_exps R]
  refine Eq.trans ?_ (total X4 X5 R (ix3 (i 0) (i 1) (i 2)))
  refine (broadcastInDim_apply _ _ _ i (ix3 (i 0) (i 1) (i 2)) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (2048 : Nat) = 1 then 0 else (i 2).val; rw [if_neg (by decide)])).trans ?_
  rfl

theorem saved_probs : Cert.KernelIdeal.Stats.probs (F := Ideal) x0 x1 x2 = val_main_v57 (F := Ideal) x0 x1 x2 := by
  refine funext fun i => ?_
  rw [val_main_v57_apply, val_main_v56_apply, total55 (fun _ => 0) (fun _ => 0) R]
  unfold Cert.KernelIdeal.Stats.probs
  rw [saved_exps R]
  refine congrArg (fun t : EReal => Ideal.div (val_main_v53 (F := Ideal) x0 x1 x2 i) t) ?_
  refine Eq.trans ?_ (saved_total (fun _ => 0) (fun _ => 0) R (idx_main_v56 i))
  generalize Cert.KernelIdeal.Stats.total (F := Ideal) x0 x1 x2 = y
  exact broadcastInDim_apply _ _ y i (idx_main_v56 i) (fun a => match a with
      | ⟨0, _⟩ => by show (i 0).val = if (4 : Nat) = 1 then 0 else (i 0).val; rw [if_neg (by decide)]
      | ⟨1, _⟩ => by show (i 1).val = if (8 : Nat) = 1 then 0 else (i 1).val; rw [if_neg (by decide)]
      | ⟨2, _⟩ => by show (i 2).val = if (2048 : Nat) = 1 then 0 else (i 2).val; rw [if_neg (by decide)]
      | ⟨3, _⟩ => by show 0 = if (1 : Nat) = 1 then 0 else (i 3).val; rw [if_pos rfl])

theorem saved_out : Cert.KernelIdeal.Stats.out (F := Ideal) x0 x1 x2 = val_main_v61 (F := Ideal) x0 x1 x2 := by
  unfold Cert.KernelIdeal.Stats.out val_main_v61
  rw [saved_probs R]
  rfl

theorem saved_corrs (j : S4x8x2048.Idx) :
    Cert.KernelIdeal.Stats.corrs (F := Ideal) x0 x1 x2 x3 j = ((CO x0 x1 x2 x3 X4 X5 (j 0).val (j 1).val (j 2).val : ℝ) : EReal) := by
  have key : Cert.KernelIdeal.Stats.corrs (F := Ideal) x0 x1 x2 x3 j
      = ∑ d : Fin 64, (val_main_v66 (F := Ideal) x3 (ix4 (j 0) (j 1) (j 2) d : S4x8x2048x64.Idx) : EReal)
          * (val_main_v61 (F := Ideal) x0 x1 x2 (ix4 (j 0) (j 1) (j 2) d : S4x8x2048x64.Idx) : EReal) := by
    unfold Cert.KernelIdeal.Stats.corrs
    rw [saved_out R]
    generalize val_main_v61 (F := Ideal) x0 x1 x2 = y
    generalize val_main_v66 (F := Ideal) x3 = z
    simp only [Host.reduceAdd, Ideal.hostReduceAdd_def]
    rw [Ideal.hostReduceAdd_single Cert.KernelIdeal.Facts₀.reducesTo_S4x8x2048x64_S4x8x2048_d3 (by decide)]
    refine (congrArg (· + _) (Ideal.ofBits_zero_f32)).trans ((zero_add _).trans ?_)
    refine Finset.sum_congr rfl fun d _ => ?_
    exact congrArg (fun t => (z t : EReal) * (y t : EReal))
      (funext fun a => Fin.ext (by match a with | ⟨0, _⟩ => rfl | ⟨1, _⟩ => rfl | ⟨2, _⟩ => rfl | ⟨3, _⟩ => rfl))
  rw [key]
  obtain ⟨b, hb⟩ : ∃ b, b = (j 0).val := ⟨_, rfl⟩
  obtain ⟨g, hg⟩ : ∃ g, g = (j 1).val := ⟨_, rfl⟩
  obtain ⟨q, hq⟩ : ∃ q, q = (j 2).val := ⟨_, rfl⟩
  have o_coe : ∀ d, (arr x0 x1 x2 x3 X4 X5).oo b g q d = ((((arr x0 x1 x2 x3 X4 X5).oo b g q d).toReal : ℝ) : EReal) :=
    fun d => (at2_real _ R.r3 _ _).symm
  have v_coe : ∀ k d, (arr x0 x1 x2 x3 X4 X5).vv b g k d = ((((arr x0 x1 x2 x3 X4 X5).vv b g k d).toReal : ℝ) : EReal) :=
    fun k d => (at2_real _ R.r1 _ _).symm
  have u_eq : ∀ k, ur x0 x1 x2 x3 X4 X5 b g q k = ∑ d ∈ Finset.range 64,
      ((arr x0 x1 x2 x3 X4 X5).vv b g k d).toReal * ((arr x0 x1 x2 x3 X4 X5).oo b g q d).toReal := by
    intro k
    rw [← EReal.coe_eq_coe_iff, ← dp_coe X4 X5 R, ← coe_sum]
    unfold Arrs.DP
    refine Finset.sum_congr rfl fun d _ => ?_
    rw [EReal.coe_mul, ← o_coe, ← v_coe]
  have h61 : ∀ d : Fin 64, (val_main_v61 (F := Ideal) x0 x1 x2 (ix4 (j 0) (j 1) (j 2) d : S4x8x2048x64.Idx) : EReal)
      = ((∑ k ∈ Finset.range 2048, PR x0 x1 x2 x3 X4 X5 b g q k * ((arr x0 x1 x2 x3 X4 X5).vv b g k d.val).toReal : ℝ) : EReal) := by
    intro d
    rw [val_main_v61_apply, ← coe_sum, Finset.sum_range]
    refine Finset.sum_congr rfl fun k _ => ?_
    rw [probs X4 X5 R, own_value x0 x1 x2 x3 X4 X5, EReal.coe_mul, ← v_coe, hb, hg, hq]
  have h66 : ∀ d : Fin 64, (val_main_v66 (F := Ideal) x3 (ix4 (j 0) (j 1) (j 2) d : S4x8x2048x64.Idx) : EReal)
      = ((((arr x0 x1 x2 x3 X4 X5).oo b g q d.val).toReal : ℝ) : EReal) := by
    intro d
    rw [out_grad x0 x1 x2 x3 X4 X5, ← o_coe, hb, hg, hq]
  unfold CO corr
  rw [← hb, ← hg, ← hq]
  have e := corr_swap (PR x0 x1 x2 x3 X4 X5 b g q) (fun k d => ((arr x0 x1 x2 x3 X4 X5).vv b g k d).toReal)
    (fun d => ((arr x0 x1 x2 x3 X4 X5).oo b g q d).toReal) 64 2048
  refine Eq.trans ?_ (congrArg (fun t : ℝ => (t : EReal)) (e.trans (Finset.sum_congr rfl fun k _ => by rw [← u_eq]; rfl)))
  rw [← coe_sum, Finset.sum_range]
  refine Finset.sum_congr rfl fun d _ => ?_
  rw [h61, h66, EReal.coe_mul]

/-- The rows as the kernel reads them. -/
theorem saved_lse {b g q : ℕ} (hb : b < 4) (hg : g < 8) (hq : q < 2048) :
    at3 (a := 32) (b := 2048) (Cert.KernelIdeal.Stats.logTotal (F := Ideal) x0 x1 x2) (8 * b + g) q
      = ((mx x0 x1 x2 b g q + Real.log (TT x0 x1 x2 x3 X4 X5 b g q) : ℝ) : EReal) := by
  rw [at3_pos _ (by omega) hq]
  unfold Cert.KernelIdeal.Stats.logTotal
  refine (shapeCast_apply _ _ _ (ix4 ⟨b, hb⟩ ⟨g, hg⟩ ⟨q, hq⟩ (0 : Fin 1) : S4x8x2048x1.Idx) ?_).trans ?_
  · rw [Shape.rowMajor_val_three, Shape.rowMajor_val_four]
    show ((b * 8 + g) * 2048 + q) * 1 + 0 = ((8 * b + g) * 1 + 0) * 2048 + q
    omega
  · rw [add_log, saved_top R, saved_total X4 X5 R]
    unfold TT
    exact log_tot q (xr x0 x1 x2 x3 X4 X5 b g q) (mx x0 x1 x2 b g q) 2048 hq

theorem saved_corr {b g q : ℕ} (hb : b < 4) (hg : g < 8) (hq : q < 2048) :
    at3 (a := 32) (b := 2048) (Cert.KernelIdeal.Stats.corrRows (F := Ideal) x0 x1 x2 x3) (8 * b + g) q
      = ((CO x0 x1 x2 x3 X4 X5 b g q : ℝ) : EReal) := by
  rw [at3_pos _ (by omega) hq]
  unfold Cert.KernelIdeal.Stats.corrRows
  refine (shapeCast_apply _ _ _ (ix3 ⟨b, hb⟩ ⟨g, hg⟩ ⟨q, hq⟩ : S4x8x2048.Idx) ?_).trans ?_
  · rw [Shape.rowMajor_val_three, Shape.rowMajor_val_three]
    show (b * 8 + g) * 2048 + q = ((8 * b + g) * 1 + 0) * 2048 + q
    omega
  · exact saved_corrs X4 X5 R _

end Cert.ReferenceIdeal.Plain

end
-- ==== Proof.Attn.Final.lean ====
/-
  The four result arrays after the run, index by index.
-/
module

public import proofs.«01_k».proof.Proof.Attn.Arrays
public import Idealize.ShloMosaic.Lib.Pipeline.ValueKit.Geometry

@[expose] public section

set_option maxRecDepth 16384

noncomputable section

namespace Cert.KernelIdeal.Attn

open Cert.KernelIdeal Cert.KernelIdeal.Gen Idealize.ShloMosaic Idealize.ShloMosaic.TcCoe Idealize.ShloMosaic.ValueIdx
open scoped BigOperators

namespace Arrs

variable (A : Arrs)

/-- The gradients laid out as the result arrays are. -/
def outQ (r c : ℕ) : EReal := A.GQ (r / 2048) (c / 64) (r % 2048) (c % 64)
def outKV (r c : ℕ) : EReal :=
  if c % 256 < 128 then A.GK (r / 2048) (2 * (c / 256) + c % 256 / 64) (r % 2048) (c % 64)
  else A.GV (r / 2048) (2 * (c / 256) + (c % 256 - 128) / 64) (r % 2048) (c % 64)
def outE (r c : ℕ) : EReal := A.GE (r / 2048) (4 * (c / 128) + c / 16 % 4) (r % 2048) (c % 128 / 64) (c % 16)
def outP (r c : ℕ) : EReal :=
  A.GP (r / 2048) (c / 16 % 4) (r % 2048) (c / 64) (c % 16) + A.GP (r / 2048) (4 + c / 16 % 4) (r % 2048) (c / 64) (c % 16)

end Arrs

theorem idx_facts_out : ∀ t : Fin cfg0.N,
    (win0_7.index t (0 : Fin 2) = t.val / 4 ∧ win0_7.index t (1 : Fin 2) = t.val % 4)
    ∧ (win0_8.index t (0 : Fin 2) = t.val / 4 ∧ win0_8.index t (1 : Fin 2) = t.val % 4)
    ∧ (win0_9.index t (0 : Fin 2) = t.val / 4 ∧ win0_9.index t (1 : Fin 2) = t.val % 4 / 2)
    ∧ (win0_10.index t (0 : Fin 2) = t.val / 4 ∧ win0_10.index t (1 : Fin 2) = 0) :=
  (by decide +kernel : ∀ t : Fin grid0.N, _)

theorem flush9 : ∀ t : Fin cfg0.N, (cfg0.win 9).flush t = true → t.val % 2 = 1 := (by decide +kernel : ∀ t : Fin grid0.N, _)
theorem flush10 : ∀ t : Fin cfg0.N, (cfg0.win 10).flush t = true → t.val % 4 = 3 := (by decide +kernel : ∀ t : Fin grid0.N, _)

variable (m : (ℓ : Loc nD τ sig) → Buf (Elt Ideal) ℓ) (c : Dev nD)

theorem point7 (t : Fin cfg0.N) {i j : ℕ} (hi : i < 2048) (hj : j < 128) :
    at2 (a := 2048) (b := 128) (outsAt0 m c t.val t.isLt).1 i j = (arrs m c).outQ (2048 * (t.val / 4) + i) (128 * (t.val % 4) + j) := by
  have F := fits t m c
  rw [after7 t m c hi hj]
  obtain ⟨h, d, hh, hd, rfl⟩ : ∃ h d, h < 2 ∧ d < 64 ∧ j = 64 * h + d := ⟨j / 64, j % 64, by omega, by omega, by omega⟩
  rw [F.DQ_own hh hi hd]
  unfold Arrs.outQ
  congr 1 <;> omega

theorem point8 (t : Fin cfg0.N) {i j : ℕ} (hi : i < 2048) (hj : j < 256) :
    at2 (a := 2048) (b := 256) (outsAt0 m c t.val t.isLt).2.1 i j = (arrs m c).outKV (2048 * (t.val / 4) + i) (256 * (t.val % 4) + j) := by
  have F := fits t m c
  rw [after8 t m c hi hj]
  unfold Arrs.outKV
  by_cases hj2 : j < 128
  · obtain ⟨h, d, hh, hd, rfl⟩ : ∃ h d, h < 2 ∧ d < 64 ∧ j = 64 * h + d := ⟨j / 64, j % 64, by omega, by omega, by omega⟩
    rw [F.DKV_key hh hi hd, if_pos (by omega)]
    congr 1 <;> omega
  · obtain ⟨h, d, hh, hd, rfl⟩ : ∃ h d, h < 2 ∧ d < 64 ∧ j = 128 + (64 * h + d) := ⟨(j - 128) / 64, j % 64, by omega, by omega, by omega⟩
    rw [F.DKV_value hh hi hd, if_neg (by omega)]
    congr 1 <;> omega

theorem point9 (t : Fin cfg0.N) (ht : t.val % 2 = 1) {i j : ℕ} (hi : i < 2048) (hj : j < 128) :
    at2 (a := 2048) (b := 128) (outsAt0 m c t.val t.isLt).2.2.1 i j = (arrs m c).outE (2048 * (t.val / 4) + i) (128 * (t.val % 4 / 2) + j) := by
  have hlt := lt_grid t
  have F := fits t m c
  have F' := fits ⟨t.val - 1, by omega⟩ m c
  rw [after9_next t m c (by omega) hi hj]
  rw [after9_first ⟨t.val - 1, by omega⟩ m c (by show (t.val - 1) % 2 = 0; omega) hi hj]
  obtain ⟨x, r, d, hx, hr, hd, rfl⟩ : ∃ x r d, x < 2 ∧ r < 4 ∧ d < 16 ∧ j = 64 * x + 16 * r + d :=
    ⟨j / 64, j / 16 % 4, j % 16, by omega, by omega, by omega, by omega⟩
  rw [F.DQ_rope hi hx hr hd, F'.DQ_rope hi hx hr hd]
  dsimp only
  unfold Arrs.outE
  have e : (2048 * (t.val / 4) + i) / 2048 = t.val / 4 ∧ (2048 * (t.val / 4) + i) % 2048 = i ∧
      (128 * (t.val % 4 / 2) + (64 * x + 16 * r + d)) / 128 = t.val % 4 / 2 ∧ (128 * (t.val % 4 / 2) + (64 * x + 16 * r + d)) / 16 % 4 = r ∧
      (128 * (t.val % 4 / 2) + (64 * x + 16 * r + d)) % 128 / 64 = x ∧ (128 * (t.val % 4 / 2) + (64 * x + 16 * r + d)) % 16 = d := by
    refine ⟨?_, ?_, ?_, ?_, ?_, ?_⟩ <;> omega
  obtain ⟨e1, e2, e3, e4, e5, e6⟩ := e
  rw [e1, e2, e3, e4, e5, e6]
  by_cases hr2 : r < 2
  · rw [if_neg (by omega), if_neg (by omega), if_pos (by omega), add_zero]
    congr 1 <;> omega
  · rw [if_neg (by omega), if_pos (by omega), if_neg (by omega), if_neg (by omega), zero_add]
    congr 1 <;> omega

theorem pair_rope (A : Arrs) {b p : ℕ} {T : Tile} (F : Fits A b p T) {k x r d : ℕ} (hk : k < 2048) (hx : x < 2) (hr : r < 4) (hd : d < 16) :
    ∑ h ∈ Finset.range 2, T.DPE h k (64 * x + 16 * r + d)
      = (if 2 * p % 4 = r then A.GP b (2 * p) k x d else 0) + (if (2 * p + 1) % 4 = r then A.GP b (2 * p + 1) k x d else 0) := by
  rw [Finset.sum_range_succ, Finset.sum_range_one, F.DPE_eq (by omega) hk hx hr hd, F.DPE_eq (by omega) hk hx hr hd]
  rfl

theorem point10 (t : Fin cfg0.N) (ht : t.val % 4 = 3) {i j : ℕ} (hi : i < 2048) (hj : j < 128) :
    at2 (a := 2048) (b := 128) (outsAt0 m c t.val t.isLt).2.2.2 i j = (arrs m c).outP (2048 * (t.val / 4) + i) j := by
  have hlt := lt_grid t
  have F3 := fits t m c
  have F2 := fits ⟨t.val - 1, by omega⟩ m c
  have F1 := fits ⟨t.val - 1 - 1, by omega⟩ m c
  have F0 := fits ⟨t.val - 1 - 1 - 1, by omega⟩ m c
  rw [after10_next t m c (by omega) hi hj]
  rw [after10_next ⟨t.val - 1, by omega⟩ m c (by show ¬(t.val - 1) % 4 = 0; omega) hi hj]
  rw [after10_next ⟨t.val - 1 - 1, by omega⟩ m c (by show ¬(t.val - 1 - 1) % 4 = 0; omega) hi hj]
  rw [after10_first ⟨t.val - 1 - 1 - 1, by omega⟩ m c (by show (t.val - 1 - 1 - 1) % 4 = 0; omega) hi hj]
  obtain ⟨x, r, d, hx, hr, hd, rfl⟩ : ∃ x r d, x < 2 ∧ r < 4 ∧ d < 16 ∧ j = 64 * x + 16 * r + d :=
    ⟨j / 64, j / 16 % 4, j % 16, by omega, by omega, by omega, by omega⟩
  rw [pair_rope _ F0 hi hx hr hd, pair_rope _ F1 hi hx hr hd, pair_rope _ F2 hi hx hr hd, pair_rope _ F3 hi hx hr hd]
  dsimp only
  rw [show (t.val - 1 - 1 - 1) % 4 = 0 by omega, show (t.val - 1 - 1) % 4 = 1 by omega, show (t.val - 1) % 4 = 2 by omega, ht,
    show (t.val - 1 - 1 - 1) / 4 = t.val / 4 by omega, show (t.val - 1 - 1) / 4 = t.val / 4 by omega, show (t.val - 1) / 4 = t.val / 4 by omega]
  unfold Arrs.outP
  have e : (2048 * (t.val / 4) + i) / 2048 = t.val / 4 ∧ (2048 * (t.val / 4) + i) % 2048 = i ∧
      (64 * x + 16 * r + d) / 16 % 4 = r ∧ (64 * x + 16 * r + d) / 64 = x ∧ (64 * x + 16 * r + d) % 16 = d := by
    refine ⟨?_, ?_, ?_, ?_, ?_⟩ <;> omega
  obtain ⟨e1, e2, e4, e5, e6⟩ := e
  rw [e1, e2, e4, e5, e6]
  obtain rfl | rfl | rfl | rfl : r = 0 ∨ r = 1 ∨ r = 2 ∨ r = 3 := by omega
  all_goals simp

/-- The own queries' gradient. -/
theorem final7 : (dats m 0 c).arrAt 7 cfg0.N = fun i : S8192x512.Idx => (arrs m c).outQ (i 0).val (i 1).val := by
  refine (dats m 0 c).arrAt_eq_of_covers 7 (fun i : S8192x512.Idx => (arrs m c).outQ (i 0).val (i 1).val) (by decide +kernel) fun t hf y => ?_
  obtain ⟨⟨e0, e1⟩, _⟩ := idx_facts_out t
  rw [after0_7]
  have hy0 : (y 0).val < 2048 := (y 0).isLt
  have hy1 : (y 1).val < 128 := (y 1).isLt
  have h := point7 m c t hy0 hy1
  rw [at2_pos _ hy0 hy1] at h
  refine Eq.trans (Eq.trans ?_ h) ?_
  · refine congrArg (outsAt0 m c t.val t.isLt).1 (funext fun d => ?_)
    match d with
    | ⟨0, _⟩ => rfl
    | ⟨1, _⟩ => rfl
  · refine congrArg₂ (arrs m c).outQ ?_ ?_
    · show _ = win0_7.index t (0 : Fin 2) * 2048 + 1 * (y 0).val
      omega
    · show _ = win0_7.index t (1 : Fin 2) * 128 + 1 * (y 1).val
      omega

/-- The keys' and values' gradient. -/
theorem final8 : (dats m 0 c).arrAt 8 cfg0.N = fun i : S8192x1024.Idx => (arrs m c).outKV (i 0).val (i 1).val := by
  refine (dats m 0 c).arrAt_eq_of_covers 8 (fun i : S8192x1024.Idx => (arrs m c).outKV (i 0).val (i 1).val) (by decide +kernel) fun t hf y => ?_
  obtain ⟨_, ⟨e0, e1⟩, _⟩ := idx_facts_out t
  rw [after0_8]
  have hy0 : (y 0).val < 2048 := (y 0).isLt
  have hy1 : (y 1).val < 256 := (y 1).isLt
  have h := point8 m c t hy0 hy1
  rw [at2_pos _ hy0 hy1] at h
  refine Eq.trans (Eq.trans ?_ h) ?_
  · refine congrArg (outsAt0 m c t.val t.isLt).2.1 (funext fun d => ?_)
    match d with
    | ⟨0, _⟩ => rfl
    | ⟨1, _⟩ => rfl
  · refine congrArg₂ (arrs m c).outKV ?_ ?_
    · show _ = win0_8.index t (0 : Fin 2) * 2048 + 1 * (y 0).val
      omega
    · show _ = win0_8.index t (1 : Fin 2) * 256 + 1 * (y 1).val
      omega

/-- The rotary queries' gradient. -/
theorem final9 : (dats m 0 c).arrAt 9 cfg0.N = fun i : S8192x256.Idx => (arrs m c).outE (i 0).val (i 1).val := by
  refine (dats m 0 c).arrAt_eq_of_covers 9 (fun i : S8192x256.Idx => (arrs m c).outE (i 0).val (i 1).val) (by decide +kernel) fun t hf y => ?_
  obtain ⟨_, _, ⟨e0, e1⟩, _⟩ := idx_facts_out t
  rw [after0_9]
  have hy0 : (y 0).val < 2048 := (y 0).isLt
  have hy1 : (y 1).val < 128 := (y 1).isLt
  have h := point9 m c t (flush9 t hf) hy0 hy1
  rw [at2_pos _ hy0 hy1] at h
  refine Eq.trans (Eq.trans ?_ h) ?_
  · refine congrArg (outsAt0 m c t.val t.isLt).2.2.1 (funext fun d => ?_)
    match d with
    | ⟨0, _⟩ => rfl
    | ⟨1, _⟩ => rfl
  · refine congrArg₂ (arrs m c).outE ?_ ?_
    · show _ = win0_9.index t (0 : Fin 2) * 2048 + 1 * (y 0).val
      omega
    · show _ = win0_9.index t (1 : Fin 2) * 128 + 1 * (y 1).val
      omega

/-- The rotary keys' gradient, summed over the heads that share them. -/
theorem final10 : (dats m 0 c).arrAt 10 cfg0.N = fun i : S8192x128.Idx => (arrs m c).outP (i 0).val (i 1).val := by
  refine (dats m 0 c).arrAt_eq_of_covers 10 (fun i : S8192x128.Idx => (arrs m c).outP (i 0).val (i 1).val) (by decide +kernel) fun t hf y => ?_
  obtain ⟨_, _, _, e0, e1⟩ := idx_facts_out t
  rw [after0_10]
  have hy0 : (y 0).val < 2048 := (y 0).isLt
  have hy1 : (y 1).val < 128 := (y 1).isLt
  have h := point10 m c t (flush10 t hf) hy0 hy1
  rw [at2_pos _ hy0 hy1] at h
  refine Eq.trans (Eq.trans ?_ h) ?_
  · refine congrArg (outsAt0 m c t.val t.isLt).2.2.2 (funext fun d => ?_)
    match d with
    | ⟨0, _⟩ => rfl
    | ⟨1, _⟩ => rfl
  · refine congrArg₂ (arrs m c).outP ?_ ?_
    · show _ = win0_10.index t (0 : Fin 2) * 2048 + 1 * (y 0).val
      omega
    · show _ = win0_10.index t (1 : Fin 2) * 128 + 1 * (y 1).val
      omega

end Cert.KernelIdeal.Attn

end
-- ==== Proof.Attn.Results.lean ====
/-
  The plain program's results are the sums that the kernel leaves, when the kernel's saved rows are the ones that the host code
  computes and the arguments have no infinities.
-/
module

public import proofs.«01_k».proof.Proof.Attn.Saved
public import proofs.«01_k».proof.Proof.Attn.Final

@[expose] public section

set_option maxRecDepth 16384

noncomputable section

namespace Cert.ReferenceIdeal.Plain

open Cert.ReferenceIdeal Cert.ReferenceIdeal.Gen Cert.ReferenceIdeal.Read Idealize.ShloMosaic Idealize.ShloMosaic.ValueIdx
open Cert.KernelIdeal.Attn (at2 at2_pos at3 at3_pos Arrs arrsOf)
open Cert.Row
open scoped BigOperators

section
variable (x0 : (⟨S8192x768, .bf16⟩ : BufTy).Contents (Elt Ideal)) (x1 : (⟨S8192x1024, .bf16⟩ : BufTy).Contents (Elt Ideal))
  (x2 : (⟨S8192x128, .bf16⟩ : BufTy).Contents (Elt Ideal)) (x3 : (⟨S8192x512, .bf16⟩ : BufTy).Contents (Elt Ideal))

/-- The kernel's arrays, with the rows that the host code saves. -/
def saved : Arrs := arr x0 x1 x2 x3 (Cert.KernelIdeal.Stats.logTotal (F := Ideal) x0 x1 x2) (Cert.KernelIdeal.Stats.corrRows (F := Ideal) x0 x1 x2 x3)

end

variable {x0 : (⟨S8192x768, .bf16⟩ : BufTy).Contents (Elt Ideal)} {x1 : (⟨S8192x1024, .bf16⟩ : BufTy).Contents (Elt Ideal)}
  {x2 : (⟨S8192x128, .bf16⟩ : BufTy).Contents (Elt Ideal)} {x3 : (⟨S8192x512, .bf16⟩ : BufTy).Contents (Elt Ideal)}
variable (R : Real4 x0 x1 x2 x3)
include R

theorem kernel_prob (i : S4x8x2048x2048.Idx) :
    val_main_v57 (F := Ideal) x0 x1 x2 i = (saved x0 x1 x2 x3).P (i 0).val (i 1).val (i 3).val (i 2).val := by
  unfold saved
  obtain ⟨L, hL⟩ : ∃ L, L = Cert.KernelIdeal.Stats.logTotal (F := Ideal) x0 x1 x2 := ⟨_, rfl⟩
  obtain ⟨C, hC⟩ : ∃ C, C = Cert.KernelIdeal.Stats.corrRows (F := Ideal) x0 x1 x2 x3 := ⟨_, rfl⟩
  have hl := saved_lse L C R (i 0).isLt (i 1).isLt (i 2).isLt
  rw [← hL] at hl
  rw [← hL, ← hC, probs L C R]
  unfold Arrs.P
  rw [x_coe L C R]
  refine (prob_log (i 2).val (xr x0 x1 x2 x3 L C (i 0).val (i 1).val (i 2).val) (mx x0 x1 x2 (i 0).val (i 1).val (i 2).val) 2048
    (i 2).isLt (i 3).val).symm.trans ?_
  unfold TT at hl
  rw [← hl]
  rfl

theorem kernel_grad (i : S4x8x2048x2048.Idx) :
    val_main_v84 (F := Ideal) x0 x1 x2 x3 i = (saved x0 x1 x2 x3).DS (i 0).val (i 1).val (i 3).val (i 2).val := by
  have hp := kernel_prob R i
  unfold Arrs.DS
  rw [← hp]
  unfold saved
  obtain ⟨L, hL⟩ : ∃ L, L = Cert.KernelIdeal.Stats.logTotal (F := Ideal) x0 x1 x2 := ⟨_, rfl⟩
  obtain ⟨C, hC⟩ : ∃ C, C = Cert.KernelIdeal.Stats.corrRows (F := Ideal) x0 x1 x2 x3 := ⟨_, rfl⟩
  have hc := saved_corr L C R (i 0).isLt (i 1).isLt (i 2).isLt
  rw [← hC] at hc
  rw [← hL, ← hC, logit_grad L C R, dp_coe L C R, probs L C R, ← hc]
  rfl

theorem query_grad (i : S4x8x2048x64.Idx) :
    val_main_v88 (F := Ideal) x0 x1 x2 x3 i = (saved x0 x1 x2 x3).GQ (i 0).val (i 1).val (i 2).val (i 3).val := by
  rw [val_main_v88_apply]
  unfold Arrs.GQ
  rw [Finset.sum_range]
  refine Finset.sum_congr rfl fun k _ => ?_
  rw [kernel_grad R, own_key x0 x1 x2 x3 (Cert.KernelIdeal.Stats.logTotal (F := Ideal) x0 x1 x2) (Cert.KernelIdeal.Stats.corrRows (F := Ideal) x0 x1 x2 x3)]
  rfl

theorem key_grad (i : S4x8x2048x64.Idx) :
    val_main_v87 (F := Ideal) x0 x1 x2 x3 i = (saved x0 x1 x2 x3).GK (i 0).val (i 1).val (i 2).val (i 3).val := by
  rw [val_main_v87_apply]
  unfold Arrs.GK
  rw [Finset.sum_range]
  refine Finset.sum_congr rfl fun k _ => ?_
  rw [kernel_grad R, own_query x0 x1 x2 x3 (Cert.KernelIdeal.Stats.logTotal (F := Ideal) x0 x1 x2) (Cert.KernelIdeal.Stats.corrRows (F := Ideal) x0 x1 x2 x3)]
  rfl

theorem value_grad (i : S4x8x2048x64.Idx) :
    val_main_v68 (F := Ideal) x0 x1 x2 x3 i = (saved x0 x1 x2 x3).GV (i 0).val (i 1).val (i 2).val (i 3).val := by
  rw [val_main_v68_apply, val_main_v67_apply]
  unfold Arrs.GV
  rw [Finset.sum_range]
  refine Finset.sum_congr rfl fun k _ => ?_
  rw [kernel_prob R, out_grad x0 x1 x2 x3 (Cert.KernelIdeal.Stats.logTotal (F := Ideal) x0 x1 x2) (Cert.KernelIdeal.Stats.corrRows (F := Ideal) x0 x1 x2 x3),
    mul_comm]
  rfl

theorem rope_query_grad (i : S4x8x2048x2x16.Idx) :
    val_main_v86 (F := Ideal) x0 x1 x2 x3 i = (saved x0 x1 x2 x3).GE (i 0).val (i 1).val (i 2).val (i 3).val (i 4).val := by
  rw [val_main_v86_apply]
  unfold Arrs.GE
  rw [Finset.sum_range]
  refine Finset.sum_congr rfl fun k _ => ?_
  rw [kernel_grad R, rope_key x0 x1 x2 x3 (Cert.KernelIdeal.Stats.logTotal (F := Ideal) x0 x1 x2) (Cert.KernelIdeal.Stats.corrRows (F := Ideal) x0 x1 x2 x3)]
  rfl

theorem rope_key_grad (i : S4x8x2048x2x16.Idx) :
    val_main_v85 (F := Ideal) x0 x1 x2 x3 i = (saved x0 x1 x2 x3).GP (i 0).val (i 1).val (i 2).val (i 3).val (i 4).val := by
  rw [val_main_v85_apply]
  unfold Arrs.GP
  rw [Finset.sum_range]
  refine Finset.sum_congr rfl fun k _ => ?_
  rw [kernel_grad R, rope_query x0 x1 x2 x3 (Cert.KernelIdeal.Stats.logTotal (F := Ideal) x0 x1 x2) (Cert.KernelIdeal.Stats.corrRows (F := Ideal) x0 x1 x2 x3)]
  rfl

/-- The first result. -/
theorem result_query (i : S8192x512.Idx) :
    val_main_v107 (F := Ideal) x0 x1 x2 x3 i = (saved x0 x1 x2 x3).outQ (i 0).val (i 1).val := by
  have h0 : (i 0).val < 8192 := (i 0).isLt
  have h1 : (i 1).val < 512 := (i 1).isLt
  refine Eq.trans (b := (val_main_v106 (F := Ideal) x0 x1 x2 x3 i : EReal)) rfl ?_
  rw [val_main_v106_apply, val_main_v105_apply, query_grad R]
  unfold Arrs.outQ
  congr 1
  · show ((i 0).val * 512 + (i 1).val) / 1048576 = _; omega
  · show ((i 0).val * 512 + (i 1).val) / 64 % 8 = _; omega
  · show ((i 0).val * 512 + (i 1).val) / 512 % 2048 = _; omega
  · show ((i 0).val * 512 + (i 1).val) % 64 = _; omega

/-- The fourth result. -/
theorem result_rope_key (i : S8192x128.Idx) :
    val_main_v101 (F := Ideal) x0 x1 x2 x3 i = (saved x0 x1 x2 x3).outP (i 0).val (i 1).val := by
  have h0 : (i 0).val < 8192 := (i 0).isLt
  have h1 : (i 1).val < 128 := (i 1).isLt
  rw [val_main_v101_apply, val_main_v100_apply, val_main_v93_apply, val_main_v91_apply, val_main_v92_apply, rope_key_grad R, rope_key_grad R]
  unfold Arrs.outP
  refine congrArg₂ (fun a b : EReal => a + b) ?_ ?_
  · congr 1
    · show ((i 0).val * 128 + (i 1).val) / 262144 = _; omega
    · show ((i 0).val * 128 + (i 1).val) / 16 % 4 = _; omega
    · show ((i 0).val * 128 + (i 1).val) / 128 % 2048 = _; omega
    · show ((i 0).val * 128 + (i 1).val) / 64 % 2 = _; omega
    · show ((i 0).val * 128 + (i 1).val) % 16 = _; omega
  · congr 1
    · show ((i 0).val * 128 + (i 1).val) / 262144 = _; omega
    · show 4 + ((i 0).val * 128 + (i 1).val) / 16 % 4 = _; omega
    · show ((i 0).val * 128 + (i 1).val) / 128 % 2048 = _; omega
    · show ((i 0).val * 128 + (i 1).val) / 64 % 2 = _; omega
    · show ((i 0).val * 128 + (i 1).val) % 16 = _; omega

end Cert.ReferenceIdeal.Plain

end
-- ==== Proof.Attn.ResultsKV.lean ====
/-
  The other two results of the plain program: the keys' and values' gradients, which come together out of two padded halves, and the
  rotary queries' gradient.
-/
module

public import proofs.«01_k».proof.Proof.Attn.Results

@[expose] public section

set_option maxRecDepth 16384

noncomputable section

namespace Cert.ReferenceIdeal.Plain

open Cert.ReferenceIdeal Cert.ReferenceIdeal.Gen Cert.ReferenceIdeal.Read Idealize.ShloMosaic Idealize.ShloMosaic.ValueIdx
open Cert.KernelIdeal.Attn (Arrs)

variable {x0 : (⟨S8192x768, .bf16⟩ : BufTy).Contents (Elt Ideal)} {x1 : (⟨S8192x1024, .bf16⟩ : BufTy).Contents (Elt Ideal)}
  {x2 : (⟨S8192x128, .bf16⟩ : BufTy).Contents (Elt Ideal)} {x3 : (⟨S8192x512, .bf16⟩ : BufTy).Contents (Elt Ideal)}
variable (R : Real4 x0 x1 x2 x3)
include R

/-- The third result. -/
theorem result_rope_query (i : S8192x256.Idx) :
    val_main_v104 (F := Ideal) x0 x1 x2 x3 i = (saved x0 x1 x2 x3).outE (i 0).val (i 1).val := by
  have h0 : (i 0).val < 8192 := (i 0).isLt
  have h1 : (i 1).val < 256 := (i 1).isLt
  unfold val_main_v104
  refine (shapeCast_apply _ shapeCasts_S4x2048x2x2x4x16_S8192x256 i
    (ix6 (⟨(i 0).val / 2048, by omega⟩ : Fin 4) (⟨(i 0).val % 2048, by omega⟩ : Fin 2048) (⟨(i 1).val / 128, by omega⟩ : Fin 2)
      (⟨(i 1).val % 128 / 64, by omega⟩ : Fin 2) (⟨(i 1).val / 16 % 4, by omega⟩ : Fin 4) (⟨(i 1).val % 16, by omega⟩ : Fin 16)) ?_).trans ?_
  · rw [Shape.rowMajor_val_six, Shape.rowMajor_val_two]
    show ((((((i 0).val / 2048) * 2048 + (i 0).val % 2048) * 2 + (i 1).val / 128) * 2 + (i 1).val % 128 / 64) * 4 + (i 1).val / 16 % 4) * 16 + (i 1).val % 16
      = (i 0).val * 256 + (i 1).val
    omega
  · rw [val_main_v103_apply]
    unfold val_main_v102
    refine (shapeCast_apply _ shapeCasts_S4x8x2048x2x16_S4x2x4x2048x2x16 _
      (ix5 (⟨(i 0).val / 2048, by omega⟩ : Fin 4) (⟨4 * ((i 1).val / 128) + (i 1).val / 16 % 4, by omega⟩ : Fin 8)
        (⟨(i 0).val % 2048, by omega⟩ : Fin 2048) (⟨(i 1).val % 128 / 64, by omega⟩ : Fin 2) (⟨(i 1).val % 16, by omega⟩ : Fin 16)) ?_).trans ?_
    · rw [Shape.rowMajor_val_six, Shape.rowMajor_val_five]
      show (((((i 0).val / 2048) * 8 + (4 * ((i 1).val / 128) + (i 1).val / 16 % 4)) * 2048 + (i 0).val % 2048) * 2 + (i 1).val % 128 / 64) * 16 + (i 1).val % 16
        = ((((((i 0).val / 2048) * 2 + (i 1).val / 128) * 4 + (i 1).val / 16 % 4) * 2048 + (i 0).val % 2048) * 2 + (i 1).val % 128 / 64) * 16 + (i 1).val % 16
      omega
    · rw [rope_query_grad R]
      rfl

/-- Keys' gradients below, values' gradients above. -/
theorem halves_low (i : S2x4x8x2048x64.Idx) (h : (i 0).val = 0) :
    val_main_v96 (F := Ideal) x0 x1 x2 x3 i = (saved x0 x1 x2 x3).GK (i 1).val (i 2).val (i 3).val (i 4).val := by
  rw [val_main_v96_apply]
  have e90 : (val_main_v90 (F := Ideal) x0 x1 x2 x3 i : EReal) = 0 := by
    unfold val_main_v90
    refine (pad_apply_of_not_inside _ _ _ _ _ pads_S1x4x8x2048x64_S2x4x8x2048x64_100_000_000_000_000 h_S_ i (0 : Fin 5) ?_).trans Ideal.ofBits_zero_f32
    rintro ⟨ha, -, -⟩
    have : 1 ≤ (i 0).val := ha
    omega
  have e95 : val_main_v95 (F := Ideal) x0 x1 x2 x3 i = (saved x0 x1 x2 x3).GK (i 1).val (i 2).val (i 3).val (i 4).val := by
    unfold val_main_v95
    refine (pad_apply_of_inside _ _ _ _ _ pads_S1x4x8x2048x64_S2x4x8x2048x64_010_000_000_000_000 h_S_ i
      (ix5 (0 : Fin 1) (i 1) (i 2) (i 3) (i 4) : S1x4x8x2048x64.Idx) (fun a => ?_)).trans ?_
    · match a with
      | ⟨0, _⟩ => show (i 0).val = 0 + 0 * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
      | ⟨4, _⟩ => show (i 4).val = 0 + (i 4).val * (0 + 1); omega
    · rw [val_main_v94_apply, key_grad R]
  rw [e90, e95]
  exact zero_add _

theorem halves_high (i : S2x4x8x2048x64.Idx) (h : (i 0).val = 1) :
    val_main_v96 (F := Ideal) x0 x1 x2 x3 i = (saved x0 x1 x2 x3).GV (i 1).val (i 2).val (i 3).val (i 4).val := by
  rw [val_main_v96_apply]
  have e95 : (val_main_v95 (F := Ideal) x0 x1 x2 x3 i : EReal) = 0 := by
    unfold val_main_v95
    refine (pad_apply_of_not_inside _ _ _ _ _ pads_S1x4x8x2048x64_S2x4x8x2048x64_010_000_000_000_000 h_S_ i (0 : Fin 5) ?_).trans Ideal.ofBits_zero_f32
    rintro ⟨-, -, ha⟩
    have : ((i 0).val - 0) / (0 + 1) < 1 := ha
    omega
  have e90 : val_main_v90 (F := Ideal) x0 x1 x2 x3 i = (saved x0 x1 x2 x3).GV (i 1).val (i 2).val (i 3).val (i 4).val := by
    unfold val_main_v90
    refine (pad_apply_of_inside _ _ _ _ _ pads_S1x4x8x2048x64_S2x4x8x2048x64_100_000_000_000_000 h_S_ i
      (ix5 (0 : Fin 1) (i 1) (i 2) (i 3) (i 4) : S1x4x8x2048x64.Idx) (fun a => ?_)).trans ?_
    · match a with
      | ⟨0, _⟩ => show (i 0).val = 1 + 0 * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
      | ⟨4, _⟩ => show (i 4).val = 0 + (i 4).val * (0 + 1); omega
    · rw [val_main_v89_apply, value_grad R]
  rw [e90, e95]
  exact add_zero _

/-- The second result. -/
theorem result_kv (i : S8192x1024.Idx) :
    val_main_v108 (F := Ideal) x0 x1 x2 x3 i = (saved x0 x1 x2 x3).outKV (i 0).val (i 1).val := by
  have h0 : (i 0).val < 8192 := (i 0).isLt
  have h1 : (i 1).val < 1024 := (i 1).isLt
  refine Eq.trans (b := (val_main_v99 (F := Ideal) x0 x1 x2 x3 i : EReal)) rfl ?_
  unfold val_main_v99
  refine (shapeCast_apply _ shapeCasts_S4x2048x4x2x2x64_S8192x1024 i
    (ix6 (⟨(i 0).val / 2048, by omega⟩ : Fin 4) (⟨(i 0).val % 2048, by omega⟩ : Fin 2048) (⟨(i 1).val / 256, by omega⟩ : Fin 4)
      (⟨(i 1).val / 128 % 2, by omega⟩ : Fin 2) (⟨(i 1).val / 64 % 2, by omega⟩ : Fin 2) (⟨(i 1).val % 64, by omega⟩ : Fin 64)) ?_).trans ?_
  · rw [Shape.rowMajor_val_six, Shape.rowMajor_val_two]
    show ((((((i 0).val / 2048) * 2048 + (i 0).val % 2048) * 4 + (i 1).val / 256) * 2 + (i 1).val / 128 % 2) * 2 + (i 1).val / 64 % 2) * 64 + (i 1).val % 64
      = (i 0).val * 1024 + (i 1).val
    omega
  · rw [val_main_v98_apply]
    unfold val_main_v97
    refine (shapeCast_apply _ shapeCasts_S2x4x8x2048x64_S2x4x4x2x2048x64 _
      (ix5 (⟨(i 1).val / 128 % 2, by omega⟩ : Fin 2) (⟨(i 0).val / 2048, by omega⟩ : Fin 4)
        (⟨2 * ((i 1).val / 256) + (i 1).val / 64 % 2, by omega⟩ : Fin 8) (⟨(i 0).val % 2048, by omega⟩ : Fin 2048) (⟨(i 1).val % 64, by omega⟩ : Fin 64)) ?_).trans ?_
    · rw [Shape.rowMajor_val_six, Shape.rowMajor_val_five]
      show (((((i 1).val / 128 % 2) * 4 + (i 0).val / 2048) * 8 + (2 * ((i 1).val / 256) + (i 1).val / 64 % 2)) * 2048 + (i 0).val % 2048) * 64 + (i 1).val % 64
        = ((((((i 1).val / 128 % 2) * 4 + (i 0).val / 2048) * 4 + (i 1).val / 256) * 2 + (i 1).val / 64 % 2) * 2048 + (i 0).val % 2048) * 64 + (i 1).val % 64
      omega
    · unfold Arrs.outKV
      by_cases hc : (i 1).val % 256 < 128
      · rw [if_pos hc, halves_low R _ (by show (i 1).val / 128 % 2 = 0; omega)]
        congr 1
        show 2 * ((i 1).val / 256) + (i 1).val / 64 % 2 = _; omega
      · rw [if_neg hc, halves_high R _ (by show (i 1).val / 128 % 2 = 1; omega)]
        congr 1
        show 2 * ((i 1).val / 256) + (i 1).val / 64 % 2 = _; omega

end Cert.ReferenceIdeal.Plain

end
-- ==== Proof.Attn.Finite.lean ====
/-
  The precondition says of each argument that all its elements are smaller in absolute value than infinity.  Here: its shape relations
  hold, and where it reads all ones every element is a real number.
-/
module

public import proofs.«01_k».proof.Pre_finite
public import proofs.«01_k».proof.Proof.Attn.Grad

@[expose] public section

noncomputable section

namespace Cert.Pre_finite.Plain

open Cert.Pre_finite Idealize.ShloMosaic
open Cert.Row (IsReal)

instance facts : Cert.Pre_finite.Facts where
  bitsLt_bf16_f32 := by decide
  bcast_S_S8192x768 := by decide
  reducesTo_S8192x768_S_d0_1 := by decide
  h_S_ := by decide
  bcast_S_S8192x1024 := by decide
  reducesTo_S8192x1024_S_d0_1 := by decide
  bcast_S_S8192x128 := by decide
  reducesTo_S8192x128_S_d0_1 := by decide
  bcast_S_S8192x512 := by decide
  reducesTo_S8192x512_S_d0_1 := by decide

theorem and_one {a b : BitVec 1} (h : IntOp.andi a b = 1#1) : a = 1#1 ∧ b = 1#1 := by
  revert a b; decide

instance : Std.Commutative (IntOp.andi : BitVec 1 → BitVec 1 → BitVec 1) := ⟨by decide⟩
instance : Std.Associative (IntOp.andi : BitVec 1 → BitVec 1 → BitVec 1) := ⟨by decide⟩

theorem fold_one {ι : Type} (S : Finset ι) (x : ι → BitVec 1) (b : BitVec 1) (h : S.fold IntOp.andi b x = 1#1) :
    ∀ i ∈ S, x i = 1#1 := by
  classical
  induction S using Finset.induction_on with
  | empty => intro i hi; simp at hi
  | insert a S ha ih =>
    rw [Finset.fold_insert ha] at h
    obtain ⟨h1, h2⟩ := and_one h
    intro i hi
    rcases Finset.mem_insert.mp hi with e | e
    · exact e ▸ h1
    · exact ih h2 i e

/-- A conjunction over a whole array is one only where every element is. -/
theorem reduce_one {s : Shape} {axes : List (Fin s.rank)} (x : s.Idx → BitVec 1) (init : S_.Idx → BitVec 1) (h : s.ReducesTo axes S_)
    (hu : 0 < S_.numel) (j : S_.Idx) (e : Host.reduce IntOp.andi x init h hu j = 1#1) (i : s.Idx) : x i = 1#1 := by
  rw [Host.reduce_eq_fold] at e
  refine fold_one _ x _ e i (Finset.mem_filter.mpr ⟨Finset.mem_univ _, ?_⟩)
  funext k
  exact k.elim0

/-- The literal of the precondition is infinity. -/
theorem inf_top : (FloatOps.ofBits (F := Ideal) .f32 0x7F800000#32 : EReal) = ⊤ := by
  show Ideal.ofBits .f32 0x7F800000#32 = ⊤
  simp [Ideal.ofBits, Ideal.ieee]

theorem isReal_of_lt {x : EReal} (h : Ideal.cmp .olt (max x (-x)) ⊤ = 1#1) : IsReal x := by
  have h' : max x (-x) < ⊤ := by
    by_contra hn
    simp [Ideal.cmp, hn] at h
  refine EReal.coe_toReal ?_ ?_
  · rintro rfl; simp at h'
  · rintro rfl; simp at h'

section
variable (x0 : FVec Ideal S8192x768 .bf16) (x1 : FVec Ideal S8192x1024 .bf16) (x2 : FVec Ideal S8192x128 .bf16)
  (x3 : FVec Ideal S8192x512 .bf16)

theorem elem {s : Shape} (hb : S_.BroadcastsInDim s (![] : Fin 0 → Fin s.rank)) (x : FVec Ideal s .bf16)
    (h : FTy.bits .bf16 < FTy.bits .f32) (i : s.Idx)
    (e : cmpf .olt (Host.absf (extf (F := Ideal) .f32 x h)) (broadcastInDim s ![] hb (constant (F := Ideal) S_ .f32 0x7F800000#32)) i = 1#1) :
    IsReal (x i : EReal) := by
  refine isReal_of_lt ?_
  rw [← inf_top]
  exact e

/-- All ones: every element of the four arguments is a real number. -/
theorem real4 (h : fn (F := Ideal) x0 x1 x2 x3 = fun _ => 1#1) : Cert.ReferenceIdeal.Plain.Real4 x0 x1 x2 x3 := by
  have h0 := congrFun h (Shape.Idx.first (Facts.h_S_))
  unfold fn fn_part1 at h0
  obtain ⟨h1, e3⟩ := and_one h0
  obtain ⟨h2, e2⟩ := and_one h1
  obtain ⟨e0, e1⟩ := and_one h2
  exact ⟨fun i => elem Facts.bcast_S_S8192x768 x0 Facts.bitsLt_bf16_f32 i (reduce_one _ _ Facts.reducesTo_S8192x768_S_d0_1 Facts.h_S_ _ e0 i),
    fun i => elem Facts.bcast_S_S8192x1024 x1 Facts.bitsLt_bf16_f32 i (reduce_one _ _ Facts.reducesTo_S8192x1024_S_d0_1 Facts.h_S_ _ e1 i),
    fun i => elem Facts.bcast_S_S8192x128 x2 Facts.bitsLt_bf16_f32 i (reduce_one _ _ Facts.reducesTo_S8192x128_S_d0_1 Facts.h_S_ _ e2 i),
    fun i => elem Facts.bcast_S_S8192x512 x3 Facts.bitsLt_bf16_f32 i (reduce_one _ _ Facts.reducesTo_S8192x512_S_d0_1 Facts.h_S_ _ e3 i)⟩

end

end Cert.Pre_finite.Plain

end
-- ==== Proof.Ffn.Swish.lean ====
/-
  The gate of the feed-forward layer on real numbers: the logistic function is real, and its products may be multiplied out.
-/
module

public import proofs.«01_k».proof.Proof.Attn.Finite

@[expose] public section

noncomputable section

namespace Cert.Swish

open Idealize.ShloMosaic
open Cert.Row (IsReal isReal_coe div_real)

/-- A literal one. -/
abbrev one : EReal := Ideal.ofBits .f32 0x3F800000#32

theorem one_eq : one = ((1 : ℝ) : EReal) := Ideal.ofBits_one_f32

/-- The logistic function as the plain program writes it. -/
def sg (x : EReal) : EReal := Ideal.div one (one + Ideal.exp (-x))

/-- The kernel's own logistic function is the same. -/
theorem logistic_eq (x : EReal) : Ideal.logistic x = sg x := by
  unfold sg one
  rw [Ideal.ofBits_one_f32]; rfl

theorem sg_real {x : EReal} (h : IsReal x) : IsReal (sg x) := by
  rw [← h]
  have e : sg ((x.toReal : ℝ) : EReal) = ((1 / (1 + Real.exp (-x.toReal)) : ℝ) : EReal) := by
    unfold sg
    rw [one_eq, ← EReal.coe_neg]
    show Ideal.div ((1 : ℝ) : EReal) (((1 : ℝ) : EReal) + ((Real.exp (-x.toReal) : ℝ) : EReal)) = _
    rw [← EReal.coe_add]
    exact div_real (ne_of_gt (add_pos one_pos (Real.exp_pos _)))
  rw [e]; exact isReal_coe _

/-- The derivative by the gate, as the plain program writes it, of a cotangent `d`. -/
def byGate (d u g : EReal) : EReal := d * u * sg g + g * (d * u) * (sg g * (one - sg g))

/-- A cotangent multiplied into the derivative of the gate's product. -/
theorem byGate_mul {d u g : EReal} (hd : IsReal d) (hu : IsReal u) (hg : IsReal g) :
    d * (one * u * sg g + g * (one * u) * (sg g * (one - sg g))) = byGate d u g := by
  unfold byGate
  have hs := sg_real hg
  generalize sg g = s at hs ⊢
  rw [one_eq]
  rw [← hd, ← hu, ← hg, ← hs]
  norm_cast
  ring

/-- The same derivative with the logistic function taken out. -/
theorem byGate_out {u g : EReal} (hu : IsReal u) (hg : IsReal g) :
    u * (sg g * (one + g * (one - sg g))) = byGate one u g := by
  unfold byGate
  have hs := sg_real hg
  generalize sg g = s at hs ⊢
  rw [one_eq]
  rw [← hu, ← hg, ← hs]
  norm_cast
  ring

theorem one_mul' (x : EReal) : one * x = x := by rw [one_eq]; exact one_mul x
theorem mul_one' (x : EReal) : x * one = x := by rw [one_eq]; exact mul_one x

end Cert.Swish

namespace Cert.Pre

open Idealize.ShloMosaic Cert.Pre_finite
open Cert.Row (IsReal)

/-- An element smaller in absolute value than infinity is real. -/
theorem elem32 {s : Shape} (hb : S_.BroadcastsInDim s (![] : Fin 0 → Fin s.rank)) (x : FVec Ideal s .f32) (i : s.Idx)
    (e : cmpf .olt (Host.absf x) (broadcastInDim s ![] hb (constant (F := Ideal) S_ .f32 0x7F800000#32)) i = 1#1) :
    IsReal (x i : EReal) := by
  refine Cert.Pre_finite.Plain.isReal_of_lt ?_
  rw [← Cert.Pre_finite.Plain.inf_top]
  exact e

end Cert.Pre

end
-- ==== Proof.Ffn.Up.lean ====
/-
  The two up products of the feed-forward layer: each block of the hidden layer is one product by the gate's weights and one by
  the up weights, from which the activation and its two derivatives follow element by element.
-/
module

public import proofs.«01_k».proof.Proof.Ffn.Swish
public import proofs.«01_k».proof.Proof.Gen.UpKernelIdeal.Value
public import proofs.«01_k».proof.Proof.Gen.UpReferenceIdeal.Read
public import Idealize.ShloMosaic.Lib.Pipeline.ValueKit.Acc
public import Idealize.ShloMosaic.Lib.Pipeline.ValueKit.Geometry

@[expose] public section

noncomputable section

namespace Cert.UpKernelIdeal.Prod

open Cert.UpKernelIdeal Cert.UpKernelIdeal.Gen Idealize.ShloMosaic Idealize.ShloMosaic.TcCoe Idealize.ShloMosaic.ValueIdx
open Cert.KernelIdeal.Attn (at2 at2_pos at2_nt ix2_at2)
open Cert.Swish
open scoped BigOperators

theorem idx_facts : ∀ t : Fin cfg0.N,
    (win0_0.index t (0 : Fin 2) = t.val % 16 ∧ win0_0.index t (1 : Fin 2) = 0)
    ∧ (win0_1.index t (0 : Fin 2) = t.val / 16 ∧ win0_1.index t (1 : Fin 2) = 0)
    ∧ (win0_2.index t (0 : Fin 2) = t.val / 16 ∧ win0_2.index t (1 : Fin 2) = 0)
    ∧ (win0_3.index t (0 : Fin 2) = t.val % 16 ∧ win0_3.index t (1 : Fin 2) = t.val / 16)
    ∧ (win0_4.index t (0 : Fin 2) = t.val % 16 ∧ win0_4.index t (1 : Fin 2) = t.val / 16)
    ∧ (win0_5.index t (0 : Fin 2) = t.val % 16 ∧ win0_5.index t (1 : Fin 2) = t.val / 16) :=
  (by decide +kernel : ∀ t : Fin grid0.N, _)

variable (m : (ℓ : Loc nD τ sig) → Buf (Elt Ideal) ℓ) (c : Dev nD)

/-- A product of the rows of the tokens and the rows of a weight. -/
def dotv (x : (⟨2, ![8192, 1024]⟩ : Shape).Idx → EReal) (w : (⟨2, ![2816, 1024]⟩ : Shape).Idx → EReal) (r s : ℕ) : EReal :=
  ∑ k ∈ Finset.range 1024, at2 (a := 8192) (b := 1024) x r k * at2 (a := 2816) (b := 1024) w s k

/-- The three results from the two products. -/
def derGate (g u : EReal) : EReal := u * (sg g * (one + g * (one - sg g)))
def derUp (g u : EReal) : EReal := g * sg g
def act (g u : EReal) : EReal := g * sg g * u

/-- The tokens' block. -/
theorem tok_block (t : Fin cfg0.N) {i j : ℕ} (hi : i < 512) (hj : j < 1024) :
    at2 (a := 512) (b := 1024) (iblk m c 0 t) i j
      = at2 (a := 8192) (b := 1024) (m ((c : Thread nD τ).loc main_arg0)) (512 * (t.val % 16) + i) j := by
  obtain ⟨⟨e0, e1⟩, _⟩ := idx_facts t
  have ht : t.val < 32 := t.isLt
  rw [← V_main_arg0 m c]
  exact Cert.KernelIdeal.Attn.at2_to hi hj _ rfl (by show win0_0.index t (0 : Fin 2) * 512 + 1 * i = 512 * (t.val % 16) + i; omega) (by show win0_0.index t (1 : Fin 2) * 1024 + 1 * j = j; omega)

theorem gate_block (t : Fin cfg0.N) {i j : ℕ} (hi : i < 1408) (hj : j < 1024) :
    at2 (a := 1408) (b := 1024) (iblk m c 1 t) i j
      = at2 (a := 2816) (b := 1024) (m ((c : Thread nD τ).loc main_arg1)) (1408 * (t.val / 16) + i) j := by
  obtain ⟨_, ⟨e0, e1⟩, _⟩ := idx_facts t
  have ht : t.val < 32 := t.isLt
  rw [← V_main_arg1 m c]
  exact Cert.KernelIdeal.Attn.at2_to hi hj _ rfl (by show win0_1.index t (0 : Fin 2) * 1408 + 1 * i = 1408 * (t.val / 16) + i; omega) (by show win0_1.index t (1 : Fin 2) * 1024 + 1 * j = j; omega)

theorem up_block (t : Fin cfg0.N) {i j : ℕ} (hi : i < 1408) (hj : j < 1024) :
    at2 (a := 1408) (b := 1024) (iblk m c 2 t) i j
      = at2 (a := 2816) (b := 1024) (m ((c : Thread nD τ).loc main_arg2)) (1408 * (t.val / 16) + i) j := by
  obtain ⟨_, _, ⟨e0, e1⟩, _⟩ := idx_facts t
  have ht : t.val < 32 := t.isLt
  rw [← V_main_arg2 m c]
  exact Cert.KernelIdeal.Attn.at2_to hi hj _ rfl (by show win0_2.index t (0 : Fin 2) * 1408 + 1 * i = 1408 * (t.val / 16) + i; omega) (by show win0_2.index t (1 : Fin 2) * 1024 + 1 * j = j; omega)

/-- The two products at a point. -/
def G (r s : ℕ) : EReal := dotv (m ((c : Thread nD τ).loc main_arg0)) (m ((c : Thread nD τ).loc main_arg1)) r s
def U (r s : ℕ) : EReal := dotv (m ((c : Thread nD τ).loc main_arg0)) (m ((c : Thread nD τ).loc main_arg2)) r s

theorem gate_apply (t : Fin cfg0.N) {i j : ℕ} (hi : i < 512) (hj : j < 1408) :
    (k0_pay1 (F := Ideal) (iblk m c 0 t) (iblk m c 1 t) : S512x1408.Idx → EReal) (ix2 ⟨i, hi⟩ ⟨j, hj⟩)
      = G m c (512 * (t.val % 16) + i) (1408 * (t.val / 16) + j) := by
  refine (at2_pos (a := 512) (b := 1408) (k0_pay1 (F := Ideal) (iblk m c 0 t) (iblk m c 1 t)) hi hj).symm.trans ?_
  refine (at2_nt (M := 512) (K := 1024) (N := 1408) (iblk m c 0 t) (iblk m c 1 t) hi hj).trans ?_
  unfold G dotv
  refine Finset.sum_congr rfl fun k hk => ?_
  have hk := Finset.mem_range.mp hk
  rw [tok_block m c t hi hk, gate_block m c t hj hk]

theorem up_apply (t : Fin cfg0.N) {i j : ℕ} (hi : i < 512) (hj : j < 1408) :
    (k0_pay2 (F := Ideal) (iblk m c 0 t) (iblk m c 2 t) : S512x1408.Idx → EReal) (ix2 ⟨i, hi⟩ ⟨j, hj⟩)
      = U m c (512 * (t.val % 16) + i) (1408 * (t.val / 16) + j) := by
  refine (at2_pos (a := 512) (b := 1408) (k0_pay2 (F := Ideal) (iblk m c 0 t) (iblk m c 2 t)) hi hj).symm.trans ?_
  refine (at2_nt (M := 512) (K := 1024) (N := 1408) (iblk m c 0 t) (iblk m c 2 t) hi hj).trans ?_
  unfold U dotv
  refine Finset.sum_congr rfl fun k hk => ?_
  have hk := Finset.mem_range.mp hk
  rw [tok_block m c t hi hk, up_block m c t hj hk]

theorem sig_eq (x0 : Vec Ideal S512x1024 .bf16) (x1 : Vec Ideal S1408x1024 .bf16) (i : S512x1408.Idx) :
    (k0_pay3 (F := Ideal) x0 x1 i : EReal) = sg (k0_pay1 (F := Ideal) x0 x1 i) := logistic_eq _

theorem pay4_eq (x0 : Vec Ideal S512x1024 .bf16) (x1 : Vec Ideal S1408x1024 .bf16) (i : S512x1408.Idx) :
    (k0_pay4 (F := Ideal) x0 x1 i : EReal) = k0_pay1 (F := Ideal) x0 x1 i * sg (k0_pay1 (F := Ideal) x0 x1 i) :=
  congrArg ((k0_pay1 (F := Ideal) x0 x1 i : EReal) * ·) (sig_eq x0 x1 i)

theorem pay5_eq (x0 : Vec Ideal S512x1024 .bf16) (x1 x2 : Vec Ideal S1408x1024 .bf16) (i : S512x1408.Idx) :
    (k0_pay5 (F := Ideal) x0 x1 x2 i : EReal) = derGate (k0_pay1 (F := Ideal) x0 x1 i) (k0_pay2 (F := Ideal) x0 x2 i) :=
  congrArg (fun s : EReal => (k0_pay2 (F := Ideal) x0 x2 i : EReal) * (s * (one + (k0_pay1 (F := Ideal) x0 x1 i : EReal) * (one - s)))) (sig_eq x0 x1 i)

theorem pay6_eq (x0 : Vec Ideal S512x1024 .bf16) (x1 x2 : Vec Ideal S1408x1024 .bf16) (i : S512x1408.Idx) :
    (k0_pay6 (F := Ideal) x0 x1 i : EReal) = derUp (k0_pay1 (F := Ideal) x0 x1 i) (k0_pay2 (F := Ideal) x0 x2 i) := pay4_eq x0 x1 i

theorem pay7_eq (x0 : Vec Ideal S512x1024 .bf16) (x1 x2 : Vec Ideal S1408x1024 .bf16) (i : S512x1408.Idx) :
    (k0_pay7 (F := Ideal) x0 x1 x2 i : EReal) = act (k0_pay1 (F := Ideal) x0 x1 i) (k0_pay2 (F := Ideal) x0 x2 i) :=
  congrArg (· * (k0_pay2 (F := Ideal) x0 x2 i : EReal)) (pay4_eq x0 x1 i)

theorem out3 (t : Fin cfg0.N) : out0_3 (F := Ideal) (iblk m c 0 t) (iblk m c 1 t) (iblk m c 2 t)
    = k0_pay5 (F := Ideal) (iblk m c 0 t) (iblk m c 1 t) (iblk m c 2 t) := by
  frame_out

theorem final3 : (dats m 0 c).arrAt 3 cfg0.N = fun i : S8192x2816.Idx => derGate (G m c (i 0).val (i 1).val) (U m c (i 0).val (i 1).val) := by
  refine (dats m 0 c).arrAt_eq_of_covers 3 (fun i : S8192x2816.Idx => derGate (G m c (i 0).val (i 1).val) (U m c (i 0).val (i 1).val)) (by decide +kernel) fun t hf y => ?_
  obtain ⟨_, _, _, ⟨e0, e1⟩, _⟩ := idx_facts t
  have ht : t.val < 32 := t.isLt
  rw [after0_3, out3]
  obtain ⟨i, j, rfl⟩ : ∃ (i : Fin 512) (j : Fin 1408), y = ix2 i j := ⟨y 0, y 1, eq_ix2 (n0 := 512) (n1 := 1408) y⟩
  have hi := i.isLt
  have hj := j.isLt
  refine Eq.trans (b := derGate (G m c (512 * (t.val % 16) + i.val) (1408 * (t.val / 16) + j.val)) (U m c (512 * (t.val % 16) + i.val) (1408 * (t.val / 16) + j.val))) ?_ ?_
  · refine Eq.trans (congrArg (k0_pay5 (F := Ideal) (iblk m c 0 t) (iblk m c 1 t) (iblk m c 2 t)) (show _ = ix2 i j from funext fun d => ?_)) ?_
    · match d with
      | ⟨0, _⟩ => rfl
      | ⟨1, _⟩ => rfl
    refine (pay5_eq (iblk m c 0 t) (iblk m c 1 t) (iblk m c 2 t) _).trans ?_
    rw [gate_apply m c t hi hj, up_apply m c t hi hj]
  · refine congrArg₂ (fun r s => derGate (G m c r s) (U m c r s)) ?_ ?_
    · show 512 * (t.val % 16) + i.val = win0_3.index t (0 : Fin 2) * 512 + 1 * i.val
      omega
    · show 1408 * (t.val / 16) + j.val = win0_3.index t (1 : Fin 2) * 1408 + 1 * j.val
      omega

theorem out4 (t : Fin cfg0.N) : out0_4 (F := Ideal) (iblk m c 0 t) (iblk m c 1 t) (iblk m c 2 t)
    = k0_pay6 (F := Ideal) (iblk m c 0 t) (iblk m c 1 t) := by
  frame_out

theorem final4 : (dats m 0 c).arrAt 4 cfg0.N = fun i : S8192x2816.Idx => derUp (G m c (i 0).val (i 1).val) (U m c (i 0).val (i 1).val) := by
  refine (dats m 0 c).arrAt_eq_of_covers 4 (fun i : S8192x2816.Idx => derUp (G m c (i 0).val (i 1).val) (U m c (i 0).val (i 1).val)) (by decide +kernel) fun t hf y => ?_
  obtain ⟨_, _, _, _, ⟨e0, e1⟩, _⟩ := idx_facts t
  have ht : t.val < 32 := t.isLt
  rw [after0_4, out4]
  obtain ⟨i, j, rfl⟩ : ∃ (i : Fin 512) (j : Fin 1408), y = ix2 i j := ⟨y 0, y 1, eq_ix2 (n0 := 512) (n1 := 1408) y⟩
  have hi := i.isLt
  have hj := j.isLt
  refine Eq.trans (b := derUp (G m c (512 * (t.val % 16) + i.val) (1408 * (t.val / 16) + j.val)) (U m c (512 * (t.val % 16) + i.val) (1408 * (t.val / 16) + j.val))) ?_ ?_
  · refine Eq.trans (congrArg (k0_pay6 (F := Ideal) (iblk m c 0 t) (iblk m c 1 t)) (show _ = ix2 i j from funext fun d => ?_)) ?_
    · match d with
      | ⟨0, _⟩ => rfl
      | ⟨1, _⟩ => rfl
    refine (pay6_eq (iblk m c 0 t) (iblk m c 1 t) (iblk m c 2 t) _).trans ?_
    rw [gate_apply m c t hi hj, up_apply m c t hi hj]
  · refine congrArg₂ (fun r s => derUp (G m c r s) (U m c r s)) ?_ ?_
    · show 512 * (t.val % 16) + i.val = win0_4.index t (0 : Fin 2) * 512 + 1 * i.val
      omega
    · show 1408 * (t.val / 16) + j.val = win0_4.index t (1 : Fin 2) * 1408 + 1 * j.val
      omega

theorem out5 (t : Fin cfg0.N) : out0_5 (F := Ideal) (iblk m c 0 t) (iblk m c 1 t) (iblk m c 2 t)
    = k0_pay7 (F := Ideal) (iblk m c 0 t) (iblk m c 1 t) (iblk m c 2 t) := by
  frame_out

theorem final5 : (dats m 0 c).arrAt 5 cfg0.N = fun i : S8192x2816.Idx => act (G m c (i 0).val (i 1).val) (U m c (i 0).val (i 1).val) := by
  refine (dats m 0 c).arrAt_eq_of_covers 5 (fun i : S8192x2816.Idx => act (G m c (i 0).val (i 1).val) (U m c (i 0).val (i 1).val)) (by decide +kernel) fun t hf y => ?_
  obtain ⟨_, _, _, _, _, ⟨e0, e1⟩⟩ := idx_facts t
  have ht : t.val < 32 := t.isLt
  rw [after0_5, out5]
  obtain ⟨i, j, rfl⟩ : ∃ (i : Fin 512) (j : Fin 1408), y = ix2 i j := ⟨y 0, y 1, eq_ix2 (n0 := 512) (n1 := 1408) y⟩
  have hi := i.isLt
  have hj := j.isLt
  refine Eq.trans (b := act (G m c (512 * (t.val % 16) + i.val) (1408 * (t.val / 16) + j.val)) (U m c (512 * (t.val % 16) + i.val) (1408 * (t.val / 16) + j.val))) ?_ ?_
  · refine Eq.trans (congrArg (k0_pay7 (F := Ideal) (iblk m c 0 t) (iblk m c 1 t) (iblk m c 2 t)) (show _ = ix2 i j from funext fun d => ?_)) ?_
    · match d with
      | ⟨0, _⟩ => rfl
      | ⟨1, _⟩ => rfl
    refine (pay7_eq (iblk m c 0 t) (iblk m c 1 t) (iblk m c 2 t) _).trans ?_
    rw [gate_apply m c t hi hj, up_apply m c t hi hj]
  · refine congrArg₂ (fun r s => act (G m c r s) (U m c r s)) ?_ ?_
    · show 512 * (t.val % 16) + i.val = win0_5.index t (0 : Fin 2) * 512 + 1 * i.val
      omega
    · show 1408 * (t.val / 16) + j.val = win0_5.index t (1 : Fin 2) * 1408 + 1 * j.val
      omega

end Cert.UpKernelIdeal.Prod

namespace Cert.UpReferenceIdeal.Prod

open Cert.UpReferenceIdeal Cert.UpReferenceIdeal.Gen Cert.UpReferenceIdeal.Read Idealize.ShloMosaic Idealize.ShloMosaic.ValueIdx
open Cert.KernelIdeal.Attn (at2 at2_pos ix2_at2 idx_at2)
open Cert.UpKernelIdeal.Prod (dotv derGate derUp act)
open Cert.Row (IsReal)
open Cert.Swish
open scoped BigOperators

variable (x0 : (⟨S8192x1024, .bf16⟩ : BufTy).Contents (Elt Ideal)) (x1 x2 : (⟨S2816x1024, .bf16⟩ : BufTy).Contents (Elt Ideal))

theorem gate_eq (i : S8192x2816.Idx) : val_main_v3 (F := Ideal) x0 x1 i = dotv x0 x1 (i 0).val (i 1).val := by
  rw [val_main_v3_apply]
  unfold dotv
  rw [Finset.sum_range]
  refine Finset.sum_congr rfl fun k _ => ?_
  rw [val_main_v2_apply]
  refine congrArg₂ (· * ·) ?_ ?_
  · exact idx_at2 (a := 8192) (b := 1024) x0 _
  · exact idx_at2 (a := 2816) (b := 1024) x1 _

theorem up_eq (i : S8192x2816.Idx) : val_main_v7 (F := Ideal) x0 x2 i = dotv x0 x2 (i 0).val (i 1).val := gate_eq x0 x2 i

theorem dotv_real (h0 : ∀ i, IsReal (x0 i : EReal)) (h1 : ∀ i, IsReal (x1 i : EReal)) (i : S8192x2816.Idx) :
    IsReal (dotv x0 x1 (i 0).val (i 1).val) := by
  refine IsReal.sum fun k hk => IsReal.mul ?_ ?_
  · rw [at2_pos (a := 8192) (b := 1024) x0 (i 0).isLt hk]; exact h0 _
  · rw [at2_pos (a := 2816) (b := 1024) x1 (i 1).isLt hk]; exact h1 _

theorem plain_gate (h0 : ∀ i, IsReal (x0 i : EReal)) (h1 : ∀ i, IsReal (x1 i : EReal)) (h2 : ∀ i, IsReal (x2 i : EReal)) (i : S8192x2816.Idx) :
    derGate (dotv x0 x1 (i 0).val (i 1).val) (dotv x0 x2 (i 0).val (i 1).val) = val_main_v14 (F := Ideal) x0 x1 x2 i := by
  refine (byGate_out (dotv_real x0 x2 h0 h2 i) (dotv_real x0 x1 h0 h1 i)).trans ?_
  rw [← gate_eq, ← up_eq]
  rfl

theorem plain_up (i : S8192x2816.Idx) :
    derUp (dotv x0 x1 (i 0).val (i 1).val) (dotv x0 x2 (i 0).val (i 1).val) = val_main_v15 (F := Ideal) x0 x1 i := by
  unfold derUp
  rw [← gate_eq, ← mul_one' (_ * _)]
  rfl

theorem plain_act (i : S8192x2816.Idx) :
    act (dotv x0 x1 (i 0).val (i 1).val) (dotv x0 x2 (i 0).val (i 1).val) = val_main_v16 (F := Ideal) x0 x1 x2 i := by
  unfold act
  rw [← gate_eq, ← up_eq]
  rfl

end Cert.UpReferenceIdeal.Prod

end
-- ==== Proof.Ffn.FiniteUp.lean ====
/-
  The precondition of one program, `finite_up`: where it reads all ones, every element of the arguments is a real number.
-/
module

public import proofs.«01_k».proof.Pre_finite_up
public import proofs.«01_k».proof.Proof.Ffn.Swish

@[expose] public section

noncomputable section

namespace Cert.Pre_finite_up.Plain

open Cert.Pre_finite_up Idealize.ShloMosaic
open Cert.Row (IsReal)
open Cert.Pre_finite.Plain (and_one reduce_one elem)
open Cert.Pre (elem32)

instance facts : Cert.Pre_finite_up.Facts where
  bitsLt_bf16_f32 := by decide
  bcast_S_S8192x1024 := by decide
  reducesTo_S8192x1024_S_d0_1 := by decide
  h_S_ := by decide
  bcast_S_S2816x1024 := by decide
  reducesTo_S2816x1024_S_d0_1 := by decide

theorem real (x0 : FVec Ideal S8192x1024 .bf16) (x1 : FVec Ideal S2816x1024 .bf16) (x2 : FVec Ideal S2816x1024 .bf16)
    (h : fn (F := Ideal) x0 x1 x2 = fun _ => 1#1) :
    (∀ i, IsReal (x0 i : EReal))
      ∧ (∀ i, IsReal (x1 i : EReal))
      ∧ (∀ i, IsReal (x2 i : EReal)) := by
  have h0 := congrFun h (Shape.Idx.first (Facts.h_S_))
  unfold fn  at h0
  obtain ⟨h1, e2⟩ := and_one h0
  obtain ⟨e0, e1⟩ := and_one h1
  exact ⟨fun i => elem Facts.bcast_S_S8192x1024 x0 Facts.bitsLt_bf16_f32 i (reduce_one _ _ Facts.reducesTo_S8192x1024_S_d0_1 Facts.h_S_ _ e0 i),
    fun i => elem Facts.bcast_S_S2816x1024 x1 Facts.bitsLt_bf16_f32 i (reduce_one _ _ Facts.reducesTo_S2816x1024_S_d0_1 Facts.h_S_ _ e1 i),
    fun i => elem Facts.bcast_S_S2816x1024 x2 Facts.bitsLt_bf16_f32 i (reduce_one _ _ Facts.reducesTo_S2816x1024_S_d0_1 Facts.h_S_ _ e2 i)⟩

end Cert.Pre_finite_up.Plain

end
-- ==== Proof.Ffn.UpClaims.lean ====
/-
  The claims of the two up products.
-/
module

public import proofs.«01_k».proof.Defs
public import proofs.«01_k».proof.Proof.Gen.UpKernel
public import proofs.«01_k».proof.Proof.Gen.UpKernelIdeal
public import proofs.«01_k».proof.Proof.Gen.UpReferenceIdeal
public import proofs.«01_k».proof.Proof.Gen.UpReferenceIdeal.Run
public import proofs.«01_k».proof.Proof.Ffn.Up
public import proofs.«01_k».proof.Proof.Ffn.FiniteUp
public import Idealize.ShloMosaic.Lib.Quiescent
public import Idealize.ShloMosaic.Adequacy
public import Idealize.ShloMosaic.Init

@[expose] public section

noncomputable section

namespace Cert.UpClaims

open Idealize.ShloMosaic Idealize.SL.Sem
open Idealize.ShloMosaic.TcCoe
open Cert.UpKernelIdeal (cfg0 nD τ sig main_arg0 main_arg1 main_arg2)
open Cert.UpKernelIdeal.Gen Cert.UpKernelIdeal.Value

attribute [local instance] Cert.UpKernel.Gen.facts Cert.UpKernelIdeal.Gen.facts Cert.UpReferenceIdeal.Gen.facts

/-- The plain program has no semaphores; its run leaves its arguments as they were. -/
theorem frame_reference : Cert.quiescent_UpReferenceIdeal := fun m g _ =>
  (θ_run _ _ _).monotone (fun r h => ⟨fun c => (h c).2.2.2, sem_eq_zero_of_no_sems (by decide) r.2⟩) (Cert.UpReferenceIdeal.Value.run m g)

variable (m : (ℓ : Loc nD τ sig) → Buf (Elt Ideal) ℓ) (c : Dev nD)

theorem gate
    (h : Cert.Pre_finite_up.fn (F := Ideal) (m ((c : Thread nD τ).loc main_arg0)) (m ((c : Thread nD τ).loc main_arg1)) (m ((c : Thread nD τ).loc main_arg2)) = fun _ => 1#1) :
    Cert.UpReferenceIdeal.Read.val_main_v14 (F := Ideal) (m ((c : Thread nD τ).loc main_arg0)) (m ((c : Thread nD τ).loc main_arg1)) (m ((c : Thread nD τ).loc main_arg2)) = (dats m 0 c).arrAt 3 cfg0.N := by
  rw [Cert.UpKernelIdeal.Prod.final3]
  obtain ⟨h0, h1, h2⟩ := Cert.Pre_finite_up.Plain.real _ _ _ h
  funext i
  exact (Cert.UpReferenceIdeal.Prod.plain_gate _ _ _ h0 h1 h2 i).symm

theorem up :
    Cert.UpReferenceIdeal.Read.val_main_v15 (F := Ideal) (m ((c : Thread nD τ).loc main_arg0)) (m ((c : Thread nD τ).loc main_arg1)) = (dats m 0 c).arrAt 4 cfg0.N := by
  rw [Cert.UpKernelIdeal.Prod.final4]
  funext i
  exact (Cert.UpReferenceIdeal.Prod.plain_up _ _ (m ((c : Thread nD τ).loc main_arg2)) i).symm

theorem act :
    Cert.UpReferenceIdeal.Read.val_main_v16 (F := Ideal) (m ((c : Thread nD τ).loc main_arg0)) (m ((c : Thread nD τ).loc main_arg1)) (m ((c : Thread nD τ).loc main_arg2)) = (dats m 0 c).arrAt 5 cfg0.N := by
  rw [Cert.UpKernelIdeal.Prod.final5]
  funext i
  exact (Cert.UpReferenceIdeal.Prod.plain_act _ _ _ i).symm

theorem value : Cert.algebraic_UpKernelIdeal_UpReferenceIdeal_pre_finite_up := by
  intro m g m' g' hp ha
  refine ⟨fun c => (dats m 0 c).arrAt 3 cfg0.N, fun c => (dats m 0 c).arrAt 4 cfg0.N, fun c => (dats m 0 c).arrAt 5 cfg0.N, run_blocks m g, ?_⟩
  refine (θ_run _ _ _).monotone (fun r h c => ?_) (Cert.UpReferenceIdeal.Value.run m' g')
  obtain ⟨a0, a1, a2⟩ := ha c
  obtain ⟨h0, h1, h2, h3⟩ := h c
  rw [Cert.UpReferenceIdeal.Read.val_main_v14_eq, a0, a1, a2] at h0
  rw [Cert.UpReferenceIdeal.Read.val_main_v15_eq, a0, a1] at h1
  rw [Cert.UpReferenceIdeal.Read.val_main_v16_eq, a0, a1, a2] at h2
  exact ⟨h0.trans (gate m c (hp c)), h1.trans (up m c), h2.trans (act m c), h3⟩

end Cert.UpClaims

end
-- ==== Proof.Ffn.Down.lean ====
/-
  The gradient through the down projection: each block of the hidden layer is one product of the cotangents and the weights,
  multiplied by what the forward pass saved of the gate.
-/
module

public import proofs.«01_k».proof.Proof.Ffn.Swish
public import proofs.«01_k».proof.Proof.Gen.DownKernelIdeal.Value
public import proofs.«01_k».proof.Proof.Gen.DownReferenceIdeal.Read
public import Idealize.ShloMosaic.Lib.Pipeline.ValueKit.Acc
public import Idealize.ShloMosaic.Lib.Pipeline.ValueKit.Geometry
public import Idealize.ShloMosaic.Lib.StableHlo.RunRead

@[expose] public section

noncomputable section

namespace Cert.DownKernelIdeal.Prod

open Cert.DownKernelIdeal Cert.DownKernelIdeal.Gen Idealize.ShloMosaic Idealize.ShloMosaic.TcCoe Idealize.ShloMosaic.ValueIdx
open Cert.KernelIdeal.Attn (at2 at2_pos at2_nt ix2_at2)
open Cert.Swish
open scoped BigOperators

theorem idx_facts : ∀ t : Fin cfg0.N,
    (win0_0.index t (0 : Fin 2) = t.val % 16 ∧ win0_0.index t (1 : Fin 2) = 0)
    ∧ (win0_1.index t (0 : Fin 2) = t.val / 16 ∧ win0_1.index t (1 : Fin 2) = 0)
    ∧ (win0_2.index t (0 : Fin 2) = t.val % 16 ∧ win0_2.index t (1 : Fin 2) = t.val / 16)
    ∧ (win0_3.index t (0 : Fin 2) = t.val % 16 ∧ win0_3.index t (1 : Fin 2) = t.val / 16)
    ∧ (win0_4.index t (0 : Fin 2) = t.val % 16 ∧ win0_4.index t (1 : Fin 2) = t.val / 16)
    ∧ (win0_5.index t (0 : Fin 2) = t.val % 16 ∧ win0_5.index t (1 : Fin 2) = t.val / 16) :=
  (by decide +kernel : ∀ t : Fin grid0.N, _)

variable (m : (ℓ : Loc nD τ sig) → Buf (Elt Ideal) ℓ) (c : Dev nD)

/-- What is saved of the gate for its own derivative. -/
def saved (g u : EReal) : EReal := one * u * sg g + g * (one * u) * (sg g * (one - sg g))

/-- What is saved of it for the up product. -/
def savedUp (g : EReal) : EReal := g * sg g * one

theorem read_gate : (V m c main_v8 : S8192x2816.Idx → EReal)
    = fun i => saved (m ((c : Thread nD τ).loc main_arg2) i) (m ((c : Thread nD τ).loc main_arg3) i) := by
  unfold V; after_reads_simp; rfl

theorem read_up : (V m c main_v9 : S8192x2816.Idx → EReal)
    = fun i => savedUp (m ((c : Thread nD τ).loc main_arg2) i) := by
  unfold V; after_reads_simp; rfl

/-- The cotangents' block. -/
theorem cot_block (t : Fin cfg0.N) {i j : ℕ} (hi : i < 512) (hj : j < 1024) :
    at2 (a := 512) (b := 1024) (iblk m c 0 t) i j
      = at2 (a := 8192) (b := 1024) (m ((c : Thread nD τ).loc main_arg0)) (512 * (t.val % 16) + i) j := by
  obtain ⟨⟨e0, e1⟩, _⟩ := idx_facts t
  have ht : t.val < 32 := t.isLt
  rw [← V_main_arg0 m c]
  exact Cert.KernelIdeal.Attn.at2_to hi hj _ rfl (by show win0_0.index t (0 : Fin 2) * 512 + 1 * i = 512 * (t.val % 16) + i; omega) (by show win0_0.index t (1 : Fin 2) * 1024 + 1 * j = j; omega)

/-- The weights' block. -/
theorem weight_block (t : Fin cfg0.N) {i j : ℕ} (hi : i < 1408) (hj : j < 1024) :
    at2 (a := 1408) (b := 1024) (iblk m c 1 t) i j
      = at2 (a := 2816) (b := 1024) (m ((c : Thread nD τ).loc main_arg1)) (1408 * (t.val / 16) + i) j := by
  obtain ⟨_, ⟨e0, e1⟩, _⟩ := idx_facts t
  have ht : t.val < 32 := t.isLt
  rw [← V_main_arg1 m c]
  exact Cert.KernelIdeal.Attn.at2_to hi hj _ rfl (by show win0_1.index t (0 : Fin 2) * 1408 + 1 * i = 1408 * (t.val / 16) + i; omega) (by show win0_1.index t (1 : Fin 2) * 1024 + 1 * j = j; omega)

/-- The saved blocks, at the block's own indices. -/
theorem gate_block (t : Fin cfg0.N) {i j : ℕ} (hi : i < 512) (hj : j < 1408) (hi' : 512 * (t.val % 16) + i < 8192) (hj' : 1408 * (t.val / 16) + j < 2816) :
    (iblk m c 2 t : S512x1408.Idx → EReal) (ix2 ⟨i, hi⟩ ⟨j, hj⟩)
      = (V m c main_v8 : S8192x2816.Idx → EReal) (ix2 ⟨512 * (t.val % 16) + i, hi'⟩ ⟨1408 * (t.val / 16) + j, hj'⟩) := by
  obtain ⟨_, _, ⟨e0, e1⟩, _⟩ := idx_facts t
  refine congrArg (V m c main_v8) (funext fun d => Fin.ext ?_)
  match d with
  | ⟨0, _⟩ => show win0_2.index t (0 : Fin 2) * 512 + 1 * i = 512 * (t.val % 16) + i; omega
  | ⟨1, _⟩ => show win0_2.index t (1 : Fin 2) * 1408 + 1 * j = 1408 * (t.val / 16) + j; omega

theorem up_block (t : Fin cfg0.N) {i j : ℕ} (hi : i < 512) (hj : j < 1408) (hi' : 512 * (t.val % 16) + i < 8192) (hj' : 1408 * (t.val / 16) + j < 2816) :
    (iblk m c 3 t : S512x1408.Idx → EReal) (ix2 ⟨i, hi⟩ ⟨j, hj⟩)
      = (V m c main_v9 : S8192x2816.Idx → EReal) (ix2 ⟨512 * (t.val % 16) + i, hi'⟩ ⟨1408 * (t.val / 16) + j, hj'⟩) := by
  obtain ⟨_, _, _, ⟨e0, e1⟩, _⟩ := idx_facts t
  refine congrArg (V m c main_v9) (funext fun d => Fin.ext ?_)
  match d with
  | ⟨0, _⟩ => show win0_3.index t (0 : Fin 2) * 512 + 1 * i = 512 * (t.val % 16) + i; omega
  | ⟨1, _⟩ => show win0_3.index t (1 : Fin 2) * 1408 + 1 * j = 1408 * (t.val / 16) + j; omega

/-- The cotangent of the hidden layer. -/
def hidden (r s : ℕ) : EReal :=
  ∑ k ∈ Finset.range 1024, at2 (a := 8192) (b := 1024) (m ((c : Thread nD τ).loc main_arg0)) r k * at2 (a := 2816) (b := 1024) (m ((c : Thread nD τ).loc main_arg1)) s k

theorem pay_apply (t : Fin cfg0.N) {i j : ℕ} (hi : i < 512) (hj : j < 1408) :
    (k0_pay1 (F := Ideal) (iblk m c 0 t) (iblk m c 1 t) : S512x1408.Idx → EReal) (ix2 ⟨i, hi⟩ ⟨j, hj⟩)
      = hidden m c (512 * (t.val % 16) + i) (1408 * (t.val / 16) + j) := by
  refine (at2_pos (a := 512) (b := 1408) (k0_pay1 (F := Ideal) (iblk m c 0 t) (iblk m c 1 t)) hi hj).symm.trans ?_
  refine (at2_nt (M := 512) (K := 1024) (N := 1408) (iblk m c 0 t) (iblk m c 1 t) hi hj).trans ?_
  refine Finset.sum_congr rfl fun k hk => ?_
  have hk := Finset.mem_range.mp hk
  rw [cot_block m c t hi hk, weight_block m c t hj hk]

theorem pay2_eq (x0 : Vec Ideal S512x1024 .bf16) (x1 : Vec Ideal S1408x1024 .bf16) (x2 : Vec Ideal S512x1408 .bf16) (i : S512x1408.Idx) :
    (k0_pay2 (F := Ideal) x0 x1 x2 i : EReal) = k0_pay1 x0 x1 i * x2 i := by
  have e : shapeCast S512x1408 x2 shapeCasts_S512x1408_S512x1408 = x2 := shapeCast_self _ _
  exact congrArg (fun y : S512x1408.Idx → EReal => (k0_pay1 (F := Ideal) x0 x1 i : EReal) * y i) e

theorem pay3_eq (x0 : Vec Ideal S512x1024 .bf16) (x1 : Vec Ideal S1408x1024 .bf16) (x2 : Vec Ideal S512x1408 .bf16) (i : S512x1408.Idx) :
    (k0_pay3 (F := Ideal) x0 x1 x2 i : EReal) = k0_pay1 x0 x1 i * x2 i := pay2_eq x0 x1 x2 i

/-- The two results. -/
def dGate (i : S8192x2816.Idx) : EReal :=
  hidden m c (i 0).val (i 1).val * saved (m ((c : Thread nD τ).loc main_arg2) i) (m ((c : Thread nD τ).loc main_arg3) i)

def dUp (i : S8192x2816.Idx) : EReal :=
  hidden m c (i 0).val (i 1).val * savedUp (m ((c : Thread nD τ).loc main_arg2) i)

theorem out4 (t : Fin cfg0.N) : out0_4 (F := Ideal) (iblk m c 0 t) (iblk m c 1 t) (iblk m c 2 t) (iblk m c 3 t)
    = k0_pay2 (F := Ideal) (iblk m c 0 t) (iblk m c 1 t) (iblk m c 2 t) := by
  frame_out

theorem out5 (t : Fin cfg0.N) : out0_5 (F := Ideal) (iblk m c 0 t) (iblk m c 1 t) (iblk m c 2 t) (iblk m c 3 t)
    = k0_pay3 (F := Ideal) (iblk m c 0 t) (iblk m c 1 t) (iblk m c 3 t) := by
  frame_out

theorem final4 : (dats m 0 c).arrAt 4 cfg0.N = dGate m c := by
  refine (dats m 0 c).arrAt_eq_of_covers 4 (dGate m c) (by decide +kernel) fun t hf y => ?_
  obtain ⟨_, _, _, _, ⟨e0, e1⟩, _⟩ := idx_facts t
  have ht : t.val < 32 := t.isLt
  rw [after0_4, out4]
  obtain ⟨i, j, rfl⟩ : ∃ (i : Fin 512) (j : Fin 1408), y = ix2 i j := ⟨y 0, y 1, eq_ix2 (n0 := 512) (n1 := 1408) y⟩
  have hi := i.isLt
  have hj := j.isLt
  have hi' : 512 * (t.val % 16) + i.val < 8192 := by omega
  have hj' : 1408 * (t.val / 16) + j.val < 2816 := by omega
  refine Eq.trans (b := dGate m c (ix2 ⟨512 * (t.val % 16) + i.val, hi'⟩ ⟨1408 * (t.val / 16) + j.val, hj'⟩)) ?_ ?_
  · refine Eq.trans (congrArg (k0_pay2 (F := Ideal) (iblk m c 0 t) (iblk m c 1 t) (iblk m c 2 t)) (show _ = ix2 i j from funext fun d => ?_)) ?_
    · match d with
      | ⟨0, _⟩ => rfl
      | ⟨1, _⟩ => rfl
    refine (pay2_eq _ _ _ _).trans ?_
    rw [pay_apply m c t hi hj, gate_block m c t hi hj hi' hj', read_gate]
    rfl
  · refine congrArg (dGate m c) (funext fun d => Fin.ext ?_)
    match d with
    | ⟨0, _⟩ => show 512 * (t.val % 16) + i.val = win0_4.index t (0 : Fin 2) * 512 + 1 * i.val; omega
    | ⟨1, _⟩ => show 1408 * (t.val / 16) + j.val = win0_4.index t (1 : Fin 2) * 1408 + 1 * j.val; omega

theorem final5 : (dats m 0 c).arrAt 5 cfg0.N = dUp m c := by
  refine (dats m 0 c).arrAt_eq_of_covers 5 (dUp m c) (by decide +kernel) fun t hf y => ?_
  obtain ⟨_, _, _, _, _, ⟨e0, e1⟩⟩ := idx_facts t
  have ht : t.val < 32 := t.isLt
  rw [after0_5, out5]
  obtain ⟨i, j, rfl⟩ : ∃ (i : Fin 512) (j : Fin 1408), y = ix2 i j := ⟨y 0, y 1, eq_ix2 (n0 := 512) (n1 := 1408) y⟩
  have hi := i.isLt
  have hj := j.isLt
  have hi' : 512 * (t.val % 16) + i.val < 8192 := by omega
  have hj' : 1408 * (t.val / 16) + j.val < 2816 := by omega
  refine Eq.trans (b := dUp m c (ix2 ⟨512 * (t.val % 16) + i.val, hi'⟩ ⟨1408 * (t.val / 16) + j.val, hj'⟩)) ?_ ?_
  · refine Eq.trans (congrArg (k0_pay3 (F := Ideal) (iblk m c 0 t) (iblk m c 1 t) (iblk m c 3 t)) (show _ = ix2 i j from funext fun d => ?_)) ?_
    · match d with
      | ⟨0, _⟩ => rfl
      | ⟨1, _⟩ => rfl
    refine (pay3_eq _ _ _ _).trans ?_
    rw [pay_apply m c t hi hj, up_block m c t hi hj hi' hj', read_up]
    rfl
  · refine congrArg (dUp m c) (funext fun d => Fin.ext ?_)
    match d with
    | ⟨0, _⟩ => show 512 * (t.val % 16) + i.val = win0_5.index t (0 : Fin 2) * 512 + 1 * i.val; omega
    | ⟨1, _⟩ => show 1408 * (t.val / 16) + j.val = win0_5.index t (1 : Fin 2) * 1408 + 1 * j.val; omega

end Cert.DownKernelIdeal.Prod

namespace Cert.DownReferenceIdeal.Prod

open Cert.DownReferenceIdeal Cert.DownReferenceIdeal.Gen Cert.DownReferenceIdeal.Read Idealize.ShloMosaic Idealize.ShloMosaic.ValueIdx
open Cert.KernelIdeal.Attn (at2 at2_pos ix2_at2 idx_at2)
open Cert.Row (IsReal)
open Cert.Swish
open scoped BigOperators

variable (x0 : (⟨S8192x1024, .bf16⟩ : BufTy).Contents (Elt Ideal)) (x1 : (⟨S2816x1024, .bf16⟩ : BufTy).Contents (Elt Ideal))
  (x2 x3 : (⟨S8192x2816, .bf16⟩ : BufTy).Contents (Elt Ideal))

/-- The cotangent of the hidden layer. -/
def hidden (r s : ℕ) : EReal := ∑ k ∈ Finset.range 1024, at2 (a := 8192) (b := 1024) x0 r k * at2 (a := 2816) (b := 1024) x1 s k

theorem hidden_eq (i : S8192x2816.Idx) : val_main_v7 (F := Ideal) x0 x1 i = hidden x0 x1 (i 0).val (i 1).val := by
  rw [val_main_v7_apply]
  unfold hidden
  rw [Finset.sum_range]
  refine Finset.sum_congr rfl fun k _ => ?_
  refine congrArg₂ (· * ·) ?_ ?_
  · exact idx_at2 (a := 8192) (b := 1024) x0 _
  · exact idx_at2 (a := 2816) (b := 1024) x1 _

theorem hidden_real (h0 : ∀ i, IsReal (x0 i : EReal)) (h1 : ∀ i, IsReal (x1 i : EReal)) (i : S8192x2816.Idx) :
    IsReal (hidden x0 x1 (i 0).val (i 1).val) := by
  refine IsReal.sum fun k hk => IsReal.mul ?_ ?_
  · rw [at2_pos (a := 8192) (b := 1024) x0 (i 0).isLt hk]; exact h0 _
  · rw [at2_pos (a := 2816) (b := 1024) x1 (i 1).isLt hk]; exact h1 _

theorem plain_gate (h0 : ∀ i, IsReal (x0 i : EReal)) (h1 : ∀ i, IsReal (x1 i : EReal)) (h2 : ∀ i, IsReal (x2 i : EReal))
    (h3 : ∀ i, IsReal (x3 i : EReal)) (i : S8192x2816.Idx) :
    hidden x0 x1 (i 0).val (i 1).val * Cert.DownKernelIdeal.Prod.saved (x2 i) (x3 i) = val_main_v11 (F := Ideal) x0 x1 x2 x3 i := by
  refine (byGate_mul (hidden_real x0 x1 h0 h1 i) (h3 i) (h2 i)).trans ?_
  rw [← hidden_eq]
  rfl

theorem plain_up (i : S8192x2816.Idx) :
    hidden x0 x1 (i 0).val (i 1).val * Cert.DownKernelIdeal.Prod.savedUp (x2 i) = val_main_v12 (F := Ideal) x0 x1 x2 i := by
  unfold Cert.DownKernelIdeal.Prod.savedUp
  rw [mul_one', mul_comm, ← hidden_eq]
  rfl

end Cert.DownReferenceIdeal.Prod

end
-- ==== Proof.Ffn.FiniteDown.lean ====
/-
  The precondition of one program, `finite_down`: where it reads all ones, every element of the arguments is a real number.
-/
module

public import proofs.«01_k».proof.Pre_finite_down
public import proofs.«01_k».proof.Proof.Ffn.Swish

@[expose] public section

noncomputable section

namespace Cert.Pre_finite_down.Plain

open Cert.Pre_finite_down Idealize.ShloMosaic
open Cert.Row (IsReal)
open Cert.Pre_finite.Plain (and_one reduce_one elem)
open Cert.Pre (elem32)

instance facts : Cert.Pre_finite_down.Facts where
  bitsLt_bf16_f32 := by decide
  bcast_S_S8192x1024 := by decide
  reducesTo_S8192x1024_S_d0_1 := by decide
  h_S_ := by decide
  bcast_S_S2816x1024 := by decide
  reducesTo_S2816x1024_S_d0_1 := by decide
  bcast_S_S8192x2816 := by decide
  reducesTo_S8192x2816_S_d0_1 := by decide

theorem real (x0 : FVec Ideal S8192x1024 .bf16) (x1 : FVec Ideal S2816x1024 .bf16) (x2 : FVec Ideal S8192x2816 .bf16) (x3 : FVec Ideal S8192x2816 .bf16)
    (h : fn (F := Ideal) x0 x1 x2 x3 = fun _ => 1#1) :
    (∀ i, IsReal (x0 i : EReal))
      ∧ (∀ i, IsReal (x1 i : EReal))
      ∧ (∀ i, IsReal (x2 i : EReal))
      ∧ (∀ i, IsReal (x3 i : EReal)) := by
  have h0 := congrFun h (Shape.Idx.first (Facts.h_S_))
  unfold fn fn_part1 at h0
  obtain ⟨h1, e3⟩ := and_one h0
  obtain ⟨h2, e2⟩ := and_one h1
  obtain ⟨e0, e1⟩ := and_one h2
  exact ⟨fun i => elem Facts.bcast_S_S8192x1024 x0 Facts.bitsLt_bf16_f32 i (reduce_one _ _ Facts.reducesTo_S8192x1024_S_d0_1 Facts.h_S_ _ e0 i),
    fun i => elem Facts.bcast_S_S2816x1024 x1 Facts.bitsLt_bf16_f32 i (reduce_one _ _ Facts.reducesTo_S2816x1024_S_d0_1 Facts.h_S_ _ e1 i),
    fun i => elem Facts.bcast_S_S8192x2816 x2 Facts.bitsLt_bf16_f32 i (reduce_one _ _ Facts.reducesTo_S8192x2816_S_d0_1 Facts.h_S_ _ e2 i),
    fun i => elem Facts.bcast_S_S8192x2816 x3 Facts.bitsLt_bf16_f32 i (reduce_one _ _ Facts.reducesTo_S8192x2816_S_d0_1 Facts.h_S_ _ e3 i)⟩

end Cert.Pre_finite_down.Plain

end
-- ==== Proof.Ffn.DownClaims.lean ====
/-
  The claims of the gradient through the down projection.
-/
module

public import proofs.«01_k».proof.Defs
public import proofs.«01_k».proof.Proof.Gen.DownKernel
public import proofs.«01_k».proof.Proof.Gen.DownKernelIdeal
public import proofs.«01_k».proof.Proof.Gen.DownReferenceIdeal
public import proofs.«01_k».proof.Proof.Gen.DownReferenceIdeal.Run
public import proofs.«01_k».proof.Proof.Ffn.Down
public import proofs.«01_k».proof.Proof.Ffn.FiniteDown
public import Idealize.ShloMosaic.Lib.Quiescent
public import Idealize.ShloMosaic.Adequacy
public import Idealize.ShloMosaic.Init

@[expose] public section

noncomputable section

namespace Cert.DownClaims

open Idealize.ShloMosaic Idealize.SL.Sem
open Idealize.ShloMosaic.TcCoe
open Cert.DownKernelIdeal (cfg0 nD τ sig main_arg0 main_arg1 main_arg2 main_arg3)
open Cert.DownKernelIdeal.Gen Cert.DownKernelIdeal.Value

attribute [local instance] Cert.DownKernel.Gen.facts Cert.DownKernelIdeal.Gen.facts Cert.DownReferenceIdeal.Gen.facts

/-- The plain program has no semaphores; its run leaves its arguments as they were. -/
theorem frame_reference : Cert.quiescent_DownReferenceIdeal := fun m g _ =>
  (θ_run _ _ _).monotone (fun r h => ⟨fun c => (h c).2.2, sem_eq_zero_of_no_sems (by decide) r.2⟩) (Cert.DownReferenceIdeal.Value.run m g)

variable (m : (ℓ : Loc nD τ sig) → Buf (Elt Ideal) ℓ) (c : Dev nD)

theorem gate
    (h : Cert.Pre_finite_down.fn (F := Ideal) (m ((c : Thread nD τ).loc main_arg0)) (m ((c : Thread nD τ).loc main_arg1)) (m ((c : Thread nD τ).loc main_arg2)) (m ((c : Thread nD τ).loc main_arg3)) = fun _ => 1#1) :
    Cert.DownReferenceIdeal.Read.val_main_v11 (F := Ideal) (m ((c : Thread nD τ).loc main_arg0)) (m ((c : Thread nD τ).loc main_arg1)) (m ((c : Thread nD τ).loc main_arg2)) (m ((c : Thread nD τ).loc main_arg3)) = (dats m 0 c).arrAt 4 cfg0.N := by
  rw [Cert.DownKernelIdeal.Prod.final4]
  obtain ⟨h0, h1, h2, h3⟩ := Cert.Pre_finite_down.Plain.real _ _ _ _ h
  funext i
  exact (Cert.DownReferenceIdeal.Prod.plain_gate _ _ _ _ h0 h1 h2 h3 i).symm

theorem up :
    Cert.DownReferenceIdeal.Read.val_main_v12 (F := Ideal) (m ((c : Thread nD τ).loc main_arg0)) (m ((c : Thread nD τ).loc main_arg1)) (m ((c : Thread nD τ).loc main_arg2)) = (dats m 0 c).arrAt 5 cfg0.N := by
  rw [Cert.DownKernelIdeal.Prod.final5]
  funext i
  exact (Cert.DownReferenceIdeal.Prod.plain_up _ _ _ i).symm

theorem value : Cert.algebraic_DownKernelIdeal_DownReferenceIdeal_pre_finite_down := by
  intro m g m' g' hp ha
  refine ⟨fun c => (dats m 0 c).arrAt 4 cfg0.N, fun c => (dats m 0 c).arrAt 5 cfg0.N, run_blocks m g, ?_⟩
  refine (θ_run _ _ _).monotone (fun r h c => ?_) (Cert.DownReferenceIdeal.Value.run m' g')
  obtain ⟨a0, a1, a2, a3⟩ := ha c
  obtain ⟨h0, h1, h2⟩ := h c
  rw [Cert.DownReferenceIdeal.Read.val_main_v11_eq, a0, a1, a2, a3] at h0
  rw [Cert.DownReferenceIdeal.Read.val_main_v12_eq, a0, a1, a2] at h1
  exact ⟨h0.trans (gate m c (hp c)), h1.trans (up m c), h2⟩

end Cert.DownClaims

end
-- ==== Proof.Ffn.Weight.lean ====
/-
  The gradient of the down projection: the grid's inner axis walks four spans of 2048 tokens and adds their products to an
  accumulator, so that the last of a run leaves the sum over all 8192 tokens.
-/
module

public import proofs.«01_k».proof.Proof.Attn.Read
public import proofs.«01_k».proof.Proof.Gen.WeightKernelIdeal.Value
public import proofs.«01_k».proof.Proof.Gen.WeightReferenceIdeal.Read
public import Idealize.ShloMosaic.Lib.Pipeline.ValueKit.Acc
public import Idealize.ShloMosaic.Lib.Pipeline.ValueKit.Geometry

@[expose] public section

noncomputable section

namespace Cert.WeightKernelIdeal.Sum

open Cert.WeightKernelIdeal Cert.WeightKernelIdeal.Gen Idealize.ShloMosaic Idealize.ShloMosaic.TcCoe Idealize.ShloMosaic.ValueIdx
open Cert.KernelIdeal.Attn (at2 at2_pos at2_tn ix2_at2)
open scoped BigOperators

theorem idx_facts : ∀ t : Fin cfg0.N,
    (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, _)

theorem flush_last : ∀ t : Fin cfg0.N, (cfg0.win 2).flush t = true → t.val % 4 = 3 := (by decide +kernel : ∀ t : Fin grid0.N, _)

variable (m : (ℓ : Loc nD τ sig) → Buf (Elt Ideal) ℓ) (c : Dev nD)

/-- The two arguments at two naturals. -/
abbrev cots : ℕ → ℕ → EReal := at2 (a := 8192) (b := 2816) (m ((c : Thread nD τ).loc main_arg0))
abbrev rows : ℕ → ℕ → EReal := at2 (a := 8192) (b := 1024) (m ((c : Thread nD τ).loc main_arg1))

/-- The activations' block. -/
theorem act_block (t : Fin cfg0.N) {i j : ℕ} (hi : i < 2048) (hj : j < 1408) :
    at2 (a := 2048) (b := 1408) (iblk m c 0 t) i j
      = cots m c (2048 * (t.val % 4) + i) (1408 * (t.val / 4) + j) := by
  obtain ⟨⟨e0, e1⟩, _⟩ := idx_facts t
  have ht : t.val < 8 := t.isLt
  rw [cots, ← V_main_arg0 m c]
  exact Cert.KernelIdeal.Attn.at2_to hi hj _ rfl (by show win0_0.index t (0 : Fin 2) * 2048 + 1 * i = 2048 * (t.val % 4) + i; omega) (by show win0_0.index t (1 : Fin 2) * 1408 + 1 * j = 1408 * (t.val / 4) + j; omega)

/-- The cotangents' block. -/
theorem cot_block (t : Fin cfg0.N) {i j : ℕ} (hi : i < 2048) (hj : j < 1024) :
    at2 (a := 2048) (b := 1024) (iblk m c 1 t) i j
      = rows m c (2048 * (t.val % 4) + i) j := by
  obtain ⟨_, ⟨e0, e1⟩, _⟩ := idx_facts t
  have ht : t.val < 8 := t.isLt
  rw [rows, ← V_main_arg1 m c]
  exact Cert.KernelIdeal.Attn.at2_to hi hj _ rfl (by show win0_1.index t (0 : Fin 2) * 2048 + 1 * i = 2048 * (t.val % 4) + i; omega) (by show win0_1.index t (1 : Fin 2) * 1024 + 1 * j = j; omega)

/-- One span's product. -/
theorem pay_apply (x0 : Vec Ideal S2048x1408 .bf16) (x1 : Vec Ideal S2048x1024 .bf16) {i j : ℕ} (hi : i < 1408) (hj : j < 1024) :
    at2 (a := 1408) (b := 1024) (k0_pay1 (F := Ideal) x0 x1) i j
      = ∑ k ∈ Finset.range 2048, at2 (a := 2048) (b := 1408) x0 k i * at2 (a := 2048) (b := 1024) x1 k j :=
  at2_tn (M := 1408) (K := 2048) (N := 1024) x0 x1 hi hj

theorem pay3_apply (x0 : Vec Ideal S2048x1408 .bf16) (x1 : Vec Ideal S2048x1024 .bf16) (acc : Vec Ideal S1408x1024 .f32) {i j : ℕ}
    (hi : i < 1408) (hj : j < 1024) :
    at2 (a := 1408) (b := 1024) (k0_pay3 (F := Ideal) x0 x1 acc) i j
      = at2 (a := 1408) (b := 1024) acc i j + at2 (a := 1408) (b := 1024) (k0_pay1 (F := Ideal) x0 x1) i j := by
  have e : k0_pay3 (F := Ideal) x0 x1 acc = addf acc (k0_pay1 x0 x1) := shapeCast_self _ _
  rw [e, at2_pos _ hi hj, at2_pos _ hi hj, at2_pos _ hi hj]
  rfl

/-- What the accumulator gains at one point. -/
theorem gain (t : Fin cfg0.N) {i j : ℕ} (hi : i < 1408) (hj : j < 1024) :
    at2 (a := 1408) (b := 1024) (k0_pay1 (F := Ideal) (iblk m c 0 t) (iblk m c 1 t)) i j
      = ∑ k ∈ Finset.range 2048, cots m c (2048 * (t.val % 4) + k) (1408 * (t.val / 4) + i)
          * rows m c (2048 * (t.val % 4) + k) j := by
  rw [pay_apply _ _ hi hj]
  refine Finset.sum_congr rfl fun k hk => ?_
  have hk := Finset.mem_range.mp hk
  rw [act_block m c t hk hi, cot_block m c t hk hj]

/-- The accumulator after a point: the sum over the spans so far. -/
theorem accumulated (a : ℕ) (ha : a < 2) {i j : ℕ} (hi : i < 1408) (hj : j < 1024) : ∀ (p : ℕ) (hp : p < 4) (h : 4 * a + p < cfg0.N),
    at2 (a := 1408) (b := 1024) (outsAt0 m c (4 * a + p) h).2 i j
      = ∑ k ∈ Finset.range (2048 * (p + 1)), cots m c k (1408 * a + i)
          * rows m c k j
  | 0, hp, h => by
    have e : (outsAt0 m c (4 * a + 0) h).2 = k0_pay1 (F := Ideal) (iblk m c 0 ⟨4 * a + 0, h⟩) (iblk m c 1 ⟨4 * a + 0, h⟩) := by
      rw [outsAt0_A m c ⟨4 * a + 0, h⟩ (by show (4 * a + 0) % 4 = 0; omega) (by show ¬1 ≤ (4 * a + 0) % 4; omega) (by show ¬(4 * a + 0) % 4 = 3; omega)]
      frame_out
      exact shapeCast_self _ _
    rw [e, gain m c _ hi hj]
    refine Finset.sum_congr rfl fun k _ => ?_
    rw [show 2048 * ((4 * a + 0) % 4) + k = k by omega, show (4 * a + 0) / 4 = a by omega]
  | p + 1, hp, h => by
    have h' : 4 * a + p < cfg0.N := by omega
    have e : (outsAt0 m c (4 * a + (p + 1)) h).2
        = k0_pay3 (F := Ideal) (iblk m c 0 ⟨4 * a + (p + 1), h⟩) (iblk m c 1 ⟨4 * a + (p + 1), h⟩) (outsAt0 m c (4 * a + p) h').2 := by
      by_cases hl : p = 2
      · rw [outsAt0_C m c ⟨4 * a + (p + 1), h⟩ (by show ¬(4 * a + (p + 1)) % 4 = 0; omega) (by show 1 ≤ (4 * a + (p + 1)) % 4; omega) (by show (4 * a + (p + 1)) % 4 = 3; omega)]
        frame_out
        exact congrArg (k0_pay3 _ _) ((Memref.isWhole_whole cc0_scratch0).read_unread _)
      · rw [outsAt0_B m c ⟨4 * a + (p + 1), h⟩ (by show ¬(4 * a + (p + 1)) % 4 = 0; omega) (by show 1 ≤ (4 * a + (p + 1)) % 4; omega) (by show ¬(4 * a + (p + 1)) % 4 = 3; omega)]
        frame_out
        exact congrArg (k0_pay3 _ _) ((Memref.isWhole_whole cc0_scratch0).read_unread _)
    rw [e, pay3_apply _ _ _ hi hj, accumulated a ha hi hj p (by omega) h', gain m c _ hi hj,
      show 2048 * (p + 1 + 1) = 2048 * (p + 1) + 2048 by omega, Finset.sum_range_add]
    refine congrArg (_ + ·) (Finset.sum_congr rfl fun k _ => ?_)
    rw [show (4 * a + (p + 1)) % 4 = p + 1 by omega, show (4 * a + (p + 1)) / 4 = a by omega]

/-- What the last point of a run writes back. -/
theorem written (a : ℕ) (ha : a < 2) (h : 4 * a + 3 < cfg0.N) :
    ((outsAt0 m c (4 * a + 3) h).1 : S1408x1024.Idx → EReal) = (outsAt0 m c (4 * a + 3) h).2 := by
  rw [outsAt0_C m c ⟨4 * a + 3, h⟩ (by show ¬(4 * a + 3) % 4 = 0; omega) (by show 1 ≤ (4 * a + 3) % 4; omega) (by show (4 * a + 3) % 4 = 3; omega)]
  frame_out
  rfl

/-- The product of the transposed activations and the cotangents. -/
def grad (r s : ℕ) : EReal :=
  ∑ k ∈ Finset.range 8192, cots m c k r * rows m c k s

theorem final : (dats m 0 c).arrAt 2 cfg0.N = fun i : S2816x1024.Idx => grad m c (i 0).val (i 1).val := by
  refine (dats m 0 c).arrAt_eq_of_covers 2 (fun i : S2816x1024.Idx => grad m c (i 0).val (i 1).val) (by decide +kernel) fun t hf y => ?_
  obtain ⟨_, _, e0, e1⟩ := idx_facts t
  have hl := flush_last t hf
  have ht : t.val < 8 := t.isLt
  obtain ⟨a, hta⟩ : ∃ a, t.val = 4 * a + 3 := ⟨t.val / 4, by omega⟩
  have hb : 4 * a + 3 < cfg0.N := hta ▸ t.isLt
  obtain rfl : t = ⟨4 * a + 3, hb⟩ := Fin.ext hta
  rw [after0_2]
  have hy0 : (y 0).val < 1408 := (y 0).isLt
  have hy1 : (y 1).val < 1024 := (y 1).isLt
  have h := accumulated m c a (by omega) hy0 hy1 3 (by omega) hb
  rw [← written m c a (by omega) hb, at2_pos _ hy0 hy1] at h
  refine Eq.trans (Eq.trans ?_ h) ?_
  · refine congrArg (outsAt0 m c (4 * a + 3) hb).1 (funext fun d => ?_)
    match d with
    | ⟨0, _⟩ => rfl
    | ⟨1, _⟩ => rfl
  · have e0 : win0_2.index ⟨4 * a + 3, hb⟩ (0 : Fin 2) = (4 * a + 3) / 4 := e0
    refine congrArg₂ (grad m c) ?_ ?_
    · show _ = win0_2.index ⟨4 * a + 3, hb⟩ (0 : Fin 2) * 1408 + 1 * (y 0).val
      omega
    · show _ = win0_2.index ⟨4 * a + 3, hb⟩ (1 : Fin 2) * 1024 + 1 * (y 1).val
      omega

end Cert.WeightKernelIdeal.Sum

namespace Cert.WeightReferenceIdeal.Sum

open Cert.WeightReferenceIdeal Cert.WeightReferenceIdeal.Gen Cert.WeightReferenceIdeal.Read Idealize.ShloMosaic Idealize.ShloMosaic.ValueIdx
open Cert.KernelIdeal.Attn (at2 at2_pos ix2_at2 idx_at2)
open scoped BigOperators

/-- The plain program's result is the same sum. -/
theorem plain (x0 : (⟨S8192x2816, .bf16⟩ : BufTy).Contents (Elt Ideal)) (x1 : (⟨S8192x1024, .bf16⟩ : BufTy).Contents (Elt Ideal)) (i : S2816x1024.Idx) :
    val_main_v6 (F := Ideal) x0 x1 i
      = ∑ k ∈ Finset.range 8192, at2 (a := 8192) (b := 2816) x0 k (i 0).val * at2 (a := 8192) (b := 1024) x1 k (i 1).val := by
  rw [val_main_v6_apply]
  refine Eq.trans (val_main_v5_apply (F := Ideal) x0 x1 i) ?_
  rw [val_main_v4_apply, Finset.sum_range]
  refine Finset.sum_congr rfl fun k _ => ?_
  rw [mul_comm]
  refine congrArg₂ (· * ·) ?_ ?_
  · exact idx_at2 (a := 8192) (b := 2816) x0 _
  · exact idx_at2 (a := 8192) (b := 1024) x1 _

end Cert.WeightReferenceIdeal.Sum

end
-- ==== Proof.Ffn.WeightClaims.lean ====
/-
  The claims of the product for the gradient of the down projection.
-/
module

public import proofs.«01_k».proof.Defs
public import proofs.«01_k».proof.Proof.Gen.WeightKernel
public import proofs.«01_k».proof.Proof.Gen.WeightKernelIdeal
public import proofs.«01_k».proof.Proof.Gen.WeightReferenceIdeal
public import proofs.«01_k».proof.Proof.Gen.WeightReferenceIdeal.Run
public import proofs.«01_k».proof.Proof.Ffn.Weight
public import Idealize.ShloMosaic.Lib.Quiescent
public import Idealize.ShloMosaic.Adequacy
public import Idealize.ShloMosaic.Init

@[expose] public section

noncomputable section

namespace Cert.WeightClaims

open Idealize.ShloMosaic Idealize.SL.Sem
open Idealize.ShloMosaic.TcCoe
open Cert.WeightKernelIdeal (cfg0 nD τ sig main_arg0 main_arg1)
open Cert.WeightKernelIdeal.Gen Cert.WeightKernelIdeal.Value

attribute [local instance] Cert.WeightKernel.Gen.facts Cert.WeightKernelIdeal.Gen.facts Cert.WeightReferenceIdeal.Gen.facts

/-- The plain program has no semaphores; its run leaves its arguments as they were. -/
theorem frame_reference : Cert.quiescent_WeightReferenceIdeal := fun m g _ =>
  (θ_run _ _ _).monotone (fun r h => ⟨fun c => (h c).2, sem_eq_zero_of_no_sems (by decide) r.2⟩) (Cert.WeightReferenceIdeal.Value.run m g)

variable (m : (ℓ : Loc nD τ sig) → Buf (Elt Ideal) ℓ) (c : Dev nD)

theorem sum :
    Cert.WeightReferenceIdeal.Read.val_main_v6 (F := Ideal) (m ((c : Thread nD τ).loc main_arg0)) (m ((c : Thread nD τ).loc main_arg1)) = (dats m 0 c).arrAt 2 cfg0.N := by
  rw [Cert.WeightKernelIdeal.Sum.final]
  funext i
  exact Cert.WeightReferenceIdeal.Sum.plain _ _ i

theorem value : Cert.algebraic_WeightKernelIdeal_WeightReferenceIdeal := by
  intro m g m' g' _ ha
  refine ⟨fun c => (dats m 0 c).arrAt 2 cfg0.N, run_blocks m g, ?_⟩
  refine (θ_run _ _ _).monotone (fun r h c => ?_) (Cert.WeightReferenceIdeal.Value.run m' g')
  obtain ⟨a0, a1⟩ := ha c
  obtain ⟨h0, h1⟩ := h c
  rw [Cert.WeightReferenceIdeal.Read.val_main_v6_eq, a0, a1] at h0
  exact ⟨h0.trans (sum m c), h1⟩

end Cert.WeightClaims

end
-- ==== Proof.Ffn.NormRow.lean ====
/-
  One row of the gradient through a root-mean-square norm: the kernel subtracts the row's mean product from the
  cotangent before it scales, the plain program adds the derivative of the scale twice over.
-/
module

public import proofs.«01_k».proof.Proof.Ffn.Swish

@[expose] public section

noncomputable section

namespace Cert.NormRow

open Idealize.ShloMosaic
open Cert.Row (IsReal isReal_coe div_real coe_sum)
open scoped BigOperators

/-- The literals: the row's length, the small number under the root, and minus a half. -/
abbrev len : EReal := Ideal.ofBits .f32 0x44800000#32
abbrev eps : EReal := Ideal.ofBits .f32 0x358637BD#32
abbrev half : EReal := Ideal.ofBits .f32 0xBF000000#32

theorem len_eq : len = ((1024 : ℝ) : EReal) := by
  simp [len, Ideal.ofBits, Ideal.ieee]
  rw [← EReal.coe_mul]
  norm_num
theorem half_eq : half = ((-(1 / 2) : ℝ) : EReal) := by
  simp [half, Ideal.ofBits, Ideal.ieee]
  rw [← EReal.coe_mul]
  norm_num

theorem eps_pos : ∃ e : ℝ, 0 < e ∧ eps = (e : EReal) := by
  refine ⟨_, ?_, by simp [eps, Ideal.ofBits, Ideal.ieee]; rfl⟩
  norm_num

/-- The mean square with the small number, and its inverse root. -/
def meanSq (x : ℕ → EReal) : EReal := Ideal.div (∑ k ∈ Finset.range 1024, x k * x k) len + eps
def inv (x : ℕ → EReal) : EReal := Ideal.rsqrt (meanSq x)

/-- A row's gradient as the kernel writes it: `a` the cotangent of the norm's result, `d` what arrives beside it. -/
def kernelRow (x d a g : ℕ → EReal) (j : ℕ) : EReal :=
  inv x * (a j * g j - x j * inv x * Ideal.div (∑ k ∈ Finset.range 1024, a k * g k * (x k * inv x)) len) + d j

/-- The derivative by the mean square, as the plain program writes it. -/
def bySq (x a g : ℕ → EReal) : EReal :=
  Ideal.div ((∑ k ∈ Finset.range 1024, x k * (a k * g k)) * (half * Ideal.div (inv x) (meanSq x))) len

def plainRow (x d a g : ℕ → EReal) (j : ℕ) : EReal :=
  d j + a j * g j * inv x + x j * bySq x a g + bySq x a g * x j

theorem meanSq_congr {x x' : ℕ → EReal} (hx : ∀ k < 1024, x k = x' k) : meanSq x = meanSq x' := by
  unfold meanSq
  rw [Finset.sum_congr rfl fun k hk => by rw [hx k (Finset.mem_range.mp hk)]]

theorem inv_congr {x x' : ℕ → EReal} (hx : ∀ k < 1024, x k = x' k) : inv x = inv x' := by
  unfold inv; rw [meanSq_congr hx]

theorem kernelRow_congr {x d a g x' d' a' g' : ℕ → EReal} (hx : ∀ k < 1024, x k = x' k) (hd : ∀ k < 1024, d k = d' k)
    (ha : ∀ k < 1024, a k = a' k) (hg : ∀ k < 1024, g k = g' k) {j : ℕ} (hj : j < 1024) : kernelRow x d a g j = kernelRow x' d' a' g' j := by
  have e : ∑ k ∈ Finset.range 1024, a k * g k * (x k * inv x) = ∑ k ∈ Finset.range 1024, a' k * g' k * (x' k * inv x') :=
    Finset.sum_congr rfl fun k hk => by
      have hk := Finset.mem_range.mp hk
      rw [hx k hk, ha k hk, hg k hk, inv_congr hx]
  unfold kernelRow
  rw [e, inv_congr hx, hx j hj, hd j hj, ha j hj, hg j hj]

theorem plainRow_congr {x d a g x' d' a' g' : ℕ → EReal} (hx : ∀ k < 1024, x k = x' k) (hd : ∀ k < 1024, d k = d' k)
    (ha : ∀ k < 1024, a k = a' k) (hg : ∀ k < 1024, g k = g' k) {j : ℕ} (hj : j < 1024) : plainRow x d a g j = plainRow x' d' a' g' j := by
  have e : ∑ k ∈ Finset.range 1024, x k * (a k * g k) = ∑ k ∈ Finset.range 1024, x' k * (a' k * g' k) :=
    Finset.sum_congr rfl fun k hk => by
      have hk := Finset.mem_range.mp hk
      rw [hx k hk, ha k hk, hg k hk]
  unfold plainRow bySq
  rw [e, inv_congr hx, meanSq_congr hx, hx j hj, hd j hj, ha j hj, hg j hj]

/-- A positive number multiplies a sum term by term. -/
theorem mul_sum {r : ℝ} (hr : 0 ≤ r) (f : ℕ → EReal) (n : ℕ) : (r : EReal) * ∑ k ∈ Finset.range n, f k = ∑ k ∈ Finset.range n, (r : EReal) * f k := by
  induction n with
  | zero => simp
  | succ n ih =>
    rw [Finset.sum_range_succ, Finset.sum_range_succ, EReal.left_distrib_of_nonneg_of_ne_top (EReal.coe_nonneg.mpr hr) (EReal.coe_ne_top r), ih]

theorem twice (p : ℝ) (q : EReal) : (p : EReal) * q + (p : EReal) * q = ((2 * p : ℝ) : EReal) * q := by
  have h : (1 + 1 : EReal) * ((p : EReal) * q) = 1 * ((p : EReal) * q) + 1 * ((p : EReal) * q) :=
    EReal.right_distrib_of_nonneg zero_le_one zero_le_one
  rw [one_mul] at h
  rw [← h, ← mul_assoc]
  refine congrArg (· * q) ?_
  rw [EReal.coe_mul]
  exact congrArg (· * (p : EReal)) (by rw [← EReal.coe_one, ← EReal.coe_add]; norm_num)

/-- Where every entry of the row is a number, the two agree whatever the cotangent and the weight are. -/
theorem row_of_real (x : ℕ → ℝ) (d a g : ℕ → EReal) (j : ℕ) : kernelRow (fun k => x k) d a g j = plainRow (fun k => x k) d a g j := by
  obtain ⟨e, he, hE⟩ := eps_pos
  have hS : 0 ≤ ∑ k ∈ Finset.range 1024, x k * x k := Finset.sum_nonneg fun k _ => mul_self_nonneg _
  have hm : meanSq (fun k => x k) = (((∑ k ∈ Finset.range 1024, x k * x k) / 1024 + e : ℝ) : EReal) := by
    unfold meanSq
    rw [hE, len_eq]
    simp only [← EReal.coe_mul]
    rw [coe_sum, div_real (by norm_num), ← EReal.coe_add]
  generalize hv : (∑ k ∈ Finset.range 1024, x k * x k) / 1024 + e = v at hm
  have hv0 : 0 < v := by rw [← hv]; positivity
  have hi : inv (fun k => x k) = (((Real.sqrt v)⁻¹ : ℝ) : EReal) := by
    unfold inv
    rw [hm]
    show (if v < 0 then (⊥ : EReal) else if v = 0 then ⊤ else (((Real.sqrt v)⁻¹ : ℝ) : EReal)) = _
    rw [if_neg (not_lt.mpr hv0.le), if_neg hv0.ne']
  have hr : (Real.sqrt v)⁻¹ * (Real.sqrt v)⁻¹ = 1 / v := by
    rw [← mul_inv, Real.mul_self_sqrt hv0.le, one_div]
  have hr0 : 0 ≤ (Real.sqrt v)⁻¹ := inv_nonneg.mpr (Real.sqrt_nonneg v)
  generalize (Real.sqrt v)⁻¹ = r at hi hr hr0
  have hQ : ∑ k ∈ Finset.range 1024, a k * g k * ((x k : EReal) * (r : EReal)) = (r : EReal) * ∑ k ∈ Finset.range 1024, (x k : EReal) * (a k * g k) := by
    rw [mul_sum hr0]
    exact Finset.sum_congr rfl fun k _ => by rw [← mul_assoc, mul_comm _ (r : EReal), mul_comm (a k * g k)]
  unfold kernelRow plainRow bySq
  rw [hi, hm, len_eq, half_eq, div_real hv0.ne', hQ, Ideal.div_coe (by norm_num), Ideal.div_coe (by norm_num)]
  generalize ∑ k ∈ Finset.range 1024, (x k : EReal) * (a k * g k) = Q
  generalize a j * g j = P
  have e1 : (x j : EReal) * (r : EReal) * ((r : EReal) * Q * ((1 / 1024 : ℝ) : EReal)) = ((x j * r * r * (1 / 1024) : ℝ) : EReal) * Q := by
    simp only [EReal.coe_mul]; ac_rfl
  have e2 : (x j : EReal) * (Q * (((-(1 / 2) : ℝ) : EReal) * ((r / v : ℝ) : EReal)) * ((1 / 1024 : ℝ) : EReal))
      = ((x j * -(1 / 2) * (r / v) * (1 / 1024) : ℝ) : EReal) * Q := by
    simp only [EReal.coe_mul]; ac_rfl
  rw [mul_comm (Q * _ * _) (x j : EReal), e1, e2, add_assoc _ (_ * Q) (_ * Q), twice, sub_eq_add_neg,
    EReal.left_distrib_of_nonneg_of_ne_top (EReal.coe_nonneg.mpr hr0) (EReal.coe_ne_top r), ← EReal.neg_mul, ← EReal.coe_neg, ← mul_assoc, ← EReal.coe_mul,
    add_comm (_ + _) (d j), ← add_assoc, mul_comm P]
  refine congrArg (fun s : ℝ => d j + (r : EReal) * P + (s : EReal) * Q) ?_
  rw [div_eq_mul_one_div r v, ← hr]
  ring

theorem not_real {y : EReal} (h : ¬IsReal y) : y * y = ⊤ := by
  induction y with
  | bot => rfl
  | top => rfl
  | coe r => exact absurd (isReal_coe r) h

theorem square_nonneg (y : EReal) : 0 ≤ y * y := by
  induction y with
  | bot => exact le_top
  | top => exact le_top
  | coe r => rw [← EReal.coe_mul]; exact EReal.coe_nonneg.mpr (mul_self_nonneg r)

/-- Where an entry of the row is infinite, its inverse root mean square is zero, and nothing but `d` is left on either side. -/
theorem row_of_inf {x : ℕ → EReal} {k : ℕ} (hk : k < 1024) (h : ¬IsReal (x k)) (d a g : ℕ → EReal) (j : ℕ) :
    kernelRow x d a g j = plainRow x d a g j := by
  have hS : ∑ k ∈ Finset.range 1024, x k * x k = ⊤ :=
    top_le_iff.mp ((not_real h).symm.le.trans (Finset.single_le_sum (f := fun k => x k * x k) (fun k _ => square_nonneg (x k)) (Finset.mem_range.mpr hk)))
  have hm : meanSq x = ⊤ := by
    obtain ⟨e, he, hE⟩ := eps_pos
    unfold meanSq
    rw [hS, len_eq, Ideal.div_coe (by norm_num), hE, EReal.top_mul_coe_of_pos (by norm_num)]
    exact EReal.top_add_coe e
  have hi : inv x = 0 := by unfold inv; rw [hm]; rfl
  have hq : Ideal.div (0 : EReal) ⊤ = 0 := by
    unfold Ideal.div
    rw [if_neg (by simp), zero_mul]
  have hz : Ideal.div (0 : EReal) len = 0 := by
    rw [len_eq, Ideal.div_coe (by norm_num), zero_mul]
  unfold kernelRow plainRow bySq
  rw [hi, hm, hq]
  simp only [zero_mul, mul_zero, hz, add_zero, zero_add]

/-- The kernel's row is the plain program's. -/
theorem row (x d a g : ℕ → EReal) {j : ℕ} (hj : j < 1024) : kernelRow x d a g j = plainRow x d a g j := by
  by_cases hx : ∀ k < 1024, IsReal (x k)
  · have c : ∀ k < 1024, x k = (fun k => (((x k).toReal : ℝ) : EReal)) k := fun k hk => (hx k hk).symm
    rw [kernelRow_congr c (fun _ _ => rfl) (fun _ _ => rfl) (fun _ _ => rfl) hj, plainRow_congr c (fun _ _ => rfl) (fun _ _ => rfl) (fun _ _ => rfl) hj]
    exact row_of_real (fun k => (x k).toReal) d a g j
  · obtain ⟨k, hk⟩ := not_forall.mp hx
    obtain ⟨hk, h⟩ := Classical.not_imp.mp hk
    exact row_of_inf hk h d a g j

end Cert.NormRow

end
-- ==== Proof.Ffn.Rows.lean ====
/-
  Sums over the rows and columns of a block, and one value for each row carried across it.
-/
module

public import proofs.«01_k».proof.Proof.Attn.Read
public import Idealize.ShloMosaic.Lib.ValueLayoutCasts

@[expose] public section

noncomputable section

namespace Cert.Rows

open Idealize.ShloMosaic Idealize.ShloMosaic.ValueIdx
open Cert.KernelIdeal.Attn (at2 at2_pos ix2_at2)
open scoped BigOperators

/-- The sum of each row, as one column. -/
theorem row_sum {a b : ℕ} (x : FVec Ideal ⟨2, ![a, b]⟩ .f32) (h : (⟨2, ![a, b]⟩ : Shape).Reduces [1] ⟨1, ![a]⟩)
    (hc : (⟨1, ![a]⟩ : Shape).ShapeCasts ⟨2, ![a, 1]⟩) {hφ : FKind.Formats .f32} {hacc} (i : Fin a) (u : Fin 1) :
    shapeCast ⟨2, ![a, 1]⟩ (multiReduction (F := Ideal) .add [1] ⟨1, ![a]⟩ x 0x00000000#32 h hφ hacc) hc (ix2 i u)
      = ∑ k ∈ Finset.range b, at2 (a := a) (b := b) x i.val k := by
  rw [shapeCast_a_a1_apply, Ideal.multiReduction_add_single, Finset.sum_range]
  refine Finset.sum_congr rfl fun k _ => ?_
  refine Eq.trans ?_ (ix2_at2 (a := a) (b := b) x i k)
  refine congrArg x (funext fun d => Fin.ext ?_)
  match d with
  | ⟨0, _⟩ => rfl
  | ⟨1, _⟩ => rfl

/-- The sum of each column, as one row. -/
theorem col_sum {a b : ℕ} (x : FVec Ideal ⟨2, ![a, b]⟩ .f32) (h : (⟨2, ![a, b]⟩ : Shape).Reduces [0] ⟨1, ![b]⟩)
    (hc : (⟨1, ![b]⟩ : Shape).ShapeCasts ⟨2, ![1, b]⟩) {hφ : FKind.Formats .f32} {hacc} (u : Fin 1) (j : Fin b) :
    shapeCast ⟨2, ![1, b]⟩ (multiReduction (F := Ideal) .add [0] ⟨1, ![b]⟩ x 0x00000000#32 h hφ hacc) hc (ix2 u j)
      = ∑ k ∈ Finset.range a, at2 (a := a) (b := b) x k j.val := by
  rw [shapeCast_a_1a_apply, Ideal.multiReduction_add_single, Finset.sum_range]
  refine Finset.sum_congr rfl fun k _ => ?_
  refine Eq.trans ?_ (ix2_at2 (a := a) (b := b) x k j)
  refine congrArg x (funext fun d => Fin.ext ?_)
  match d with
  | ⟨0, _⟩ => rfl
  | ⟨1, _⟩ => rfl

/-- A column across a block. -/
theorem across {a b : ℕ} {α : Type} (v : (⟨2, ![a, 1]⟩ : Shape).Idx → α) (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h _ _ fun d => ?_
  match d with
  | ⟨0, _⟩ =>
    show i.val = if a = 1 then 0 else i.val
    split
    · have := i.isLt; omega
    · rfl
  | ⟨1, _⟩ => rfl

end Cert.Rows

end
-- ==== Proof.Ffn.NormHalf.lean ====
/-
  The gradient through the norm before the feed-forward layer, one half of a tile: 256 rows at a time the kernel adds the two products that
  carry the cotangent back, scales by the norm's weight, and takes each row's gradient; the weight's gradient gains a sum over the rows.
-/
module

public import proofs.«01_k».proof.Proof.Ffn.NormRow
public import proofs.«01_k».proof.Proof.Ffn.Rows
public import proofs.«01_k».proof.Proof.Gen.NormKernelIdeal.Value
public import Idealize.ShloMosaic.Lib.Pipeline.ValueKit.Acc
public import Idealize.ShloMosaic.Lib.Pipeline.ValueKit.Geometry

@[expose] public section

noncomputable section

namespace Cert.NormKernelIdeal.Half

open Cert.NormKernelIdeal Cert.NormKernelIdeal.Gen Idealize.ShloMosaic Idealize.ShloMosaic.TcCoe Idealize.ShloMosaic.ValueIdx
open Cert.KernelIdeal.Attn (at2 at2_pos at2_plain ix2_at2)
open Cert.NormRow Cert.Rows
open scoped BigOperators

theorem at2_mulf {a b : ℕ} (x y : FVec Ideal ⟨2, ![a, b]⟩ .f32) (i j : ℕ) :
    at2 (a := a) (b := b) (mulf (F := Ideal) x y) i j = at2 (a := a) (b := b) x i j * at2 (a := a) (b := b) y i j := by
  unfold at2
  split
  · rfl
  · exact (zero_mul _).symm

variable (g : Vec Ideal S1x1024 .f32) (x d : Vec Ideal S256x1024 .f32) (a : FVec Ideal S256x1024 .f32)

/-- The two products. -/
theorem products (v6 v9 : Vec Ideal S256x2816 .bf16) (v7 v10 : Vec Ideal S2816x1024 .bf16) {i j : ℕ} (hi : i < 256) (hj : j < 1024) :
    at2 (a := 256) (b := 1024) (k0_pay5 (F := Ideal) v6 v7 v9 v10) i j
      = ∑ k ∈ Finset.range 2816, at2 (a := 256) (b := 2816) v6 i k * at2 (a := 2816) (b := 1024) v7 k j
        + ∑ k ∈ Finset.range 2816, at2 (a := 256) (b := 2816) v9 i k * at2 (a := 2816) (b := 1024) v10 k j := by
  rw [← at2_plain (M := 256) (K := 2816) (N := 1024) v6 v7 hi hj, ← at2_plain (M := 256) (K := 2816) (N := 1024) v9 v10 hi hj,
    at2_pos _ hi hj, at2_pos _ hi hj, at2_pos _ hi hj]
  rfl

/-- Each row's inverse root mean square. -/
theorem inv_apply (i : Fin 256) : (k0_pay8 (F := Ideal) (k0_pay7 (F := Ideal) x) : S256x1.Idx → EReal) (ix2 i (0 : Fin 1)) = inv (at2 (a := 256) (b := 1024) x i.val) := by
  have e : (k0_pay7 (F := Ideal) x : S256x1.Idx → EReal) (ix2 i (0 : Fin 1))
      = ∑ k ∈ Finset.range 1024, at2 (a := 256) (b := 1024) x i.val k * at2 (a := 256) (b := 1024) x i.val k :=
    (row_sum (a := 256) (b := 1024) (mulf (F := Ideal) x x) _ _ i 0).trans (Finset.sum_congr rfl fun k _ => at2_mulf x x i.val k)
  exact congrArg (fun s : EReal => Ideal.rsqrt (Ideal.div s len + eps)) e

theorem unit_apply (i : Fin 256) (j : Fin 1024) : (k0_pay9 (F := Ideal) x (k0_pay7 (F := Ideal) x) : S256x1024.Idx → EReal) (ix2 i j)
    = at2 (a := 256) (b := 1024) x i.val j.val * inv (at2 (a := 256) (b := 1024) x i.val) := by
  rw [← inv_apply, ← ix2_at2]
  exact congrArg (fun s : EReal => (x (ix2 i j) : EReal) * s) (across (a := 256) (b := 1024) (k0_pay8 (F := Ideal) (k0_pay7 (F := Ideal) x)) _ i j)

theorem weight_apply (i : Fin 256) (j : Fin 1024) : (broadcastTo S256x1024 g broadcasts_S1x1024_S256x1024 : S256x1024.Idx → EReal) (ix2 i j)
    = at2 (a := 1) (b := 1024) g 0 j.val := by
  refine (broadcastTo_1b_ab_apply (a := 256) (b := 1024) g _ i j).trans ?_
  exact ix2_at2 (a := 1) (b := 1024) g 0 j

/-- A row's gradient. -/
theorem rows_apply (i : Fin 256) (j : Fin 1024) : (k0_pay10 (F := Ideal) g x d a (k0_pay7 (F := Ideal) x) : S256x1024.Idx → EReal) (ix2 i j)
    = kernelRow (at2 (a := 256) (b := 1024) x i.val) (at2 (a := 256) (b := 1024) d i.val) (at2 (a := 256) (b := 1024) a i.val) (at2 (a := 1) (b := 1024) g 0) j.val := by
  have hm : (shapeCast S256x1 (multiReduction (F := Ideal) .add [1] S256 (mulf (mulf a (broadcastTo S256x1024 g broadcasts_S1x1024_S256x1024))
        (k0_pay9 (F := Ideal) x (k0_pay7 (F := Ideal) x))) 0x00000000#32 reduces_S256x1024_S256 (.inl rfl) rfl) shapeCasts_S256_S256x1 : S256x1.Idx → EReal) (ix2 i (0 : Fin 1))
      = ∑ k ∈ Finset.range 1024, at2 (a := 256) (b := 1024) a i.val k * at2 (a := 1) (b := 1024) g 0 k
          * (at2 (a := 256) (b := 1024) x i.val k * inv (at2 (a := 256) (b := 1024) x i.val)) := by
    refine (row_sum (a := 256) (b := 1024) _ _ _ i 0).trans (Finset.sum_congr rfl fun k hk => ?_)
    have hk := Finset.mem_range.mp hk
    rw [at2_mulf, at2_mulf, at2_pos (a := 256) (b := 1024) (broadcastTo S256x1024 g broadcasts_S1x1024_S256x1024) i.isLt hk, at2_pos (a := 256) (b := 1024) (k0_pay9 (F := Ideal) x (k0_pay7 (F := Ideal) x)) i.isLt hk]
    exact congrArg₂ (fun p q : EReal => at2 (a := 256) (b := 1024) a i.val k * p * q) (weight_apply g i ⟨k, hk⟩) (unit_apply x i ⟨k, hk⟩)
  unfold kernelRow
  rw [← hm, ← inv_apply, ← ix2_at2 (a := 256) (b := 1024) a i j, ← ix2_at2 (a := 256) (b := 1024) d i j, ← weight_apply g i j]
  have hu := unit_apply x i j
  rw [← inv_apply] at hu
  rw [← hu]
  refine Eq.trans ?_ (congrArg₂ (fun p q : EReal => p * ((a (ix2 i j) : EReal) * (broadcastTo S256x1024 g broadcasts_S1x1024_S256x1024 : S256x1024.Idx → EReal) (ix2 i j)
      - (k0_pay9 (F := Ideal) x (k0_pay7 (F := Ideal) x) : S256x1024.Idx → EReal) (ix2 i j) * q) + (d (ix2 i j) : EReal))
    (across (a := 256) (b := 1024) (k0_pay8 (F := Ideal) (k0_pay7 (F := Ideal) x)) broadcasts_S256x1_S256x1024 i j)
    (across (a := 256) (b := 1024) (divf (shapeCast S256x1 (multiReduction (F := Ideal) .add [1] S256 (mulf (mulf a (broadcastTo S256x1024 g broadcasts_S1x1024_S256x1024))
        (k0_pay9 (F := Ideal) x (k0_pay7 (F := Ideal) x))) 0x00000000#32 reduces_S256x1024_S256 (.inl rfl) rfl) shapeCasts_S256_S256x1)
        (broadcast S256x1 (Scalar.ofBits (F := Ideal) .f32 0x44800000#32))) broadcasts_S256x1_S256x1024 i j))
  rfl

/-- The weight's gradient gains a sum over the rows. -/
theorem sums_apply (acc : Vec Ideal S1x1024 .f32) (j : Fin 1024) : (k0_pay12 (F := Ideal) x a (k0_pay7 (F := Ideal) x) acc : S1x1024.Idx → EReal) (ix2 (0 : Fin 1) j)
    = acc (ix2 (0 : Fin 1) j) + ∑ k ∈ Finset.range 256, at2 (a := 256) (b := 1024) a k j.val
        * (at2 (a := 256) (b := 1024) x k j.val * inv (at2 (a := 256) (b := 1024) x k)) := by
  have e : shapeCast S1x1024 acc shapeCasts_S1x1024_S1x1024 = acc := shapeCast_self _ _
  have h : (shapeCast S1x1024 (multiReduction (F := Ideal) .add [0] S1024 (mulf a (k0_pay9 (F := Ideal) x (k0_pay7 (F := Ideal) x))) 0x00000000#32
        reduces_S256x1024_S1024 (.inl rfl) rfl) shapeCasts_S1024_S1x1024 : S1x1024.Idx → EReal) (ix2 (0 : Fin 1) j)
      = ∑ k ∈ Finset.range 256, at2 (a := 256) (b := 1024) a k j.val * (at2 (a := 256) (b := 1024) x k j.val * inv (at2 (a := 256) (b := 1024) x k)) := by
    refine (col_sum (a := 256) (b := 1024) _ _ _ 0 j).trans (Finset.sum_congr rfl fun k hk => ?_)
    have hk := Finset.mem_range.mp hk
    rw [at2_mulf, at2_pos (a := 256) (b := 1024) (k0_pay9 (F := Ideal) x (k0_pay7 (F := Ideal) x)) hk j.isLt]
    exact congrArg (at2 (a := 256) (b := 1024) a k j.val * ·) (unit_apply x ⟨k, hk⟩ j)
  exact congrArg₂ (fun (y : S1x1024.Idx → EReal) (s : EReal) => y (ix2 (0 : Fin 1) j) + s) e h

/-- The second half of a tile has the same text. -/
theorem second_rows : k0_pay1 (F := Ideal) d a (k0_pay13 x) (k0_pay14 x) (k0_pay15 g) = k0_pay10 (F := Ideal) g x d a (k0_pay7 x) := rfl
theorem second_sums (acc : Vec Ideal S1x1024 .f32) : k0_pay3 (F := Ideal) a (k0_pay14 x) acc = k0_pay12 (F := Ideal) x a (k0_pay7 x) acc := rfl
theorem second_products (v6 v9 : Vec Ideal S256x2816 .bf16) (v7 v10 : Vec Ideal S2816x1024 .bf16) :
    k0_pay6 (F := Ideal) v6 v7 v9 v10 = k0_pay5 (F := Ideal) v6 v7 v9 v10 := rfl

end Cert.NormKernelIdeal.Half

end
-- ==== Proof.Ffn.NormTile.lean ====
/-
  The gradient through the norm before the feed-forward layer: what one grid point leaves. Each tile of 512 rows is done in two halves; the weight's
  gradient starts at zero at the first point and gains both halves' sums at every point.
-/
module

public import proofs.«01_k».proof.Proof.Ffn.NormHalf

@[expose] public section

noncomputable section

namespace Cert.NormKernelIdeal.Tile

open Cert.NormKernelIdeal Cert.NormKernelIdeal.Gen Idealize.ShloMosaic Idealize.ShloMosaic.TcCoe Idealize.ShloMosaic.ValueIdx
open Cert.KernelIdeal.Attn (at2 at2_pos ix2_at2 box at2_box at2_canon_f32 at2_canon_bf16)
open Cert.NormRow Cert.NormKernelIdeal.Half
open scoped BigOperators

variable (c : Dev nD) (i : grid0.Coords)
  (arg1 : Memref sig .tc .vmem S512x2816 .bf16) (harg1 : arg1.IsWhole)
  (arg2 : Memref sig .tc .vmem S2816x1024 .bf16) (harg2 : arg2.IsWhole)
  (arg3 : Memref sig .tc .vmem S512x2816 .bf16) (harg3 : arg3.IsWhole)
  (arg4 : Memref sig .tc .vmem S2816x1024 .bf16) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S1x1024 .f32) (harg7 : arg7.IsWhole)
  (arg8 : Memref sig .tc .vmem S512x1024 .f32) (harg8 : arg8.IsWhole)
  (arg9 : Memref sig .tc .vmem S512x1024 .bf16) (harg9 : arg9.IsWhole)
  (arg10 : Memref sig .tc .vmem S1x1024 .f32) (harg10 : arg10.IsWhole)
  (x0 : Vec Ideal S512x2816 .bf16) (x1 : Vec Ideal S2816x1024 .bf16) (x2 : Vec Ideal S512x2816 .bf16) (x3 : Vec Ideal S2816x1024 .bf16) (x4 : Vec Ideal S512x1024 .f32) (x5 : Vec Ideal S512x1024 .f32) (x6 : Vec Ideal S1x1024 .f32) (xo9 : Vec Ideal S1x1024 .f32)

/-- The two halves of a block. -/
def lo {b : ℕ} {e : EltTy} (x : Vec Ideal ⟨2, ![512, b]⟩ e) : Vec Ideal ⟨2, ![256, b]⟩ e := fun y => x ((box 0 256 0 b (by omega) (by omega)).toLoadRect.idx y)
def hi {b : ℕ} {e : EltTy} (x : Vec Ideal ⟨2, ![512, b]⟩ e) : Vec Ideal ⟨2, ![256, b]⟩ e := fun y => x ((box 256 256 0 b (by omega) (by omega)).toLoadRect.idx y)

/-- A read of the whole of a block. -/
theorem read_whole {a b : ℕ} {e : EltTy} (X : Vec Ideal ⟨2, ![a, b]⟩ e) (v : Memref sig .tc .vmem ⟨2, ![a, b]⟩ e) (hv : v.IsWhole) :
    View.readAt (Elt Ideal) v.view (box 0 a 0 b (by omega) (by omega)).toLoadRect (hv.unread X) = X := by
  funext x
  show v.view.read (Elt Ideal) (hv.unread X) _ = _
  rw [hv.read_unread]
  refine congrArg X (funext fun d => Fin.ext ?_)
  match d with
  | ⟨0, _⟩ => exact (Nat.zero_add _).trans (Nat.one_mul _)
  | ⟨1, _⟩ => exact (Nat.zero_add _).trans (Nat.one_mul _)

theorem read_lo {b : ℕ} {e : EltTy} (X : Vec Ideal ⟨2, ![512, b]⟩ e) (v : Memref sig .tc .vmem ⟨2, ![512, b]⟩ e) (hv : v.IsWhole) :
    View.readAt (Elt Ideal) v.view (box 0 256 0 b (by omega) (by omega)).toLoadRect (hv.unread X) = lo X := by
  funext x
  show v.view.read (Elt Ideal) (hv.unread X) _ = _
  rw [hv.read_unread]
  rfl

theorem read_hi {b : ℕ} {e : EltTy} (X : Vec Ideal ⟨2, ![512, b]⟩ e) (v : Memref sig .tc .vmem ⟨2, ![512, b]⟩ e) (hv : v.IsWhole) :
    View.readAt (Elt Ideal) v.view (box 256 256 0 b (by omega) (by omega)).toLoadRect (hv.unread X) = hi X := by
  funext x
  show v.view.read (Elt Ideal) (hv.unread X) _ = _
  rw [hv.read_unread]
  rfl

/-- The products and the gradient of each half. -/
def aLo : FVec Ideal S256x1024 .f32 := k0_pay5 (F := Ideal) (lo x0) x1 (lo x2) x3
def aHi : FVec Ideal S256x1024 .f32 := k0_pay5 (F := Ideal) (hi x0) x1 (hi x2) x3
def dLo : FVec Ideal S256x1024 .f32 := k0_pay10 (F := Ideal) x6 (lo x4) (lo x5) (aLo x0 x1 x2 x3) (k0_pay7 (F := Ideal) (lo x4))
def dHi : FVec Ideal S256x1024 .f32 := k0_pay10 (F := Ideal) x6 (hi x4) (hi x5) (aHi x0 x1 x2 x3) (k0_pay7 (F := Ideal) (hi x4))
def both : List (View.Piece (Elt Ideal) S512x1024 .f32) :=
  [⟨box 256 256 0 1024 (by omega) (by omega), dHi x0 x1 x2 x3 x4 x5 x6⟩, ⟨box 0 256 0 1024 (by omega) (by omega), dLo x0 x1 x2 x3 x4 x5 x6⟩]
def both16 : List (View.Piece (Elt Ideal) S512x1024 .bf16) :=
  [⟨box 256 256 0 1024 (by omega) (by omega), dHi x0 x1 x2 x3 x4 x5 x6⟩, ⟨box 0 256 0 1024 (by omega) (by omega), dLo x0 x1 x2 x3 x4 x5 x6⟩]
def gain (acc : Vec Ideal S1x1024 .f32) : FVec Ideal S1x1024 .f32 :=
  k0_pay12 (F := Ideal) (hi x4) (aHi x0 x1 x2 x3) (k0_pay7 (F := Ideal) (hi x4)) (k0_pay12 (F := Ideal) (lo x4) (aLo x0 x1 x2 x3) (k0_pay7 (F := Ideal) (lo x4)) acc)

/-- The pieces in the arrays as the body reads them. -/
def reads7 : List (View.Piece (Elt Ideal) S512x1024 .f32) :=
  [⟨box 256 256 0 1024 (by omega) (by omega), k0_pay1 (F := Ideal) (View.readAt (Elt Ideal) arg6.view (box 256 256 0 1024 (by omega) (by omega)).toLoadRect (harg6.unread x5)) (k0_pay6 (F := Ideal) (View.readAt (Elt Ideal) arg1.view (box 256 256 0 2816 (by omega) (by omega)).toLoadRect (harg1.unread x0)) (View.readAt (Elt Ideal) arg2.view (box 0 2816 0 1024 (by omega) (by omega)).toLoadRect (harg2.unread x1)) (View.readAt (Elt Ideal) arg3.view (box 256 256 0 2816 (by omega) (by omega)).toLoadRect (harg3.unread x2)) (View.readAt (Elt Ideal) arg4.view (box 0 2816 0 1024 (by omega) (by omega)).toLoadRect (harg4.unread x3))) (k0_pay13 (F := Ideal) (View.readAt (Elt Ideal) arg5.view (box 256 256 0 1024 (by omega) (by omega)).toLoadRect (harg5.unread x4))) (k0_pay14 (F := Ideal) (View.readAt (Elt Ideal) arg5.view (box 256 256 0 1024 (by omega) (by omega)).toLoadRect (harg5.unread x4))) (k0_pay15 (F := Ideal) (View.readAt (Elt Ideal) arg7.view (box 0 1 0 1024 (by omega) (by omega)).toLoadRect (harg7.unread x6)))⟩,
      ⟨box 0 256 0 1024 (by omega) (by omega), k0_pay10 (F := Ideal) (View.readAt (Elt Ideal) arg7.view (box 0 1 0 1024 (by omega) (by omega)).toLoadRect (harg7.unread x6)) (View.readAt (Elt Ideal) arg5.view (box 0 256 0 1024 (by omega) (by omega)).toLoadRect (harg5.unread x4)) (View.readAt (Elt Ideal) arg6.view (box 0 256 0 1024 (by omega) (by omega)).toLoadRect (harg6.unread x5)) (k0_pay5 (F := Ideal) (View.readAt (Elt Ideal) arg1.view (box 0 256 0 2816 (by omega) (by omega)).toLoadRect (harg1.unread x0)) (View.readAt (Elt Ideal) arg2.view (box 0 2816 0 1024 (by omega) (by omega)).toLoadRect (harg2.unread x1)) (View.readAt (Elt Ideal) arg3.view (box 0 256 0 2816 (by omega) (by omega)).toLoadRect (harg3.unread x2)) (View.readAt (Elt Ideal) arg4.view (box 0 2816 0 1024 (by omega) (by omega)).toLoadRect (harg4.unread x3))) (k0_pay7 (F := Ideal) (View.readAt (Elt Ideal) arg5.view (box 0 256 0 1024 (by omega) (by omega)).toLoadRect (harg5.unread x4)))⟩]

theorem pieces7_A (hc0 : cond0_0 i) : (kernelRun0_A (F := Ideal) c i arg1 harg1 arg2 harg2 arg3 harg3 arg4 harg4 arg5 harg5 arg6 harg6 arg7 harg7 arg8 harg8 arg9 harg9 arg10 harg10 hc0 x0 x1 x2 x3 x4 x5 x6).1
    = reads7 arg1 harg1 arg2 harg2 arg3 harg3 arg4 harg4 arg5 harg5 arg6 harg6 arg7 harg7 x0 x1 x2 x3 x4 x5 x6 := by sl_kernel_rfl

theorem out7_A (hc0 : cond0_0 i) : out0_A_7 (F := Ideal) c i arg1 harg1 arg2 harg2 arg3 harg3 arg4 harg4 arg5 harg5 arg6 harg6 arg7 harg7 arg8 harg8 arg9 harg9 arg10 harg10 hc0 x0 x1 x2 x3 x4 x5 x6 = View.canon (Val := Elt Ideal) (both x0 x1 x2 x3 x4 x5 x6) := by
  unfold out0_A_7
  rw [View.read_writes_junk_eq_canon, pieces7_A]
  unfold reads7
  simp only [read_lo, read_hi, read_whole]
  rfl

/-- The pieces in the arrays as the body reads them. -/
def reads8 : List (View.Piece (Elt Ideal) S512x1024 .bf16) :=
  [⟨box 256 256 0 1024 (by omega) (by omega), k0_pay2 (F := Ideal) (View.readAt (Elt Ideal) arg6.view (box 256 256 0 1024 (by omega) (by omega)).toLoadRect (harg6.unread x5)) (k0_pay6 (F := Ideal) (View.readAt (Elt Ideal) arg1.view (box 256 256 0 2816 (by omega) (by omega)).toLoadRect (harg1.unread x0)) (View.readAt (Elt Ideal) arg2.view (box 0 2816 0 1024 (by omega) (by omega)).toLoadRect (harg2.unread x1)) (View.readAt (Elt Ideal) arg3.view (box 256 256 0 2816 (by omega) (by omega)).toLoadRect (harg3.unread x2)) (View.readAt (Elt Ideal) arg4.view (box 0 2816 0 1024 (by omega) (by omega)).toLoadRect (harg4.unread x3))) (k0_pay13 (F := Ideal) (View.readAt (Elt Ideal) arg5.view (box 256 256 0 1024 (by omega) (by omega)).toLoadRect (harg5.unread x4))) (k0_pay14 (F := Ideal) (View.readAt (Elt Ideal) arg5.view (box 256 256 0 1024 (by omega) (by omega)).toLoadRect (harg5.unread x4))) (k0_pay15 (F := Ideal) (View.readAt (Elt Ideal) arg7.view (box 0 1 0 1024 (by omega) (by omega)).toLoadRect (harg7.unread x6)))⟩,
      ⟨box 0 256 0 1024 (by omega) (by omega), k0_pay11 (F := Ideal) (View.readAt (Elt Ideal) arg7.view (box 0 1 0 1024 (by omega) (by omega)).toLoadRect (harg7.unread x6)) (View.readAt (Elt Ideal) arg5.view (box 0 256 0 1024 (by omega) (by omega)).toLoadRect (harg5.unread x4)) (View.readAt (Elt Ideal) arg6.view (box 0 256 0 1024 (by omega) (by omega)).toLoadRect (harg6.unread x5)) (k0_pay5 (F := Ideal) (View.readAt (Elt Ideal) arg1.view (box 0 256 0 2816 (by omega) (by omega)).toLoadRect (harg1.unread x0)) (View.readAt (Elt Ideal) arg2.view (box 0 2816 0 1024 (by omega) (by omega)).toLoadRect (harg2.unread x1)) (View.readAt (Elt Ideal) arg3.view (box 0 256 0 2816 (by omega) (by omega)).toLoadRect (harg3.unread x2)) (View.readAt (Elt Ideal) arg4.view (box 0 2816 0 1024 (by omega) (by omega)).toLoadRect (harg4.unread x3))) (k0_pay7 (F := Ideal) (View.readAt (Elt Ideal) arg5.view (box 0 256 0 1024 (by omega) (by omega)).toLoadRect (harg5.unread x4)))⟩]

theorem pieces8_A (hc0 : cond0_0 i) : (kernelRun0_A (F := Ideal) c i arg1 harg1 arg2 harg2 arg3 harg3 arg4 harg4 arg5 harg5 arg6 harg6 arg7 harg7 arg8 harg8 arg9 harg9 arg10 harg10 hc0 x0 x1 x2 x3 x4 x5 x6).2.1
    = reads8 arg1 harg1 arg2 harg2 arg3 harg3 arg4 harg4 arg5 harg5 arg6 harg6 arg7 harg7 x0 x1 x2 x3 x4 x5 x6 := by sl_kernel_rfl

theorem out8_A (hc0 : cond0_0 i) : out0_A_8 (F := Ideal) c i arg1 harg1 arg2 harg2 arg3 harg3 arg4 harg4 arg5 harg5 arg6 harg6 arg7 harg7 arg8 harg8 arg9 harg9 arg10 harg10 hc0 x0 x1 x2 x3 x4 x5 x6 = View.canon (Val := Elt Ideal) (both16 x0 x1 x2 x3 x4 x5 x6) := by
  unfold out0_A_8
  rw [View.read_writes_junk_eq_canon, pieces8_A]
  unfold reads8
  simp only [read_lo, read_hi, read_whole]
  rfl

theorem out9_A (hc0 : cond0_0 i) : out0_A_9 (F := Ideal) c i arg1 harg1 arg2 harg2 arg3 harg3 arg4 harg4 arg5 harg5 arg6 harg6 arg7 harg7 arg8 harg8 arg9 harg9 arg10 harg10 hc0 x0 x1 x2 x3 x4 x5 x6 = gain x0 x1 x2 x3 x4 (k0_pay4 (F := Ideal)) := by
  frame_out
  rfl

theorem pieces7_B (hc0 : ¬cond0_0 i) : (kernelRun0_B (F := Ideal) c i arg1 harg1 arg2 harg2 arg3 harg3 arg4 harg4 arg5 harg5 arg6 harg6 arg7 harg7 arg8 harg8 arg9 harg9 arg10 harg10 hc0 x0 x1 x2 x3 x4 x5 x6 xo9).1
    = reads7 arg1 harg1 arg2 harg2 arg3 harg3 arg4 harg4 arg5 harg5 arg6 harg6 arg7 harg7 x0 x1 x2 x3 x4 x5 x6 := by sl_kernel_rfl

theorem out7_B (hc0 : ¬cond0_0 i) : out0_B_7 (F := Ideal) c i arg1 harg1 arg2 harg2 arg3 harg3 arg4 harg4 arg5 harg5 arg6 harg6 arg7 harg7 arg8 harg8 arg9 harg9 arg10 harg10 hc0 x0 x1 x2 x3 x4 x5 x6 xo9 = View.canon (Val := Elt Ideal) (both x0 x1 x2 x3 x4 x5 x6) := by
  unfold out0_B_7
  rw [View.read_writes_junk_eq_canon, pieces7_B]
  unfold reads7
  simp only [read_lo, read_hi, read_whole]
  rfl

theorem pieces8_B (hc0 : ¬cond0_0 i) : (kernelRun0_B (F := Ideal) c i arg1 harg1 arg2 harg2 arg3 harg3 arg4 harg4 arg5 harg5 arg6 harg6 arg7 harg7 arg8 harg8 arg9 harg9 arg10 harg10 hc0 x0 x1 x2 x3 x4 x5 x6 xo9).2.1
    = reads8 arg1 harg1 arg2 harg2 arg3 harg3 arg4 harg4 arg5 harg5 arg6 harg6 arg7 harg7 x0 x1 x2 x3 x4 x5 x6 := by sl_kernel_rfl

theorem out8_B (hc0 : ¬cond0_0 i) : out0_B_8 (F := Ideal) c i arg1 harg1 arg2 harg2 arg3 harg3 arg4 harg4 arg5 harg5 arg6 harg6 arg7 harg7 arg8 harg8 arg9 harg9 arg10 harg10 hc0 x0 x1 x2 x3 x4 x5 x6 xo9 = View.canon (Val := Elt Ideal) (both16 x0 x1 x2 x3 x4 x5 x6) := by
  unfold out0_B_8
  rw [View.read_writes_junk_eq_canon, pieces8_B]
  unfold reads8
  simp only [read_lo, read_hi, read_whole]
  rfl

theorem out9_B (hc0 : ¬cond0_0 i) : out0_B_9 (F := Ideal) c i arg1 harg1 arg2 harg2 arg3 harg3 arg4 harg4 arg5 harg5 arg6 harg6 arg7 harg7 arg8 harg8 arg9 harg9 arg10 harg10 hc0 x0 x1 x2 x3 x4 x5 x6 xo9 = gain x0 x1 x2 x3 x4 xo9 := by
  frame_out
  rfl

end Cert.NormKernelIdeal.Tile

end
-- ==== Proof.Ffn.NormWhole.lean ====
/-
  The gradient through the norm before the feed-forward layer: the kernel's three arrays and the plain program's, row by row.
-/
module

public import proofs.«01_k».proof.Proof.Ffn.NormTile
public import proofs.«01_k».proof.Proof.Gen.NormReferenceIdeal.Read

@[expose] public section

noncomputable section

namespace Cert.NormKernelIdeal.Whole

open Cert.NormKernelIdeal Cert.NormKernelIdeal.Gen Idealize.ShloMosaic Idealize.ShloMosaic.TcCoe Idealize.ShloMosaic.ValueIdx
open Cert.KernelIdeal.Attn (at2 at2_pos ix2_at2 box at2_box at2_canon_f32 at2_canon_bf16)
open Cert.NormRow Cert.NormKernelIdeal.Half Cert.NormKernelIdeal.Tile
open scoped BigOperators

/-- The cotangent of the norm's result: the two products added. -/
def back (p q : (⟨2, ![8192, 2816]⟩ : Shape).Idx → EReal) (v w : (⟨2, ![2816, 1024]⟩ : Shape).Idx → EReal) (r j : ℕ) : EReal :=
  ∑ k ∈ Finset.range 2816, at2 (a := 8192) (b := 2816) p r k * at2 (a := 2816) (b := 1024) v k j
    + ∑ k ∈ Finset.range 2816, at2 (a := 8192) (b := 2816) q r k * at2 (a := 2816) (b := 1024) w k j

/-- A row of an array. -/
def rowOf (x : (⟨2, ![8192, 1024]⟩ : Shape).Idx → EReal) (r : ℕ) : ℕ → EReal := at2 (a := 8192) (b := 1024) x r
def weightOf (x : (⟨2, ![1, 1024]⟩ : Shape).Idx → EReal) : ℕ → EReal := at2 (a := 1) (b := 1024) x 0

/-- A row's term of the weight's gradient. -/
def term (x : (⟨2, ![8192, 1024]⟩ : Shape).Idx → EReal) (p q : (⟨2, ![8192, 2816]⟩ : Shape).Idx → EReal) (v w : (⟨2, ![2816, 1024]⟩ : Shape).Idx → EReal)
    (r j : ℕ) : EReal := back p q v w r j * (rowOf x r j * inv (rowOf x r))

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

theorem idx_out : ∀ t : Fin cfg0.N,
    (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0) :=
  (by decide +kernel : ∀ t : Fin grid0.N, _)

variable (m : (ℓ : Loc nD τ sig) → Buf (Elt Ideal) ℓ) (c : Dev nD)

theorem block0 (t : Fin cfg0.N) {i j : ℕ} (hi : i < 512) (hj : j < 2816) :
    at2 (a := 512) (b := 2816) (iblk m c 0 t) i j
      = at2 (a := 8192) (b := 2816) (m ((c : Thread nD τ).loc main_arg0)) (512 * t.val + i) j := by
  obtain ⟨⟨e0, e1⟩, _⟩ := idx_facts t
  have ht : t.val < 16 := t.isLt
  rw [← V_main_arg0 m c]
  exact Cert.KernelIdeal.Attn.at2_to hi hj _ rfl (by show win0_0.index t (0 : Fin 2) * 512 + 1 * i = 512 * t.val + i; omega) (by show win0_0.index t (1 : Fin 2) * 2816 + 1 * j = j; omega)

theorem block1 (t : Fin cfg0.N) {i j : ℕ} (hi : i < 2816) (hj : j < 1024) :
    at2 (a := 2816) (b := 1024) (iblk m c 1 t) i j
      = at2 (a := 2816) (b := 1024) (m ((c : Thread nD τ).loc main_arg2)) (i) j := by
  obtain ⟨_, ⟨e0, e1⟩, _⟩ := idx_facts t
  have ht : t.val < 16 := t.isLt
  rw [← V_main_arg2 m c]
  exact Cert.KernelIdeal.Attn.at2_to hi hj _ rfl (by show win0_1.index t (0 : Fin 2) * 2816 + 1 * i = i; omega) (by show win0_1.index t (1 : Fin 2) * 1024 + 1 * j = j; omega)

theorem block2 (t : Fin cfg0.N) {i j : ℕ} (hi : i < 512) (hj : j < 2816) :
    at2 (a := 512) (b := 2816) (iblk m c 2 t) i j
      = at2 (a := 8192) (b := 2816) (m ((c : Thread nD τ).loc main_arg1)) (512 * t.val + i) j := by
  obtain ⟨_, _, ⟨e0, e1⟩, _⟩ := idx_facts t
  have ht : t.val < 16 := t.isLt
  rw [← V_main_arg1 m c]
  exact Cert.KernelIdeal.Attn.at2_to hi hj _ rfl (by show win0_2.index t (0 : Fin 2) * 512 + 1 * i = 512 * t.val + i; omega) (by show win0_2.index t (1 : Fin 2) * 2816 + 1 * j = j; omega)

theorem block3 (t : Fin cfg0.N) {i j : ℕ} (hi : i < 2816) (hj : j < 1024) :
    at2 (a := 2816) (b := 1024) (iblk m c 3 t) i j
      = at2 (a := 2816) (b := 1024) (m ((c : Thread nD τ).loc main_arg3)) (i) j := by
  obtain ⟨_, _, _, ⟨e0, e1⟩, _⟩ := idx_facts t
  have ht : t.val < 16 := t.isLt
  rw [← V_main_arg3 m c]
  exact Cert.KernelIdeal.Attn.at2_to hi hj _ rfl (by show win0_3.index t (0 : Fin 2) * 2816 + 1 * i = i; omega) (by show win0_3.index t (1 : Fin 2) * 1024 + 1 * j = j; omega)

theorem block4 (t : Fin cfg0.N) {i j : ℕ} (hi : i < 512) (hj : j < 1024) :
    at2 (a := 512) (b := 1024) (iblk m c 4 t) i j
      = at2 (a := 8192) (b := 1024) (m ((c : Thread nD τ).loc main_arg4)) (512 * t.val + i) j := by
  obtain ⟨_, _, _, _, ⟨e0, e1⟩, _⟩ := idx_facts t
  have ht : t.val < 16 := t.isLt
  rw [← V_main_arg4 m c]
  exact Cert.KernelIdeal.Attn.at2_to hi hj _ rfl (by show win0_4.index t (0 : Fin 2) * 512 + 1 * i = 512 * t.val + i; omega) (by show win0_4.index t (1 : Fin 2) * 1024 + 1 * j = j; omega)

theorem block5 (t : Fin cfg0.N) {i j : ℕ} (hi : i < 512) (hj : j < 1024) :
    at2 (a := 512) (b := 1024) (iblk m c 5 t) i j
      = at2 (a := 8192) (b := 1024) (m ((c : Thread nD τ).loc main_arg5)) (512 * t.val + i) j := by
  obtain ⟨_, _, _, _, _, ⟨e0, e1⟩, _⟩ := idx_facts t
  have ht : t.val < 16 := t.isLt
  rw [← V_main_arg5 m c]
  exact Cert.KernelIdeal.Attn.at2_to hi hj _ rfl (by show win0_5.index t (0 : Fin 2) * 512 + 1 * i = 512 * t.val + i; omega) (by show win0_5.index t (1 : Fin 2) * 1024 + 1 * j = j; omega)

theorem block6 (t : Fin cfg0.N) {i j : ℕ} (hi : i < 1) (hj : j < 1024) :
    at2 (a := 1) (b := 1024) (iblk m c 6 t) i j
      = at2 (a := 1) (b := 1024) (m ((c : Thread nD τ).loc main_arg6)) (i) j := by
  obtain ⟨_, _, _, _, _, _, ⟨e0, e1⟩⟩ := idx_facts t
  have ht : t.val < 16 := t.isLt
  rw [← V_main_arg6 m c]
  exact Cert.KernelIdeal.Attn.at2_to hi hj _ rfl (by show win0_6.index t (0 : Fin 2) * 1 + 1 * i = i; omega) (by show win0_6.index t (1 : Fin 2) * 1024 + 1 * j = j; omega)

theorem at2_lo {b : ℕ} {x : (⟨2, ![512, b]⟩ : Shape).Idx → EReal} {i j : ℕ} (hi : i < 256) (hj : j < b) :
    at2 (a := 256) (b := b) (Tile.lo (e := .f32) x) i j = at2 (a := 512) (b := b) x i j :=
  (at2_box x 0 256 0 b (by omega) (by omega) hi hj).trans (by rw [Nat.zero_add, Nat.zero_add])

theorem at2_hi {b : ℕ} {x : (⟨2, ![512, b]⟩ : Shape).Idx → EReal} {i j : ℕ} (hi : i < 256) (hj : j < b) :
    at2 (a := 256) (b := b) (Tile.hi (e := .f32) x) i j = at2 (a := 512) (b := b) x (256 + i) j :=
  (at2_box x 256 256 0 b (by omega) (by omega) hi hj).trans (by rw [Nat.zero_add])

theorem at2_lo16 {b : ℕ} {x : (⟨2, ![512, b]⟩ : Shape).Idx → EReal} {i j : ℕ} (hi : i < 256) (hj : j < b) :
    at2 (a := 256) (b := b) (Tile.lo (e := .bf16) x) i j = at2 (a := 512) (b := b) x i j := at2_lo hi hj

theorem at2_hi16 {b : ℕ} {x : (⟨2, ![512, b]⟩ : Shape).Idx → EReal} {i j : ℕ} (hi : i < 256) (hj : j < b) :
    at2 (a := 256) (b := b) (Tile.hi (e := .bf16) x) i j = at2 (a := 512) (b := b) x (256 + i) j := at2_hi hi hj

/-- The cotangent, the rows and the weight of the whole arrays. -/
def A (r j : ℕ) : EReal := back (m ((c : Thread nD τ).loc main_arg0)) (m ((c : Thread nD τ).loc main_arg1)) (m ((c : Thread nD τ).loc main_arg2)) (m ((c : Thread nD τ).loc main_arg3)) r j
def X (r : ℕ) : ℕ → EReal := rowOf (m ((c : Thread nD τ).loc main_arg4)) r
def D (r : ℕ) : ℕ → EReal := rowOf (m ((c : Thread nD τ).loc main_arg5)) r
def W : ℕ → EReal := weightOf (m ((c : Thread nD τ).loc main_arg6))
def T (r j : ℕ) : EReal := A m c r j * (X m c r j * inv (X m c r))

theorem a_lo (t : Fin cfg0.N) {i j : ℕ} (hi : i < 256) (hj : j < 1024) :
    at2 (a := 256) (b := 1024) (aLo (iblk m c 0 t) (iblk m c 1 t) (iblk m c 2 t) (iblk m c 3 t)) i j = A m c (512 * t.val + i) j := by
  refine (products _ _ _ _ hi hj).trans ?_
  unfold A back
  refine congrArg₂ (· + ·) (Finset.sum_congr rfl fun k hk => ?_) (Finset.sum_congr rfl fun k hk => ?_)
  · have hk := Finset.mem_range.mp hk
    exact congrArg₂ (· * ·) ((at2_lo16 hi hk).trans (block0 m c t (by omega) hk)) (block1 m c t hk hj)
  · have hk := Finset.mem_range.mp hk
    exact congrArg₂ (· * ·) ((at2_lo16 hi hk).trans (block2 m c t (by omega) hk)) (block3 m c t hk hj)

theorem x_lo (t : Fin cfg0.N) {i : ℕ} (hi : i < 256) : ∀ k < 1024,
    at2 (a := 256) (b := 1024) (Tile.lo (e := .f32) (b := 1024) (iblk m c 4 t)) i k = X m c (512 * t.val + i) k := fun k hk =>
  (at2_lo hi hk).trans (block4 m c t (by omega) hk)

theorem d_lo (t : Fin cfg0.N) {i j : ℕ} (hi : i < 256) (hj : j < 1024) :
    at2 (a := 256) (b := 1024) (dLo (iblk m c 0 t) (iblk m c 1 t) (iblk m c 2 t) (iblk m c 3 t) (iblk m c 4 t) (iblk m c 5 t) (iblk m c 6 t)) i j
      = kernelRow (X m c (512 * t.val + i)) (D m c (512 * t.val + i)) (A m c (512 * t.val + i)) (W m c) j := by
  rw [at2_pos _ hi hj]
  refine (rows_apply _ _ _ _ ⟨i, hi⟩ ⟨j, hj⟩).trans ?_
  exact kernelRow_congr (x_lo m c t hi) (fun k hk => (at2_lo hi hk).trans (block5 m c t (by omega) hk)) (fun k hk => a_lo m c t hi hk)
    (fun k hk => block6 m c t (i := 0) Nat.one_pos hk) hj

theorem sum_lo (t : Fin cfg0.N) (acc : Vec Ideal S1x1024 .f32) (j : Fin 1024) :
    (k0_pay12 (F := Ideal) (Tile.lo (e := .f32) (b := 1024) (iblk m c 4 t)) (aLo (iblk m c 0 t) (iblk m c 1 t) (iblk m c 2 t) (iblk m c 3 t)) (k0_pay7 (F := Ideal) (Tile.lo (e := .f32) (b := 1024) (iblk m c 4 t))) acc : S1x1024.Idx → EReal) (ix2 (0 : Fin 1) j)
      = acc (ix2 (0 : Fin 1) j) + ∑ i ∈ Finset.range 256, T m c (512 * t.val + i) j.val := by
  refine (sums_apply _ _ acc j).trans (congrArg (acc (ix2 (0 : Fin 1) j) + ·) (Finset.sum_congr rfl fun i hi => ?_))
  have hi := Finset.mem_range.mp hi
  unfold T
  rw [a_lo m c t hi j.isLt, x_lo m c t hi j.val j.isLt, inv_congr (x_lo m c t hi)]

theorem a_hi (t : Fin cfg0.N) {i j : ℕ} (hi : i < 256) (hj : j < 1024) :
    at2 (a := 256) (b := 1024) (aHi (iblk m c 0 t) (iblk m c 1 t) (iblk m c 2 t) (iblk m c 3 t)) i j = A m c (512 * t.val + (256 + i)) j := by
  refine (products _ _ _ _ hi hj).trans ?_
  unfold A back
  refine congrArg₂ (· + ·) (Finset.sum_congr rfl fun k hk => ?_) (Finset.sum_congr rfl fun k hk => ?_)
  · have hk := Finset.mem_range.mp hk
    exact congrArg₂ (· * ·) ((at2_hi16 hi hk).trans (block0 m c t (by omega) hk)) (block1 m c t hk hj)
  · have hk := Finset.mem_range.mp hk
    exact congrArg₂ (· * ·) ((at2_hi16 hi hk).trans (block2 m c t (by omega) hk)) (block3 m c t hk hj)

theorem x_hi (t : Fin cfg0.N) {i : ℕ} (hi : i < 256) : ∀ k < 1024,
    at2 (a := 256) (b := 1024) (Tile.hi (e := .f32) (b := 1024) (iblk m c 4 t)) i k = X m c (512 * t.val + (256 + i)) k := fun k hk =>
  (at2_hi hi hk).trans (block4 m c t (by omega) hk)

theorem d_hi (t : Fin cfg0.N) {i j : ℕ} (hi : i < 256) (hj : j < 1024) :
    at2 (a := 256) (b := 1024) (dHi (iblk m c 0 t) (iblk m c 1 t) (iblk m c 2 t) (iblk m c 3 t) (iblk m c 4 t) (iblk m c 5 t) (iblk m c 6 t)) i j
      = kernelRow (X m c (512 * t.val + (256 + i))) (D m c (512 * t.val + (256 + i))) (A m c (512 * t.val + (256 + i))) (W m c) j := by
  rw [at2_pos _ hi hj]
  refine (rows_apply _ _ _ _ ⟨i, hi⟩ ⟨j, hj⟩).trans ?_
  exact kernelRow_congr (x_hi m c t hi) (fun k hk => (at2_hi hi hk).trans (block5 m c t (by omega) hk)) (fun k hk => a_hi m c t hi hk)
    (fun k hk => block6 m c t (i := 0) Nat.one_pos hk) hj

theorem sum_hi (t : Fin cfg0.N) (acc : Vec Ideal S1x1024 .f32) (j : Fin 1024) :
    (k0_pay12 (F := Ideal) (Tile.hi (e := .f32) (b := 1024) (iblk m c 4 t)) (aHi (iblk m c 0 t) (iblk m c 1 t) (iblk m c 2 t) (iblk m c 3 t)) (k0_pay7 (F := Ideal) (Tile.hi (e := .f32) (b := 1024) (iblk m c 4 t))) acc : S1x1024.Idx → EReal) (ix2 (0 : Fin 1) j)
      = acc (ix2 (0 : Fin 1) j) + ∑ i ∈ Finset.range 256, T m c (512 * t.val + (256 + i)) j.val := by
  refine (sums_apply _ _ acc j).trans (congrArg (acc (ix2 (0 : Fin 1) j) + ·) (Finset.sum_congr rfl fun i hi => ?_))
  have hi := Finset.mem_range.mp hi
  unfold T
  rw [a_hi m c t hi j.isLt, x_hi m c t hi j.val j.isLt, inv_congr (x_hi m c t hi)]

theorem gain_apply (t : Fin cfg0.N) (acc : Vec Ideal S1x1024 .f32) (j : Fin 1024) :
    (gain (iblk m c 0 t) (iblk m c 1 t) (iblk m c 2 t) (iblk m c 3 t) (iblk m c 4 t) acc : S1x1024.Idx → EReal) (ix2 (0 : Fin 1) j)
      = acc (ix2 (0 : Fin 1) j) + ∑ i ∈ Finset.range 512, T m c (512 * t.val + i) j.val := by
  rw [Finset.sum_range_add (fun i => T m c (512 * t.val + i) j.val) 256 256, ← add_assoc, ← sum_lo m c t acc j]
  exact sum_hi m c t _ j

theorem first9 (t : Fin cfg0.N) (h0 : t.val % 16 = 0) : (outsAt0 m c t.val t.isLt).2.2 = gain (iblk m c 0 t) (iblk m c 1 t) (iblk m c 2 t) (iblk m c 3 t) (iblk m c 4 t) (k0_pay4 (F := Ideal)) := by
  rw [outsAt0_A m c t h0]
  dsimp only
  rw [out9_A]

theorem next9 (t : Fin cfg0.N) (h0 : ¬t.val % 16 = 0) : (outsAt0 m c t.val t.isLt).2.2 = gain (iblk m c 0 t) (iblk m c 1 t) (iblk m c 2 t) (iblk m c 3 t) (iblk m c 4 t) (outsAt0 m c (t.val - 1) (Nat.lt_of_le_of_lt (Nat.sub_le _ _) t.isLt)).2.2 := by
  rw [outsAt0_B m c t h0]
  dsimp only
  rw [out9_B]

/-- The weight's gradient after a point. -/
theorem weight_after : ∀ (n : ℕ) (hn : n < cfg0.N) (j : Fin 1024),
    ((outsAt0 m c n hn).2.2 : S1x1024.Idx → EReal) (ix2 (0 : Fin 1) j) = ∑ r ∈ Finset.range (512 * (n + 1)), T m c r j.val
  | 0, hn, j => by
    refine (congrFun (first9 m c ⟨0, hn⟩ (Nat.zero_mod _)) _).trans ?_
    refine (gain_apply m c ⟨0, hn⟩ _ j).trans ?_
    refine (congrArg₂ (· + ·) (Cert.KernelIdeal.Attn.ofBits_zero) (Finset.sum_congr rfl fun i _ => ?_)).trans (zero_add _)
    exact congrArg (fun r => T m c r j.val) (by show 512 * 0 + i = i; omega)
  | n + 1, hn, j => by
    have hN : n + 1 < 16 := hn
    have h0 : ¬(n + 1) % 16 = 0 := by omega
    refine (congrFun (next9 m c ⟨n + 1, hn⟩ h0) _).trans ?_
    refine (gain_apply m c ⟨n + 1, hn⟩ _ j).trans ?_
    rw [show 512 * (n + 1 + 1) = 512 * (n + 1) + 512 by omega, Finset.sum_range_add]
    exact congrArg (· + _) (weight_after n (Nat.lt_of_succ_lt hn) j)

theorem out7 (t : Fin cfg0.N) : (outsAt0 m c t.val t.isLt).1 = View.canon (Val := Elt Ideal) (both (iblk m c 0 t) (iblk m c 1 t) (iblk m c 2 t) (iblk m c 3 t) (iblk m c 4 t) (iblk m c 5 t) (iblk m c 6 t)) := by
  by_cases h0 : t.val % 16 = 0
  · rw [outsAt0_A m c t h0]
    dsimp only
    rw [out7_A]
  · rw [outsAt0_B m c t h0]
    dsimp only
    rw [out7_B]

theorem out8 (t : Fin cfg0.N) : (outsAt0 m c t.val t.isLt).2.1 = View.canon (Val := Elt Ideal) (both16 (iblk m c 0 t) (iblk m c 1 t) (iblk m c 2 t) (iblk m c 3 t) (iblk m c 4 t) (iblk m c 5 t) (iblk m c 6 t)) := by
  by_cases h0 : t.val % 16 = 0
  · rw [outsAt0_A m c t h0]
    dsimp only
    rw [out8_A]
  · rw [outsAt0_B m c t h0]
    dsimp only
    rw [out8_B]

/-- What the kernel writes at one row and column. -/
def rowAt (r j : ℕ) : EReal := kernelRow (X m c r) (D m c r) (A m c r) (W m c) j

theorem tile7 (t : Fin cfg0.N) (i : Fin 512) (j : Fin 1024) :
    (View.canon (Val := Elt Ideal) (both (iblk m c 0 t) (iblk m c 1 t) (iblk m c 2 t) (iblk m c 3 t) (iblk m c 4 t) (iblk m c 5 t) (iblk m c 6 t)) : S512x1024.Idx → EReal) (ix2 i j) = rowAt m c (512 * t.val + i.val) j.val := by
  have hi := i.isLt
  have hj := j.isLt
  refine (ix2_at2 (a := 512) (b := 1024) (View.canon (Val := Elt Ideal) (both (iblk m c 0 t) (iblk m c 1 t) (iblk m c 2 t) (iblk m c 3 t) (iblk m c 4 t) (iblk m c 5 t) (iblk m c 6 t))) i j).trans ?_
  unfold both
  rw [at2_canon_f32 _ _ _ _ _ _ _ _ hi hj]
  by_cases h : 256 ≤ i.val
  · rw [if_pos (by omega)]
    refine (d_hi m c t (by omega) (by omega)).trans ?_
    rw [show 512 * t.val + (256 + (i.val - 256)) = 512 * t.val + i.val by omega]
    rfl
  · rw [if_neg (by omega), at2_canon_f32 _ _ _ _ _ _ _ _ hi hj, if_pos (by omega)]
    exact d_lo m c t (by omega) (by omega)

theorem final7 : (dats m 0 c).arrAt 7 cfg0.N = fun i : S8192x1024.Idx => rowAt m c (i 0).val (i 1).val := by
  refine (dats m 0 c).arrAt_eq_of_covers 7 (fun i : S8192x1024.Idx => rowAt m c (i 0).val (i 1).val) (by decide +kernel) fun t hf y => ?_
  obtain ⟨⟨e0, e1⟩, _⟩ := idx_out t
  have ht : t.val < 16 := t.isLt
  rw [after0_7]
  obtain ⟨i, j, rfl⟩ : ∃ (i : Fin 512) (j : Fin 1024), y = ix2 i j := ⟨y 0, y 1, eq_ix2 (n0 := 512) (n1 := 1024) y⟩
  refine Eq.trans (congrArg ((outsAt0 m c t.val t.isLt).1) (show _ = ix2 i j from funext fun d => ?_)) ?_
  · match d with
    | ⟨0, _⟩ => rfl
    | ⟨1, _⟩ => rfl
  refine (congrFun (out7 m c t) (ix2 i j)).trans ((tile7 m c t i j).trans (congrArg₂ (rowAt m c) ?_ ?_))
  · show 512 * t.val + i.val = win0_7.index t (0 : Fin 2) * 512 + 1 * i.val
    omega
  · show j.val = win0_7.index t (1 : Fin 2) * 1024 + 1 * j.val
    omega

theorem tile8 (t : Fin cfg0.N) (i : Fin 512) (j : Fin 1024) :
    (View.canon (Val := Elt Ideal) (both16 (iblk m c 0 t) (iblk m c 1 t) (iblk m c 2 t) (iblk m c 3 t) (iblk m c 4 t) (iblk m c 5 t) (iblk m c 6 t)) : S512x1024.Idx → EReal) (ix2 i j) = rowAt m c (512 * t.val + i.val) j.val := by
  have hi := i.isLt
  have hj := j.isLt
  refine (ix2_at2 (a := 512) (b := 1024) (View.canon (Val := Elt Ideal) (both16 (iblk m c 0 t) (iblk m c 1 t) (iblk m c 2 t) (iblk m c 3 t) (iblk m c 4 t) (iblk m c 5 t) (iblk m c 6 t))) i j).trans ?_
  unfold both16
  rw [at2_canon_bf16 _ _ _ _ _ _ _ _ hi hj]
  by_cases h : 256 ≤ i.val
  · rw [if_pos (by omega)]
    refine (d_hi m c t (by omega) (by omega)).trans ?_
    rw [show 512 * t.val + (256 + (i.val - 256)) = 512 * t.val + i.val by omega]
    rfl
  · rw [if_neg (by omega), at2_canon_bf16 _ _ _ _ _ _ _ _ hi hj, if_pos (by omega)]
    exact d_lo m c t (by omega) (by omega)

theorem final8 : (dats m 0 c).arrAt 8 cfg0.N = fun i : S8192x1024.Idx => rowAt m c (i 0).val (i 1).val := by
  refine (dats m 0 c).arrAt_eq_of_covers 8 (fun i : S8192x1024.Idx => rowAt m c (i 0).val (i 1).val) (by decide +kernel) fun t hf y => ?_
  obtain ⟨_, ⟨e0, e1⟩, _⟩ := idx_out t
  have ht : t.val < 16 := t.isLt
  rw [after0_8]
  obtain ⟨i, j, rfl⟩ : ∃ (i : Fin 512) (j : Fin 1024), y = ix2 i j := ⟨y 0, y 1, eq_ix2 (n0 := 512) (n1 := 1024) y⟩
  refine Eq.trans (congrArg ((outsAt0 m c t.val t.isLt).2.1) (show _ = ix2 i j from funext fun d => ?_)) ?_
  · match d with
    | ⟨0, _⟩ => rfl
    | ⟨1, _⟩ => rfl
  refine (congrFun (out8 m c t) (ix2 i j)).trans ((tile8 m c t i j).trans (congrArg₂ (rowAt m c) ?_ ?_))
  · show 512 * t.val + i.val = win0_8.index t (0 : Fin 2) * 512 + 1 * i.val
    omega
  · show j.val = win0_8.index t (1 : Fin 2) * 1024 + 1 * j.val
    omega

theorem last : ∀ t : Fin cfg0.N, (cfg0.win 9).flush t = true → t.val = 15 := (by decide +kernel : ∀ t : Fin grid0.N, _)

/-- The weight's gradient. -/
def total (j : ℕ) : EReal := ∑ r ∈ Finset.range 8192, T m c r j

theorem final9 : (dats m 0 c).arrAt 9 cfg0.N = fun i : S1x1024.Idx => total m c (i 1).val := by
  refine (dats m 0 c).arrAt_eq_of_covers 9 (fun i : S1x1024.Idx => total m c (i 1).val) (by decide +kernel) fun t hf y => ?_
  obtain ⟨_, _, ⟨e0, e1⟩⟩ := idx_out t
  have ht := last t hf
  rw [after0_9]
  obtain ⟨i, j, rfl⟩ : ∃ (i : Fin 1) (j : Fin 1024), y = ix2 i j := ⟨y 0, y 1, eq_ix2 (n0 := 1) (n1 := 1024) y⟩
  obtain rfl : i = 0 := Subsingleton.elim _ _
  refine Eq.trans (congrArg ((outsAt0 m c t.val t.isLt).2.2) (show _ = ix2 (0 : Fin 1) j from funext fun d => ?_)) ?_
  · match d with
    | ⟨0, _⟩ => rfl
    | ⟨1, _⟩ => rfl
  refine (weight_after m c t.val t.isLt j).trans ?_
  rw [ht]
  refine congrArg (total m c) ?_
  show j.val = win0_9.index t (1 : Fin 2) * 1024 + 1 * j.val
  omega

end Cert.NormKernelIdeal.Whole

end
-- ==== Proof.Ffn.NormPlain.lean ====
/-
  The gradient through the norm as the plain program writes it, read row by row.
-/
module

public import proofs.«01_k».proof.Proof.Ffn.NormWhole

@[expose] public section

noncomputable section

namespace Cert.NormReferenceIdeal.Plain

open Cert.NormReferenceIdeal Cert.NormReferenceIdeal.Gen Cert.NormReferenceIdeal.Read Idealize.ShloMosaic Idealize.ShloMosaic.ValueIdx
open Cert.KernelIdeal.Attn (at2 at2_pos ix2_at2 idx_at2 ofBits_zero)
open Cert.NormKernelIdeal.Whole (back rowOf weightOf term)
open Cert.Row (IsReal)
open Cert.NormRow
open scoped BigOperators

variable (x0 x1 : (⟨S8192x2816, .bf16⟩ : BufTy).Contents (Elt Ideal)) (x2 x3 : (⟨S2816x1024, .bf16⟩ : BufTy).Contents (Elt Ideal))
  (x4 x5 : (⟨S8192x1024, .f32⟩ : BufTy).Contents (Elt Ideal)) (x6 : (⟨S1x1024, .f32⟩ : BufTy).Contents (Elt Ideal))

theorem up_eq (i : S8192x1024.Idx) : (val_main_v23 (F := Ideal) x1 x3 i : EReal)
    = ∑ k ∈ Finset.range 2816, at2 (a := 8192) (b := 2816) x1 (i 0).val k * at2 (a := 2816) (b := 1024) x3 k (i 1).val := by
  rw [val_main_v23_apply, Finset.sum_range]
  refine Finset.sum_congr rfl fun k _ => ?_
  rw [val_main_v19_apply]
  refine congrArg₂ (· * ·) ?_ ?_
  · exact idx_at2 (a := 8192) (b := 2816) x1 _
  · exact idx_at2 (a := 2816) (b := 1024) x3 _

theorem gate_eq (i : S8192x1024.Idx) : (val_main_v24 (F := Ideal) x0 x2 i : EReal)
    = ∑ k ∈ Finset.range 2816, at2 (a := 8192) (b := 2816) x0 (i 0).val k * at2 (a := 2816) (b := 1024) x2 k (i 1).val := by
  rw [val_main_v24_apply, Finset.sum_range]
  refine Finset.sum_congr rfl fun k _ => ?_
  rw [val_main_v16_apply]
  refine congrArg₂ (· * ·) ?_ ?_
  · exact idx_at2 (a := 8192) (b := 2816) x0 _
  · exact idx_at2 (a := 2816) (b := 1024) x2 _

theorem back_eq (i : S8192x1024.Idx) : (val_main_v25 (F := Ideal) x0 x1 x2 x3 i : EReal) = back x0 x1 x2 x3 (i 0).val (i 1).val := by
  unfold back
  rw [add_comm, ← up_eq, ← gate_eq]
  rfl

theorem first_zero {s : Shape} (x : s.Idx → EReal) (h : ∀ i, x i = Ideal.ofBits .f32 0x00000000#32) (i : s.Idx) (y : EReal) : x i + y = y := by
  rw [h, ofBits_zero, zero_add]

theorem meanSq_eq (i : S8192x1.Idx) : (val_main_v6 (F := Ideal) x4 i : EReal) = meanSq (rowOf x4 (i 0).val) := by
  have e : (val_main_v2 (F := Ideal) x4 i : EReal) = ∑ k ∈ Finset.range 1024, rowOf x4 (i 0).val k * rowOf x4 (i 0).val k := by
    rw [val_main_v2_apply, val_main_v1_apply, Finset.sum_range]
    refine (first_zero (val_main_cst (F := Ideal)) (fun _ => rfl) _ _).trans (Finset.sum_congr rfl fun k _ => ?_)
    refine (val_main_v0_apply x4 _).trans ?_
    exact congrArg₂ (· * ·) (idx_at2 (a := 8192) (b := 1024) x4 _) (idx_at2 (a := 8192) (b := 1024) x4 _)
  unfold meanSq
  rw [← e]
  rfl

theorem inv_eq (i : S8192x1.Idx) : (val_main_v7 (F := Ideal) x4 i : EReal) = inv (rowOf x4 (i 0).val) :=
  congrArg Ideal.rsqrt (meanSq_eq x4 i)

theorem weight_eq (i : S8192x1024.Idx) : (val_main_v29 (F := Ideal) x6 i : EReal) = weightOf x6 (i 1).val := by
  rw [val_main_v29_apply]
  exact idx_at2 (a := 1) (b := 1024) x6 _

theorem unit_eq (i : S8192x1024.Idx) : (val_main_v12 (F := Ideal) x4 i : EReal) = rowOf x4 (i 0).val (i 1).val * inv (rowOf x4 (i 0).val) := by
  refine (val_main_v12_apply x4 i).trans ?_
  rw [val_main_v11_apply]
  exact congrArg₂ (fun p q : EReal => p * q) (idx_at2 (a := 8192) (b := 1024) x4 i) (inv_eq x4 _)

/-- The weight's gradient. -/
theorem sums_eq (i : S1x1024.Idx) : (val_main_v28 (F := Ideal) x0 x1 x2 x3 x4 i : EReal) = ∑ r ∈ Finset.range 8192, term x4 x0 x1 x2 x3 r (i 1).val := by
  rw [val_main_v28_apply, val_main_v27_apply, Finset.sum_range]
  refine (first_zero (val_main_cst_3 (F := Ideal)) (fun _ => rfl) _ _).trans (Finset.sum_congr rfl fun k _ => ?_)
  refine (val_main_v26_apply x0 x1 x2 x3 x4 _).trans ?_
  unfold term
  rw [mul_comm (back _ _ _ _ _ _)]
  refine (congrArg₂ (fun p q : EReal => p * q) (unit_eq x4 (idx_main_v27 (idx_main_v28 i) k)) (back_eq x0 x1 x2 x3 (idx_main_v27 (idx_main_v28 i) k))).trans ?_
  have h0 : (i 0).val < 1 := (i 0).isLt
  exact congrArg (fun s : ℕ => rowOf x4 k.val s * inv (rowOf x4 k.val) * back x0 x1 x2 x3 k.val s) (by omega : (i 0).val * 1024 + (i 1).val = (i 1).val)

theorem bySq_eq (i : S8192x1024.Idx) : (val_main_v41 (F := Ideal) x0 x1 x2 x3 x4 x6 i : EReal)
    = bySq (rowOf x4 (i 0).val) (back x0 x1 x2 x3 (i 0).val) (weightOf x6) := by
  rw [val_main_v41_apply, val_main_v40_apply]
  refine (first_zero (val_main_cst_6 (F := Ideal)) (fun _ => rfl) _ _).trans ?_
  rw [Fin.sum_univ_one]
  have e (j : S8192x1.Idx) : (val_main_v33 (F := Ideal) x0 x1 x2 x3 x4 x6 j : EReal)
      = ∑ k ∈ Finset.range 1024, rowOf x4 (j 0).val k * (back x0 x1 x2 x3 (j 0).val k * weightOf x6 k) := by
    rw [val_main_v33_apply, val_main_v32_apply, Finset.sum_range]
    refine (first_zero (val_main_cst_4 (F := Ideal)) (fun _ => rfl) _ _).trans (Finset.sum_congr rfl fun k _ => ?_)
    refine (val_main_v31_apply x0 x1 x2 x3 x4 x6 _).trans ?_
    refine (congrArg₂ (fun p q : EReal => p * q) (idx_at2 (a := 8192) (b := 1024) x4 (idx_main_v32 (idx_main_v33 j) k))
      (congrArg₂ (fun p q : EReal => p * q) (back_eq x0 x1 x2 x3 (idx_main_v32 (idx_main_v33 j) k)) (weight_eq x6 (idx_main_v32 (idx_main_v33 j) k)))).trans ?_
    have h1 : (j 1).val < 1 := (j 1).isLt
    exact congrArg (fun s : ℕ => rowOf x4 s k.val * (back x0 x1 x2 x3 s k.val * weightOf x6 k.val)) (by omega : (j 0).val * 1 + (j 1).val = (j 0).val)
  have f (j : S8192x1.Idx) : (val_main_v39 (F := Ideal) x0 x1 x2 x3 x4 x6 j : EReal) = bySq (rowOf x4 (j 0).val) (back x0 x1 x2 x3 (j 0).val) (weightOf x6) := by
    unfold bySq
    rw [← e, ← inv_eq, ← meanSq_eq]
    rfl
  exact f _

theorem rows_eq (i : S8192x1024.Idx) : (val_main_v45 (F := Ideal) x0 x1 x2 x3 x4 x5 x6 i : EReal)
    = plainRow (rowOf x4 (i 0).val) (rowOf x5 (i 0).val) (back x0 x1 x2 x3 (i 0).val) (weightOf x6) (i 1).val := by
  have hi : (val_main_v34 (F := Ideal) x4 i : EReal) = inv (rowOf x4 (i 0).val) := by
    rw [val_main_v34_apply]
    exact inv_eq x4 _
  unfold plainRow
  rw [← bySq_eq, ← hi, ← weight_eq x6 i, ← back_eq x0 x1 x2 x3 i]
  refine Eq.trans ?_ (congrArg₂ (fun p q : EReal => p + (val_main_v25 (F := Ideal) x0 x1 x2 x3 i : EReal) * (val_main_v29 (F := Ideal) x6 i : EReal) * (val_main_v34 (F := Ideal) x4 i : EReal)
      + q * (val_main_v41 (F := Ideal) x0 x1 x2 x3 x4 x6 i : EReal) + (val_main_v41 (F := Ideal) x0 x1 x2 x3 x4 x6 i : EReal) * q)
    (idx_at2 (a := 8192) (b := 1024) x5 i) (idx_at2 (a := 8192) (b := 1024) x4 i))
  rfl

/-- The kernel's rows are the plain program's. -/
theorem rows_same (i : S8192x1024.Idx) :
    kernelRow (rowOf x4 (i 0).val) (rowOf x5 (i 0).val) (back x0 x1 x2 x3 (i 0).val) (weightOf x6) (i 1).val = val_main_v45 (F := Ideal) x0 x1 x2 x3 x4 x5 x6 i := by
  rw [rows_eq]
  exact row _ _ _ _ (i 1).isLt

end Cert.NormReferenceIdeal.Plain

end
-- ==== Proof.Ffn.NormClaims.lean ====
/-
  The claims of the gradient through the norm before the feed-forward layer.
-/
module

public import proofs.«01_k».proof.Defs
public import proofs.«01_k».proof.Proof.Gen.NormKernel
public import proofs.«01_k».proof.Proof.Gen.NormKernelIdeal
public import proofs.«01_k».proof.Proof.Gen.NormReferenceIdeal
public import proofs.«01_k».proof.Proof.Gen.NormReferenceIdeal.Run
public import proofs.«01_k».proof.Proof.Ffn.NormPlain
public import Idealize.ShloMosaic.Lib.Quiescent
public import Idealize.ShloMosaic.Adequacy
public import Idealize.ShloMosaic.Init

@[expose] public section

noncomputable section

namespace Cert.NormClaims

open Idealize.ShloMosaic Idealize.SL.Sem
open Idealize.ShloMosaic.TcCoe
open Cert.NormKernelIdeal (cfg0 nD τ sig main_arg0 main_arg1 main_arg2 main_arg3 main_arg4 main_arg5 main_arg6)
open Cert.NormKernelIdeal.Gen Cert.NormKernelIdeal.Value

attribute [local instance] Cert.NormKernel.Gen.facts Cert.NormKernelIdeal.Gen.facts Cert.NormReferenceIdeal.Gen.facts

/-- The plain program has no semaphores; its run leaves its arguments as they were. -/
theorem frame_reference : Cert.quiescent_NormReferenceIdeal := fun m g _ =>
  (θ_run _ _ _).monotone (fun r h => ⟨fun c => (h c).2.2.2, sem_eq_zero_of_no_sems (by decide) r.2⟩) (Cert.NormReferenceIdeal.Value.run m g)

variable (m : (ℓ : Loc nD τ sig) → Buf (Elt Ideal) ℓ) (c : Dev nD)

theorem rows :
    Cert.NormReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = (dats m 0 c).arrAt 7 cfg0.N := by
  rw [Cert.NormKernelIdeal.Whole.final7]
  funext i
  exact (Cert.NormReferenceIdeal.Plain.rows_same _ _ _ _ _ _ _ i).symm

theorem rows16 :
    Cert.NormReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = (dats m 0 c).arrAt 8 cfg0.N := by
  rw [Cert.NormKernelIdeal.Whole.final8]
  funext i
  exact (Cert.NormReferenceIdeal.Plain.rows_same _ _ _ _ _ _ _ i).symm

theorem sums :
    Cert.NormReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 9 cfg0.N := by
  rw [Cert.NormKernelIdeal.Whole.final9]
  funext i
  exact Cert.NormReferenceIdeal.Plain.sums_eq _ _ _ _ _ i

theorem value : Cert.algebraic_NormKernelIdeal_NormReferenceIdeal := by
  intro m g m' g' _ ha
  refine ⟨fun c => (dats m 0 c).arrAt 7 cfg0.N, fun c => (dats m 0 c).arrAt 8 cfg0.N, fun c => (dats m 0 c).arrAt 9 cfg0.N, run_blocks m g, ?_⟩
  refine (θ_run _ _ _).monotone (fun r h c => ?_) (Cert.NormReferenceIdeal.Value.run m' g')
  obtain ⟨a0, a1, a2, a3, a4, a5, a6⟩ := ha c
  obtain ⟨h0, h1, h2, h3⟩ := h c
  rw [Cert.NormReferenceIdeal.Read.val_main_v45_eq, a0, a1, a2, a3, a4, a5, a6] at h0
  rw [Cert.NormReferenceIdeal.Read.val_main_v46_eq, a0, a1, a2, a3, a4, a5, a6] at h1
  rw [Cert.NormReferenceIdeal.Read.val_main_v28_eq, a0, a1, a2, a3, a4] at h2
  exact ⟨h0.trans (rows m c), h1.trans (rows16 m c), h2.trans (sums m c), h3⟩

end Cert.NormClaims

end
-- ==== Proof.Ffn.GateWeight.lean ====
/-
  The gradient of the gate projection: the grid's inner axis walks four spans of 2048 tokens and adds their products to an
  accumulator, so that the last of a run leaves the sum over all 8192 tokens.
-/
module

public import proofs.«01_k».proof.Proof.Attn.Read
public import proofs.«01_k».proof.Proof.Gen.GateWeightKernelIdeal.Value
public import proofs.«01_k».proof.Proof.Gen.GateWeightReferenceIdeal.Read
public import Idealize.ShloMosaic.Lib.Pipeline.ValueKit.Acc
public import Idealize.ShloMosaic.Lib.Pipeline.ValueKit.Geometry

@[expose] public section

noncomputable section

namespace Cert.GateWeightKernelIdeal.Sum

open Cert.GateWeightKernelIdeal Cert.GateWeightKernelIdeal.Gen Idealize.ShloMosaic Idealize.ShloMosaic.TcCoe Idealize.ShloMosaic.ValueIdx
open Cert.KernelIdeal.Attn (at2 at2_pos at2_tn ix2_at2)
open scoped BigOperators

theorem idx_facts : ∀ t : Fin cfg0.N,
    (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, _)

theorem flush_last : ∀ t : Fin cfg0.N, (cfg0.win 2).flush t = true → t.val % 4 = 3 := (by decide +kernel : ∀ t : Fin grid0.N, _)

variable (m : (ℓ : Loc nD τ sig) → Buf (Elt Ideal) ℓ) (c : Dev nD)

/-- The two arguments at two naturals. -/
abbrev cots : ℕ → ℕ → EReal := at2 (a := 8192) (b := 2816) (m ((c : Thread nD τ).loc main_arg0))
abbrev rows : ℕ → ℕ → EReal := at2 (a := 8192) (b := 1024) (m ((c : Thread nD τ).loc main_arg1))

/-- The cotangents' block. -/
theorem cot_block (t : Fin cfg0.N) {i j : ℕ} (hi : i < 2048) (hj : j < 1408) :
    at2 (a := 2048) (b := 1408) (iblk m c 0 t) i j
      = cots m c (2048 * (t.val % 4) + i) (1408 * (t.val / 4) + j) := by
  obtain ⟨⟨e0, e1⟩, _⟩ := idx_facts t
  have ht : t.val < 8 := t.isLt
  rw [cots, ← V_main_arg0 m c]
  exact Cert.KernelIdeal.Attn.at2_to hi hj _ rfl (by show win0_0.index t (0 : Fin 2) * 2048 + 1 * i = 2048 * (t.val % 4) + i; omega) (by show win0_0.index t (1 : Fin 2) * 1408 + 1 * j = 1408 * (t.val / 4) + j; omega)

/-- The rows' block. -/
theorem row_block (t : Fin cfg0.N) {i j : ℕ} (hi : i < 2048) (hj : j < 1024) :
    at2 (a := 2048) (b := 1024) (iblk m c 1 t) i j
      = rows m c (2048 * (t.val % 4) + i) j := by
  obtain ⟨_, ⟨e0, e1⟩, _⟩ := idx_facts t
  have ht : t.val < 8 := t.isLt
  rw [rows, ← V_main_arg1 m c]
  exact Cert.KernelIdeal.Attn.at2_to hi hj _ rfl (by show win0_1.index t (0 : Fin 2) * 2048 + 1 * i = 2048 * (t.val % 4) + i; omega) (by show win0_1.index t (1 : Fin 2) * 1024 + 1 * j = j; omega)

/-- One span's product. -/
theorem pay_apply (x0 : Vec Ideal S2048x1408 .bf16) (x1 : Vec Ideal S2048x1024 .bf16) {i j : ℕ} (hi : i < 1408) (hj : j < 1024) :
    at2 (a := 1408) (b := 1024) (k0_pay1 (F := Ideal) x0 x1) i j
      = ∑ k ∈ Finset.range 2048, at2 (a := 2048) (b := 1408) x0 k i * at2 (a := 2048) (b := 1024) x1 k j :=
  at2_tn (M := 1408) (K := 2048) (N := 1024) x0 x1 hi hj

theorem pay3_apply (x0 : Vec Ideal S2048x1408 .bf16) (x1 : Vec Ideal S2048x1024 .bf16) (acc : Vec Ideal S1408x1024 .f32) {i j : ℕ}
    (hi : i < 1408) (hj : j < 1024) :
    at2 (a := 1408) (b := 1024) (k0_pay3 (F := Ideal) x0 x1 acc) i j
      = at2 (a := 1408) (b := 1024) acc i j + at2 (a := 1408) (b := 1024) (k0_pay1 (F := Ideal) x0 x1) i j := by
  have e : k0_pay3 (F := Ideal) x0 x1 acc = addf acc (k0_pay1 x0 x1) := shapeCast_self _ _
  rw [e, at2_pos _ hi hj, at2_pos _ hi hj, at2_pos _ hi hj]
  rfl

/-- What the accumulator gains at one point. -/
theorem gain (t : Fin cfg0.N) {i j : ℕ} (hi : i < 1408) (hj : j < 1024) :
    at2 (a := 1408) (b := 1024) (k0_pay1 (F := Ideal) (iblk m c 0 t) (iblk m c 1 t)) i j
      = ∑ k ∈ Finset.range 2048, cots m c (2048 * (t.val % 4) + k) (1408 * (t.val / 4) + i)
          * rows m c (2048 * (t.val % 4) + k) j := by
  rw [pay_apply _ _ hi hj]
  refine Finset.sum_congr rfl fun k hk => ?_
  have hk := Finset.mem_range.mp hk
  rw [cot_block m c t hk hi, row_block m c t hk hj]

/-- The accumulator after a point: the sum over the spans so far. -/
theorem accumulated (a : ℕ) (ha : a < 2) {i j : ℕ} (hi : i < 1408) (hj : j < 1024) : ∀ (p : ℕ) (hp : p < 4) (h : 4 * a + p < cfg0.N),
    at2 (a := 1408) (b := 1024) (outsAt0 m c (4 * a + p) h).2 i j
      = ∑ k ∈ Finset.range (2048 * (p + 1)), cots m c k (1408 * a + i)
          * rows m c k j
  | 0, hp, h => by
    have e : (outsAt0 m c (4 * a + 0) h).2 = k0_pay1 (F := Ideal) (iblk m c 0 ⟨4 * a + 0, h⟩) (iblk m c 1 ⟨4 * a + 0, h⟩) := by
      rw [outsAt0_A m c ⟨4 * a + 0, h⟩ (by show (4 * a + 0) % 4 = 0; omega) (by show ¬1 ≤ (4 * a + 0) % 4; omega) (by show ¬(4 * a + 0) % 4 = 3; omega)]
      frame_out
      exact shapeCast_self _ _
    rw [e, gain m c _ hi hj]
    refine Finset.sum_congr rfl fun k _ => ?_
    rw [show 2048 * ((4 * a + 0) % 4) + k = k by omega, show (4 * a + 0) / 4 = a by omega]
  | p + 1, hp, h => by
    have h' : 4 * a + p < cfg0.N := by omega
    have e : (outsAt0 m c (4 * a + (p + 1)) h).2
        = k0_pay3 (F := Ideal) (iblk m c 0 ⟨4 * a + (p + 1), h⟩) (iblk m c 1 ⟨4 * a + (p + 1), h⟩) (outsAt0 m c (4 * a + p) h').2 := by
      by_cases hl : p = 2
      · rw [outsAt0_C m c ⟨4 * a + (p + 1), h⟩ (by show ¬(4 * a + (p + 1)) % 4 = 0; omega) (by show 1 ≤ (4 * a + (p + 1)) % 4; omega) (by show (4 * a + (p + 1)) % 4 = 3; omega)]
        frame_out
        exact congrArg (k0_pay3 _ _) ((Memref.isWhole_whole cc0_scratch0).read_unread _)
      · rw [outsAt0_B m c ⟨4 * a + (p + 1), h⟩ (by show ¬(4 * a + (p + 1)) % 4 = 0; omega) (by show 1 ≤ (4 * a + (p + 1)) % 4; omega) (by show ¬(4 * a + (p + 1)) % 4 = 3; omega)]
        frame_out
        exact congrArg (k0_pay3 _ _) ((Memref.isWhole_whole cc0_scratch0).read_unread _)
    rw [e, pay3_apply _ _ _ hi hj, accumulated a ha hi hj p (by omega) h', gain m c _ hi hj,
      show 2048 * (p + 1 + 1) = 2048 * (p + 1) + 2048 by omega, Finset.sum_range_add]
    refine congrArg (_ + ·) (Finset.sum_congr rfl fun k _ => ?_)
    rw [show (4 * a + (p + 1)) % 4 = p + 1 by omega, show (4 * a + (p + 1)) / 4 = a by omega]

/-- What the last point of a run writes back. -/
theorem written (a : ℕ) (ha : a < 2) (h : 4 * a + 3 < cfg0.N) :
    ((outsAt0 m c (4 * a + 3) h).1 : S1408x1024.Idx → EReal) = (outsAt0 m c (4 * a + 3) h).2 := by
  rw [outsAt0_C m c ⟨4 * a + 3, h⟩ (by show ¬(4 * a + 3) % 4 = 0; omega) (by show 1 ≤ (4 * a + 3) % 4; omega) (by show (4 * a + 3) % 4 = 3; omega)]
  frame_out
  rfl

/-- The product of the transposed cotangents and the rows. -/
def grad (r s : ℕ) : EReal :=
  ∑ k ∈ Finset.range 8192, cots m c k r * rows m c k s

theorem final : (dats m 0 c).arrAt 2 cfg0.N = fun i : S2816x1024.Idx => grad m c (i 0).val (i 1).val := by
  refine (dats m 0 c).arrAt_eq_of_covers 2 (fun i : S2816x1024.Idx => grad m c (i 0).val (i 1).val) (by decide +kernel) fun t hf y => ?_
  obtain ⟨_, _, e0, e1⟩ := idx_facts t
  have hl := flush_last t hf
  have ht : t.val < 8 := t.isLt
  obtain ⟨a, hta⟩ : ∃ a, t.val = 4 * a + 3 := ⟨t.val / 4, by omega⟩
  have hb : 4 * a + 3 < cfg0.N := hta ▸ t.isLt
  obtain rfl : t = ⟨4 * a + 3, hb⟩ := Fin.ext hta
  rw [after0_2]
  have hy0 : (y 0).val < 1408 := (y 0).isLt
  have hy1 : (y 1).val < 1024 := (y 1).isLt
  have h := accumulated m c a (by omega) hy0 hy1 3 (by omega) hb
  rw [← written m c a (by omega) hb, at2_pos _ hy0 hy1] at h
  refine Eq.trans (Eq.trans ?_ h) ?_
  · refine congrArg (outsAt0 m c (4 * a + 3) hb).1 (funext fun d => ?_)
    match d with
    | ⟨0, _⟩ => rfl
    | ⟨1, _⟩ => rfl
  · have e0 : win0_2.index ⟨4 * a + 3, hb⟩ (0 : Fin 2) = (4 * a + 3) / 4 := e0
    refine congrArg₂ (grad m c) ?_ ?_
    · show _ = win0_2.index ⟨4 * a + 3, hb⟩ (0 : Fin 2) * 1408 + 1 * (y 0).val
      omega
    · show _ = win0_2.index ⟨4 * a + 3, hb⟩ (1 : Fin 2) * 1024 + 1 * (y 1).val
      omega

end Cert.GateWeightKernelIdeal.Sum

namespace Cert.GateWeightReferenceIdeal.Sum

open Cert.GateWeightReferenceIdeal Cert.GateWeightReferenceIdeal.Gen Cert.GateWeightReferenceIdeal.Read Idealize.ShloMosaic Idealize.ShloMosaic.ValueIdx
open Cert.KernelIdeal.Attn (at2 at2_pos ix2_at2 idx_at2)
open scoped BigOperators

/-- The plain program's result is the same sum. -/
theorem plain (x0 : (⟨S8192x2816, .bf16⟩ : BufTy).Contents (Elt Ideal)) (x1 : (⟨S8192x1024, .bf16⟩ : BufTy).Contents (Elt Ideal)) (i : S2816x1024.Idx) :
    val_main_v8 (F := Ideal) x0 x1 i
      = ∑ k ∈ Finset.range 8192, at2 (a := 8192) (b := 2816) x0 k (i 0).val * at2 (a := 8192) (b := 1024) x1 k (i 1).val := by
  rw [val_main_v8_apply]
  refine Eq.trans (val_main_v7_apply (F := Ideal) x0 x1 i) ?_
  rw [val_main_v6_apply, val_main_v5_apply, Finset.sum_range]
  refine Finset.sum_congr rfl fun k _ => ?_
  refine congrArg₂ (· * ·) ?_ ?_
  · exact idx_at2 (a := 8192) (b := 2816) x0 _
  · exact idx_at2 (a := 8192) (b := 1024) x1 _

end Cert.GateWeightReferenceIdeal.Sum

end
-- ==== Proof.Ffn.GateWeightClaims.lean ====
/-
  The claims of the product for the gradient of the gate projection.
-/
module

public import proofs.«01_k».proof.Defs
public import proofs.«01_k».proof.Proof.Gen.GateWeightKernel
public import proofs.«01_k».proof.Proof.Gen.GateWeightKernelIdeal
public import proofs.«01_k».proof.Proof.Gen.GateWeightReferenceIdeal
public import proofs.«01_k».proof.Proof.Gen.GateWeightReferenceIdeal.Run
public import proofs.«01_k».proof.Proof.Ffn.GateWeight
public import Idealize.ShloMosaic.Lib.Quiescent
public import Idealize.ShloMosaic.Adequacy
public import Idealize.ShloMosaic.Init

@[expose] public section

noncomputable section

namespace Cert.GateWeightClaims

open Idealize.ShloMosaic Idealize.SL.Sem
open Idealize.ShloMosaic.TcCoe
open Cert.GateWeightKernelIdeal (cfg0 nD τ sig main_arg0 main_arg1)
open Cert.GateWeightKernelIdeal.Gen Cert.GateWeightKernelIdeal.Value

attribute [local instance] Cert.GateWeightKernel.Gen.facts Cert.GateWeightKernelIdeal.Gen.facts Cert.GateWeightReferenceIdeal.Gen.facts

/-- The plain program has no semaphores; its run leaves its arguments as they were. -/
theorem frame_reference : Cert.quiescent_GateWeightReferenceIdeal := fun m g _ =>
  (θ_run _ _ _).monotone (fun r h => ⟨fun c => (h c).2, sem_eq_zero_of_no_sems (by decide) r.2⟩) (Cert.GateWeightReferenceIdeal.Value.run m g)

variable (m : (ℓ : Loc nD τ sig) → Buf (Elt Ideal) ℓ) (c : Dev nD)

theorem sum :
    Cert.GateWeightReferenceIdeal.Read.val_main_v8 (F := Ideal) (m ((c : Thread nD τ).loc main_arg0)) (m ((c : Thread nD τ).loc main_arg1)) = (dats m 0 c).arrAt 2 cfg0.N := by
  rw [Cert.GateWeightKernelIdeal.Sum.final]
  funext i
  exact Cert.GateWeightReferenceIdeal.Sum.plain _ _ i

theorem value : Cert.algebraic_GateWeightKernelIdeal_GateWeightReferenceIdeal := by
  intro m g m' g' _ ha
  refine ⟨fun c => (dats m 0 c).arrAt 2 cfg0.N, run_blocks m g, ?_⟩
  refine (θ_run _ _ _).monotone (fun r h c => ?_) (Cert.GateWeightReferenceIdeal.Value.run m' g')
  obtain ⟨a0, a1⟩ := ha c
  obtain ⟨h0, h1⟩ := h c
  rw [Cert.GateWeightReferenceIdeal.Read.val_main_v8_eq, a0, a1] at h0
  exact ⟨h0.trans (sum m c), h1⟩

end Cert.GateWeightClaims

end
-- ==== Proof.Ffn.UpWeight.lean ====
/-
  The gradient of the up projection: the grid's inner axis walks four spans of 2048 tokens and adds their products to an
  accumulator, so that the last of a run leaves the sum over all 8192 tokens.
-/
module

public import proofs.«01_k».proof.Proof.Attn.Read
public import proofs.«01_k».proof.Proof.Gen.UpWeightKernelIdeal.Value
public import proofs.«01_k».proof.Proof.Gen.UpWeightReferenceIdeal.Read
public import Idealize.ShloMosaic.Lib.Pipeline.ValueKit.Acc
public import Idealize.ShloMosaic.Lib.Pipeline.ValueKit.Geometry

@[expose] public section

noncomputable section

namespace Cert.UpWeightKernelIdeal.Sum

open Cert.UpWeightKernelIdeal Cert.UpWeightKernelIdeal.Gen Idealize.ShloMosaic Idealize.ShloMosaic.TcCoe Idealize.ShloMosaic.ValueIdx
open Cert.KernelIdeal.Attn (at2 at2_pos at2_tn ix2_at2)
open scoped BigOperators

theorem idx_facts : ∀ t : Fin cfg0.N,
    (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, _)

theorem flush_last : ∀ t : Fin cfg0.N, (cfg0.win 2).flush t = true → t.val % 4 = 3 := (by decide +kernel : ∀ t : Fin grid0.N, _)

variable (m : (ℓ : Loc nD τ sig) → Buf (Elt Ideal) ℓ) (c : Dev nD)

/-- The two arguments at two naturals. -/
abbrev cots : ℕ → ℕ → EReal := at2 (a := 8192) (b := 2816) (m ((c : Thread nD τ).loc main_arg0))
abbrev rows : ℕ → ℕ → EReal := at2 (a := 8192) (b := 1024) (m ((c : Thread nD τ).loc main_arg1))

/-- The cotangents' block. -/
theorem cot_block (t : Fin cfg0.N) {i j : ℕ} (hi : i < 2048) (hj : j < 1408) :
    at2 (a := 2048) (b := 1408) (iblk m c 0 t) i j
      = cots m c (2048 * (t.val % 4) + i) (1408 * (t.val / 4) + j) := by
  obtain ⟨⟨e0, e1⟩, _⟩ := idx_facts t
  have ht : t.val < 8 := t.isLt
  rw [cots, ← V_main_arg0 m c]
  exact Cert.KernelIdeal.Attn.at2_to hi hj _ rfl (by show win0_0.index t (0 : Fin 2) * 2048 + 1 * i = 2048 * (t.val % 4) + i; omega) (by show win0_0.index t (1 : Fin 2) * 1408 + 1 * j = 1408 * (t.val / 4) + j; omega)

/-- The rows' block. -/
theorem row_block (t : Fin cfg0.N) {i j : ℕ} (hi : i < 2048) (hj : j < 1024) :
    at2 (a := 2048) (b := 1024) (iblk m c 1 t) i j
      = rows m c (2048 * (t.val % 4) + i) j := by
  obtain ⟨_, ⟨e0, e1⟩, _⟩ := idx_facts t
  have ht : t.val < 8 := t.isLt
  rw [rows, ← V_main_arg1 m c]
  exact Cert.KernelIdeal.Attn.at2_to hi hj _ rfl (by show win0_1.index t (0 : Fin 2) * 2048 + 1 * i = 2048 * (t.val % 4) + i; omega) (by show win0_1.index t (1 : Fin 2) * 1024 + 1 * j = j; omega)

/-- One span's product. -/
theorem pay_apply (x0 : Vec Ideal S2048x1408 .bf16) (x1 : Vec Ideal S2048x1024 .bf16) {i j : ℕ} (hi : i < 1408) (hj : j < 1024) :
    at2 (a := 1408) (b := 1024) (k0_pay1 (F := Ideal) x0 x1) i j
      = ∑ k ∈ Finset.range 2048, at2 (a := 2048) (b := 1408) x0 k i * at2 (a := 2048) (b := 1024) x1 k j :=
  at2_tn (M := 1408) (K := 2048) (N := 1024) x0 x1 hi hj

theorem pay3_apply (x0 : Vec Ideal S2048x1408 .bf16) (x1 : Vec Ideal S2048x1024 .bf16) (acc : Vec Ideal S1408x1024 .f32) {i j : ℕ}
    (hi : i < 1408) (hj : j < 1024) :
    at2 (a := 1408) (b := 1024) (k0_pay3 (F := Ideal) x0 x1 acc) i j
      = at2 (a := 1408) (b := 1024) acc i j + at2 (a := 1408) (b := 1024) (k0_pay1 (F := Ideal) x0 x1) i j := by
  have e : k0_pay3 (F := Ideal) x0 x1 acc = addf acc (k0_pay1 x0 x1) := shapeCast_self _ _
  rw [e, at2_pos _ hi hj, at2_pos _ hi hj, at2_pos _ hi hj]
  rfl

/-- What the accumulator gains at one point. -/
theorem gain (t : Fin cfg0.N) {i j : ℕ} (hi : i < 1408) (hj : j < 1024) :
    at2 (a := 1408) (b := 1024) (k0_pay1 (F := Ideal) (iblk m c 0 t) (iblk m c 1 t)) i j
      = ∑ k ∈ Finset.range 2048, cots m c (2048 * (t.val % 4) + k) (1408 * (t.val / 4) + i)
          * rows m c (2048 * (t.val % 4) + k) j := by
  rw [pay_apply _ _ hi hj]
  refine Finset.sum_congr rfl fun k hk => ?_
  have hk := Finset.mem_range.mp hk
  rw [cot_block m c t hk hi, row_block m c t hk hj]

/-- The accumulator after a point: the sum over the spans so far. -/
theorem accumulated (a : ℕ) (ha : a < 2) {i j : ℕ} (hi : i < 1408) (hj : j < 1024) : ∀ (p : ℕ) (hp : p < 4) (h : 4 * a + p < cfg0.N),
    at2 (a := 1408) (b := 1024) (outsAt0 m c (4 * a + p) h).2 i j
      = ∑ k ∈ Finset.range (2048 * (p + 1)), cots m c k (1408 * a + i)
          * rows m c k j
  | 0, hp, h => by
    have e : (outsAt0 m c (4 * a + 0) h).2 = k0_pay1 (F := Ideal) (iblk m c 0 ⟨4 * a + 0, h⟩) (iblk m c 1 ⟨4 * a + 0, h⟩) := by
      rw [outsAt0_A m c ⟨4 * a + 0, h⟩ (by show (4 * a + 0) % 4 = 0; omega) (by show ¬1 ≤ (4 * a + 0) % 4; omega) (by show ¬(4 * a + 0) % 4 = 3; omega)]
      frame_out
      exact shapeCast_self _ _
    rw [e, gain m c _ hi hj]
    refine Finset.sum_congr rfl fun k _ => ?_
    rw [show 2048 * ((4 * a + 0) % 4) + k = k by omega, show (4 * a + 0) / 4 = a by omega]
  | p + 1, hp, h => by
    have h' : 4 * a + p < cfg0.N := by omega
    have e : (outsAt0 m c (4 * a + (p + 1)) h).2
        = k0_pay3 (F := Ideal) (iblk m c 0 ⟨4 * a + (p + 1), h⟩) (iblk m c 1 ⟨4 * a + (p + 1), h⟩) (outsAt0 m c (4 * a + p) h').2 := by
      by_cases hl : p = 2
      · rw [outsAt0_C m c ⟨4 * a + (p + 1), h⟩ (by show ¬(4 * a + (p + 1)) % 4 = 0; omega) (by show 1 ≤ (4 * a + (p + 1)) % 4; omega) (by show (4 * a + (p + 1)) % 4 = 3; omega)]
        frame_out
        exact congrArg (k0_pay3 _ _) ((Memref.isWhole_whole cc0_scratch0).read_unread _)
      · rw [outsAt0_B m c ⟨4 * a + (p + 1), h⟩ (by show ¬(4 * a + (p + 1)) % 4 = 0; omega) (by show 1 ≤ (4 * a + (p + 1)) % 4; omega) (by show ¬(4 * a + (p + 1)) % 4 = 3; omega)]
        frame_out
        exact congrArg (k0_pay3 _ _) ((Memref.isWhole_whole cc0_scratch0).read_unread _)
    rw [e, pay3_apply _ _ _ hi hj, accumulated a ha hi hj p (by omega) h', gain m c _ hi hj,
      show 2048 * (p + 1 + 1) = 2048 * (p + 1) + 2048 by omega, Finset.sum_range_add]
    refine congrArg (_ + ·) (Finset.sum_congr rfl fun k _ => ?_)
    rw [show (4 * a + (p + 1)) % 4 = p + 1 by omega, show (4 * a + (p + 1)) / 4 = a by omega]

/-- What the last point of a run writes back. -/
theorem written (a : ℕ) (ha : a < 2) (h : 4 * a + 3 < cfg0.N) :
    ((outsAt0 m c (4 * a + 3) h).1 : S1408x1024.Idx → EReal) = (outsAt0 m c (4 * a + 3) h).2 := by
  rw [outsAt0_C m c ⟨4 * a + 3, h⟩ (by show ¬(4 * a + 3) % 4 = 0; omega) (by show 1 ≤ (4 * a + 3) % 4; omega) (by show (4 * a + 3) % 4 = 3; omega)]
  frame_out
  rfl

/-- The product of the transposed cotangents and the rows. -/
def grad (r s : ℕ) : EReal :=
  ∑ k ∈ Finset.range 8192, cots m c k r * rows m c k s

theorem final : (dats m 0 c).arrAt 2 cfg0.N = fun i : S2816x1024.Idx => grad m c (i 0).val (i 1).val := by
  refine (dats m 0 c).arrAt_eq_of_covers 2 (fun i : S2816x1024.Idx => grad m c (i 0).val (i 1).val) (by decide +kernel) fun t hf y => ?_
  obtain ⟨_, _, e0, e1⟩ := idx_facts t
  have hl := flush_last t hf
  have ht : t.val < 8 := t.isLt
  obtain ⟨a, hta⟩ : ∃ a, t.val = 4 * a + 3 := ⟨t.val / 4, by omega⟩
  have hb : 4 * a + 3 < cfg0.N := hta ▸ t.isLt
  obtain rfl : t = ⟨4 * a + 3, hb⟩ := Fin.ext hta
  rw [after0_2]
  have hy0 : (y 0).val < 1408 := (y 0).isLt
  have hy1 : (y 1).val < 1024 := (y 1).isLt
  have h := accumulated m c a (by omega) hy0 hy1 3 (by omega) hb
  rw [← written m c a (by omega) hb, at2_pos _ hy0 hy1] at h
  refine Eq.trans (Eq.trans ?_ h) ?_
  · refine congrArg (outsAt0 m c (4 * a + 3) hb).1 (funext fun d => ?_)
    match d with
    | ⟨0, _⟩ => rfl
    | ⟨1, _⟩ => rfl
  · have e0 : win0_2.index ⟨4 * a + 3, hb⟩ (0 : Fin 2) = (4 * a + 3) / 4 := e0
    refine congrArg₂ (grad m c) ?_ ?_
    · show _ = win0_2.index ⟨4 * a + 3, hb⟩ (0 : Fin 2) * 1408 + 1 * (y 0).val
      omega
    · show _ = win0_2.index ⟨4 * a + 3, hb⟩ (1 : Fin 2) * 1024 + 1 * (y 1).val
      omega

end Cert.UpWeightKernelIdeal.Sum

namespace Cert.UpWeightReferenceIdeal.Sum

open Cert.UpWeightReferenceIdeal Cert.UpWeightReferenceIdeal.Gen Cert.UpWeightReferenceIdeal.Read Idealize.ShloMosaic Idealize.ShloMosaic.ValueIdx
open Cert.KernelIdeal.Attn (at2 at2_pos ix2_at2 idx_at2)
open scoped BigOperators

/-- The plain program's result is the same sum. -/
theorem plain (x0 : (⟨S8192x2816, .bf16⟩ : BufTy).Contents (Elt Ideal)) (x1 : (⟨S8192x1024, .bf16⟩ : BufTy).Contents (Elt Ideal)) (i : S2816x1024.Idx) :
    val_main_v8 (F := Ideal) x0 x1 i
      = ∑ k ∈ Finset.range 8192, at2 (a := 8192) (b := 2816) x0 k (i 0).val * at2 (a := 8192) (b := 1024) x1 k (i 1).val := by
  rw [val_main_v8_apply]
  refine Eq.trans (val_main_v7_apply (F := Ideal) x0 x1 i) ?_
  rw [val_main_v6_apply, val_main_v5_apply, Finset.sum_range]
  refine Finset.sum_congr rfl fun k _ => ?_
  refine congrArg₂ (· * ·) ?_ ?_
  · exact idx_at2 (a := 8192) (b := 2816) x0 _
  · exact idx_at2 (a := 8192) (b := 1024) x1 _

end Cert.UpWeightReferenceIdeal.Sum

end
-- ==== Proof.Ffn.UpWeightClaims.lean ====
/-
  The claims of the product for the gradient of the up projection.
-/
module

public import proofs.«01_k».proof.Defs
public import proofs.«01_k».proof.Proof.Gen.UpWeightKernel
public import proofs.«01_k».proof.Proof.Gen.UpWeightKernelIdeal
public import proofs.«01_k».proof.Proof.Gen.UpWeightReferenceIdeal
public import proofs.«01_k».proof.Proof.Gen.UpWeightReferenceIdeal.Run
public import proofs.«01_k».proof.Proof.Ffn.UpWeight
public import Idealize.ShloMosaic.Lib.Quiescent
public import Idealize.ShloMosaic.Adequacy
public import Idealize.ShloMosaic.Init

@[expose] public section

noncomputable section

namespace Cert.UpWeightClaims

open Idealize.ShloMosaic Idealize.SL.Sem
open Idealize.ShloMosaic.TcCoe
open Cert.UpWeightKernelIdeal (cfg0 nD τ sig main_arg0 main_arg1)
open Cert.UpWeightKernelIdeal.Gen Cert.UpWeightKernelIdeal.Value

attribute [local instance] Cert.UpWeightKernel.Gen.facts Cert.UpWeightKernelIdeal.Gen.facts Cert.UpWeightReferenceIdeal.Gen.facts

/-- The plain program has no semaphores; its run leaves its arguments as they were. -/
theorem frame_reference : Cert.quiescent_UpWeightReferenceIdeal := fun m g _ =>
  (θ_run _ _ _).monotone (fun r h => ⟨fun c => (h c).2, sem_eq_zero_of_no_sems (by decide) r.2⟩) (Cert.UpWeightReferenceIdeal.Value.run m g)

variable (m : (ℓ : Loc nD τ sig) → Buf (Elt Ideal) ℓ) (c : Dev nD)

theorem sum :
    Cert.UpWeightReferenceIdeal.Read.val_main_v8 (F := Ideal) (m ((c : Thread nD τ).loc main_arg0)) (m ((c : Thread nD τ).loc main_arg1)) = (dats m 0 c).arrAt 2 cfg0.N := by
  rw [Cert.UpWeightKernelIdeal.Sum.final]
  funext i
  exact Cert.UpWeightReferenceIdeal.Sum.plain _ _ i

theorem value : Cert.algebraic_UpWeightKernelIdeal_UpWeightReferenceIdeal := by
  intro m g m' g' _ ha
  refine ⟨fun c => (dats m 0 c).arrAt 2 cfg0.N, run_blocks m g, ?_⟩
  refine (θ_run _ _ _).monotone (fun r h c => ?_) (Cert.UpWeightReferenceIdeal.Value.run m' g')
  obtain ⟨a0, a1⟩ := ha c
  obtain ⟨h0, h1⟩ := h c
  rw [Cert.UpWeightReferenceIdeal.Read.val_main_v8_eq, a0, a1] at h0
  exact ⟨h0.trans (sum m c), h1⟩

end Cert.UpWeightClaims

end
-- ==== Proof.Ffn.InWeight.lean ====
/-
  The gradient of the input projection of the forgetting attention: the grid's inner axis walks four spans of 2048 tokens and adds their products to an
  accumulator, so that the last of a run leaves the sum over all 8192 tokens.
-/
module

public import proofs.«01_k».proof.Proof.Attn.Read
public import proofs.«01_k».proof.Proof.Gen.InWeightKernelIdeal.Value
public import proofs.«01_k».proof.Proof.Gen.InWeightReferenceIdeal.Read
public import Idealize.ShloMosaic.Lib.Pipeline.ValueKit.Acc
public import Idealize.ShloMosaic.Lib.Pipeline.ValueKit.Geometry

@[expose] public section

noncomputable section

namespace Cert.InWeightKernelIdeal.Sum

open Cert.InWeightKernelIdeal Cert.InWeightKernelIdeal.Gen Idealize.ShloMosaic Idealize.ShloMosaic.TcCoe Idealize.ShloMosaic.ValueIdx
open Cert.KernelIdeal.Attn (at2 at2_pos at2_tn ix2_at2)
open scoped BigOperators

theorem idx_facts : ∀ t : Fin cfg0.N,
    (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, _)

theorem flush_last : ∀ t : Fin cfg0.N, (cfg0.win 2).flush t = true → t.val % 4 = 3 := (by decide +kernel : ∀ t : Fin grid0.N, _)

variable (m : (ℓ : Loc nD τ sig) → Buf (Elt Ideal) ℓ) (c : Dev nD)

/-- The two arguments at two naturals. -/
abbrev cots : ℕ → ℕ → EReal := at2 (a := 8192) (b := 1536) (m ((c : Thread nD τ).loc main_arg0))
abbrev rows : ℕ → ℕ → EReal := at2 (a := 8192) (b := 1024) (m ((c : Thread nD τ).loc main_arg1))

/-- The cotangents' block. -/
theorem cot_block (t : Fin cfg0.N) {i j : ℕ} (hi : i < 2048) (hj : j < 768) :
    at2 (a := 2048) (b := 768) (iblk m c 0 t) i j
      = cots m c (2048 * (t.val % 4) + i) (768 * (t.val / 4) + j) := by
  obtain ⟨⟨e0, e1⟩, _⟩ := idx_facts t
  have ht : t.val < 8 := t.isLt
  rw [cots, ← V_main_arg0 m c]
  exact Cert.KernelIdeal.Attn.at2_to hi hj _ rfl (by show win0_0.index t (0 : Fin 2) * 2048 + 1 * i = 2048 * (t.val % 4) + i; omega) (by show win0_0.index t (1 : Fin 2) * 768 + 1 * j = 768 * (t.val / 4) + j; omega)

/-- The rows' block. -/
theorem row_block (t : Fin cfg0.N) {i j : ℕ} (hi : i < 2048) (hj : j < 1024) :
    at2 (a := 2048) (b := 1024) (iblk m c 1 t) i j
      = rows m c (2048 * (t.val % 4) + i) j := by
  obtain ⟨_, ⟨e0, e1⟩, _⟩ := idx_facts t
  have ht : t.val < 8 := t.isLt
  rw [rows, ← V_main_arg1 m c]
  exact Cert.KernelIdeal.Attn.at2_to hi hj _ rfl (by show win0_1.index t (0 : Fin 2) * 2048 + 1 * i = 2048 * (t.val % 4) + i; omega) (by show win0_1.index t (1 : Fin 2) * 1024 + 1 * j = j; omega)

/-- One span's product. -/
theorem pay_apply (x0 : Vec Ideal S2048x768 .bf16) (x1 : Vec Ideal S2048x1024 .bf16) {i j : ℕ} (hi : i < 768) (hj : j < 1024) :
    at2 (a := 768) (b := 1024) (k0_pay1 (F := Ideal) x0 x1) i j
      = ∑ k ∈ Finset.range 2048, at2 (a := 2048) (b := 768) x0 k i * at2 (a := 2048) (b := 1024) x1 k j :=
  at2_tn (M := 768) (K := 2048) (N := 1024) x0 x1 hi hj

theorem pay3_apply (x0 : Vec Ideal S2048x768 .bf16) (x1 : Vec Ideal S2048x1024 .bf16) (acc : Vec Ideal S768x1024 .f32) {i j : ℕ}
    (hi : i < 768) (hj : j < 1024) :
    at2 (a := 768) (b := 1024) (k0_pay3 (F := Ideal) x0 x1 acc) i j
      = at2 (a := 768) (b := 1024) acc i j + at2 (a := 768) (b := 1024) (k0_pay1 (F := Ideal) x0 x1) i j := by
  have e : k0_pay3 (F := Ideal) x0 x1 acc = addf acc (k0_pay1 x0 x1) := shapeCast_self _ _
  rw [e, at2_pos _ hi hj, at2_pos _ hi hj, at2_pos _ hi hj]
  rfl

/-- What the accumulator gains at one point. -/
theorem gain (t : Fin cfg0.N) {i j : ℕ} (hi : i < 768) (hj : j < 1024) :
    at2 (a := 768) (b := 1024) (k0_pay1 (F := Ideal) (iblk m c 0 t) (iblk m c 1 t)) i j
      = ∑ k ∈ Finset.range 2048, cots m c (2048 * (t.val % 4) + k) (768 * (t.val / 4) + i)
          * rows m c (2048 * (t.val % 4) + k) j := by
  rw [pay_apply _ _ hi hj]
  refine Finset.sum_congr rfl fun k hk => ?_
  have hk := Finset.mem_range.mp hk
  rw [cot_block m c t hk hi, row_block m c t hk hj]

/-- The accumulator after a point: the sum over the spans so far. -/
theorem accumulated (a : ℕ) (ha : a < 2) {i j : ℕ} (hi : i < 768) (hj : j < 1024) : ∀ (p : ℕ) (hp : p < 4) (h : 4 * a + p < cfg0.N),
    at2 (a := 768) (b := 1024) (outsAt0 m c (4 * a + p) h).2 i j
      = ∑ k ∈ Finset.range (2048 * (p + 1)), cots m c k (768 * a + i)
          * rows m c k j
  | 0, hp, h => by
    have e : (outsAt0 m c (4 * a + 0) h).2 = k0_pay1 (F := Ideal) (iblk m c 0 ⟨4 * a + 0, h⟩) (iblk m c 1 ⟨4 * a + 0, h⟩) := by
      rw [outsAt0_A m c ⟨4 * a + 0, h⟩ (by show (4 * a + 0) % 4 = 0; omega) (by show ¬1 ≤ (4 * a + 0) % 4; omega) (by show ¬(4 * a + 0) % 4 = 3; omega)]
      frame_out
      exact shapeCast_self _ _
    rw [e, gain m c _ hi hj]
    refine Finset.sum_congr rfl fun k _ => ?_
    rw [show 2048 * ((4 * a + 0) % 4) + k = k by omega, show (4 * a + 0) / 4 = a by omega]
  | p + 1, hp, h => by
    have h' : 4 * a + p < cfg0.N := by omega
    have e : (outsAt0 m c (4 * a + (p + 1)) h).2
        = k0_pay3 (F := Ideal) (iblk m c 0 ⟨4 * a + (p + 1), h⟩) (iblk m c 1 ⟨4 * a + (p + 1), h⟩) (outsAt0 m c (4 * a + p) h').2 := by
      by_cases hl : p = 2
      · rw [outsAt0_C m c ⟨4 * a + (p + 1), h⟩ (by show ¬(4 * a + (p + 1)) % 4 = 0; omega) (by show 1 ≤ (4 * a + (p + 1)) % 4; omega) (by show (4 * a + (p + 1)) % 4 = 3; omega)]
        frame_out
        exact congrArg (k0_pay3 _ _) ((Memref.isWhole_whole cc0_scratch0).read_unread _)
      · rw [outsAt0_B m c ⟨4 * a + (p + 1), h⟩ (by show ¬(4 * a + (p + 1)) % 4 = 0; omega) (by show 1 ≤ (4 * a + (p + 1)) % 4; omega) (by show ¬(4 * a + (p + 1)) % 4 = 3; omega)]
        frame_out
        exact congrArg (k0_pay3 _ _) ((Memref.isWhole_whole cc0_scratch0).read_unread _)
    rw [e, pay3_apply _ _ _ hi hj, accumulated a ha hi hj p (by omega) h', gain m c _ hi hj,
      show 2048 * (p + 1 + 1) = 2048 * (p + 1) + 2048 by omega, Finset.sum_range_add]
    refine congrArg (_ + ·) (Finset.sum_congr rfl fun k _ => ?_)
    rw [show (4 * a + (p + 1)) % 4 = p + 1 by omega, show (4 * a + (p + 1)) / 4 = a by omega]

/-- What the last point of a run writes back. -/
theorem written (a : ℕ) (ha : a < 2) (h : 4 * a + 3 < cfg0.N) :
    ((outsAt0 m c (4 * a + 3) h).1 : S768x1024.Idx → EReal) = (outsAt0 m c (4 * a + 3) h).2 := by
  rw [outsAt0_C m c ⟨4 * a + 3, h⟩ (by show ¬(4 * a + 3) % 4 = 0; omega) (by show 1 ≤ (4 * a + 3) % 4; omega) (by show (4 * a + 3) % 4 = 3; omega)]
  frame_out
  rfl

/-- The product of the transposed cotangents and the rows. -/
def grad (r s : ℕ) : EReal :=
  ∑ k ∈ Finset.range 8192, cots m c k r * rows m c k s

theorem final : (dats m 0 c).arrAt 2 cfg0.N = fun i : S1536x1024.Idx => grad m c (i 0).val (i 1).val := by
  refine (dats m 0 c).arrAt_eq_of_covers 2 (fun i : S1536x1024.Idx => grad m c (i 0).val (i 1).val) (by decide +kernel) fun t hf y => ?_
  obtain ⟨_, _, e0, e1⟩ := idx_facts t
  have hl := flush_last t hf
  have ht : t.val < 8 := t.isLt
  obtain ⟨a, hta⟩ : ∃ a, t.val = 4 * a + 3 := ⟨t.val / 4, by omega⟩
  have hb : 4 * a + 3 < cfg0.N := hta ▸ t.isLt
  obtain rfl : t = ⟨4 * a + 3, hb⟩ := Fin.ext hta
  rw [after0_2]
  have hy0 : (y 0).val < 768 := (y 0).isLt
  have hy1 : (y 1).val < 1024 := (y 1).isLt
  have h := accumulated m c a (by omega) hy0 hy1 3 (by omega) hb
  rw [← written m c a (by omega) hb, at2_pos _ hy0 hy1] at h
  refine Eq.trans (Eq.trans ?_ h) ?_
  · refine congrArg (outsAt0 m c (4 * a + 3) hb).1 (funext fun d => ?_)
    match d with
    | ⟨0, _⟩ => rfl
    | ⟨1, _⟩ => rfl
  · have e0 : win0_2.index ⟨4 * a + 3, hb⟩ (0 : Fin 2) = (4 * a + 3) / 4 := e0
    refine congrArg₂ (grad m c) ?_ ?_
    · show _ = win0_2.index ⟨4 * a + 3, hb⟩ (0 : Fin 2) * 768 + 1 * (y 0).val
      omega
    · show _ = win0_2.index ⟨4 * a + 3, hb⟩ (1 : Fin 2) * 1024 + 1 * (y 1).val
      omega

end Cert.InWeightKernelIdeal.Sum

namespace Cert.InWeightReferenceIdeal.Sum

open Cert.InWeightReferenceIdeal Cert.InWeightReferenceIdeal.Gen Cert.InWeightReferenceIdeal.Read Idealize.ShloMosaic Idealize.ShloMosaic.ValueIdx
open Cert.KernelIdeal.Attn (at2 at2_pos ix2_at2 idx_at2)
open scoped BigOperators

/-- The plain program's result is the same sum. -/
theorem plain (x0 : (⟨S8192x1536, .bf16⟩ : BufTy).Contents (Elt Ideal)) (x1 : (⟨S8192x1024, .bf16⟩ : BufTy).Contents (Elt Ideal)) (i : S1536x1024.Idx) :
    val_main_v8 (F := Ideal) x0 x1 i
      = ∑ k ∈ Finset.range 8192, at2 (a := 8192) (b := 1536) x0 k (i 0).val * at2 (a := 8192) (b := 1024) x1 k (i 1).val := by
  rw [val_main_v8_apply]
  refine Eq.trans (val_main_v7_apply (F := Ideal) x0 x1 i) ?_
  rw [val_main_v6_apply, val_main_v5_apply, Finset.sum_range]
  refine Finset.sum_congr rfl fun k _ => ?_
  refine congrArg₂ (· * ·) ?_ ?_
  · exact idx_at2 (a := 8192) (b := 1536) x0 _
  · exact idx_at2 (a := 8192) (b := 1024) x1 _

end Cert.InWeightReferenceIdeal.Sum

end
-- ==== Proof.Ffn.InWeightClaims.lean ====
/-
  The claims of the product for the gradient of the input projection of the forgetting attention.
-/
module

public import proofs.«01_k».proof.Defs
public import proofs.«01_k».proof.Proof.Gen.InWeightKernel
public import proofs.«01_k».proof.Proof.Gen.InWeightKernelIdeal
public import proofs.«01_k».proof.Proof.Gen.InWeightReferenceIdeal
public import proofs.«01_k».proof.Proof.Gen.InWeightReferenceIdeal.Run
public import proofs.«01_k».proof.Proof.Ffn.InWeight
public import Idealize.ShloMosaic.Lib.Quiescent
public import Idealize.ShloMosaic.Adequacy
public import Idealize.ShloMosaic.Init

@[expose] public section

noncomputable section

namespace Cert.InWeightClaims

open Idealize.ShloMosaic Idealize.SL.Sem
open Idealize.ShloMosaic.TcCoe
open Cert.InWeightKernelIdeal (cfg0 nD τ sig main_arg0 main_arg1)
open Cert.InWeightKernelIdeal.Gen Cert.InWeightKernelIdeal.Value

attribute [local instance] Cert.InWeightKernel.Gen.facts Cert.InWeightKernelIdeal.Gen.facts Cert.InWeightReferenceIdeal.Gen.facts

/-- The plain program has no semaphores; its run leaves its arguments as they were. -/
theorem frame_reference : Cert.quiescent_InWeightReferenceIdeal := fun m g _ =>
  (θ_run _ _ _).monotone (fun r h => ⟨fun c => (h c).2, sem_eq_zero_of_no_sems (by decide) r.2⟩) (Cert.InWeightReferenceIdeal.Value.run m g)

variable (m : (ℓ : Loc nD τ sig) → Buf (Elt Ideal) ℓ) (c : Dev nD)

theorem sum :
    Cert.InWeightReferenceIdeal.Read.val_main_v8 (F := Ideal) (m ((c : Thread nD τ).loc main_arg0)) (m ((c : Thread nD τ).loc main_arg1)) = (dats m 0 c).arrAt 2 cfg0.N := by
  rw [Cert.InWeightKernelIdeal.Sum.final]
  funext i
  exact Cert.InWeightReferenceIdeal.Sum.plain _ _ i

theorem value : Cert.algebraic_InWeightKernelIdeal_InWeightReferenceIdeal := by
  intro m g m' g' _ ha
  refine ⟨fun c => (dats m 0 c).arrAt 2 cfg0.N, run_blocks m g, ?_⟩
  refine (θ_run _ _ _).monotone (fun r h c => ?_) (Cert.InWeightReferenceIdeal.Value.run m' g')
  obtain ⟨a0, a1⟩ := ha c
  obtain ⟨h0, h1⟩ := h c
  rw [Cert.InWeightReferenceIdeal.Read.val_main_v8_eq, a0, a1] at h0
  exact ⟨h0.trans (sum m c), h1⟩

end Cert.InWeightClaims

end
-- ==== Proof.Ffn.OutWeight.lean ====
/-
  The gradient of the output projection: the grid's inner axis walks four spans of 2048 tokens and adds their products to an
  accumulator, so that the last of a run leaves the sum over all 8192 tokens.
-/
module

public import proofs.«01_k».proof.Proof.Attn.Read
public import proofs.«01_k».proof.Proof.Gen.OutWeightKernelIdeal.Value
public import proofs.«01_k».proof.Proof.Gen.OutWeightReferenceIdeal.Read
public import Idealize.ShloMosaic.Lib.Pipeline.ValueKit.Acc
public import Idealize.ShloMosaic.Lib.Pipeline.ValueKit.Geometry

@[expose] public section

noncomputable section

namespace Cert.OutWeightKernelIdeal.Sum

open Cert.OutWeightKernelIdeal Cert.OutWeightKernelIdeal.Gen Idealize.ShloMosaic Idealize.ShloMosaic.TcCoe Idealize.ShloMosaic.ValueIdx
open Cert.KernelIdeal.Attn (at2 at2_pos at2_tn ix2_at2)
open scoped BigOperators

theorem idx_facts : ∀ t : Fin cfg0.N,
    (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, _)

theorem flush_last : ∀ t : Fin cfg0.N, (cfg0.win 2).flush t = true → t.val % 4 = 3 := (by decide +kernel : ∀ t : Fin grid0.N, _)

variable (m : (ℓ : Loc nD τ sig) → Buf (Elt Ideal) ℓ) (c : Dev nD)

/-- The two arguments at two naturals. -/
abbrev cots : ℕ → ℕ → EReal := at2 (a := 8192) (b := 1024) (m ((c : Thread nD τ).loc main_arg0))
abbrev rows : ℕ → ℕ → EReal := at2 (a := 8192) (b := 1024) (m ((c : Thread nD τ).loc main_arg1))

/-- The block of the mixers' rows. -/
theorem mix_block (t : Fin cfg0.N) {i j : ℕ} (hi : i < 2048) (hj : j < 512) :
    at2 (a := 2048) (b := 512) (iblk m c 0 t) i j
      = cots m c (2048 * (t.val % 4) + i) (512 * (t.val / 4) + j) := by
  obtain ⟨⟨e0, e1⟩, _⟩ := idx_facts t
  have ht : t.val < 8 := t.isLt
  rw [cots, ← V_main_arg0 m c]
  exact Cert.KernelIdeal.Attn.at2_to hi hj _ rfl (by show win0_0.index t (0 : Fin 2) * 2048 + 1 * i = 2048 * (t.val % 4) + i; omega) (by show win0_0.index t (1 : Fin 2) * 512 + 1 * j = 512 * (t.val / 4) + j; omega)

/-- The cotangents' block. -/
theorem cot_block (t : Fin cfg0.N) {i j : ℕ} (hi : i < 2048) (hj : j < 1024) :
    at2 (a := 2048) (b := 1024) (iblk m c 1 t) i j
      = rows m c (2048 * (t.val % 4) + i) j := by
  obtain ⟨_, ⟨e0, e1⟩, _⟩ := idx_facts t
  have ht : t.val < 8 := t.isLt
  rw [rows, ← V_main_arg1 m c]
  exact Cert.KernelIdeal.Attn.at2_to hi hj _ rfl (by show win0_1.index t (0 : Fin 2) * 2048 + 1 * i = 2048 * (t.val % 4) + i; omega) (by show win0_1.index t (1 : Fin 2) * 1024 + 1 * j = j; omega)

/-- One span's product. -/
theorem pay_apply (x0 : Vec Ideal S2048x512 .bf16) (x1 : Vec Ideal S2048x1024 .bf16) {i j : ℕ} (hi : i < 512) (hj : j < 1024) :
    at2 (a := 512) (b := 1024) (k0_pay1 (F := Ideal) x0 x1) i j
      = ∑ k ∈ Finset.range 2048, at2 (a := 2048) (b := 512) x0 k i * at2 (a := 2048) (b := 1024) x1 k j :=
  at2_tn (M := 512) (K := 2048) (N := 1024) x0 x1 hi hj

theorem pay3_apply (x0 : Vec Ideal S2048x512 .bf16) (x1 : Vec Ideal S2048x1024 .bf16) (acc : Vec Ideal S512x1024 .f32) {i j : ℕ}
    (hi : i < 512) (hj : j < 1024) :
    at2 (a := 512) (b := 1024) (k0_pay3 (F := Ideal) x0 x1 acc) i j
      = at2 (a := 512) (b := 1024) acc i j + at2 (a := 512) (b := 1024) (k0_pay1 (F := Ideal) x0 x1) i j := by
  have e : k0_pay3 (F := Ideal) x0 x1 acc = addf acc (k0_pay1 x0 x1) := shapeCast_self _ _
  rw [e, at2_pos _ hi hj, at2_pos _ hi hj, at2_pos _ hi hj]
  rfl

/-- What the accumulator gains at one point. -/
theorem gain (t : Fin cfg0.N) {i j : ℕ} (hi : i < 512) (hj : j < 1024) :
    at2 (a := 512) (b := 1024) (k0_pay1 (F := Ideal) (iblk m c 0 t) (iblk m c 1 t)) i j
      = ∑ k ∈ Finset.range 2048, cots m c (2048 * (t.val % 4) + k) (512 * (t.val / 4) + i)
          * rows m c (2048 * (t.val % 4) + k) j := by
  rw [pay_apply _ _ hi hj]
  refine Finset.sum_congr rfl fun k hk => ?_
  have hk := Finset.mem_range.mp hk
  rw [mix_block m c t hk hi, cot_block m c t hk hj]

/-- The accumulator after a point: the sum over the spans so far. -/
theorem accumulated (a : ℕ) (ha : a < 2) {i j : ℕ} (hi : i < 512) (hj : j < 1024) : ∀ (p : ℕ) (hp : p < 4) (h : 4 * a + p < cfg0.N),
    at2 (a := 512) (b := 1024) (outsAt0 m c (4 * a + p) h).2 i j
      = ∑ k ∈ Finset.range (2048 * (p + 1)), cots m c k (512 * a + i)
          * rows m c k j
  | 0, hp, h => by
    have e : (outsAt0 m c (4 * a + 0) h).2 = k0_pay1 (F := Ideal) (iblk m c 0 ⟨4 * a + 0, h⟩) (iblk m c 1 ⟨4 * a + 0, h⟩) := by
      rw [outsAt0_A m c ⟨4 * a + 0, h⟩ (by show (4 * a + 0) % 4 = 0; omega) (by show ¬1 ≤ (4 * a + 0) % 4; omega) (by show ¬(4 * a + 0) % 4 = 3; omega)]
      frame_out
      exact shapeCast_self _ _
    rw [e, gain m c _ hi hj]
    refine Finset.sum_congr rfl fun k _ => ?_
    rw [show 2048 * ((4 * a + 0) % 4) + k = k by omega, show (4 * a + 0) / 4 = a by omega]
  | p + 1, hp, h => by
    have h' : 4 * a + p < cfg0.N := by omega
    have e : (outsAt0 m c (4 * a + (p + 1)) h).2
        = k0_pay3 (F := Ideal) (iblk m c 0 ⟨4 * a + (p + 1), h⟩) (iblk m c 1 ⟨4 * a + (p + 1), h⟩) (outsAt0 m c (4 * a + p) h').2 := by
      by_cases hl : p = 2
      · rw [outsAt0_C m c ⟨4 * a + (p + 1), h⟩ (by show ¬(4 * a + (p + 1)) % 4 = 0; omega) (by show 1 ≤ (4 * a + (p + 1)) % 4; omega) (by show (4 * a + (p + 1)) % 4 = 3; omega)]
        frame_out
        exact congrArg (k0_pay3 _ _) ((Memref.isWhole_whole cc0_scratch0).read_unread _)
      · rw [outsAt0_B m c ⟨4 * a + (p + 1), h⟩ (by show ¬(4 * a + (p + 1)) % 4 = 0; omega) (by show 1 ≤ (4 * a + (p + 1)) % 4; omega) (by show ¬(4 * a + (p + 1)) % 4 = 3; omega)]
        frame_out
        exact congrArg (k0_pay3 _ _) ((Memref.isWhole_whole cc0_scratch0).read_unread _)
    rw [e, pay3_apply _ _ _ hi hj, accumulated a ha hi hj p (by omega) h', gain m c _ hi hj,
      show 2048 * (p + 1 + 1) = 2048 * (p + 1) + 2048 by omega, Finset.sum_range_add]
    refine congrArg (_ + ·) (Finset.sum_congr rfl fun k _ => ?_)
    rw [show (4 * a + (p + 1)) % 4 = p + 1 by omega, show (4 * a + (p + 1)) / 4 = a by omega]

/-- What the last point of a run writes back. -/
theorem written (a : ℕ) (ha : a < 2) (h : 4 * a + 3 < cfg0.N) :
    ((outsAt0 m c (4 * a + 3) h).1 : S512x1024.Idx → EReal) = (outsAt0 m c (4 * a + 3) h).2 := by
  rw [outsAt0_C m c ⟨4 * a + 3, h⟩ (by show ¬(4 * a + 3) % 4 = 0; omega) (by show 1 ≤ (4 * a + 3) % 4; omega) (by show (4 * a + 3) % 4 = 3; omega)]
  frame_out
  rfl

/-- The product of the transposed rows and the cotangents. -/
def grad (r s : ℕ) : EReal :=
  ∑ k ∈ Finset.range 8192, cots m c k r * rows m c k s

theorem final : (dats m 0 c).arrAt 2 cfg0.N = fun i : S1024x1024.Idx => grad m c (i 0).val (i 1).val := by
  refine (dats m 0 c).arrAt_eq_of_covers 2 (fun i : S1024x1024.Idx => grad m c (i 0).val (i 1).val) (by decide +kernel) fun t hf y => ?_
  obtain ⟨_, _, e0, e1⟩ := idx_facts t
  have hl := flush_last t hf
  have ht : t.val < 8 := t.isLt
  obtain ⟨a, hta⟩ : ∃ a, t.val = 4 * a + 3 := ⟨t.val / 4, by omega⟩
  have hb : 4 * a + 3 < cfg0.N := hta ▸ t.isLt
  obtain rfl : t = ⟨4 * a + 3, hb⟩ := Fin.ext hta
  rw [after0_2]
  have hy0 : (y 0).val < 512 := (y 0).isLt
  have hy1 : (y 1).val < 1024 := (y 1).isLt
  have h := accumulated m c a (by omega) hy0 hy1 3 (by omega) hb
  rw [← written m c a (by omega) hb, at2_pos _ hy0 hy1] at h
  refine Eq.trans (Eq.trans ?_ h) ?_
  · refine congrArg (outsAt0 m c (4 * a + 3) hb).1 (funext fun d => ?_)
    match d with
    | ⟨0, _⟩ => rfl
    | ⟨1, _⟩ => rfl
  · have e0 : win0_2.index ⟨4 * a + 3, hb⟩ (0 : Fin 2) = (4 * a + 3) / 4 := e0
    refine congrArg₂ (grad m c) ?_ ?_
    · show _ = win0_2.index ⟨4 * a + 3, hb⟩ (0 : Fin 2) * 512 + 1 * (y 0).val
      omega
    · show _ = win0_2.index ⟨4 * a + 3, hb⟩ (1 : Fin 2) * 1024 + 1 * (y 1).val
      omega

end Cert.OutWeightKernelIdeal.Sum

namespace Cert.OutWeightReferenceIdeal.Sum

open Cert.OutWeightReferenceIdeal Cert.OutWeightReferenceIdeal.Gen Cert.OutWeightReferenceIdeal.Read Idealize.ShloMosaic Idealize.ShloMosaic.ValueIdx
open Cert.KernelIdeal.Attn (at2 at2_pos ix2_at2 idx_at2)
open scoped BigOperators

/-- The plain program's result is the same sum. -/
theorem plain (x0 : (⟨S8192x1024, .bf16⟩ : BufTy).Contents (Elt Ideal)) (x1 : (⟨S8192x1024, .bf16⟩ : BufTy).Contents (Elt Ideal)) (i : S1024x1024.Idx) :
    val_main_v6 (F := Ideal) x0 x1 i
      = ∑ k ∈ Finset.range 8192, at2 (a := 8192) (b := 1024) x0 k (i 0).val * at2 (a := 8192) (b := 1024) x1 k (i 1).val := by
  rw [val_main_v6_apply]
  refine Eq.trans (val_main_v5_apply (F := Ideal) x0 x1 i) ?_
  rw [val_main_v4_apply, Finset.sum_range]
  refine Finset.sum_congr rfl fun k _ => ?_
  rw [mul_comm]
  refine congrArg₂ (· * ·) ?_ ?_
  · exact idx_at2 (a := 8192) (b := 1024) x0 _
  · exact idx_at2 (a := 8192) (b := 1024) x1 _

end Cert.OutWeightReferenceIdeal.Sum

end
-- ==== Proof.Ffn.OutWeightClaims.lean ====
/-
  The claims of the product for the gradient of the output projection.
-/
module

public import proofs.«01_k».proof.Defs
public import proofs.«01_k».proof.Proof.Gen.OutWeightKernel
public import proofs.«01_k».proof.Proof.Gen.OutWeightKernelIdeal
public import proofs.«01_k».proof.Proof.Gen.OutWeightReferenceIdeal
public import proofs.«01_k».proof.Proof.Gen.OutWeightReferenceIdeal.Run
public import proofs.«01_k».proof.Proof.Ffn.OutWeight
public import Idealize.ShloMosaic.Lib.Quiescent
public import Idealize.ShloMosaic.Adequacy
public import Idealize.ShloMosaic.Init

@[expose] public section

noncomputable section

namespace Cert.OutWeightClaims

open Idealize.ShloMosaic Idealize.SL.Sem
open Idealize.ShloMosaic.TcCoe
open Cert.OutWeightKernelIdeal (cfg0 nD τ sig main_arg0 main_arg1)
open Cert.OutWeightKernelIdeal.Gen Cert.OutWeightKernelIdeal.Value

attribute [local instance] Cert.OutWeightKernel.Gen.facts Cert.OutWeightKernelIdeal.Gen.facts Cert.OutWeightReferenceIdeal.Gen.facts

/-- The plain program has no semaphores; its run leaves its arguments as they were. -/
theorem frame_reference : Cert.quiescent_OutWeightReferenceIdeal := fun m g _ =>
  (θ_run _ _ _).monotone (fun r h => ⟨fun c => (h c).2, sem_eq_zero_of_no_sems (by decide) r.2⟩) (Cert.OutWeightReferenceIdeal.Value.run m g)

variable (m : (ℓ : Loc nD τ sig) → Buf (Elt Ideal) ℓ) (c : Dev nD)

theorem sum :
    Cert.OutWeightReferenceIdeal.Read.val_main_v6 (F := Ideal) (m ((c : Thread nD τ).loc main_arg0)) (m ((c : Thread nD τ).loc main_arg1)) = (dats m 0 c).arrAt 2 cfg0.N := by
  rw [Cert.OutWeightKernelIdeal.Sum.final]
  funext i
  exact Cert.OutWeightReferenceIdeal.Sum.plain _ _ i

theorem value : Cert.algebraic_OutWeightKernelIdeal_OutWeightReferenceIdeal := by
  intro m g m' g' _ ha
  refine ⟨fun c => (dats m 0 c).arrAt 2 cfg0.N, run_blocks m g, ?_⟩
  refine (θ_run _ _ _).monotone (fun r h c => ?_) (Cert.OutWeightReferenceIdeal.Value.run m' g')
  obtain ⟨a0, a1⟩ := ha c
  obtain ⟨h0, h1⟩ := h c
  rw [Cert.OutWeightReferenceIdeal.Read.val_main_v6_eq, a0, a1] at h0
  exact ⟨h0.trans (sum m c), h1⟩

end Cert.OutWeightClaims

end
-- ==== Proof.Ffn.In.lean ====
/-
  The forward projection of the forgetting attention: each block of 1024 tokens and 768 columns is one product over the model's width.
-/
module

public import proofs.«01_k».proof.Proof.Attn.Read
public import proofs.«01_k».proof.Proof.Gen.InKernelIdeal.Value
public import proofs.«01_k».proof.Proof.Gen.InReferenceIdeal.Read
public import Idealize.ShloMosaic.Lib.Pipeline.ValueKit.Acc
public import Idealize.ShloMosaic.Lib.Pipeline.ValueKit.Geometry

@[expose] public section

noncomputable section

namespace Cert.InKernelIdeal.Prod

open Cert.InKernelIdeal Cert.InKernelIdeal.Gen Idealize.ShloMosaic Idealize.ShloMosaic.TcCoe Idealize.ShloMosaic.ValueIdx
open Cert.KernelIdeal.Attn (at2 at2_pos at2_nt ix2_at2)
open scoped BigOperators

theorem idx_facts : ∀ t : Fin cfg0.N,
    (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

variable (m : (ℓ : Loc nD τ sig) → Buf (Elt Ideal) ℓ) (c : Dev nD)

/-- A product of the rows of the tokens and the rows of the weight. -/
def dotv (x : (⟨2, ![8192, 1024]⟩ : Shape).Idx → EReal) (w : (⟨2, ![1536, 1024]⟩ : Shape).Idx → EReal) (r s : ℕ) : EReal :=
  ∑ k ∈ Finset.range 1024, at2 (a := 8192) (b := 1024) x r k * at2 (a := 1536) (b := 1024) w s k

/-- The tokens' block. -/
theorem tok_block (t : Fin cfg0.N) {i j : ℕ} (hi : i < 1024) (hj : j < 1024) :
    at2 (a := 1024) (b := 1024) (iblk m c 0 t) i j
      = at2 (a := 8192) (b := 1024) (m ((c : Thread nD τ).loc main_arg0)) (1024 * (t.val / 2) + i) j := by
  obtain ⟨⟨e0, e1⟩, _⟩ := idx_facts t
  have ht : t.val < 16 := t.isLt
  rw [← V_main_arg0 m c]
  exact Cert.KernelIdeal.Attn.at2_to hi hj _ rfl (by show win0_0.index t (0 : Fin 2) * 1024 + 1 * i = 1024 * (t.val / 2) + i; omega) (by show win0_0.index t (1 : Fin 2) * 1024 + 1 * j = j; omega)

/-- The weight's block. -/
theorem weight_block (t : Fin cfg0.N) {i j : ℕ} (hi : i < 768) (hj : j < 1024) :
    at2 (a := 768) (b := 1024) (iblk m c 1 t) i j
      = at2 (a := 1536) (b := 1024) (m ((c : Thread nD τ).loc main_arg1)) (768 * (t.val % 2) + i) j := by
  obtain ⟨_, ⟨e0, e1⟩, _⟩ := idx_facts t
  have ht : t.val < 16 := t.isLt
  rw [← V_main_arg1 m c]
  exact Cert.KernelIdeal.Attn.at2_to hi hj _ rfl (by show win0_1.index t (0 : Fin 2) * 768 + 1 * i = 768 * (t.val % 2) + i; omega) (by show win0_1.index t (1 : Fin 2) * 1024 + 1 * j = j; omega)

/-- The kernel's product. -/
def P (r s : ℕ) : EReal := dotv (m ((c : Thread nD τ).loc main_arg0)) (m ((c : Thread nD τ).loc main_arg1)) r s

theorem prod_apply (t : Fin cfg0.N) {i j : ℕ} (hi : i < 1024) (hj : j < 768) :
    (k0_pay1 (F := Ideal) (iblk m c 0 t) (iblk m c 1 t) : S1024x768.Idx → EReal) (ix2 ⟨i, hi⟩ ⟨j, hj⟩)
      = P m c (1024 * (t.val / 2) + i) (768 * (t.val % 2) + j) := by
  refine (at2_pos (a := 1024) (b := 768) (k0_pay1 (F := Ideal) (iblk m c 0 t) (iblk m c 1 t)) hi hj).symm.trans ?_
  refine (at2_nt (M := 1024) (K := 1024) (N := 768) (φ₁ := .bf16) (φ₂ := .bf16) (iblk m c 0 t) (iblk m c 1 t) hi hj).trans ?_
  unfold P dotv
  refine Finset.sum_congr rfl fun k hk => ?_
  have hk := Finset.mem_range.mp hk
  rw [tok_block m c t hi hk, weight_block m c t hj hk]

theorem out2 (t : Fin cfg0.N) : out0_2 (F := Ideal) (iblk m c 0 t) (iblk m c 1 t) = k0_pay1 (F := Ideal) (iblk m c 0 t) (iblk m c 1 t) := by
  frame_out

theorem final : (dats m 0 c).arrAt 2 cfg0.N = fun i : S8192x1536.Idx => P m c (i 0).val (i 1).val := by
  refine (dats m 0 c).arrAt_eq_of_covers 2 (fun i : S8192x1536.Idx => P m c (i 0).val (i 1).val) (by decide +kernel) fun t hf y => ?_
  obtain ⟨_, _, e0, e1⟩ := idx_facts t
  have ht : t.val < 16 := t.isLt
  rw [after0_2, out2]
  obtain ⟨i, j, rfl⟩ : ∃ (i : Fin 1024) (j : Fin 768), y = ix2 i j := ⟨y 0, y 1, eq_ix2 (n0 := 1024) (n1 := 768) y⟩
  refine Eq.trans (b := P m c (1024 * (t.val / 2) + i.val) (768 * (t.val % 2) + j.val)) ?_ ?_
  · refine Eq.trans (congrArg (k0_pay1 (F := Ideal) (iblk m c 0 t) (iblk m c 1 t)) (show _ = ix2 i j from funext fun d => ?_)) ?_
    · match d with
      | ⟨0, _⟩ => rfl
      | ⟨1, _⟩ => rfl
    exact prod_apply m c t i.isLt j.isLt
  · refine congrArg₂ (P m c) ?_ ?_
    · show 1024 * (t.val / 2) + i.val = win0_2.index t (0 : Fin 2) * 1024 + 1 * i.val
      omega
    · show 768 * (t.val % 2) + j.val = win0_2.index t (1 : Fin 2) * 768 + 1 * j.val
      omega

end Cert.InKernelIdeal.Prod

namespace Cert.InReferenceIdeal.Prod

open Cert.InReferenceIdeal Cert.InReferenceIdeal.Gen Cert.InReferenceIdeal.Read Idealize.ShloMosaic Idealize.ShloMosaic.ValueIdx
open Cert.KernelIdeal.Attn (at2 at2_pos ix2_at2 idx_at2)
open Cert.InKernelIdeal.Prod (dotv)
open scoped BigOperators

/-- The plain program's result is the same product. -/
theorem plain (x0 : (⟨S8192x1024, .bf16⟩ : BufTy).Contents (Elt Ideal)) (x1 : (⟨S1536x1024, .bf16⟩ : BufTy).Contents (Elt Ideal)) (i : S8192x1536.Idx) :
    val_main_v4 (F := Ideal) x0 x1 i = dotv x0 x1 (i 0).val (i 1).val := by
  rw [val_main_v4_apply]
  refine Eq.trans (val_main_v3_apply x0 x1 i) ?_
  unfold dotv
  rw [Finset.sum_range]
  refine Finset.sum_congr rfl fun k _ => ?_
  rw [val_main_v2_apply]
  refine congrArg₂ (· * ·) ?_ ?_
  · exact idx_at2 (a := 8192) (b := 1024) x0 _
  · exact idx_at2 (a := 1536) (b := 1024) x1 _

end Cert.InReferenceIdeal.Prod

end
-- ==== Proof.Ffn.InClaims.lean ====
/-
  The claims of the forward projection of the forgetting attention.
-/
module

public import proofs.«01_k».proof.Defs
public import proofs.«01_k».proof.Proof.Gen.InKernel
public import proofs.«01_k».proof.Proof.Gen.InKernelIdeal
public import proofs.«01_k».proof.Proof.Gen.InReferenceIdeal
public import proofs.«01_k».proof.Proof.Gen.InReferenceIdeal.Run
public import proofs.«01_k».proof.Proof.Ffn.In
public import Idealize.ShloMosaic.Lib.Quiescent
public import Idealize.ShloMosaic.Adequacy
public import Idealize.ShloMosaic.Init

@[expose] public section

noncomputable section

namespace Cert.InClaims

open Idealize.ShloMosaic Idealize.SL.Sem
open Idealize.ShloMosaic.TcCoe
open Cert.InKernelIdeal (cfg0 nD τ sig main_arg0 main_arg1)
open Cert.InKernelIdeal.Gen Cert.InKernelIdeal.Value

attribute [local instance] Cert.InKernel.Gen.facts Cert.InKernelIdeal.Gen.facts Cert.InReferenceIdeal.Gen.facts

/-- The plain program has no semaphores; its run leaves its arguments as they were. -/
theorem frame_reference : Cert.quiescent_InReferenceIdeal := fun m g _ =>
  (θ_run _ _ _).monotone (fun r h => ⟨fun c => (h c).2, sem_eq_zero_of_no_sems (by decide) r.2⟩) (Cert.InReferenceIdeal.Value.run m g)

variable (m : (ℓ : Loc nD τ sig) → Buf (Elt Ideal) ℓ) (c : Dev nD)

theorem prod :
    Cert.InReferenceIdeal.Read.val_main_v4 (F := Ideal) (m ((c : Thread nD τ).loc main_arg0)) (m ((c : Thread nD τ).loc main_arg1)) = (dats m 0 c).arrAt 2 cfg0.N := by
  rw [Cert.InKernelIdeal.Prod.final]
  funext i
  exact Cert.InReferenceIdeal.Prod.plain _ _ i

theorem value : Cert.algebraic_InKernelIdeal_InReferenceIdeal := by
  intro m g m' g' _ ha
  refine ⟨fun c => (dats m 0 c).arrAt 2 cfg0.N, run_blocks m g, ?_⟩
  refine (θ_run _ _ _).monotone (fun r h c => ?_) (Cert.InReferenceIdeal.Value.run m' g')
  obtain ⟨a0, a1⟩ := ha c
  obtain ⟨h0, h1⟩ := h c
  rw [Cert.InReferenceIdeal.Read.val_main_v4_eq, a0, a1] at h0
  exact ⟨h0.trans (prod m c), h1⟩

end Cert.InClaims

end
-- ==== Proof.Ffn.LossHalf.lean ====
/-
  The loss behind the last norm and its gradient, one half of a tile: 256 rows at a time the kernel adds the feed-forward layer's product to the
  residual stream, norms it, subtracts the target, and takes the mean of each row's squares; the same rows give the gradient, which is a row's
  gradient through the norm with nothing arriving beside it.
-/
module

public import proofs.«01_k».proof.Proof.Ffn.NormRow
public import proofs.«01_k».proof.Proof.Ffn.Rows
public import proofs.«01_k».proof.Proof.Gen.LossKernelIdeal.Value
public import Idealize.ShloMosaic.Lib.Pipeline.ValueKit.Acc
public import Idealize.ShloMosaic.Lib.Pipeline.ValueKit.Geometry

@[expose] public section

noncomputable section

namespace Cert.LossKernelIdeal.Half

open Cert.LossKernelIdeal Cert.LossKernelIdeal.Gen Idealize.ShloMosaic Idealize.ShloMosaic.TcCoe Idealize.ShloMosaic.ValueIdx
open Cert.KernelIdeal.Attn (at2 at2_pos at2_plain ix2_at2)
open Cert.NormRow Cert.Rows
open scoped BigOperators

/-- One half, and the mean of a row's squares. -/
abbrev oneHalf : EReal := Ideal.ofBits .f32 0x3F000000#32
def lossRow (e : ℕ → EReal) : EReal := Ideal.div (∑ k ∈ Finset.range 1024, e k * e k) len

theorem lossRow_congr {e e' : ℕ → EReal} (h : ∀ k < 1024, e k = e' k) : lossRow e = lossRow e' := by
  unfold lossRow
  rw [Finset.sum_congr rfl fun k hk => by rw [h k (Finset.mem_range.mp hk)]]

theorem at2_mulf {a b : ℕ} (x y : FVec Ideal ⟨2, ![a, b]⟩ .f32) (i j : ℕ) :
    at2 (a := a) (b := b) (mulf (F := Ideal) x y) i j = at2 (a := a) (b := b) x i j * at2 (a := a) (b := b) y i j := by
  unfold at2
  split
  · rfl
  · exact (zero_mul _).symm

variable (g : Vec Ideal S1x1024 .f32) (x a : FVec Ideal S256x1024 .f32)

/-- The residual stream after the feed-forward layer. -/
theorem stream (p : Vec Ideal S256x1024 .f32) (v6 : Vec Ideal S256x2816 .bf16) (v7 : Vec Ideal S2816x1024 .bf16) {i j : ℕ} (hi : i < 256) (hj : j < 1024) :
    at2 (a := 256) (b := 1024) (k0_pay7 (F := Ideal) p v6 v7) i j
      = at2 (a := 256) (b := 1024) p i j + ∑ k ∈ Finset.range 2816, at2 (a := 256) (b := 2816) v6 i k * at2 (a := 2816) (b := 1024) v7 k j := by
  rw [← at2_plain (M := 256) (K := 2816) (N := 1024) v6 v7 hi hj, at2_pos _ hi hj, at2_pos _ hi hj, at2_pos _ hi hj]
  rfl

/-- Each row's inverse root mean square. -/
theorem inv_apply (i : Fin 256) : (k0_pay11 (F := Ideal) (mulf (F := Ideal) x x) : S256x1.Idx → EReal) (ix2 i (0 : Fin 1)) = inv (at2 (a := 256) (b := 1024) x i.val) := by
  have e := (row_sum (a := 256) (b := 1024) (hφ := .inl rfl) (hacc := rfl) (mulf (F := Ideal) x x) reduces_S256x1024_S256 shapeCasts_S256_S256x1 i 0).trans
    (Finset.sum_congr rfl fun k _ => at2_mulf x x i.val k)
  exact congrArg (fun s : EReal => Ideal.rsqrt (Ideal.div s len + eps)) e

theorem unit_apply (i : Fin 256) (j : Fin 1024) : (k0_pay12 (F := Ideal) x (mulf (F := Ideal) x x) : S256x1024.Idx → EReal) (ix2 i j)
    = at2 (a := 256) (b := 1024) x i.val j.val * inv (at2 (a := 256) (b := 1024) x i.val) := by
  rw [← inv_apply, ← ix2_at2]
  exact congrArg (fun s : EReal => (x (ix2 i j) : EReal) * s) (across (a := 256) (b := 1024) (k0_pay11 (F := Ideal) (mulf (F := Ideal) x x)) _ i j)

theorem weight_apply (i : Fin 256) (j : Fin 1024) : (broadcastTo S256x1024 g broadcasts_S1x1024_S256x1024 : S256x1024.Idx → EReal) (ix2 i j)
    = at2 (a := 1) (b := 1024) g 0 j.val := by
  refine (broadcastTo_1b_ab_apply (a := 256) (b := 1024) g _ i j).trans ?_
  exact ix2_at2 (a := 1) (b := 1024) g 0 j

/-- The normed rows less the target. -/
theorem gap_apply (p t : Vec Ideal S256x1024 .f32) (v6 : Vec Ideal S256x2816 .bf16) (v7 : Vec Ideal S2816x1024 .bf16) (i : Fin 256) (j : Fin 1024) :
    (k0_pay8 (F := Ideal) g p t v6 v7 : S256x1024.Idx → EReal) (ix2 i j)
      = at2 (a := 256) (b := 1024) (k0_pay7 (F := Ideal) p v6 v7) i.val j.val * inv (at2 (a := 256) (b := 1024) (k0_pay7 (F := Ideal) p v6 v7) i.val)
          * at2 (a := 1) (b := 1024) g 0 j.val - at2 (a := 256) (b := 1024) t i.val j.val := by
  rw [← ix2_at2 (a := 256) (b := 1024) t i j]
  exact congrArg₂ (fun p q : EReal => p * q - (t (ix2 i j) : EReal)) (unit_apply (k0_pay7 (F := Ideal) p v6 v7) i j) (weight_apply g i j)

/-- The cotangent of the norm's result: the gap over the row's length. -/
theorem cotangent_apply (p t : Vec Ideal S256x1024 .f32) (v6 : Vec Ideal S256x2816 .bf16) (v7 : Vec Ideal S2816x1024 .bf16) (y : S256x1024.Idx) :
    (k0_pay9 (F := Ideal) g p t v6 v7 : S256x1024.Idx → EReal) y = Ideal.div ((k0_pay8 (F := Ideal) g p t v6 v7 : S256x1024.Idx → EReal) y) len := rfl

/-- A row's gradient. -/
theorem rows_apply (i : Fin 256) (j : Fin 1024) : (k0_pay13 (F := Ideal) g x a (mulf (F := Ideal) x x) : S256x1024.Idx → EReal) (ix2 i j)
    = kernelRow (at2 (a := 256) (b := 1024) x i.val) (fun _ => 0) (at2 (a := 256) (b := 1024) a i.val) (at2 (a := 1) (b := 1024) g 0) j.val := by
  have hm : (shapeCast S256x1 (multiReduction (F := Ideal) .add [1] S256 (mulf (mulf a (broadcastTo S256x1024 g broadcasts_S1x1024_S256x1024))
        (k0_pay12 (F := Ideal) x (mulf (F := Ideal) x x))) 0x00000000#32 reduces_S256x1024_S256 (.inl rfl) rfl) shapeCasts_S256_S256x1 : S256x1.Idx → EReal) (ix2 i (0 : Fin 1))
      = ∑ k ∈ Finset.range 1024, at2 (a := 256) (b := 1024) a i.val k * at2 (a := 1) (b := 1024) g 0 k
          * (at2 (a := 256) (b := 1024) x i.val k * inv (at2 (a := 256) (b := 1024) x i.val)) := by
    refine (row_sum (a := 256) (b := 1024) _ _ _ i 0).trans (Finset.sum_congr rfl fun k hk => ?_)
    have hk := Finset.mem_range.mp hk
    rw [at2_mulf, at2_mulf, at2_pos (a := 256) (b := 1024) (broadcastTo S256x1024 g broadcasts_S1x1024_S256x1024) i.isLt hk, at2_pos (a := 256) (b := 1024) (k0_pay12 (F := Ideal) x (mulf (F := Ideal) x x)) i.isLt hk]
    exact congrArg₂ (fun p q : EReal => at2 (a := 256) (b := 1024) a i.val k * p * q) (weight_apply g i ⟨k, hk⟩) (unit_apply x i ⟨k, hk⟩)
  unfold kernelRow
  rw [← hm, ← inv_apply, ← ix2_at2 (a := 256) (b := 1024) a i j, ← weight_apply g i j]
  have hu := unit_apply x i j
  rw [← inv_apply] at hu
  rw [← hu, add_zero]
  refine Eq.trans ?_ (congrArg₂ (fun p q : EReal => p * ((a (ix2 i j) : EReal) * (broadcastTo S256x1024 g broadcasts_S1x1024_S256x1024 : S256x1024.Idx → EReal) (ix2 i j)
      - (k0_pay12 (F := Ideal) x (mulf (F := Ideal) x x) : S256x1024.Idx → EReal) (ix2 i j) * q))
    (across (a := 256) (b := 1024) (k0_pay11 (F := Ideal) (mulf (F := Ideal) x x)) broadcasts_S256x1_S256x1024 i j)
    (across (a := 256) (b := 1024) (divf (shapeCast S256x1 (multiReduction (F := Ideal) .add [1] S256 (mulf (mulf a (broadcastTo S256x1024 g broadcasts_S1x1024_S256x1024))
        (k0_pay12 (F := Ideal) x (mulf (F := Ideal) x x))) 0x00000000#32 reduces_S256x1024_S256 (.inl rfl) rfl) shapeCasts_S256_S256x1)
        (broadcast S256x1 (Scalar.ofBits (F := Ideal) .f32 0x44800000#32))) broadcasts_S256x1_S256x1024 i j))
  rfl

/-- The weight's gradient gains a sum over the rows. -/
theorem sums_apply (acc : Vec Ideal S1x1024 .f32) (j : Fin 1024) : (k0_pay16 (F := Ideal) x a (mulf (F := Ideal) x x) acc : S1x1024.Idx → EReal) (ix2 (0 : Fin 1) j)
    = acc (ix2 (0 : Fin 1) j) + ∑ k ∈ Finset.range 256, at2 (a := 256) (b := 1024) a k j.val
        * (at2 (a := 256) (b := 1024) x k j.val * inv (at2 (a := 256) (b := 1024) x k)) := by
  have e : shapeCast S1x1024 acc shapeCasts_S1x1024_S1x1024 = acc := shapeCast_self _ _
  have h : (shapeCast S1x1024 (multiReduction (F := Ideal) .add [0] S1024 (mulf a (k0_pay12 (F := Ideal) x (mulf (F := Ideal) x x))) 0x00000000#32
        reduces_S256x1024_S1024 (.inl rfl) rfl) shapeCasts_S1024_S1x1024 : S1x1024.Idx → EReal) (ix2 (0 : Fin 1) j)
      = ∑ k ∈ Finset.range 256, at2 (a := 256) (b := 1024) a k j.val * (at2 (a := 256) (b := 1024) x k j.val * inv (at2 (a := 256) (b := 1024) x k)) := by
    refine (col_sum (a := 256) (b := 1024) _ _ _ 0 j).trans (Finset.sum_congr rfl fun k hk => ?_)
    have hk := Finset.mem_range.mp hk
    rw [at2_mulf, at2_pos (a := 256) (b := 1024) (k0_pay12 (F := Ideal) x (mulf (F := Ideal) x x)) hk j.isLt]
    exact congrArg (at2 (a := 256) (b := 1024) a k j.val * ·) (unit_apply x ⟨k, hk⟩ j)
  exact congrArg₂ (fun (y : S1x1024.Idx → EReal) (s : EReal) => y (ix2 (0 : Fin 1) j) + s) e h

/-- The loss gains half the sum of the rows' mean squares. -/
theorem loss_apply (e : FVec Ideal S256x1024 .f32) (acc : Vec Ideal S1x1 .f32) :
    (k0_pay17 (F := Ideal) (k0_pay14 (F := Ideal) e) acc : S1x1.Idx → EReal) (ix2 (0 : Fin 1) (0 : Fin 1))
      = acc (ix2 (0 : Fin 1) (0 : Fin 1)) + oneHalf * ∑ k ∈ Finset.range 256, lossRow (at2 (a := 256) (b := 1024) e k) := by
  have h0 : shapeCast S1x1 acc shapeCasts_S1x1_S1x1 = acc := shapeCast_self _ _
  have h : (shapeCast S1x1 (multiReduction (F := Ideal) .add [0] S1 (divf (shapeCast S256x1 (multiReduction (F := Ideal) .add [1] S256 (mulf e e) 0x00000000#32
        reduces_S256x1024_S256 (.inl rfl) rfl) shapeCasts_S256_S256x1) (broadcast S256x1 (Scalar.ofBits (F := Ideal) .f32 0x44800000#32))) 0x00000000#32
        reduces_S256x1_S1 (.inl rfl) rfl) shapeCasts_S1_S1x1 : S1x1.Idx → EReal) (ix2 (0 : Fin 1) (0 : Fin 1))
      = ∑ k ∈ Finset.range 256, lossRow (at2 (a := 256) (b := 1024) e k) := by
    refine (col_sum (a := 256) (b := 1) _ _ _ 0 0).trans (Finset.sum_congr rfl fun k hk => ?_)
    have hk := Finset.mem_range.mp hk
    refine (at2_pos (a := 256) (b := 1) _ hk Nat.one_pos).trans ?_
    exact congrArg (fun s : EReal => Ideal.div s len) ((row_sum (a := 256) (b := 1024) (hφ := .inl rfl) (hacc := rfl) (mulf (F := Ideal) e e) reduces_S256x1024_S256 shapeCasts_S256_S256x1 ⟨k, hk⟩ 0).trans
      (Finset.sum_congr rfl fun l _ => at2_mulf e e k l))
  exact congrArg₂ (fun (y : S1x1.Idx → EReal) (s : EReal) => y (ix2 (0 : Fin 1) (0 : Fin 1)) + oneHalf * s) h0 h

/-- The second half of a tile has the same text. -/
theorem second_rows (p t : Vec Ideal S256x1024 .f32) (v6 : Vec Ideal S256x2816 .bf16) (v7 : Vec Ideal S2816x1024 .bf16) :
    k0_pay23 (F := Ideal) g p t (k0_pay6 v6 v7) = k0_pay13 (F := Ideal) g (k0_pay7 p v6 v7) (k0_pay9 g p t v6 v7) (k0_pay10 p v6 v7) := rfl
theorem second_sums (p t : Vec Ideal S256x1024 .f32) (v6 : Vec Ideal S256x2816 .bf16) (v7 : Vec Ideal S2816x1024 .bf16) (acc : Vec Ideal S1x1024 .f32) :
    k0_pay2 (F := Ideal) (k0_pay24 g p t (k0_pay6 v6 v7)) acc
      = k0_pay16 (F := Ideal) (k0_pay7 p v6 v7) (k0_pay9 g p t v6 v7) (k0_pay10 p v6 v7) acc := rfl
theorem second_loss (p t : Vec Ideal S256x1024 .f32) (v6 : Vec Ideal S256x2816 .bf16) (v7 : Vec Ideal S2816x1024 .bf16) (acc : Vec Ideal S1x1 .f32) :
    k0_pay3 (F := Ideal) (k0_pay19 g p t (k0_pay6 v6 v7)) acc = k0_pay17 (F := Ideal) (k0_pay14 (k0_pay8 g p t v6 v7)) acc := rfl

end Cert.LossKernelIdeal.Half

end
-- ==== Proof.Ffn.LossTile.lean ====
/-
  The loss behind the last norm: what one grid point leaves. Each tile of 512 rows is done in two halves; the weight's gradient and the loss
  start at zero at the first point and gain both halves' sums at every point.
-/
module

public import proofs.«01_k».proof.Proof.Ffn.LossHalf

@[expose] public section

noncomputable section

namespace Cert.LossKernelIdeal.Tile

open Cert.LossKernelIdeal Cert.LossKernelIdeal.Gen Idealize.ShloMosaic Idealize.ShloMosaic.TcCoe Idealize.ShloMosaic.ValueIdx
open Cert.KernelIdeal.Attn (at2 at2_pos ix2_at2 box at2_box at2_canon_f32 at2_canon_bf16)
open Cert.NormRow Cert.LossKernelIdeal.Half
open scoped BigOperators

variable (c : Dev nD) (i : grid0.Coords)
  (arg1 : Memref sig .tc .vmem S512x2816 .bf16) (harg1 : arg1.IsWhole)
  (arg2 : Memref sig .tc .vmem S2816x1024 .bf16) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S512x1024 .bf16) (harg7 : arg7.IsWhole)
  (arg8 : Memref sig .tc .vmem S1x1024 .f32) (harg8 : arg8.IsWhole)
  (arg9 : Memref sig .tc .vmem S1x1 .f32) (harg9 : arg9.IsWhole)
  (x0 : Vec Ideal S512x2816 .bf16) (x1 : Vec Ideal S2816x1024 .bf16) (x2 : Vec Ideal S512x1024 .f32) (x3 : Vec Ideal S512x1024 .f32) (x4 : Vec Ideal S1x1024 .f32) (xo7 : Vec Ideal S1x1024 .f32) (xo8 : Vec Ideal S1x1 .f32)

/-- The two halves of a block. -/
def lo {b : ℕ} {e : EltTy} (x : Vec Ideal ⟨2, ![512, b]⟩ e) : Vec Ideal ⟨2, ![256, b]⟩ e := fun y => x ((box 0 256 0 b (by omega) (by omega)).toLoadRect.idx y)
def hi {b : ℕ} {e : EltTy} (x : Vec Ideal ⟨2, ![512, b]⟩ e) : Vec Ideal ⟨2, ![256, b]⟩ e := fun y => x ((box 256 256 0 b (by omega) (by omega)).toLoadRect.idx y)

/-- A read of the whole of a block. -/
theorem read_whole {a b : ℕ} {e : EltTy} (X : Vec Ideal ⟨2, ![a, b]⟩ e) (v : Memref sig .tc .vmem ⟨2, ![a, b]⟩ e) (hv : v.IsWhole) :
    View.readAt (Elt Ideal) v.view (box 0 a 0 b (by omega) (by omega)).toLoadRect (hv.unread X) = X := by
  funext x
  show v.view.read (Elt Ideal) (hv.unread X) _ = _
  rw [hv.read_unread]
  refine congrArg X (funext fun d => Fin.ext ?_)
  match d with
  | ⟨0, _⟩ => exact (Nat.zero_add _).trans (Nat.one_mul _)
  | ⟨1, _⟩ => exact (Nat.zero_add _).trans (Nat.one_mul _)

theorem read_lo {b : ℕ} {e : EltTy} (X : Vec Ideal ⟨2, ![512, b]⟩ e) (v : Memref sig .tc .vmem ⟨2, ![512, b]⟩ e) (hv : v.IsWhole) :
    View.readAt (Elt Ideal) v.view (box 0 256 0 b (by omega) (by omega)).toLoadRect (hv.unread X) = lo X := by
  funext x
  show v.view.read (Elt Ideal) (hv.unread X) _ = _
  rw [hv.read_unread]
  rfl

theorem read_hi {b : ℕ} {e : EltTy} (X : Vec Ideal ⟨2, ![512, b]⟩ e) (v : Memref sig .tc .vmem ⟨2, ![512, b]⟩ e) (hv : v.IsWhole) :
    View.readAt (Elt Ideal) v.view (box 256 256 0 b (by omega) (by omega)).toLoadRect (hv.unread X) = hi X := by
  funext x
  show v.view.read (Elt Ideal) (hv.unread X) _ = _
  rw [hv.read_unread]
  rfl

/-- Each half's residual stream, gap, cotangent and gradient. -/
def sLo : FVec Ideal S256x1024 .f32 := k0_pay7 (F := Ideal) (lo x2) (lo x0) x1
def eLo : FVec Ideal S256x1024 .f32 := k0_pay8 (F := Ideal) x4 (lo x2) (lo x3) (lo x0) x1
def aLo : FVec Ideal S256x1024 .f32 := k0_pay9 (F := Ideal) x4 (lo x2) (lo x3) (lo x0) x1
def dLo : FVec Ideal S256x1024 .f32 := k0_pay13 (F := Ideal) x4 (sLo x0 x1 x2) (aLo x0 x1 x2 x3 x4) (mulf (F := Ideal) (sLo x0 x1 x2) (sLo x0 x1 x2))
def sHi : FVec Ideal S256x1024 .f32 := k0_pay7 (F := Ideal) (hi x2) (hi x0) x1
def eHi : FVec Ideal S256x1024 .f32 := k0_pay8 (F := Ideal) x4 (hi x2) (hi x3) (hi x0) x1
def aHi : FVec Ideal S256x1024 .f32 := k0_pay9 (F := Ideal) x4 (hi x2) (hi x3) (hi x0) x1
def dHi : FVec Ideal S256x1024 .f32 := k0_pay13 (F := Ideal) x4 (sHi x0 x1 x2) (aHi x0 x1 x2 x3 x4) (mulf (F := Ideal) (sHi x0 x1 x2) (sHi x0 x1 x2))
def both : List (View.Piece (Elt Ideal) S512x1024 .f32) :=
  [⟨box 256 256 0 1024 (by omega) (by omega), dHi x0 x1 x2 x3 x4⟩, ⟨box 0 256 0 1024 (by omega) (by omega), dLo x0 x1 x2 x3 x4⟩]
def both16 : List (View.Piece (Elt Ideal) S512x1024 .bf16) :=
  [⟨box 256 256 0 1024 (by omega) (by omega), dHi x0 x1 x2 x3 x4⟩, ⟨box 0 256 0 1024 (by omega) (by omega), dLo x0 x1 x2 x3 x4⟩]
def gain (acc : Vec Ideal S1x1024 .f32) : FVec Ideal S1x1024 .f32 :=
  k0_pay16 (F := Ideal) (sHi x0 x1 x2) (aHi x0 x1 x2 x3 x4) (mulf (F := Ideal) (sHi x0 x1 x2) (sHi x0 x1 x2))
    (k0_pay16 (F := Ideal) (sLo x0 x1 x2) (aLo x0 x1 x2 x3 x4) (mulf (F := Ideal) (sLo x0 x1 x2) (sLo x0 x1 x2)) acc)
def lossGain (acc : Vec Ideal S1x1 .f32) : FVec Ideal S1x1 .f32 :=
  k0_pay17 (F := Ideal) (k0_pay14 (F := Ideal) (eHi x0 x1 x2 x3 x4)) (k0_pay17 (F := Ideal) (k0_pay14 (F := Ideal) (eLo x0 x1 x2 x3 x4)) acc)

/-- The pieces in the arrays as the body reads them. -/
def reads5 : List (View.Piece (Elt Ideal) S512x1024 .f32) :=
  [⟨box 256 256 0 1024 (by omega) (by omega), k0_pay23 (F := Ideal) (View.readAt (Elt Ideal) arg5.view (box 0 1 0 1024 (by omega) (by omega)).toLoadRect (harg5.unread x4)) (View.readAt (Elt Ideal) arg3.view (box 256 256 0 1024 (by omega) (by omega)).toLoadRect (harg3.unread x2)) (View.readAt (Elt Ideal) arg4.view (box 256 256 0 1024 (by omega) (by omega)).toLoadRect (harg4.unread x3)) (k0_pay6 (F := Ideal) (View.readAt (Elt Ideal) arg1.view (box 256 256 0 2816 (by omega) (by omega)).toLoadRect (harg1.unread x0)) (View.readAt (Elt Ideal) arg2.view (box 0 2816 0 1024 (by omega) (by omega)).toLoadRect (harg2.unread x1)))⟩,
      ⟨box 0 256 0 1024 (by omega) (by omega), k0_pay13 (F := Ideal) (View.readAt (Elt Ideal) arg5.view (box 0 1 0 1024 (by omega) (by omega)).toLoadRect (harg5.unread x4)) (k0_pay7 (F := Ideal) (View.readAt (Elt Ideal) arg3.view (box 0 256 0 1024 (by omega) (by omega)).toLoadRect (harg3.unread x2)) (View.readAt (Elt Ideal) arg1.view (box 0 256 0 2816 (by omega) (by omega)).toLoadRect (harg1.unread x0)) (View.readAt (Elt Ideal) arg2.view (box 0 2816 0 1024 (by omega) (by omega)).toLoadRect (harg2.unread x1))) (k0_pay9 (F := Ideal) (View.readAt (Elt Ideal) arg5.view (box 0 1 0 1024 (by omega) (by omega)).toLoadRect (harg5.unread x4)) (View.readAt (Elt Ideal) arg3.view (box 0 256 0 1024 (by omega) (by omega)).toLoadRect (harg3.unread x2)) (View.readAt (Elt Ideal) arg4.view (box 0 256 0 1024 (by omega) (by omega)).toLoadRect (harg4.unread x3)) (View.readAt (Elt Ideal) arg1.view (box 0 256 0 2816 (by omega) (by omega)).toLoadRect (harg1.unread x0)) (View.readAt (Elt Ideal) arg2.view (box 0 2816 0 1024 (by omega) (by omega)).toLoadRect (harg2.unread x1))) (k0_pay10 (F := Ideal) (View.readAt (Elt Ideal) arg3.view (box 0 256 0 1024 (by omega) (by omega)).toLoadRect (harg3.unread x2)) (View.readAt (Elt Ideal) arg1.view (box 0 256 0 2816 (by omega) (by omega)).toLoadRect (harg1.unread x0)) (View.readAt (Elt Ideal) arg2.view (box 0 2816 0 1024 (by omega) (by omega)).toLoadRect (harg2.unread x1)))⟩]

theorem pieces5_A (hc0 : cond0_0 i) : (kernelRun0_A (F := Ideal) c i arg1 harg1 arg2 harg2 arg3 harg3 arg4 harg4 arg5 harg5 arg6 harg6 arg7 harg7 arg8 harg8 arg9 harg9 hc0 x0 x1 x2 x3 x4).1
    = reads5 arg1 harg1 arg2 harg2 arg3 harg3 arg4 harg4 arg5 harg5 x0 x1 x2 x3 x4 := by sl_kernel_rfl

theorem out5_A (hc0 : cond0_0 i) : out0_A_5 (F := Ideal) c i arg1 harg1 arg2 harg2 arg3 harg3 arg4 harg4 arg5 harg5 arg6 harg6 arg7 harg7 arg8 harg8 arg9 harg9 hc0 x0 x1 x2 x3 x4 = View.canon (Val := Elt Ideal) (both x0 x1 x2 x3 x4) := by
  unfold out0_A_5
  rw [View.read_writes_junk_eq_canon, pieces5_A]
  unfold reads5
  simp only [read_lo, read_hi, read_whole]
  rfl

/-- The pieces in the arrays as the body reads them. -/
def reads6 : List (View.Piece (Elt Ideal) S512x1024 .bf16) :=
  [⟨box 256 256 0 1024 (by omega) (by omega), k0_pay1 (F := Ideal) (k0_pay23 (F := Ideal) (View.readAt (Elt Ideal) arg5.view (box 0 1 0 1024 (by omega) (by omega)).toLoadRect (harg5.unread x4)) (View.readAt (Elt Ideal) arg3.view (box 256 256 0 1024 (by omega) (by omega)).toLoadRect (harg3.unread x2)) (View.readAt (Elt Ideal) arg4.view (box 256 256 0 1024 (by omega) (by omega)).toLoadRect (harg4.unread x3)) (k0_pay6 (F := Ideal) (View.readAt (Elt Ideal) arg1.view (box 256 256 0 2816 (by omega) (by omega)).toLoadRect (harg1.unread x0)) (View.readAt (Elt Ideal) arg2.view (box 0 2816 0 1024 (by omega) (by omega)).toLoadRect (harg2.unread x1))))⟩,
      ⟨box 0 256 0 1024 (by omega) (by omega), k0_pay15 (F := Ideal) (View.readAt (Elt Ideal) arg5.view (box 0 1 0 1024 (by omega) (by omega)).toLoadRect (harg5.unread x4)) (k0_pay7 (F := Ideal) (View.readAt (Elt Ideal) arg3.view (box 0 256 0 1024 (by omega) (by omega)).toLoadRect (harg3.unread x2)) (View.readAt (Elt Ideal) arg1.view (box 0 256 0 2816 (by omega) (by omega)).toLoadRect (harg1.unread x0)) (View.readAt (Elt Ideal) arg2.view (box 0 2816 0 1024 (by omega) (by omega)).toLoadRect (harg2.unread x1))) (k0_pay9 (F := Ideal) (View.readAt (Elt Ideal) arg5.view (box 0 1 0 1024 (by omega) (by omega)).toLoadRect (harg5.unread x4)) (View.readAt (Elt Ideal) arg3.view (box 0 256 0 1024 (by omega) (by omega)).toLoadRect (harg3.unread x2)) (View.readAt (Elt Ideal) arg4.view (box 0 256 0 1024 (by omega) (by omega)).toLoadRect (harg4.unread x3)) (View.readAt (Elt Ideal) arg1.view (box 0 256 0 2816 (by omega) (by omega)).toLoadRect (harg1.unread x0)) (View.readAt (Elt Ideal) arg2.view (box 0 2816 0 1024 (by omega) (by omega)).toLoadRect (harg2.unread x1))) (k0_pay10 (F := Ideal) (View.readAt (Elt Ideal) arg3.view (box 0 256 0 1024 (by omega) (by omega)).toLoadRect (harg3.unread x2)) (View.readAt (Elt Ideal) arg1.view (box 0 256 0 2816 (by omega) (by omega)).toLoadRect (harg1.unread x0)) (View.readAt (Elt Ideal) arg2.view (box 0 2816 0 1024 (by omega) (by omega)).toLoadRect (harg2.unread x1)))⟩]

theorem pieces6_A (hc0 : cond0_0 i) : (kernelRun0_A (F := Ideal) c i arg1 harg1 arg2 harg2 arg3 harg3 arg4 harg4 arg5 harg5 arg6 harg6 arg7 harg7 arg8 harg8 arg9 harg9 hc0 x0 x1 x2 x3 x4).2.1
    = reads6 arg1 harg1 arg2 harg2 arg3 harg3 arg4 harg4 arg5 harg5 x0 x1 x2 x3 x4 := by sl_kernel_rfl

theorem out6_A (hc0 : cond0_0 i) : out0_A_6 (F := Ideal) c i arg1 harg1 arg2 harg2 arg3 harg3 arg4 harg4 arg5 harg5 arg6 harg6 arg7 harg7 arg8 harg8 arg9 harg9 hc0 x0 x1 x2 x3 x4 = View.canon (Val := Elt Ideal) (both16 x0 x1 x2 x3 x4) := by
  unfold out0_A_6
  rw [View.read_writes_junk_eq_canon, pieces6_A]
  unfold reads6
  simp only [read_lo, read_hi, read_whole]
  rfl

theorem out7_A (hc0 : cond0_0 i) : out0_A_7 (F := Ideal) c i arg1 harg1 arg2 harg2 arg3 harg3 arg4 harg4 arg5 harg5 arg6 harg6 arg7 harg7 arg8 harg8 arg9 harg9 hc0 x0 x1 x2 x3 x4 = gain x0 x1 x2 x3 x4 (k0_pay4 (F := Ideal)) := by
  frame_out
  rfl

theorem out8_A (hc0 : cond0_0 i) : out0_A_8 (F := Ideal) c i arg1 harg1 arg2 harg2 arg3 harg3 arg4 harg4 arg5 harg5 arg6 harg6 arg7 harg7 arg8 harg8 arg9 harg9 hc0 x0 x1 x2 x3 x4 = lossGain x0 x1 x2 x3 x4 (k0_pay5 (F := Ideal)) := by
  frame_out
  rfl

theorem pieces5_B (hc0 : ¬cond0_0 i) : (kernelRun0_B (F := Ideal) c i arg1 harg1 arg2 harg2 arg3 harg3 arg4 harg4 arg5 harg5 arg6 harg6 arg7 harg7 arg8 harg8 arg9 harg9 hc0 x0 x1 x2 x3 x4 xo7 xo8).1
    = reads5 arg1 harg1 arg2 harg2 arg3 harg3 arg4 harg4 arg5 harg5 x0 x1 x2 x3 x4 := by sl_kernel_rfl

theorem out5_B (hc0 : ¬cond0_0 i) : out0_B_5 (F := Ideal) c i arg1 harg1 arg2 harg2 arg3 harg3 arg4 harg4 arg5 harg5 arg6 harg6 arg7 harg7 arg8 harg8 arg9 harg9 hc0 x0 x1 x2 x3 x4 xo7 xo8 = View.canon (Val := Elt Ideal) (both x0 x1 x2 x3 x4) := by
  unfold out0_B_5
  rw [View.read_writes_junk_eq_canon, pieces5_B]
  unfold reads5
  simp only [read_lo, read_hi, read_whole]
  rfl

theorem pieces6_B (hc0 : ¬cond0_0 i) : (kernelRun0_B (F := Ideal) c i arg1 harg1 arg2 harg2 arg3 harg3 arg4 harg4 arg5 harg5 arg6 harg6 arg7 harg7 arg8 harg8 arg9 harg9 hc0 x0 x1 x2 x3 x4 xo7 xo8).2.1
    = reads6 arg1 harg1 arg2 harg2 arg3 harg3 arg4 harg4 arg5 harg5 x0 x1 x2 x3 x4 := by sl_kernel_rfl

theorem out6_B (hc0 : ¬cond0_0 i) : out0_B_6 (F := Ideal) c i arg1 harg1 arg2 harg2 arg3 harg3 arg4 harg4 arg5 harg5 arg6 harg6 arg7 harg7 arg8 harg8 arg9 harg9 hc0 x0 x1 x2 x3 x4 xo7 xo8 = View.canon (Val := Elt Ideal) (both16 x0 x1 x2 x3 x4) := by
  unfold out0_B_6
  rw [View.read_writes_junk_eq_canon, pieces6_B]
  unfold reads6
  simp only [read_lo, read_hi, read_whole]
  rfl

theorem out7_B (hc0 : ¬cond0_0 i) : out0_B_7 (F := Ideal) c i arg1 harg1 arg2 harg2 arg3 harg3 arg4 harg4 arg5 harg5 arg6 harg6 arg7 harg7 arg8 harg8 arg9 harg9 hc0 x0 x1 x2 x3 x4 xo7 xo8 = gain x0 x1 x2 x3 x4 xo7 := by
  frame_out
  rfl

theorem out8_B (hc0 : ¬cond0_0 i) : out0_B_8 (F := Ideal) c i arg1 harg1 arg2 harg2 arg3 harg3 arg4 harg4 arg5 harg5 arg6 harg6 arg7 harg7 arg8 harg8 arg9 harg9 hc0 x0 x1 x2 x3 x4 xo7 xo8 = lossGain x0 x1 x2 x3 x4 xo8 := by
  frame_out
  rfl

end Cert.LossKernelIdeal.Tile

end
-- ==== Proof.Ffn.LossWhole.lean ====
/-
  The loss behind the last norm: the kernel's four arrays, row by row.
-/
module

public import proofs.«01_k».proof.Proof.Ffn.LossTile
public import proofs.«01_k».proof.Proof.Gen.LossReferenceIdeal.Read

@[expose] public section

noncomputable section

namespace Cert.LossKernelIdeal.Whole

open Cert.LossKernelIdeal Cert.LossKernelIdeal.Gen Idealize.ShloMosaic Idealize.ShloMosaic.TcCoe Idealize.ShloMosaic.ValueIdx
open Cert.KernelIdeal.Attn (at2 at2_pos ix2_at2 box at2_box at2_canon_f32 at2_canon_bf16)
open Cert.NormRow Cert.LossKernelIdeal.Half Cert.LossKernelIdeal.Tile
open scoped BigOperators

section
variable (a : (⟨2, ![8192, 2816]⟩ : Shape).Idx → EReal) (w : (⟨2, ![2816, 1024]⟩ : Shape).Idx → EReal)
  (p t : (⟨2, ![8192, 1024]⟩ : Shape).Idx → EReal) (g : (⟨2, ![1, 1024]⟩ : Shape).Idx → EReal)

/-- The residual stream after the feed-forward layer. -/
def streamOf (r j : ℕ) : EReal :=
  at2 (a := 8192) (b := 1024) p r j + ∑ k ∈ Finset.range 2816, at2 (a := 8192) (b := 2816) a r k * at2 (a := 2816) (b := 1024) w k j

def weightOf : ℕ → EReal := at2 (a := 1) (b := 1024) g 0

/-- The normed rows less the target. -/
def gapOf (r j : ℕ) : EReal := streamOf a w p r j * inv (streamOf a w p r) * weightOf g j - at2 (a := 8192) (b := 1024) t r j

/-- The cotangent of the norm's result. -/
def cotOf (r j : ℕ) : EReal := Ideal.div (gapOf a w p t g r j) len

/-- A row's term of the weight's gradient. -/
def term (r j : ℕ) : EReal := cotOf a w p t g r j * (streamOf a w p r j * inv (streamOf a w p r))
end

theorem oneHalf_eq : oneHalf = ((1 / 2 : ℝ) : EReal) := by
  simp [oneHalf, Ideal.ofBits, Ideal.ieee]
  rw [← EReal.coe_mul]
  norm_num

/-- Half of a sum is the sum of the halves, whatever the terms. -/
theorem half_sum (f : ℕ → EReal) (n : ℕ) : oneHalf * ∑ k ∈ Finset.range n, f k = ∑ k ∈ Finset.range n, oneHalf * f k := by
  rw [oneHalf_eq]
  exact mul_sum (by norm_num) f n

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

theorem idx_out : ∀ t : Fin cfg0.N,
    (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

variable (m : (ℓ : Loc nD τ sig) → Buf (Elt Ideal) ℓ) (c : Dev nD)

theorem block0 (t : Fin cfg0.N) {i j : ℕ} (hi : i < 512) (hj : j < 2816) :
    at2 (a := 512) (b := 2816) (iblk m c 0 t) i j
      = at2 (a := 8192) (b := 2816) (m ((c : Thread nD τ).loc main_arg0)) (512 * t.val + i) j := by
  obtain ⟨⟨e0, e1⟩, _⟩ := idx_facts t
  have ht : t.val < 16 := t.isLt
  rw [← V_main_arg0 m c]
  exact Cert.KernelIdeal.Attn.at2_to hi hj _ rfl (by show win0_0.index t (0 : Fin 2) * 512 + 1 * i = 512 * t.val + i; omega) (by show win0_0.index t (1 : Fin 2) * 2816 + 1 * j = j; omega)

theorem block1 (t : Fin cfg0.N) {i j : ℕ} (hi : i < 2816) (hj : j < 1024) :
    at2 (a := 2816) (b := 1024) (iblk m c 1 t) i j
      = at2 (a := 2816) (b := 1024) (m ((c : Thread nD τ).loc main_arg1)) (i) j := by
  obtain ⟨_, ⟨e0, e1⟩, _⟩ := idx_facts t
  have ht : t.val < 16 := t.isLt
  rw [← V_main_arg1 m c]
  exact Cert.KernelIdeal.Attn.at2_to hi hj _ rfl (by show win0_1.index t (0 : Fin 2) * 2816 + 1 * i = i; omega) (by show win0_1.index t (1 : Fin 2) * 1024 + 1 * j = j; omega)

theorem block2 (t : Fin cfg0.N) {i j : ℕ} (hi : i < 512) (hj : j < 1024) :
    at2 (a := 512) (b := 1024) (iblk m c 2 t) i j
      = at2 (a := 8192) (b := 1024) (m ((c : Thread nD τ).loc main_arg2)) (512 * t.val + i) j := by
  obtain ⟨_, _, ⟨e0, e1⟩, _⟩ := idx_facts t
  have ht : t.val < 16 := t.isLt
  rw [← V_main_arg2 m c]
  exact Cert.KernelIdeal.Attn.at2_to hi hj _ rfl (by show win0_2.index t (0 : Fin 2) * 512 + 1 * i = 512 * t.val + i; omega) (by show win0_2.index t (1 : Fin 2) * 1024 + 1 * j = j; omega)

theorem block3 (t : Fin cfg0.N) {i j : ℕ} (hi : i < 512) (hj : j < 1024) :
    at2 (a := 512) (b := 1024) (iblk m c 3 t) i j
      = at2 (a := 8192) (b := 1024) (m ((c : Thread nD τ).loc main_arg3)) (512 * t.val + i) j := by
  obtain ⟨_, _, _, ⟨e0, e1⟩, _⟩ := idx_facts t
  have ht : t.val < 16 := t.isLt
  rw [← V_main_arg3 m c]
  exact Cert.KernelIdeal.Attn.at2_to hi hj _ rfl (by show win0_3.index t (0 : Fin 2) * 512 + 1 * i = 512 * t.val + i; omega) (by show win0_3.index t (1 : Fin 2) * 1024 + 1 * j = j; omega)

theorem block4 (t : Fin cfg0.N) {i j : ℕ} (hi : i < 1) (hj : j < 1024) :
    at2 (a := 1) (b := 1024) (iblk m c 4 t) i j
      = at2 (a := 1) (b := 1024) (m ((c : Thread nD τ).loc main_arg4)) (i) j := by
  obtain ⟨_, _, _, _, ⟨e0, e1⟩⟩ := idx_facts t
  have ht : t.val < 16 := t.isLt
  rw [← V_main_arg4 m c]
  exact Cert.KernelIdeal.Attn.at2_to hi hj _ rfl (by show win0_4.index t (0 : Fin 2) * 1 + 1 * i = i; omega) (by show win0_4.index t (1 : Fin 2) * 1024 + 1 * j = j; omega)

theorem at2_lo {b : ℕ} {x : (⟨2, ![512, b]⟩ : Shape).Idx → EReal} {i j : ℕ} (hi : i < 256) (hj : j < b) :
    at2 (a := 256) (b := b) (Tile.lo (e := .f32) x) i j = at2 (a := 512) (b := b) x i j :=
  (at2_box x 0 256 0 b (by omega) (by omega) hi hj).trans (by rw [Nat.zero_add, Nat.zero_add])

theorem at2_hi {b : ℕ} {x : (⟨2, ![512, b]⟩ : Shape).Idx → EReal} {i j : ℕ} (hi : i < 256) (hj : j < b) :
    at2 (a := 256) (b := b) (Tile.hi (e := .f32) x) i j = at2 (a := 512) (b := b) x (256 + i) j :=
  (at2_box x 256 256 0 b (by omega) (by omega) hi hj).trans (by rw [Nat.zero_add])

theorem at2_lo16 {b : ℕ} {x : (⟨2, ![512, b]⟩ : Shape).Idx → EReal} {i j : ℕ} (hi : i < 256) (hj : j < b) :
    at2 (a := 256) (b := b) (Tile.lo (e := .bf16) x) i j = at2 (a := 512) (b := b) x i j := at2_lo hi hj

theorem at2_hi16 {b : ℕ} {x : (⟨2, ![512, b]⟩ : Shape).Idx → EReal} {i j : ℕ} (hi : i < 256) (hj : j < b) :
    at2 (a := 256) (b := b) (Tile.hi (e := .bf16) x) i j = at2 (a := 512) (b := b) x (256 + i) j := at2_hi hi hj

/-- The stream, the gap, the cotangent and the weight of the whole arrays. -/
def S (r : ℕ) : ℕ → EReal := streamOf (m ((c : Thread nD τ).loc main_arg0)) (m ((c : Thread nD τ).loc main_arg1)) (m ((c : Thread nD τ).loc main_arg2)) r
def E (r : ℕ) : ℕ → EReal := gapOf (m ((c : Thread nD τ).loc main_arg0)) (m ((c : Thread nD τ).loc main_arg1)) (m ((c : Thread nD τ).loc main_arg2)) (m ((c : Thread nD τ).loc main_arg3)) (m ((c : Thread nD τ).loc main_arg4)) r
def A (r : ℕ) : ℕ → EReal := cotOf (m ((c : Thread nD τ).loc main_arg0)) (m ((c : Thread nD τ).loc main_arg1)) (m ((c : Thread nD τ).loc main_arg2)) (m ((c : Thread nD τ).loc main_arg3)) (m ((c : Thread nD τ).loc main_arg4)) r
def W : ℕ → EReal := weightOf (m ((c : Thread nD τ).loc main_arg4))
def T (r j : ℕ) : EReal := A m c r j * (S m c r j * inv (S m c r))
def lossTerm (r : ℕ) : EReal := oneHalf * lossRow (E m c r)

theorem s_lo (t : Fin cfg0.N) {i : ℕ} (hi : i < 256) : ∀ j < 1024,
    at2 (a := 256) (b := 1024) (sLo (iblk m c 0 t) (iblk m c 1 t) (iblk m c 2 t)) i j = S m c (512 * t.val + i) j := fun j hj => by
  refine (stream _ _ _ hi hj).trans ?_
  unfold S streamOf
  refine congrArg₂ (· + ·) ((at2_lo hi hj).trans (block2 m c t (by omega) hj)) (Finset.sum_congr rfl fun k hk => ?_)
  have hk := Finset.mem_range.mp hk
  exact congrArg₂ (· * ·) ((at2_lo16 hi hk).trans (block0 m c t (by omega) hk)) (block1 m c t hk hj)

theorem e_lo (t : Fin cfg0.N) {i : ℕ} (hi : i < 256) : ∀ j < 1024,
    at2 (a := 256) (b := 1024) (eLo (iblk m c 0 t) (iblk m c 1 t) (iblk m c 2 t) (iblk m c 3 t) (iblk m c 4 t)) i j = E m c (512 * t.val + i) j := fun j hj => by
  rw [at2_pos _ hi hj]
  refine (gap_apply _ _ _ _ _ ⟨i, hi⟩ ⟨j, hj⟩).trans ?_
  refine congrArg₂ (· - ·) (congrArg₂ (· * ·) (congrArg₂ (· * ·) (s_lo m c t hi j hj) (inv_congr (s_lo m c t hi))) (block4 m c t (i := 0) Nat.one_pos hj)) ?_
  exact (at2_lo hi hj).trans (block3 m c t (by omega) hj)

theorem a_lo (t : Fin cfg0.N) {i : ℕ} (hi : i < 256) : ∀ j < 1024,
    at2 (a := 256) (b := 1024) (aLo (iblk m c 0 t) (iblk m c 1 t) (iblk m c 2 t) (iblk m c 3 t) (iblk m c 4 t)) i j = A m c (512 * t.val + i) j := fun j hj => by
  have e := e_lo m c t hi j hj
  rw [at2_pos _ hi hj] at e
  rw [at2_pos _ hi hj]
  exact congrArg (fun s : EReal => Ideal.div s len) e

theorem d_lo (t : Fin cfg0.N) {i j : ℕ} (hi : i < 256) (hj : j < 1024) :
    at2 (a := 256) (b := 1024) (dLo (iblk m c 0 t) (iblk m c 1 t) (iblk m c 2 t) (iblk m c 3 t) (iblk m c 4 t)) i j = kernelRow (S m c (512 * t.val + i)) (fun _ => 0) (A m c (512 * t.val + i)) (W m c) j := by
  rw [at2_pos _ hi hj]
  refine (rows_apply _ _ _ ⟨i, hi⟩ ⟨j, hj⟩).trans ?_
  exact kernelRow_congr (s_lo m c t hi) (fun _ _ => rfl) (a_lo m c t hi) (fun k hk => block4 m c t (i := 0) Nat.one_pos hk) hj

theorem sum_lo (t : Fin cfg0.N) (acc : Vec Ideal S1x1024 .f32) (j : Fin 1024) :
    (k0_pay16 (F := Ideal) (sLo (iblk m c 0 t) (iblk m c 1 t) (iblk m c 2 t)) (aLo (iblk m c 0 t) (iblk m c 1 t) (iblk m c 2 t) (iblk m c 3 t) (iblk m c 4 t)) (mulf (F := Ideal) (sLo (iblk m c 0 t) (iblk m c 1 t) (iblk m c 2 t)) (sLo (iblk m c 0 t) (iblk m c 1 t) (iblk m c 2 t))) acc : S1x1024.Idx → EReal) (ix2 (0 : Fin 1) j)
      = acc (ix2 (0 : Fin 1) j) + ∑ i ∈ Finset.range 256, T m c (512 * t.val + i) j.val := by
  refine (sums_apply _ _ acc j).trans (congrArg (acc (ix2 (0 : Fin 1) j) + ·) (Finset.sum_congr rfl fun i hi => ?_))
  have hi := Finset.mem_range.mp hi
  unfold T
  rw [a_lo m c t hi j.val j.isLt, s_lo m c t hi j.val j.isLt, inv_congr (s_lo m c t hi)]

theorem loss_lo (t : Fin cfg0.N) (acc : Vec Ideal S1x1 .f32) :
    (k0_pay17 (F := Ideal) (k0_pay14 (F := Ideal) (eLo (iblk m c 0 t) (iblk m c 1 t) (iblk m c 2 t) (iblk m c 3 t) (iblk m c 4 t))) acc : S1x1.Idx → EReal) (ix2 (0 : Fin 1) (0 : Fin 1))
      = acc (ix2 (0 : Fin 1) (0 : Fin 1)) + ∑ i ∈ Finset.range 256, lossTerm m c (512 * t.val + i) := by
  refine (loss_apply _ acc).trans (congrArg (acc (ix2 (0 : Fin 1) (0 : Fin 1)) + ·) ?_)
  rw [half_sum]
  refine Finset.sum_congr rfl fun i hi => congrArg (oneHalf * ·) ?_
  exact lossRow_congr (e_lo m c t (Finset.mem_range.mp hi))

theorem s_hi (t : Fin cfg0.N) {i : ℕ} (hi : i < 256) : ∀ j < 1024,
    at2 (a := 256) (b := 1024) (sHi (iblk m c 0 t) (iblk m c 1 t) (iblk m c 2 t)) i j = S m c (512 * t.val + (256 + i)) j := fun j hj => by
  refine (stream _ _ _ hi hj).trans ?_
  unfold S streamOf
  refine congrArg₂ (· + ·) ((at2_hi hi hj).trans (block2 m c t (by omega) hj)) (Finset.sum_congr rfl fun k hk => ?_)
  have hk := Finset.mem_range.mp hk
  exact congrArg₂ (· * ·) ((at2_hi16 hi hk).trans (block0 m c t (by omega) hk)) (block1 m c t hk hj)

theorem e_hi (t : Fin cfg0.N) {i : ℕ} (hi : i < 256) : ∀ j < 1024,
    at2 (a := 256) (b := 1024) (eHi (iblk m c 0 t) (iblk m c 1 t) (iblk m c 2 t) (iblk m c 3 t) (iblk m c 4 t)) i j = E m c (512 * t.val + (256 + i)) j := fun j hj => by
  rw [at2_pos _ hi hj]
  refine (gap_apply _ _ _ _ _ ⟨i, hi⟩ ⟨j, hj⟩).trans ?_
  refine congrArg₂ (· - ·) (congrArg₂ (· * ·) (congrArg₂ (· * ·) (s_hi m c t hi j hj) (inv_congr (s_hi m c t hi))) (block4 m c t (i := 0) Nat.one_pos hj)) ?_
  exact (at2_hi hi hj).trans (block3 m c t (by omega) hj)

theorem a_hi (t : Fin cfg0.N) {i : ℕ} (hi : i < 256) : ∀ j < 1024,
    at2 (a := 256) (b := 1024) (aHi (iblk m c 0 t) (iblk m c 1 t) (iblk m c 2 t) (iblk m c 3 t) (iblk m c 4 t)) i j = A m c (512 * t.val + (256 + i)) j := fun j hj => by
  have e := e_hi m c t hi j hj
  rw [at2_pos _ hi hj] at e
  rw [at2_pos _ hi hj]
  exact congrArg (fun s : EReal => Ideal.div s len) e

theorem d_hi (t : Fin cfg0.N) {i j : ℕ} (hi : i < 256) (hj : j < 1024) :
    at2 (a := 256) (b := 1024) (dHi (iblk m c 0 t) (iblk m c 1 t) (iblk m c 2 t) (iblk m c 3 t) (iblk m c 4 t)) i j = kernelRow (S m c (512 * t.val + (256 + i))) (fun _ => 0) (A m c (512 * t.val + (256 + i))) (W m c) j := by
  rw [at2_pos _ hi hj]
  refine (rows_apply _ _ _ ⟨i, hi⟩ ⟨j, hj⟩).trans ?_
  exact kernelRow_congr (s_hi m c t hi) (fun _ _ => rfl) (a_hi m c t hi) (fun k hk => block4 m c t (i := 0) Nat.one_pos hk) hj

theorem sum_hi (t : Fin cfg0.N) (acc : Vec Ideal S1x1024 .f32) (j : Fin 1024) :
    (k0_pay16 (F := Ideal) (sHi (iblk m c 0 t) (iblk m c 1 t) (iblk m c 2 t)) (aHi (iblk m c 0 t) (iblk m c 1 t) (iblk m c 2 t) (iblk m c 3 t) (iblk m c 4 t)) (mulf (F := Ideal) (sHi (iblk m c 0 t) (iblk m c 1 t) (iblk m c 2 t)) (sHi (iblk m c 0 t) (iblk m c 1 t) (iblk m c 2 t))) acc : S1x1024.Idx → EReal) (ix2 (0 : Fin 1) j)
      = acc (ix2 (0 : Fin 1) j) + ∑ i ∈ Finset.range 256, T m c (512 * t.val + (256 + i)) j.val := by
  refine (sums_apply _ _ acc j).trans (congrArg (acc (ix2 (0 : Fin 1) j) + ·) (Finset.sum_congr rfl fun i hi => ?_))
  have hi := Finset.mem_range.mp hi
  unfold T
  rw [a_hi m c t hi j.val j.isLt, s_hi m c t hi j.val j.isLt, inv_congr (s_hi m c t hi)]

theorem loss_hi (t : Fin cfg0.N) (acc : Vec Ideal S1x1 .f32) :
    (k0_pay17 (F := Ideal) (k0_pay14 (F := Ideal) (eHi (iblk m c 0 t) (iblk m c 1 t) (iblk m c 2 t) (iblk m c 3 t) (iblk m c 4 t))) acc : S1x1.Idx → EReal) (ix2 (0 : Fin 1) (0 : Fin 1))
      = acc (ix2 (0 : Fin 1) (0 : Fin 1)) + ∑ i ∈ Finset.range 256, lossTerm m c (512 * t.val + (256 + i)) := by
  refine (loss_apply _ acc).trans (congrArg (acc (ix2 (0 : Fin 1) (0 : Fin 1)) + ·) ?_)
  rw [half_sum]
  refine Finset.sum_congr rfl fun i hi => congrArg (oneHalf * ·) ?_
  exact lossRow_congr (e_hi m c t (Finset.mem_range.mp hi))

theorem gain_apply (t : Fin cfg0.N) (acc : Vec Ideal S1x1024 .f32) (j : Fin 1024) :
    (gain (iblk m c 0 t) (iblk m c 1 t) (iblk m c 2 t) (iblk m c 3 t) (iblk m c 4 t) acc : S1x1024.Idx → EReal) (ix2 (0 : Fin 1) j) = acc (ix2 (0 : Fin 1) j) + ∑ i ∈ Finset.range 512, T m c (512 * t.val + i) j.val := by
  rw [Finset.sum_range_add (fun i => T m c (512 * t.val + i) j.val) 256 256, ← add_assoc, ← sum_lo m c t acc j]
  exact sum_hi m c t _ j

theorem lossGain_apply (t : Fin cfg0.N) (acc : Vec Ideal S1x1 .f32) :
    (lossGain (iblk m c 0 t) (iblk m c 1 t) (iblk m c 2 t) (iblk m c 3 t) (iblk m c 4 t) acc : S1x1.Idx → EReal) (ix2 (0 : Fin 1) (0 : Fin 1)) = acc (ix2 (0 : Fin 1) (0 : Fin 1)) + ∑ i ∈ Finset.range 512, lossTerm m c (512 * t.val + i) := by
  rw [Finset.sum_range_add (fun i => lossTerm m c (512 * t.val + i)) 256 256, ← add_assoc, ← loss_lo m c t acc]
  exact loss_hi m c t _

theorem first7 (t : Fin cfg0.N) (h0 : t.val % 16 = 0) : (outsAt0 m c t.val t.isLt).2.2.1 = gain (iblk m c 0 t) (iblk m c 1 t) (iblk m c 2 t) (iblk m c 3 t) (iblk m c 4 t) (k0_pay4 (F := Ideal)) := by
  rw [outsAt0_A m c t h0]
  dsimp only
  rw [out7_A]

theorem next7 (t : Fin cfg0.N) (h0 : ¬t.val % 16 = 0) : (outsAt0 m c t.val t.isLt).2.2.1 = gain (iblk m c 0 t) (iblk m c 1 t) (iblk m c 2 t) (iblk m c 3 t) (iblk m c 4 t) (outsAt0 m c (t.val - 1) (Nat.lt_of_le_of_lt (Nat.sub_le _ _) t.isLt)).2.2.1 := by
  rw [outsAt0_B m c t h0]
  dsimp only
  rw [out7_B]

theorem first8 (t : Fin cfg0.N) (h0 : t.val % 16 = 0) : (outsAt0 m c t.val t.isLt).2.2.2 = lossGain (iblk m c 0 t) (iblk m c 1 t) (iblk m c 2 t) (iblk m c 3 t) (iblk m c 4 t) (k0_pay5 (F := Ideal)) := by
  rw [outsAt0_A m c t h0]
  dsimp only
  rw [out8_A]

theorem next8 (t : Fin cfg0.N) (h0 : ¬t.val % 16 = 0) : (outsAt0 m c t.val t.isLt).2.2.2 = lossGain (iblk m c 0 t) (iblk m c 1 t) (iblk m c 2 t) (iblk m c 3 t) (iblk m c 4 t) (outsAt0 m c (t.val - 1) (Nat.lt_of_le_of_lt (Nat.sub_le _ _) t.isLt)).2.2.2 := by
  rw [outsAt0_B m c t h0]
  dsimp only
  rw [out8_B]

/-- The weight's gradient after a point. -/
theorem weight_after : ∀ (n : ℕ) (hn : n < cfg0.N) (j : Fin 1024),
    ((outsAt0 m c n hn).2.2.1 : S1x1024.Idx → EReal) (ix2 (0 : Fin 1) j) = ∑ r ∈ Finset.range (512 * (n + 1)), T m c r j.val
  | 0, hn, j => by
    refine (congrFun (first7 m c ⟨0, hn⟩ (Nat.zero_mod _)) _).trans ?_
    refine (gain_apply m c ⟨0, hn⟩ _ j).trans ?_
    refine (congrArg₂ (· + ·) (Cert.KernelIdeal.Attn.ofBits_zero) (Finset.sum_congr rfl fun i _ => ?_)).trans (zero_add _)
    exact congrArg (fun r => T m c r j.val) (by show 512 * 0 + i = i; omega)
  | n + 1, hn, j => by
    have hN : n + 1 < 16 := hn
    have h0 : ¬(n + 1) % 16 = 0 := by omega
    refine (congrFun (next7 m c ⟨n + 1, hn⟩ h0) _).trans ?_
    refine (gain_apply m c ⟨n + 1, hn⟩ _ j).trans ?_
    rw [show 512 * (n + 1 + 1) = 512 * (n + 1) + 512 by omega, Finset.sum_range_add]
    exact congrArg (· + _) (weight_after n (Nat.lt_of_succ_lt hn) j)

/-- The loss after a point. -/
theorem loss_after : ∀ (n : ℕ) (hn : n < cfg0.N),
    ((outsAt0 m c n hn).2.2.2 : S1x1.Idx → EReal) (ix2 (0 : Fin 1) (0 : Fin 1)) = ∑ r ∈ Finset.range (512 * (n + 1)), lossTerm m c r
  | 0, hn => by
    refine (congrFun (first8 m c ⟨0, hn⟩ (Nat.zero_mod _)) _).trans ?_
    refine (lossGain_apply m c ⟨0, hn⟩ _).trans ?_
    refine (congrArg₂ (· + ·) (Cert.KernelIdeal.Attn.ofBits_zero) (Finset.sum_congr rfl fun i _ => ?_)).trans (zero_add _)
    exact congrArg (fun r => lossTerm m c r) (by show 512 * 0 + i = i; omega)
  | n + 1, hn => by
    have hN : n + 1 < 16 := hn
    have h0 : ¬(n + 1) % 16 = 0 := by omega
    refine (congrFun (next8 m c ⟨n + 1, hn⟩ h0) _).trans ?_
    refine (lossGain_apply m c ⟨n + 1, hn⟩ _).trans ?_
    rw [show 512 * (n + 1 + 1) = 512 * (n + 1) + 512 by omega, Finset.sum_range_add]
    exact congrArg (· + _) (loss_after n (Nat.lt_of_succ_lt hn))

theorem out5 (t : Fin cfg0.N) : (outsAt0 m c t.val t.isLt).1 = View.canon (Val := Elt Ideal) (both (iblk m c 0 t) (iblk m c 1 t) (iblk m c 2 t) (iblk m c 3 t) (iblk m c 4 t)) := by
  by_cases h0 : t.val % 16 = 0
  · rw [outsAt0_A m c t h0]
    dsimp only
    rw [out5_A]
  · rw [outsAt0_B m c t h0]
    dsimp only
    rw [out5_B]

theorem out6 (t : Fin cfg0.N) : (outsAt0 m c t.val t.isLt).2.1 = View.canon (Val := Elt Ideal) (both16 (iblk m c 0 t) (iblk m c 1 t) (iblk m c 2 t) (iblk m c 3 t) (iblk m c 4 t)) := by
  by_cases h0 : t.val % 16 = 0
  · rw [outsAt0_A m c t h0]
    dsimp only
    rw [out6_A]
  · rw [outsAt0_B m c t h0]
    dsimp only
    rw [out6_B]

/-- What the kernel writes at one row and column. -/
def rowAt (r j : ℕ) : EReal := kernelRow (S m c r) (fun _ => 0) (A m c r) (W m c) j

theorem tile5 (t : Fin cfg0.N) (i : Fin 512) (j : Fin 1024) :
    (View.canon (Val := Elt Ideal) (both (iblk m c 0 t) (iblk m c 1 t) (iblk m c 2 t) (iblk m c 3 t) (iblk m c 4 t)) : S512x1024.Idx → EReal) (ix2 i j) = rowAt m c (512 * t.val + i.val) j.val := by
  have hi := i.isLt
  have hj := j.isLt
  refine (ix2_at2 (a := 512) (b := 1024) (View.canon (Val := Elt Ideal) (both (iblk m c 0 t) (iblk m c 1 t) (iblk m c 2 t) (iblk m c 3 t) (iblk m c 4 t))) i j).trans ?_
  unfold both
  rw [at2_canon_f32 _ _ _ _ _ _ _ _ hi hj]
  by_cases h : 256 ≤ i.val
  · rw [if_pos (by omega)]
    refine (d_hi m c t (by omega) (by omega)).trans ?_
    rw [show 512 * t.val + (256 + (i.val - 256)) = 512 * t.val + i.val by omega]
    rfl
  · rw [if_neg (by omega), at2_canon_f32 _ _ _ _ _ _ _ _ hi hj, if_pos (by omega)]
    exact d_lo m c t (by omega) (by omega)

theorem final5 : (dats m 0 c).arrAt 5 cfg0.N = fun i : S8192x1024.Idx => rowAt m c (i 0).val (i 1).val := by
  refine (dats m 0 c).arrAt_eq_of_covers 5 (fun i : S8192x1024.Idx => rowAt m c (i 0).val (i 1).val) (by decide +kernel) fun t hf y => ?_
  obtain ⟨⟨e0, e1⟩, _⟩ := idx_out t
  have ht : t.val < 16 := t.isLt
  rw [after0_5]
  obtain ⟨i, j, rfl⟩ : ∃ (i : Fin 512) (j : Fin 1024), y = ix2 i j := ⟨y 0, y 1, eq_ix2 (n0 := 512) (n1 := 1024) y⟩
  refine Eq.trans (congrArg ((outsAt0 m c t.val t.isLt).1) (show _ = ix2 i j from funext fun d => ?_)) ?_
  · match d with
    | ⟨0, _⟩ => rfl
    | ⟨1, _⟩ => rfl
  refine (congrFun (out5 m c t) (ix2 i j)).trans ((tile5 m c t i j).trans (congrArg₂ (rowAt m c) ?_ ?_))
  · show 512 * t.val + i.val = win0_5.index t (0 : Fin 2) * 512 + 1 * i.val
    omega
  · show j.val = win0_5.index t (1 : Fin 2) * 1024 + 1 * j.val
    omega

theorem tile6 (t : Fin cfg0.N) (i : Fin 512) (j : Fin 1024) :
    (View.canon (Val := Elt Ideal) (both16 (iblk m c 0 t) (iblk m c 1 t) (iblk m c 2 t) (iblk m c 3 t) (iblk m c 4 t)) : S512x1024.Idx → EReal) (ix2 i j) = rowAt m c (512 * t.val + i.val) j.val := by
  have hi := i.isLt
  have hj := j.isLt
  refine (ix2_at2 (a := 512) (b := 1024) (View.canon (Val := Elt Ideal) (both16 (iblk m c 0 t) (iblk m c 1 t) (iblk m c 2 t) (iblk m c 3 t) (iblk m c 4 t))) i j).trans ?_
  unfold both16
  rw [at2_canon_bf16 _ _ _ _ _ _ _ _ hi hj]
  by_cases h : 256 ≤ i.val
  · rw [if_pos (by omega)]
    refine (d_hi m c t (by omega) (by omega)).trans ?_
    rw [show 512 * t.val + (256 + (i.val - 256)) = 512 * t.val + i.val by omega]
    rfl
  · rw [if_neg (by omega), at2_canon_bf16 _ _ _ _ _ _ _ _ hi hj, if_pos (by omega)]
    exact d_lo m c t (by omega) (by omega)

theorem final6 : (dats m 0 c).arrAt 6 cfg0.N = fun i : S8192x1024.Idx => rowAt m c (i 0).val (i 1).val := by
  refine (dats m 0 c).arrAt_eq_of_covers 6 (fun i : S8192x1024.Idx => rowAt m c (i 0).val (i 1).val) (by decide +kernel) fun t hf y => ?_
  obtain ⟨_, ⟨e0, e1⟩, _⟩ := idx_out t
  have ht : t.val < 16 := t.isLt
  rw [after0_6]
  obtain ⟨i, j, rfl⟩ : ∃ (i : Fin 512) (j : Fin 1024), y = ix2 i j := ⟨y 0, y 1, eq_ix2 (n0 := 512) (n1 := 1024) y⟩
  refine Eq.trans (congrArg ((outsAt0 m c t.val t.isLt).2.1) (show _ = ix2 i j from funext fun d => ?_)) ?_
  · match d with
    | ⟨0, _⟩ => rfl
    | ⟨1, _⟩ => rfl
  refine (congrFun (out6 m c t) (ix2 i j)).trans ((tile6 m c t i j).trans (congrArg₂ (rowAt m c) ?_ ?_))
  · show 512 * t.val + i.val = win0_6.index t (0 : Fin 2) * 512 + 1 * i.val
    omega
  · show j.val = win0_6.index t (1 : Fin 2) * 1024 + 1 * j.val
    omega

theorem last7 : ∀ t : Fin cfg0.N, (cfg0.win 7).flush t = true → t.val = 15 := (by decide +kernel : ∀ t : Fin grid0.N, _)
theorem last8 : ∀ t : Fin cfg0.N, (cfg0.win 8).flush t = true → t.val = 15 := (by decide +kernel : ∀ t : Fin grid0.N, _)

/-- The weight's gradient and the loss. -/
def total (j : ℕ) : EReal := ∑ r ∈ Finset.range 8192, T m c r j
def loss : EReal := ∑ r ∈ Finset.range 8192, lossTerm m c r

theorem final7 : (dats m 0 c).arrAt 7 cfg0.N = fun i : S1x1024.Idx => total m c (i 1).val := by
  refine (dats m 0 c).arrAt_eq_of_covers 7 (fun i : S1x1024.Idx => total m c (i 1).val) (by decide +kernel) fun t hf y => ?_
  obtain ⟨_, _, ⟨e0, e1⟩, _⟩ := idx_out t
  have ht := last7 t hf
  rw [after0_7]
  obtain ⟨i, j, rfl⟩ : ∃ (i : Fin 1) (j : Fin 1024), y = ix2 i j := ⟨y 0, y 1, eq_ix2 (n0 := 1) (n1 := 1024) y⟩
  obtain rfl : i = 0 := Subsingleton.elim _ _
  refine Eq.trans (congrArg ((outsAt0 m c t.val t.isLt).2.2.1) (show _ = ix2 (0 : Fin 1) j from funext fun d => ?_)) ?_
  · match d with
    | ⟨0, _⟩ => rfl
    | ⟨1, _⟩ => rfl
  refine (weight_after m c t.val t.isLt j).trans ?_
  rw [ht]
  refine congrArg (total m c) ?_
  show j.val = win0_7.index t (1 : Fin 2) * 1024 + 1 * j.val
  omega

theorem final8 : (dats m 0 c).arrAt 8 cfg0.N = fun _ : S1x1.Idx => loss m c := by
  refine (dats m 0 c).arrAt_eq_of_covers 8 (fun _ : S1x1.Idx => loss m c) (by decide +kernel) fun t hf y => ?_
  have ht := last8 t hf
  rw [after0_8]
  obtain ⟨i, j, rfl⟩ : ∃ (i : Fin 1) (j : Fin 1), y = ix2 i j := ⟨y 0, y 1, eq_ix2 (n0 := 1) (n1 := 1) y⟩
  obtain rfl : i = 0 := Subsingleton.elim _ _
  obtain rfl : j = 0 := Subsingleton.elim _ _
  refine Eq.trans (congrArg ((outsAt0 m c t.val t.isLt).2.2.2) (show _ = ix2 (0 : Fin 1) (0 : Fin 1) from funext fun d => ?_)) ?_
  · match d with
    | ⟨0, _⟩ => rfl
    | ⟨1, _⟩ => rfl
  refine (loss_after m c t.val t.isLt).trans ?_
  rw [ht]
  rfl

end Cert.LossKernelIdeal.Whole

end
-- ==== Proof.Ffn.LossPlain.lean ====
/-
  The loss behind the last norm and its gradient as the plain program writes them, read row by row.
-/
module

public import proofs.«01_k».proof.Proof.Ffn.LossWhole
public import Idealize.ShloMosaic.Lib.ValueIdxRank1

@[expose] public section

noncomputable section

namespace Cert.LossReferenceIdeal.Plain

open Cert.LossReferenceIdeal Cert.LossReferenceIdeal.Gen Cert.LossReferenceIdeal.Read Idealize.ShloMosaic Idealize.ShloMosaic.ValueIdx
open Cert.KernelIdeal.Attn (at2 at2_pos ix2_at2 idx_at2 ofBits_zero)
open Cert.LossKernelIdeal.Whole (streamOf gapOf cotOf weightOf term half_sum oneHalf_eq)
open Cert.LossKernelIdeal.Half (oneHalf lossRow)
open Cert.NormRow
open scoped BigOperators

variable (x0 : (⟨S8192x2816, .bf16⟩ : BufTy).Contents (Elt Ideal)) (x1 : (⟨S2816x1024, .bf16⟩ : BufTy).Contents (Elt Ideal))
  (x2 x3 : (⟨S8192x1024, .f32⟩ : BufTy).Contents (Elt Ideal)) (x4 : (⟨S1x1024, .f32⟩ : BufTy).Contents (Elt Ideal))

theorem stream_eq (i : S8192x1024.Idx) : (val_main_v3 (F := Ideal) x0 x1 x2 i : EReal) = streamOf x0 x1 x2 (i 0).val (i 1).val := by
  have e : (val_main_v2 (F := Ideal) x0 x1 i : EReal)
      = ∑ k ∈ Finset.range 2816, at2 (a := 8192) (b := 2816) x0 (i 0).val k * at2 (a := 2816) (b := 1024) x1 k (i 1).val := by
    rw [val_main_v2_apply, Finset.sum_range]
    refine Finset.sum_congr rfl fun k _ => congrArg₂ (· * ·) ?_ ?_
    · exact idx_at2 (a := 8192) (b := 2816) x0 _
    · exact idx_at2 (a := 2816) (b := 1024) x1 _
  unfold streamOf
  rw [← e]
  exact congrArg (fun s : EReal => s + (val_main_v2 (F := Ideal) x0 x1 i : EReal)) (idx_at2 (a := 8192) (b := 1024) x2 i)

theorem first_zero {s : Shape} (x : s.Idx → EReal) (h : ∀ i, x i = Ideal.ofBits .f32 0x00000000#32) (i : s.Idx) (y : EReal) : x i + y = y := by
  rw [h, ofBits_zero, zero_add]

theorem meanSq_eq (i : S8192x1.Idx) : (val_main_v10 (F := Ideal) x0 x1 x2 i : EReal) = meanSq (streamOf x0 x1 x2 (i 0).val) := by
  have e : (val_main_v6 (F := Ideal) x0 x1 x2 i : EReal) = ∑ k ∈ Finset.range 1024, streamOf x0 x1 x2 (i 0).val k * streamOf x0 x1 x2 (i 0).val k := by
    rw [val_main_v6_apply, val_main_v5_apply, Finset.sum_range]
    refine (first_zero (val_main_cst (F := Ideal)) (fun _ => rfl) _ _).trans (Finset.sum_congr rfl fun k _ => ?_)
    refine (val_main_v4_apply x0 x1 x2 _).trans ?_
    exact congrArg₂ (· * ·) (stream_eq x0 x1 x2 _) (stream_eq x0 x1 x2 _)
  unfold meanSq
  rw [← e]
  rfl

theorem inv_eq (i : S8192x1.Idx) : (val_main_v11 (F := Ideal) x0 x1 x2 i : EReal) = inv (streamOf x0 x1 x2 (i 0).val) :=
  congrArg Ideal.rsqrt (meanSq_eq x0 x1 x2 i)

theorem weight_eq (i : S8192x1024.Idx) : (val_main_v17 (F := Ideal) x4 i : EReal) = weightOf x4 (i 1).val := by
  rw [val_main_v17_apply]
  exact idx_at2 (a := 1) (b := 1024) x4 _

theorem weight_eq' (i : S8192x1024.Idx) : (val_main_v37 (F := Ideal) x4 i : EReal) = weightOf x4 (i 1).val := by
  rw [val_main_v37_apply]
  exact idx_at2 (a := 1) (b := 1024) x4 _

theorem unit_eq (i : S8192x1024.Idx) : (val_main_v16 (F := Ideal) x0 x1 x2 i : EReal)
    = streamOf x0 x1 x2 (i 0).val (i 1).val * inv (streamOf x0 x1 x2 (i 0).val) := by
  refine (val_main_v16_apply x0 x1 x2 i).trans ?_
  rw [val_main_v15_apply]
  exact congrArg₂ (fun p q : EReal => p * q) (stream_eq x0 x1 x2 i) (inv_eq x0 x1 x2 _)

theorem gap_eq (i : S8192x1024.Idx) : (val_main_v19 (F := Ideal) x0 x1 x2 x3 x4 i : EReal) = gapOf x0 x1 x2 x3 x4 (i 0).val (i 1).val := by
  unfold gapOf
  rw [← unit_eq, ← weight_eq x4 i]
  exact congrArg (fun s : EReal => (val_main_v18 (F := Ideal) x0 x1 x2 x4 i : EReal) - s) (idx_at2 (a := 8192) (b := 1024) x3 i)

/-- Half of one, over the length, times twice the gap is the gap over the length. -/
theorem scale (y : EReal) : Ideal.div (oneHalf * Ideal.ofBits .f32 0x3F800000#32) len * (Ideal.ofBits .f32 0x40000000#32 * y) = Ideal.div y len := by
  have h1 : Ideal.ofBits .f32 0x3F800000#32 = ((1 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have hl : (1024 : ℝ) ≠ 0 := by norm_num
  rw [h1, h2, oneHalf_eq, len_eq, ← EReal.coe_mul, Ideal.div_coe hl, Ideal.div_coe hl, ← EReal.coe_mul, ← mul_assoc, ← EReal.coe_mul, mul_comm]
  exact congrArg (fun r : ℝ => y * (r : EReal)) (by norm_num)

theorem cot_eq (i : S8192x1024.Idx) : (val_main_v33 (F := Ideal) x0 x1 x2 x3 x4 i : EReal) = cotOf x0 x1 x2 x3 x4 (i 0).val (i 1).val := by
  unfold cotOf
  rw [← gap_eq]
  refine Eq.trans ?_ (scale _)
  refine (val_main_v33_apply x0 x1 x2 x3 x4 i).trans ?_
  rw [val_main_v32_apply]
  rfl

/-- The weight's gradient. -/
theorem sums_eq (i : S1x1024.Idx) : (val_main_v36 (F := Ideal) x0 x1 x2 x3 x4 i : EReal) = ∑ r ∈ Finset.range 8192, term x0 x1 x2 x3 x4 r (i 1).val := by
  rw [val_main_v36_apply, val_main_v35_apply, Finset.sum_range]
  refine (first_zero (val_main_cst_11 (F := Ideal)) (fun _ => rfl) _ _).trans (Finset.sum_congr rfl fun k _ => ?_)
  refine (val_main_v34_apply x0 x1 x2 x3 x4 _).trans ?_
  unfold term
  rw [mul_comm (cotOf _ _ _ _ _ _ _)]
  refine (congrArg₂ (fun p q : EReal => p * q) (unit_eq x0 x1 x2 (idx_main_v35 (idx_main_v36 i) k)) (cot_eq x0 x1 x2 x3 x4 (idx_main_v35 (idx_main_v36 i) k))).trans ?_
  have h0 : (i 0).val < 1 := (i 0).isLt
  exact congrArg (fun s : ℕ => streamOf x0 x1 x2 k.val s * inv (streamOf x0 x1 x2 k.val) * cotOf x0 x1 x2 x3 x4 k.val s)
    (by omega : (i 0).val * 1024 + (i 1).val = (i 1).val)

/-- The loss. -/
theorem mean_eq (i : S8192.Idx) : (val_main_v25 (F := Ideal) x0 x1 x2 x3 x4 i : EReal) = lossRow (gapOf x0 x1 x2 x3 x4 (i 0).val) := by
  have e : (val_main_v23 (F := Ideal) x0 x1 x2 x3 x4 i : EReal)
      = ∑ k ∈ Finset.range 1024, gapOf x0 x1 x2 x3 x4 (i 0).val k * gapOf x0 x1 x2 x3 x4 (i 0).val k := by
    rw [val_main_v23_apply, Finset.sum_range]
    refine (first_zero (val_main_cst_4 (F := Ideal)) (fun _ => rfl) _ _).trans (Finset.sum_congr rfl fun k _ => ?_)
    refine (val_main_v20_apply x0 x1 x2 x3 x4 _).trans ?_
    exact congrArg₂ (· * ·) (gap_eq x0 x1 x2 x3 x4 _) (gap_eq x0 x1 x2 x3 x4 _)
  unfold lossRow
  rw [← e]
  refine (val_main_v25_apply x0 x1 x2 x3 x4 i).trans ?_
  rw [val_main_v24_apply]
  rfl

theorem loss_eq (i : S1x1.Idx) : (val_main_v54 (F := Ideal) x0 x1 x2 x3 x4 i : EReal)
    = ∑ r ∈ Finset.range 8192, oneHalf * lossRow (gapOf x0 x1 x2 x3 x4 r) := by
  have e (j : S_.Idx) : (val_main_v26 (F := Ideal) x0 x1 x2 x3 x4 j : EReal) = ∑ r ∈ Finset.range 8192, lossRow (gapOf x0 x1 x2 x3 x4 r) := by
    rw [val_main_v26_apply, Finset.sum_range]
    refine (first_zero (val_main_cst_6 (F := Ideal)) (fun _ => rfl) _ _).trans ?_
    exact Fintype.sum_equiv ⟨fun j : S8192.Idx => (j 0 : Fin 8192), fun k => ix1 k, fun j => (eq_ix1 (n := 8192) j).symm, fun _ => rfl⟩ _ _
      fun j => mean_eq x0 x1 x2 x3 x4 j
  rw [← half_sum]
  exact congrArg (fun s : EReal => oneHalf * s) (e _)

theorem bySq_eq (i : S8192x1024.Idx) : (val_main_v48 (F := Ideal) x0 x1 x2 x3 x4 i : EReal)
    = bySq (streamOf x0 x1 x2 (i 0).val) (cotOf x0 x1 x2 x3 x4 (i 0).val) (weightOf x4) := by
  rw [val_main_v48_apply, val_main_v47_apply]
  refine (first_zero (val_main_cst_14 (F := Ideal)) (fun _ => rfl) _ _).trans ?_
  rw [Fin.sum_univ_one]
  have e (j : S8192x1.Idx) : (val_main_v41 (F := Ideal) x0 x1 x2 x3 x4 j : EReal)
      = ∑ k ∈ Finset.range 1024, streamOf x0 x1 x2 (j 0).val k * (cotOf x0 x1 x2 x3 x4 (j 0).val k * weightOf x4 k) := by
    rw [val_main_v41_apply, val_main_v40_apply, Finset.sum_range]
    refine (first_zero (val_main_cst_12 (F := Ideal)) (fun _ => rfl) _ _).trans (Finset.sum_congr rfl fun k _ => ?_)
    refine (val_main_v39_apply x0 x1 x2 x3 x4 _).trans ?_
    refine (congrArg₂ (fun p q : EReal => p * q) (stream_eq x0 x1 x2 (idx_main_v40 (idx_main_v41 j) k))
      (congrArg₂ (fun p q : EReal => p * q) (cot_eq x0 x1 x2 x3 x4 (idx_main_v40 (idx_main_v41 j) k)) (weight_eq' x4 (idx_main_v40 (idx_main_v41 j) k)))).trans ?_
    have h1 : (j 1).val < 1 := (j 1).isLt
    exact congrArg (fun s : ℕ => streamOf x0 x1 x2 s k.val * (cotOf x0 x1 x2 x3 x4 s k.val * weightOf x4 k.val)) (by omega : (j 0).val * 1 + (j 1).val = (j 0).val)
  have f (j : S8192x1.Idx) : (val_main_v46 (F := Ideal) x0 x1 x2 x3 x4 j : EReal)
      = bySq (streamOf x0 x1 x2 (j 0).val) (cotOf x0 x1 x2 x3 x4 (j 0).val) (weightOf x4) := by
    unfold bySq
    rw [← e, ← inv_eq, ← meanSq_eq]
    rfl
  exact f _

theorem rows_eq (i : S8192x1024.Idx) : (val_main_v52 (F := Ideal) x0 x1 x2 x3 x4 i : EReal)
    = plainRow (streamOf x0 x1 x2 (i 0).val) (fun _ => 0) (cotOf x0 x1 x2 x3 x4 (i 0).val) (weightOf x4) (i 1).val := by
  have hi : (val_main_v42 (F := Ideal) x0 x1 x2 i : EReal) = inv (streamOf x0 x1 x2 (i 0).val) := by
    rw [val_main_v42_apply]
    exact inv_eq x0 x1 x2 _
  unfold plainRow
  rw [← bySq_eq, ← hi, ← weight_eq' x4 i, ← cot_eq x0 x1 x2 x3 x4 i, ← stream_eq x0 x1 x2 i, zero_add]
  rfl

/-- The kernel's rows are the plain program's. -/
theorem rows_same (i : S8192x1024.Idx) :
    kernelRow (streamOf x0 x1 x2 (i 0).val) (fun _ => 0) (cotOf x0 x1 x2 x3 x4 (i 0).val) (weightOf x4) (i 1).val = val_main_v52 (F := Ideal) x0 x1 x2 x3 x4 i := by
  rw [rows_eq]
  exact row _ _ _ _ (i 1).isLt

end Cert.LossReferenceIdeal.Plain

end
-- ==== Proof.Ffn.LossClaims.lean ====
/-
  The claims of the loss behind the last norm and its gradient.
-/
module

public import proofs.«01_k».proof.Defs
public import proofs.«01_k».proof.Proof.Gen.LossKernel
public import proofs.«01_k».proof.Proof.Gen.LossKernelIdeal
public import proofs.«01_k».proof.Proof.Gen.LossReferenceIdeal
public import proofs.«01_k».proof.Proof.Gen.LossReferenceIdeal.Run
public import proofs.«01_k».proof.Proof.Ffn.LossPlain
public import Idealize.ShloMosaic.Lib.Quiescent
public import Idealize.ShloMosaic.Adequacy
public import Idealize.ShloMosaic.Init

@[expose] public section

noncomputable section

namespace Cert.LossClaims

open Idealize.ShloMosaic Idealize.SL.Sem
open Idealize.ShloMosaic.TcCoe
open Cert.LossKernelIdeal (cfg0 nD τ sig main_arg0 main_arg1 main_arg2 main_arg3 main_arg4)
open Cert.LossKernelIdeal.Gen Cert.LossKernelIdeal.Value

attribute [local instance] Cert.LossKernel.Gen.facts Cert.LossKernelIdeal.Gen.facts Cert.LossReferenceIdeal.Gen.facts

/-- The plain program has no semaphores; its run leaves its arguments as they were. -/
theorem frame_reference : Cert.quiescent_LossReferenceIdeal := fun m g _ =>
  (θ_run _ _ _).monotone (fun r h => ⟨fun c => (h c).2.2.2.2, sem_eq_zero_of_no_sems (by decide) r.2⟩) (Cert.LossReferenceIdeal.Value.run m g)

variable (m : (ℓ : Loc nD τ sig) → Buf (Elt Ideal) ℓ) (c : Dev nD)

theorem rows :
    Cert.LossReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 5 cfg0.N := by
  rw [Cert.LossKernelIdeal.Whole.final5]
  funext i
  exact (Cert.LossReferenceIdeal.Plain.rows_same _ _ _ _ _ i).symm

theorem rows16 :
    Cert.LossReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 6 cfg0.N := by
  rw [Cert.LossKernelIdeal.Whole.final6]
  funext i
  exact (Cert.LossReferenceIdeal.Plain.rows_same _ _ _ _ _ i).symm

theorem sums :
    Cert.LossReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 7 cfg0.N := by
  rw [Cert.LossKernelIdeal.Whole.final7]
  funext i
  exact Cert.LossReferenceIdeal.Plain.sums_eq _ _ _ _ _ i

theorem loss :
    Cert.LossReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 8 cfg0.N := by
  rw [Cert.LossKernelIdeal.Whole.final8]
  funext i
  exact Cert.LossReferenceIdeal.Plain.loss_eq _ _ _ _ _ i

theorem value : Cert.algebraic_LossKernelIdeal_LossReferenceIdeal := by
  intro m g m' g' _ ha
  refine ⟨fun c => (dats m 0 c).arrAt 5 cfg0.N, fun c => (dats m 0 c).arrAt 6 cfg0.N, fun c => (dats m 0 c).arrAt 7 cfg0.N, fun c => (dats m 0 c).arrAt 8 cfg0.N, run_blocks m g, ?_⟩
  refine (θ_run _ _ _).monotone (fun r h c => ?_) (Cert.LossReferenceIdeal.Value.run m' g')
  obtain ⟨a0, a1, a2, a3, a4⟩ := ha c
  obtain ⟨h0, h1, h2, h3, h4⟩ := h c
  rw [Cert.LossReferenceIdeal.Read.val_main_v52_eq, a0, a1, a2, a3, a4] at h0
  rw [Cert.LossReferenceIdeal.Read.val_main_v53_eq, a0, a1, a2, a3, a4] at h1
  rw [Cert.LossReferenceIdeal.Read.val_main_v36_eq, a0, a1, a2, a3, a4] at h2
  rw [Cert.LossReferenceIdeal.Read.val_main_v54_eq, a0, a1, a2, a3, a4] at h3
  exact ⟨h0.trans (rows m c), h1.trans (rows16 m c), h2.trans (sums m c), h3.trans (loss m c), h4⟩

end Cert.LossClaims

end
-- ==== Proof.Ffn.Latent.lean ====
/-
  The forward projection to the latents, the rotary keys and the forgetting gate: each block of 1024 tokens is one product over the
  model's width.
-/
module

public import proofs.«01_k».proof.Proof.Attn.Read
public import proofs.«01_k».proof.Proof.Gen.LatentKernelIdeal.Value
public import proofs.«01_k».proof.Proof.Gen.LatentReferenceIdeal.Read
public import Idealize.ShloMosaic.Lib.Pipeline.ValueKit.Acc
public import Idealize.ShloMosaic.Lib.Pipeline.ValueKit.Geometry

@[expose] public section

noncomputable section

namespace Cert.LatentKernelIdeal.Prod

open Cert.LatentKernelIdeal Cert.LatentKernelIdeal.Gen Idealize.ShloMosaic Idealize.ShloMosaic.TcCoe Idealize.ShloMosaic.ValueIdx
open Cert.KernelIdeal.Attn (at2 at2_pos at2_nt ix2_at2)
open scoped BigOperators

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD)

/-- A product of the rows of the tokens and the rows of the weight. -/
def dotv (x : (⟨2, ![8192, 1024]⟩ : Shape).Idx → EReal) (w : (⟨2, ![640, 1024]⟩ : Shape).Idx → EReal) (r s : ℕ) : EReal :=
  ∑ k ∈ Finset.range 1024, at2 (a := 8192) (b := 1024) x r k * at2 (a := 640) (b := 1024) w s k

/-- The tokens' block. -/
theorem tok_block (t : Fin cfg0.N) {i j : ℕ} (hi : i < 1024) (hj : j < 1024) :
    at2 (a := 1024) (b := 1024) (iblk m c 0 t) i j
      = at2 (a := 8192) (b := 1024) (m ((c : Thread nD τ).loc main_arg0)) (1024 * (t.val) + i) j := by
  obtain ⟨⟨e0, e1⟩, _⟩ := idx_facts t
  have ht : t.val < 8 := t.isLt
  rw [← V_main_arg0 m c]
  exact Cert.KernelIdeal.Attn.at2_to hi hj _ rfl (by show win0_0.index t (0 : Fin 2) * 1024 + 1 * i = 1024 * (t.val) + i; omega) (by show win0_0.index t (1 : Fin 2) * 1024 + 1 * j = j; omega)

/-- The weight's block. -/
theorem weight_block (t : Fin cfg0.N) {i j : ℕ} (hi : i < 640) (hj : j < 1024) :
    at2 (a := 640) (b := 1024) (iblk m c 1 t) i j
      = at2 (a := 640) (b := 1024) (m ((c : Thread nD τ).loc main_arg1)) (640 * (0) + i) j := by
  obtain ⟨_, ⟨e0, e1⟩, _⟩ := idx_facts t
  have ht : t.val < 8 := t.isLt
  rw [← V_main_arg1 m c]
  exact Cert.KernelIdeal.Attn.at2_to hi hj _ rfl (by show win0_1.index t (0 : Fin 2) * 640 + 1 * i = 640 * (0) + i; omega) (by show win0_1.index t (1 : Fin 2) * 1024 + 1 * j = j; omega)

/-- The kernel's product. -/
def P (r s : ℕ) : EReal := dotv (m ((c : Thread nD τ).loc main_arg0)) (m ((c : Thread nD τ).loc main_arg1)) r s

theorem prod_apply (t : Fin cfg0.N) {i j : ℕ} (hi : i < 1024) (hj : j < 640) :
    (k0_pay1 (F := Ideal) (iblk m c 0 t) (iblk m c 1 t) : S1024x640.Idx → EReal) (ix2 ⟨i, hi⟩ ⟨j, hj⟩)
      = P m c (1024 * (t.val) + i) (640 * (0) + j) := by
  refine (at2_pos (a := 1024) (b := 640) (k0_pay1 (F := Ideal) (iblk m c 0 t) (iblk m c 1 t)) hi hj).symm.trans ?_
  refine (at2_nt (M := 1024) (K := 1024) (N := 640) (φ₁ := .bf16) (φ₂ := .bf16) (iblk m c 0 t) (iblk m c 1 t) hi hj).trans ?_
  unfold P dotv
  refine Finset.sum_congr rfl fun k hk => ?_
  have hk := Finset.mem_range.mp hk
  rw [tok_block m c t hi hk, weight_block m c t hj hk]

theorem out2 (t : Fin cfg0.N) : out0_2 (F := Ideal) (iblk m c 0 t) (iblk m c 1 t) = k0_pay1 (F := Ideal) (iblk m c 0 t) (iblk m c 1 t) := by
  frame_out

theorem final : (dats m 0 c).arrAt 2 cfg0.N = fun i : S8192x640.Idx => P m c (i 0).val (i 1).val := by
  refine (dats m 0 c).arrAt_eq_of_covers 2 (fun i : S8192x640.Idx => P m c (i 0).val (i 1).val) (by decide +kernel) fun t hf y => ?_
  obtain ⟨_, _, e0, e1⟩ := idx_facts t
  have ht : t.val < 8 := t.isLt
  rw [after0_2, out2]
  obtain ⟨i, j, rfl⟩ : ∃ (i : Fin 1024) (j : Fin 640), y = ix2 i j := ⟨y 0, y 1, eq_ix2 (n0 := 1024) (n1 := 640) y⟩
  refine Eq.trans (b := P m c (1024 * (t.val) + i.val) (640 * (0) + j.val)) ?_ ?_
  · refine Eq.trans (congrArg (k0_pay1 (F := Ideal) (iblk m c 0 t) (iblk m c 1 t)) (show _ = ix2 i j from funext fun d => ?_)) ?_
    · match d with
      | ⟨0, _⟩ => rfl
      | ⟨1, _⟩ => rfl
    exact prod_apply m c t i.isLt j.isLt
  · refine congrArg₂ (P m c) ?_ ?_
    · show 1024 * (t.val) + i.val = win0_2.index t (0 : Fin 2) * 1024 + 1 * i.val
      omega
    · show 640 * (0) + j.val = win0_2.index t (1 : Fin 2) * 640 + 1 * j.val
      omega

end Cert.LatentKernelIdeal.Prod

namespace Cert.LatentReferenceIdeal.Prod

open Cert.LatentReferenceIdeal Cert.LatentReferenceIdeal.Gen Cert.LatentReferenceIdeal.Read Idealize.ShloMosaic Idealize.ShloMosaic.ValueIdx
open Cert.KernelIdeal.Attn (at2 at2_pos ix2_at2 idx_at2)
open Cert.LatentKernelIdeal.Prod (dotv)
open scoped BigOperators

/-- The plain program's result is the same product. -/
theorem plain (x0 : (⟨S8192x1024, .bf16⟩ : BufTy).Contents (Elt Ideal)) (x1 : (⟨S640x1024, .bf16⟩ : BufTy).Contents (Elt Ideal)) (i : S8192x640.Idx) :
    val_main_v3 (F := Ideal) x0 x1 i = dotv x0 x1 (i 0).val (i 1).val := by
  refine Eq.trans (val_main_v3_apply x0 x1 i) ?_
  unfold dotv
  rw [Finset.sum_range]
  refine Finset.sum_congr rfl fun k _ => ?_
  rw [val_main_v2_apply]
  refine congrArg₂ (· * ·) ?_ ?_
  · exact idx_at2 (a := 8192) (b := 1024) x0 _
  · exact idx_at2 (a := 640) (b := 1024) x1 _

end Cert.LatentReferenceIdeal.Prod

end
-- ==== Proof.Ffn.LatentClaims.lean ====
/-
  The claims of the forward projection to the latents, the rotary keys and the forgetting gate.
-/
module

public import proofs.«01_k».proof.Defs
public import proofs.«01_k».proof.Proof.Gen.LatentKernel
public import proofs.«01_k».proof.Proof.Gen.LatentKernelIdeal
public import proofs.«01_k».proof.Proof.Gen.LatentReferenceIdeal
public import proofs.«01_k».proof.Proof.Gen.LatentReferenceIdeal.Run
public import proofs.«01_k».proof.Proof.Ffn.Latent
public import Idealize.ShloMosaic.Lib.Quiescent
public import Idealize.ShloMosaic.Adequacy
public import Idealize.ShloMosaic.Init

@[expose] public section

noncomputable section

namespace Cert.LatentClaims

open Idealize.ShloMosaic Idealize.SL.Sem
open Idealize.ShloMosaic.TcCoe
open Cert.LatentKernelIdeal (cfg0 nD τ sig main_arg0 main_arg1)
open Cert.LatentKernelIdeal.Gen Cert.LatentKernelIdeal.Value

attribute [local instance] Cert.LatentKernel.Gen.facts Cert.LatentKernelIdeal.Gen.facts Cert.LatentReferenceIdeal.Gen.facts

/-- The plain program has no semaphores; its run leaves its arguments as they were. -/
theorem frame_reference : Cert.quiescent_LatentReferenceIdeal := fun m g _ =>
  (θ_run _ _ _).monotone (fun r h => ⟨fun c => (h c).2, sem_eq_zero_of_no_sems (by decide) r.2⟩) (Cert.LatentReferenceIdeal.Value.run m g)

variable (m : (ℓ : Loc nD τ sig) → Buf (Elt Ideal) ℓ) (c : Dev nD)

theorem prod :
    Cert.LatentReferenceIdeal.Read.val_main_v3 (F := Ideal) (m ((c : Thread nD τ).loc main_arg0)) (m ((c : Thread nD τ).loc main_arg1)) = (dats m 0 c).arrAt 2 cfg0.N := by
  rw [Cert.LatentKernelIdeal.Prod.final]
  funext i
  exact Cert.LatentReferenceIdeal.Prod.plain _ _ i

theorem value : Cert.algebraic_LatentKernelIdeal_LatentReferenceIdeal := by
  intro m g m' g' _ ha
  refine ⟨fun c => (dats m 0 c).arrAt 2 cfg0.N, run_blocks m g, ?_⟩
  refine (θ_run _ _ _).monotone (fun r h c => ?_) (Cert.LatentReferenceIdeal.Value.run m' g')
  obtain ⟨a0, a1⟩ := ha c
  obtain ⟨h0, h1⟩ := h c
  rw [Cert.LatentReferenceIdeal.Read.val_main_v3_eq, a0, a1] at h0
  exact ⟨h0.trans (prod m c), h1⟩

end Cert.LatentClaims

end
-- ==== Proof.Ffn.LatentWeight.lean ====
/-
  The gradient of the weights of the latents, the rotary keys and the forgetting gate: the grid walks eight spans of 1024 tokens and adds their products to an
  accumulator, so that the last of them leaves the sum over all 8192 tokens.
-/
module

public import proofs.«01_k».proof.Proof.Attn.Read
public import proofs.«01_k».proof.Proof.Gen.LatentWeightKernelIdeal.Value
public import proofs.«01_k».proof.Proof.Gen.LatentWeightReferenceIdeal.Read
public import Idealize.ShloMosaic.Lib.Pipeline.ValueKit.Acc
public import Idealize.ShloMosaic.Lib.Pipeline.ValueKit.Geometry

@[expose] public section

noncomputable section

namespace Cert.LatentWeightKernelIdeal.Sum

open Cert.LatentWeightKernelIdeal Cert.LatentWeightKernelIdeal.Gen Idealize.ShloMosaic Idealize.ShloMosaic.TcCoe Idealize.ShloMosaic.ValueIdx
open Cert.KernelIdeal.Attn (at2 at2_pos at2_tn ix2_at2)
open scoped BigOperators

theorem idx_facts : ∀ t : Fin cfg0.N,
    (win0_0.index t (0 : Fin 2) = t.val % 8 ∧ win0_0.index t (1 : Fin 2) = t.val / 8)
    ∧ (win0_1.index t (0 : Fin 2) = t.val % 8 ∧ win0_1.index t (1 : Fin 2) = 0)
    ∧ (win0_2.index t (0 : Fin 2) = t.val / 8 ∧ win0_2.index t (1 : Fin 2) = 0) :=
  (by decide +kernel : ∀ t : Fin grid0.N, _)

theorem flush_last : ∀ t : Fin cfg0.N, (cfg0.win 2).flush t = true → t.val % 8 = 7 := (by decide +kernel : ∀ t : Fin grid0.N, _)

variable (m : (ℓ : Loc nD τ sig) → Buf (Elt Ideal) ℓ) (c : Dev nD)

/-- The two arguments at two naturals. -/
abbrev cots : ℕ → ℕ → EReal := at2 (a := 8192) (b := 640) (m ((c : Thread nD τ).loc main_arg0))
abbrev rows : ℕ → ℕ → EReal := at2 (a := 8192) (b := 1024) (m ((c : Thread nD τ).loc main_arg1))

/-- The cotangents' block. -/
theorem cot_block (t : Fin cfg0.N) {i j : ℕ} (hi : i < 1024) (hj : j < 640) :
    at2 (a := 1024) (b := 640) (iblk m c 0 t) i j
      = cots m c (1024 * (t.val % 8) + i) (640 * (t.val / 8) + j) := by
  obtain ⟨⟨e0, e1⟩, _⟩ := idx_facts t
  have ht : t.val < 8 := t.isLt
  rw [cots, ← V_main_arg0 m c]
  exact Cert.KernelIdeal.Attn.at2_to hi hj _ rfl (by show win0_0.index t (0 : Fin 2) * 1024 + 1 * i = 1024 * (t.val % 8) + i; omega) (by show win0_0.index t (1 : Fin 2) * 640 + 1 * j = 640 * (t.val / 8) + j; omega)

/-- The rows' block. -/
theorem row_block (t : Fin cfg0.N) {i j : ℕ} (hi : i < 1024) (hj : j < 1024) :
    at2 (a := 1024) (b := 1024) (iblk m c 1 t) i j
      = rows m c (1024 * (t.val % 8) + i) j := by
  obtain ⟨_, ⟨e0, e1⟩, _⟩ := idx_facts t
  have ht : t.val < 8 := t.isLt
  rw [rows, ← V_main_arg1 m c]
  exact Cert.KernelIdeal.Attn.at2_to hi hj _ rfl (by show win0_1.index t (0 : Fin 2) * 1024 + 1 * i = 1024 * (t.val % 8) + i; omega) (by show win0_1.index t (1 : Fin 2) * 1024 + 1 * j = j; omega)

/-- One span's product. -/
theorem pay_apply (x0 : Vec Ideal S1024x640 .bf16) (x1 : Vec Ideal S1024x1024 .bf16) {i j : ℕ} (hi : i < 640) (hj : j < 1024) :
    at2 (a := 640) (b := 1024) (k0_pay1 (F := Ideal) x0 x1) i j
      = ∑ k ∈ Finset.range 1024, at2 (a := 1024) (b := 640) x0 k i * at2 (a := 1024) (b := 1024) x1 k j :=
  at2_tn (M := 640) (K := 1024) (N := 1024) x0 x1 hi hj

theorem pay3_apply (x0 : Vec Ideal S1024x640 .bf16) (x1 : Vec Ideal S1024x1024 .bf16) (acc : Vec Ideal S640x1024 .f32) {i j : ℕ}
    (hi : i < 640) (hj : j < 1024) :
    at2 (a := 640) (b := 1024) (k0_pay3 (F := Ideal) x0 x1 acc) i j
      = at2 (a := 640) (b := 1024) acc i j + at2 (a := 640) (b := 1024) (k0_pay1 (F := Ideal) x0 x1) i j := by
  have e : k0_pay3 (F := Ideal) x0 x1 acc = addf acc (k0_pay1 x0 x1) := shapeCast_self _ _
  rw [e, at2_pos _ hi hj, at2_pos _ hi hj, at2_pos _ hi hj]
  rfl

/-- What the accumulator gains at one point. -/
theorem gain (t : Fin cfg0.N) {i j : ℕ} (hi : i < 640) (hj : j < 1024) :
    at2 (a := 640) (b := 1024) (k0_pay1 (F := Ideal) (iblk m c 0 t) (iblk m c 1 t)) i j
      = ∑ k ∈ Finset.range 1024, cots m c (1024 * (t.val % 8) + k) (640 * (t.val / 8) + i)
          * rows m c (1024 * (t.val % 8) + k) j := by
  rw [pay_apply _ _ hi hj]
  refine Finset.sum_congr rfl fun k hk => ?_
  have hk := Finset.mem_range.mp hk
  rw [cot_block m c t hk hi, row_block m c t hk hj]

/-- The accumulator after a point: the sum over the spans so far. -/
theorem accumulated (a : ℕ) (ha : a < 1) {i j : ℕ} (hi : i < 640) (hj : j < 1024) : ∀ (p : ℕ) (hp : p < 8) (h : 8 * a + p < cfg0.N),
    at2 (a := 640) (b := 1024) (outsAt0 m c (8 * a + p) h).2 i j
      = ∑ k ∈ Finset.range (1024 * (p + 1)), cots m c k (640 * a + i)
          * rows m c k j
  | 0, hp, h => by
    have e : (outsAt0 m c (8 * a + 0) h).2 = k0_pay1 (F := Ideal) (iblk m c 0 ⟨8 * a + 0, h⟩) (iblk m c 1 ⟨8 * a + 0, h⟩) := by
      rw [outsAt0_A m c ⟨8 * a + 0, h⟩ (by show (8 * a + 0) % 8 = 0; omega) (by show ¬1 ≤ 8 * a + 0; omega) (by show ¬(8 * a + 0) % 8 = 7; omega)]
      frame_out
      exact shapeCast_self _ _
    rw [e, gain m c _ hi hj]
    refine Finset.sum_congr rfl fun k _ => ?_
    rw [show 1024 * ((8 * a + 0) % 8) + k = k by omega, show (8 * a + 0) / 8 = a by omega]
  | p + 1, hp, h => by
    have h' : 8 * a + p < cfg0.N := by omega
    have e : (outsAt0 m c (8 * a + (p + 1)) h).2
        = k0_pay3 (F := Ideal) (iblk m c 0 ⟨8 * a + (p + 1), h⟩) (iblk m c 1 ⟨8 * a + (p + 1), h⟩) (outsAt0 m c (8 * a + p) h').2 := by
      by_cases hl : p = 6
      · rw [outsAt0_C m c ⟨8 * a + (p + 1), h⟩ (by show ¬(8 * a + (p + 1)) % 8 = 0; omega) (by show 1 ≤ 8 * a + (p + 1); omega) (by show (8 * a + (p + 1)) % 8 = 7; omega)]
        frame_out
        exact congrArg (k0_pay3 _ _) ((Memref.isWhole_whole cc0_scratch0).read_unread _)
      · rw [outsAt0_B m c ⟨8 * a + (p + 1), h⟩ (by show ¬(8 * a + (p + 1)) % 8 = 0; omega) (by show 1 ≤ 8 * a + (p + 1); omega) (by show ¬(8 * a + (p + 1)) % 8 = 7; omega)]
        frame_out
        exact congrArg (k0_pay3 _ _) ((Memref.isWhole_whole cc0_scratch0).read_unread _)
    rw [e, pay3_apply _ _ _ hi hj, accumulated a ha hi hj p (by omega) h', gain m c _ hi hj,
      show 1024 * (p + 1 + 1) = 1024 * (p + 1) + 1024 by omega, Finset.sum_range_add]
    refine congrArg (_ + ·) (Finset.sum_congr rfl fun k _ => ?_)
    rw [show (8 * a + (p + 1)) % 8 = p + 1 by omega, show (8 * a + (p + 1)) / 8 = a by omega]

/-- What the last point of a run writes back. -/
theorem written (a : ℕ) (ha : a < 1) (h : 8 * a + 7 < cfg0.N) :
    ((outsAt0 m c (8 * a + 7) h).1 : S640x1024.Idx → EReal) = (outsAt0 m c (8 * a + 7) h).2 := by
  rw [outsAt0_C m c ⟨8 * a + 7, h⟩ (by show ¬(8 * a + 7) % 8 = 0; omega) (by show 1 ≤ 8 * a + 7; omega) (by show (8 * a + 7) % 8 = 7; omega)]
  frame_out

/-- The product of the transposed cotangents and the rows. -/
def grad (r s : ℕ) : EReal :=
  ∑ k ∈ Finset.range 8192, cots m c k r * rows m c k s

theorem final : (dats m 0 c).arrAt 2 cfg0.N = fun i : S640x1024.Idx => grad m c (i 0).val (i 1).val := by
  refine (dats m 0 c).arrAt_eq_of_covers 2 (fun i : S640x1024.Idx => grad m c (i 0).val (i 1).val) (by decide +kernel) fun t hf y => ?_
  obtain ⟨_, _, e0, e1⟩ := idx_facts t
  have hl := flush_last t hf
  have ht : t.val < 8 := t.isLt
  obtain ⟨a, hta⟩ : ∃ a, t.val = 8 * a + 7 := ⟨t.val / 8, by omega⟩
  have hb : 8 * a + 7 < cfg0.N := hta ▸ t.isLt
  obtain rfl : t = ⟨8 * a + 7, hb⟩ := Fin.ext hta
  rw [after0_2]
  have hy0 : (y 0).val < 640 := (y 0).isLt
  have hy1 : (y 1).val < 1024 := (y 1).isLt
  have h := accumulated m c a (by omega) hy0 hy1 7 (by omega) hb
  rw [← written m c a (by omega) hb, at2_pos _ hy0 hy1] at h
  refine Eq.trans (Eq.trans ?_ h) ?_
  · refine congrArg (outsAt0 m c (8 * a + 7) hb).1 (funext fun d => ?_)
    match d with
    | ⟨0, _⟩ => rfl
    | ⟨1, _⟩ => rfl
  · have e0 : win0_2.index ⟨8 * a + 7, hb⟩ (0 : Fin 2) = (8 * a + 7) / 8 := e0
    refine congrArg₂ (grad m c) ?_ ?_
    · show _ = win0_2.index ⟨8 * a + 7, hb⟩ (0 : Fin 2) * 640 + 1 * (y 0).val
      omega
    · show _ = win0_2.index ⟨8 * a + 7, hb⟩ (1 : Fin 2) * 1024 + 1 * (y 1).val
      omega

end Cert.LatentWeightKernelIdeal.Sum

namespace Cert.LatentWeightReferenceIdeal.Sum

open Cert.LatentWeightReferenceIdeal Cert.LatentWeightReferenceIdeal.Gen Cert.LatentWeightReferenceIdeal.Read Idealize.ShloMosaic Idealize.ShloMosaic.ValueIdx
open Cert.KernelIdeal.Attn (at2 at2_pos ix2_at2 idx_at2)
open scoped BigOperators

/-- The plain program's result is the same sum. -/
theorem plain (x0 : (⟨S8192x640, .bf16⟩ : BufTy).Contents (Elt Ideal)) (x1 : (⟨S8192x1024, .bf16⟩ : BufTy).Contents (Elt Ideal)) (i : S640x1024.Idx) :
    val_main_v7 (F := Ideal) x0 x1 i
      = ∑ k ∈ Finset.range 8192, at2 (a := 8192) (b := 640) x0 k (i 0).val * at2 (a := 8192) (b := 1024) x1 k (i 1).val := by
  refine Eq.trans (val_main_v7_apply (F := Ideal) x0 x1 i) ?_
  rw [val_main_v6_apply, val_main_v5_apply, Finset.sum_range]
  refine Finset.sum_congr rfl fun k _ => ?_
  refine congrArg₂ (· * ·) ?_ ?_
  · exact idx_at2 (a := 8192) (b := 640) x0 _
  · exact idx_at2 (a := 8192) (b := 1024) x1 _

end Cert.LatentWeightReferenceIdeal.Sum

end
-- ==== Proof.Ffn.LatentWeightClaims.lean ====
/-
  The claims of the product for the gradient of the weights of the latents, the rotary keys and the forgetting gate.
-/
module

public import proofs.«01_k».proof.Defs
public import proofs.«01_k».proof.Proof.Gen.LatentWeightKernel
public import proofs.«01_k».proof.Proof.Gen.LatentWeightKernelIdeal
public import proofs.«01_k».proof.Proof.Gen.LatentWeightReferenceIdeal
public import proofs.«01_k».proof.Proof.Gen.LatentWeightReferenceIdeal.Run
public import proofs.«01_k».proof.Proof.Ffn.LatentWeight
public import Idealize.ShloMosaic.Lib.Quiescent
public import Idealize.ShloMosaic.Adequacy
public import Idealize.ShloMosaic.Init

@[expose] public section

noncomputable section

namespace Cert.LatentWeightClaims

open Idealize.ShloMosaic Idealize.SL.Sem
open Idealize.ShloMosaic.TcCoe
open Cert.LatentWeightKernelIdeal (cfg0 nD τ sig main_arg0 main_arg1)
open Cert.LatentWeightKernelIdeal.Gen Cert.LatentWeightKernelIdeal.Value

attribute [local instance] Cert.LatentWeightKernel.Gen.facts Cert.LatentWeightKernelIdeal.Gen.facts Cert.LatentWeightReferenceIdeal.Gen.facts

/-- The plain program has no semaphores; its run leaves its arguments as they were. -/
theorem frame_reference : Cert.quiescent_LatentWeightReferenceIdeal := fun m g _ =>
  (θ_run _ _ _).monotone (fun r h => ⟨fun c => (h c).2, sem_eq_zero_of_no_sems (by decide) r.2⟩) (Cert.LatentWeightReferenceIdeal.Value.run m g)

variable (m : (ℓ : Loc nD τ sig) → Buf (Elt Ideal) ℓ) (c : Dev nD)

theorem sum :
    Cert.LatentWeightReferenceIdeal.Read.val_main_v7 (F := Ideal) (m ((c : Thread nD τ).loc main_arg0)) (m ((c : Thread nD τ).loc main_arg1)) = (dats m 0 c).arrAt 2 cfg0.N := by
  rw [Cert.LatentWeightKernelIdeal.Sum.final]
  funext i
  exact Cert.LatentWeightReferenceIdeal.Sum.plain _ _ i

theorem value : Cert.algebraic_LatentWeightKernelIdeal_LatentWeightReferenceIdeal := by
  intro m g m' g' _ ha
  refine ⟨fun c => (dats m 0 c).arrAt 2 cfg0.N, run_blocks m g, ?_⟩
  refine (θ_run _ _ _).monotone (fun r h c => ?_) (Cert.LatentWeightReferenceIdeal.Value.run m' g')
  obtain ⟨a0, a1⟩ := ha c
  obtain ⟨h0, h1⟩ := h c
  rw [Cert.LatentWeightReferenceIdeal.Read.val_main_v7_eq, a0, a1] at h0
  exact ⟨h0.trans (sum m c), h1⟩

end Cert.LatentWeightClaims

end
-- ==== Proof.Ffn.NopeWeight.lean ====
/-
  The gradient of the weights of the queries' part without rotation: the grid walks eight spans of 256 tokens and adds their products to an
  accumulator, so that the last of them leaves the sum over all 8192 tokens.
-/
module

public import proofs.«01_k».proof.Proof.Attn.Read
public import proofs.«01_k».proof.Proof.Gen.NopeWeightKernelIdeal.Value
public import proofs.«01_k».proof.Proof.Gen.NopeWeightReferenceIdeal.Read
public import Idealize.ShloMosaic.Lib.Pipeline.ValueKit.Acc
public import Idealize.ShloMosaic.Lib.Pipeline.ValueKit.Geometry

@[expose] public section

noncomputable section

namespace Cert.NopeWeightKernelIdeal.Sum

open Cert.NopeWeightKernelIdeal Cert.NopeWeightKernelIdeal.Gen Idealize.ShloMosaic Idealize.ShloMosaic.TcCoe Idealize.ShloMosaic.ValueIdx
open Cert.KernelIdeal.Attn (at2 at2_pos at2_tn ix2_at2)
open scoped BigOperators

theorem idx_facts : ∀ t : Fin cfg0.N,
    (win0_0.index t (0 : Fin 2) = t.val % 8 ∧ win0_0.index t (1 : Fin 2) = t.val / 8)
    ∧ (win0_1.index t (0 : Fin 2) = t.val % 8 ∧ win0_1.index t (1 : Fin 2) = 0)
    ∧ (win0_2.index t (0 : Fin 2) = t.val / 8 ∧ win0_2.index t (1 : Fin 2) = 0) :=
  (by decide +kernel : ∀ t : Fin grid0.N, _)

theorem flush_last : ∀ t : Fin cfg0.N, (cfg0.win 2).flush t = true → t.val % 8 = 7 := (by decide +kernel : ∀ t : Fin grid0.N, _)

variable (m : (ℓ : Loc nD τ sig) → Buf (Elt Ideal) ℓ) (c : Dev nD)

/-- The two arguments at two naturals. -/
abbrev cots : ℕ → ℕ → EReal := at2 (a := 8192) (b := 512) (m ((c : Thread nD τ).loc main_arg0))
abbrev rows : ℕ → ℕ → EReal := at2 (a := 8192) (b := 256) (m ((c : Thread nD τ).loc main_arg1))

/-- The cotangents' block. -/
theorem cot_block (t : Fin cfg0.N) {i j : ℕ} (hi : i < 1024) (hj : j < 512) :
    at2 (a := 1024) (b := 512) (iblk m c 0 t) i j
      = cots m c (1024 * (t.val % 8) + i) (512 * (t.val / 8) + j) := by
  obtain ⟨⟨e0, e1⟩, _⟩ := idx_facts t
  have ht : t.val < 8 := t.isLt
  rw [cots, ← V_main_arg0 m c]
  exact Cert.KernelIdeal.Attn.at2_to hi hj _ rfl (by show win0_0.index t (0 : Fin 2) * 1024 + 1 * i = 1024 * (t.val % 8) + i; omega) (by show win0_0.index t (1 : Fin 2) * 512 + 1 * j = 512 * (t.val / 8) + j; omega)

/-- The rows' block. -/
theorem row_block (t : Fin cfg0.N) {i j : ℕ} (hi : i < 1024) (hj : j < 256) :
    at2 (a := 1024) (b := 256) (iblk m c 1 t) i j
      = rows m c (1024 * (t.val % 8) + i) j := by
  obtain ⟨_, ⟨e0, e1⟩, _⟩ := idx_facts t
  have ht : t.val < 8 := t.isLt
  rw [rows, ← V_main_arg1 m c]
  exact Cert.KernelIdeal.Attn.at2_to hi hj _ rfl (by show win0_1.index t (0 : Fin 2) * 1024 + 1 * i = 1024 * (t.val % 8) + i; omega) (by show win0_1.index t (1 : Fin 2) * 256 + 1 * j = j; omega)

/-- One span's product. -/
theorem pay_apply (x0 : Vec Ideal S1024x512 .bf16) (x1 : Vec Ideal S1024x256 .bf16) {i j : ℕ} (hi : i < 512) (hj : j < 256) :
    at2 (a := 512) (b := 256) (k0_pay1 (F := Ideal) x0 x1) i j
      = ∑ k ∈ Finset.range 1024, at2 (a := 1024) (b := 512) x0 k i * at2 (a := 1024) (b := 256) x1 k j :=
  at2_tn (M := 512) (K := 1024) (N := 256) x0 x1 hi hj

theorem pay3_apply (x0 : Vec Ideal S1024x512 .bf16) (x1 : Vec Ideal S1024x256 .bf16) (acc : Vec Ideal S512x256 .f32) {i j : ℕ}
    (hi : i < 512) (hj : j < 256) :
    at2 (a := 512) (b := 256) (k0_pay3 (F := Ideal) x0 x1 acc) i j
      = at2 (a := 512) (b := 256) acc i j + at2 (a := 512) (b := 256) (k0_pay1 (F := Ideal) x0 x1) i j := by
  have e : k0_pay3 (F := Ideal) x0 x1 acc = addf acc (k0_pay1 x0 x1) := shapeCast_self _ _
  rw [e, at2_pos _ hi hj, at2_pos _ hi hj, at2_pos _ hi hj]
  rfl

/-- What the accumulator gains at one point. -/
theorem gain (t : Fin cfg0.N) {i j : ℕ} (hi : i < 512) (hj : j < 256) :
    at2 (a := 512) (b := 256) (k0_pay1 (F := Ideal) (iblk m c 0 t) (iblk m c 1 t)) i j
      = ∑ k ∈ Finset.range 1024, cots m c (1024 * (t.val % 8) + k) (512 * (t.val / 8) + i)
          * rows m c (1024 * (t.val % 8) + k) j := by
  rw [pay_apply _ _ hi hj]
  refine Finset.sum_congr rfl fun k hk => ?_
  have hk := Finset.mem_range.mp hk
  rw [cot_block m c t hk hi, row_block m c t hk hj]

/-- The accumulator after a point: the sum over the spans so far. -/
theorem accumulated (a : ℕ) (ha : a < 1) {i j : ℕ} (hi : i < 512) (hj : j < 256) : ∀ (p : ℕ) (hp : p < 8) (h : 8 * a + p < cfg0.N),
    at2 (a := 512) (b := 256) (outsAt0 m c (8 * a + p) h).2 i j
      = ∑ k ∈ Finset.range (1024 * (p + 1)), cots m c k (512 * a + i)
          * rows m c k j
  | 0, hp, h => by
    have e : (outsAt0 m c (8 * a + 0) h).2 = k0_pay1 (F := Ideal) (iblk m c 0 ⟨8 * a + 0, h⟩) (iblk m c 1 ⟨8 * a + 0, h⟩) := by
      rw [outsAt0_A m c ⟨8 * a + 0, h⟩ (by show (8 * a + 0) % 8 = 0; omega) (by show ¬1 ≤ 8 * a + 0; omega) (by show ¬(8 * a + 0) % 8 = 7; omega)]
      frame_out
      exact shapeCast_self _ _
    rw [e, gain m c _ hi hj]
    refine Finset.sum_congr rfl fun k _ => ?_
    rw [show 1024 * ((8 * a + 0) % 8) + k = k by omega, show (8 * a + 0) / 8 = a by omega]
  | p + 1, hp, h => by
    have h' : 8 * a + p < cfg0.N := by omega
    have e : (outsAt0 m c (8 * a + (p + 1)) h).2
        = k0_pay3 (F := Ideal) (iblk m c 0 ⟨8 * a + (p + 1), h⟩) (iblk m c 1 ⟨8 * a + (p + 1), h⟩) (outsAt0 m c (8 * a + p) h').2 := by
      by_cases hl : p = 6
      · rw [outsAt0_C m c ⟨8 * a + (p + 1), h⟩ (by show ¬(8 * a + (p + 1)) % 8 = 0; omega) (by show 1 ≤ 8 * a + (p + 1); omega) (by show (8 * a + (p + 1)) % 8 = 7; omega)]
        frame_out
        exact congrArg (k0_pay3 _ _) ((Memref.isWhole_whole cc0_scratch0).read_unread _)
      · rw [outsAt0_B m c ⟨8 * a + (p + 1), h⟩ (by show ¬(8 * a + (p + 1)) % 8 = 0; omega) (by show 1 ≤ 8 * a + (p + 1); omega) (by show ¬(8 * a + (p + 1)) % 8 = 7; omega)]
        frame_out
        exact congrArg (k0_pay3 _ _) ((Memref.isWhole_whole cc0_scratch0).read_unread _)
    rw [e, pay3_apply _ _ _ hi hj, accumulated a ha hi hj p (by omega) h', gain m c _ hi hj,
      show 1024 * (p + 1 + 1) = 1024 * (p + 1) + 1024 by omega, Finset.sum_range_add]
    refine congrArg (_ + ·) (Finset.sum_congr rfl fun k _ => ?_)
    rw [show (8 * a + (p + 1)) % 8 = p + 1 by omega, show (8 * a + (p + 1)) / 8 = a by omega]

/-- What the last point of a run writes back. -/
theorem written (a : ℕ) (ha : a < 1) (h : 8 * a + 7 < cfg0.N) :
    ((outsAt0 m c (8 * a + 7) h).1 : S512x256.Idx → EReal) = (outsAt0 m c (8 * a + 7) h).2 := by
  rw [outsAt0_C m c ⟨8 * a + 7, h⟩ (by show ¬(8 * a + 7) % 8 = 0; omega) (by show 1 ≤ 8 * a + 7; omega) (by show (8 * a + 7) % 8 = 7; omega)]
  frame_out
  rfl

/-- The product of the transposed cotangents and the rows. -/
def grad (r s : ℕ) : EReal :=
  ∑ k ∈ Finset.range 8192, cots m c k r * rows m c k s

theorem final : (dats m 0 c).arrAt 2 cfg0.N = fun i : S512x256.Idx => grad m c (i 0).val (i 1).val := by
  refine (dats m 0 c).arrAt_eq_of_covers 2 (fun i : S512x256.Idx => grad m c (i 0).val (i 1).val) (by decide +kernel) fun t hf y => ?_
  obtain ⟨_, _, e0, e1⟩ := idx_facts t
  have hl := flush_last t hf
  have ht : t.val < 8 := t.isLt
  obtain ⟨a, hta⟩ : ∃ a, t.val = 8 * a + 7 := ⟨t.val / 8, by omega⟩
  have hb : 8 * a + 7 < cfg0.N := hta ▸ t.isLt
  obtain rfl : t = ⟨8 * a + 7, hb⟩ := Fin.ext hta
  rw [after0_2]
  have hy0 : (y 0).val < 512 := (y 0).isLt
  have hy1 : (y 1).val < 256 := (y 1).isLt
  have h := accumulated m c a (by omega) hy0 hy1 7 (by omega) hb
  rw [← written m c a (by omega) hb, at2_pos _ hy0 hy1] at h
  refine Eq.trans (Eq.trans ?_ h) ?_
  · refine congrArg (outsAt0 m c (8 * a + 7) hb).1 (funext fun d => ?_)
    match d with
    | ⟨0, _⟩ => rfl
    | ⟨1, _⟩ => rfl
  · have e0 : win0_2.index ⟨8 * a + 7, hb⟩ (0 : Fin 2) = (8 * a + 7) / 8 := e0
    refine congrArg₂ (grad m c) ?_ ?_
    · show _ = win0_2.index ⟨8 * a + 7, hb⟩ (0 : Fin 2) * 512 + 1 * (y 0).val
      omega
    · show _ = win0_2.index ⟨8 * a + 7, hb⟩ (1 : Fin 2) * 256 + 1 * (y 1).val
      omega

end Cert.NopeWeightKernelIdeal.Sum

namespace Cert.NopeWeightReferenceIdeal.Sum

open Cert.NopeWeightReferenceIdeal Cert.NopeWeightReferenceIdeal.Gen Cert.NopeWeightReferenceIdeal.Read Idealize.ShloMosaic Idealize.ShloMosaic.ValueIdx
open Cert.KernelIdeal.Attn (at2 at2_pos ix2_at2 idx_at2)
open scoped BigOperators

/-- The plain program's result is the same sum. -/
theorem plain (x0 : (⟨S8192x512, .bf16⟩ : BufTy).Contents (Elt Ideal)) (x1 : (⟨S8192x256, .bf16⟩ : BufTy).Contents (Elt Ideal)) (i : S512x256.Idx) :
    val_main_v8 (F := Ideal) x0 x1 i
      = ∑ k ∈ Finset.range 8192, at2 (a := 8192) (b := 512) x0 k (i 0).val * at2 (a := 8192) (b := 256) x1 k (i 1).val := by
  rw [val_main_v8_apply]
  refine Eq.trans (val_main_v7_apply (F := Ideal) x0 x1 i) ?_
  rw [val_main_v6_apply, val_main_v5_apply, Finset.sum_range]
  refine Finset.sum_congr rfl fun k _ => ?_
  refine congrArg₂ (· * ·) ?_ ?_
  · exact idx_at2 (a := 8192) (b := 512) x0 _
  · exact idx_at2 (a := 8192) (b := 256) x1 _

end Cert.NopeWeightReferenceIdeal.Sum

end
-- ==== Proof.Ffn.NopeWeightClaims.lean ====
/-
  The claims of the product for the gradient of the weights of the queries' part without rotation.
-/
module

public import proofs.«01_k».proof.Defs
public import proofs.«01_k».proof.Proof.Gen.NopeWeightKernel
public import proofs.«01_k».proof.Proof.Gen.NopeWeightKernelIdeal
public import proofs.«01_k».proof.Proof.Gen.NopeWeightReferenceIdeal
public import proofs.«01_k».proof.Proof.Gen.NopeWeightReferenceIdeal.Run
public import proofs.«01_k».proof.Proof.Ffn.NopeWeight
public import Idealize.ShloMosaic.Lib.Quiescent
public import Idealize.ShloMosaic.Adequacy
public import Idealize.ShloMosaic.Init

@[expose] public section

noncomputable section

namespace Cert.NopeWeightClaims

open Idealize.ShloMosaic Idealize.SL.Sem
open Idealize.ShloMosaic.TcCoe
open Cert.NopeWeightKernelIdeal (cfg0 nD τ sig main_arg0 main_arg1)
open Cert.NopeWeightKernelIdeal.Gen Cert.NopeWeightKernelIdeal.Value

attribute [local instance] Cert.NopeWeightKernel.Gen.facts Cert.NopeWeightKernelIdeal.Gen.facts Cert.NopeWeightReferenceIdeal.Gen.facts

/-- The plain program has no semaphores; its run leaves its arguments as they were. -/
theorem frame_reference : Cert.quiescent_NopeWeightReferenceIdeal := fun m g _ =>
  (θ_run _ _ _).monotone (fun r h => ⟨fun c => (h c).2, sem_eq_zero_of_no_sems (by decide) r.2⟩) (Cert.NopeWeightReferenceIdeal.Value.run m g)

variable (m : (ℓ : Loc nD τ sig) → Buf (Elt Ideal) ℓ) (c : Dev nD)

theorem sum :
    Cert.NopeWeightReferenceIdeal.Read.val_main_v8 (F := Ideal) (m ((c : Thread nD τ).loc main_arg0)) (m ((c : Thread nD τ).loc main_arg1)) = (dats m 0 c).arrAt 2 cfg0.N := by
  rw [Cert.NopeWeightKernelIdeal.Sum.final]
  funext i
  exact Cert.NopeWeightReferenceIdeal.Sum.plain _ _ i

theorem value : Cert.algebraic_NopeWeightKernelIdeal_NopeWeightReferenceIdeal := by
  intro m g m' g' _ ha
  refine ⟨fun c => (dats m 0 c).arrAt 2 cfg0.N, run_blocks m g, ?_⟩
  refine (θ_run _ _ _).monotone (fun r h c => ?_) (Cert.NopeWeightReferenceIdeal.Value.run m' g')
  obtain ⟨a0, a1⟩ := ha c
  obtain ⟨h0, h1⟩ := h c
  rw [Cert.NopeWeightReferenceIdeal.Read.val_main_v8_eq, a0, a1] at h0
  exact ⟨h0.trans (sum m c), h1⟩

end Cert.NopeWeightClaims

end
-- ==== Proof.Ffn.RopeWeight.lean ====
/-
  The gradient of the weights of the queries' rotated part: the grid walks eight spans of 256 tokens and adds their products to an
  accumulator, so that the last of them leaves the sum over all 8192 tokens.
-/
module

public import proofs.«01_k».proof.Proof.Attn.Read
public import proofs.«01_k».proof.Proof.Gen.RopeWeightKernelIdeal.Value
public import proofs.«01_k».proof.Proof.Gen.RopeWeightReferenceIdeal.Read
public import Idealize.ShloMosaic.Lib.Pipeline.ValueKit.Acc
public import Idealize.ShloMosaic.Lib.Pipeline.ValueKit.Geometry

@[expose] public section

noncomputable section

namespace Cert.RopeWeightKernelIdeal.Sum

open Cert.RopeWeightKernelIdeal Cert.RopeWeightKernelIdeal.Gen Idealize.ShloMosaic Idealize.ShloMosaic.TcCoe Idealize.ShloMosaic.ValueIdx
open Cert.KernelIdeal.Attn (at2 at2_pos at2_tn ix2_at2)
open scoped BigOperators

theorem idx_facts : ∀ t : Fin cfg0.N,
    (win0_0.index t (0 : Fin 2) = t.val % 8 ∧ win0_0.index t (1 : Fin 2) = t.val / 8)
    ∧ (win0_1.index t (0 : Fin 2) = t.val % 8 ∧ win0_1.index t (1 : Fin 2) = 0)
    ∧ (win0_2.index t (0 : Fin 2) = t.val / 8 ∧ win0_2.index t (1 : Fin 2) = 0) :=
  (by decide +kernel : ∀ t : Fin grid0.N, _)

theorem flush_last : ∀ t : Fin cfg0.N, (cfg0.win 2).flush t = true → t.val % 8 = 7 := (by decide +kernel : ∀ t : Fin grid0.N, _)

variable (m : (ℓ : Loc nD τ sig) → Buf (Elt Ideal) ℓ) (c : Dev nD)

/-- The two arguments at two naturals. -/
abbrev cots : ℕ → ℕ → EReal := at2 (a := 8192) (b := 256) (m ((c : Thread nD τ).loc main_arg0))
abbrev rows : ℕ → ℕ → EReal := at2 (a := 8192) (b := 256) (m ((c : Thread nD τ).loc main_arg1))

/-- The cotangents' block. -/
theorem cot_block (t : Fin cfg0.N) {i j : ℕ} (hi : i < 1024) (hj : j < 256) :
    at2 (a := 1024) (b := 256) (iblk m c 0 t) i j
      = cots m c (1024 * (t.val % 8) + i) (256 * (t.val / 8) + j) := by
  obtain ⟨⟨e0, e1⟩, _⟩ := idx_facts t
  have ht : t.val < 8 := t.isLt
  rw [cots, ← V_main_arg0 m c]
  exact Cert.KernelIdeal.Attn.at2_to hi hj _ rfl (by show win0_0.index t (0 : Fin 2) * 1024 + 1 * i = 1024 * (t.val % 8) + i; omega) (by show win0_0.index t (1 : Fin 2) * 256 + 1 * j = 256 * (t.val / 8) + j; omega)

/-- The rows' block. -/
theorem row_block (t : Fin cfg0.N) {i j : ℕ} (hi : i < 1024) (hj : j < 256) :
    at2 (a := 1024) (b := 256) (iblk m c 1 t) i j
      = rows m c (1024 * (t.val % 8) + i) j := by
  obtain ⟨_, ⟨e0, e1⟩, _⟩ := idx_facts t
  have ht : t.val < 8 := t.isLt
  rw [rows, ← V_main_arg1 m c]
  exact Cert.KernelIdeal.Attn.at2_to hi hj _ rfl (by show win0_1.index t (0 : Fin 2) * 1024 + 1 * i = 1024 * (t.val % 8) + i; omega) (by show win0_1.index t (1 : Fin 2) * 256 + 1 * j = j; omega)

/-- One span's product. -/
theorem pay_apply (x0 : Vec Ideal S1024x256 .bf16) (x1 : Vec Ideal S1024x256 .bf16) {i j : ℕ} (hi : i < 256) (hj : j < 256) :
    at2 (a := 256) (b := 256) (k0_pay1 (F := Ideal) x0 x1) i j
      = ∑ k ∈ Finset.range 1024, at2 (a := 1024) (b := 256) x0 k i * at2 (a := 1024) (b := 256) x1 k j :=
  at2_tn (M := 256) (K := 1024) (N := 256) x0 x1 hi hj

theorem pay3_apply (x0 : Vec Ideal S1024x256 .bf16) (x1 : Vec Ideal S1024x256 .bf16) (acc : Vec Ideal S256x256 .f32) {i j : ℕ}
    (hi : i < 256) (hj : j < 256) :
    at2 (a := 256) (b := 256) (k0_pay3 (F := Ideal) x0 x1 acc) i j
      = at2 (a := 256) (b := 256) acc i j + at2 (a := 256) (b := 256) (k0_pay1 (F := Ideal) x0 x1) i j := by
  have e : k0_pay3 (F := Ideal) x0 x1 acc = addf acc (k0_pay1 x0 x1) := shapeCast_self _ _
  rw [e, at2_pos _ hi hj, at2_pos _ hi hj, at2_pos _ hi hj]
  rfl

/-- What the accumulator gains at one point. -/
theorem gain (t : Fin cfg0.N) {i j : ℕ} (hi : i < 256) (hj : j < 256) :
    at2 (a := 256) (b := 256) (k0_pay1 (F := Ideal) (iblk m c 0 t) (iblk m c 1 t)) i j
      = ∑ k ∈ Finset.range 1024, cots m c (1024 * (t.val % 8) + k) (256 * (t.val / 8) + i)
          * rows m c (1024 * (t.val % 8) + k) j := by
  rw [pay_apply _ _ hi hj]
  refine Finset.sum_congr rfl fun k hk => ?_
  have hk := Finset.mem_range.mp hk
  rw [cot_block m c t hk hi, row_block m c t hk hj]

/-- The accumulator after a point: the sum over the spans so far. -/
theorem accumulated (a : ℕ) (ha : a < 1) {i j : ℕ} (hi : i < 256) (hj : j < 256) : ∀ (p : ℕ) (hp : p < 8) (h : 8 * a + p < cfg0.N),
    at2 (a := 256) (b := 256) (outsAt0 m c (8 * a + p) h).2 i j
      = ∑ k ∈ Finset.range (1024 * (p + 1)), cots m c k (256 * a + i)
          * rows m c k j
  | 0, hp, h => by
    have e : (outsAt0 m c (8 * a + 0) h).2 = k0_pay1 (F := Ideal) (iblk m c 0 ⟨8 * a + 0, h⟩) (iblk m c 1 ⟨8 * a + 0, h⟩) := by
      rw [outsAt0_A m c ⟨8 * a + 0, h⟩ (by show (8 * a + 0) % 8 = 0; omega) (by show ¬1 ≤ 8 * a + 0; omega) (by show ¬(8 * a + 0) % 8 = 7; omega)]
      frame_out
      exact shapeCast_self _ _
    rw [e, gain m c _ hi hj]
    refine Finset.sum_congr rfl fun k _ => ?_
    rw [show 1024 * ((8 * a + 0) % 8) + k = k by omega, show (8 * a + 0) / 8 = a by omega]
  | p + 1, hp, h => by
    have h' : 8 * a + p < cfg0.N := by omega
    have e : (outsAt0 m c (8 * a + (p + 1)) h).2
        = k0_pay3 (F := Ideal) (iblk m c 0 ⟨8 * a + (p + 1), h⟩) (iblk m c 1 ⟨8 * a + (p + 1), h⟩) (outsAt0 m c (8 * a + p) h').2 := by
      by_cases hl : p = 6
      · rw [outsAt0_C m c ⟨8 * a + (p + 1), h⟩ (by show ¬(8 * a + (p + 1)) % 8 = 0; omega) (by show 1 ≤ 8 * a + (p + 1); omega) (by show (8 * a + (p + 1)) % 8 = 7; omega)]
        frame_out
        exact congrArg (k0_pay3 _ _) ((Memref.isWhole_whole cc0_scratch0).read_unread _)
      · rw [outsAt0_B m c ⟨8 * a + (p + 1), h⟩ (by show ¬(8 * a + (p + 1)) % 8 = 0; omega) (by show 1 ≤ 8 * a + (p + 1); omega) (by show ¬(8 * a + (p + 1)) % 8 = 7; omega)]
        frame_out
        exact congrArg (k0_pay3 _ _) ((Memref.isWhole_whole cc0_scratch0).read_unread _)
    rw [e, pay3_apply _ _ _ hi hj, accumulated a ha hi hj p (by omega) h', gain m c _ hi hj,
      show 1024 * (p + 1 + 1) = 1024 * (p + 1) + 1024 by omega, Finset.sum_range_add]
    refine congrArg (_ + ·) (Finset.sum_congr rfl fun k _ => ?_)
    rw [show (8 * a + (p + 1)) % 8 = p + 1 by omega, show (8 * a + (p + 1)) / 8 = a by omega]

/-- What the last point of a run writes back. -/
theorem written (a : ℕ) (ha : a < 1) (h : 8 * a + 7 < cfg0.N) :
    ((outsAt0 m c (8 * a + 7) h).1 : S256x256.Idx → EReal) = (outsAt0 m c (8 * a + 7) h).2 := by
  rw [outsAt0_C m c ⟨8 * a + 7, h⟩ (by show ¬(8 * a + 7) % 8 = 0; omega) (by show 1 ≤ 8 * a + 7; omega) (by show (8 * a + 7) % 8 = 7; omega)]
  frame_out
  rfl

/-- The product of the transposed cotangents and the rows. -/
def grad (r s : ℕ) : EReal :=
  ∑ k ∈ Finset.range 8192, cots m c k r * rows m c k s

theorem final : (dats m 0 c).arrAt 2 cfg0.N = fun i : S256x256.Idx => grad m c (i 0).val (i 1).val := by
  refine (dats m 0 c).arrAt_eq_of_covers 2 (fun i : S256x256.Idx => grad m c (i 0).val (i 1).val) (by decide +kernel) fun t hf y => ?_
  obtain ⟨_, _, e0, e1⟩ := idx_facts t
  have hl := flush_last t hf
  have ht : t.val < 8 := t.isLt
  obtain ⟨a, hta⟩ : ∃ a, t.val = 8 * a + 7 := ⟨t.val / 8, by omega⟩
  have hb : 8 * a + 7 < cfg0.N := hta ▸ t.isLt
  obtain rfl : t = ⟨8 * a + 7, hb⟩ := Fin.ext hta
  rw [after0_2]
  have hy0 : (y 0).val < 256 := (y 0).isLt
  have hy1 : (y 1).val < 256 := (y 1).isLt
  have h := accumulated m c a (by omega) hy0 hy1 7 (by omega) hb
  rw [← written m c a (by omega) hb, at2_pos _ hy0 hy1] at h
  refine Eq.trans (Eq.trans ?_ h) ?_
  · refine congrArg (outsAt0 m c (8 * a + 7) hb).1 (funext fun d => ?_)
    match d with
    | ⟨0, _⟩ => rfl
    | ⟨1, _⟩ => rfl
  · have e0 : win0_2.index ⟨8 * a + 7, hb⟩ (0 : Fin 2) = (8 * a + 7) / 8 := e0
    refine congrArg₂ (grad m c) ?_ ?_
    · show _ = win0_2.index ⟨8 * a + 7, hb⟩ (0 : Fin 2) * 256 + 1 * (y 0).val
      omega
    · show _ = win0_2.index ⟨8 * a + 7, hb⟩ (1 : Fin 2) * 256 + 1 * (y 1).val
      omega

end Cert.RopeWeightKernelIdeal.Sum

namespace Cert.RopeWeightReferenceIdeal.Sum

open Cert.RopeWeightReferenceIdeal Cert.RopeWeightReferenceIdeal.Gen Cert.RopeWeightReferenceIdeal.Read Idealize.ShloMosaic Idealize.ShloMosaic.ValueIdx
open Cert.KernelIdeal.Attn (at2 at2_pos ix2_at2 idx_at2)
open scoped BigOperators

/-- The plain program's result is the same sum. -/
theorem plain (x0 : (⟨S8192x256, .bf16⟩ : BufTy).Contents (Elt Ideal)) (x1 : (⟨S8192x256, .bf16⟩ : BufTy).Contents (Elt Ideal)) (i : S256x256.Idx) :
    val_main_v8 (F := Ideal) x0 x1 i
      = ∑ k ∈ Finset.range 8192, at2 (a := 8192) (b := 256) x0 k (i 0).val * at2 (a := 8192) (b := 256) x1 k (i 1).val := by
  rw [val_main_v8_apply]
  refine Eq.trans (val_main_v7_apply (F := Ideal) x0 x1 i) ?_
  rw [val_main_v6_apply, val_main_v5_apply, Finset.sum_range]
  refine Finset.sum_congr rfl fun k _ => ?_
  refine congrArg₂ (· * ·) ?_ ?_
  · exact idx_at2 (a := 8192) (b := 256) x0 _
  · exact idx_at2 (a := 8192) (b := 256) x1 _

end Cert.RopeWeightReferenceIdeal.Sum

end
-- ==== Proof.Ffn.RopeWeightClaims.lean ====
/-
  The claims of the product for the gradient of the weights of the queries' rotated part.
-/
module

public import proofs.«01_k».proof.Defs
public import proofs.«01_k».proof.Proof.Gen.RopeWeightKernel
public import proofs.«01_k».proof.Proof.Gen.RopeWeightKernelIdeal
public import proofs.«01_k».proof.Proof.Gen.RopeWeightReferenceIdeal
public import proofs.«01_k».proof.Proof.Gen.RopeWeightReferenceIdeal.Run
public import proofs.«01_k».proof.Proof.Ffn.RopeWeight
public import Idealize.ShloMosaic.Lib.Quiescent
public import Idealize.ShloMosaic.Adequacy
public import Idealize.ShloMosaic.Init

@[expose] public section

noncomputable section

namespace Cert.RopeWeightClaims

open Idealize.ShloMosaic Idealize.SL.Sem
open Idealize.ShloMosaic.TcCoe
open Cert.RopeWeightKernelIdeal (cfg0 nD τ sig main_arg0 main_arg1)
open Cert.RopeWeightKernelIdeal.Gen Cert.RopeWeightKernelIdeal.Value

attribute [local instance] Cert.RopeWeightKernel.Gen.facts Cert.RopeWeightKernelIdeal.Gen.facts Cert.RopeWeightReferenceIdeal.Gen.facts

/-- The plain program has no semaphores; its run leaves its arguments as they were. -/
theorem frame_reference : Cert.quiescent_RopeWeightReferenceIdeal := fun m g _ =>
  (θ_run _ _ _).monotone (fun r h => ⟨fun c => (h c).2, sem_eq_zero_of_no_sems (by decide) r.2⟩) (Cert.RopeWeightReferenceIdeal.Value.run m g)

variable (m : (ℓ : Loc nD τ sig) → Buf (Elt Ideal) ℓ) (c : Dev nD)

theorem sum :
    Cert.RopeWeightReferenceIdeal.Read.val_main_v8 (F := Ideal) (m ((c : Thread nD τ).loc main_arg0)) (m ((c : Thread nD τ).loc main_arg1)) = (dats m 0 c).arrAt 2 cfg0.N := by
  rw [Cert.RopeWeightKernelIdeal.Sum.final]
  funext i
  exact Cert.RopeWeightReferenceIdeal.Sum.plain _ _ i

theorem value : Cert.algebraic_RopeWeightKernelIdeal_RopeWeightReferenceIdeal := by
  intro m g m' g' _ ha
  refine ⟨fun c => (dats m 0 c).arrAt 2 cfg0.N, run_blocks m g, ?_⟩
  refine (θ_run _ _ _).monotone (fun r h c => ?_) (Cert.RopeWeightReferenceIdeal.Value.run m' g')
  obtain ⟨a0, a1⟩ := ha c
  obtain ⟨h0, h1⟩ := h c
  rw [Cert.RopeWeightReferenceIdeal.Read.val_main_v8_eq, a0, a1] at h0
  exact ⟨h0.trans (sum m c), h1⟩

end Cert.RopeWeightClaims

end
-- ==== Proof.Ffn.KvWeight.lean ====
/-
  The gradient of the weights of keys and values: the grid's inner axis walks eight spans of 128 tokens and adds their products to an
  accumulator, so that the last of a run leaves the sum over all 8192 tokens.
-/
module

public import proofs.«01_k».proof.Proof.Attn.Read
public import proofs.«01_k».proof.Proof.Gen.KvWeightKernelIdeal.Value
public import proofs.«01_k».proof.Proof.Gen.KvWeightReferenceIdeal.Read
public import Idealize.ShloMosaic.Lib.Pipeline.ValueKit.Acc
public import Idealize.ShloMosaic.Lib.Pipeline.ValueKit.Geometry

@[expose] public section

noncomputable section

namespace Cert.KvWeightKernelIdeal.Sum

open Cert.KvWeightKernelIdeal Cert.KvWeightKernelIdeal.Gen Idealize.ShloMosaic Idealize.ShloMosaic.TcCoe Idealize.ShloMosaic.ValueIdx
open Cert.KernelIdeal.Attn (at2 at2_pos at2_tn ix2_at2)
open scoped BigOperators

theorem idx_facts : ∀ t : Fin cfg0.N,
    (win0_0.index t (0 : Fin 2) = t.val % 8 ∧ win0_0.index t (1 : Fin 2) = t.val / 8)
    ∧ (win0_1.index t (0 : Fin 2) = t.val % 8 ∧ win0_1.index t (1 : Fin 2) = 0)
    ∧ (win0_2.index t (0 : Fin 2) = t.val / 8 ∧ win0_2.index t (1 : Fin 2) = 0) :=
  (by decide +kernel : ∀ t : Fin grid0.N, _)

theorem flush_last : ∀ t : Fin cfg0.N, (cfg0.win 2).flush t = true → t.val % 8 = 7 := (by decide +kernel : ∀ t : Fin grid0.N, _)

variable (m : (ℓ : Loc nD τ sig) → Buf (Elt Ideal) ℓ) (c : Dev nD)

/-- The two arguments at two naturals. -/
abbrev cots : ℕ → ℕ → EReal := at2 (a := 8192) (b := 1024) (m ((c : Thread nD τ).loc main_arg0))
abbrev rows : ℕ → ℕ → EReal := at2 (a := 8192) (b := 128) (m ((c : Thread nD τ).loc main_arg1))

/-- The cotangents' block. -/
theorem cot_block (t : Fin cfg0.N) {i j : ℕ} (hi : i < 1024) (hj : j < 512) :
    at2 (a := 1024) (b := 512) (iblk m c 0 t) i j
      = cots m c (1024 * (t.val % 8) + i) (512 * (t.val / 8) + j) := by
  obtain ⟨⟨e0, e1⟩, _⟩ := idx_facts t
  have ht : t.val < 16 := t.isLt
  rw [cots, ← V_main_arg0 m c]
  exact Cert.KernelIdeal.Attn.at2_to hi hj _ rfl (by show win0_0.index t (0 : Fin 2) * 1024 + 1 * i = 1024 * (t.val % 8) + i; omega) (by show win0_0.index t (1 : Fin 2) * 512 + 1 * j = 512 * (t.val / 8) + j; omega)

/-- The rows' block. -/
theorem row_block (t : Fin cfg0.N) {i j : ℕ} (hi : i < 1024) (hj : j < 128) :
    at2 (a := 1024) (b := 128) (iblk m c 1 t) i j
      = rows m c (1024 * (t.val % 8) + i) j := by
  obtain ⟨_, ⟨e0, e1⟩, _⟩ := idx_facts t
  have ht : t.val < 16 := t.isLt
  rw [rows, ← V_main_arg1 m c]
  exact Cert.KernelIdeal.Attn.at2_to hi hj _ rfl (by show win0_1.index t (0 : Fin 2) * 1024 + 1 * i = 1024 * (t.val % 8) + i; omega) (by show win0_1.index t (1 : Fin 2) * 128 + 1 * j = j; omega)

/-- One span's product. -/
theorem pay_apply (x0 : Vec Ideal S1024x512 .bf16) (x1 : Vec Ideal S1024x128 .bf16) {i j : ℕ} (hi : i < 512) (hj : j < 128) :
    at2 (a := 512) (b := 128) (k0_pay1 (F := Ideal) x0 x1) i j
      = ∑ k ∈ Finset.range 1024, at2 (a := 1024) (b := 512) x0 k i * at2 (a := 1024) (b := 128) x1 k j :=
  at2_tn (M := 512) (K := 1024) (N := 128) x0 x1 hi hj

theorem pay3_apply (x0 : Vec Ideal S1024x512 .bf16) (x1 : Vec Ideal S1024x128 .bf16) (acc : Vec Ideal S512x128 .f32) {i j : ℕ}
    (hi : i < 512) (hj : j < 128) :
    at2 (a := 512) (b := 128) (k0_pay3 (F := Ideal) x0 x1 acc) i j
      = at2 (a := 512) (b := 128) acc i j + at2 (a := 512) (b := 128) (k0_pay1 (F := Ideal) x0 x1) i j := by
  have e : k0_pay3 (F := Ideal) x0 x1 acc = addf acc (k0_pay1 x0 x1) := shapeCast_self _ _
  rw [e, at2_pos _ hi hj, at2_pos _ hi hj, at2_pos _ hi hj]
  rfl

/-- What the accumulator gains at one point. -/
theorem gain (t : Fin cfg0.N) {i j : ℕ} (hi : i < 512) (hj : j < 128) :
    at2 (a := 512) (b := 128) (k0_pay1 (F := Ideal) (iblk m c 0 t) (iblk m c 1 t)) i j
      = ∑ k ∈ Finset.range 1024, cots m c (1024 * (t.val % 8) + k) (512 * (t.val / 8) + i)
          * rows m c (1024 * (t.val % 8) + k) j := by
  rw [pay_apply _ _ hi hj]
  refine Finset.sum_congr rfl fun k hk => ?_
  have hk := Finset.mem_range.mp hk
  rw [cot_block m c t hk hi, row_block m c t hk hj]

/-- The accumulator after a point: the sum over the spans so far. -/
theorem accumulated (a : ℕ) (ha : a < 2) {i j : ℕ} (hi : i < 512) (hj : j < 128) : ∀ (p : ℕ) (hp : p < 8) (h : 8 * a + p < cfg0.N),
    at2 (a := 512) (b := 128) (outsAt0 m c (8 * a + p) h).2 i j
      = ∑ k ∈ Finset.range (1024 * (p + 1)), cots m c k (512 * a + i)
          * rows m c k j
  | 0, hp, h => by
    have e : (outsAt0 m c (8 * a + 0) h).2 = k0_pay1 (F := Ideal) (iblk m c 0 ⟨8 * a + 0, h⟩) (iblk m c 1 ⟨8 * a + 0, h⟩) := by
      rw [outsAt0_A m c ⟨8 * a + 0, h⟩ (by show (8 * a + 0) % 8 = 0; omega) (by show ¬1 ≤ (8 * a + 0) % 8; omega) (by show ¬(8 * a + 0) % 8 = 7; omega)]
      frame_out
      exact shapeCast_self _ _
    rw [e, gain m c _ hi hj]
    refine Finset.sum_congr rfl fun k _ => ?_
    rw [show 1024 * ((8 * a + 0) % 8) + k = k by omega, show (8 * a + 0) / 8 = a by omega]
  | p + 1, hp, h => by
    have h' : 8 * a + p < cfg0.N := by omega
    have e : (outsAt0 m c (8 * a + (p + 1)) h).2
        = k0_pay3 (F := Ideal) (iblk m c 0 ⟨8 * a + (p + 1), h⟩) (iblk m c 1 ⟨8 * a + (p + 1), h⟩) (outsAt0 m c (8 * a + p) h').2 := by
      by_cases hl : p = 6
      · rw [outsAt0_C m c ⟨8 * a + (p + 1), h⟩ (by show ¬(8 * a + (p + 1)) % 8 = 0; omega) (by show 1 ≤ (8 * a + (p + 1)) % 8; omega) (by show (8 * a + (p + 1)) % 8 = 7; omega)]
        frame_out
        exact congrArg (k0_pay3 _ _) ((Memref.isWhole_whole cc0_scratch0).read_unread _)
      · rw [outsAt0_B m c ⟨8 * a + (p + 1), h⟩ (by show ¬(8 * a + (p + 1)) % 8 = 0; omega) (by show 1 ≤ (8 * a + (p + 1)) % 8; omega) (by show ¬(8 * a + (p + 1)) % 8 = 7; omega)]
        frame_out
        exact congrArg (k0_pay3 _ _) ((Memref.isWhole_whole cc0_scratch0).read_unread _)
    rw [e, pay3_apply _ _ _ hi hj, accumulated a ha hi hj p (by omega) h', gain m c _ hi hj,
      show 1024 * (p + 1 + 1) = 1024 * (p + 1) + 1024 by omega, Finset.sum_range_add]
    refine congrArg (_ + ·) (Finset.sum_congr rfl fun k _ => ?_)
    rw [show (8 * a + (p + 1)) % 8 = p + 1 by omega, show (8 * a + (p + 1)) / 8 = a by omega]

/-- What the last point of a run writes back. -/
theorem written (a : ℕ) (ha : a < 2) (h : 8 * a + 7 < cfg0.N) :
    ((outsAt0 m c (8 * a + 7) h).1 : S512x128.Idx → EReal) = (outsAt0 m c (8 * a + 7) h).2 := by
  rw [outsAt0_C m c ⟨8 * a + 7, h⟩ (by show ¬(8 * a + 7) % 8 = 0; omega) (by show 1 ≤ (8 * a + 7) % 8; omega) (by show (8 * a + 7) % 8 = 7; omega)]
  frame_out
  rfl

/-- The product of the transposed cotangents and the rows. -/
def grad (r s : ℕ) : EReal :=
  ∑ k ∈ Finset.range 8192, cots m c k r * rows m c k s

theorem final : (dats m 0 c).arrAt 2 cfg0.N = fun i : S1024x128.Idx => grad m c (i 0).val (i 1).val := by
  refine (dats m 0 c).arrAt_eq_of_covers 2 (fun i : S1024x128.Idx => grad m c (i 0).val (i 1).val) (by decide +kernel) fun t hf y => ?_
  obtain ⟨_, _, e0, e1⟩ := idx_facts t
  have hl := flush_last t hf
  have ht : t.val < 16 := t.isLt
  obtain ⟨a, hta⟩ : ∃ a, t.val = 8 * a + 7 := ⟨t.val / 8, by omega⟩
  have hb : 8 * a + 7 < cfg0.N := hta ▸ t.isLt
  obtain rfl : t = ⟨8 * a + 7, hb⟩ := Fin.ext hta
  rw [after0_2]
  have hy0 : (y 0).val < 512 := (y 0).isLt
  have hy1 : (y 1).val < 128 := (y 1).isLt
  have h := accumulated m c a (by omega) hy0 hy1 7 (by omega) hb
  rw [← written m c a (by omega) hb, at2_pos _ hy0 hy1] at h
  refine Eq.trans (Eq.trans ?_ h) ?_
  · refine congrArg (outsAt0 m c (8 * a + 7) hb).1 (funext fun d => ?_)
    match d with
    | ⟨0, _⟩ => rfl
    | ⟨1, _⟩ => rfl
  · have e0 : win0_2.index ⟨8 * a + 7, hb⟩ (0 : Fin 2) = (8 * a + 7) / 8 := e0
    refine congrArg₂ (grad m c) ?_ ?_
    · show _ = win0_2.index ⟨8 * a + 7, hb⟩ (0 : Fin 2) * 512 + 1 * (y 0).val
      omega
    · show _ = win0_2.index ⟨8 * a + 7, hb⟩ (1 : Fin 2) * 128 + 1 * (y 1).val
      omega

end Cert.KvWeightKernelIdeal.Sum

namespace Cert.KvWeightReferenceIdeal.Sum

open Cert.KvWeightReferenceIdeal Cert.KvWeightReferenceIdeal.Gen Cert.KvWeightReferenceIdeal.Read Idealize.ShloMosaic Idealize.ShloMosaic.ValueIdx
open Cert.KernelIdeal.Attn (at2 at2_pos ix2_at2 idx_at2)
open scoped BigOperators

/-- The plain program's result is the same sum. -/
theorem plain (x0 : (⟨S8192x1024, .bf16⟩ : BufTy).Contents (Elt Ideal)) (x1 : (⟨S8192x128, .bf16⟩ : BufTy).Contents (Elt Ideal)) (i : S1024x128.Idx) :
    val_main_v8 (F := Ideal) x0 x1 i
      = ∑ k ∈ Finset.range 8192, at2 (a := 8192) (b := 1024) x0 k (i 0).val * at2 (a := 8192) (b := 128) x1 k (i 1).val := by
  rw [val_main_v8_apply]
  refine Eq.trans (val_main_v7_apply (F := Ideal) x0 x1 i) ?_
  rw [val_main_v6_apply, val_main_v5_apply, Finset.sum_range]
  refine Finset.sum_congr rfl fun k _ => ?_
  refine congrArg₂ (· * ·) ?_ ?_
  · exact idx_at2 (a := 8192) (b := 1024) x0 _
  · exact idx_at2 (a := 8192) (b := 128) x1 _

end Cert.KvWeightReferenceIdeal.Sum

end
-- ==== Proof.Ffn.KvWeightClaims.lean ====
/-
  The claims of the product for the gradient of the weights of keys and values.
-/
module

public import proofs.«01_k».proof.Defs
public import proofs.«01_k».proof.Proof.Gen.KvWeightKernel
public import proofs.«01_k».proof.Proof.Gen.KvWeightKernelIdeal
public import proofs.«01_k».proof.Proof.Gen.KvWeightReferenceIdeal
public import proofs.«01_k».proof.Proof.Gen.KvWeightReferenceIdeal.Run
public import proofs.«01_k».proof.Proof.Ffn.KvWeight
public import Idealize.ShloMosaic.Lib.Quiescent
public import Idealize.ShloMosaic.Adequacy
public import Idealize.ShloMosaic.Init

@[expose] public section

noncomputable section

namespace Cert.KvWeightClaims

open Idealize.ShloMosaic Idealize.SL.Sem
open Idealize.ShloMosaic.TcCoe
open Cert.KvWeightKernelIdeal (cfg0 nD τ sig main_arg0 main_arg1)
open Cert.KvWeightKernelIdeal.Gen Cert.KvWeightKernelIdeal.Value

attribute [local instance] Cert.KvWeightKernel.Gen.facts Cert.KvWeightKernelIdeal.Gen.facts Cert.KvWeightReferenceIdeal.Gen.facts

/-- The plain program has no semaphores; its run leaves its arguments as they were. -/
theorem frame_reference : Cert.quiescent_KvWeightReferenceIdeal := fun m g _ =>
  (θ_run _ _ _).monotone (fun r h => ⟨fun c => (h c).2, sem_eq_zero_of_no_sems (by decide) r.2⟩) (Cert.KvWeightReferenceIdeal.Value.run m g)

variable (m : (ℓ : Loc nD τ sig) → Buf (Elt Ideal) ℓ) (c : Dev nD)

theorem sum :
    Cert.KvWeightReferenceIdeal.Read.val_main_v8 (F := Ideal) (m ((c : Thread nD τ).loc main_arg0)) (m ((c : Thread nD τ).loc main_arg1)) = (dats m 0 c).arrAt 2 cfg0.N := by
  rw [Cert.KvWeightKernelIdeal.Sum.final]
  funext i
  exact Cert.KvWeightReferenceIdeal.Sum.plain _ _ i

theorem value : Cert.algebraic_KvWeightKernelIdeal_KvWeightReferenceIdeal := by
  intro m g m' g' _ ha
  refine ⟨fun c => (dats m 0 c).arrAt 2 cfg0.N, run_blocks m g, ?_⟩
  refine (θ_run _ _ _).monotone (fun r h c => ?_) (Cert.KvWeightReferenceIdeal.Value.run m' g')
  obtain ⟨a0, a1⟩ := ha c
  obtain ⟨h0, h1⟩ := h c
  rw [Cert.KvWeightReferenceIdeal.Read.val_main_v8_eq, a0, a1] at h0
  exact ⟨h0.trans (sum m c), h1⟩

end Cert.KvWeightClaims

end
-- ==== Proof.Ffn.OutNorm.lean ====
/-
  The norms of both mixers, the output projection, and the norm before the feed-forward layer: 256 rows at a time the kernel norms the rows of
  either mixer, sets them side by side, multiplies by the projection's weights, adds the residual stream, and norms the sum.
-/
module

public import proofs.«01_k».proof.Proof.Ffn.NormRow
public import proofs.«01_k».proof.Proof.Ffn.Rows
public import proofs.«01_k».proof.Proof.Gen.OutNormKernelIdeal.Value
public import Idealize.ShloMosaic.Lib.Pipeline.ValueKit.Acc
public import Idealize.ShloMosaic.Lib.Pipeline.ValueKit.Geometry

@[expose] public section

noncomputable section

namespace Cert.OutNormRow

open Idealize.ShloMosaic
open Cert.NormRow (eps inv inv_congr)
open scoped BigOperators

/-- The width of one mixer. -/
abbrev wide : EReal := Ideal.ofBits .f32 0x44000000#32

/-- One mixer's row: its inverse root mean square, and the row normed. -/
def invW (x : ℕ → EReal) : EReal := Ideal.rsqrt (Ideal.div (∑ k ∈ Finset.range 512, x k * x k) wide + eps)
def normed (x g : ℕ → EReal) (j : ℕ) : EReal := x j * invW x * g j

/-- Both mixers' rows side by side. -/
def cat (f u gf gu : ℕ → EReal) (j : ℕ) : EReal := if j < 512 then normed f gf j else normed u gu (j - 512)

/-- The residual stream after the projection, and its norm. -/
def stream (x f u gf gu : ℕ → EReal) (w : ℕ → ℕ → EReal) (j : ℕ) : EReal := x j + ∑ k ∈ Finset.range 1024, cat f u gf gu k * w k j
def last (s g : ℕ → EReal) (j : ℕ) : EReal := s j * inv s * g j

theorem invW_congr {x x' : ℕ → EReal} (hx : ∀ k < 512, x k = x' k) : invW x = invW x' := by
  unfold invW
  rw [Finset.sum_congr rfl fun k hk => by rw [hx k (Finset.mem_range.mp hk)]]

theorem cat_congr {f f' u u' gf gf' gu gu' : ℕ → EReal} (hf : ∀ k < 512, f k = f' k) (hu : ∀ k < 512, u k = u' k)
    (hgf : ∀ k < 512, gf k = gf' k) (hgu : ∀ k < 512, gu k = gu' k) {j : ℕ} (hj : j < 1024) : cat f u gf gu j = cat f' u' gf' gu' j := by
  unfold cat normed
  by_cases h : j < 512
  · rw [if_pos h, if_pos h, invW_congr hf, hf j h, hgf j h]
  · rw [if_neg h, if_neg h, invW_congr hu, hu _ (by omega), hgu _ (by omega)]

theorem stream_congr {x x' f f' u u' gf gf' gu gu' : ℕ → EReal} {w w' : ℕ → ℕ → EReal} (hx : ∀ k < 1024, x k = x' k) (hf : ∀ k < 512, f k = f' k)
    (hu : ∀ k < 512, u k = u' k) (hgf : ∀ k < 512, gf k = gf' k) (hgu : ∀ k < 512, gu k = gu' k) (hw : ∀ k < 1024, ∀ l < 1024, w k l = w' k l)
    {j : ℕ} (hj : j < 1024) : stream x f u gf gu w j = stream x' f' u' gf' gu' w' j := by
  unfold stream
  rw [hx j hj, Finset.sum_congr rfl fun k hk => by rw [cat_congr hf hu hgf hgu (Finset.mem_range.mp hk), hw k (Finset.mem_range.mp hk) j hj]]

theorem last_congr {s s' g g' : ℕ → EReal} (hs : ∀ k < 1024, s k = s' k) (hg : ∀ k < 1024, g k = g' k) {j : ℕ} (hj : j < 1024) : last s g j = last s' g' j := by
  unfold last
  rw [inv_congr hs, hs j hj, hg j hj]

end Cert.OutNormRow

namespace Cert.OutNormKernelIdeal.Half

open Cert.OutNormKernelIdeal Cert.OutNormKernelIdeal.Gen Idealize.ShloMosaic Idealize.ShloMosaic.TcCoe Idealize.ShloMosaic.ValueIdx
open Cert.KernelIdeal.Attn (at2 at2_pos at2_plain ix2_at2)
open Cert.NormRow (len eps inv)
open Cert.OutNormRow Cert.Rows
open scoped BigOperators

theorem at2_mulf {a b : ℕ} (x y : FVec Ideal ⟨2, ![a, b]⟩ .f32) (i j : ℕ) :
    at2 (a := a) (b := b) (mulf (F := Ideal) x y) i j = at2 (a := a) (b := b) x i j * at2 (a := a) (b := b) y i j := by
  unfold at2
  split
  · rfl
  · exact (zero_mul _).symm

/-- A mixer's rows: their inverse root mean squares, and the rows normed. -/
def invs (x : Vec Ideal S256x512 .f32) : FVec Ideal S256x1 .f32 :=
  rsqrt (addf (divf (shapeCast S256x1 (multiReduction (F := Ideal) .add [1] S256 (mulf x x) 0x00000000#32 reduces_S256x512_S256 (.inl rfl) rfl) shapeCasts_S256_S256x1)
    (broadcast S256x1 (Scalar.ofBits (F := Ideal) .f32 0x44000000#32))) (broadcast S256x1 (Scalar.ofBits (F := Ideal) .f32 0x358637BD#32)))
def rows (x : Vec Ideal S256x512 .f32) (g : Vec Ideal S1x512 .f32) : FVec Ideal S256x512 .bf16 :=
  truncf .bf16 (mulf (mulf x (broadcastTo S256x512 (invs x) broadcasts_S256x1_S256x512)) (broadcastTo S256x512 g broadcasts_S1x512_S256x512)) bitsLt_bf16_f32

theorem invs_apply (x : Vec Ideal S256x512 .f32) (i : Fin 256) : (invs x : S256x1.Idx → EReal) (ix2 i (0 : Fin 1)) = invW (at2 (a := 256) (b := 512) x i.val) := by
  have e := (row_sum (a := 256) (b := 512) (hφ := .inl rfl) (hacc := rfl) (mulf (F := Ideal) x x) reduces_S256x512_S256 shapeCasts_S256_S256x1 i 0).trans
    (Finset.sum_congr rfl fun k _ => at2_mulf x x i.val k)
  exact congrArg (fun s : EReal => Ideal.rsqrt (Ideal.div s wide + eps)) e

theorem rows_apply (x : Vec Ideal S256x512 .f32) (g : Vec Ideal S1x512 .f32) (i : Fin 256) (j : Fin 512) :
    (rows x g : S256x512.Idx → EReal) (ix2 i j) = normed (at2 (a := 256) (b := 512) x i.val) (at2 (a := 1) (b := 512) g 0) j.val := by
  unfold normed
  rw [← invs_apply, ← ix2_at2 (a := 256) (b := 512) x i j]
  exact congrArg₂ (fun p q : EReal => (x (ix2 i j) : EReal) * p * q) (across (a := 256) (b := 512) (invs x) _ i j)
    ((broadcastTo_1b_ab_apply (a := 256) (b := 512) g _ i j).trans (ix2_at2 (a := 1) (b := 512) g 0 j))

/-- Both mixers' rows. -/
theorem cat_apply (v0 v1 : Vec Ideal S1x512 .f32) (v3 v4 : Vec Ideal S256x512 .f32) {i j : ℕ} (hi : i < 256) (hj : j < 1024) :
    at2 (a := 256) (b := 1024) (k0_pay4 (F := Ideal) v0 v1 v3 v4) i j
      = cat (at2 (a := 256) (b := 512) v3 i) (at2 (a := 256) (b := 512) v4 i) (at2 (a := 1) (b := 512) v0 0) (at2 (a := 1) (b := 512) v1 0) j := by
  have e : k0_pay4 (F := Ideal) v0 v1 v3 v4
      = concatenate S256x1024 1 [⟨S256x512, rows v3 v0⟩, ⟨S256x512, rows v4 v1⟩] concatenates_S256x512_S256x512_S256x1024_d1 := rfl
  rw [e, at2_pos _ hi hj]
  unfold cat
  by_cases h : j < 512
  · rw [if_pos h, ← rows_apply v3 v0 ⟨i, hi⟩ ⟨j, h⟩]
    refine concatenate_pair_apply_left (t := S256x1024) (s₁ := S256x512) (s₂ := S256x512) 1 _ _ _ _ rfl _ fun b => ?_
    match b with
    | ⟨0, _⟩ => rfl
    | ⟨1, _⟩ => rfl
  · rw [if_neg h, ← rows_apply v4 v1 ⟨i, hi⟩ ⟨j - 512, by omega⟩]
    refine concatenate_pair_apply_right (t := S256x1024) (s₁ := S256x512) (s₂ := S256x512) 1 _ _ _ _ rfl rfl _ (fun b hb => ?_) ?_
    · match b, hb with
      | ⟨0, _⟩, _ => rfl
      | ⟨1, _⟩, hb => exact absurd rfl hb
    · show j - 512 + 512 = j
      omega

/-- The projection of both mixers' rows. -/
theorem proj_apply (v0 v1 : Vec Ideal S1x512 .f32) (v3 v4 : Vec Ideal S256x512 .f32) (w : Vec Ideal S1024x1024 .bf16) {i j : ℕ} (hi : i < 256) (hj : j < 1024) :
    at2 (a := 256) (b := 1024) (k0_pay5 (F := Ideal) v0 v1 v3 v4 w) i j
      = ∑ k ∈ Finset.range 1024, cat (at2 (a := 256) (b := 512) v3 i) (at2 (a := 256) (b := 512) v4 i) (at2 (a := 1) (b := 512) v0 0) (at2 (a := 1) (b := 512) v1 0) k
          * at2 (a := 1024) (b := 1024) w k j := by
  refine (at2_plain (M := 256) (K := 1024) (N := 1024) (k0_pay4 (F := Ideal) v0 v1 v3 v4) w hi hj).trans (Finset.sum_congr rfl fun k hk => ?_)
  rw [cat_apply v0 v1 v3 v4 hi (Finset.mem_range.mp hk)]

/-- The residual stream. -/
theorem stream_apply (v0 v1 : Vec Ideal S1x512 .f32) (v3 v4 : Vec Ideal S256x512 .f32) (w : Vec Ideal S1024x1024 .bf16) (x : Vec Ideal S256x1024 .f32)
    {i j : ℕ} (hi : i < 256) (hj : j < 1024) :
    at2 (a := 256) (b := 1024) (k0_pay8 (F := Ideal) x (k0_pay5 (F := Ideal) v0 v1 v3 v4 w)) i j
      = stream (at2 (a := 256) (b := 1024) x i) (at2 (a := 256) (b := 512) v3 i) (at2 (a := 256) (b := 512) v4 i) (at2 (a := 1) (b := 512) v0 0) (at2 (a := 1) (b := 512) v1 0)
          (at2 (a := 1024) (b := 1024) w) j := by
  unfold stream
  rw [← proj_apply v0 v1 v3 v4 w hi hj, at2_pos _ hi hj, at2_pos _ hi hj, at2_pos _ hi hj]
  rfl

/-- The norm of the stream. -/
def tops (s : FVec Ideal S256x1024 .f32) : FVec Ideal S256x1 .f32 :=
  rsqrt (addf (divf (shapeCast S256x1 (multiReduction (F := Ideal) .add [1] S256 (mulf s s) 0x00000000#32 reduces_S256x1024_S256 (.inl rfl) rfl) shapeCasts_S256_S256x1)
    (broadcast S256x1 (Scalar.ofBits (F := Ideal) .f32 0x44800000#32))) (broadcast S256x1 (Scalar.ofBits (F := Ideal) .f32 0x358637BD#32)))

theorem tops_apply (s : FVec Ideal S256x1024 .f32) (i : Fin 256) : (tops s : S256x1.Idx → EReal) (ix2 i (0 : Fin 1)) = inv (at2 (a := 256) (b := 1024) s i.val) := by
  have e := (row_sum (a := 256) (b := 1024) (hφ := .inl rfl) (hacc := rfl) (mulf (F := Ideal) s s) reduces_S256x1024_S256 shapeCasts_S256_S256x1 i 0).trans
    (Finset.sum_congr rfl fun k _ => at2_mulf s s i.val k)
  exact congrArg (fun s : EReal => Ideal.rsqrt (Ideal.div s len + eps)) e

theorem last_apply (g : Vec Ideal S1x1024 .f32) (x : Vec Ideal S256x1024 .f32) (a : FVec Ideal S256x1024 .f32) {i j : ℕ} (hi : i < 256) (hj : j < 1024) :
    at2 (a := 256) (b := 1024) (k0_pay9 (F := Ideal) g x a) i j
      = last (at2 (a := 256) (b := 1024) (k0_pay8 (F := Ideal) x a) i) (at2 (a := 1) (b := 1024) g 0) j := by
  have e : k0_pay9 (F := Ideal) g x a = mulf (mulf (k0_pay8 x a) (broadcastTo S256x1024 (tops (k0_pay8 x a)) broadcasts_S256x1_S256x1024))
      (broadcastTo S256x1024 g broadcasts_S1x1024_S256x1024) := rfl
  unfold last
  rw [e, ← tops_apply (k0_pay8 x a) ⟨i, hi⟩, at2_pos _ hi hj, at2_pos (k0_pay8 (F := Ideal) x a : (⟨2, ![256, 1024]⟩ : Shape).Idx → EReal) hi hj]
  exact congrArg₂ (fun p q : EReal => (k0_pay8 (F := Ideal) x a (ix2 ⟨i, hi⟩ ⟨j, hj⟩) : EReal) * p * q) (across (a := 256) (b := 1024) (tops (k0_pay8 x a)) _ ⟨i, hi⟩ ⟨j, hj⟩)
    ((broadcastTo_1b_ab_apply (a := 256) (b := 1024) g _ ⟨i, hi⟩ ⟨j, hj⟩).trans (ix2_at2 (a := 1) (b := 1024) g 0 ⟨j, hj⟩))

/-- The second half of a tile has the same text. -/
theorem second_cat (v0 v1 : Vec Ideal S1x512 .f32) (v3 v4 : Vec Ideal S256x512 .f32) : k0_pay6 (F := Ideal) v0 v1 v3 v4 = k0_pay4 v0 v1 v3 v4 := rfl
theorem second_proj (v0 v1 : Vec Ideal S1x512 .f32) (v3 v4 : Vec Ideal S256x512 .f32) (w : Vec Ideal S1024x1024 .bf16) :
    k0_pay7 (F := Ideal) v0 v1 v3 v4 w = k0_pay5 v0 v1 v3 v4 w := rfl
theorem second_stream (x : Vec Ideal S256x1024 .f32) (a : FVec Ideal S256x1024 .f32) : k0_pay2 (F := Ideal) x a = k0_pay8 x a := rfl
theorem second_last (g : Vec Ideal S1x1024 .f32) (x : Vec Ideal S256x1024 .f32) (a : FVec Ideal S256x1024 .f32) :
    k0_pay3 (F := Ideal) g x a = k0_pay1 (k0_pay9 g x a) := rfl

end Cert.OutNormKernelIdeal.Half

end
-- ==== Proof.Ffn.OutNormWhole.lean ====
/-
  The norms and the output projection: the kernel's three arrays, row by row.
-/
module

public import proofs.«01_k».proof.Proof.Ffn.OutNorm
public import proofs.«01_k».proof.Proof.Gen.OutNormReferenceIdeal.Read

@[expose] public section

noncomputable section

namespace Cert.OutNormKernelIdeal.Whole

open Cert.OutNormKernelIdeal Cert.OutNormKernelIdeal.Gen Cert.OutNormKernelIdeal.Value Idealize.ShloMosaic Idealize.ShloMosaic.TcCoe Idealize.ShloMosaic.ValueIdx
open Cert.KernelIdeal.Attn (at2 at2_pos ix2_at2 box at2_box at2_canon_f32 at2_canon_bf16)
open Cert.OutNormRow
open scoped BigOperators

section
variable (w : (⟨2, ![1024, 1024]⟩ : Shape).Idx → EReal) (f u : (⟨2, ![8192, 512]⟩ : Shape).Idx → EReal) (x : (⟨2, ![8192, 1024]⟩ : Shape).Idx → EReal)
  (gf gu : (⟨2, ![1, 512]⟩ : Shape).Idx → EReal) (g : (⟨2, ![1, 1024]⟩ : Shape).Idx → EReal)

/-- Both mixers' normed rows, the residual stream, and its norm, of whole arrays. -/
def catOf (r : ℕ) : ℕ → EReal := cat (at2 (a := 8192) (b := 512) f r) (at2 (a := 8192) (b := 512) u r) (at2 (a := 1) (b := 512) gf 0) (at2 (a := 1) (b := 512) gu 0)
def streamOf (r : ℕ) : ℕ → EReal := stream (at2 (a := 8192) (b := 1024) x r) (at2 (a := 8192) (b := 512) f r) (at2 (a := 8192) (b := 512) u r)
  (at2 (a := 1) (b := 512) gf 0) (at2 (a := 1) (b := 512) gu 0) (at2 (a := 1024) (b := 1024) w)
def lastOf (r : ℕ) : ℕ → EReal := last (streamOf w f u x gf gu r) (at2 (a := 1) (b := 1024) g 0)
end

theorem idx_facts : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem idx_out : ∀ t : Fin cfg0.N,
    (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem read_lo {b : ℕ} {x : (⟨2, ![512, b]⟩ : Shape).Idx → EReal} {i j : ℕ} (hi : i < 256) (hj : j < b) :
    at2 (a := 256) (b := b) (fun y => x ((box 0 256 0 b (by omega) (by omega)).toLoadRect.idx y)) i j = at2 (a := 512) (b := b) x i j :=
  (at2_box x 0 256 0 b (by omega) (by omega) hi hj).trans (by rw [Nat.zero_add, Nat.zero_add])

theorem read_hi {b : ℕ} {x : (⟨2, ![512, b]⟩ : Shape).Idx → EReal} {i j : ℕ} (hi : i < 256) (hj : j < b) :
    at2 (a := 256) (b := b) (fun y => x ((box 256 256 0 b (by omega) (by omega)).toLoadRect.idx y)) i j = at2 (a := 512) (b := b) x (256 + i) j :=
  (at2_box x 256 256 0 b (by omega) (by omega) hi hj).trans (by rw [Nat.zero_add])

theorem read_row {b : ℕ} {x : (⟨2, ![1, b]⟩ : Shape).Idx → EReal} {j : ℕ} (hj : j < b) :
    at2 (a := 1) (b := b) (fun y => x ((box 0 1 0 b (by omega) (by omega)).toLoadRect.idx y)) 0 j = at2 (a := 1) (b := b) x 0 j :=
  (at2_box x 0 1 0 b (by omega) (by omega) Nat.one_pos hj).trans (by rw [Nat.zero_add, Nat.zero_add])

theorem read_weight {x : (⟨2, ![1024, 1024]⟩ : Shape).Idx → EReal} {i j : ℕ} (hi : i < 1024) (hj : j < 1024) :
    at2 (a := 1024) (b := 1024) (fun y => x ((box 0 1024 0 1024 (by omega) (by omega)).toLoadRect.idx y)) i j = at2 (a := 1024) (b := 1024) x i j :=
  (at2_box x 0 1024 0 1024 (by omega) (by omega) hi hj).trans (by rw [Nat.zero_add, Nat.zero_add])

/-- A tile of two halves. -/
theorem two_f32 (X Y : Vec Ideal S256x1024 .f32) {i j : ℕ} (hi : i < 512) (hj : j < 1024) :
    at2 (a := 512) (b := 1024) (View.canon (Val := Elt Ideal) [(⟨r0_6, X⟩ : View.Piece (Elt Ideal) S512x1024 .f32), ⟨r0_3, Y⟩]) i j
      = if 256 ≤ i then at2 (a := 256) (b := 1024) X (i - 256) j else at2 (a := 256) (b := 1024) Y i j := by
  refine (at2_canon_f32 256 256 0 1024 (by omega) (by omega) X _ hi hj).trans ?_
  by_cases h : 256 ≤ i
  · rw [if_pos h, if_pos (by omega)]
    rfl
  · rw [if_neg h, if_neg (by omega)]
    refine (at2_canon_f32 0 256 0 1024 (by omega) (by omega) Y _ hi hj).trans ?_
    rw [if_pos (by omega)]
    rfl

theorem two_bf16 (X Y : Vec Ideal S256x1024 .bf16) {i j : ℕ} (hi : i < 512) (hj : j < 1024) :
    at2 (a := 512) (b := 1024) (View.canon (Val := Elt Ideal) [(⟨r0_6, X⟩ : View.Piece (Elt Ideal) S512x1024 .bf16), ⟨r0_3, Y⟩]) i j
      = if 256 ≤ i then at2 (a := 256) (b := 1024) X (i - 256) j else at2 (a := 256) (b := 1024) Y i j := by
  refine (at2_canon_bf16 256 256 0 1024 (by omega) (by omega) X _ hi hj).trans ?_
  by_cases h : 256 ≤ i
  · rw [if_pos h, if_pos (by omega)]
    rfl
  · rw [if_neg h, if_neg (by omega)]
    refine (at2_canon_bf16 0 256 0 1024 (by omega) (by omega) Y _ hi hj).trans ?_
    rw [if_pos (by omega)]
    rfl

variable (m : (ℓ : Loc nD τ sig) → Buf (Elt Ideal) ℓ) (c : Dev nD)

/-- The same of the kernel's arguments. -/
def catAt (r : ℕ) : ℕ → EReal := catOf (m ((c : Thread nD τ).loc main_arg1)) (m ((c : Thread nD τ).loc main_arg2)) (m ((c : Thread nD τ).loc main_arg4)) (m ((c : Thread nD τ).loc main_arg5)) r
def streamAt (r : ℕ) : ℕ → EReal := streamOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r
def lastAt (r : ℕ) : ℕ → EReal := lastOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r

theorem block0 (t : Fin cfg0.N) {i j : ℕ} (hi : i < 1024) (hj : j < 1024) :
    at2 (a := 1024) (b := 1024) (iblk m c 0 t) i j
      = at2 (a := 1024) (b := 1024) (m ((c : Thread nD τ).loc main_arg0)) (i) j := by
  obtain ⟨⟨e0, e1⟩, _⟩ := idx_facts t
  have ht : t.val < 16 := t.isLt
  rw [← V_main_arg0 m c]
  exact Cert.KernelIdeal.Attn.at2_to hi hj _ rfl (by show win0_0.index t (0 : Fin 2) * 1024 + 1 * i = i; omega) (by show win0_0.index t (1 : Fin 2) * 1024 + 1 * j = j; omega)

theorem block1 (t : Fin cfg0.N) {i j : ℕ} (hi : i < 512) (hj : j < 512) :
    at2 (a := 512) (b := 512) (iblk m c 1 t) i j
      = at2 (a := 8192) (b := 512) (m ((c : Thread nD τ).loc main_arg1)) (512 * t.val + i) j := by
  obtain ⟨_, ⟨e0, e1⟩, _⟩ := idx_facts t
  have ht : t.val < 16 := t.isLt
  rw [← V_main_arg1 m c]
  exact Cert.KernelIdeal.Attn.at2_to hi hj _ rfl (by show win0_1.index t (0 : Fin 2) * 512 + 1 * i = 512 * t.val + i; omega) (by show win0_1.index t (1 : Fin 2) * 512 + 1 * j = j; omega)

theorem block2 (t : Fin cfg0.N) {i j : ℕ} (hi : i < 512) (hj : j < 512) :
    at2 (a := 512) (b := 512) (iblk m c 2 t) i j
      = at2 (a := 8192) (b := 512) (m ((c : Thread nD τ).loc main_arg2)) (512 * t.val + i) j := by
  obtain ⟨_, _, ⟨e0, e1⟩, _⟩ := idx_facts t
  have ht : t.val < 16 := t.isLt
  rw [← V_main_arg2 m c]
  exact Cert.KernelIdeal.Attn.at2_to hi hj _ rfl (by show win0_2.index t (0 : Fin 2) * 512 + 1 * i = 512 * t.val + i; omega) (by show win0_2.index t (1 : Fin 2) * 512 + 1 * j = j; omega)

theorem block3 (t : Fin cfg0.N) {i j : ℕ} (hi : i < 512) (hj : j < 1024) :
    at2 (a := 512) (b := 1024) (iblk m c 3 t) i j
      = at2 (a := 8192) (b := 1024) (m ((c : Thread nD τ).loc main_arg3)) (512 * t.val + i) j := by
  obtain ⟨_, _, _, ⟨e0, e1⟩, _⟩ := idx_facts t
  have ht : t.val < 16 := t.isLt
  rw [← V_main_arg3 m c]
  exact Cert.KernelIdeal.Attn.at2_to hi hj _ rfl (by show win0_3.index t (0 : Fin 2) * 512 + 1 * i = 512 * t.val + i; omega) (by show win0_3.index t (1 : Fin 2) * 1024 + 1 * j = j; omega)

theorem block4 (t : Fin cfg0.N) {i j : ℕ} (hi : i < 1) (hj : j < 512) :
    at2 (a := 1) (b := 512) (iblk m c 4 t) i j
      = at2 (a := 1) (b := 512) (m ((c : Thread nD τ).loc main_arg4)) (i) j := by
  obtain ⟨_, _, _, _, ⟨e0, e1⟩, _⟩ := idx_facts t
  have ht : t.val < 16 := t.isLt
  rw [← V_main_arg4 m c]
  exact Cert.KernelIdeal.Attn.at2_to hi hj _ rfl (by show win0_4.index t (0 : Fin 2) * 1 + 1 * i = i; omega) (by show win0_4.index t (1 : Fin 2) * 512 + 1 * j = j; omega)

theorem block5 (t : Fin cfg0.N) {i j : ℕ} (hi : i < 1) (hj : j < 512) :
    at2 (a := 1) (b := 512) (iblk m c 5 t) i j
      = at2 (a := 1) (b := 512) (m ((c : Thread nD τ).loc main_arg5)) (i) j := by
  obtain ⟨_, _, _, _, _, ⟨e0, e1⟩, _⟩ := idx_facts t
  have ht : t.val < 16 := t.isLt
  rw [← V_main_arg5 m c]
  exact Cert.KernelIdeal.Attn.at2_to hi hj _ rfl (by show win0_5.index t (0 : Fin 2) * 1 + 1 * i = i; omega) (by show win0_5.index t (1 : Fin 2) * 512 + 1 * j = j; omega)

theorem block6 (t : Fin cfg0.N) {i j : ℕ} (hi : i < 1) (hj : j < 1024) :
    at2 (a := 1) (b := 1024) (iblk m c 6 t) i j
      = at2 (a := 1) (b := 1024) (m ((c : Thread nD τ).loc main_arg6)) (i) j := by
  obtain ⟨_, _, _, _, _, _, ⟨e0, e1⟩⟩ := idx_facts t
  have ht : t.val < 16 := t.isLt
  rw [← V_main_arg6 m c]
  exact Cert.KernelIdeal.Attn.at2_to hi hj _ rfl (by show win0_6.index t (0 : Fin 2) * 1 + 1 * i = i; omega) (by show win0_6.index t (1 : Fin 2) * 1024 + 1 * j = j; omega)

/-- The first half of a tile. -/
theorem cat_lo (t : Fin cfg0.N) {i j : ℕ} (hi : i < 256) (hj : j < 1024) :
    at2 (a := 256) (b := 1024) (k0_pay4 (F := Ideal) (View.ld (Val := Elt Ideal) (iblk m c 4 t) r0_0) (View.ld (Val := Elt Ideal) (iblk m c 5 t) r0_0) (View.ld (Val := Elt Ideal) (iblk m c 1 t) r0_2) (View.ld (Val := Elt Ideal) (iblk m c 2 t) r0_2)) i j = catAt m c (512 * t.val + i) j :=
  (Half.cat_apply _ _ _ _ hi hj).trans (cat_congr
    (fun k hk => (read_lo (b := 512) (x := (iblk m c 1 t)) hi hk).trans (block1 m c t (by omega) hk))
    (fun k hk => (read_lo (b := 512) (x := (iblk m c 2 t)) hi hk).trans (block2 m c t (by omega) hk))
    (fun k hk => (read_row (b := 512) (x := (iblk m c 4 t)) hk).trans (block4 m c t (i := 0) Nat.one_pos hk))
    (fun k hk => (read_row (b := 512) (x := (iblk m c 5 t)) hk).trans (block5 m c t (i := 0) Nat.one_pos hk)) hj)

theorem stream_lo (t : Fin cfg0.N) {i j : ℕ} (hi : i < 256) (hj : j < 1024) :
    at2 (a := 256) (b := 1024) (k0_pay8 (F := Ideal) (View.ld (Val := Elt Ideal) (iblk m c 3 t) r0_3) (k0_pay10 (F := Ideal) (iblk m c 0 t) (iblk m c 1 t) (iblk m c 2 t) (iblk m c 3 t) (iblk m c 4 t) (iblk m c 5 t) (iblk m c 6 t))) i j = streamAt m c (512 * t.val + i) j :=
  (Half.stream_apply (View.ld (Val := Elt Ideal) (iblk m c 4 t) r0_0) (View.ld (Val := Elt Ideal) (iblk m c 5 t) r0_0) (View.ld (Val := Elt Ideal) (iblk m c 1 t) r0_2) (View.ld (Val := Elt Ideal) (iblk m c 2 t) r0_2) (View.ld (Val := Elt Ideal) (iblk m c 0 t) r0_4) (View.ld (Val := Elt Ideal) (iblk m c 3 t) r0_3) hi hj).trans (stream_congr
    (fun k hk => (read_lo (b := 1024) (x := (iblk m c 3 t)) hi hk).trans (block3 m c t (by omega) hk))
    (fun k hk => (read_lo (b := 512) (x := (iblk m c 1 t)) hi hk).trans (block1 m c t (by omega) hk))
    (fun k hk => (read_lo (b := 512) (x := (iblk m c 2 t)) hi hk).trans (block2 m c t (by omega) hk))
    (fun k hk => (read_row (b := 512) (x := (iblk m c 4 t)) hk).trans (block4 m c t (i := 0) Nat.one_pos hk))
    (fun k hk => (read_row (b := 512) (x := (iblk m c 5 t)) hk).trans (block5 m c t (i := 0) Nat.one_pos hk))
    (fun k hk l hl => (read_weight (x := (iblk m c 0 t)) hk hl).trans (block0 m c t hk hl)) hj)

theorem last_lo (t : Fin cfg0.N) {i j : ℕ} (hi : i < 256) (hj : j < 1024) :
    at2 (a := 256) (b := 1024) (k0_pay1 (F := Ideal) (k0_pay9 (F := Ideal) (View.ld (Val := Elt Ideal) (iblk m c 6 t) r0_1) (View.ld (Val := Elt Ideal) (iblk m c 3 t) r0_3) (k0_pay10 (F := Ideal) (iblk m c 0 t) (iblk m c 1 t) (iblk m c 2 t) (iblk m c 3 t) (iblk m c 4 t) (iblk m c 5 t) (iblk m c 6 t)))) i j = lastAt m c (512 * t.val + i) j :=
  (Half.last_apply (View.ld (Val := Elt Ideal) (iblk m c 6 t) r0_1) (View.ld (Val := Elt Ideal) (iblk m c 3 t) r0_3) (k0_pay10 (F := Ideal) (iblk m c 0 t) (iblk m c 1 t) (iblk m c 2 t) (iblk m c 3 t) (iblk m c 4 t) (iblk m c 5 t) (iblk m c 6 t)) hi hj).trans (last_congr
    (fun k hk => stream_lo m c t hi hk)
    (fun k hk => (read_row (b := 1024) (x := (iblk m c 6 t)) hk).trans (block6 m c t (i := 0) Nat.one_pos hk)) hj)

/-- The second half of a tile. -/
theorem cat_hi (t : Fin cfg0.N) {i j : ℕ} (hi : i < 256) (hj : j < 1024) :
    at2 (a := 256) (b := 1024) (k0_pay6 (F := Ideal) (View.ld (Val := Elt Ideal) (iblk m c 4 t) r0_0) (View.ld (Val := Elt Ideal) (iblk m c 5 t) r0_0) (View.ld (Val := Elt Ideal) (iblk m c 1 t) r0_5) (View.ld (Val := Elt Ideal) (iblk m c 2 t) r0_5)) i j = catAt m c (512 * t.val + (256 + i)) j :=
  (Half.cat_apply _ _ _ _ hi hj).trans (cat_congr
    (fun k hk => (read_hi (b := 512) (x := (iblk m c 1 t)) hi hk).trans (block1 m c t (by omega) hk))
    (fun k hk => (read_hi (b := 512) (x := (iblk m c 2 t)) hi hk).trans (block2 m c t (by omega) hk))
    (fun k hk => (read_row (b := 512) (x := (iblk m c 4 t)) hk).trans (block4 m c t (i := 0) Nat.one_pos hk))
    (fun k hk => (read_row (b := 512) (x := (iblk m c 5 t)) hk).trans (block5 m c t (i := 0) Nat.one_pos hk)) hj)

theorem stream_hi (t : Fin cfg0.N) {i j : ℕ} (hi : i < 256) (hj : j < 1024) :
    at2 (a := 256) (b := 1024) (k0_pay2 (F := Ideal) (View.ld (Val := Elt Ideal) (iblk m c 3 t) r0_6) (k0_pay11 (F := Ideal) (iblk m c 0 t) (iblk m c 1 t) (iblk m c 2 t) (iblk m c 3 t) (iblk m c 4 t) (iblk m c 5 t) (iblk m c 6 t))) i j = streamAt m c (512 * t.val + (256 + i)) j :=
  (Half.stream_apply (View.ld (Val := Elt Ideal) (iblk m c 4 t) r0_0) (View.ld (Val := Elt Ideal) (iblk m c 5 t) r0_0) (View.ld (Val := Elt Ideal) (iblk m c 1 t) r0_5) (View.ld (Val := Elt Ideal) (iblk m c 2 t) r0_5) (View.ld (Val := Elt Ideal) (iblk m c 0 t) r0_4) (View.ld (Val := Elt Ideal) (iblk m c 3 t) r0_6) hi hj).trans (stream_congr
    (fun k hk => (read_hi (b := 1024) (x := (iblk m c 3 t)) hi hk).trans (block3 m c t (by omega) hk))
    (fun k hk => (read_hi (b := 512) (x := (iblk m c 1 t)) hi hk).trans (block1 m c t (by omega) hk))
    (fun k hk => (read_hi (b := 512) (x := (iblk m c 2 t)) hi hk).trans (block2 m c t (by omega) hk))
    (fun k hk => (read_row (b := 512) (x := (iblk m c 4 t)) hk).trans (block4 m c t (i := 0) Nat.one_pos hk))
    (fun k hk => (read_row (b := 512) (x := (iblk m c 5 t)) hk).trans (block5 m c t (i := 0) Nat.one_pos hk))
    (fun k hk l hl => (read_weight (x := (iblk m c 0 t)) hk hl).trans (block0 m c t hk hl)) hj)

theorem last_hi (t : Fin cfg0.N) {i j : ℕ} (hi : i < 256) (hj : j < 1024) :
    at2 (a := 256) (b := 1024) (k0_pay3 (F := Ideal) (View.ld (Val := Elt Ideal) (iblk m c 6 t) r0_1) (View.ld (Val := Elt Ideal) (iblk m c 3 t) r0_6) (k0_pay11 (F := Ideal) (iblk m c 0 t) (iblk m c 1 t) (iblk m c 2 t) (iblk m c 3 t) (iblk m c 4 t) (iblk m c 5 t) (iblk m c 6 t))) i j = lastAt m c (512 * t.val + (256 + i)) j :=
  (Half.last_apply (View.ld (Val := Elt Ideal) (iblk m c 6 t) r0_1) (View.ld (Val := Elt Ideal) (iblk m c 3 t) r0_6) (k0_pay11 (F := Ideal) (iblk m c 0 t) (iblk m c 1 t) (iblk m c 2 t) (iblk m c 3 t) (iblk m c 4 t) (iblk m c 5 t) (iblk m c 6 t)) hi hj).trans (last_congr
    (fun k hk => stream_hi m c t hi hk)
    (fun k hk => (read_row (b := 1024) (x := (iblk m c 6 t)) hk).trans (block6 m c t (i := 0) Nat.one_pos hk)) hj)

theorem tile7 (t : Fin cfg0.N) (i : Fin 512) (j : Fin 1024) :
    (out0_7 (F := Ideal) (iblk m c 0 t) (iblk m c 1 t) (iblk m c 2 t) (iblk m c 3 t) (iblk m c 4 t) (iblk m c 5 t) (iblk m c 6 t) : S512x1024.Idx → EReal) (ix2 i j) = catAt m c (512 * t.val + i.val) j.val := by
  have hi := i.isLt
  have hj := j.isLt
  refine (ix2_at2 (a := 512) (b := 1024) (out0_7 (F := Ideal) (iblk m c 0 t) (iblk m c 1 t) (iblk m c 2 t) (iblk m c 3 t) (iblk m c 4 t) (iblk m c 5 t) (iblk m c 6 t)) i j).trans ?_
  unfold out0_7
  refine (two_bf16 _ _ hi hj).trans ?_
  by_cases h : 256 ≤ i.val
  · rw [if_pos h]
    refine (cat_hi m c t (by omega) hj).trans ?_
    rw [show 512 * t.val + (256 + (i.val - 256)) = 512 * t.val + i.val by omega]
  · rw [if_neg h]
    exact cat_lo m c t (by omega) hj

theorem final7 : (dats m 0 c).arrAt 7 cfg0.N = fun i : S8192x1024.Idx => catAt m c (i 0).val (i 1).val := by
  refine (dats m 0 c).arrAt_eq_of_covers 7 (fun i : S8192x1024.Idx => catAt m c (i 0).val (i 1).val) (by decide +kernel) fun t hf y => ?_
  obtain ⟨⟨e0, e1⟩, _⟩ := idx_out t
  have ht : t.val < 16 := t.isLt
  rw [after0_7]
  obtain ⟨i, j, rfl⟩ : ∃ (i : Fin 512) (j : Fin 1024), y = ix2 i j := ⟨y 0, y 1, eq_ix2 (n0 := 512) (n1 := 1024) y⟩
  have T := tile7 m c t i j
  revert T
  generalize out0_7 (F := Ideal) (iblk m c 0 t) (iblk m c 1 t) (iblk m c 2 t) (iblk m c 3 t) (iblk m c 4 t) (iblk m c 5 t) (iblk m c 6 t) = O
  intro T
  refine Eq.trans (congrArg O (show _ = ix2 i j from funext fun d => ?_)) ?_
  · match d with
    | ⟨0, _⟩ => rfl
    | ⟨1, _⟩ => rfl
  refine T.trans (congrArg₂ (catAt m c) ?_ ?_)
  · show 512 * t.val + i.val = win0_7.index t (0 : Fin 2) * 512 + 1 * i.val
    omega
  · show j.val = win0_7.index t (1 : Fin 2) * 1024 + 1 * j.val
    omega

theorem tile8 (t : Fin cfg0.N) (i : Fin 512) (j : Fin 1024) :
    (out0_8 (F := Ideal) (iblk m c 0 t) (iblk m c 1 t) (iblk m c 2 t) (iblk m c 3 t) (iblk m c 4 t) (iblk m c 5 t) (iblk m c 6 t) : S512x1024.Idx → EReal) (ix2 i j) = streamAt m c (512 * t.val + i.val) j.val := by
  have hi := i.isLt
  have hj := j.isLt
  refine (ix2_at2 (a := 512) (b := 1024) (out0_8 (F := Ideal) (iblk m c 0 t) (iblk m c 1 t) (iblk m c 2 t) (iblk m c 3 t) (iblk m c 4 t) (iblk m c 5 t) (iblk m c 6 t)) i j).trans ?_
  unfold out0_8
  refine (two_f32 _ _ hi hj).trans ?_
  by_cases h : 256 ≤ i.val
  · rw [if_pos h]
    refine (stream_hi m c t (by omega) hj).trans ?_
    rw [show 512 * t.val + (256 + (i.val - 256)) = 512 * t.val + i.val by omega]
  · rw [if_neg h]
    exact stream_lo m c t (by omega) hj

theorem final8 : (dats m 0 c).arrAt 8 cfg0.N = fun i : S8192x1024.Idx => streamAt m c (i 0).val (i 1).val := by
  refine (dats m 0 c).arrAt_eq_of_covers 8 (fun i : S8192x1024.Idx => streamAt m c (i 0).val (i 1).val) (by decide +kernel) fun t hf y => ?_
  obtain ⟨_, ⟨e0, e1⟩, _⟩ := idx_out t
  have ht : t.val < 16 := t.isLt
  rw [after0_8]
  obtain ⟨i, j, rfl⟩ : ∃ (i : Fin 512) (j : Fin 1024), y = ix2 i j := ⟨y 0, y 1, eq_ix2 (n0 := 512) (n1 := 1024) y⟩
  have T := tile8 m c t i j
  revert T
  generalize out0_8 (F := Ideal) (iblk m c 0 t) (iblk m c 1 t) (iblk m c 2 t) (iblk m c 3 t) (iblk m c 4 t) (iblk m c 5 t) (iblk m c 6 t) = O
  intro T
  refine Eq.trans (congrArg O (show _ = ix2 i j from funext fun d => ?_)) ?_
  · match d with
    | ⟨0, _⟩ => rfl
    | ⟨1, _⟩ => rfl
  refine T.trans (congrArg₂ (streamAt m c) ?_ ?_)
  · show 512 * t.val + i.val = win0_8.index t (0 : Fin 2) * 512 + 1 * i.val
    omega
  · show j.val = win0_8.index t (1 : Fin 2) * 1024 + 1 * j.val
    omega

theorem tile9 (t : Fin cfg0.N) (i : Fin 512) (j : Fin 1024) :
    (out0_9 (F := Ideal) (iblk m c 0 t) (iblk m c 1 t) (iblk m c 2 t) (iblk m c 3 t) (iblk m c 4 t) (iblk m c 5 t) (iblk m c 6 t) : S512x1024.Idx → EReal) (ix2 i j) = lastAt m c (512 * t.val + i.val) j.val := by
  have hi := i.isLt
  have hj := j.isLt
  refine (ix2_at2 (a := 512) (b := 1024) (out0_9 (F := Ideal) (iblk m c 0 t) (iblk m c 1 t) (iblk m c 2 t) (iblk m c 3 t) (iblk m c 4 t) (iblk m c 5 t) (iblk m c 6 t)) i j).trans ?_
  unfold out0_9
  refine (two_bf16 _ _ hi hj).trans ?_
  by_cases h : 256 ≤ i.val
  · rw [if_pos h]
    refine (last_hi m c t (by omega) hj).trans ?_
    rw [show 512 * t.val + (256 + (i.val - 256)) = 512 * t.val + i.val by omega]
  · rw [if_neg h]
    exact last_lo m c t (by omega) hj

theorem final9 : (dats m 0 c).arrAt 9 cfg0.N = fun i : S8192x1024.Idx => lastAt m c (i 0).val (i 1).val := by
  refine (dats m 0 c).arrAt_eq_of_covers 9 (fun i : S8192x1024.Idx => lastAt m c (i 0).val (i 1).val) (by decide +kernel) fun t hf y => ?_
  obtain ⟨_, _, ⟨e0, e1⟩⟩ := idx_out t
  have ht : t.val < 16 := t.isLt
  rw [after0_9]
  obtain ⟨i, j, rfl⟩ : ∃ (i : Fin 512) (j : Fin 1024), y = ix2 i j := ⟨y 0, y 1, eq_ix2 (n0 := 512) (n1 := 1024) y⟩
  have T := tile9 m c t i j
  revert T
  generalize out0_9 (F := Ideal) (iblk m c 0 t) (iblk m c 1 t) (iblk m c 2 t) (iblk m c 3 t) (iblk m c 4 t) (iblk m c 5 t) (iblk m c 6 t) = O
  intro T
  refine Eq.trans (congrArg O (show _ = ix2 i j from funext fun d => ?_)) ?_
  · match d with
    | ⟨0, _⟩ => rfl
    | ⟨1, _⟩ => rfl
  refine T.trans (congrArg₂ (lastAt m c) ?_ ?_)
  · show 512 * t.val + i.val = win0_9.index t (0 : Fin 2) * 512 + 1 * i.val
    omega
  · show j.val = win0_9.index t (1 : Fin 2) * 1024 + 1 * j.val
    omega

end Cert.OutNormKernelIdeal.Whole

end
-- ==== Proof.Ffn.OutNormPlain.lean ====
/-
  The norms and the output projection as the plain program writes them, read row by row.
-/
module

public import proofs.«01_k».proof.Proof.Ffn.OutNormWhole

@[expose] public section

noncomputable section

namespace Cert.OutNormReferenceIdeal.Plain

open Cert.OutNormReferenceIdeal Cert.OutNormReferenceIdeal.Gen Cert.OutNormReferenceIdeal.Read Idealize.ShloMosaic Idealize.ShloMosaic.ValueIdx
open Cert.KernelIdeal.Attn (at2 at2_pos ix2_at2 idx_at2 ofBits_zero)
open Cert.OutNormKernelIdeal.Whole (catOf streamOf lastOf)
open Cert.OutNormRow
open Cert.NormRow (meanSq inv)
open scoped BigOperators

variable (x0 : (⟨S1024x1024, .bf16⟩ : BufTy).Contents (Elt Ideal)) (x1 x2 : (⟨S8192x512, .f32⟩ : BufTy).Contents (Elt Ideal))
  (x3 : (⟨S8192x1024, .f32⟩ : BufTy).Contents (Elt Ideal)) (x4 x5 : (⟨S1x512, .f32⟩ : BufTy).Contents (Elt Ideal)) (x6 : (⟨S1x1024, .f32⟩ : BufTy).Contents (Elt Ideal))

theorem first_zero {s : Shape} (x : s.Idx → EReal) (h : ∀ i, x i = Ideal.ofBits .f32 0x00000000#32) (i : s.Idx) (y : EReal) : x i + y = y := by
  rw [h, ofBits_zero, zero_add]

theorem first_inv (i : S8192x1.Idx) : (val_main_v7 (F := Ideal) x1 i : EReal) = invW (at2 (a := 8192) (b := 512) x1 (i 0).val) := by
  have e : (val_main_v2 (F := Ideal) x1 i : EReal)
      = ∑ k ∈ Finset.range 512, at2 (a := 8192) (b := 512) x1 (i 0).val k * at2 (a := 8192) (b := 512) x1 (i 0).val k := by
    rw [val_main_v2_apply, val_main_v1_apply, Finset.sum_range]
    refine (first_zero (val_main_cst (F := Ideal)) (fun _ => rfl) _ _).trans (Finset.sum_congr rfl fun k _ => ?_)
    refine (val_main_v0_apply x1 _).trans ?_
    exact congrArg₂ (· * ·) (idx_at2 (a := 8192) (b := 512) x1 _) (idx_at2 (a := 8192) (b := 512) x1 _)
  unfold invW
  rw [← e]
  rfl

theorem first_eq (i : S8192x512.Idx) : (val_main_v11 (F := Ideal) x1 x4 i : EReal)
    = normed (at2 (a := 8192) (b := 512) x1 (i 0).val) (at2 (a := 1) (b := 512) x4 0) (i 1).val := by
  unfold normed
  refine (val_main_v11_apply x1 x4 i).trans ?_
  rw [val_main_v10_apply, val_main_v9_apply, val_main_v8_apply]
  exact congrArg₂ (fun p q : EReal => p * q) (congrArg₂ (fun p q : EReal => p * q) (idx_at2 (a := 8192) (b := 512) x1 i) (first_inv x1 _))
    (idx_at2 (a := 1) (b := 512) x4 _)

theorem second_inv (i : S8192x1.Idx) : (val_main_v19 (F := Ideal) x2 i : EReal) = invW (at2 (a := 8192) (b := 512) x2 (i 0).val) := by
  have e : (val_main_v14 (F := Ideal) x2 i : EReal)
      = ∑ k ∈ Finset.range 512, at2 (a := 8192) (b := 512) x2 (i 0).val k * at2 (a := 8192) (b := 512) x2 (i 0).val k := by
    rw [val_main_v14_apply, val_main_v13_apply, Finset.sum_range]
    refine (first_zero (val_main_cst_2 (F := Ideal)) (fun _ => rfl) _ _).trans (Finset.sum_congr rfl fun k _ => ?_)
    refine (val_main_v12_apply x2 _).trans ?_
    exact congrArg₂ (· * ·) (idx_at2 (a := 8192) (b := 512) x2 _) (idx_at2 (a := 8192) (b := 512) x2 _)
  unfold invW
  rw [← e]
  rfl

theorem second_eq (i : S8192x512.Idx) : (val_main_v23 (F := Ideal) x2 x5 i : EReal)
    = normed (at2 (a := 8192) (b := 512) x2 (i 0).val) (at2 (a := 1) (b := 512) x5 0) (i 1).val := by
  unfold normed
  refine (val_main_v23_apply x2 x5 i).trans ?_
  rw [val_main_v22_apply, val_main_v21_apply, val_main_v20_apply]
  exact congrArg₂ (fun p q : EReal => p * q) (congrArg₂ (fun p q : EReal => p * q) (idx_at2 (a := 8192) (b := 512) x2 i) (second_inv x2 _))
    (idx_at2 (a := 1) (b := 512) x5 _)

/-- Both mixers' rows. -/
theorem cat_eq (i : S8192x1024.Idx) : (val_main_v24 (F := Ideal) x1 x2 x4 x5 i : EReal) = catOf x1 x2 x4 x5 (i 0).val (i 1).val := by
  have h0 : (i 0).val < 8192 := (i 0).isLt
  have h1 : (i 1).val < 1024 := (i 1).isLt
  unfold val_main_v24 catOf cat
  by_cases h : (i 1).val < 512
  · rw [if_pos h]
    refine Eq.trans ?_ (first_eq x1 x4 (ix2 ⟨(i 0).val, h0⟩ ⟨(i 1).val, h⟩))
    refine concatenate_pair_apply_left (t := S8192x1024) (s₁ := S8192x512) (s₂ := S8192x512) 1 _ _ _ _ rfl _ fun b => ?_
    match b with
    | ⟨0, _⟩ => rfl
    | ⟨1, _⟩ => rfl
  · rw [if_neg h]
    refine Eq.trans ?_ (second_eq x2 x5 (ix2 ⟨(i 0).val, h0⟩ ⟨(i 1).val - 512, by omega⟩))
    refine concatenate_pair_apply_right (t := S8192x1024) (s₁ := S8192x512) (s₂ := S8192x512) 1 _ _ _ _ rfl rfl _ (fun b hb => ?_) ?_
    · match b, hb with
      | ⟨0, _⟩, _ => rfl
      | ⟨1, _⟩, hb => exact absurd rfl hb
    · show (i 1).val - 512 + 512 = (i 1).val
      omega

theorem cat_eq' (i : S8192x1024.Idx) : (val_main_v28 (F := Ideal) x1 x2 x4 x5 i : EReal) = catOf x1 x2 x4 x5 (i 0).val (i 1).val :=
  (val_main_v28_apply x1 x2 x4 x5 i).trans (cat_eq x1 x2 x4 x5 i)

/-- The residual stream. -/
theorem stream_eq (i : S8192x1024.Idx) : (val_main_v27 (F := Ideal) x0 x1 x2 x3 x4 x5 i : EReal) = streamOf x0 x1 x2 x3 x4 x5 (i 0).val (i 1).val := by
  have e : (val_main_v26 (F := Ideal) x0 x1 x2 x4 x5 i : EReal)
      = ∑ k ∈ Finset.range 1024, catOf x1 x2 x4 x5 (i 0).val k * at2 (a := 1024) (b := 1024) x0 k (i 1).val := by
    rw [val_main_v26_apply, Finset.sum_range]
    refine Finset.sum_congr rfl fun k _ => congrArg₂ (· * ·) ?_ ?_
    · exact cat_eq x1 x2 x4 x5 _
    · exact idx_at2 (a := 1024) (b := 1024) x0 _
  unfold streamOf stream
  refine (val_main_v27_apply x0 x1 x2 x3 x4 x5 i).trans ?_
  exact congrArg₂ (fun p q : EReal => p + q) (idx_at2 (a := 8192) (b := 1024) x3 i) e

theorem inv_eq (i : S8192x1.Idx) : (val_main_v36 (F := Ideal) x0 x1 x2 x3 x4 x5 i : EReal) = inv (streamOf x0 x1 x2 x3 x4 x5 (i 0).val) := by
  have e : (val_main_v31 (F := Ideal) x0 x1 x2 x3 x4 x5 i : EReal)
      = ∑ k ∈ Finset.range 1024, streamOf x0 x1 x2 x3 x4 x5 (i 0).val k * streamOf x0 x1 x2 x3 x4 x5 (i 0).val k := by
    rw [val_main_v31_apply, val_main_v30_apply, Finset.sum_range]
    refine (first_zero (val_main_cst_5 (F := Ideal)) (fun _ => rfl) _ _).trans (Finset.sum_congr rfl fun k _ => ?_)
    refine (val_main_v29_apply x0 x1 x2 x3 x4 x5 _).trans ?_
    exact congrArg₂ (· * ·) (stream_eq x0 x1 x2 x3 x4 x5 _) (stream_eq x0 x1 x2 x3 x4 x5 _)
  unfold Cert.NormRow.inv meanSq
  rw [← e]
  rfl

/-- The norm of the stream. -/
theorem last_eq (i : S8192x1024.Idx) : (val_main_v41 (F := Ideal) x0 x1 x2 x3 x4 x5 x6 i : EReal) = lastOf x0 x1 x2 x3 x4 x5 x6 (i 0).val (i 1).val := by
  unfold lastOf last
  refine (val_main_v41_apply x0 x1 x2 x3 x4 x5 x6 i).trans ?_
  show (val_main_v40 (F := Ideal) x0 x1 x2 x3 x4 x5 x6 i : EReal) = _
  refine (val_main_v40_apply x0 x1 x2 x3 x4 x5 x6 i).trans ?_
  rw [val_main_v39_apply, val_main_v38_apply, val_main_v37_apply]
  exact congrArg₂ (fun p q : EReal => p * q) (congrArg₂ (fun p q : EReal => p * q) (stream_eq x0 x1 x2 x3 x4 x5 i) (inv_eq x0 x1 x2 x3 x4 x5 _))
    (idx_at2 (a := 1) (b := 1024) x6 _)

end Cert.OutNormReferenceIdeal.Plain

end
-- ==== Proof.Ffn.OutNormClaims.lean ====
/-
  The claims of the norms and the output projection.
-/
module

public import proofs.«01_k».proof.Defs
public import proofs.«01_k».proof.Proof.Gen.OutNormKernel
public import proofs.«01_k».proof.Proof.Gen.OutNormKernelIdeal
public import proofs.«01_k».proof.Proof.Gen.OutNormReferenceIdeal
public import proofs.«01_k».proof.Proof.Gen.OutNormReferenceIdeal.Run
public import proofs.«01_k».proof.Proof.Ffn.OutNormPlain
public import Idealize.ShloMosaic.Lib.Quiescent
public import Idealize.ShloMosaic.Adequacy
public import Idealize.ShloMosaic.Init

@[expose] public section

noncomputable section

namespace Cert.OutNormClaims

open Idealize.ShloMosaic Idealize.SL.Sem
open Idealize.ShloMosaic.TcCoe
open Cert.OutNormKernelIdeal (cfg0 nD τ sig main_arg0 main_arg1 main_arg2 main_arg3 main_arg4 main_arg5 main_arg6)
open Cert.OutNormKernelIdeal.Gen Cert.OutNormKernelIdeal.Value

attribute [local instance] Cert.OutNormKernel.Gen.facts Cert.OutNormKernelIdeal.Gen.facts Cert.OutNormReferenceIdeal.Gen.facts

/-- The plain program has no semaphores; its run leaves its arguments as they were. -/
theorem frame_reference : Cert.quiescent_OutNormReferenceIdeal := fun m g _ =>
  (θ_run _ _ _).monotone (fun r h => ⟨fun c => (h c).2.2.2, sem_eq_zero_of_no_sems (by decide) r.2⟩) (Cert.OutNormReferenceIdeal.Value.run m g)

variable (m : (ℓ : Loc nD τ sig) → Buf (Elt Ideal) ℓ) (c : Dev nD)

theorem rows :
    Cert.OutNormReferenceIdeal.Read.val_main_v28 (F := Ideal) (m ((c : Thread nD τ).loc main_arg1)) (m ((c : Thread nD τ).loc main_arg2)) (m ((c : Thread nD τ).loc main_arg4)) (m ((c : Thread nD τ).loc main_arg5)) = (dats m 0 c).arrAt 7 cfg0.N := by
  rw [Cert.OutNormKernelIdeal.Whole.final7]
  funext i
  exact Cert.OutNormReferenceIdeal.Plain.cat_eq' _ _ _ _ i

theorem stream :
    Cert.OutNormReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 8 cfg0.N := by
  rw [Cert.OutNormKernelIdeal.Whole.final8]
  funext i
  exact Cert.OutNormReferenceIdeal.Plain.stream_eq _ _ _ _ _ _ i

theorem norm :
    Cert.OutNormReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = (dats m 0 c).arrAt 9 cfg0.N := by
  rw [Cert.OutNormKernelIdeal.Whole.final9]
  funext i
  exact Cert.OutNormReferenceIdeal.Plain.last_eq _ _ _ _ _ _ _ i

theorem value : Cert.algebraic_OutNormKernelIdeal_OutNormReferenceIdeal := by
  intro m g m' g' _ ha
  refine ⟨fun c => (dats m 0 c).arrAt 7 cfg0.N, fun c => (dats m 0 c).arrAt 8 cfg0.N, fun c => (dats m 0 c).arrAt 9 cfg0.N, run_blocks m g, ?_⟩
  refine (θ_run _ _ _).monotone (fun r h c => ?_) (Cert.OutNormReferenceIdeal.Value.run m' g')
  obtain ⟨a0, a1, a2, a3, a4, a5, a6⟩ := ha c
  obtain ⟨h0, h1, h2, h3⟩ := h c
  rw [Cert.OutNormReferenceIdeal.Read.val_main_v28_eq, a1, a2, a4, a5] at h0
  rw [Cert.OutNormReferenceIdeal.Read.val_main_v27_eq, a0, a1, a2, a3, a4, a5] at h1
  rw [Cert.OutNormReferenceIdeal.Read.val_main_v41_eq, a0, a1, a2, a3, a4, a5, a6] at h2
  exact ⟨h0.trans (rows m c), h1.trans (stream m c), h2.trans (norm m c), h3⟩

end Cert.OutNormClaims

end
-- ==== Proof.Ffn.OutBackRow.lean ====
/-
  The gradient through a mixer's norm, one row of 512 entries. The kernel takes the row's mean of the scaled cotangent times the normed row;
  the plain gradient goes through the mean square. A row twice over is a row of 1024 entries with the same means, so the two agree here because
  they agree there.
-/
module

public import proofs.«01_k».proof.Proof.Ffn.OutNorm

@[expose] public section

noncomputable section

namespace Cert.OutBackRow

open Idealize.ShloMosaic
open Cert.Row (IsReal isReal_coe coe_sum)
open Cert.NormRow (len eps half len_eq eps_pos kernelRow plainRow twice)
open Cert.OutNormRow
open scoped BigOperators

/-- The mean square, the kernel's gradient and the plain one. -/
def meanW (x : ℕ → EReal) : EReal := Ideal.div (∑ k ∈ Finset.range 512, x k * x k) wide + eps
def back (x a g : ℕ → EReal) (j : ℕ) : EReal :=
  invW x * (a j * g j - x j * invW x * Ideal.div (∑ k ∈ Finset.range 512, a k * g k * (x k * invW x)) wide)
def bySqW (x a g : ℕ → EReal) : EReal := Ideal.div ((∑ k ∈ Finset.range 512, x k * (a k * g k)) * (half * Ideal.div (invW x) (meanW x))) wide
def plainBack (x a g : ℕ → EReal) (j : ℕ) : EReal := a j * g j * invW x + x j * bySqW x a g + bySqW x a g * x j

theorem back_congr {x a g x' a' g' : ℕ → EReal} (hx : ∀ k < 512, x k = x' k) (ha : ∀ k < 512, a k = a' k) (hg : ∀ k < 512, g k = g' k)
    {j : ℕ} (hj : j < 512) : back x a g j = back x' a' g' j := by
  have e : ∑ k ∈ Finset.range 512, a k * g k * (x k * invW x) = ∑ k ∈ Finset.range 512, a' k * g' k * (x' k * invW x') :=
    Finset.sum_congr rfl fun k hk => by
      have hk := Finset.mem_range.mp hk
      rw [hx k hk, ha k hk, hg k hk, invW_congr hx]
  unfold back
  rw [e, invW_congr hx, hx j hj, ha j hj, hg j hj]

theorem wide_eq : wide = ((512 : ℝ) : EReal) := by
  simp [wide, Ideal.ofBits, Ideal.ieee]
  rw [← EReal.coe_mul]
  norm_num

/-- A row twice over. -/
def dup (f : ℕ → EReal) (k : ℕ) : EReal := f (k % 512)

theorem dup_lt (f : ℕ → EReal) {k : ℕ} (hk : k < 512) : dup f k = f k := congrArg f (Nat.mod_eq_of_lt hk)

theorem sum_dup (f : ℕ → EReal) : ∑ k ∈ Finset.range 1024, dup f k = ((2 : ℝ) : EReal) * ∑ k ∈ Finset.range 512, f k := by
  rw [show (1024 : ℕ) = 512 + 512 from rfl, Finset.sum_range_add]
  have e1 : ∑ k ∈ Finset.range 512, dup f k = ∑ k ∈ Finset.range 512, f k := Finset.sum_congr rfl fun k hk => dup_lt f (Finset.mem_range.mp hk)
  have e2 : ∑ k ∈ Finset.range 512, dup f (512 + k) = ∑ k ∈ Finset.range 512, f k :=
    Finset.sum_congr rfl fun k hk => congrArg f (by have := Finset.mem_range.mp hk; omega)
  rw [e1, e2]
  have h := twice 1 (∑ k ∈ Finset.range 512, f k)
  rwa [EReal.coe_one, one_mul, mul_one] at h

theorem div_dup (s : EReal) : Ideal.div (((2 : ℝ) : EReal) * s) len = Ideal.div s wide := by
  rw [len_eq, wide_eq, Ideal.div_coe (by norm_num), Ideal.div_coe (by norm_num), mul_comm ((2 : ℝ) : EReal) s, mul_assoc, ← EReal.coe_mul]
  exact congrArg (fun r : ℝ => s * (r : EReal)) (by norm_num)

theorem meanSq_dup (x : ℕ → EReal) : Cert.NormRow.meanSq (dup x) = meanW x := by
  unfold Cert.NormRow.meanSq meanW
  rw [← div_dup, ← sum_dup]
  rfl

theorem inv_dup (x : ℕ → EReal) : Cert.NormRow.inv (dup x) = invW x := congrArg Ideal.rsqrt (meanSq_dup x)

/-- The kernel's gradient of a row is the plain one. -/
theorem back_eq (x a g : ℕ → EReal) {j : ℕ} (hj : j < 512) : back x a g j = plainBack x a g j := by
  have h := Cert.NormRow.row (dup x) (fun _ => 0) (dup a) (dup g) (j := j) (by omega)
  unfold kernelRow plainRow Cert.NormRow.bySq at h
  have e1 : ∑ k ∈ Finset.range 1024, dup a k * dup g k * (dup x k * invW x) = ((2 : ℝ) : EReal) * ∑ k ∈ Finset.range 512, a k * g k * (x k * invW x) :=
    sum_dup fun k => a k * g k * (x k * invW x)
  have e2 : ∑ k ∈ Finset.range 1024, dup x k * (dup a k * dup g k) = ((2 : ℝ) : EReal) * ∑ k ∈ Finset.range 512, x k * (a k * g k) :=
    sum_dup fun k => x k * (a k * g k)
  rw [inv_dup, meanSq_dup, dup_lt x hj, dup_lt a hj, dup_lt g hj, e1, e2, div_dup, mul_assoc ((2 : ℝ) : EReal), div_dup, add_zero, zero_add] at h
  exact h

/-- Of numbers, every entry of the gradient is a number. -/
theorem back_real {x a g : ℕ → EReal} (hx : ∀ k, IsReal (x k)) (ha : ∀ k, IsReal (a k)) (hg : ∀ k, IsReal (g k)) (j : ℕ) : IsReal (back x a g j) := by
  obtain ⟨e, he, hE⟩ := eps_pos
  have hi : IsReal (invW x) := by
    have hS : 0 ≤ ∑ k ∈ Finset.range 512, (x k).toReal * (x k).toReal := Finset.sum_nonneg fun k _ => mul_self_nonneg _
    have hm : Ideal.div (∑ k ∈ Finset.range 512, x k * x k) wide + eps = (((∑ k ∈ Finset.range 512, (x k).toReal * (x k).toReal) * (1 / 512) + e : ℝ) : EReal) := by
      rw [hE, wide_eq, Finset.sum_congr rfl fun k _ => show x k * x k = (((x k).toReal * (x k).toReal : ℝ) : EReal) by rw [EReal.coe_mul, hx k],
        coe_sum, Ideal.div_coe (by norm_num), ← EReal.coe_mul, ← EReal.coe_add]
    unfold invW
    rw [hm]
    have hv0 : 0 < (∑ k ∈ Finset.range 512, (x k).toReal * (x k).toReal) * (1 / 512) + e := by positivity
    generalize (∑ k ∈ Finset.range 512, (x k).toReal * (x k).toReal) * (1 / 512) + e = v at hv0
    show IsReal (if v < 0 then (⊥ : EReal) else if v = 0 then ⊤ else (((Real.sqrt v)⁻¹ : ℝ) : EReal))
    rw [if_neg (not_lt.mpr hv0.le), if_neg hv0.ne']
    exact isReal_coe _
  have hq : IsReal (Ideal.div (∑ k ∈ Finset.range 512, a k * g k * (x k * invW x)) wide) := by
    have h := IsReal.sum (n := 512) fun k _ => ((ha k).mul (hg k)).mul ((hx k).mul hi)
    rw [wide_eq, Ideal.div_coe (by norm_num)]
    exact h.mul (isReal_coe _)
  unfold back
  have hp := (ha j).mul (hg j)
  have hs := ((hx j).mul hi).mul hq
  refine hi.mul ?_
  rw [← hp, ← hs, ← EReal.coe_sub]
  exact isReal_coe _

/-- The entries of one head among the 512. -/
theorem sum_head (f : ℕ → EReal) {h : ℕ} (hh : h < 8) :
    ∑ k ∈ Finset.range 512, f k * (if k / 64 = h then 1 else 0) = ∑ d ∈ Finset.range 64, f (64 * h + d) := by
  have e : (512 : ℕ) = 64 * h + (64 + (448 - 64 * h)) := by omega
  have z1 : ∑ k ∈ Finset.range (64 * h), f k * (if k / 64 = h then (1 : EReal) else 0) = 0 := Finset.sum_eq_zero fun k hk => by
    have := Finset.mem_range.mp hk
    rw [if_neg (by omega), mul_zero]
  have z2 : ∑ k ∈ Finset.range (448 - 64 * h), f (64 * h + (64 + k)) * (if (64 * h + (64 + k)) / 64 = h then (1 : EReal) else 0) = 0 :=
    Finset.sum_eq_zero fun k hk => by rw [if_neg (by omega), mul_zero]
  rw [e, Finset.sum_range_add, Finset.sum_range_add, z1, z2, zero_add, add_zero]
  exact Finset.sum_congr rfl fun k hk => by
    have := Finset.mem_range.mp hk
    rw [if_pos (by omega), mul_one]

end Cert.OutBackRow

end
-- ==== Proof.Ffn.OutBackHalf.lean ====
/-
  The gradient through the output projection and the mixers' norms, one half of a tile: for 256 rows the kernel carries the cotangent back
  through the projection's weights, cuts it into the two mixers' halves, takes each row's gradient, each head's sum of the gradient times the
  mixer's output, and the sum over the rows that a norm's weight gains.
-/
module

public import proofs.«01_k».proof.Proof.Ffn.OutBackRow
public import proofs.«01_k».proof.Proof.Gen.OutBackKernelIdeal.Value

@[expose] public section

noncomputable section

namespace Cert.OutBackKernelIdeal.Half

open Cert.OutBackKernelIdeal Cert.OutBackKernelIdeal.Gen Idealize.ShloMosaic Idealize.ShloMosaic.TcCoe Idealize.ShloMosaic.ValueIdx
open Cert.KernelIdeal.Attn (at2 at2_pos at2_plain at2_nt ix2_at2)
open Cert.OutNormKernelIdeal.Half (at2_mulf invs invs_apply)
open Cert.Row (IsReal)
open Cert.OutNormRow Cert.OutBackRow Cert.Rows
open scoped BigOperators

/-- The cotangent of both mixers' normed rows, and its two halves. -/
def prod (y : Vec Ideal S256x1024 .bf16) (w : Vec Ideal S1024x1024 .bf16) : FVec Ideal S256x1024 .f32 := k0_pay5 (F := Ideal) y w
def cutL (d : FVec Ideal S256x1024 .f32) : FVec Ideal S256x512 .f32 := extractStridedSlice S256x512 ![0, 0] d slices_S256x1024_o0_0_S256x512
def cutR (d : FVec Ideal S256x1024 .f32) : FVec Ideal S256x512 .f32 := extractStridedSlice S256x512 ![0, 512] d slices_S256x1024_o0_512_S256x512

variable (g : Vec Ideal S1x512 .f32) (x : Vec Ideal S256x512 .f32) (a : FVec Ideal S256x512 .f32)

/-- The normed rows, the scaled cotangent, its means, the rows' gradient, the sum over the rows. -/
def unit : FVec Ideal S256x512 .f32 := mulf x (broadcastTo S256x512 (invs x) broadcasts_S256x1_S256x512)
def scaled : FVec Ideal S256x512 .f32 := mulf a (broadcastTo S256x512 g broadcasts_S1x512_S256x512)
def sums : FVec Ideal S256x1 .f32 :=
  shapeCast S256x1 (multiReduction (F := Ideal) .add [1] S256 (mulf (scaled g a) (unit x)) 0x00000000#32 reduces_S256x512_S256 (.inl rfl) rfl) shapeCasts_S256_S256x1
def dRow : FVec Ideal S256x512 .f32 :=
  mulf (broadcastTo S256x512 (invs x) broadcasts_S256x1_S256x512) (subf (scaled g a)
    (mulf (unit x) (broadcastTo S256x512 (divf (sums g x a) (broadcast S256x1 (Scalar.ofBits (F := Ideal) .f32 0x44000000#32))) broadcasts_S256x1_S256x512)))
def gRow : FVec Ideal S1x512 .f32 :=
  shapeCast S1x512 (multiReduction (F := Ideal) .add [0] S512 (mulf a (unit x)) 0x00000000#32 reduces_S256x512_S512 (.inl rfl) rfl) shapeCasts_S512_S1x512
def gains (acc : Vec Ideal S1x512 .f32) : FVec Ideal S1x512 .f32 := k0_pay29 (F := Ideal) (gRow x a) acc
/-- The heads' sums of a product, the product taken in three parts. -/
def heads (p : FVec Ideal S256x512 .f32) : FVec Ideal S256x8 .f32 :=
  k0_pay25 (F := Ideal) (k0_pay7 (F := Ideal)) (truncf .bf16 p bitsLt_bf16_f32) (subf p p) (truncf .bf16 (subf p p) bitsLt_bf16_f32) (subf p p)

theorem prod_apply (y : Vec Ideal S256x1024 .bf16) (w : Vec Ideal S1024x1024 .bf16) {i j : ℕ} (hi : i < 256) (hj : j < 1024) :
    at2 (a := 256) (b := 1024) (prod y w) i j = ∑ k ∈ Finset.range 1024, at2 (a := 256) (b := 1024) y i k * at2 (a := 1024) (b := 1024) w j k :=
  at2_nt (M := 256) (K := 1024) (N := 1024) y w hi hj

theorem cutL_apply (d : FVec Ideal S256x1024 .f32) {i j : ℕ} (hi : i < 256) (hj : j < 512) :
    at2 (a := 256) (b := 512) (cutL d) i j = at2 (a := 256) (b := 1024) d i j := by
  rw [at2_pos _ hi hj, at2_pos _ hi (show j < 1024 by omega)]
  refine extractStridedSlice_apply _ _ _ _ _ fun b => ?_
  match b with
  | ⟨0, _⟩ => exact (Nat.zero_add _).symm
  | ⟨1, _⟩ => exact (Nat.zero_add _).symm

theorem cutR_apply (d : FVec Ideal S256x1024 .f32) {i j : ℕ} (hi : i < 256) (hj : j < 512) :
    at2 (a := 256) (b := 512) (cutR d) i j = at2 (a := 256) (b := 1024) d i (512 + j) := by
  rw [at2_pos _ hi hj, at2_pos _ hi (show 512 + j < 1024 by omega)]
  refine extractStridedSlice_apply _ _ _ _ _ fun b => ?_
  match b with
  | ⟨0, _⟩ => exact (Nat.zero_add _).symm
  | ⟨1, _⟩ => rfl

theorem unit_apply (i : Fin 256) (j : Fin 512) : (unit x : S256x512.Idx → EReal) (ix2 i j)
    = at2 (a := 256) (b := 512) x i.val j.val * invW (at2 (a := 256) (b := 512) x i.val) := by
  rw [← invs_apply, ← ix2_at2 (a := 256) (b := 512) x i j]
  exact congrArg (fun s : EReal => (x (ix2 i j) : EReal) * s) (across (a := 256) (b := 512) (invs x) _ i j)

theorem scaled_apply (i : Fin 256) (j : Fin 512) : (scaled g a : S256x512.Idx → EReal) (ix2 i j)
    = at2 (a := 256) (b := 512) a i.val j.val * at2 (a := 1) (b := 512) g 0 j.val := by
  rw [← ix2_at2 (a := 256) (b := 512) a i j]
  exact congrArg (fun s : EReal => (a (ix2 i j) : EReal) * s)
    ((broadcastTo_1b_ab_apply (a := 256) (b := 512) g _ i j).trans (ix2_at2 (a := 1) (b := 512) g 0 j))

theorem sums_apply (i : Fin 256) : (sums g x a : S256x1.Idx → EReal) (ix2 i (0 : Fin 1))
    = ∑ k ∈ Finset.range 512, at2 (a := 256) (b := 512) a i.val k * at2 (a := 1) (b := 512) g 0 k
        * (at2 (a := 256) (b := 512) x i.val k * invW (at2 (a := 256) (b := 512) x i.val)) := by
  refine (row_sum (a := 256) (b := 512) _ _ _ i 0).trans (Finset.sum_congr rfl fun k hk => ?_)
  have hk := Finset.mem_range.mp hk
  rw [at2_mulf, at2_pos (a := 256) (b := 512) (scaled g a) i.isLt hk, at2_pos (a := 256) (b := 512) (unit x) i.isLt hk]
  exact congrArg₂ (fun p q : EReal => p * q) (scaled_apply g a i ⟨k, hk⟩) (unit_apply x i ⟨k, hk⟩)

theorem dRow_apply (i : Fin 256) (j : Fin 512) : (dRow g x a : S256x512.Idx → EReal) (ix2 i j)
    = back (at2 (a := 256) (b := 512) x i.val) (at2 (a := 256) (b := 512) a i.val) (at2 (a := 1) (b := 512) g 0) j.val := by
  unfold back
  rw [← sums_apply, ← unit_apply, ← scaled_apply, ← invs_apply]
  exact congrArg₂ (fun p q : EReal => p * ((scaled g a : S256x512.Idx → EReal) (ix2 i j) - (unit x : S256x512.Idx → EReal) (ix2 i j) * q))
    (across (a := 256) (b := 512) (invs x) broadcasts_S256x1_S256x512 i j)
    (across (a := 256) (b := 512) (divf (sums g x a) (broadcast S256x1 (Scalar.ofBits (F := Ideal) .f32 0x44000000#32))) broadcasts_S256x1_S256x512 i j)

theorem gains_apply (acc : Vec Ideal S1x512 .f32) (j : Fin 512) : (gains x a acc : S1x512.Idx → EReal) (ix2 (0 : Fin 1) j)
    = acc (ix2 (0 : Fin 1) j) + ∑ k ∈ Finset.range 256, at2 (a := 256) (b := 512) a k j.val
        * (at2 (a := 256) (b := 512) x k j.val * invW (at2 (a := 256) (b := 512) x k)) := by
  have e : shapeCast S1x512 acc shapeCasts_S1x512_S1x512 = acc := shapeCast_self _ _
  have h : (gRow x a : S1x512.Idx → EReal) (ix2 (0 : Fin 1) j) = ∑ k ∈ Finset.range 256, at2 (a := 256) (b := 512) a k j.val
        * (at2 (a := 256) (b := 512) x k j.val * invW (at2 (a := 256) (b := 512) x k)) := by
    refine (col_sum (a := 256) (b := 512) _ _ _ 0 j).trans (Finset.sum_congr rfl fun k hk => ?_)
    have hk := Finset.mem_range.mp hk
    rw [at2_mulf, at2_pos (a := 256) (b := 512) (unit x) hk j.isLt]
    exact congrArg (at2 (a := 256) (b := 512) a k j.val * ·) (unit_apply x ⟨k, hk⟩ j)
  exact congrArg₂ (fun (y : S1x512.Idx → EReal) (s : EReal) => y (ix2 (0 : Fin 1) j) + s) e h

/-- Whether a column belongs to a head. -/
theorem member : ∀ (k : Fin 512) (h : Fin 8), (IntOp.cmpi .eq (IntOp.shrui .vector (BitVec.ofNat 32 k.val) 6#32) (BitVec.ofNat 32 h.val)).setWidth 32
    = if k.val / 64 = h.val then 1#32 else 0#32 := by decide +kernel

theorem sel_apply (k : Fin 512) (h : Fin 8) : (k0_pay7 (F := Ideal) : S512x8.Idx → EReal) (ix2 k h) = if k.val / 64 = h.val then 1 else 0 := by
  have e : (k0_pay7 (F := Ideal) : S512x8.Idx → EReal) (ix2 k h) = ((((IntOp.cmpi .eq (IntOp.shrui .vector (iota .tc S512x8 32 [0] iota_S512x8_d0_w32 (ix2 k h)) 6#32)
      (iota .tc S512x8 32 [1] iota_S512x8_d1_w32 (ix2 k h))).setWidth 32).toInt : ℝ) : EReal) := rfl
  rw [e, iota_single_apply, iota_single_apply]
  refine (congrArg (fun b : BitVec 32 => ((b.toInt : ℝ) : EReal)) (member k h)).trans ?_
  split <;> simp

theorem heads_apply (p : FVec Ideal S256x512 .f32) (hp : ∀ i j, IsReal (at2 (a := 256) (b := 512) p i j)) {i h : ℕ} (hi : i < 256) (hh : h < 8) :
    at2 (a := 256) (b := 8) (heads p) i h = ∑ d ∈ Finset.range 64, at2 (a := 256) (b := 512) p i (64 * h + d) := by
  have z : (subf p p : S256x512.Idx → EReal) = fun _ => 0 := by
    funext y
    obtain ⟨r, s, rfl⟩ : ∃ (r : Fin 256) (s : Fin 512), y = ix2 r s := ⟨y 0, y 1, eq_ix2 (n0 := 256) (n1 := 512) y⟩
    have hr := hp r.val s.val
    rw [← ix2_at2 (a := 256) (b := 512) p r s] at hr
    show (p (ix2 r s) : EReal) - p (ix2 r s) = 0
    rw [← hr, ← EReal.coe_sub, sub_self, EReal.coe_zero]
  have z' : (subf (subf p p) (subf p p) : S256x512.Idx → EReal) = fun _ => 0 := by
    funext y
    show (subf p p : S256x512.Idx → EReal) y - (subf p p : S256x512.Idx → EReal) y = 0
    rw [z]
    exact sub_zero 0
  have m (q : S256x512.Idx → EReal) := at2_plain (M := 256) (K := 512) (N := 8) (φ₁ := .bf16) q (k0_pay7 (F := Ideal)) hi hh
  have m0 (q : S256x512.Idx → EReal) (hq : q = fun _ => 0) := (m q).trans (Finset.sum_eq_zero fun k hk => by
    rw [hq, at2_pos (a := 256) (b := 512) (fun _ => (0 : EReal)) hi (Finset.mem_range.mp hk), zero_mul])
  have m1 := (m p).trans (Finset.sum_congr (g := fun k => at2 (a := 256) (b := 512) p i k * (if k / 64 = h then 1 else 0)) rfl fun k hk => by
    have hk := Finset.mem_range.mp hk
    rw [at2_pos (a := 512) (b := 8) (k0_pay7 (F := Ideal)) hk hh, sel_apply ⟨k, hk⟩ ⟨h, hh⟩])
  have m2 := m0 _ z
  have m3 := m0 _ z'
  rw [at2_pos _ hi hh] at m1 m2 m3
  rw [at2_pos _ hi hh, ← sum_head (at2 (a := 256) (b := 512) p i) hh, ← m1]
  refine (congrArg₂ (fun s t : EReal => s + t + _) m3 m2).trans ?_
  rw [zero_add, zero_add]
  rfl

end Cert.OutBackKernelIdeal.Half

end
-- ==== Proof.Ffn.OutBack.lean ====
/-
  The gradient through the output projection and the mixers' norms: what one grid point leaves. Each tile of 512 rows is done in two halves; the
  gradients of the norms' weights start at zero at the first point and gain both halves' sums at every point.
-/
module

public import proofs.«01_k».proof.Proof.Ffn.OutBackHalf

@[expose] public section

noncomputable section

namespace Cert.OutBackKernelIdeal.Tile

open Cert.OutBackKernelIdeal Cert.OutBackKernelIdeal.Gen Idealize.ShloMosaic Idealize.ShloMosaic.TcCoe Idealize.ShloMosaic.ValueIdx
open Cert.KernelIdeal.Attn (box)
open Cert.OutBackKernelIdeal.Half

variable (c : Dev nD) (i : grid0.Coords)
  (arg1 : Memref sig .tc .vmem S512x1024 .bf16) (harg1 : arg1.IsWhole)
  (arg2 : Memref sig .tc .vmem S1024x1024 .bf16) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x8 .f32) (harg9 : arg9.IsWhole)
  (arg10 : Memref sig .tc .vmem S512x8 .f32) (harg10 : arg10.IsWhole)
  (arg11 : Memref sig .tc .vmem S1x512 .f32) (harg11 : arg11.IsWhole)
  (arg12 : Memref sig .tc .vmem S1x512 .f32) (harg12 : arg12.IsWhole)
  (x0 : Vec Ideal S512x1024 .bf16) (x1 : Vec Ideal S1024x1024 .bf16) (x2 : Vec Ideal S512x512 .f32) (x3 : Vec Ideal S512x512 .f32) (x4 : Vec Ideal S1x512 .f32) (x5 : Vec Ideal S1x512 .f32) (xo10 xo11 : Vec Ideal S1x512 .f32)

/-- A read of the whole of a block. -/
theorem read_whole {a b : ℕ} {e : EltTy} (X : Vec Ideal ⟨2, ![a, b]⟩ e) (v : Memref sig .tc .vmem ⟨2, ![a, b]⟩ e) (hv : v.IsWhole) :
    View.readAt (Elt Ideal) v.view (box 0 a 0 b (by omega) (by omega)).toLoadRect (hv.unread X) = X := by
  funext x
  show v.view.read (Elt Ideal) (hv.unread X) _ = _
  rw [hv.read_unread]
  refine congrArg X (funext fun d => Fin.ext ?_)
  match d with
  | ⟨0, _⟩ => exact (Nat.zero_add _).trans (Nat.one_mul _)
  | ⟨1, _⟩ => exact (Nat.zero_add _).trans (Nat.one_mul _)

/-- The two halves of a block. -/
def lo {b : ℕ} {e : EltTy} (x : Vec Ideal ⟨2, ![512, b]⟩ e) : Vec Ideal ⟨2, ![256, b]⟩ e := fun y => x ((box 0 256 0 b (by omega) (by omega)).toLoadRect.idx y)
def hi {b : ℕ} {e : EltTy} (x : Vec Ideal ⟨2, ![512, b]⟩ e) : Vec Ideal ⟨2, ![256, b]⟩ e := fun y => x ((box 256 256 0 b (by omega) (by omega)).toLoadRect.idx y)

theorem read_lo {b : ℕ} {e : EltTy} (X : Vec Ideal ⟨2, ![512, b]⟩ e) (v : Memref sig .tc .vmem ⟨2, ![512, b]⟩ e) (hv : v.IsWhole) :
    View.readAt (Elt Ideal) v.view (box 0 256 0 b (by omega) (by omega)).toLoadRect (hv.unread X) = lo X := by
  funext x
  show v.view.read (Elt Ideal) (hv.unread X) _ = _
  rw [hv.read_unread]
  rfl

theorem read_hi {b : ℕ} {e : EltTy} (X : Vec Ideal ⟨2, ![512, b]⟩ e) (v : Memref sig .tc .vmem ⟨2, ![512, b]⟩ e) (hv : v.IsWhole) :
    View.readAt (Elt Ideal) v.view (box 256 256 0 b (by omega) (by omega)).toLoadRect (hv.unread X) = hi X := by
  funext x
  show v.view.read (Elt Ideal) (hv.unread X) _ = _
  rw [hv.read_unread]
  rfl

/-- The pieces of the four arrays a point writes in halves. -/
def both6 : List (View.Piece (Elt Ideal) S512x512 .bf16) :=
  [⟨box 256 256 0 512 (by omega) (by omega), dRow x4 (hi x2) (cutL (prod (hi x0) x1))⟩,
    ⟨box 0 256 0 512 (by omega) (by omega), dRow x4 (lo x2) (cutL (prod (lo x0) x1))⟩]
def both7 : List (View.Piece (Elt Ideal) S512x512 .bf16) :=
  [⟨box 256 256 0 512 (by omega) (by omega), dRow x5 (hi x3) (cutR (prod (hi x0) x1))⟩,
    ⟨box 0 256 0 512 (by omega) (by omega), dRow x5 (lo x3) (cutR (prod (lo x0) x1))⟩]
def both8 : List (View.Piece (Elt Ideal) S512x8 .f32) :=
  [⟨box 256 256 0 8 (by omega) (by omega), heads (mulf (F := Ideal) (dRow x4 (hi x2) (cutL (prod (hi x0) x1))) (hi x2))⟩,
    ⟨box 0 256 0 8 (by omega) (by omega), heads (mulf (F := Ideal) (dRow x4 (lo x2) (cutL (prod (lo x0) x1))) (lo x2))⟩]
def both9 : List (View.Piece (Elt Ideal) S512x8 .f32) :=
  [⟨box 256 256 0 8 (by omega) (by omega), heads (mulf (F := Ideal) (dRow x5 (hi x3) (cutR (prod (hi x0) x1))) (hi x3))⟩,
    ⟨box 0 256 0 8 (by omega) (by omega), heads (mulf (F := Ideal) (dRow x5 (lo x3) (cutR (prod (lo x0) x1))) (lo x3))⟩]

/-- The gain of the two weights' gradients. -/
def gain10 (acc : Vec Ideal S1x512 .f32) : FVec Ideal S1x512 .f32 := gains (hi x2) (cutL (prod (hi x0) x1)) (gains (lo x2) (cutL (prod (lo x0) x1)) acc)
def gain11 (acc : Vec Ideal S1x512 .f32) : FVec Ideal S1x512 .f32 := gains (hi x3) (cutR (prod (hi x0) x1)) (gains (lo x3) (cutR (prod (lo x0) x1)) acc)

/-- The pieces in the arrays as the body reads them. -/
def reads6 : List (View.Piece (Elt Ideal) S512x512 .bf16) :=
  [⟨box 256 256 0 512 (by omega) (by omega), dRow (View.readAt (Elt Ideal) arg5.view (box 0 1 0 512 (by omega) (by omega)).toLoadRect (harg5.unread x4)) (View.readAt (Elt Ideal) arg3.view (box 256 256 0 512 (by omega) (by omega)).toLoadRect (harg3.unread x2)) (cutL (prod (View.readAt (Elt Ideal) arg1.view (box 256 256 0 1024 (by omega) (by omega)).toLoadRect (harg1.unread x0)) (View.readAt (Elt Ideal) arg2.view (box 0 1024 0 1024 (by omega) (by omega)).toLoadRect (harg2.unread x1))))⟩,
      ⟨box 0 256 0 512 (by omega) (by omega), dRow (View.readAt (Elt Ideal) arg5.view (box 0 1 0 512 (by omega) (by omega)).toLoadRect (harg5.unread x4)) (View.readAt (Elt Ideal) arg3.view (box 0 256 0 512 (by omega) (by omega)).toLoadRect (harg3.unread x2)) (cutL (prod (View.readAt (Elt Ideal) arg1.view (box 0 256 0 1024 (by omega) (by omega)).toLoadRect (harg1.unread x0)) (View.readAt (Elt Ideal) arg2.view (box 0 1024 0 1024 (by omega) (by omega)).toLoadRect (harg2.unread x1))))⟩]

theorem pieces6_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).1
    = reads6 arg1 harg1 arg2 harg2 arg3 harg3 arg5 harg5 x0 x1 x2 x4 := by sl_kernel_rfl

theorem out6_A (hc0 : cond0_0 i) : out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (Val := Elt Ideal) (both6 x0 x1 x2 x4) := by
  unfold out0_A_6
  rw [View.read_writes_junk_eq_canon, pieces6_A]
  unfold reads6
  simp only [read_lo, read_hi, read_whole]
  rfl

/-- The pieces in the arrays as the body reads them. -/
def reads7 : List (View.Piece (Elt Ideal) S512x512 .bf16) :=
  [⟨box 256 256 0 512 (by omega) (by omega), dRow (View.readAt (Elt Ideal) arg6.view (box 0 1 0 512 (by omega) (by omega)).toLoadRect (harg6.unread x5)) (View.readAt (Elt Ideal) arg4.view (box 256 256 0 512 (by omega) (by omega)).toLoadRect (harg4.unread x3)) (cutR (prod (View.readAt (Elt Ideal) arg1.view (box 256 256 0 1024 (by omega) (by omega)).toLoadRect (harg1.unread x0)) (View.readAt (Elt Ideal) arg2.view (box 0 1024 0 1024 (by omega) (by omega)).toLoadRect (harg2.unread x1))))⟩,
      ⟨box 0 256 0 512 (by omega) (by omega), dRow (View.readAt (Elt Ideal) arg6.view (box 0 1 0 512 (by omega) (by omega)).toLoadRect (harg6.unread x5)) (View.readAt (Elt Ideal) arg4.view (box 0 256 0 512 (by omega) (by omega)).toLoadRect (harg4.unread x3)) (cutR (prod (View.readAt (Elt Ideal) arg1.view (box 0 256 0 1024 (by omega) (by omega)).toLoadRect (harg1.unread x0)) (View.readAt (Elt Ideal) arg2.view (box 0 1024 0 1024 (by omega) (by omega)).toLoadRect (harg2.unread x1))))⟩]

theorem pieces7_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.1
    = reads7 arg1 harg1 arg2 harg2 arg4 harg4 arg6 harg6 x0 x1 x3 x5 := by sl_kernel_rfl

theorem out7_A (hc0 : cond0_0 i) : out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (Val := Elt Ideal) (both7 x0 x1 x3 x5) := by
  unfold out0_A_7
  rw [View.read_writes_junk_eq_canon, pieces7_A]
  unfold reads7
  simp only [read_lo, read_hi, read_whole]
  rfl

/-- The pieces in the arrays as the body reads them. -/
def reads8 : List (View.Piece (Elt Ideal) S512x8 .f32) :=
  [⟨box 256 256 0 8 (by omega) (by omega), heads (mulf (F := Ideal) (dRow (View.readAt (Elt Ideal) arg5.view (box 0 1 0 512 (by omega) (by omega)).toLoadRect (harg5.unread x4)) (View.readAt (Elt Ideal) arg3.view (box 256 256 0 512 (by omega) (by omega)).toLoadRect (harg3.unread x2)) (cutL (prod (View.readAt (Elt Ideal) arg1.view (box 256 256 0 1024 (by omega) (by omega)).toLoadRect (harg1.unread x0)) (View.readAt (Elt Ideal) arg2.view (box 0 1024 0 1024 (by omega) (by omega)).toLoadRect (harg2.unread x1))))) (View.readAt (Elt Ideal) arg3.view (box 256 256 0 512 (by omega) (by omega)).toLoadRect (harg3.unread x2)))⟩,
      ⟨box 0 256 0 8 (by omega) (by omega), heads (mulf (F := Ideal) (dRow (View.readAt (Elt Ideal) arg5.view (box 0 1 0 512 (by omega) (by omega)).toLoadRect (harg5.unread x4)) (View.readAt (Elt Ideal) arg3.view (box 0 256 0 512 (by omega) (by omega)).toLoadRect (harg3.unread x2)) (cutL (prod (View.readAt (Elt Ideal) arg1.view (box 0 256 0 1024 (by omega) (by omega)).toLoadRect (harg1.unread x0)) (View.readAt (Elt Ideal) arg2.view (box 0 1024 0 1024 (by omega) (by omega)).toLoadRect (harg2.unread x1))))) (View.readAt (Elt Ideal) arg3.view (box 0 256 0 512 (by omega) (by omega)).toLoadRect (harg3.unread x2)))⟩]

theorem pieces8_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.2.1
    = reads8 arg1 harg1 arg2 harg2 arg3 harg3 arg5 harg5 x0 x1 x2 x4 := by sl_kernel_rfl

theorem out8_A (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (Val := Elt Ideal) (both8 x0 x1 x2 x4) := by
  unfold out0_A_8
  rw [View.read_writes_junk_eq_canon, pieces8_A]
  unfold reads8
  simp only [read_lo, read_hi, read_whole]
  rfl

/-- The pieces in the arrays as the body reads them. -/
def reads9 : List (View.Piece (Elt Ideal) S512x8 .f32) :=
  [⟨box 256 256 0 8 (by omega) (by omega), heads (mulf (F := Ideal) (dRow (View.readAt (Elt Ideal) arg6.view (box 0 1 0 512 (by omega) (by omega)).toLoadRect (harg6.unread x5)) (View.readAt (Elt Ideal) arg4.view (box 256 256 0 512 (by omega) (by omega)).toLoadRect (harg4.unread x3)) (cutR (prod (View.readAt (Elt Ideal) arg1.view (box 256 256 0 1024 (by omega) (by omega)).toLoadRect (harg1.unread x0)) (View.readAt (Elt Ideal) arg2.view (box 0 1024 0 1024 (by omega) (by omega)).toLoadRect (harg2.unread x1))))) (View.readAt (Elt Ideal) arg4.view (box 256 256 0 512 (by omega) (by omega)).toLoadRect (harg4.unread x3)))⟩,
      ⟨box 0 256 0 8 (by omega) (by omega), heads (mulf (F := Ideal) (dRow (View.readAt (Elt Ideal) arg6.view (box 0 1 0 512 (by omega) (by omega)).toLoadRect (harg6.unread x5)) (View.readAt (Elt Ideal) arg4.view (box 0 256 0 512 (by omega) (by omega)).toLoadRect (harg4.unread x3)) (cutR (prod (View.readAt (Elt Ideal) arg1.view (box 0 256 0 1024 (by omega) (by omega)).toLoadRect (harg1.unread x0)) (View.readAt (Elt Ideal) arg2.view (box 0 1024 0 1024 (by omega) (by omega)).toLoadRect (harg2.unread x1))))) (View.readAt (Elt Ideal) arg4.view (box 0 256 0 512 (by omega) (by omega)).toLoadRect (harg4.unread x3)))⟩]

theorem pieces9_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.1
    = reads9 arg1 harg1 arg2 harg2 arg4 harg4 arg6 harg6 x0 x1 x3 x5 := by sl_kernel_rfl

theorem out9_A (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = View.canon (Val := Elt Ideal) (both9 x0 x1 x3 x5) := by
  unfold out0_A_9
  rw [View.read_writes_junk_eq_canon, pieces9_A]
  unfold reads9
  simp only [read_lo, read_hi, read_whole]
  rfl

theorem out10_A (hc0 : cond0_0 i) : out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = gain10 x0 x1 x2 (k0_pay3 (F := Ideal)) := by
  frame_out
  rfl

theorem out11_A (hc0 : cond0_0 i) : out0_A_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = gain11 x0 x1 x3 (k0_pay4 (F := Ideal)) := by
  frame_out
  rfl

theorem pieces6_B (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).1
    = reads6 arg1 harg1 arg2 harg2 arg3 harg3 arg5 harg5 x0 x1 x2 x4 := by sl_kernel_rfl

theorem out6_B (hc0 : ¬cond0_0 i) : out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = View.canon (Val := Elt Ideal) (both6 x0 x1 x2 x4) := by
  unfold out0_B_6
  rw [View.read_writes_junk_eq_canon, pieces6_B]
  unfold reads6
  simp only [read_lo, read_hi, read_whole]
  rfl

theorem pieces7_B (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).2.1
    = reads7 arg1 harg1 arg2 harg2 arg4 harg4 arg6 harg6 x0 x1 x3 x5 := by sl_kernel_rfl

theorem out7_B (hc0 : ¬cond0_0 i) : out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = View.canon (Val := Elt Ideal) (both7 x0 x1 x3 x5) := by
  unfold out0_B_7
  rw [View.read_writes_junk_eq_canon, pieces7_B]
  unfold reads7
  simp only [read_lo, read_hi, read_whole]
  rfl

theorem pieces8_B (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).2.2.1
    = reads8 arg1 harg1 arg2 harg2 arg3 harg3 arg5 harg5 x0 x1 x2 x4 := by sl_kernel_rfl

theorem out8_B (hc0 : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = View.canon (Val := Elt Ideal) (both8 x0 x1 x2 x4) := by
  unfold out0_B_8
  rw [View.read_writes_junk_eq_canon, pieces8_B]
  unfold reads8
  simp only [read_lo, read_hi, read_whole]
  rfl

theorem pieces9_B (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11).2.2.2.1
    = reads9 arg1 harg1 arg2 harg2 arg4 harg4 arg6 harg6 x0 x1 x3 x5 := by sl_kernel_rfl

theorem out9_B (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = View.canon (Val := Elt Ideal) (both9 x0 x1 x3 x5) := by
  unfold out0_B_9
  rw [View.read_writes_junk_eq_canon, pieces9_B]
  unfold reads9
  simp only [read_lo, read_hi, read_whole]
  rfl

theorem out10_B (hc0 : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = gain10 x0 x1 x2 xo10 := by
  frame_out
  rfl

theorem out11_B (hc0 : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11 = gain11 x0 x1 x3 xo11 := by
  frame_out
  rfl

end Cert.OutBackKernelIdeal.Tile

end
-- ==== Proof.Ffn.OutBackWhole.lean ====
/-
  The gradient through the output projection and the mixers' norms: the whole arrays the kernel leaves.
-/
module

public import proofs.«01_k».proof.Proof.Ffn.OutBack

@[expose] public section

noncomputable section

namespace Cert.OutBackKernelIdeal.Whole

open Cert.OutBackKernelIdeal Cert.OutBackKernelIdeal.Gen Idealize.ShloMosaic Idealize.ShloMosaic.TcCoe Idealize.ShloMosaic.ValueIdx
open Cert.KernelIdeal.Attn (at2 at2_pos ix2_at2 box at2_box at2_canon_f32 at2_canon_bf16)
open Cert.OutNormKernelIdeal.Half (at2_mulf)
open Cert.Row (IsReal isReal_zero)
open Cert.OutNormRow Cert.OutBackRow Cert.OutBackKernelIdeal.Half Cert.OutBackKernelIdeal.Tile
open scoped BigOperators

section
variable (y : (⟨2, ![8192, 1024]⟩ : Shape).Idx → EReal) (w : (⟨2, ![1024, 1024]⟩ : Shape).Idx → EReal)
  (x : (⟨2, ![8192, 512]⟩ : Shape).Idx → EReal) (g : (⟨2, ![1, 512]⟩ : Shape).Idx → EReal) (o : ℕ)

/-- The cotangent of one mixer's normed rows (`o` is where the mixer's columns begin), its rows' gradient, the heads' sums, and a row's term of
the weight's gradient. -/
def cot (r j : ℕ) : EReal := ∑ k ∈ Finset.range 1024, at2 (a := 8192) (b := 1024) y r k * at2 (a := 1024) (b := 1024) w (o + j) k
def rowAt (r j : ℕ) : EReal := back (at2 (a := 8192) (b := 512) x r) (cot y w o r) (at2 (a := 1) (b := 512) g 0) j
def headAt (r h : ℕ) : EReal := ∑ d ∈ Finset.range 64, rowAt y w x g o r (64 * h + d) * at2 (a := 8192) (b := 512) x r (64 * h + d)
def term (r j : ℕ) : EReal := cot y w o r j * (at2 (a := 8192) (b := 512) x r j * invW (at2 (a := 8192) (b := 512) x r))
def total (j : ℕ) : EReal := ∑ r ∈ Finset.range 8192, term y w x o r j

variable {y w x g o} {Y : Vec Ideal S256x1024 .bf16} {W : Vec Ideal S1024x1024 .bf16} {X : Vec Ideal S256x512 .f32} {G : Vec Ideal S1x512 .f32}
  {A : FVec Ideal S256x512 .f32} {r0 : ℕ}

theorem cotL (hY : ∀ i < 256, ∀ k < 1024, at2 (a := 256) (b := 1024) Y i k = at2 (a := 8192) (b := 1024) y (r0 + i) k)
    (hW : ∀ i < 1024, ∀ k < 1024, at2 (a := 1024) (b := 1024) W i k = at2 (a := 1024) (b := 1024) w i k) :
    ∀ i < 256, ∀ j < 512, at2 (a := 256) (b := 512) (cutL (prod Y W)) i j = cot y w 0 (r0 + i) j := fun i hi j hj => by
  rw [cutL_apply _ hi hj, prod_apply Y W hi (by omega)]
  refine Finset.sum_congr rfl fun k hk => ?_
  have hk := Finset.mem_range.mp hk
  rw [hY i hi k hk, hW j (by omega) k hk, zero_add]

theorem cotR (hY : ∀ i < 256, ∀ k < 1024, at2 (a := 256) (b := 1024) Y i k = at2 (a := 8192) (b := 1024) y (r0 + i) k)
    (hW : ∀ i < 1024, ∀ k < 1024, at2 (a := 1024) (b := 1024) W i k = at2 (a := 1024) (b := 1024) w i k) :
    ∀ i < 256, ∀ j < 512, at2 (a := 256) (b := 512) (cutR (prod Y W)) i j = cot y w 512 (r0 + i) j := fun i hi j hj => by
  rw [cutR_apply _ hi hj, prod_apply Y W hi (by omega)]
  refine Finset.sum_congr rfl fun k hk => ?_
  have hk := Finset.mem_range.mp hk
  rw [hY i hi k hk, hW (512 + j) (by omega) k hk]

variable (hX : ∀ i < 256, ∀ j < 512, at2 (a := 256) (b := 512) X i j = at2 (a := 8192) (b := 512) x (r0 + i) j)
  (hG : ∀ j < 512, at2 (a := 1) (b := 512) G 0 j = at2 (a := 1) (b := 512) g 0 j)
  (hA : ∀ i < 256, ∀ j < 512, at2 (a := 256) (b := 512) A i j = cot y w o (r0 + i) j)

include hX hA in
theorem gain_half (acc : Vec Ideal S1x512 .f32) (j : Fin 512) : (gains X A acc : S1x512.Idx → EReal) (ix2 (0 : Fin 1) j)
    = acc (ix2 (0 : Fin 1) j) + ∑ i ∈ Finset.range 256, term y w x o (r0 + i) j.val := by
  refine (gains_apply X A acc j).trans (congrArg (acc (ix2 (0 : Fin 1) j) + ·) (Finset.sum_congr rfl fun i hi => ?_))
  have hi := Finset.mem_range.mp hi
  unfold term
  rw [hA i hi j.val j.isLt, hX i hi j.val j.isLt, invW_congr (hX i hi)]

include hX hG hA

theorem row_half : ∀ i < 256, ∀ j < 512, at2 (a := 256) (b := 512) (dRow G X A) i j = rowAt y w x g o (r0 + i) j := fun i hi j hj => by
  rw [at2_pos _ hi hj]
  exact (dRow_apply G X A ⟨i, hi⟩ ⟨j, hj⟩).trans (back_congr (hX i hi) (hA i hi) hG hj)

theorem head_half (hr : ∀ r j, IsReal (rowAt y w x g o r j * at2 (a := 8192) (b := 512) x r j)) :
    ∀ i < 256, ∀ h < 8, at2 (a := 256) (b := 8) (heads (mulf (F := Ideal) (dRow G X A) X)) i h = headAt y w x g o (r0 + i) h := fun i hi h hh => by
  have e (i j : ℕ) (hi : i < 256) (hj : j < 512) : at2 (a := 256) (b := 512) (mulf (F := Ideal) (dRow G X A) X) i j
      = rowAt y w x g o (r0 + i) j * at2 (a := 8192) (b := 512) x (r0 + i) j := by
    rw [at2_mulf, row_half hX hG hA i hi j hj, hX i hi j hj]
  refine (heads_apply _ (fun i j => ?_) hi hh).trans (Finset.sum_congr rfl fun d hd => ?_)
  · by_cases hij : i < 256 ∧ j < 512
    · rw [e i j hij.1 hij.2]
      exact hr _ _
    · have z : at2 (a := 256) (b := 512) (mulf (F := Ideal) (dRow G X A) X) i j = 0 := by
        unfold at2
        split
        · exact absurd (by assumption) hij
        · rfl
      rw [z]
      exact isReal_zero
  · have := Finset.mem_range.mp hd
    exact e i _ hi (by omega)

end

theorem two_f32 {b : ℕ} (X Y : Vec Ideal ⟨2, ![256, b]⟩ .f32) (f : ℕ → ℕ → EReal) (r0 : ℕ)
    (hX : ∀ i < 256, ∀ j < b, at2 (a := 256) (b := b) X i j = f (r0 + 256 + i) j) (hY : ∀ i < 256, ∀ j < b, at2 (a := 256) (b := b) Y i j = f (r0 + i) j)
    {i j : ℕ} (hi : i < 512) (hj : j < b) :
    at2 (a := 512) (b := b) (View.canon (Val := Elt Ideal) [(⟨box 256 256 0 b (by omega) (by omega), X⟩ : View.Piece (Elt Ideal) ⟨2, ![512, b]⟩ .f32),
      ⟨box 0 256 0 b (by omega) (by omega), Y⟩]) i j = f (r0 + i) j := by
  refine (at2_canon_f32 256 256 0 b (by omega) (by omega) X _ hi hj).trans ?_
  by_cases h : 256 ≤ i
  · rw [if_pos (by omega), Nat.sub_zero, hX (i - 256) (by omega) j hj]
    exact congrArg (fun r => f r j) (by omega)
  · rw [if_neg (by omega)]
    refine (at2_canon_f32 0 256 0 b (by omega) (by omega) Y _ hi hj).trans ?_
    rw [if_pos (by omega), Nat.sub_zero, Nat.sub_zero]
    exact hY i (by omega) j hj

theorem two_bf16 {b : ℕ} (X Y : Vec Ideal ⟨2, ![256, b]⟩ .bf16) (f : ℕ → ℕ → EReal) (r0 : ℕ)
    (hX : ∀ i < 256, ∀ j < b, at2 (a := 256) (b := b) X i j = f (r0 + 256 + i) j) (hY : ∀ i < 256, ∀ j < b, at2 (a := 256) (b := b) Y i j = f (r0 + i) j)
    {i j : ℕ} (hi : i < 512) (hj : j < b) :
    at2 (a := 512) (b := b) (View.canon (Val := Elt Ideal) [(⟨box 256 256 0 b (by omega) (by omega), X⟩ : View.Piece (Elt Ideal) ⟨2, ![512, b]⟩ .bf16),
      ⟨box 0 256 0 b (by omega) (by omega), Y⟩]) i j = f (r0 + i) j := by
  refine (at2_canon_bf16 256 256 0 b (by omega) (by omega) X _ hi hj).trans ?_
  by_cases h : 256 ≤ i
  · rw [if_pos (by omega), Nat.sub_zero, hX (i - 256) (by omega) j hj]
    exact congrArg (fun r => f r j) (by omega)
  · rw [if_neg (by omega)]
    refine (at2_canon_bf16 0 256 0 b (by omega) (by omega) Y _ hi hj).trans ?_
    rw [if_pos (by omega), Nat.sub_zero, Nat.sub_zero]
    exact hY i (by omega) j hj

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem idx_out : ∀ t : Fin cfg0.N,
    (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

variable (m : (ℓ : Loc nD τ sig) → Buf (Elt Ideal) ℓ) (c : Dev nD)

/-- The arguments. -/
abbrev arr0 := m ((c : Thread nD τ).loc main_arg0)
abbrev arr1 := m ((c : Thread nD τ).loc main_arg1)
abbrev arr2 := m ((c : Thread nD τ).loc main_arg2)
abbrev arr3 := m ((c : Thread nD τ).loc main_arg3)
abbrev arr4 := m ((c : Thread nD τ).loc main_arg4)
abbrev arr5 := m ((c : Thread nD τ).loc main_arg5)

theorem block0 (t : Fin cfg0.N) {i j : ℕ} (hi : i < 512) (hj : j < 1024) :
    at2 (a := 512) (b := 1024) (iblk m c 0 t) i j = at2 (a := 8192) (b := 1024) (m ((c : Thread nD τ).loc main_arg0)) (512 * t.val + i) j := by
  obtain ⟨⟨e0, e1⟩, _⟩ := idx_facts t
  have ht : t.val < 16 := t.isLt
  rw [← V_main_arg0 m c]
  exact Cert.KernelIdeal.Attn.at2_to hi hj _ rfl (by show win0_0.index t (0 : Fin 2) * 512 + 1 * i = 512 * t.val + i; omega) (by show win0_0.index t (1 : Fin 2) * 1024 + 1 * j = j; omega)

theorem block1 (t : Fin cfg0.N) {i j : ℕ} (hi : i < 1024) (hj : j < 1024) :
    at2 (a := 1024) (b := 1024) (iblk m c 1 t) i j = at2 (a := 1024) (b := 1024) (m ((c : Thread nD τ).loc main_arg1)) (i) j := by
  obtain ⟨_, ⟨e0, e1⟩, _⟩ := idx_facts t
  have ht : t.val < 16 := t.isLt
  rw [← V_main_arg1 m c]
  exact Cert.KernelIdeal.Attn.at2_to hi hj _ rfl (by show win0_1.index t (0 : Fin 2) * 1024 + 1 * i = i; omega) (by show win0_1.index t (1 : Fin 2) * 1024 + 1 * j = j; omega)

theorem block2 (t : Fin cfg0.N) {i j : ℕ} (hi : i < 512) (hj : j < 512) :
    at2 (a := 512) (b := 512) (iblk m c 2 t) i j = at2 (a := 8192) (b := 512) (m ((c : Thread nD τ).loc main_arg2)) (512 * t.val + i) j := by
  obtain ⟨_, _, ⟨e0, e1⟩, _⟩ := idx_facts t
  have ht : t.val < 16 := t.isLt
  rw [← V_main_arg2 m c]
  exact Cert.KernelIdeal.Attn.at2_to hi hj _ rfl (by show win0_2.index t (0 : Fin 2) * 512 + 1 * i = 512 * t.val + i; omega) (by show win0_2.index t (1 : Fin 2) * 512 + 1 * j = j; omega)

theorem block3 (t : Fin cfg0.N) {i j : ℕ} (hi : i < 512) (hj : j < 512) :
    at2 (a := 512) (b := 512) (iblk m c 3 t) i j = at2 (a := 8192) (b := 512) (m ((c : Thread nD τ).loc main_arg3)) (512 * t.val + i) j := by
  obtain ⟨_, _, _, ⟨e0, e1⟩, _⟩ := idx_facts t
  have ht : t.val < 16 := t.isLt
  rw [← V_main_arg3 m c]
  exact Cert.KernelIdeal.Attn.at2_to hi hj _ rfl (by show win0_3.index t (0 : Fin 2) * 512 + 1 * i = 512 * t.val + i; omega) (by show win0_3.index t (1 : Fin 2) * 512 + 1 * j = j; omega)

theorem block4 (t : Fin cfg0.N) {i j : ℕ} (hi : i < 1) (hj : j < 512) :
    at2 (a := 1) (b := 512) (iblk m c 4 t) i j = at2 (a := 1) (b := 512) (m ((c : Thread nD τ).loc main_arg4)) (i) j := by
  obtain ⟨_, _, _, _, ⟨e0, e1⟩, _⟩ := idx_facts t
  have ht : t.val < 16 := t.isLt
  rw [← V_main_arg4 m c]
  exact Cert.KernelIdeal.Attn.at2_to hi hj _ rfl (by show win0_4.index t (0 : Fin 2) * 1 + 1 * i = i; omega) (by show win0_4.index t (1 : Fin 2) * 512 + 1 * j = j; omega)

theorem block5 (t : Fin cfg0.N) {i j : ℕ} (hi : i < 1) (hj : j < 512) :
    at2 (a := 1) (b := 512) (iblk m c 5 t) i j = at2 (a := 1) (b := 512) (m ((c : Thread nD τ).loc main_arg5)) (i) j := by
  obtain ⟨_, _, _, _, _, ⟨e0, e1⟩⟩ := idx_facts t
  have ht : t.val < 16 := t.isLt
  rw [← V_main_arg5 m c]
  exact Cert.KernelIdeal.Attn.at2_to hi hj _ rfl (by show win0_5.index t (0 : Fin 2) * 1 + 1 * i = i; omega) (by show win0_5.index t (1 : Fin 2) * 512 + 1 * j = j; omega)

theorem at2_lo {b : ℕ} {x : (⟨2, ![512, b]⟩ : Shape).Idx → EReal} {i j : ℕ} (hi : i < 256) (hj : j < b) :
    at2 (a := 256) (b := b) (Tile.lo (e := .f32) x) i j = at2 (a := 512) (b := b) x i j :=
  (at2_box x 0 256 0 b (by omega) (by omega) hi hj).trans (by rw [Nat.zero_add, Nat.zero_add])

theorem at2_hi {b : ℕ} {x : (⟨2, ![512, b]⟩ : Shape).Idx → EReal} {i j : ℕ} (hi : i < 256) (hj : j < b) :
    at2 (a := 256) (b := b) (Tile.hi (e := .f32) x) i j = at2 (a := 512) (b := b) x (256 + i) j :=
  (at2_box x 256 256 0 b (by omega) (by omega) hi hj).trans (by rw [Nat.zero_add])

theorem y_lo (t : Fin cfg0.N) : ∀ i < 256, ∀ j < 1024, at2 (a := 256) (b := 1024) (Tile.lo (e := .bf16) (b := 1024) (iblk m c 0 t)) i j
    = at2 (a := 8192) (b := 1024) (arr0 m c) (512 * t.val + i) j := fun i hi j hj =>
  (at2_lo hi hj).trans ((block0 m c t (by omega) hj).trans (congrArg (fun r => at2 (a := 8192) (b := 1024) (arr0 m c) r j) (by omega)))

theorem x2_lo (t : Fin cfg0.N) : ∀ i < 256, ∀ j < 512, at2 (a := 256) (b := 512) (Tile.lo (e := .f32) (b := 512) (iblk m c 2 t)) i j
    = at2 (a := 8192) (b := 512) (arr2 m c) (512 * t.val + i) j := fun i hi j hj =>
  (at2_lo hi hj).trans ((block2 m c t (by omega) hj).trans (congrArg (fun r => at2 (a := 8192) (b := 512) (arr2 m c) r j) (by omega)))

theorem x3_lo (t : Fin cfg0.N) : ∀ i < 256, ∀ j < 512, at2 (a := 256) (b := 512) (Tile.lo (e := .f32) (b := 512) (iblk m c 3 t)) i j
    = at2 (a := 8192) (b := 512) (arr3 m c) (512 * t.val + i) j := fun i hi j hj =>
  (at2_lo hi hj).trans ((block3 m c t (by omega) hj).trans (congrArg (fun r => at2 (a := 8192) (b := 512) (arr3 m c) r j) (by omega)))

theorem y_hi (t : Fin cfg0.N) : ∀ i < 256, ∀ j < 1024, at2 (a := 256) (b := 1024) (Tile.hi (e := .bf16) (b := 1024) (iblk m c 0 t)) i j
    = at2 (a := 8192) (b := 1024) (arr0 m c) ((512 * t.val + 256) + i) j := fun i hi j hj =>
  (at2_hi hi hj).trans ((block0 m c t (by omega) hj).trans (congrArg (fun r => at2 (a := 8192) (b := 1024) (arr0 m c) r j) (by omega)))

theorem x2_hi (t : Fin cfg0.N) : ∀ i < 256, ∀ j < 512, at2 (a := 256) (b := 512) (Tile.hi (e := .f32) (b := 512) (iblk m c 2 t)) i j
    = at2 (a := 8192) (b := 512) (arr2 m c) ((512 * t.val + 256) + i) j := fun i hi j hj =>
  (at2_hi hi hj).trans ((block2 m c t (by omega) hj).trans (congrArg (fun r => at2 (a := 8192) (b := 512) (arr2 m c) r j) (by omega)))

theorem x3_hi (t : Fin cfg0.N) : ∀ i < 256, ∀ j < 512, at2 (a := 256) (b := 512) (Tile.hi (e := .f32) (b := 512) (iblk m c 3 t)) i j
    = at2 (a := 8192) (b := 512) (arr3 m c) ((512 * t.val + 256) + i) j := fun i hi j hj =>
  (at2_hi hi hj).trans ((block3 m c t (by omega) hj).trans (congrArg (fun r => at2 (a := 8192) (b := 512) (arr3 m c) r j) (by omega)))

/-- The whole arrays. -/
def rowL (r j : ℕ) : EReal := rowAt (arr0 m c) (arr1 m c) (arr2 m c) (arr4 m c) 0 r j
def headL (r h : ℕ) : EReal := headAt (arr0 m c) (arr1 m c) (arr2 m c) (arr4 m c) 0 r h
def sumL (j : ℕ) : EReal := total (arr0 m c) (arr1 m c) (arr2 m c) 0 j
def termL (r j : ℕ) : EReal := term (arr0 m c) (arr1 m c) (arr2 m c) 0 r j
def rowR (r j : ℕ) : EReal := rowAt (arr0 m c) (arr1 m c) (arr3 m c) (arr5 m c) 512 r j
def headR (r h : ℕ) : EReal := headAt (arr0 m c) (arr1 m c) (arr3 m c) (arr5 m c) 512 r h
def sumR (j : ℕ) : EReal := total (arr0 m c) (arr1 m c) (arr3 m c) 512 j
def termR (r j : ℕ) : EReal := term (arr0 m c) (arr1 m c) (arr3 m c) 512 r j

theorem cotL_lo (t : Fin cfg0.N) : ∀ i < 256, ∀ j < 512, at2 (a := 256) (b := 512) (cutL (prod (Tile.lo (e := .bf16) (b := 1024) (iblk m c 0 t)) (iblk m c 1 t))) i j
    = cot (arr0 m c) (arr1 m c) 0 (512 * t.val + i) j :=
  cotL (y_lo m c t) fun i hi k hk => block1 m c t hi hk

theorem cotL_hi (t : Fin cfg0.N) : ∀ i < 256, ∀ j < 512, at2 (a := 256) (b := 512) (cutL (prod (Tile.hi (e := .bf16) (b := 1024) (iblk m c 0 t)) (iblk m c 1 t))) i j
    = cot (arr0 m c) (arr1 m c) 0 (512 * t.val + 256 + i) j :=
  cotL (y_hi m c t) fun i hi k hk => block1 m c t hi hk

theorem out6 (t : Fin cfg0.N) : (outsAt0 m c t.val t.isLt).1 = View.canon (Val := Elt Ideal) (both6 (iblk m c 0 t) (iblk m c 1 t) (iblk m c 2 t) (iblk m c 4 t)) := by
  by_cases h0 : t.val % 16 = 0
  · rw [outsAt0_A m c t h0]
    dsimp only
    rw [out6_A]
  · rw [outsAt0_B m c t h0]
    dsimp only
    rw [out6_B]

theorem final6 : (dats m 0 c).arrAt 6 cfg0.N = fun i : S8192x512.Idx => rowL m c (i 0).val (i 1).val := by
  refine (dats m 0 c).arrAt_eq_of_covers 6 (fun i : S8192x512.Idx => rowL m c (i 0).val (i 1).val) (by decide +kernel) fun t hf y => ?_
  obtain ⟨⟨e0, e1⟩, _⟩ := idx_out t
  have ht : t.val < 16 := t.isLt
  rw [after0_6]
  obtain ⟨i, j, rfl⟩ : ∃ (i : Fin 512) (j : Fin 512), y = ix2 i j := ⟨y 0, y 1, eq_ix2 (n0 := 512) (n1 := 512) y⟩
  refine Eq.trans (congrArg ((outsAt0 m c t.val t.isLt).1) (show _ = ix2 i j from funext fun d => ?_)) ?_
  · match d with
    | ⟨0, _⟩ => rfl
    | ⟨1, _⟩ => rfl
  have e := two_bf16 (b := 512) _ _ (rowL m c) (512 * t.val)
    (row_half (x2_hi m c t) (fun j hj => block4 m c t (i := 0) Nat.one_pos hj) (cotL_hi m c t))
    (row_half (x2_lo m c t) (fun j hj => block4 m c t (i := 0) Nat.one_pos hj) (cotL_lo m c t)) i.isLt j.isLt
  refine (congrFun (out6 m c t) (ix2 i j)).trans ?_
  refine (ix2_at2 (a := 512) (b := 512) (View.canon (Val := Elt Ideal) (both6 (iblk m c 0 t) (iblk m c 1 t) (iblk m c 2 t) (iblk m c 4 t))) i j).trans (Eq.trans e (congrArg₂ (rowL m c) ?_ ?_))
  · show 512 * t.val + i.val = win0_6.index t (0 : Fin 2) * 512 + 1 * i.val
    omega
  · show j.val = win0_6.index t (1 : Fin 2) * 512 + 1 * j.val
    omega

theorem out8 (t : Fin cfg0.N) : (outsAt0 m c t.val t.isLt).2.2.1 = View.canon (Val := Elt Ideal) (both8 (iblk m c 0 t) (iblk m c 1 t) (iblk m c 2 t) (iblk m c 4 t)) := by
  by_cases h0 : t.val % 16 = 0
  · rw [outsAt0_A m c t h0]
    dsimp only
    rw [out8_A]
  · rw [outsAt0_B m c t h0]
    dsimp only
    rw [out8_B]

theorem final8 (hr : ∀ r j, IsReal (rowAt (arr0 m c) (arr1 m c) (arr2 m c) (arr4 m c) 0 r j * at2 (a := 8192) (b := 512) (arr2 m c) r j)) : (dats m 0 c).arrAt 8 cfg0.N = fun i : S8192x8.Idx => headL m c (i 0).val (i 1).val := by
  refine (dats m 0 c).arrAt_eq_of_covers 8 (fun i : S8192x8.Idx => headL m c (i 0).val (i 1).val) (by decide +kernel) fun t hf y => ?_
  obtain ⟨_, _, ⟨e0, e1⟩, _⟩ := idx_out t
  have ht : t.val < 16 := t.isLt
  rw [after0_8]
  obtain ⟨i, j, rfl⟩ : ∃ (i : Fin 512) (j : Fin 8), y = ix2 i j := ⟨y 0, y 1, eq_ix2 (n0 := 512) (n1 := 8) y⟩
  refine Eq.trans (congrArg ((outsAt0 m c t.val t.isLt).2.2.1) (show _ = ix2 i j from funext fun d => ?_)) ?_
  · match d with
    | ⟨0, _⟩ => rfl
    | ⟨1, _⟩ => rfl
  have e := two_f32 (b := 8) _ _ (headL m c) (512 * t.val)
    (head_half (x2_hi m c t) (fun j hj => block4 m c t (i := 0) Nat.one_pos hj) (cotL_hi m c t) hr)
    (head_half (x2_lo m c t) (fun j hj => block4 m c t (i := 0) Nat.one_pos hj) (cotL_lo m c t) hr) i.isLt j.isLt
  refine (congrFun (out8 m c t) (ix2 i j)).trans ?_
  refine (ix2_at2 (a := 512) (b := 8) (View.canon (Val := Elt Ideal) (both8 (iblk m c 0 t) (iblk m c 1 t) (iblk m c 2 t) (iblk m c 4 t))) i j).trans (Eq.trans e (congrArg₂ (headL m c) ?_ ?_))
  · show 512 * t.val + i.val = win0_8.index t (0 : Fin 2) * 512 + 1 * i.val
    omega
  · show j.val = win0_8.index t (1 : Fin 2) * 8 + 1 * j.val
    omega

theorem gain10_apply (t : Fin cfg0.N) (acc : Vec Ideal S1x512 .f32) (j : Fin 512) :
    (gain10 (iblk m c 0 t) (iblk m c 1 t) (iblk m c 2 t) acc : S1x512.Idx → EReal) (ix2 (0 : Fin 1) j) = acc (ix2 (0 : Fin 1) j) + ∑ i ∈ Finset.range 512, termL m c (512 * t.val + i) j.val := by
  have h1 := gain_half (x2_lo m c t) (cotL_lo m c t) acc j
  have h2 := gain_half (x2_hi m c t) (cotL_hi m c t) (gains (Tile.lo (e := .f32) (b := 512) (iblk m c 2 t)) (cutL (prod (Tile.lo (e := .bf16) (b := 1024) (iblk m c 0 t)) (iblk m c 1 t))) acc) j
  rw [Finset.sum_range_add (fun i => termL m c (512 * t.val + i) j.val) 256 256, ← add_assoc]
  refine h2.trans (congrArg₂ (· + ·) h1 (Finset.sum_congr rfl fun i _ => ?_))
  exact congrArg (fun r => termL m c r j.val) (by omega)

theorem sumL_eq (j : ℕ) : sumL m c j = ∑ r ∈ Finset.range 8192, termL m c r j := by
  unfold sumL total termL
  rfl

theorem first10 (t : Fin cfg0.N) (h0 : t.val % 16 = 0) : (outsAt0 m c t.val t.isLt).2.2.2.2.1 = gain10 (iblk m c 0 t) (iblk m c 1 t) (iblk m c 2 t) (k0_pay3 (F := Ideal)) := by
  rw [outsAt0_A m c t h0]
  dsimp only
  rw [out10_A]

theorem next10 (t : Fin cfg0.N) (h0 : ¬t.val % 16 = 0) : (outsAt0 m c t.val t.isLt).2.2.2.2.1 = gain10 (iblk m c 0 t) (iblk m c 1 t) (iblk m c 2 t) (outsAt0 m c (t.val - 1) (Nat.lt_of_le_of_lt (Nat.sub_le _ _) t.isLt)).2.2.2.2.1 := by
  rw [outsAt0_B m c t h0]
  dsimp only
  rw [out10_B]

theorem after10 : ∀ (n : ℕ) (hn : n < cfg0.N) (j : Fin 512),
    ((outsAt0 m c n hn).2.2.2.2.1 : S1x512.Idx → EReal) (ix2 (0 : Fin 1) j) = ∑ r ∈ Finset.range (512 * (n + 1)), termL m c r j.val
  | 0, hn, j => by
    refine (congrFun (first10 m c ⟨0, hn⟩ (Nat.zero_mod _)) _).trans ?_
    refine (gain10_apply m c ⟨0, hn⟩ _ j).trans ?_
    refine (congrArg₂ (· + ·) (Cert.KernelIdeal.Attn.ofBits_zero) (Finset.sum_congr rfl fun i _ => ?_)).trans (zero_add _)
    exact congrArg (fun r => termL m c r j.val) (by show 512 * 0 + i = i; omega)
  | n + 1, hn, j => by
    have hN : n + 1 < 16 := hn
    have h0 : ¬(n + 1) % 16 = 0 := by omega
    refine (congrFun (next10 m c ⟨n + 1, hn⟩ h0) _).trans ?_
    refine (gain10_apply m c ⟨n + 1, hn⟩ _ j).trans ?_
    rw [show 512 * (n + 1 + 1) = 512 * (n + 1) + 512 by omega, Finset.sum_range_add]
    exact congrArg (· + _) (after10 n (Nat.lt_of_succ_lt hn) j)

theorem last10 : ∀ t : Fin cfg0.N, (cfg0.win 10).flush t = true → t.val = 15 := (by decide +kernel : ∀ t : Fin grid0.N, _)

theorem final10 : (dats m 0 c).arrAt 10 cfg0.N = fun i : S1x512.Idx => sumL m c (i 1).val := by
  refine (dats m 0 c).arrAt_eq_of_covers 10 (fun i : S1x512.Idx => sumL m c (i 1).val) (by decide +kernel) fun t hf y => ?_
  obtain ⟨_, _, _, _, ⟨e0, e1⟩, _⟩ := idx_out t
  have ht := last10 t hf
  rw [after0_10]
  obtain ⟨i, j, rfl⟩ : ∃ (i : Fin 1) (j : Fin 512), y = ix2 i j := ⟨y 0, y 1, eq_ix2 (n0 := 1) (n1 := 512) y⟩
  obtain rfl : i = 0 := Subsingleton.elim _ _
  refine Eq.trans (congrArg ((outsAt0 m c t.val t.isLt).2.2.2.2.1) (show _ = ix2 (0 : Fin 1) j from funext fun d => ?_)) ?_
  · match d with
    | ⟨0, _⟩ => rfl
    | ⟨1, _⟩ => rfl
  refine (after10 m c t.val t.isLt j).trans ?_
  rw [show 512 * (t.val + 1) = 8192 by omega, ← sumL_eq]
  refine congrArg (sumL m c) ?_
  show j.val = win0_10.index t (1 : Fin 2) * 512 + 1 * j.val
  omega

theorem cotR_lo (t : Fin cfg0.N) : ∀ i < 256, ∀ j < 512, at2 (a := 256) (b := 512) (cutR (prod (Tile.lo (e := .bf16) (b := 1024) (iblk m c 0 t)) (iblk m c 1 t))) i j
    = cot (arr0 m c) (arr1 m c) 512 (512 * t.val + i) j :=
  cotR (y_lo m c t) fun i hi k hk => block1 m c t hi hk

theorem cotR_hi (t : Fin cfg0.N) : ∀ i < 256, ∀ j < 512, at2 (a := 256) (b := 512) (cutR (prod (Tile.hi (e := .bf16) (b := 1024) (iblk m c 0 t)) (iblk m c 1 t))) i j
    = cot (arr0 m c) (arr1 m c) 512 (512 * t.val + 256 + i) j :=
  cotR (y_hi m c t) fun i hi k hk => block1 m c t hi hk

theorem out7 (t : Fin cfg0.N) : (outsAt0 m c t.val t.isLt).2.1 = View.canon (Val := Elt Ideal) (both7 (iblk m c 0 t) (iblk m c 1 t) (iblk m c 3 t) (iblk m c 5 t)) := by
  by_cases h0 : t.val % 16 = 0
  · rw [outsAt0_A m c t h0]
    dsimp only
    rw [out7_A]
  · rw [outsAt0_B m c t h0]
    dsimp only
    rw [out7_B]

theorem final7 : (dats m 0 c).arrAt 7 cfg0.N = fun i : S8192x512.Idx => rowR m c (i 0).val (i 1).val := by
  refine (dats m 0 c).arrAt_eq_of_covers 7 (fun i : S8192x512.Idx => rowR m c (i 0).val (i 1).val) (by decide +kernel) fun t hf y => ?_
  obtain ⟨_, ⟨e0, e1⟩, _⟩ := idx_out t
  have ht : t.val < 16 := t.isLt
  rw [after0_7]
  obtain ⟨i, j, rfl⟩ : ∃ (i : Fin 512) (j : Fin 512), y = ix2 i j := ⟨y 0, y 1, eq_ix2 (n0 := 512) (n1 := 512) y⟩
  refine Eq.trans (congrArg ((outsAt0 m c t.val t.isLt).2.1) (show _ = ix2 i j from funext fun d => ?_)) ?_
  · match d with
    | ⟨0, _⟩ => rfl
    | ⟨1, _⟩ => rfl
  have e := two_bf16 (b := 512) _ _ (rowR m c) (512 * t.val)
    (row_half (x3_hi m c t) (fun j hj => block5 m c t (i := 0) Nat.one_pos hj) (cotR_hi m c t))
    (row_half (x3_lo m c t) (fun j hj => block5 m c t (i := 0) Nat.one_pos hj) (cotR_lo m c t)) i.isLt j.isLt
  refine (congrFun (out7 m c t) (ix2 i j)).trans ?_
  refine (ix2_at2 (a := 512) (b := 512) (View.canon (Val := Elt Ideal) (both7 (iblk m c 0 t) (iblk m c 1 t) (iblk m c 3 t) (iblk m c 5 t))) i j).trans (Eq.trans e (congrArg₂ (rowR m c) ?_ ?_))
  · show 512 * t.val + i.val = win0_7.index t (0 : Fin 2) * 512 + 1 * i.val
    omega
  · show j.val = win0_7.index t (1 : Fin 2) * 512 + 1 * j.val
    omega

theorem out9 (t : Fin cfg0.N) : (outsAt0 m c t.val t.isLt).2.2.2.1 = View.canon (Val := Elt Ideal) (both9 (iblk m c 0 t) (iblk m c 1 t) (iblk m c 3 t) (iblk m c 5 t)) := by
  by_cases h0 : t.val % 16 = 0
  · rw [outsAt0_A m c t h0]
    dsimp only
    rw [out9_A]
  · rw [outsAt0_B m c t h0]
    dsimp only
    rw [out9_B]

theorem final9 (hr : ∀ r j, IsReal (rowAt (arr0 m c) (arr1 m c) (arr3 m c) (arr5 m c) 512 r j * at2 (a := 8192) (b := 512) (arr3 m c) r j)) : (dats m 0 c).arrAt 9 cfg0.N = fun i : S8192x8.Idx => headR m c (i 0).val (i 1).val := by
  refine (dats m 0 c).arrAt_eq_of_covers 9 (fun i : S8192x8.Idx => headR m c (i 0).val (i 1).val) (by decide +kernel) fun t hf y => ?_
  obtain ⟨_, _, _, ⟨e0, e1⟩, _⟩ := idx_out t
  have ht : t.val < 16 := t.isLt
  rw [after0_9]
  obtain ⟨i, j, rfl⟩ : ∃ (i : Fin 512) (j : Fin 8), y = ix2 i j := ⟨y 0, y 1, eq_ix2 (n0 := 512) (n1 := 8) y⟩
  refine Eq.trans (congrArg ((outsAt0 m c t.val t.isLt).2.2.2.1) (show _ = ix2 i j from funext fun d => ?_)) ?_
  · match d with
    | ⟨0, _⟩ => rfl
    | ⟨1, _⟩ => rfl
  have e := two_f32 (b := 8) _ _ (headR m c) (512 * t.val)
    (head_half (x3_hi m c t) (fun j hj => block5 m c t (i := 0) Nat.one_pos hj) (cotR_hi m c t) hr)
    (head_half (x3_lo m c t) (fun j hj => block5 m c t (i := 0) Nat.one_pos hj) (cotR_lo m c t) hr) i.isLt j.isLt
  refine (congrFun (out9 m c t) (ix2 i j)).trans ?_
  refine (ix2_at2 (a := 512) (b := 8) (View.canon (Val := Elt Ideal) (both9 (iblk m c 0 t) (iblk m c 1 t) (iblk m c 3 t) (iblk m c 5 t))) i j).trans (Eq.trans e (congrArg₂ (headR m c) ?_ ?_))
  · show 512 * t.val + i.val = win0_9.index t (0 : Fin 2) * 512 + 1 * i.val
    omega
  · show j.val = win0_9.index t (1 : Fin 2) * 8 + 1 * j.val
    omega

theorem gain11_apply (t : Fin cfg0.N) (acc : Vec Ideal S1x512 .f32) (j : Fin 512) :
    (gain11 (iblk m c 0 t) (iblk m c 1 t) (iblk m c 3 t) acc : S1x512.Idx → EReal) (ix2 (0 : Fin 1) j) = acc (ix2 (0 : Fin 1) j) + ∑ i ∈ Finset.range 512, termR m c (512 * t.val + i) j.val := by
  have h1 := gain_half (x3_lo m c t) (cotR_lo m c t) acc j
  have h2 := gain_half (x3_hi m c t) (cotR_hi m c t) (gains (Tile.lo (e := .f32) (b := 512) (iblk m c 3 t)) (cutR (prod (Tile.lo (e := .bf16) (b := 1024) (iblk m c 0 t)) (iblk m c 1 t))) acc) j
  rw [Finset.sum_range_add (fun i => termR m c (512 * t.val + i) j.val) 256 256, ← add_assoc]
  refine h2.trans (congrArg₂ (· + ·) h1 (Finset.sum_congr rfl fun i _ => ?_))
  exact congrArg (fun r => termR m c r j.val) (by omega)

theorem sumR_eq (j : ℕ) : sumR m c j = ∑ r ∈ Finset.range 8192, termR m c r j := by
  unfold sumR total termR
  rfl

theorem first11 (t : Fin cfg0.N) (h0 : t.val % 16 = 0) : (outsAt0 m c t.val t.isLt).2.2.2.2.2 = gain11 (iblk m c 0 t) (iblk m c 1 t) (iblk m c 3 t) (k0_pay4 (F := Ideal)) := by
  rw [outsAt0_A m c t h0]
  dsimp only
  rw [out11_A]

theorem next11 (t : Fin cfg0.N) (h0 : ¬t.val % 16 = 0) : (outsAt0 m c t.val t.isLt).2.2.2.2.2 = gain11 (iblk m c 0 t) (iblk m c 1 t) (iblk m c 3 t) (outsAt0 m c (t.val - 1) (Nat.lt_of_le_of_lt (Nat.sub_le _ _) t.isLt)).2.2.2.2.2 := by
  rw [outsAt0_B m c t h0]
  dsimp only
  rw [out11_B]

theorem after11 : ∀ (n : ℕ) (hn : n < cfg0.N) (j : Fin 512),
    ((outsAt0 m c n hn).2.2.2.2.2 : S1x512.Idx → EReal) (ix2 (0 : Fin 1) j) = ∑ r ∈ Finset.range (512 * (n + 1)), termR m c r j.val
  | 0, hn, j => by
    refine (congrFun (first11 m c ⟨0, hn⟩ (Nat.zero_mod _)) _).trans ?_
    refine (gain11_apply m c ⟨0, hn⟩ _ j).trans ?_
    refine (congrArg₂ (· + ·) (Cert.KernelIdeal.Attn.ofBits_zero) (Finset.sum_congr rfl fun i _ => ?_)).trans (zero_add _)
    exact congrArg (fun r => termR m c r j.val) (by show 512 * 0 + i = i; omega)
  | n + 1, hn, j => by
    have hN : n + 1 < 16 := hn
    have h0 : ¬(n + 1) % 16 = 0 := by omega
    refine (congrFun (next11 m c ⟨n + 1, hn⟩ h0) _).trans ?_
    refine (gain11_apply m c ⟨n + 1, hn⟩ _ j).trans ?_
    rw [show 512 * (n + 1 + 1) = 512 * (n + 1) + 512 by omega, Finset.sum_range_add]
    exact congrArg (· + _) (after11 n (Nat.lt_of_succ_lt hn) j)

theorem last11 : ∀ t : Fin cfg0.N, (cfg0.win 11).flush t = true → t.val = 15 := (by decide +kernel : ∀ t : Fin grid0.N, _)

theorem final11 : (dats m 0 c).arrAt 11 cfg0.N = fun i : S1x512.Idx => sumR m c (i 1).val := by
  refine (dats m 0 c).arrAt_eq_of_covers 11 (fun i : S1x512.Idx => sumR m c (i 1).val) (by decide +kernel) fun t hf y => ?_
  obtain ⟨_, _, _, _, _, ⟨e0, e1⟩⟩ := idx_out t
  have ht := last11 t hf
  rw [after0_11]
  obtain ⟨i, j, rfl⟩ : ∃ (i : Fin 1) (j : Fin 512), y = ix2 i j := ⟨y 0, y 1, eq_ix2 (n0 := 1) (n1 := 512) y⟩
  obtain rfl : i = 0 := Subsingleton.elim _ _
  refine Eq.trans (congrArg ((outsAt0 m c t.val t.isLt).2.2.2.2.2) (show _ = ix2 (0 : Fin 1) j from funext fun d => ?_)) ?_
  · match d with
    | ⟨0, _⟩ => rfl
    | ⟨1, _⟩ => rfl
  refine (after11 m c t.val t.isLt j).trans ?_
  rw [show 512 * (t.val + 1) = 8192 by omega, ← sumR_eq]
  refine congrArg (sumR m c) ?_
  show j.val = win0_11.index t (1 : Fin 2) * 512 + 1 * j.val
  omega

end Cert.OutBackKernelIdeal.Whole

end
-- ==== Proof.Ffn.OutBackPlain.lean ====
/-
  The gradient through the output projection and the mixers' norms as the plain program writes it, read row by row.
-/
module

public import proofs.«01_k».proof.Proof.Ffn.OutBackWhole
public import proofs.«01_k».proof.Proof.Ffn.NormPlain
public import proofs.«01_k».proof.Proof.Gen.OutBackReferenceIdeal.Read

@[expose] public section

noncomputable section

namespace Cert.OutBackReferenceIdeal.Plain

open Cert.OutBackReferenceIdeal Cert.OutBackReferenceIdeal.Gen Cert.OutBackReferenceIdeal.Read Idealize.ShloMosaic Idealize.ShloMosaic.ValueIdx
open Cert.KernelIdeal.Attn (at2 idx_at2)
open Cert.OutBackKernelIdeal.Whole (cot rowAt headAt term total)
open Cert.NormReferenceIdeal.Plain (first_zero)
open Cert.Row (IsReal)
open Cert.OutNormRow Cert.OutBackRow
open scoped BigOperators

variable (x0 : (⟨S8192x1024, .bf16⟩ : BufTy).Contents (Elt Ideal)) (x1 : (⟨S1024x1024, .bf16⟩ : BufTy).Contents (Elt Ideal))
  (x2 x3 : (⟨S8192x512, .f32⟩ : BufTy).Contents (Elt Ideal)) (x4 x5 : (⟨S1x512, .f32⟩ : BufTy).Contents (Elt Ideal))

theorem dot_eq (i : S8192x1024.Idx) : (val_main_v34 (F := Ideal) x0 x1 i : EReal)
    = ∑ k ∈ Finset.range 1024, at2 (a := 8192) (b := 1024) x0 (i 0).val k * at2 (a := 1024) (b := 1024) x1 (i 1).val k := by
  rw [val_main_v34_apply, Finset.sum_range]
  refine Finset.sum_congr rfl fun k _ => ?_
  refine congrArg₂ (fun p q : EReal => p * q) ?_ ?_
  · exact idx_at2 (a := 8192) (b := 1024) x0 _
  · exact idx_at2 (a := 1024) (b := 1024) x1 _

theorem cotL_eq (i : S8192x512.Idx) : (val_main_v35 (F := Ideal) x0 x1 i : EReal) = cot x0 x1 0 (i 0).val (i 1).val := by
  rw [val_main_v35_apply, dot_eq]
  unfold cot
  simp only [zero_add]

theorem meanL_eq (i : S8192x1.Idx) : (val_main_v6 (F := Ideal) x2 i : EReal) = meanW (at2 (a := 8192) (b := 512) x2 (i 0).val) := by
  have e : (val_main_v2 (F := Ideal) x2 i : EReal) = ∑ k ∈ Finset.range 512, at2 (a := 8192) (b := 512) x2 (i 0).val k * at2 (a := 8192) (b := 512) x2 (i 0).val k := by
    rw [val_main_v2_apply, val_main_v1_apply, Finset.sum_range]
    refine (first_zero (val_main_cst (F := Ideal)) (fun _ => rfl) _ _).trans (Finset.sum_congr rfl fun k _ => ?_)
    refine (val_main_v0_apply x2 _).trans ?_
    exact congrArg₂ (· * ·) (idx_at2 (a := 8192) (b := 512) x2 _) (idx_at2 (a := 8192) (b := 512) x2 _)
  unfold meanW
  rw [← e]
  rfl

theorem invL_eq (i : S8192x1.Idx) : (val_main_v7 (F := Ideal) x2 i : EReal) = invW (at2 (a := 8192) (b := 512) x2 (i 0).val) :=
  congrArg Ideal.rsqrt (meanL_eq x2 i)

theorem gainL_eq (i : S8192x512.Idx) : (val_main_v59 (F := Ideal) x4 i : EReal) = at2 (a := 1) (b := 512) x4 0 (i 1).val := by
  rw [val_main_v59_apply]
  exact idx_at2 (a := 1) (b := 512) x4 _

theorem unitL_eq (i : S8192x512.Idx) : (val_main_v12 (F := Ideal) x2 i : EReal)
    = at2 (a := 8192) (b := 512) x2 (i 0).val (i 1).val * invW (at2 (a := 8192) (b := 512) x2 (i 0).val) := by
  refine (val_main_v12_apply x2 i).trans ?_
  rw [val_main_v11_apply]
  exact congrArg₂ (fun p q : EReal => p * q) (idx_at2 (a := 8192) (b := 512) x2 i) (invL_eq x2 _)

/-- The weight's gradient. -/
theorem sumsL_eq (i : S1x512.Idx) : (val_main_v58 (F := Ideal) x0 x1 x2 i : EReal) = total x0 x1 x2 0 (i 1).val := by
  unfold total
  rw [val_main_v58_apply, val_main_v57_apply, Finset.sum_range]
  refine (first_zero (val_main_cst_11 (F := Ideal)) (fun _ => rfl) _ _).trans (Finset.sum_congr rfl fun k _ => ?_)
  refine (val_main_v56_apply x0 x1 x2 _).trans ?_
  unfold term
  rw [mul_comm (cot _ _ _ _ _)]
  refine (congrArg₂ (fun p q : EReal => p * q) (unitL_eq x2 (idx_main_v57 (idx_main_v58 i) k)) (cotL_eq x0 x1 (idx_main_v57 (idx_main_v58 i) k))).trans ?_
  have h0 : (i 0).val < 1 := (i 0).isLt
  exact congrArg (fun s : ℕ => at2 (a := 8192) (b := 512) x2 k.val s * invW (at2 (a := 8192) (b := 512) x2 k.val) * cot x0 x1 0 k.val s)
    (by omega : (i 0).val * 512 + (i 1).val = (i 1).val)

theorem bySqL_eq (i : S8192x512.Idx) : (val_main_v70 (F := Ideal) x0 x1 x2 x4 i : EReal)
    = bySqW (at2 (a := 8192) (b := 512) x2 (i 0).val) (cot x0 x1 0 (i 0).val) (at2 (a := 1) (b := 512) x4 0) := by
  rw [val_main_v70_apply, val_main_v69_apply]
  refine (first_zero (val_main_cst_14 (F := Ideal)) (fun _ => rfl) _ _).trans ?_
  rw [Fin.sum_univ_one]
  have e (j : S8192x1.Idx) : (val_main_v63 (F := Ideal) x0 x1 x2 x4 j : EReal)
      = ∑ k ∈ Finset.range 512, at2 (a := 8192) (b := 512) x2 (j 0).val k * (cot x0 x1 0 (j 0).val k * at2 (a := 1) (b := 512) x4 0 k) := by
    rw [val_main_v63_apply, val_main_v62_apply, Finset.sum_range]
    refine (first_zero (val_main_cst_12 (F := Ideal)) (fun _ => rfl) _ _).trans (Finset.sum_congr rfl fun k _ => ?_)
    refine (val_main_v61_apply x0 x1 x2 x4 _).trans ?_
    refine (congrArg₂ (fun p q : EReal => p * q) (idx_at2 (a := 8192) (b := 512) x2 (idx_main_v62 (idx_main_v63 j) k))
      (congrArg₂ (fun p q : EReal => p * q) (cotL_eq x0 x1 (idx_main_v62 (idx_main_v63 j) k)) (gainL_eq x4 (idx_main_v62 (idx_main_v63 j) k)))).trans ?_
    have h1 : (j 1).val < 1 := (j 1).isLt
    exact congrArg (fun s : ℕ => at2 (a := 8192) (b := 512) x2 s k.val * (cot x0 x1 0 s k.val * at2 (a := 1) (b := 512) x4 0 k.val))
      (by omega : (j 0).val * 1 + (j 1).val = (j 0).val)
  have f (j : S8192x1.Idx) : (val_main_v68 (F := Ideal) x0 x1 x2 x4 j : EReal)
      = bySqW (at2 (a := 8192) (b := 512) x2 (j 0).val) (cot x0 x1 0 (j 0).val) (at2 (a := 1) (b := 512) x4 0) := by
    unfold bySqW
    rw [← e, ← invL_eq, ← meanL_eq]
    rfl
  exact f _

/-- The rows' gradient. -/
theorem rowsL_eq (i : S8192x512.Idx) : (val_main_v74 (F := Ideal) x0 x1 x2 x4 i : EReal) = rowAt x0 x1 x2 x4 0 (i 0).val (i 1).val := by
  have hi : (val_main_v64 (F := Ideal) x2 i : EReal) = invW (at2 (a := 8192) (b := 512) x2 (i 0).val) := by
    rw [val_main_v64_apply]
    exact invL_eq x2 _
  refine Eq.trans ?_ (back_eq (at2 (a := 8192) (b := 512) x2 (i 0).val) (cot x0 x1 0 (i 0).val) (at2 (a := 1) (b := 512) x4 0) (j := (i 1).val) (i 1).isLt).symm
  unfold plainBack
  rw [← bySqL_eq, ← hi, ← gainL_eq x4 i, ← cotL_eq x0 x1 i]
  refine Eq.trans ?_ (congrArg (fun q : EReal => (val_main_v35 (F := Ideal) x0 x1 i : EReal) * (val_main_v59 (F := Ideal) x4 i : EReal) * (val_main_v64 (F := Ideal) x2 i : EReal)
      + q * (val_main_v70 (F := Ideal) x0 x1 x2 x4 i : EReal) + (val_main_v70 (F := Ideal) x0 x1 x2 x4 i : EReal) * q) (idx_at2 (a := 8192) (b := 512) x2 i))
  rfl

/-- The heads' sums. -/
theorem headsL_eq (i : S8192x8.Idx) : (val_main_v79 (F := Ideal) x0 x1 x2 x4 i : EReal) = headAt x0 x1 x2 x4 0 (i 0).val (i 1).val := by
  unfold headAt
  rw [val_main_v79_apply, Finset.sum_range]
  refine (first_zero (val_main_cst_15 (F := Ideal)) (fun _ => rfl) _ _).trans (Finset.sum_congr rfl fun k _ => ?_)
  rw [val_main_v78_apply]
  refine (val_main_v77_apply x0 x1 x2 x4 _).trans ?_
  refine (congrArg₂ (fun p q : EReal => p * q) (rowsL_eq x0 x1 x2 x4 (idx_main_v78 (idx_main_v79 i k))) (idx_at2 (a := 8192) (b := 512) x2 (idx_main_v78 (idx_main_v79 i k)))).trans ?_
  have h0 : (i 1).val < 8 := (i 1).isLt
  have h1 := k.isLt
  exact congrArg₂ (fun r s : ℕ => rowAt x0 x1 x2 x4 0 r s * at2 (a := 8192) (b := 512) x2 r s)
    (by omega : (((i 0).val * 8 + (i 1).val) * 64 + k.val) / 512 = (i 0).val) (by omega : (((i 0).val * 8 + (i 1).val) * 64 + k.val) % 512 = 64 * (i 1).val + k.val)

theorem cotR_eq (i : S8192x512.Idx) : (val_main_v36 (F := Ideal) x0 x1 i : EReal) = cot x0 x1 512 (i 0).val (i 1).val := by
  rw [val_main_v36_apply, dot_eq]
  unfold cot
  rfl

theorem meanR_eq (i : S8192x1.Idx) : (val_main_v21 (F := Ideal) x3 i : EReal) = meanW (at2 (a := 8192) (b := 512) x3 (i 0).val) := by
  have e : (val_main_v17 (F := Ideal) x3 i : EReal) = ∑ k ∈ Finset.range 512, at2 (a := 8192) (b := 512) x3 (i 0).val k * at2 (a := 8192) (b := 512) x3 (i 0).val k := by
    rw [val_main_v17_apply, val_main_v16_apply, Finset.sum_range]
    refine (first_zero (val_main_cst_3 (F := Ideal)) (fun _ => rfl) _ _).trans (Finset.sum_congr rfl fun k _ => ?_)
    refine (val_main_v15_apply x3 _).trans ?_
    exact congrArg₂ (· * ·) (idx_at2 (a := 8192) (b := 512) x3 _) (idx_at2 (a := 8192) (b := 512) x3 _)
  unfold meanW
  rw [← e]
  rfl

theorem invR_eq (i : S8192x1.Idx) : (val_main_v22 (F := Ideal) x3 i : EReal) = invW (at2 (a := 8192) (b := 512) x3 (i 0).val) :=
  congrArg Ideal.rsqrt (meanR_eq x3 i)

theorem gainR_eq (i : S8192x512.Idx) : (val_main_v40 (F := Ideal) x5 i : EReal) = at2 (a := 1) (b := 512) x5 0 (i 1).val := by
  rw [val_main_v40_apply]
  exact idx_at2 (a := 1) (b := 512) x5 _

theorem unitR_eq (i : S8192x512.Idx) : (val_main_v27 (F := Ideal) x3 i : EReal)
    = at2 (a := 8192) (b := 512) x3 (i 0).val (i 1).val * invW (at2 (a := 8192) (b := 512) x3 (i 0).val) := by
  refine (val_main_v27_apply x3 i).trans ?_
  rw [val_main_v26_apply]
  exact congrArg₂ (fun p q : EReal => p * q) (idx_at2 (a := 8192) (b := 512) x3 i) (invR_eq x3 _)

/-- The weight's gradient. -/
theorem sumsR_eq (i : S1x512.Idx) : (val_main_v39 (F := Ideal) x0 x1 x3 i : EReal) = total x0 x1 x3 512 (i 1).val := by
  unfold total
  rw [val_main_v39_apply, val_main_v38_apply, Finset.sum_range]
  refine (first_zero (val_main_cst_7 (F := Ideal)) (fun _ => rfl) _ _).trans (Finset.sum_congr rfl fun k _ => ?_)
  refine (val_main_v37_apply x0 x1 x3 _).trans ?_
  unfold term
  rw [mul_comm (cot _ _ _ _ _)]
  refine (congrArg₂ (fun p q : EReal => p * q) (unitR_eq x3 (idx_main_v38 (idx_main_v39 i) k)) (cotR_eq x0 x1 (idx_main_v38 (idx_main_v39 i) k))).trans ?_
  have h0 : (i 0).val < 1 := (i 0).isLt
  exact congrArg (fun s : ℕ => at2 (a := 8192) (b := 512) x3 k.val s * invW (at2 (a := 8192) (b := 512) x3 k.val) * cot x0 x1 512 k.val s)
    (by omega : (i 0).val * 512 + (i 1).val = (i 1).val)

theorem bySqR_eq (i : S8192x512.Idx) : (val_main_v51 (F := Ideal) x0 x1 x3 x5 i : EReal)
    = bySqW (at2 (a := 8192) (b := 512) x3 (i 0).val) (cot x0 x1 512 (i 0).val) (at2 (a := 1) (b := 512) x5 0) := by
  rw [val_main_v51_apply, val_main_v50_apply]
  refine (first_zero (val_main_cst_10 (F := Ideal)) (fun _ => rfl) _ _).trans ?_
  rw [Fin.sum_univ_one]
  have e (j : S8192x1.Idx) : (val_main_v44 (F := Ideal) x0 x1 x3 x5 j : EReal)
      = ∑ k ∈ Finset.range 512, at2 (a := 8192) (b := 512) x3 (j 0).val k * (cot x0 x1 512 (j 0).val k * at2 (a := 1) (b := 512) x5 0 k) := by
    rw [val_main_v44_apply, val_main_v43_apply, Finset.sum_range]
    refine (first_zero (val_main_cst_8 (F := Ideal)) (fun _ => rfl) _ _).trans (Finset.sum_congr rfl fun k _ => ?_)
    refine (val_main_v42_apply x0 x1 x3 x5 _).trans ?_
    refine (congrArg₂ (fun p q : EReal => p * q) (idx_at2 (a := 8192) (b := 512) x3 (idx_main_v43 (idx_main_v44 j) k))
      (congrArg₂ (fun p q : EReal => p * q) (cotR_eq x0 x1 (idx_main_v43 (idx_main_v44 j) k)) (gainR_eq x5 (idx_main_v43 (idx_main_v44 j) k)))).trans ?_
    have h1 : (j 1).val < 1 := (j 1).isLt
    exact congrArg (fun s : ℕ => at2 (a := 8192) (b := 512) x3 s k.val * (cot x0 x1 512 s k.val * at2 (a := 1) (b := 512) x5 0 k.val))
      (by omega : (j 0).val * 1 + (j 1).val = (j 0).val)
  have f (j : S8192x1.Idx) : (val_main_v49 (F := Ideal) x0 x1 x3 x5 j : EReal)
      = bySqW (at2 (a := 8192) (b := 512) x3 (j 0).val) (cot x0 x1 512 (j 0).val) (at2 (a := 1) (b := 512) x5 0) := by
    unfold bySqW
    rw [← e, ← invR_eq, ← meanR_eq]
    rfl
  exact f _

/-- The rows' gradient. -/
theorem rowsR_eq (i : S8192x512.Idx) : (val_main_v55 (F := Ideal) x0 x1 x3 x5 i : EReal) = rowAt x0 x1 x3 x5 512 (i 0).val (i 1).val := by
  have hi : (val_main_v45 (F := Ideal) x3 i : EReal) = invW (at2 (a := 8192) (b := 512) x3 (i 0).val) := by
    rw [val_main_v45_apply]
    exact invR_eq x3 _
  refine Eq.trans ?_ (back_eq (at2 (a := 8192) (b := 512) x3 (i 0).val) (cot x0 x1 512 (i 0).val) (at2 (a := 1) (b := 512) x5 0) (j := (i 1).val) (i 1).isLt).symm
  unfold plainBack
  rw [← bySqR_eq, ← hi, ← gainR_eq x5 i, ← cotR_eq x0 x1 i]
  refine Eq.trans ?_ (congrArg (fun q : EReal => (val_main_v36 (F := Ideal) x0 x1 i : EReal) * (val_main_v40 (F := Ideal) x5 i : EReal) * (val_main_v45 (F := Ideal) x3 i : EReal)
      + q * (val_main_v51 (F := Ideal) x0 x1 x3 x5 i : EReal) + (val_main_v51 (F := Ideal) x0 x1 x3 x5 i : EReal) * q) (idx_at2 (a := 8192) (b := 512) x3 i))
  rfl

/-- The heads' sums. -/
theorem headsR_eq (i : S8192x8.Idx) : (val_main_v82 (F := Ideal) x0 x1 x3 x5 i : EReal) = headAt x0 x1 x3 x5 512 (i 0).val (i 1).val := by
  unfold headAt
  rw [val_main_v82_apply, Finset.sum_range]
  refine (first_zero (val_main_cst_16 (F := Ideal)) (fun _ => rfl) _ _).trans (Finset.sum_congr rfl fun k _ => ?_)
  rw [val_main_v81_apply]
  refine (val_main_v80_apply x0 x1 x3 x5 _).trans ?_
  refine (congrArg₂ (fun p q : EReal => p * q) (rowsR_eq x0 x1 x3 x5 (idx_main_v81 (idx_main_v82 i k))) (idx_at2 (a := 8192) (b := 512) x3 (idx_main_v81 (idx_main_v82 i k)))).trans ?_
  have h0 : (i 1).val < 8 := (i 1).isLt
  have h1 := k.isLt
  exact congrArg₂ (fun r s : ℕ => rowAt x0 x1 x3 x5 512 r s * at2 (a := 8192) (b := 512) x3 r s)
    (by omega : (((i 0).val * 8 + (i 1).val) * 64 + k.val) / 512 = (i 0).val) (by omega : (((i 0).val * 8 + (i 1).val) * 64 + k.val) % 512 = 64 * (i 1).val + k.val)

/-- Of numbers, the products that the heads add up are numbers. -/
theorem prod_real {w : (⟨2, ![1024, 1024]⟩ : Shape).Idx → EReal} {y : (⟨2, ![8192, 1024]⟩ : Shape).Idx → EReal}
    {x : (⟨2, ![8192, 512]⟩ : Shape).Idx → EReal} {g : (⟨2, ![1, 512]⟩ : Shape).Idx → EReal}
    (hy : ∀ i, IsReal (y i)) (hw : ∀ i, IsReal (w i)) (hx : ∀ i, IsReal (x i)) (hg : ∀ i, IsReal (g i)) (o r j : ℕ) :
    IsReal (rowAt y w x g o r j * at2 (a := 8192) (b := 512) x r j) :=
  (back_real (fun k => Cert.ReferenceIdeal.Plain.at2_real x hx r k)
    (fun k => IsReal.sum (n := 1024) fun l _ => (Cert.ReferenceIdeal.Plain.at2_real y hy r l).mul (Cert.ReferenceIdeal.Plain.at2_real w hw (o + k) l))
    (fun k => Cert.ReferenceIdeal.Plain.at2_real g hg 0 k) j).mul (Cert.ReferenceIdeal.Plain.at2_real x hx r j)

end Cert.OutBackReferenceIdeal.Plain

end
-- ==== Proof.Ffn.FiniteOut.lean ====
/-
  The precondition of one program, `finite_out`: where it reads all ones, every element of the arguments is a real number.
-/
module

public import proofs.«01_k».proof.Pre_finite_out
public import proofs.«01_k».proof.Proof.Ffn.Swish

@[expose] public section

noncomputable section

namespace Cert.Pre_finite_out.Plain

open Cert.Pre_finite_out Idealize.ShloMosaic
open Cert.Row (IsReal)
open Cert.Pre_finite.Plain (and_one reduce_one elem)
open Cert.Pre (elem32)

instance facts : Cert.Pre_finite_out.Facts where
  bitsLt_bf16_f32 := by decide
  bcast_S_S8192x1024 := by decide
  reducesTo_S8192x1024_S_d0_1 := by decide
  h_S_ := by decide
  bcast_S_S1024x1024 := by decide
  reducesTo_S1024x1024_S_d0_1 := by decide
  bcast_S_S8192x512 := by decide
  reducesTo_S8192x512_S_d0_1 := by decide
  bcast_S_S1x512 := by decide
  reducesTo_S1x512_S_d0_1 := by decide

theorem real (x0 : FVec Ideal S8192x1024 .bf16) (x1 : FVec Ideal S1024x1024 .bf16) (x2 : FVec Ideal S8192x512 .f32) (x3 : FVec Ideal S8192x512 .f32) (x4 : FVec Ideal S1x512 .f32) (x5 : FVec Ideal S1x512 .f32)
    (h : fn (F := Ideal) x0 x1 x2 x3 x4 x5 = fun _ => 1#1) :
    (∀ i, IsReal (x0 i : EReal))
      ∧ (∀ i, IsReal (x1 i : EReal))
      ∧ (∀ i, IsReal (x2 i : EReal))
      ∧ (∀ i, IsReal (x3 i : EReal))
      ∧ (∀ i, IsReal (x4 i : EReal))
      ∧ (∀ i, IsReal (x5 i : EReal)) := by
  have h0 := congrFun h (Shape.Idx.first (Facts.h_S_))
  unfold fn fn_part1 at h0
  obtain ⟨h1, e5⟩ := and_one h0
  obtain ⟨h2, e4⟩ := and_one h1
  obtain ⟨h3, e3⟩ := and_one h2
  obtain ⟨h4, e2⟩ := and_one h3
  obtain ⟨e0, e1⟩ := and_one h4
  exact ⟨fun i => elem Facts.bcast_S_S8192x1024 x0 Facts.bitsLt_bf16_f32 i (reduce_one _ _ Facts.reducesTo_S8192x1024_S_d0_1 Facts.h_S_ _ e0 i),
    fun i => elem Facts.bcast_S_S1024x1024 x1 Facts.bitsLt_bf16_f32 i (reduce_one _ _ Facts.reducesTo_S1024x1024_S_d0_1 Facts.h_S_ _ e1 i),
    fun i => elem32 Facts.bcast_S_S8192x512 x2 i (reduce_one _ _ Facts.reducesTo_S8192x512_S_d0_1 Facts.h_S_ _ e2 i),
    fun i => elem32 Facts.bcast_S_S8192x512 x3 i (reduce_one _ _ Facts.reducesTo_S8192x512_S_d0_1 Facts.h_S_ _ e3 i),
    fun i => elem32 Facts.bcast_S_S1x512 x4 i (reduce_one _ _ Facts.reducesTo_S1x512_S_d0_1 Facts.h_S_ _ e4 i),
    fun i => elem32 Facts.bcast_S_S1x512 x5 i (reduce_one _ _ Facts.reducesTo_S1x512_S_d0_1 Facts.h_S_ _ e5 i)⟩

end Cert.Pre_finite_out.Plain

end
-- ==== Proof.Ffn.OutBackClaims.lean ====
/-
  The claims of the gradient through the output projection and the mixers' norms.
-/
module

public import proofs.«01_k».proof.Defs
public import proofs.«01_k».proof.Proof.Gen.OutBackKernel
public import proofs.«01_k».proof.Proof.Gen.OutBackKernelIdeal
public import proofs.«01_k».proof.Proof.Gen.OutBackReferenceIdeal
public import proofs.«01_k».proof.Proof.Gen.OutBackReferenceIdeal.Run
public import proofs.«01_k».proof.Proof.Ffn.OutBackPlain
public import proofs.«01_k».proof.Proof.Ffn.FiniteOut
public import Idealize.ShloMosaic.Lib.Quiescent
public import Idealize.ShloMosaic.Adequacy
public import Idealize.ShloMosaic.Init

@[expose] public section

noncomputable section

namespace Cert.OutBackClaims

open Idealize.ShloMosaic Idealize.SL.Sem
open Idealize.ShloMosaic.TcCoe
open Cert.OutBackKernelIdeal (cfg0 nD τ sig main_arg0 main_arg1 main_arg2 main_arg3 main_arg4 main_arg5)
open Cert.OutBackKernelIdeal.Gen Cert.OutBackKernelIdeal.Value

attribute [local instance] Cert.OutBackKernel.Gen.facts Cert.OutBackKernelIdeal.Gen.facts Cert.OutBackReferenceIdeal.Gen.facts

/-- The plain program has no semaphores; its run leaves its arguments as they were. -/
theorem frame_reference : Cert.quiescent_OutBackReferenceIdeal := fun m g _ =>
  (θ_run _ _ _).monotone (fun r h => ⟨fun c => (h c).2.2.2.2.2.2, sem_eq_zero_of_no_sems (by decide) r.2⟩) (Cert.OutBackReferenceIdeal.Value.run m g)

variable (m : (ℓ : Loc nD τ sig) → Buf (Elt Ideal) ℓ) (c : Dev nD)

theorem out6 : Cert.OutBackReferenceIdeal.Read.val_main_v75 (F := Ideal) (m ((c : Thread nD τ).loc main_arg0)) (m ((c : Thread nD τ).loc main_arg1)) (m ((c : Thread nD τ).loc main_arg2)) (m ((c : Thread nD τ).loc main_arg4)) = (dats m 0 c).arrAt 6 cfg0.N := by
  refine Eq.trans ?_ (Cert.OutBackKernelIdeal.Whole.final6 m c).symm
  funext i
  exact Cert.OutBackReferenceIdeal.Plain.rowsL_eq _ _ _ _ i

theorem out7 : Cert.OutBackReferenceIdeal.Read.val_main_v76 (F := Ideal) (m ((c : Thread nD τ).loc main_arg0)) (m ((c : Thread nD τ).loc main_arg1)) (m ((c : Thread nD τ).loc main_arg3)) (m ((c : Thread nD τ).loc main_arg5)) = (dats m 0 c).arrAt 7 cfg0.N := by
  refine Eq.trans ?_ (Cert.OutBackKernelIdeal.Whole.final7 m c).symm
  funext i
  exact Cert.OutBackReferenceIdeal.Plain.rowsR_eq _ _ _ _ i

theorem out8
    (h : Cert.Pre_finite_out.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) : Cert.OutBackReferenceIdeal.Read.val_main_v79 (F := Ideal) (m ((c : Thread nD τ).loc main_arg0)) (m ((c : Thread nD τ).loc main_arg1)) (m ((c : Thread nD τ).loc main_arg2)) (m ((c : Thread nD τ).loc main_arg4)) = (dats m 0 c).arrAt 8 cfg0.N := by
  obtain ⟨h0, h1, h2, h3, h4, h5⟩ := Cert.Pre_finite_out.Plain.real _ _ _ _ _ _ h
  refine Eq.trans ?_ (Cert.OutBackKernelIdeal.Whole.final8 m c (Cert.OutBackReferenceIdeal.Plain.prod_real h0 h1 h2 h4 0)).symm
  funext i
  exact Cert.OutBackReferenceIdeal.Plain.headsL_eq _ _ _ _ i

theorem out9
    (h : Cert.Pre_finite_out.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) : Cert.OutBackReferenceIdeal.Read.val_main_v82 (F := Ideal) (m ((c : Thread nD τ).loc main_arg0)) (m ((c : Thread nD τ).loc main_arg1)) (m ((c : Thread nD τ).loc main_arg3)) (m ((c : Thread nD τ).loc main_arg5)) = (dats m 0 c).arrAt 9 cfg0.N := by
  obtain ⟨h0, h1, h2, h3, h4, h5⟩ := Cert.Pre_finite_out.Plain.real _ _ _ _ _ _ h
  refine Eq.trans ?_ (Cert.OutBackKernelIdeal.Whole.final9 m c (Cert.OutBackReferenceIdeal.Plain.prod_real h0 h1 h3 h5 512)).symm
  funext i
  exact Cert.OutBackReferenceIdeal.Plain.headsR_eq _ _ _ _ i

theorem out10 : Cert.OutBackReferenceIdeal.Read.val_main_v58 (F := Ideal) (m ((c : Thread nD τ).loc main_arg0)) (m ((c : Thread nD τ).loc main_arg1)) (m ((c : Thread nD τ).loc main_arg2)) = (dats m 0 c).arrAt 10 cfg0.N := by
  refine Eq.trans ?_ (Cert.OutBackKernelIdeal.Whole.final10 m c).symm
  funext i
  exact Cert.OutBackReferenceIdeal.Plain.sumsL_eq _ _ _ i

theorem out11 : Cert.OutBackReferenceIdeal.Read.val_main_v39 (F := Ideal) (m ((c : Thread nD τ).loc main_arg0)) (m ((c : Thread nD τ).loc main_arg1)) (m ((c : Thread nD τ).loc main_arg3)) = (dats m 0 c).arrAt 11 cfg0.N := by
  refine Eq.trans ?_ (Cert.OutBackKernelIdeal.Whole.final11 m c).symm
  funext i
  exact Cert.OutBackReferenceIdeal.Plain.sumsR_eq _ _ _ i

theorem value : Cert.algebraic_OutBackKernelIdeal_OutBackReferenceIdeal_pre_finite_out := by
  intro m g m' g' hp ha
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, run_blocks m g, ?_⟩
  refine (θ_run _ _ _).monotone (fun r h c => ?_) (Cert.OutBackReferenceIdeal.Value.run m' g')
  obtain ⟨a0, a1, a2, a3, a4, a5⟩ := ha c
  obtain ⟨h0, h1, h2, h3, h4, h5, h6⟩ := h c
  rw [Cert.OutBackReferenceIdeal.Read.val_main_v75_eq, a0, a1, a2, a4] at h0
  rw [Cert.OutBackReferenceIdeal.Read.val_main_v76_eq, a0, a1, a3, a5] at h1
  rw [Cert.OutBackReferenceIdeal.Read.val_main_v79_eq, a0, a1, a2, a4] at h2
  rw [Cert.OutBackReferenceIdeal.Read.val_main_v82_eq, a0, a1, a3, a5] at h3
  rw [Cert.OutBackReferenceIdeal.Read.val_main_v58_eq, a0, a1, a2] at h4
  rw [Cert.OutBackReferenceIdeal.Read.val_main_v39_eq, a0, a1, a3] at h5
  exact ⟨h0.trans (out6 m c), h1.trans (out7 m c), h2.trans (out8 m c (hp c)), h3.trans (out9 m c (hp c)), h4.trans (out10 m c), h5.trans (out11 m c), h6⟩

end Cert.OutBackClaims

end
-- ==== Proof.lean ====
/-
  The claims of all programs, and the proofs of the attention's: the frames, what the ideal kernel's named constant stands for, and that kernel
  and plain program end with the same four arrays when the arguments have no infinities.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Attn.ResultsKV
public import proofs.«01_k».proof.Proof.Attn.Finite
public import proofs.«01_k».proof.Proof.Gen.UpKernel.Frame
public import proofs.«01_k».proof.Proof.Gen.UpKernelIdeal.Frame
public import proofs.«01_k».proof.Proof.Ffn.UpClaims
public import proofs.«01_k».proof.Proof.Gen.DownKernel.Frame
public import proofs.«01_k».proof.Proof.Gen.DownKernelIdeal.Frame
public import proofs.«01_k».proof.Proof.Ffn.DownClaims
public import proofs.«01_k».proof.Proof.Gen.WeightKernel.Frame
public import proofs.«01_k».proof.Proof.Gen.WeightKernelIdeal.Frame
public import proofs.«01_k».proof.Proof.Ffn.WeightClaims
public import proofs.«01_k».proof.Proof.Gen.NormKernel.Frame
public import proofs.«01_k».proof.Proof.Gen.NormKernelIdeal.Frame
public import proofs.«01_k».proof.Proof.Ffn.NormClaims
public import proofs.«01_k».proof.Proof.Gen.GateWeightKernel.Frame
public import proofs.«01_k».proof.Proof.Gen.GateWeightKernelIdeal.Frame
public import proofs.«01_k».proof.Proof.Ffn.GateWeightClaims
public import proofs.«01_k».proof.Proof.Gen.UpWeightKernel.Frame
public import proofs.«01_k».proof.Proof.Gen.UpWeightKernelIdeal.Frame
public import proofs.«01_k».proof.Proof.Ffn.UpWeightClaims
public import proofs.«01_k».proof.Proof.Gen.InWeightKernel.Frame
public import proofs.«01_k».proof.Proof.Gen.InWeightKernelIdeal.Frame
public import proofs.«01_k».proof.Proof.Ffn.InWeightClaims
public import proofs.«01_k».proof.Proof.Gen.OutWeightKernel.Frame
public import proofs.«01_k».proof.Proof.Gen.OutWeightKernelIdeal.Frame
public import proofs.«01_k».proof.Proof.Ffn.OutWeightClaims
public import proofs.«01_k».proof.Proof.Gen.InKernel.Frame
public import proofs.«01_k».proof.Proof.Gen.InKernelIdeal.Frame
public import proofs.«01_k».proof.Proof.Ffn.InClaims
public import proofs.«01_k».proof.Proof.Gen.LossKernel.Frame
public import proofs.«01_k».proof.Proof.Gen.LossKernelIdeal.Frame
public import proofs.«01_k».proof.Proof.Ffn.LossClaims
public import proofs.«01_k».proof.Proof.Gen.LatentKernel.Frame
public import proofs.«01_k».proof.Proof.Gen.LatentKernelIdeal.Frame
public import proofs.«01_k».proof.Proof.Ffn.LatentClaims
public import proofs.«01_k».proof.Proof.Gen.LatentWeightKernel.Frame
public import proofs.«01_k».proof.Proof.Gen.LatentWeightKernelIdeal.Frame
public import proofs.«01_k».proof.Proof.Ffn.LatentWeightClaims
public import proofs.«01_k».proof.Proof.Gen.NopeWeightKernel.Frame
public import proofs.«01_k».proof.Proof.Gen.NopeWeightKernelIdeal.Frame
public import proofs.«01_k».proof.Proof.Ffn.NopeWeightClaims
public import proofs.«01_k».proof.Proof.Gen.RopeWeightKernel.Frame
public import proofs.«01_k».proof.Proof.Gen.RopeWeightKernelIdeal.Frame
public import proofs.«01_k».proof.Proof.Ffn.RopeWeightClaims
public import proofs.«01_k».proof.Proof.Gen.KvWeightKernel.Frame
public import proofs.«01_k».proof.Proof.Gen.KvWeightKernelIdeal.Frame
public import proofs.«01_k».proof.Proof.Ffn.KvWeightClaims
public import proofs.«01_k».proof.Proof.Gen.OutNormKernel.Frame
public import proofs.«01_k».proof.Proof.Gen.OutNormKernelIdeal.Frame
public import proofs.«01_k».proof.Proof.Ffn.OutNormClaims
public import proofs.«01_k».proof.Proof.Gen.OutBackKernel.Frame
public import proofs.«01_k».proof.Proof.Gen.OutBackKernelIdeal.Frame
public import proofs.«01_k».proof.Proof.Ffn.OutBackClaims
public import Idealize.ShloMosaic.Lib.Quiescent
public import Idealize.ShloMosaic.Adequacy
public import Idealize.ShloMosaic.Init

@[expose] public section

noncomputable section

namespace Cert.Proof

open Idealize.ShloMosaic Idealize.SL.Sem
open Idealize.ShloMosaic.TcCoe
open Cert.KernelIdeal (cfg0 nD τ sig main_arg0 main_arg1 main_arg2 main_arg3)
open Cert.KernelIdeal.Attn Cert.KernelIdeal.Gen Cert.KernelIdeal.Value

attribute [local instance] Cert.Kernel.Gen.facts Cert.KernelIdeal.Gen.facts Cert.ReferenceIdeal.Gen.facts

/-- The plain program has no semaphores; its run leaves its arguments as they were. -/
theorem frame_reference : Cert.quiescent_ReferenceIdeal := fun m g _ =>
  (θ_run _ _ _).monotone (fun r h => ⟨fun c => (h c).2.2.2.2, sem_eq_zero_of_no_sems (by decide) r.2⟩) (Cert.ReferenceIdeal.Value.run m g)

section
variable (m : (ℓ : Loc nD τ sig) → Buf (Elt Ideal) ℓ) (c : Dev nD)

/-- The arrays that the launch is given are the arguments and the host code's two saved rows. -/
theorem arrs_saved : arrs m c = Cert.ReferenceIdeal.Plain.saved
    (m ((c : Thread nD τ).loc main_arg0))
    (m ((c : Thread nD τ).loc main_arg1))
    (m ((c : Thread nD τ).loc main_arg2))
    (m ((c : Thread nD τ).loc main_arg3)) := by
  unfold arrs
  rw [V_main_arg0, V_main_arg1, V_main_arg2, V_main_arg3, Cert.KernelIdeal.Stats.read_logTotal, Cert.KernelIdeal.Stats.read_corrRows]
  rfl

variable (h : Cert.Pre_finite.fn (F := Ideal)
      (m ((c : Thread nD τ).loc main_arg0))
      (m ((c : Thread nD τ).loc main_arg1))
      (m ((c : Thread nD τ).loc main_arg2))
      (m ((c : Thread nD τ).loc main_arg3)) = fun _ => 1#1)
include h

theorem query : Cert.ReferenceIdeal.Read.val_main_v107 (F := Ideal)
      (m ((c : Thread nD τ).loc main_arg0))
      (m ((c : Thread nD τ).loc main_arg1))
      (m ((c : Thread nD τ).loc main_arg2))
      (m ((c : Thread nD τ).loc main_arg3))
    = (dats m 0 c).arrAt 7 cfg0.N := by
  rw [final7, arrs_saved]
  funext i
  exact Cert.ReferenceIdeal.Plain.result_query (Cert.Pre_finite.Plain.real4 _ _ _ _ h) i

theorem key_value : Cert.ReferenceIdeal.Read.val_main_v108 (F := Ideal)
      (m ((c : Thread nD τ).loc main_arg0))
      (m ((c : Thread nD τ).loc main_arg1))
      (m ((c : Thread nD τ).loc main_arg2))
      (m ((c : Thread nD τ).loc main_arg3))
    = (dats m 0 c).arrAt 8 cfg0.N := by
  rw [final8, arrs_saved]
  funext i
  exact Cert.ReferenceIdeal.Plain.result_kv (Cert.Pre_finite.Plain.real4 _ _ _ _ h) i

theorem rope_query : Cert.ReferenceIdeal.Read.val_main_v104 (F := Ideal)
      (m ((c : Thread nD τ).loc main_arg0))
      (m ((c : Thread nD τ).loc main_arg1))
      (m ((c : Thread nD τ).loc main_arg2))
      (m ((c : Thread nD τ).loc main_arg3))
    = (dats m 0 c).arrAt 9 cfg0.N := by
  rw [final9, arrs_saved]
  funext i
  exact Cert.ReferenceIdeal.Plain.result_rope_query (Cert.Pre_finite.Plain.real4 _ _ _ _ h) i

theorem rope_key : Cert.ReferenceIdeal.Read.val_main_v101 (F := Ideal)
      (m ((c : Thread nD τ).loc main_arg0))
      (m ((c : Thread nD τ).loc main_arg1))
      (m ((c : Thread nD τ).loc main_arg2))
      (m ((c : Thread nD τ).loc main_arg3))
    = (dats m 0 c).arrAt 10 cfg0.N := by
  rw [final10, arrs_saved]
  funext i
  exact Cert.ReferenceIdeal.Plain.result_rope_key (Cert.Pre_finite.Plain.real4 _ _ _ _ h) i

end

theorem value : Cert.algebraic_KernelIdeal_ReferenceIdeal_pre_finite := by
  intro m g m' g' hp ha
  refine ⟨fun c => (dats m 0 c).arrAt 7 cfg0.N, fun c => (dats m 0 c).arrAt 8 cfg0.N, fun c => (dats m 0 c).arrAt 9 cfg0.N,
    fun c => (dats m 0 c).arrAt 10 cfg0.N, run_blocks m g, ?_⟩
  refine (θ_run _ _ _).monotone (fun r h c => ?_) (Cert.ReferenceIdeal.Value.run m' g')
  obtain ⟨a0, a1, a2, a3⟩ := ha c
  obtain ⟨h0, h1, h2, h3, h4⟩ := h c
  rw [Cert.ReferenceIdeal.Read.val_main_v107_eq, a0, a1, a2, a3] at h0
  rw [Cert.ReferenceIdeal.Read.val_main_v108_eq, a0, a1, a2, a3] at h1
  rw [Cert.ReferenceIdeal.Read.val_main_v104_eq, a0, a1, a2, a3] at h2
  rw [Cert.ReferenceIdeal.Read.val_main_v101_eq, a0, a1, a2, a3] at h3
  exact ⟨h0.trans (query m c (hp c)), h1.trans (key_value m c (hp c)), h2.trans (rope_query m c (hp c)), h3.trans (rope_key m c (hp c)), h4⟩

theorem claim : Cert.Claim :=
  ⟨Kernel.Gen.facts, KernelIdeal.Gen.facts, ReferenceIdeal.Gen.facts, UpKernel.Gen.facts, UpKernelIdeal.Gen.facts, UpReferenceIdeal.Gen.facts, DownKernel.Gen.facts, DownKernelIdeal.Gen.facts, DownReferenceIdeal.Gen.facts, WeightKernel.Gen.facts, WeightKernelIdeal.Gen.facts, WeightReferenceIdeal.Gen.facts, NormKernel.Gen.facts, NormKernelIdeal.Gen.facts, NormReferenceIdeal.Gen.facts, GateWeightKernel.Gen.facts, GateWeightKernelIdeal.Gen.facts, GateWeightReferenceIdeal.Gen.facts, UpWeightKernel.Gen.facts, UpWeightKernelIdeal.Gen.facts, UpWeightReferenceIdeal.Gen.facts, InWeightKernel.Gen.facts, InWeightKernelIdeal.Gen.facts, InWeightReferenceIdeal.Gen.facts, OutWeightKernel.Gen.facts, OutWeightKernelIdeal.Gen.facts, OutWeightReferenceIdeal.Gen.facts, InKernel.Gen.facts, InKernelIdeal.Gen.facts, InReferenceIdeal.Gen.facts, LossKernel.Gen.facts, LossKernelIdeal.Gen.facts, LossReferenceIdeal.Gen.facts, LatentKernel.Gen.facts, LatentKernelIdeal.Gen.facts, LatentReferenceIdeal.Gen.facts, LatentWeightKernel.Gen.facts, LatentWeightKernelIdeal.Gen.facts, LatentWeightReferenceIdeal.Gen.facts, NopeWeightKernel.Gen.facts, NopeWeightKernelIdeal.Gen.facts, NopeWeightReferenceIdeal.Gen.facts, RopeWeightKernel.Gen.facts, RopeWeightKernelIdeal.Gen.facts, RopeWeightReferenceIdeal.Gen.facts, KvWeightKernel.Gen.facts, KvWeightKernelIdeal.Gen.facts, KvWeightReferenceIdeal.Gen.facts, OutNormKernel.Gen.facts, OutNormKernelIdeal.Gen.facts, OutNormReferenceIdeal.Gen.facts, OutBackKernel.Gen.facts, OutBackKernelIdeal.Gen.facts, OutBackReferenceIdeal.Gen.facts, Pre_finite.Plain.facts, Pre_finite_up.Plain.facts, Pre_finite_down.Plain.facts, Pre_finite_out.Plain.facts,
    fun m g _ => Kernel.Gen.frame m g,
    fun m g _ => KernelIdeal.Gen.frame m g,
    fun m g _ => KernelIdeal.Gen.frame m g,
    fun m g _ => frame_reference m g trivial,
    fun m g _ => frame_reference m g trivial,
    fun m g _ => UpKernel.Gen.frame m g,
    fun m g _ => UpKernelIdeal.Gen.frame m g,
    fun m g _ => UpKernelIdeal.Gen.frame m g,
    fun m g _ => UpClaims.frame_reference m g trivial,
    fun m g _ => UpClaims.frame_reference m g trivial,
    fun m g _ => DownKernel.Gen.frame m g,
    fun m g _ => DownKernelIdeal.Gen.frame m g,
    fun m g _ => DownKernelIdeal.Gen.frame m g,
    fun m g _ => DownClaims.frame_reference m g trivial,
    fun m g _ => DownClaims.frame_reference m g trivial,
    fun m g _ => WeightKernel.Gen.frame m g,
    fun m g _ => WeightKernelIdeal.Gen.frame m g,
    fun m g _ => WeightClaims.frame_reference m g trivial,
    fun m g _ => NormKernel.Gen.frame m g,
    fun m g _ => NormKernelIdeal.Gen.frame m g,
    fun m g _ => NormClaims.frame_reference m g trivial,
    fun m g _ => GateWeightKernel.Gen.frame m g,
    fun m g _ => GateWeightKernelIdeal.Gen.frame m g,
    fun m g _ => GateWeightClaims.frame_reference m g trivial,
    fun m g _ => UpWeightKernel.Gen.frame m g,
    fun m g _ => UpWeightKernelIdeal.Gen.frame m g,
    fun m g _ => UpWeightClaims.frame_reference m g trivial,
    fun m g _ => InWeightKernel.Gen.frame m g,
    fun m g _ => InWeightKernelIdeal.Gen.frame m g,
    fun m g _ => InWeightClaims.frame_reference m g trivial,
    fun m g _ => OutWeightKernel.Gen.frame m g,
    fun m g _ => OutWeightKernelIdeal.Gen.frame m g,
    fun m g _ => OutWeightClaims.frame_reference m g trivial,
    fun m g _ => InKernel.Gen.frame m g,
    fun m g _ => InKernelIdeal.Gen.frame m g,
    fun m g _ => InClaims.frame_reference m g trivial,
    fun m g _ => LossKernel.Gen.frame m g,
    fun m g _ => LossKernelIdeal.Gen.frame m g,
    fun m g _ => LossClaims.frame_reference m g trivial,
    fun m g _ => LatentKernel.Gen.frame m g,
    fun m g _ => LatentKernelIdeal.Gen.frame m g,
    fun m g _ => LatentClaims.frame_reference m g trivial,
    fun m g _ => LatentWeightKernel.Gen.frame m g,
    fun m g _ => LatentWeightKernelIdeal.Gen.frame m g,
    fun m g _ => LatentWeightClaims.frame_reference m g trivial,
    fun m g _ => NopeWeightKernel.Gen.frame m g,
    fun m g _ => NopeWeightKernelIdeal.Gen.frame m g,
    fun m g _ => NopeWeightClaims.frame_reference m g trivial,
    fun m g _ => RopeWeightKernel.Gen.frame m g,
    fun m g _ => RopeWeightKernelIdeal.Gen.frame m g,
    fun m g _ => RopeWeightClaims.frame_reference m g trivial,
    fun m g _ => KvWeightKernel.Gen.frame m g,
    fun m g _ => KvWeightKernelIdeal.Gen.frame m g,
    fun m g _ => KvWeightClaims.frame_reference m g trivial,
    fun m g _ => OutNormKernel.Gen.frame m g,
    fun m g _ => OutNormKernelIdeal.Gen.frame m g,
    fun m g _ => OutNormClaims.frame_reference m g trivial,
    fun m g _ => OutBackKernel.Gen.frame m g,
    fun m g _ => OutBackKernelIdeal.Gen.frame m g,
    fun m g _ => OutBackKernelIdeal.Gen.frame m g,
    fun m g _ => OutBackClaims.frame_reference m g trivial,
    fun m g _ => OutBackClaims.frame_reference m g trivial,
    IdealRules.named_const.statement _ _ _ _ _ rfl,
    value,
    trivial,
    UpClaims.value,
    trivial,
    DownClaims.value,
    trivial,
    WeightClaims.value,
    trivial,
    NormClaims.value,
    trivial,
    GateWeightClaims.value,
    trivial,
    UpWeightClaims.value,
    trivial,
    InWeightClaims.value,
    trivial,
    OutWeightClaims.value,
    trivial,
    InClaims.value,
    trivial,
    LossClaims.value,
    trivial,
    LatentClaims.value,
    trivial,
    LatentWeightClaims.value,
    trivial,
    NopeWeightClaims.value,
    trivial,
    RopeWeightClaims.value,
    trivial,
    KvWeightClaims.value,
    trivial,
    OutNormClaims.value,
    trivial,
    OutBackClaims.value⟩

end Cert.Proof

end
